-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decays [hPre_decays : Cert.Pre_decays.Facts] (m : (ℓ : Loc Cert.KernelIdeal.nD Cert.KernelIdeal.τ Cert.KernelIdeal.sig) → Buf (Elt Ideal) ℓ) : Prop :=
  ∀ c : Dev Cert.KernelIdeal.nD,
    (Cert.Pre_decays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_decays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_decays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_decays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_decays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_decays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_decays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_decays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_decays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decays [hPre_decays : Cert.Pre_decays.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_decays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_decays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_decays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_decays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_decays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_decays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_decays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_decays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_PoolU (m : (ℓ : Loc Cert.PoolU.nD Cert.PoolU.τ Cert.PoolU.sig) → Buf (Elt Bits) ℓ) : Prop :=
  True

def Pre_PoolUIdeal (m : (ℓ : Loc Cert.PoolUIdeal.nD Cert.PoolUIdeal.τ Cert.PoolUIdeal.sig) → Buf (Elt Ideal) ℓ) : Prop :=
  True

def Pre_PoolUReferenceIdeal (m : (ℓ : Loc Cert.PoolUReferenceIdeal.nD Cert.PoolUReferenceIdeal.τ Cert.PoolUReferenceIdeal.sig) → Buf (Elt Ideal) ℓ) : Prop :=
  True

def Pre_PoolZ (m : (ℓ : Loc Cert.PoolZ.nD Cert.PoolZ.τ Cert.PoolZ.sig) → Buf (Elt Bits) ℓ) : Prop :=
  True

def Pre_PoolZIdeal (m : (ℓ : Loc Cert.PoolZIdeal.nD Cert.PoolZIdeal.τ Cert.PoolZIdeal.sig) → Buf (Elt Ideal) ℓ) : Prop :=
  True

def Pre_PoolZReferenceIdeal (m : (ℓ : Loc Cert.PoolZReferenceIdeal.nD Cert.PoolZReferenceIdeal.τ Cert.PoolZReferenceIdeal.sig) → Buf (Elt Ideal) ℓ) : Prop :=
  True

def Pre_DnZ (m : (ℓ : Loc Cert.DnZ.nD Cert.DnZ.τ Cert.DnZ.sig) → Buf (Elt Bits) ℓ) : Prop :=
  True

def Pre_DnZIdeal (m : (ℓ : Loc Cert.DnZIdeal.nD Cert.DnZIdeal.τ Cert.DnZIdeal.sig) → Buf (Elt Ideal) ℓ) : Prop :=
  True

def Pre_DnZReferenceIdeal (m : (ℓ : Loc Cert.DnZReferenceIdeal.nD Cert.DnZReferenceIdeal.τ Cert.DnZReferenceIdeal.sig) → Buf (Elt Ideal) ℓ) : Prop :=
  True

def Pre_V (m : (ℓ : Loc Cert.V.nD Cert.V.τ Cert.V.sig) → Buf (Elt Bits) ℓ) : Prop :=
  True

def Pre_VIdeal (m : (ℓ : Loc Cert.VIdeal.nD Cert.VIdeal.τ Cert.VIdeal.sig) → Buf (Elt Ideal) ℓ) : Prop :=
  True

def Pre_VReferenceIdeal (m : (ℓ : Loc Cert.VReferenceIdeal.nD Cert.VReferenceIdeal.τ Cert.VReferenceIdeal.sig) → Buf (Elt Ideal) ℓ) : Prop :=
  True

def Pre_Q (m : (ℓ : Loc Cert.Q.nD Cert.Q.τ Cert.Q.sig) → Buf (Elt Bits) ℓ) : Prop :=
  True

def Pre_QIdeal (m : (ℓ : Loc Cert.QIdeal.nD Cert.QIdeal.τ Cert.QIdeal.sig) → Buf (Elt Ideal) ℓ) : Prop :=
  True

def Pre_QReferenceIdeal (m : (ℓ : Loc Cert.QReferenceIdeal.nD Cert.QReferenceIdeal.τ Cert.QReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_decays [hKernelIdeal : Cert.KernelIdeal.Facts] [hPre_decays : Cert.Pre_decays.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decays m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_decays [hReferenceIdeal : Cert.ReferenceIdeal.Facts] [hPre_decays : Cert.Pre_decays.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decays m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1))
      ∧ r.2.sem = fun _ => 0)

def quiescent_PoolU [hPoolU : Cert.PoolU.Facts] : Prop :=
  ∀ (m : (ℓ : Loc Cert.PoolU.nD Cert.PoolU.τ Cert.PoolU.sig) → Buf (Elt Bits) ℓ) (g : Dev Cert.PoolU.nD → PrngReg), Pre_PoolU m →
    θ_run (Cert.PoolU.defs (F := Bits)) (onTc (τ := Cert.PoolU.τ) (Cert.PoolU.main (F := Bits))) ⟨m, fun _ => 0, g⟩ (fun r => (∀ c : Dev Cert.PoolU.nD,
      r.2.mem ((c.tc : Thread Cert.PoolU.nD Cert.PoolU.τ).loc Cert.PoolU.main_arg0) = m ((c.tc : Thread Cert.PoolU.nD Cert.PoolU.τ).loc Cert.PoolU.main_arg0)
      ∧ r.2.mem ((c.tc : Thread Cert.PoolU.nD Cert.PoolU.τ).loc Cert.PoolU.main_arg1) = m ((c.tc : Thread Cert.PoolU.nD Cert.PoolU.τ).loc Cert.PoolU.main_arg1)
      ∧ r.2.mem ((c.tc : Thread Cert.PoolU.nD Cert.PoolU.τ).loc Cert.PoolU.main_arg2) = m ((c.tc : Thread Cert.PoolU.nD Cert.PoolU.τ).loc Cert.PoolU.main_arg2)
      ∧ r.2.mem ((c.tc : Thread Cert.PoolU.nD Cert.PoolU.τ).loc Cert.PoolU.main_arg3) = m ((c.tc : Thread Cert.PoolU.nD Cert.PoolU.τ).loc Cert.PoolU.main_arg3))
      ∧ r.2.sem = fun _ => 0)

def quiescent_PoolUIdeal [hPoolUIdeal : Cert.PoolUIdeal.Facts] : Prop :=
  ∀ (m : (ℓ : Loc Cert.PoolUIdeal.nD Cert.PoolUIdeal.τ Cert.PoolUIdeal.sig) → Buf (Elt Ideal) ℓ) (g : Dev Cert.PoolUIdeal.nD → PrngReg), Pre_PoolUIdeal m →
    θ_run (Cert.PoolUIdeal.defs (F := Ideal)) (onTc (τ := Cert.PoolUIdeal.τ) (Cert.PoolUIdeal.main (F := Ideal))) ⟨m, fun _ => 0, g⟩ (fun r => (∀ c : Dev Cert.PoolUIdeal.nD,
      r.2.mem ((c.tc : Thread Cert.PoolUIdeal.nD Cert.PoolUIdeal.τ).loc Cert.PoolUIdeal.main_arg0) = m ((c.tc : Thread Cert.PoolUIdeal.nD Cert.PoolUIdeal.τ).loc Cert.PoolUIdeal.main_arg0)
      ∧ r.2.mem ((c.tc : Thread Cert.PoolUIdeal.nD Cert.PoolUIdeal.τ).loc Cert.PoolUIdeal.main_arg1) = m ((c.tc : Thread Cert.PoolUIdeal.nD Cert.PoolUIdeal.τ).loc Cert.PoolUIdeal.main_arg1)
      ∧ r.2.mem ((c.tc : Thread Cert.PoolUIdeal.nD Cert.PoolUIdeal.τ).loc Cert.PoolUIdeal.main_arg2) = m ((c.tc : Thread Cert.PoolUIdeal.nD Cert.PoolUIdeal.τ).loc Cert.PoolUIdeal.main_arg2)
      ∧ r.2.mem ((c.tc : Thread Cert.PoolUIdeal.nD Cert.PoolUIdeal.τ).loc Cert.PoolUIdeal.main_arg3) = m ((c.tc : Thread Cert.PoolUIdeal.nD Cert.PoolUIdeal.τ).loc Cert.PoolUIdeal.main_arg3))
      ∧ r.2.sem = fun _ => 0)

def quiescent_PoolUReferenceIdeal [hPoolUReferenceIdeal : Cert.PoolUReferenceIdeal.Facts] : Prop :=
  ∀ (m : (ℓ : Loc Cert.PoolUReferenceIdeal.nD Cert.PoolUReferenceIdeal.τ Cert.PoolUReferenceIdeal.sig) → Buf (Elt Ideal) ℓ) (g : Dev Cert.PoolUReferenceIdeal.nD → PrngReg), Pre_PoolUReferenceIdeal m →
    θ_run (Cert.PoolUReferenceIdeal.defs (F := Ideal)) (onTc (τ := Cert.PoolUReferenceIdeal.τ) (Cert.PoolUReferenceIdeal.main (F := Ideal))) ⟨m, fun _ => 0, g⟩ (fun r => (∀ c : Dev Cert.PoolUReferenceIdeal.nD,
      r.2.mem ((c.tc : Thread Cert.PoolUReferenceIdeal.nD Cert.PoolUReferenceIdeal.τ).loc Cert.PoolUReferenceIdeal.main_arg0) = m ((c.tc : Thread Cert.PoolUReferenceIdeal.nD Cert.PoolUReferenceIdeal.τ).loc Cert.PoolUReferenceIdeal.main_arg0)
      ∧ r.2.mem ((c.tc : Thread Cert.PoolUReferenceIdeal.nD Cert.PoolUReferenceIdeal.τ).loc Cert.PoolUReferenceIdeal.main_arg1) = m ((c.tc : Thread Cert.PoolUReferenceIdeal.nD Cert.PoolUReferenceIdeal.τ).loc Cert.PoolUReferenceIdeal.main_arg1)
      ∧ r.2.mem ((c.tc : Thread Cert.PoolUReferenceIdeal.nD Cert.PoolUReferenceIdeal.τ).loc Cert.PoolUReferenceIdeal.main_arg2) = m ((c.tc : Thread Cert.PoolUReferenceIdeal.nD Cert.PoolUReferenceIdeal.τ).loc Cert.PoolUReferenceIdeal.main_arg2)
      ∧ r.2.mem ((c.tc : Thread Cert.PoolUReferenceIdeal.nD Cert.PoolUReferenceIdeal.τ).loc Cert.PoolUReferenceIdeal.main_arg3) = m ((c.tc : Thread Cert.PoolUReferenceIdeal.nD Cert.PoolUReferenceIdeal.τ).loc Cert.PoolUReferenceIdeal.main_arg3))
      ∧ r.2.sem = fun _ => 0)

def quiescent_PoolZ [hPoolZ : Cert.PoolZ.Facts] : Prop :=
  ∀ (m : (ℓ : Loc Cert.PoolZ.nD Cert.PoolZ.τ Cert.PoolZ.sig) → Buf (Elt Bits) ℓ) (g : Dev Cert.PoolZ.nD → PrngReg), Pre_PoolZ m →
    θ_run (Cert.PoolZ.defs (F := Bits)) (onTc (τ := Cert.PoolZ.τ) (Cert.PoolZ.main (F := Bits))) ⟨m, fun _ => 0, g⟩ (fun r => (∀ c : Dev Cert.PoolZ.nD,
      r.2.mem ((c.tc : Thread Cert.PoolZ.nD Cert.PoolZ.τ).loc Cert.PoolZ.main_arg0) = m ((c.tc : Thread Cert.PoolZ.nD Cert.PoolZ.τ).loc Cert.PoolZ.main_arg0)
      ∧ r.2.mem ((c.tc : Thread Cert.PoolZ.nD Cert.PoolZ.τ).loc Cert.PoolZ.main_arg1) = m ((c.tc : Thread Cert.PoolZ.nD Cert.PoolZ.τ).loc Cert.PoolZ.main_arg1)
      ∧ r.2.mem ((c.tc : Thread Cert.PoolZ.nD Cert.PoolZ.τ).loc Cert.PoolZ.main_arg2) = m ((c.tc : Thread Cert.PoolZ.nD Cert.PoolZ.τ).loc Cert.PoolZ.main_arg2)
      ∧ r.2.mem ((c.tc : Thread Cert.PoolZ.nD Cert.PoolZ.τ).loc Cert.PoolZ.main_arg3) = m ((c.tc : Thread Cert.PoolZ.nD Cert.PoolZ.τ).loc Cert.PoolZ.main_arg3))
      ∧ r.2.sem = fun _ => 0)

def quiescent_PoolZIdeal [hPoolZIdeal : Cert.PoolZIdeal.Facts] : Prop :=
  ∀ (m : (ℓ : Loc Cert.PoolZIdeal.nD Cert.PoolZIdeal.τ Cert.PoolZIdeal.sig) → Buf (Elt Ideal) ℓ) (g : Dev Cert.PoolZIdeal.nD → PrngReg), Pre_PoolZIdeal m →
    θ_run (Cert.PoolZIdeal.defs (F := Ideal)) (onTc (τ := Cert.PoolZIdeal.τ) (Cert.PoolZIdeal.main (F := Ideal))) ⟨m, fun _ => 0, g⟩ (fun r => (∀ c : Dev Cert.PoolZIdeal.nD,
      r.2.mem ((c.tc : Thread Cert.PoolZIdeal.nD Cert.PoolZIdeal.τ).loc Cert.PoolZIdeal.main_arg0) = m ((c.tc : Thread Cert.PoolZIdeal.nD Cert.PoolZIdeal.τ).loc Cert.PoolZIdeal.main_arg0)
      ∧ r.2.mem ((c.tc : Thread Cert.PoolZIdeal.nD Cert.PoolZIdeal.τ).loc Cert.PoolZIdeal.main_arg1) = m ((c.tc : Thread Cert.PoolZIdeal.nD Cert.PoolZIdeal.τ).loc Cert.PoolZIdeal.main_arg1)
      ∧ r.2.mem ((c.tc : Thread Cert.PoolZIdeal.nD Cert.PoolZIdeal.τ).loc Cert.PoolZIdeal.main_arg2) = m ((c.tc : Thread Cert.PoolZIdeal.nD Cert.PoolZIdeal.τ).loc Cert.PoolZIdeal.main_arg2)
      ∧ r.2.mem ((c.tc : Thread Cert.PoolZIdeal.nD Cert.PoolZIdeal.τ).loc Cert.PoolZIdeal.main_arg3) = m ((c.tc : Thread Cert.PoolZIdeal.nD Cert.PoolZIdeal.τ).loc Cert.PoolZIdeal.main_arg3))
      ∧ r.2.sem = fun _ => 0)

def quiescent_PoolZReferenceIdeal [hPoolZReferenceIdeal : Cert.PoolZReferenceIdeal.Facts] : Prop :=
  ∀ (m : (ℓ : Loc Cert.PoolZReferenceIdeal.nD Cert.PoolZReferenceIdeal.τ Cert.PoolZReferenceIdeal.sig) → Buf (Elt Ideal) ℓ) (g : Dev Cert.PoolZReferenceIdeal.nD → PrngReg), Pre_PoolZReferenceIdeal m →
    θ_run (Cert.PoolZReferenceIdeal.defs (F := Ideal)) (onTc (τ := Cert.PoolZReferenceIdeal.τ) (Cert.PoolZReferenceIdeal.main (F := Ideal))) ⟨m, fun _ => 0, g⟩ (fun r => (∀ c : Dev Cert.PoolZReferenceIdeal.nD,
      r.2.mem ((c.tc : Thread Cert.PoolZReferenceIdeal.nD Cert.PoolZReferenceIdeal.τ).loc Cert.PoolZReferenceIdeal.main_arg0) = m ((c.tc : Thread Cert.PoolZReferenceIdeal.nD Cert.PoolZReferenceIdeal.τ).loc Cert.PoolZReferenceIdeal.main_arg0)
      ∧ r.2.mem ((c.tc : Thread Cert.PoolZReferenceIdeal.nD Cert.PoolZReferenceIdeal.τ).loc Cert.PoolZReferenceIdeal.main_arg1) = m ((c.tc : Thread Cert.PoolZReferenceIdeal.nD Cert.PoolZReferenceIdeal.τ).loc Cert.PoolZReferenceIdeal.main_arg1)
      ∧ r.2.mem ((c.tc : Thread Cert.PoolZReferenceIdeal.nD Cert.PoolZReferenceIdeal.τ).loc Cert.PoolZReferenceIdeal.main_arg2) = m ((c.tc : Thread Cert.PoolZReferenceIdeal.nD Cert.PoolZReferenceIdeal.τ).loc Cert.PoolZReferenceIdeal.main_arg2)
      ∧ r.2.mem ((c.tc : Thread Cert.PoolZReferenceIdeal.nD Cert.PoolZReferenceIdeal.τ).loc Cert.PoolZReferenceIdeal.main_arg3) = m ((c.tc : Thread Cert.PoolZReferenceIdeal.nD Cert.PoolZReferenceIdeal.τ).loc Cert.PoolZReferenceIdeal.main_arg3))
      ∧ r.2.sem = fun _ => 0)

def quiescent_DnZ [hDnZ : Cert.DnZ.Facts] : Prop :=
  ∀ (m : (ℓ : Loc Cert.DnZ.nD Cert.DnZ.τ Cert.DnZ.sig) → Buf (Elt Bits) ℓ) (g : Dev Cert.DnZ.nD → PrngReg), Pre_DnZ m →
    θ_run (Cert.DnZ.defs (F := Bits)) (onTc (τ := Cert.DnZ.τ) (Cert.DnZ.main (F := Bits))) ⟨m, fun _ => 0, g⟩ (fun r => (∀ c : Dev Cert.DnZ.nD,
      r.2.mem ((c.tc : Thread Cert.DnZ.nD Cert.DnZ.τ).loc Cert.DnZ.main_arg0) = m ((c.tc : Thread Cert.DnZ.nD Cert.DnZ.τ).loc Cert.DnZ.main_arg0)
      ∧ r.2.mem ((c.tc : Thread Cert.DnZ.nD Cert.DnZ.τ).loc Cert.DnZ.main_arg1) = m ((c.tc : Thread Cert.DnZ.nD Cert.DnZ.τ).loc Cert.DnZ.main_arg1)
      ∧ r.2.mem ((c.tc : Thread Cert.DnZ.nD Cert.DnZ.τ).loc Cert.DnZ.main_arg2) = m ((c.tc : Thread Cert.DnZ.nD Cert.DnZ.τ).loc Cert.DnZ.main_arg2))
      ∧ r.2.sem = fun _ => 0)

def quiescent_DnZIdeal [hDnZIdeal : Cert.DnZIdeal.Facts] : Prop :=
  ∀ (m : (ℓ : Loc Cert.DnZIdeal.nD Cert.DnZIdeal.τ Cert.DnZIdeal.sig) → Buf (Elt Ideal) ℓ) (g : Dev Cert.DnZIdeal.nD → PrngReg), Pre_DnZIdeal m →
    θ_run (Cert.DnZIdeal.defs (F := Ideal)) (onTc (τ := Cert.DnZIdeal.τ) (Cert.DnZIdeal.main (F := Ideal))) ⟨m, fun _ => 0, g⟩ (fun r => (∀ c : Dev Cert.DnZIdeal.nD,
      r.2.mem ((c.tc : Thread Cert.DnZIdeal.nD Cert.DnZIdeal.τ).loc Cert.DnZIdeal.main_arg0) = m ((c.tc : Thread Cert.DnZIdeal.nD Cert.DnZIdeal.τ).loc Cert.DnZIdeal.main_arg0)
      ∧ r.2.mem ((c.tc : Thread Cert.DnZIdeal.nD Cert.DnZIdeal.τ).loc Cert.DnZIdeal.main_arg1) = m ((c.tc : Thread Cert.DnZIdeal.nD Cert.DnZIdeal.τ).loc Cert.DnZIdeal.main_arg1)
      ∧ r.2.mem ((c.tc : Thread Cert.DnZIdeal.nD Cert.DnZIdeal.τ).loc Cert.DnZIdeal.main_arg2) = m ((c.tc : Thread Cert.DnZIdeal.nD Cert.DnZIdeal.τ).loc Cert.DnZIdeal.main_arg2))
      ∧ r.2.sem = fun _ => 0)

def quiescent_DnZReferenceIdeal [hDnZReferenceIdeal : Cert.DnZReferenceIdeal.Facts] : Prop :=
  ∀ (m : (ℓ : Loc Cert.DnZReferenceIdeal.nD Cert.DnZReferenceIdeal.τ Cert.DnZReferenceIdeal.sig) → Buf (Elt Ideal) ℓ) (g : Dev Cert.DnZReferenceIdeal.nD → PrngReg), Pre_DnZReferenceIdeal m →
    θ_run (Cert.DnZReferenceIdeal.defs (F := Ideal)) (onTc (τ := Cert.DnZReferenceIdeal.τ) (Cert.DnZReferenceIdeal.main (F := Ideal))) ⟨m, fun _ => 0, g⟩ (fun r => (∀ c : Dev Cert.DnZReferenceIdeal.nD,
      r.2.mem ((c.tc : Thread Cert.DnZReferenceIdeal.nD Cert.DnZReferenceIdeal.τ).loc Cert.DnZReferenceIdeal.main_arg0) = m ((c.tc : Thread Cert.DnZReferenceIdeal.nD Cert.DnZReferenceIdeal.τ).loc Cert.DnZReferenceIdeal.main_arg0)
      ∧ r.2.mem ((c.tc : Thread Cert.DnZReferenceIdeal.nD Cert.DnZReferenceIdeal.τ).loc Cert.DnZReferenceIdeal.main_arg1) = m ((c.tc : Thread Cert.DnZReferenceIdeal.nD Cert.DnZReferenceIdeal.τ).loc Cert.DnZReferenceIdeal.main_arg1)
      ∧ r.2.mem ((c.tc : Thread Cert.DnZReferenceIdeal.nD Cert.DnZReferenceIdeal.τ).loc Cert.DnZReferenceIdeal.main_arg2) = m ((c.tc : Thread Cert.DnZReferenceIdeal.nD Cert.DnZReferenceIdeal.τ).loc Cert.DnZReferenceIdeal.main_arg2))
      ∧ r.2.sem = fun _ => 0)

def quiescent_V [hV : Cert.V.Facts] : Prop :=
  ∀ (m : (ℓ : Loc Cert.V.nD Cert.V.τ Cert.V.sig) → Buf (Elt Bits) ℓ) (g : Dev Cert.V.nD → PrngReg), Pre_V m →
    θ_run (Cert.V.defs (F := Bits)) (onTc (τ := Cert.V.τ) (Cert.V.main (F := Bits))) ⟨m, fun _ => 0, g⟩ (fun r => (∀ c : Dev Cert.V.nD,
      r.2.mem ((c.tc : Thread Cert.V.nD Cert.V.τ).loc Cert.V.main_arg0) = m ((c.tc : Thread Cert.V.nD Cert.V.τ).loc Cert.V.main_arg0)
      ∧ r.2.mem ((c.tc : Thread Cert.V.nD Cert.V.τ).loc Cert.V.main_arg1) = m ((c.tc : Thread Cert.V.nD Cert.V.τ).loc Cert.V.main_arg1)
      ∧ r.2.mem ((c.tc : Thread Cert.V.nD Cert.V.τ).loc Cert.V.main_arg2) = m ((c.tc : Thread Cert.V.nD Cert.V.τ).loc Cert.V.main_arg2)
      ∧ r.2.mem ((c.tc : Thread Cert.V.nD Cert.V.τ).loc Cert.V.main_arg3) = m ((c.tc : Thread Cert.V.nD Cert.V.τ).loc Cert.V.main_arg3))
      ∧ r.2.sem = fun _ => 0)

def quiescent_VIdeal [hVIdeal : Cert.VIdeal.Facts] : Prop :=
  ∀ (m : (ℓ : Loc Cert.VIdeal.nD Cert.VIdeal.τ Cert.VIdeal.sig) → Buf (Elt Ideal) ℓ) (g : Dev Cert.VIdeal.nD → PrngReg), Pre_VIdeal m →
    θ_run (Cert.VIdeal.defs (F := Ideal)) (onTc (τ := Cert.VIdeal.τ) (Cert.VIdeal.main (F := Ideal))) ⟨m, fun _ => 0, g⟩ (fun r => (∀ c : Dev Cert.VIdeal.nD,
      r.2.mem ((c.tc : Thread Cert.VIdeal.nD Cert.VIdeal.τ).loc Cert.VIdeal.main_arg0) = m ((c.tc : Thread Cert.VIdeal.nD Cert.VIdeal.τ).loc Cert.VIdeal.main_arg0)
      ∧ r.2.mem ((c.tc : Thread Cert.VIdeal.nD Cert.VIdeal.τ).loc Cert.VIdeal.main_arg1) = m ((c.tc : Thread Cert.VIdeal.nD Cert.VIdeal.τ).loc Cert.VIdeal.main_arg1)
      ∧ r.2.mem ((c.tc : Thread Cert.VIdeal.nD Cert.VIdeal.τ).loc Cert.VIdeal.main_arg2) = m ((c.tc : Thread Cert.VIdeal.nD Cert.VIdeal.τ).loc Cert.VIdeal.main_arg2)
      ∧ r.2.mem ((c.tc : Thread Cert.VIdeal.nD Cert.VIdeal.τ).loc Cert.VIdeal.main_arg3) = m ((c.tc : Thread Cert.VIdeal.nD Cert.VIdeal.τ).loc Cert.VIdeal.main_arg3))
      ∧ r.2.sem = fun _ => 0)

def quiescent_VReferenceIdeal [hVReferenceIdeal : Cert.VReferenceIdeal.Facts] : Prop :=
  ∀ (m : (ℓ : Loc Cert.VReferenceIdeal.nD Cert.VReferenceIdeal.τ Cert.VReferenceIdeal.sig) → Buf (Elt Ideal) ℓ) (g : Dev Cert.VReferenceIdeal.nD → PrngReg), Pre_VReferenceIdeal m →
    θ_run (Cert.VReferenceIdeal.defs (F := Ideal)) (onTc (τ := Cert.VReferenceIdeal.τ) (Cert.VReferenceIdeal.main (F := Ideal))) ⟨m, fun _ => 0, g⟩ (fun r => (∀ c : Dev Cert.VReferenceIdeal.nD,
      r.2.mem ((c.tc : Thread Cert.VReferenceIdeal.nD Cert.VReferenceIdeal.τ).loc Cert.VReferenceIdeal.main_arg0) = m ((c.tc : Thread Cert.VReferenceIdeal.nD Cert.VReferenceIdeal.τ).loc Cert.VReferenceIdeal.main_arg0)
      ∧ r.2.mem ((c.tc : Thread Cert.VReferenceIdeal.nD Cert.VReferenceIdeal.τ).loc Cert.VReferenceIdeal.main_arg1) = m ((c.tc : Thread Cert.VReferenceIdeal.nD Cert.VReferenceIdeal.τ).loc Cert.VReferenceIdeal.main_arg1)
      ∧ r.2.mem ((c.tc : Thread Cert.VReferenceIdeal.nD Cert.VReferenceIdeal.τ).loc Cert.VReferenceIdeal.main_arg2) = m ((c.tc : Thread Cert.VReferenceIdeal.nD Cert.VReferenceIdeal.τ).loc Cert.VReferenceIdeal.main_arg2)
      ∧ r.2.mem ((c.tc : Thread Cert.VReferenceIdeal.nD Cert.VReferenceIdeal.τ).loc Cert.VReferenceIdeal.main_arg3) = m ((c.tc : Thread Cert.VReferenceIdeal.nD Cert.VReferenceIdeal.τ).loc Cert.VReferenceIdeal.main_arg3))
      ∧ r.2.sem = fun _ => 0)

def quiescent_Q [hQ : Cert.Q.Facts] : Prop :=
  ∀ (m : (ℓ : Loc Cert.Q.nD Cert.Q.τ Cert.Q.sig) → Buf (Elt Bits) ℓ) (g : Dev Cert.Q.nD → PrngReg), Pre_Q m →
    θ_run (Cert.Q.defs (F := Bits)) (onTc (τ := Cert.Q.τ) (Cert.Q.main (F := Bits))) ⟨m, fun _ => 0, g⟩ (fun r => (∀ c : Dev Cert.Q.nD,
      r.2.mem ((c.tc : Thread Cert.Q.nD Cert.Q.τ).loc Cert.Q.main_arg0) = m ((c.tc : Thread Cert.Q.nD Cert.Q.τ).loc Cert.Q.main_arg0)
      ∧ r.2.mem ((c.tc : Thread Cert.Q.nD Cert.Q.τ).loc Cert.Q.main_arg1) = m ((c.tc : Thread Cert.Q.nD Cert.Q.τ).loc Cert.Q.main_arg1)
      ∧ r.2.mem ((c.tc : Thread Cert.Q.nD Cert.Q.τ).loc Cert.Q.main_arg2) = m ((c.tc : Thread Cert.Q.nD Cert.Q.τ).loc Cert.Q.main_arg2)
      ∧ r.2.mem ((c.tc : Thread Cert.Q.nD Cert.Q.τ).loc Cert.Q.main_arg3) = m ((c.tc : Thread Cert.Q.nD Cert.Q.τ).loc Cert.Q.main_arg3)
      ∧ r.2.mem ((c.tc : Thread Cert.Q.nD Cert.Q.τ).loc Cert.Q.main_arg4) = m ((c.tc : Thread Cert.Q.nD Cert.Q.τ).loc Cert.Q.main_arg4))
      ∧ r.2.sem = fun _ => 0)

def quiescent_QIdeal [hQIdeal : Cert.QIdeal.Facts] : Prop :=
  ∀ (m : (ℓ : Loc Cert.QIdeal.nD Cert.QIdeal.τ Cert.QIdeal.sig) → Buf (Elt Ideal) ℓ) (g : Dev Cert.QIdeal.nD → PrngReg), Pre_QIdeal m →
    θ_run (Cert.QIdeal.defs (F := Ideal)) (onTc (τ := Cert.QIdeal.τ) (Cert.QIdeal.main (F := Ideal))) ⟨m, fun _ => 0, g⟩ (fun r => (∀ c : Dev Cert.QIdeal.nD,
      r.2.mem ((c.tc : Thread Cert.QIdeal.nD Cert.QIdeal.τ).loc Cert.QIdeal.main_arg0) = m ((c.tc : Thread Cert.QIdeal.nD Cert.QIdeal.τ).loc Cert.QIdeal.main_arg0)
      ∧ r.2.mem ((c.tc : Thread Cert.QIdeal.nD Cert.QIdeal.τ).loc Cert.QIdeal.main_arg1) = m ((c.tc : Thread Cert.QIdeal.nD Cert.QIdeal.τ).loc Cert.QIdeal.main_arg1)
      ∧ r.2.mem ((c.tc : Thread Cert.QIdeal.nD Cert.QIdeal.τ).loc Cert.QIdeal.main_arg2) = m ((c.tc : Thread Cert.QIdeal.nD Cert.QIdeal.τ).loc Cert.QIdeal.main_arg2)
      ∧ r.2.mem ((c.tc : Thread Cert.QIdeal.nD Cert.QIdeal.τ).loc Cert.QIdeal.main_arg3) = m ((c.tc : Thread Cert.QIdeal.nD Cert.QIdeal.τ).loc Cert.QIdeal.main_arg3)
      ∧ r.2.mem ((c.tc : Thread Cert.QIdeal.nD Cert.QIdeal.τ).loc Cert.QIdeal.main_arg4) = m ((c.tc : Thread Cert.QIdeal.nD Cert.QIdeal.τ).loc Cert.QIdeal.main_arg4))
      ∧ r.2.sem = fun _ => 0)

def quiescent_QReferenceIdeal [hQReferenceIdeal : Cert.QReferenceIdeal.Facts] : Prop :=
  ∀ (m : (ℓ : Loc Cert.QReferenceIdeal.nD Cert.QReferenceIdeal.τ Cert.QReferenceIdeal.sig) → Buf (Elt Ideal) ℓ) (g : Dev Cert.QReferenceIdeal.nD → PrngReg), Pre_QReferenceIdeal m →
    θ_run (Cert.QReferenceIdeal.defs (F := Ideal)) (onTc (τ := Cert.QReferenceIdeal.τ) (Cert.QReferenceIdeal.main (F := Ideal))) ⟨m, fun _ => 0, g⟩ (fun r => (∀ c : Dev Cert.QReferenceIdeal.nD,
      r.2.mem ((c.tc : Thread Cert.QReferenceIdeal.nD Cert.QReferenceIdeal.τ).loc Cert.QReferenceIdeal.main_arg0) = m ((c.tc : Thread Cert.QReferenceIdeal.nD Cert.QReferenceIdeal.τ).loc Cert.QReferenceIdeal.main_arg0)
      ∧ r.2.mem ((c.tc : Thread Cert.QReferenceIdeal.nD Cert.QReferenceIdeal.τ).loc Cert.QReferenceIdeal.main_arg1) = m ((c.tc : Thread Cert.QReferenceIdeal.nD Cert.QReferenceIdeal.τ).loc Cert.QReferenceIdeal.main_arg1)
      ∧ r.2.mem ((c.tc : Thread Cert.QReferenceIdeal.nD Cert.QReferenceIdeal.τ).loc Cert.QReferenceIdeal.main_arg2) = m ((c.tc : Thread Cert.QReferenceIdeal.nD Cert.QReferenceIdeal.τ).loc Cert.QReferenceIdeal.main_arg2)
      ∧ r.2.mem ((c.tc : Thread Cert.QReferenceIdeal.nD Cert.QReferenceIdeal.τ).loc Cert.QReferenceIdeal.main_arg3) = m ((c.tc : Thread Cert.QReferenceIdeal.nD Cert.QReferenceIdeal.τ).loc Cert.QReferenceIdeal.main_arg3)
      ∧ r.2.mem ((c.tc : Thread Cert.QReferenceIdeal.nD Cert.QReferenceIdeal.τ).loc Cert.QReferenceIdeal.main_arg4) = m ((c.tc : Thread Cert.QReferenceIdeal.nD Cert.QReferenceIdeal.τ).loc Cert.QReferenceIdeal.main_arg4))
      ∧ r.2.sem = fun _ => 0)

def preserves_Kernel_KernelIdeal : Prop :=
  True

def algebraic_KernelIdeal_ReferenceIdeal_pre_decays [hKernelIdeal : Cert.KernelIdeal.Facts] [hReferenceIdeal : Cert.ReferenceIdeal.Facts] [hPre_decays : Cert.Pre_decays.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decays m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v8) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v14) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v0)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v7) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1))

def preserves_PoolU_PoolUIdeal : Prop :=
  True

def algebraic_PoolUIdeal_PoolUReferenceIdeal [hPoolUIdeal : Cert.PoolUIdeal.Facts] [hPoolUReferenceIdeal : Cert.PoolUReferenceIdeal.Facts] : Prop :=
  ∀ (m : (ℓ : Loc Cert.PoolUIdeal.nD Cert.PoolUIdeal.τ Cert.PoolUIdeal.sig) → Buf (Elt Ideal) ℓ) (g : Dev Cert.PoolUIdeal.nD → PrngReg)
    (m' : (ℓ : Loc Cert.PoolUReferenceIdeal.nD Cert.PoolUReferenceIdeal.τ Cert.PoolUReferenceIdeal.sig) → Buf (Elt Ideal) ℓ) (g' : Dev Cert.PoolUReferenceIdeal.nD → PrngReg), Pre_PoolUIdeal m →
    (∀ c : Dev Cert.PoolUIdeal.nD,
      m' ((c.tc : Thread Cert.PoolUReferenceIdeal.nD Cert.PoolUReferenceIdeal.τ).loc Cert.PoolUReferenceIdeal.main_arg0) = m ((c.tc : Thread Cert.PoolUIdeal.nD Cert.PoolUIdeal.τ).loc Cert.PoolUIdeal.main_arg0)
      ∧ m' ((c.tc : Thread Cert.PoolUReferenceIdeal.nD Cert.PoolUReferenceIdeal.τ).loc Cert.PoolUReferenceIdeal.main_arg1) = m ((c.tc : Thread Cert.PoolUIdeal.nD Cert.PoolUIdeal.τ).loc Cert.PoolUIdeal.main_arg1)
      ∧ m' ((c.tc : Thread Cert.PoolUReferenceIdeal.nD Cert.PoolUReferenceIdeal.τ).loc Cert.PoolUReferenceIdeal.main_arg2) = m ((c.tc : Thread Cert.PoolUIdeal.nD Cert.PoolUIdeal.τ).loc Cert.PoolUIdeal.main_arg2)
      ∧ m' ((c.tc : Thread Cert.PoolUReferenceIdeal.nD Cert.PoolUReferenceIdeal.τ).loc Cert.PoolUReferenceIdeal.main_arg3) = m ((c.tc : Thread Cert.PoolUIdeal.nD Cert.PoolUIdeal.τ).loc Cert.PoolUIdeal.main_arg3)) →
    ∃ (v0 : (c : Dev Cert.PoolUIdeal.nD) → Buf (Elt Ideal) ((c.tc : Thread Cert.PoolUIdeal.nD Cert.PoolUIdeal.τ).loc Cert.PoolUIdeal.main_v0_0)) (v1 : (c : Dev Cert.PoolUIdeal.nD) → Buf (Elt Ideal) ((c.tc : Thread Cert.PoolUIdeal.nD Cert.PoolUIdeal.τ).loc Cert.PoolUIdeal.main_v0_1)) (v2 : (c : Dev Cert.PoolUIdeal.nD) → Buf (Elt Ideal) ((c.tc : Thread Cert.PoolUIdeal.nD Cert.PoolUIdeal.τ).loc Cert.PoolUIdeal.main_v0_2)),
      θ_run (Cert.PoolUIdeal.defs (F := Ideal)) (onTc (τ := Cert.PoolUIdeal.τ) (Cert.PoolUIdeal.main (F := Ideal))) ⟨m, fun _ => 0, g⟩ (fun r => ∀ c : Dev Cert.PoolUIdeal.nD,
          r.2.mem ((c.tc : Thread Cert.PoolUIdeal.nD Cert.PoolUIdeal.τ).loc Cert.PoolUIdeal.main_v0_0) = v0 c
          ∧ r.2.mem ((c.tc : Thread Cert.PoolUIdeal.nD Cert.PoolUIdeal.τ).loc Cert.PoolUIdeal.main_v0_1) = v1 c
          ∧ r.2.mem ((c.tc : Thread Cert.PoolUIdeal.nD Cert.PoolUIdeal.τ).loc Cert.PoolUIdeal.main_v0_2) = v2 c
          ∧ r.2.mem ((c.tc : Thread Cert.PoolUIdeal.nD Cert.PoolUIdeal.τ).loc Cert.PoolUIdeal.main_arg0) = m ((c.tc : Thread Cert.PoolUIdeal.nD Cert.PoolUIdeal.τ).loc Cert.PoolUIdeal.main_arg0)
          ∧ r.2.mem ((c.tc : Thread Cert.PoolUIdeal.nD Cert.PoolUIdeal.τ).loc Cert.PoolUIdeal.main_arg1) = m ((c.tc : Thread Cert.PoolUIdeal.nD Cert.PoolUIdeal.τ).loc Cert.PoolUIdeal.main_arg1)
          ∧ r.2.mem ((c.tc : Thread Cert.PoolUIdeal.nD Cert.PoolUIdeal.τ).loc Cert.PoolUIdeal.main_arg2) = m ((c.tc : Thread Cert.PoolUIdeal.nD Cert.PoolUIdeal.τ).loc Cert.PoolUIdeal.main_arg2)
          ∧ r.2.mem ((c.tc : Thread Cert.PoolUIdeal.nD Cert.PoolUIdeal.τ).loc Cert.PoolUIdeal.main_arg3) = m ((c.tc : Thread Cert.PoolUIdeal.nD Cert.PoolUIdeal.τ).loc Cert.PoolUIdeal.main_arg3))
      ∧ θ_run (Cert.PoolUReferenceIdeal.defs (F := Ideal)) (onTc (τ := Cert.PoolUReferenceIdeal.τ) (Cert.PoolUReferenceIdeal.main (F := Ideal))) ⟨m', fun _ => 0, g'⟩ (fun r => ∀ c : Dev Cert.PoolUReferenceIdeal.nD,
          r.2.mem ((c.tc : Thread Cert.PoolUReferenceIdeal.nD Cert.PoolUReferenceIdeal.τ).loc Cert.PoolUReferenceIdeal.main_v1) = v0 c
          ∧ r.2.mem ((c.tc : Thread Cert.PoolUReferenceIdeal.nD Cert.PoolUReferenceIdeal.τ).loc Cert.PoolUReferenceIdeal.main_v3) = v1 c
          ∧ r.2.mem ((c.tc : Thread Cert.PoolUReferenceIdeal.nD Cert.PoolUReferenceIdeal.τ).loc Cert.PoolUReferenceIdeal.main_v4) = v2 c
          ∧ r.2.mem ((c.tc : Thread Cert.PoolUReferenceIdeal.nD Cert.PoolUReferenceIdeal.τ).loc Cert.PoolUReferenceIdeal.main_arg0) = m' ((c.tc : Thread Cert.PoolUReferenceIdeal.nD Cert.PoolUReferenceIdeal.τ).loc Cert.PoolUReferenceIdeal.main_arg0)
          ∧ r.2.mem ((c.tc : Thread Cert.PoolUReferenceIdeal.nD Cert.PoolUReferenceIdeal.τ).loc Cert.PoolUReferenceIdeal.main_arg1) = m' ((c.tc : Thread Cert.PoolUReferenceIdeal.nD Cert.PoolUReferenceIdeal.τ).loc Cert.PoolUReferenceIdeal.main_arg1)
          ∧ r.2.mem ((c.tc : Thread Cert.PoolUReferenceIdeal.nD Cert.PoolUReferenceIdeal.τ).loc Cert.PoolUReferenceIdeal.main_arg2) = m' ((c.tc : Thread Cert.PoolUReferenceIdeal.nD Cert.PoolUReferenceIdeal.τ).loc Cert.PoolUReferenceIdeal.main_arg2)
          ∧ r.2.mem ((c.tc : Thread Cert.PoolUReferenceIdeal.nD Cert.PoolUReferenceIdeal.τ).loc Cert.PoolUReferenceIdeal.main_arg3) = m' ((c.tc : Thread Cert.PoolUReferenceIdeal.nD Cert.PoolUReferenceIdeal.τ).loc Cert.PoolUReferenceIdeal.main_arg3))

def preserves_PoolZ_PoolZIdeal : Prop :=
  True

def algebraic_PoolZIdeal_PoolZReferenceIdeal [hPoolZIdeal : Cert.PoolZIdeal.Facts] [hPoolZReferenceIdeal : Cert.PoolZReferenceIdeal.Facts] : Prop :=
  ∀ (m : (ℓ : Loc Cert.PoolZIdeal.nD Cert.PoolZIdeal.τ Cert.PoolZIdeal.sig) → Buf (Elt Ideal) ℓ) (g : Dev Cert.PoolZIdeal.nD → PrngReg)
    (m' : (ℓ : Loc Cert.PoolZReferenceIdeal.nD Cert.PoolZReferenceIdeal.τ Cert.PoolZReferenceIdeal.sig) → Buf (Elt Ideal) ℓ) (g' : Dev Cert.PoolZReferenceIdeal.nD → PrngReg), Pre_PoolZIdeal m →
    (∀ c : Dev Cert.PoolZIdeal.nD,
      m' ((c.tc : Thread Cert.PoolZReferenceIdeal.nD Cert.PoolZReferenceIdeal.τ).loc Cert.PoolZReferenceIdeal.main_arg0) = m ((c.tc : Thread Cert.PoolZIdeal.nD Cert.PoolZIdeal.τ).loc Cert.PoolZIdeal.main_arg0)
      ∧ m' ((c.tc : Thread Cert.PoolZReferenceIdeal.nD Cert.PoolZReferenceIdeal.τ).loc Cert.PoolZReferenceIdeal.main_arg1) = m ((c.tc : Thread Cert.PoolZIdeal.nD Cert.PoolZIdeal.τ).loc Cert.PoolZIdeal.main_arg1)
      ∧ m' ((c.tc : Thread Cert.PoolZReferenceIdeal.nD Cert.PoolZReferenceIdeal.τ).loc Cert.PoolZReferenceIdeal.main_arg2) = m ((c.tc : Thread Cert.PoolZIdeal.nD Cert.PoolZIdeal.τ).loc Cert.PoolZIdeal.main_arg2)
      ∧ m' ((c.tc : Thread Cert.PoolZReferenceIdeal.nD Cert.PoolZReferenceIdeal.τ).loc Cert.PoolZReferenceIdeal.main_arg3) = m ((c.tc : Thread Cert.PoolZIdeal.nD Cert.PoolZIdeal.τ).loc Cert.PoolZIdeal.main_arg3)) →
    ∃ (v0 : (c : Dev Cert.PoolZIdeal.nD) → Buf (Elt Ideal) ((c.tc : Thread Cert.PoolZIdeal.nD Cert.PoolZIdeal.τ).loc Cert.PoolZIdeal.main_v0_0)) (v1 : (c : Dev Cert.PoolZIdeal.nD) → Buf (Elt Ideal) ((c.tc : Thread Cert.PoolZIdeal.nD Cert.PoolZIdeal.τ).loc Cert.PoolZIdeal.main_v0_1)) (v2 : (c : Dev Cert.PoolZIdeal.nD) → Buf (Elt Ideal) ((c.tc : Thread Cert.PoolZIdeal.nD Cert.PoolZIdeal.τ).loc Cert.PoolZIdeal.main_v0_2)),
      θ_run (Cert.PoolZIdeal.defs (F := Ideal)) (onTc (τ := Cert.PoolZIdeal.τ) (Cert.PoolZIdeal.main (F := Ideal))) ⟨m, fun _ => 0, g⟩ (fun r => ∀ c : Dev Cert.PoolZIdeal.nD,
          r.2.mem ((c.tc : Thread Cert.PoolZIdeal.nD Cert.PoolZIdeal.τ).loc Cert.PoolZIdeal.main_v0_0) = v0 c
          ∧ r.2.mem ((c.tc : Thread Cert.PoolZIdeal.nD Cert.PoolZIdeal.τ).loc Cert.PoolZIdeal.main_v0_1) = v1 c
          ∧ r.2.mem ((c.tc : Thread Cert.PoolZIdeal.nD Cert.PoolZIdeal.τ).loc Cert.PoolZIdeal.main_v0_2) = v2 c
          ∧ r.2.mem ((c.tc : Thread Cert.PoolZIdeal.nD Cert.PoolZIdeal.τ).loc Cert.PoolZIdeal.main_arg0) = m ((c.tc : Thread Cert.PoolZIdeal.nD Cert.PoolZIdeal.τ).loc Cert.PoolZIdeal.main_arg0)
          ∧ r.2.mem ((c.tc : Thread Cert.PoolZIdeal.nD Cert.PoolZIdeal.τ).loc Cert.PoolZIdeal.main_arg1) = m ((c.tc : Thread Cert.PoolZIdeal.nD Cert.PoolZIdeal.τ).loc Cert.PoolZIdeal.main_arg1)
          ∧ r.2.mem ((c.tc : Thread Cert.PoolZIdeal.nD Cert.PoolZIdeal.τ).loc Cert.PoolZIdeal.main_arg2) = m ((c.tc : Thread Cert.PoolZIdeal.nD Cert.PoolZIdeal.τ).loc Cert.PoolZIdeal.main_arg2)
          ∧ r.2.mem ((c.tc : Thread Cert.PoolZIdeal.nD Cert.PoolZIdeal.τ).loc Cert.PoolZIdeal.main_arg3) = m ((c.tc : Thread Cert.PoolZIdeal.nD Cert.PoolZIdeal.τ).loc Cert.PoolZIdeal.main_arg3))
      ∧ θ_run (Cert.PoolZReferenceIdeal.defs (F := Ideal)) (onTc (τ := Cert.PoolZReferenceIdeal.τ) (Cert.PoolZReferenceIdeal.main (F := Ideal))) ⟨m', fun _ => 0, g'⟩ (fun r => ∀ c : Dev Cert.PoolZReferenceIdeal.nD,
          r.2.mem ((c.tc : Thread Cert.PoolZReferenceIdeal.nD Cert.PoolZReferenceIdeal.τ).loc Cert.PoolZReferenceIdeal.main_v2) = v0 c
          ∧ r.2.mem ((c.tc : Thread Cert.PoolZReferenceIdeal.nD Cert.PoolZReferenceIdeal.τ).loc Cert.PoolZReferenceIdeal.main_v4) = v1 c
          ∧ r.2.mem ((c.tc : Thread Cert.PoolZReferenceIdeal.nD Cert.PoolZReferenceIdeal.τ).loc Cert.PoolZReferenceIdeal.main_v5) = v2 c
          ∧ r.2.mem ((c.tc : Thread Cert.PoolZReferenceIdeal.nD Cert.PoolZReferenceIdeal.τ).loc Cert.PoolZReferenceIdeal.main_arg0) = m' ((c.tc : Thread Cert.PoolZReferenceIdeal.nD Cert.PoolZReferenceIdeal.τ).loc Cert.PoolZReferenceIdeal.main_arg0)
          ∧ r.2.mem ((c.tc : Thread Cert.PoolZReferenceIdeal.nD Cert.PoolZReferenceIdeal.τ).loc Cert.PoolZReferenceIdeal.main_arg1) = m' ((c.tc : Thread Cert.PoolZReferenceIdeal.nD Cert.PoolZReferenceIdeal.τ).loc Cert.PoolZReferenceIdeal.main_arg1)
          ∧ r.2.mem ((c.tc : Thread Cert.PoolZReferenceIdeal.nD Cert.PoolZReferenceIdeal.τ).loc Cert.PoolZReferenceIdeal.main_arg2) = m' ((c.tc : Thread Cert.PoolZReferenceIdeal.nD Cert.PoolZReferenceIdeal.τ).loc Cert.PoolZReferenceIdeal.main_arg2)
          ∧ r.2.mem ((c.tc : Thread Cert.PoolZReferenceIdeal.nD Cert.PoolZReferenceIdeal.τ).loc Cert.PoolZReferenceIdeal.main_arg3) = m' ((c.tc : Thread Cert.PoolZReferenceIdeal.nD Cert.PoolZReferenceIdeal.τ).loc Cert.PoolZReferenceIdeal.main_arg3))

def preserves_DnZ_DnZIdeal : Prop :=
  True

def algebraic_DnZIdeal_DnZReferenceIdeal [hDnZIdeal : Cert.DnZIdeal.Facts] [hDnZReferenceIdeal : Cert.DnZReferenceIdeal.Facts] : Prop :=
  ∀ (m : (ℓ : Loc Cert.DnZIdeal.nD Cert.DnZIdeal.τ Cert.DnZIdeal.sig) → Buf (Elt Ideal) ℓ) (g : Dev Cert.DnZIdeal.nD → PrngReg)
    (m' : (ℓ : Loc Cert.DnZReferenceIdeal.nD Cert.DnZReferenceIdeal.τ Cert.DnZReferenceIdeal.sig) → Buf (Elt Ideal) ℓ) (g' : Dev Cert.DnZReferenceIdeal.nD → PrngReg), Pre_DnZIdeal m →
    (∀ c : Dev Cert.DnZIdeal.nD,
      m' ((c.tc : Thread Cert.DnZReferenceIdeal.nD Cert.DnZReferenceIdeal.τ).loc Cert.DnZReferenceIdeal.main_arg0) = m ((c.tc : Thread Cert.DnZIdeal.nD Cert.DnZIdeal.τ).loc Cert.DnZIdeal.main_arg0)
      ∧ m' ((c.tc : Thread Cert.DnZReferenceIdeal.nD Cert.DnZReferenceIdeal.τ).loc Cert.DnZReferenceIdeal.main_arg1) = m ((c.tc : Thread Cert.DnZIdeal.nD Cert.DnZIdeal.τ).loc Cert.DnZIdeal.main_arg1)
      ∧ m' ((c.tc : Thread Cert.DnZReferenceIdeal.nD Cert.DnZReferenceIdeal.τ).loc Cert.DnZReferenceIdeal.main_arg2) = m ((c.tc : Thread Cert.DnZIdeal.nD Cert.DnZIdeal.τ).loc Cert.DnZIdeal.main_arg2)) →
    ∃ (v0 : (c : Dev Cert.DnZIdeal.nD) → Buf (Elt Ideal) ((c.tc : Thread Cert.DnZIdeal.nD Cert.DnZIdeal.τ).loc Cert.DnZIdeal.main_v0_0)) (v1 : (c : Dev Cert.DnZIdeal.nD) → Buf (Elt Ideal) ((c.tc : Thread Cert.DnZIdeal.nD Cert.DnZIdeal.τ).loc Cert.DnZIdeal.main_v0_1)),
      θ_run (Cert.DnZIdeal.defs (F := Ideal)) (onTc (τ := Cert.DnZIdeal.τ) (Cert.DnZIdeal.main (F := Ideal))) ⟨m, fun _ => 0, g⟩ (fun r => ∀ c : Dev Cert.DnZIdeal.nD,
          r.2.mem ((c.tc : Thread Cert.DnZIdeal.nD Cert.DnZIdeal.τ).loc Cert.DnZIdeal.main_v0_0) = v0 c
          ∧ r.2.mem ((c.tc : Thread Cert.DnZIdeal.nD Cert.DnZIdeal.τ).loc Cert.DnZIdeal.main_v0_1) = v1 c
          ∧ r.2.mem ((c.tc : Thread Cert.DnZIdeal.nD Cert.DnZIdeal.τ).loc Cert.DnZIdeal.main_arg0) = m ((c.tc : Thread Cert.DnZIdeal.nD Cert.DnZIdeal.τ).loc Cert.DnZIdeal.main_arg0)
          ∧ r.2.mem ((c.tc : Thread Cert.DnZIdeal.nD Cert.DnZIdeal.τ).loc Cert.DnZIdeal.main_arg1) = m ((c.tc : Thread Cert.DnZIdeal.nD Cert.DnZIdeal.τ).loc Cert.DnZIdeal.main_arg1)
          ∧ r.2.mem ((c.tc : Thread Cert.DnZIdeal.nD Cert.DnZIdeal.τ).loc Cert.DnZIdeal.main_arg2) = m ((c.tc : Thread Cert.DnZIdeal.nD Cert.DnZIdeal.τ).loc Cert.DnZIdeal.main_arg2))
      ∧ θ_run (Cert.DnZReferenceIdeal.defs (F := Ideal)) (onTc (τ := Cert.DnZReferenceIdeal.τ) (Cert.DnZReferenceIdeal.main (F := Ideal))) ⟨m', fun _ => 0, g'⟩ (fun r => ∀ c : Dev Cert.DnZReferenceIdeal.nD,
          r.2.mem ((c.tc : Thread Cert.DnZReferenceIdeal.nD Cert.DnZReferenceIdeal.τ).loc Cert.DnZReferenceIdeal.main_v2) = v0 c
          ∧ r.2.mem ((c.tc : Thread Cert.DnZReferenceIdeal.nD Cert.DnZReferenceIdeal.τ).loc Cert.DnZReferenceIdeal.main_v4) = v1 c
          ∧ r.2.mem ((c.tc : Thread Cert.DnZReferenceIdeal.nD Cert.DnZReferenceIdeal.τ).loc Cert.DnZReferenceIdeal.main_arg0) = m' ((c.tc : Thread Cert.DnZReferenceIdeal.nD Cert.DnZReferenceIdeal.τ).loc Cert.DnZReferenceIdeal.main_arg0)
          ∧ r.2.mem ((c.tc : Thread Cert.DnZReferenceIdeal.nD Cert.DnZReferenceIdeal.τ).loc Cert.DnZReferenceIdeal.main_arg1) = m' ((c.tc : Thread Cert.DnZReferenceIdeal.nD Cert.DnZReferenceIdeal.τ).loc Cert.DnZReferenceIdeal.main_arg1)
          ∧ r.2.mem ((c.tc : Thread Cert.DnZReferenceIdeal.nD Cert.DnZReferenceIdeal.τ).loc Cert.DnZReferenceIdeal.main_arg2) = m' ((c.tc : Thread Cert.DnZReferenceIdeal.nD Cert.DnZReferenceIdeal.τ).loc Cert.DnZReferenceIdeal.main_arg2))

def preserves_V_VIdeal : Prop :=
  True

def algebraic_VIdeal_VReferenceIdeal [hVIdeal : Cert.VIdeal.Facts] [hVReferenceIdeal : Cert.VReferenceIdeal.Facts] : Prop :=
  ∀ (m : (ℓ : Loc Cert.VIdeal.nD Cert.VIdeal.τ Cert.VIdeal.sig) → Buf (Elt Ideal) ℓ) (g : Dev Cert.VIdeal.nD → PrngReg)
    (m' : (ℓ : Loc Cert.VReferenceIdeal.nD Cert.VReferenceIdeal.τ Cert.VReferenceIdeal.sig) → Buf (Elt Ideal) ℓ) (g' : Dev Cert.VReferenceIdeal.nD → PrngReg), Pre_VIdeal m →
    (∀ c : Dev Cert.VIdeal.nD,
      m' ((c.tc : Thread Cert.VReferenceIdeal.nD Cert.VReferenceIdeal.τ).loc Cert.VReferenceIdeal.main_arg0) = m ((c.tc : Thread Cert.VIdeal.nD Cert.VIdeal.τ).loc Cert.VIdeal.main_arg0)
      ∧ m' ((c.tc : Thread Cert.VReferenceIdeal.nD Cert.VReferenceIdeal.τ).loc Cert.VReferenceIdeal.main_arg1) = m ((c.tc : Thread Cert.VIdeal.nD Cert.VIdeal.τ).loc Cert.VIdeal.main_arg1)
      ∧ m' ((c.tc : Thread Cert.VReferenceIdeal.nD Cert.VReferenceIdeal.τ).loc Cert.VReferenceIdeal.main_arg2) = m ((c.tc : Thread Cert.VIdeal.nD Cert.VIdeal.τ).loc Cert.VIdeal.main_arg2)
      ∧ m' ((c.tc : Thread Cert.VReferenceIdeal.nD Cert.VReferenceIdeal.τ).loc Cert.VReferenceIdeal.main_arg3) = m ((c.tc : Thread Cert.VIdeal.nD Cert.VIdeal.τ).loc Cert.VIdeal.main_arg3)) →
    ∃ (v0 : (c : Dev Cert.VIdeal.nD) → Buf (Elt Ideal) ((c.tc : Thread Cert.VIdeal.nD Cert.VIdeal.τ).loc Cert.VIdeal.main_v0_0)) (v1 : (c : Dev Cert.VIdeal.nD) → Buf (Elt Ideal) ((c.tc : Thread Cert.VIdeal.nD Cert.VIdeal.τ).loc Cert.VIdeal.main_v0_1)),
      θ_run (Cert.VIdeal.defs (F := Ideal)) (onTc (τ := Cert.VIdeal.τ) (Cert.VIdeal.main (F := Ideal))) ⟨m, fun _ => 0, g⟩ (fun r => ∀ c : Dev Cert.VIdeal.nD,
          r.2.mem ((c.tc : Thread Cert.VIdeal.nD Cert.VIdeal.τ).loc Cert.VIdeal.main_v0_0) = v0 c
          ∧ r.2.mem ((c.tc : Thread Cert.VIdeal.nD Cert.VIdeal.τ).loc Cert.VIdeal.main_v0_1) = v1 c
          ∧ r.2.mem ((c.tc : Thread Cert.VIdeal.nD Cert.VIdeal.τ).loc Cert.VIdeal.main_arg0) = m ((c.tc : Thread Cert.VIdeal.nD Cert.VIdeal.τ).loc Cert.VIdeal.main_arg0)
          ∧ r.2.mem ((c.tc : Thread Cert.VIdeal.nD Cert.VIdeal.τ).loc Cert.VIdeal.main_arg1) = m ((c.tc : Thread Cert.VIdeal.nD Cert.VIdeal.τ).loc Cert.VIdeal.main_arg1)
          ∧ r.2.mem ((c.tc : Thread Cert.VIdeal.nD Cert.VIdeal.τ).loc Cert.VIdeal.main_arg2) = m ((c.tc : Thread Cert.VIdeal.nD Cert.VIdeal.τ).loc Cert.VIdeal.main_arg2)
          ∧ r.2.mem ((c.tc : Thread Cert.VIdeal.nD Cert.VIdeal.τ).loc Cert.VIdeal.main_arg3) = m ((c.tc : Thread Cert.VIdeal.nD Cert.VIdeal.τ).loc Cert.VIdeal.main_arg3))
      ∧ θ_run (Cert.VReferenceIdeal.defs (F := Ideal)) (onTc (τ := Cert.VReferenceIdeal.τ) (Cert.VReferenceIdeal.main (F := Ideal))) ⟨m', fun _ => 0, g'⟩ (fun r => ∀ c : Dev Cert.VReferenceIdeal.nD,
          r.2.mem ((c.tc : Thread Cert.VReferenceIdeal.nD Cert.VReferenceIdeal.τ).loc Cert.VReferenceIdeal.main_v33) = v0 c
          ∧ r.2.mem ((c.tc : Thread Cert.VReferenceIdeal.nD Cert.VReferenceIdeal.τ).loc Cert.VReferenceIdeal.main_v35) = v1 c
          ∧ r.2.mem ((c.tc : Thread Cert.VReferenceIdeal.nD Cert.VReferenceIdeal.τ).loc Cert.VReferenceIdeal.main_arg0) = m' ((c.tc : Thread Cert.VReferenceIdeal.nD Cert.VReferenceIdeal.τ).loc Cert.VReferenceIdeal.main_arg0)
          ∧ r.2.mem ((c.tc : Thread Cert.VReferenceIdeal.nD Cert.VReferenceIdeal.τ).loc Cert.VReferenceIdeal.main_arg1) = m' ((c.tc : Thread Cert.VReferenceIdeal.nD Cert.VReferenceIdeal.τ).loc Cert.VReferenceIdeal.main_arg1)
          ∧ r.2.mem ((c.tc : Thread Cert.VReferenceIdeal.nD Cert.VReferenceIdeal.τ).loc Cert.VReferenceIdeal.main_arg2) = m' ((c.tc : Thread Cert.VReferenceIdeal.nD Cert.VReferenceIdeal.τ).loc Cert.VReferenceIdeal.main_arg2)
          ∧ r.2.mem ((c.tc : Thread Cert.VReferenceIdeal.nD Cert.VReferenceIdeal.τ).loc Cert.VReferenceIdeal.main_arg3) = m' ((c.tc : Thread Cert.VReferenceIdeal.nD Cert.VReferenceIdeal.τ).loc Cert.VReferenceIdeal.main_arg3))

def preserves_Q_QIdeal : Prop :=
  True

def algebraic_QIdeal_QReferenceIdeal [hQIdeal : Cert.QIdeal.Facts] [hQReferenceIdeal : Cert.QReferenceIdeal.Facts] : Prop :=
  ∀ (m : (ℓ : Loc Cert.QIdeal.nD Cert.QIdeal.τ Cert.QIdeal.sig) → Buf (Elt Ideal) ℓ) (g : Dev Cert.QIdeal.nD → PrngReg)
    (m' : (ℓ : Loc Cert.QReferenceIdeal.nD Cert.QReferenceIdeal.τ Cert.QReferenceIdeal.sig) → Buf (Elt Ideal) ℓ) (g' : Dev Cert.QReferenceIdeal.nD → PrngReg), Pre_QIdeal m →
    (∀ c : Dev Cert.QIdeal.nD,
      m' ((c.tc : Thread Cert.QReferenceIdeal.nD Cert.QReferenceIdeal.τ).loc Cert.QReferenceIdeal.main_arg0) = m ((c.tc : Thread Cert.QIdeal.nD Cert.QIdeal.τ).loc Cert.QIdeal.main_arg0)
      ∧ m' ((c.tc : Thread Cert.QReferenceIdeal.nD Cert.QReferenceIdeal.τ).loc Cert.QReferenceIdeal.main_arg1) = m ((c.tc : Thread Cert.QIdeal.nD Cert.QIdeal.τ).loc Cert.QIdeal.main_arg1)
      ∧ m' ((c.tc : Thread Cert.QReferenceIdeal.nD Cert.QReferenceIdeal.τ).loc Cert.QReferenceIdeal.main_arg2) = m ((c.tc : Thread Cert.QIdeal.nD Cert.QIdeal.τ).loc Cert.QIdeal.main_arg2)
      ∧ m' ((c.tc : Thread Cert.QReferenceIdeal.nD Cert.QReferenceIdeal.τ).loc Cert.QReferenceIdeal.main_arg3) = m ((c.tc : Thread Cert.QIdeal.nD Cert.QIdeal.τ).loc Cert.QIdeal.main_arg3)
      ∧ m' ((c.tc : Thread Cert.QReferenceIdeal.nD Cert.QReferenceIdeal.τ).loc Cert.QReferenceIdeal.main_arg4) = m ((c.tc : Thread Cert.QIdeal.nD Cert.QIdeal.τ).loc Cert.QIdeal.main_arg4)) →
    ∃ (v0 : (c : Dev Cert.QIdeal.nD) → Buf (Elt Ideal) ((c.tc : Thread Cert.QIdeal.nD Cert.QIdeal.τ).loc Cert.QIdeal.main_v0_0)) (v1 : (c : Dev Cert.QIdeal.nD) → Buf (Elt Ideal) ((c.tc : Thread Cert.QIdeal.nD Cert.QIdeal.τ).loc Cert.QIdeal.main_v0_1)) (v2 : (c : Dev Cert.QIdeal.nD) → Buf (Elt Ideal) ((c.tc : Thread Cert.QIdeal.nD Cert.QIdeal.τ).loc Cert.QIdeal.main_v0_2)),
      θ_run (Cert.QIdeal.defs (F := Ideal)) (onTc (τ := Cert.QIdeal.τ) (Cert.QIdeal.main (F := Ideal))) ⟨m, fun _ => 0, g⟩ (fun r => ∀ c : Dev Cert.QIdeal.nD,
          r.2.mem ((c.tc : Thread Cert.QIdeal.nD Cert.QIdeal.τ).loc Cert.QIdeal.main_v0_0) = v0 c
          ∧ r.2.mem ((c.tc : Thread Cert.QIdeal.nD Cert.QIdeal.τ).loc Cert.QIdeal.main_v0_1) = v1 c
          ∧ r.2.mem ((c.tc : Thread Cert.QIdeal.nD Cert.QIdeal.τ).loc Cert.QIdeal.main_v0_2) = v2 c
          ∧ r.2.mem ((c.tc : Thread Cert.QIdeal.nD Cert.QIdeal.τ).loc Cert.QIdeal.main_arg0) = m ((c.tc : Thread Cert.QIdeal.nD Cert.QIdeal.τ).loc Cert.QIdeal.main_arg0)
          ∧ r.2.mem ((c.tc : Thread Cert.QIdeal.nD Cert.QIdeal.τ).loc Cert.QIdeal.main_arg1) = m ((c.tc : Thread Cert.QIdeal.nD Cert.QIdeal.τ).loc Cert.QIdeal.main_arg1)
          ∧ r.2.mem ((c.tc : Thread Cert.QIdeal.nD Cert.QIdeal.τ).loc Cert.QIdeal.main_arg2) = m ((c.tc : Thread Cert.QIdeal.nD Cert.QIdeal.τ).loc Cert.QIdeal.main_arg2)
          ∧ r.2.mem ((c.tc : Thread Cert.QIdeal.nD Cert.QIdeal.τ).loc Cert.QIdeal.main_arg3) = m ((c.tc : Thread Cert.QIdeal.nD Cert.QIdeal.τ).loc Cert.QIdeal.main_arg3)
          ∧ r.2.mem ((c.tc : Thread Cert.QIdeal.nD Cert.QIdeal.τ).loc Cert.QIdeal.main_arg4) = m ((c.tc : Thread Cert.QIdeal.nD Cert.QIdeal.τ).loc Cert.QIdeal.main_arg4))
      ∧ θ_run (Cert.QReferenceIdeal.defs (F := Ideal)) (onTc (τ := Cert.QReferenceIdeal.τ) (Cert.QReferenceIdeal.main (F := Ideal))) ⟨m', fun _ => 0, g'⟩ (fun r => ∀ c : Dev Cert.QReferenceIdeal.nD,
          r.2.mem ((c.tc : Thread Cert.QReferenceIdeal.nD Cert.QReferenceIdeal.τ).loc Cert.QReferenceIdeal.main_v45) = v0 c
          ∧ r.2.mem ((c.tc : Thread Cert.QReferenceIdeal.nD Cert.QReferenceIdeal.τ).loc Cert.QReferenceIdeal.main_v47) = v1 c
          ∧ r.2.mem ((c.tc : Thread Cert.QReferenceIdeal.nD Cert.QReferenceIdeal.τ).loc Cert.QReferenceIdeal.main_v48) = v2 c
          ∧ r.2.mem ((c.tc : Thread Cert.QReferenceIdeal.nD Cert.QReferenceIdeal.τ).loc Cert.QReferenceIdeal.main_arg0) = m' ((c.tc : Thread Cert.QReferenceIdeal.nD Cert.QReferenceIdeal.τ).loc Cert.QReferenceIdeal.main_arg0)
          ∧ r.2.mem ((c.tc : Thread Cert.QReferenceIdeal.nD Cert.QReferenceIdeal.τ).loc Cert.QReferenceIdeal.main_arg1) = m' ((c.tc : Thread Cert.QReferenceIdeal.nD Cert.QReferenceIdeal.τ).loc Cert.QReferenceIdeal.main_arg1)
          ∧ r.2.mem ((c.tc : Thread Cert.QReferenceIdeal.nD Cert.QReferenceIdeal.τ).loc Cert.QReferenceIdeal.main_arg2) = m' ((c.tc : Thread Cert.QReferenceIdeal.nD Cert.QReferenceIdeal.τ).loc Cert.QReferenceIdeal.main_arg2)
          ∧ r.2.mem ((c.tc : Thread Cert.QReferenceIdeal.nD Cert.QReferenceIdeal.τ).loc Cert.QReferenceIdeal.main_arg3) = m' ((c.tc : Thread Cert.QReferenceIdeal.nD Cert.QReferenceIdeal.τ).loc Cert.QReferenceIdeal.main_arg3)
          ∧ r.2.mem ((c.tc : Thread Cert.QReferenceIdeal.nD Cert.QReferenceIdeal.τ).loc Cert.QReferenceIdeal.main_arg4) = m' ((c.tc : Thread Cert.QReferenceIdeal.nD Cert.QReferenceIdeal.τ).loc Cert.QReferenceIdeal.main_arg4))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hOut : Cert.Out.Facts) (hOutIdeal : Cert.OutIdeal.Facts) (hOutReferenceIdeal : Cert.OutReferenceIdeal.Facts) (hGates : Cert.Gates.Facts) (hGatesIdeal : Cert.GatesIdeal.Facts) (hGatesReferenceIdeal : Cert.GatesReferenceIdeal.Facts) (hPoolU : Cert.PoolU.Facts) (hPoolUIdeal : Cert.PoolUIdeal.Facts) (hPoolUReferenceIdeal : Cert.PoolUReferenceIdeal.Facts) (hPoolZ : Cert.PoolZ.Facts) (hPoolZIdeal : Cert.PoolZIdeal.Facts) (hPoolZReferenceIdeal : Cert.PoolZReferenceIdeal.Facts) (hDnZ : Cert.DnZ.Facts) (hDnZIdeal : Cert.DnZIdeal.Facts) (hDnZReferenceIdeal : Cert.DnZReferenceIdeal.Facts) (hV : Cert.V.Facts) (hVIdeal : Cert.VIdeal.Facts) (hVReferenceIdeal : Cert.VReferenceIdeal.Facts) (hQ : Cert.Q.Facts) (hQIdeal : Cert.QIdeal.Facts) (hQReferenceIdeal : Cert.QReferenceIdeal.Facts) (hPre_decays : Cert.Pre_decays.Facts),
    quiescent_Kernel (hKernel := hKernel)
    ∧ quiescent_KernelIdeal (hKernelIdeal := hKernelIdeal)
    ∧ quiescent_KernelIdeal_pre_decays (hKernelIdeal := hKernelIdeal) (hPre_decays := hPre_decays)
    ∧ quiescent_ReferenceIdeal (hReferenceIdeal := hReferenceIdeal)
    ∧ quiescent_ReferenceIdeal_pre_decays (hReferenceIdeal := hReferenceIdeal) (hPre_decays := hPre_decays)
    ∧ quiescent_Merge (hMerge := hMerge)
    ∧ quiescent_MergeIdeal (hMergeIdeal := hMergeIdeal)
    ∧ quiescent_MergeReferenceIdeal (hMergeReferenceIdeal := hMergeReferenceIdeal)
    ∧ quiescent_Out (hOut := hOut)
    ∧ quiescent_OutIdeal (hOutIdeal := hOutIdeal)
    ∧ quiescent_OutReferenceIdeal (hOutReferenceIdeal := hOutReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_PoolU (hPoolU := hPoolU)
    ∧ quiescent_PoolUIdeal (hPoolUIdeal := hPoolUIdeal)
    ∧ quiescent_PoolUReferenceIdeal (hPoolUReferenceIdeal := hPoolUReferenceIdeal)
    ∧ quiescent_PoolZ (hPoolZ := hPoolZ)
    ∧ quiescent_PoolZIdeal (hPoolZIdeal := hPoolZIdeal)
    ∧ quiescent_PoolZReferenceIdeal (hPoolZReferenceIdeal := hPoolZReferenceIdeal)
    ∧ quiescent_DnZ (hDnZ := hDnZ)
    ∧ quiescent_DnZIdeal (hDnZIdeal := hDnZIdeal)
    ∧ quiescent_DnZReferenceIdeal (hDnZReferenceIdeal := hDnZReferenceIdeal)
    ∧ quiescent_V (hV := hV)
    ∧ quiescent_VIdeal (hVIdeal := hVIdeal)
    ∧ quiescent_VReferenceIdeal (hVReferenceIdeal := hVReferenceIdeal)
    ∧ quiescent_Q (hQ := hQ)
    ∧ quiescent_QIdeal (hQIdeal := hQIdeal)
    ∧ quiescent_QReferenceIdeal (hQReferenceIdeal := hQReferenceIdeal)
    ∧ preserves_Kernel_KernelIdeal
    ∧ algebraic_KernelIdeal_ReferenceIdeal_pre_decays (hKernelIdeal := hKernelIdeal) (hReferenceIdeal := hReferenceIdeal) (hPre_decays := hPre_decays)
    ∧ preserves_Merge_MergeIdeal
    ∧ algebraic_MergeIdeal_MergeReferenceIdeal (hMergeIdeal := hMergeIdeal) (hMergeReferenceIdeal := hMergeReferenceIdeal)
    ∧ preserves_Out_OutIdeal
    ∧ algebraic_OutIdeal_OutReferenceIdeal (hOutIdeal := hOutIdeal) (hOutReferenceIdeal := hOutReferenceIdeal)
    ∧ preserves_Gates_GatesIdeal
    ∧ algebraic_GatesIdeal_GatesReferenceIdeal (hGatesIdeal := hGatesIdeal) (hGatesReferenceIdeal := hGatesReferenceIdeal)
    ∧ preserves_PoolU_PoolUIdeal
    ∧ algebraic_PoolUIdeal_PoolUReferenceIdeal (hPoolUIdeal := hPoolUIdeal) (hPoolUReferenceIdeal := hPoolUReferenceIdeal)
    ∧ preserves_PoolZ_PoolZIdeal
    ∧ algebraic_PoolZIdeal_PoolZReferenceIdeal (hPoolZIdeal := hPoolZIdeal) (hPoolZReferenceIdeal := hPoolZReferenceIdeal)
    ∧ preserves_DnZ_DnZIdeal
    ∧ algebraic_DnZIdeal_DnZReferenceIdeal (hDnZIdeal := hDnZIdeal) (hDnZReferenceIdeal := hDnZReferenceIdeal)
    ∧ preserves_V_VIdeal
    ∧ algebraic_VIdeal_VReferenceIdeal (hVIdeal := hVIdeal) (hVReferenceIdeal := hVReferenceIdeal)
    ∧ preserves_Q_QIdeal
    ∧ algebraic_QIdeal_QReferenceIdeal (hQIdeal := hQIdeal) (hQReferenceIdeal := hQReferenceIdeal)
-- ==== Pre_decays.lean ====
abbrev S8192x4096 : Shape := ⟨2, ![8192, 4096]⟩
abbrev S8192x128 : Shape := ⟨2, ![8192, 128]⟩
abbrev S128x8192 : Shape := ⟨2, ![128, 8192]⟩
abbrev S128 : Shape := ⟨1, ![128]⟩
abbrev S8192x32 : Shape := ⟨2, ![8192, 32]⟩
abbrev S64x128x32 : Shape := ⟨3, ![64, 128, 32]⟩
abbrev S_ : Shape := ⟨0, ![]⟩
abbrev S64x1x32 : Shape := ⟨3, ![64, 1, 32]⟩
abbrev S64x127x32 : Shape := ⟨3, ![64, 127, 32]⟩
abbrev S32x8192 : Shape := ⟨2, ![32, 8192]⟩

class Facts : Prop where
  slices_S8192x128_S8192x32_0_0 : S8192x128.Slices ![0, 0] S8192x32
  shapeCasts_S8192x32_S64x128x32 : S8192x32.ShapeCasts S64x128x32
  bcast_S_S64x1x32 : S_.BroadcastsInDim S64x1x32 (![] : Fin 0 → Fin S64x1x32.rank)
  slices_S64x128x32_S64x127x32_0_0_0 : S64x128x32.Slices ![0, 0, 0] S64x127x32
  concatenates_S64x1x32_S64x127x32_S64x128x32_d1 : Shape.Concatenates [S64x1x32, S64x127x32] S64x128x32 1
  bitsLt_bf16_f32 : FTy.bits .bf16 < FTy.bits .f32
  bcast_S_S8192x4096 : S_.BroadcastsInDim S8192x4096 (![] : Fin 0 → Fin S8192x4096.rank)
  bcast_S_S8192x32 : S_.BroadcastsInDim S8192x32 (![] : Fin 0 → Fin S8192x32.rank)
  slices_S64x128x32_S64x1x32_0_127_0 : S64x128x32.Slices ![0, 127, 0] S64x1x32
  bcast_S64x1x32_S64x128x32_0_1_2 : S64x1x32.BroadcastsInDim S64x128x32 (![0, 1, 2] : Fin 3 → Fin S64x128x32.rank)
  slices_S128x8192_S32x8192_0_0 : S128x8192.Slices ![0, 0] S32x8192
  transposes_S8192x32_S32x8192_1_0 : S8192x32.Transposes [1, 0] S32x8192

variable [Facts]

def fn_part2 {F : FTy → Type} [FloatOps F] (main_v8 : IVec S8192x4096 1) (main_v12 : IVec S8192x4096 1) (main_v16 : IVec S8192x4096 1) (main_v20 : IVec S8192x32 1) (main_v24 : IVec S8192x32 1) (main_v28 : IVec S64x128x32 1) (main_v32 : IVec S64x128x32 1) (main_v39 : IVec S64x128x32 1) (main_v40 : FVec F S32x8192 .f32) (main_v41 : FVec F S8192x32 .f32) : IVec S8192x4096 1 × IVec S8192x4096 1 × IVec S8192x4096 1 × IVec S8192x32 1 × IVec S8192x32 1 × IVec S64x128x32 1 × IVec S64x128x32 1 × IVec S64x128x32 1 × IVec S32x8192 1 :=
  let main_v42 : FVec F S32x8192 .f32 := (transpose S32x8192 [1, 0] · transposes_S8192x32_S32x8192_1_0) main_v41
  let main_v43 : IVec S32x8192 1 := cmpf .oeq main_v40 main_v42
  (main_v8, main_v12, main_v16, main_v20, main_v24, main_v28, main_v32, main_v39, main_v43)

def fn_part1 {F : FTy → Type} [FloatOps F] (main_arg5 : FVec F S8192x128 .f32) (main_arg6 : FVec F S8192x128 .f32) (main_arg7 : FVec F S8192x128 .f32) (main_arg8 : FVec F S8192x128 .f32) (main_arg9 : FVec F S128x8192 .f32) (main_v1 : FVec F S64x128x32 .f32) (main_v4 : FVec F S64x128x32 .f32) (main_v8 : IVec S8192x4096 1) (main_v12 : IVec S8192x4096 1) (main_v16 : IVec S8192x4096 1) (main_v18 : FVec F S8192x32 .f32) (main_cst_3 : FVec F S_ .f32) : IVec S8192x4096 1 × IVec S8192x4096 1 × IVec S8192x4096 1 × IVec S8192x32 1 × IVec S8192x32 1 × IVec S64x128x32 1 × IVec S64x128x32 1 × IVec S64x128x32 1 × IVec S32x8192 1 :=
  let main_v19 : FVec F S8192x32 .f32 := broadcastInDim S8192x32 ![] bcast_S_S8192x32 main_cst_3
  let main_v20 : IVec S8192x32 1 := cmpf .olt main_v18 main_v19
  let main_v21 : FVec F S8192x32 .f32 := (extractStridedSlice S8192x32 ![0, 0] · slices_S8192x128_S8192x32_0_0) main_arg5
  let main_v22 : FVec F S8192x32 .f32 := Host.absf main_v21
  let main_cst_4 : FVec F S_ .f32 := constant S_ .f32 0x7F800000#32
  let main_v23 : FVec F S8192x32 .f32 := broadcastInDim S8192x32 ![] bcast_S_S8192x32 main_cst_4
  let main_v24 : IVec S8192x32 1 := cmpf .olt main_v22 main_v23
  let main_v25 : FVec F S8192x32 .f32 := (extractStridedSlice S8192x32 ![0, 0] · slices_S8192x128_S8192x32_0_0) main_arg5
  let main_v26 : FVec F S64x128x32 .f32 := shapeCast S64x128x32 main_v25 shapeCasts_S8192x32_S64x128x32
  let main_v27 : FVec F S64x128x32 .f32 := addf main_v4 main_v26
  let main_v28 : IVec S64x128x32 1 := cmpf .oeq main_v1 main_v27
  let main_v29 : FVec F S8192x32 .f32 := (extractStridedSlice S8192x32 ![0, 0] · slices_S8192x128_S8192x32_0_0) main_arg7
  let main_v30 : FVec F S64x128x32 .f32 := shapeCast S64x128x32 main_v29 shapeCasts_S8192x32_S64x128x32
  let main_v31 : FVec F S64x128x32 .f32 := Host.exp main_v1
  let main_v32 : IVec S64x128x32 1 := cmpf .oeq main_v30 main_v31
  let main_v33 : FVec F S8192x32 .f32 := (extractStridedSlice S8192x32 ![0, 0] · slices_S8192x128_S8192x32_0_0) main_arg8
  let main_v34 : FVec F S64x128x32 .f32 := shapeCast S64x128x32 main_v33 shapeCasts_S8192x32_S64x128x32
  let main_v35 : FVec F S64x1x32 .f32 := (extractStridedSlice S64x1x32 ![0, 127, 0] · slices_S64x128x32_S64x1x32_0_127_0) main_v1
  let main_v36 : FVec F S64x128x32 .f32 := broadcastInDim S64x128x32 ![0, 1, 2] bcast_S64x1x32_S64x128x32_0_1_2 main_v35
  let main_v37 : FVec F S64x128x32 .f32 := subf main_v36 main_v1
  let main_v38 : FVec F S64x128x32 .f32 := Host.exp main_v37
  let main_v39 : IVec S64x128x32 1 := cmpf .oeq main_v34 main_v38
  let main_v40 : FVec F S32x8192 .f32 := (extractStridedSlice S32x8192 ![0, 0] · slices_S128x8192_S32x8192_0_0) main_arg9
  let main_v41 : FVec F S8192x32 .f32 := (extractStridedSlice S8192x32 ![0, 0] · slices_S8192x128_S8192x32_0_0) main_arg6
  fn_part2 (F := F) main_v8 main_v12 main_v16 main_v20 main_v24 main_v28 main_v32 main_v39 main_v40 main_v41

def fn {F : FTy → Type} [FloatOps F] (main_arg0 : FVec F S8192x4096 .bf16) (main_arg1 : FVec F S8192x4096 .bf16) (main_arg2 : FVec F S8192x4096 .bf16) (main_arg3 : FVec F S8192x4096 .bf16) (main_arg4 : FVec F S8192x128 .f32) (main_arg5 : FVec F S8192x128 .f32) (main_arg6 : FVec F S8192x128 .f32) (main_arg7 : FVec F S8192x128 .f32) (main_arg8 : FVec F S8192x128 .f32) (main_arg9 : FVec F S128x8192 .f32) (main_arg10 : FVec F S128 .f32) : IVec S8192x4096 1 × IVec S8192x4096 1 × IVec S8192x4096 1 × IVec S8192x32 1 × IVec S8192x32 1 × IVec S64x128x32 1 × IVec S64x128x32 1 × IVec S64x128x32 1 × IVec S32x8192 1 :=
  let main_v0 : FVec F S8192x32 .f32 := (extractStridedSlice S8192x32 ![0, 0] · slices_S8192x128_S8192x32_0_0) main_arg6
  let main_v1 : FVec F S64x128x32 .f32 := shapeCast S64x128x32 main_v0 shapeCasts_S8192x32_S64x128x32
  let main_cst : FVec F S_ .f32 := constant S_ .f32 0x00000000#32
  let main_v2 : FVec F S64x1x32 .f32 := broadcastInDim S64x1x32 ![] bcast_S_S64x1x32 main_cst
  let main_v3 : FVec F S64x127x32 .f32 := (extractStridedSlice S64x127x32 ![0, 0, 0] · slices_S64x128x32_S64x127x32_0_0_0) main_v1
  let main_v4 : FVec F S64x128x32 .f32 := (fun a b => concatenate S64x128x32 1 [⟨S64x1x32, a⟩, ⟨S64x127x32, b⟩] concatenates_S64x1x32_S64x127x32_S64x128x32_d1) main_v2 main_v3
  let main_v5 : FVec F S8192x4096 .f32 := (extf .f32 · bitsLt_bf16_f32) main_arg0
  let main_v6 : FVec F S8192x4096 .f32 := Host.absf main_v5
  let main_cst_0 : FVec F S_ .f32 := constant S_ .f32 0x7F800000#32
  let main_v7 : FVec F S8192x4096 .f32 := broadcastInDim S8192x4096 ![] bcast_S_S8192x4096 main_cst_0
  let main_v8 : IVec S8192x4096 1 := cmpf .olt main_v6 main_v7
  let main_v9 : FVec F S8192x4096 .f32 := (extf .f32 · bitsLt_bf16_f32) main_arg1
  let main_v10 : FVec F S8192x4096 .f32 := Host.absf main_v9
  let main_cst_1 : FVec F S_ .f32 := constant S_ .f32 0x7F800000#32
  let main_v11 : FVec F S8192x4096 .f32 := broadcastInDim S8192x4096 ![] bcast_S_S8192x4096 main_cst_1
  let main_v12 : IVec S8192x4096 1 := cmpf .olt main_v10 main_v11
  let main_v13 : FVec F S8192x4096 .f32 := (extf .f32 · bitsLt_bf16_f32) main_arg2
  let main_v14 : FVec F S8192x4096 .f32 := Host.absf main_v13
  let main_cst_2 : FVec F S_ .f32 := constant S_ .f32 0x7F800000#32
  let main_v15 : FVec F S8192x4096 .f32 := broadcastInDim S8192x4096 ![] bcast_S_S8192x4096 main_cst_2
  let main_v16 : IVec S8192x4096 1 := cmpf .olt main_v14 main_v15
  let main_v17 : FVec F S8192x32 .f32 := (extractStridedSlice S8192x32 ![0, 0] · slices_S8192x128_S8192x32_0_0) main_arg4
  let main_v18 : FVec F S8192x32 .f32 := Host.absf main_v17
  let main_cst_3 : FVec F S_ .f32 := constant S_ .f32 0x7F800000#32
  fn_part1 (F := F) main_arg5 main_arg6 main_arg7 main_arg8 main_arg9 main_v1 main_v4 main_v8 main_v12 main_v16 main_v18 main_cst_3
-- ==== Kernel.lean ====
abbrev S8192x4096 : Shape := ⟨2, ![8192, 4096]⟩
abbrev S8192x128 : Shape := ⟨2, ![8192, 128]⟩
abbrev S128x8192 : Shape := ⟨2, ![128, 8192]⟩
abbrev S128 : Shape := ⟨1, ![128]⟩
abbrev S1x128 : Shape := ⟨2, ![1, 128]⟩
abbrev S256x1024 : Shape := ⟨2, ![256, 1024]⟩
abbrev S256x128 : Shape := ⟨2, ![256, 128]⟩
abbrev S8x256 : Shape := ⟨2, ![8, 256]⟩
abbrev S8x128x128 : Shape := ⟨3, ![8, 128, 128]⟩
abbrev S128x128 : Shape := ⟨2, ![128, 128]⟩
abbrev S128x1 : Shape := ⟨2, ![128, 1]⟩
abbrev S128x256 : Shape := ⟨2, ![128, 256]⟩
abbrev S1x1 : Shape := ⟨2, ![1, 1]⟩
abbrev S16x128 : Shape := ⟨2, ![16, 128]⟩
abbrev S1x128x128 : Shape := ⟨3, ![1, 128, 128]⟩

abbrev nBuf : Space → Nat
  | .hbm => 13
  | .vmem => 22
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x4096, .bf16⟩
  | .hbm, ⟨3, _⟩ => ⟨S8192x4096, .bf16⟩
  | .hbm, ⟨4, _⟩ => ⟨S8192x128, .f32⟩
  | .hbm, ⟨5, _⟩ => ⟨S8192x128, .f32⟩
  | .hbm, ⟨6, _⟩ => ⟨S8192x128, .f32⟩
  | .hbm, ⟨7, _⟩ => ⟨S8192x128, .f32⟩
  | .hbm, ⟨8, _⟩ => ⟨S8192x128, .f32⟩
  | .hbm, ⟨9, _⟩ => ⟨S128x8192, .f32⟩
  | .hbm, ⟨10, _⟩ => ⟨S128, .f32⟩
  | .hbm, ⟨11, _⟩ => ⟨S1x128, .f32⟩
  | .hbm, ⟨12, _⟩ => ⟨S8192x4096, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S8x256, .f32⟩
  | .local _ .vmem, ⟨15, _⟩ => ⟨S8x256, .f32⟩
  | .local _ .vmem, ⟨16, _⟩ => ⟨S256x1024, .bf16⟩
  | .local _ .vmem, ⟨17, _⟩ => ⟨S256x1024, .bf16⟩
  | .local _ .vmem, ⟨18, _⟩ => ⟨S1x128, .f32⟩
  | .local _ .vmem, ⟨19, _⟩ => ⟨S256x1024, .bf16⟩
  | .local _ .vmem, ⟨20, _⟩ => ⟨S256x1024, .bf16⟩
  | .local _ .vmem, ⟨21, _⟩ => ⟨S8x128x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8192x4096 : Shape := ⟨2, ![8192, 4096]⟩
abbrev S8192x128 : Shape := ⟨2, ![8192, 128]⟩
abbrev S128x8192 : Shape := ⟨2, ![128, 8192]⟩
abbrev S128 : Shape := ⟨1, ![128]⟩
abbrev S_ : Shape := ⟨0, ![]⟩
abbrev S32x128x128 : Shape := ⟨3, ![32, 128, 128]⟩
abbrev S8192x32x128 : Shape := ⟨3, ![8192, 32, 128]⟩
abbrev S8192x32 : Shape := ⟨2, ![8192, 32]⟩
abbrev S1x32x128 : Shape := ⟨3, ![1, 32, 128]⟩
abbrev S32x128 : Shape := ⟨2, ![32, 128]⟩
abbrev S1x32 : Shape := ⟨2, ![1, 32]⟩
abbrev S32 : Shape := ⟨1, ![32]⟩
abbrev S32x1x1 : Shape := ⟨3, ![32, 1, 1]⟩
abbrev S32x128x1 : Shape := ⟨3, ![32, 128, 1]⟩
abbrev S32x1 : Shape := ⟨2, ![32, 1]⟩
abbrev S32x1x128 : Shape := ⟨3, ![32, 1, 128]⟩
abbrev S8192x32x1 : Shape := ⟨3, ![8192, 32, 1]⟩
abbrev S1x1x128 : Shape := ⟨3, ![1, 1, 128]⟩

abbrev nBuf : Space → Nat
  | .hbm => 94
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x4096, .bf16⟩
  | .hbm, ⟨3, _⟩ => ⟨S8192x4096, .bf16⟩
  | .hbm, ⟨4, _⟩ => ⟨S8192x128, .f32⟩
  | .hbm, ⟨5, _⟩ => ⟨S8192x128, .f32⟩
  | .hbm, ⟨6, _⟩ => ⟨S8192x128, .f32⟩
  | .hbm, ⟨7, _⟩ => ⟨S8192x128, .f32⟩
  | .hbm, ⟨8, _⟩ => ⟨S8192x128, .f32⟩
  | .hbm, ⟨9, _⟩ => ⟨S128x8192, .f32⟩
  | .hbm, ⟨10, _⟩ => ⟨S128, .f32⟩
  | .hbm, ⟨11, _⟩ => ⟨S_, .f32⟩
  | .hbm, ⟨12, _⟩ => ⟨S32x128x128, .f32⟩
  | .hbm, ⟨13, _⟩ => ⟨S8192x4096, .f32⟩
  | .hbm, ⟨14, _⟩ => ⟨S8192x32x128, .f32⟩
  | .hbm, ⟨15, _⟩ => ⟨S8192x4096, .f32⟩
  | .hbm, ⟨16, _⟩ => ⟨S8192x32x128, .f32⟩
  | .hbm, ⟨17, _⟩ => ⟨S8192x4096, .f32⟩
  | .hbm, ⟨18, _⟩ => ⟨S8192x32x128, .f32⟩
  | .hbm, ⟨19, _⟩ => ⟨S8192x32, .f32⟩
  | .hbm, ⟨20, _⟩ => ⟨S8192x32, .f32⟩
  | .hbm, ⟨21, _⟩ => ⟨S_, .f32⟩
  | .hbm, ⟨22, _⟩ => ⟨S8192x32x128, .f32⟩
  | .hbm, ⟨23, _⟩ => ⟨S_, .i32⟩
  | .hbm, ⟨24, _⟩ => ⟨S8192x32x128, .f32⟩
  | .hbm, ⟨25, _⟩ => ⟨S8192x32x128, .f32⟩
  | .hbm, ⟨26, _⟩ => ⟨S8192x32x128, .f32⟩
  | .hbm, ⟨27, _⟩ => ⟨S8192x32, .f32⟩
  | .hbm, ⟨28, _⟩ => ⟨S8192x32, .f32⟩
  | .hbm, ⟨29, _⟩ => ⟨S_, .i32⟩
  | .hbm, ⟨30, _⟩ => ⟨S32x128x128, .f32⟩
  | .hbm, ⟨31, _⟩ => ⟨S8192x32x128, .f32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S1x32x128, .f32⟩
  | .hbm, ⟨37, _⟩ => ⟨S32x128, .f32⟩
  | .hbm, ⟨38, _⟩ => ⟨S_, .i32⟩
  | .hbm, ⟨39, _⟩ => ⟨S_, .i32⟩
  | .hbm, ⟨40, _⟩ => ⟨S1x32x128, .f32⟩
  | .hbm, ⟨41, _⟩ => ⟨S32x128, .f32⟩
  | .hbm, ⟨42, _⟩ => ⟨S_, .i32⟩
  | .hbm, ⟨43, _⟩ => ⟨S_, .i32⟩
  | .hbm, ⟨44, _⟩ => ⟨S1x32x128, .f32⟩
  | .hbm, ⟨45, _⟩ => ⟨S32x128, .f32⟩
  | .hbm, ⟨46, _⟩ => ⟨S_, .i32⟩
  | .hbm, ⟨47, _⟩ => ⟨S1x32, .f32⟩
  | .hbm, ⟨48, _⟩ => ⟨S32, .f32⟩
  | .hbm, ⟨49, _⟩ => ⟨S_, .i32⟩
  | .hbm, ⟨50, _⟩ => ⟨S1x32, .f32⟩
  | .hbm, ⟨51, _⟩ => ⟨S32, .f32⟩
  | .hbm, ⟨52, _⟩ => ⟨S32, .f32⟩
  | .hbm, ⟨53, _⟩ => ⟨S32x1x1, .f32⟩
  | .hbm, ⟨54, _⟩ => ⟨S32x128x128, .f32⟩
  | .hbm, ⟨55, _⟩ => ⟨S32x128x128, .f32⟩
  | .hbm, ⟨56, _⟩ => ⟨S32x128, .f32⟩
  | .hbm, ⟨57, _⟩ => ⟨S32x128x1, .f32⟩
  | .hbm, ⟨58, _⟩ => ⟨S32x1, .f32⟩
  | .hbm, ⟨59, _⟩ => ⟨S32x128, .f32⟩
  | .hbm, ⟨60, _⟩ => ⟨S32x128, .f32⟩
  | .hbm, ⟨61, _⟩ => ⟨S32x128, .f32⟩
  | .hbm, ⟨62, _⟩ => ⟨S32x1x128, .f32⟩
  | .hbm, ⟨63, _⟩ => ⟨S32x128x128, .f32⟩
  | .hbm, ⟨64, _⟩ => ⟨S32x128x128, .f32⟩
  | .hbm, ⟨65, _⟩ => ⟨S32x128x128, .f32⟩
  | .hbm, ⟨66, _⟩ => ⟨S32x128x128, .f32⟩
  | .hbm, ⟨67, _⟩ => ⟨S32x128, .f32⟩
  | .hbm, ⟨68, _⟩ => ⟨S1x32x128, .f32⟩
  | .hbm, ⟨69, _⟩ => ⟨S_, .i32⟩
  | .hbm, ⟨70, _⟩ => ⟨S_, .i32⟩
  | .hbm, ⟨71, _⟩ => ⟨S8192x32x128, .f32⟩
  | .hbm, ⟨72, _⟩ => ⟨S_, .i32⟩
  | .hbm, ⟨73, _⟩ => ⟨S_, .i32⟩
  | .hbm, ⟨74, _⟩ => ⟨S8192x32x128, .f32⟩
  | .hbm, ⟨75, _⟩ => ⟨S_, .f32⟩
  | .hbm, ⟨76, _⟩ => ⟨S8192x32, .f32⟩
  | .hbm, ⟨77, _⟩ => ⟨S8192x32x1, .f32⟩
  | .hbm, ⟨78, _⟩ => ⟨S_, .f32⟩
  | .hbm, ⟨79, _⟩ => ⟨S8192x32x1, .f32⟩
  | .hbm, ⟨80, _⟩ => ⟨S8192x32x1, .f32⟩
  | .hbm, ⟨81, _⟩ => ⟨S_, .f32⟩
  | .hbm, ⟨82, _⟩ => ⟨S8192x32x1, .f32⟩
  | .hbm, ⟨83, _⟩ => ⟨S8192x32x1, .f32⟩
  | .hbm, ⟨84, _⟩ => ⟨S8192x32x1, .f32⟩
  | .hbm, ⟨85, _⟩ => ⟨S8192x32x128, .f32⟩
  | .hbm, ⟨86, _⟩ => ⟨S8192x32x128, .f32⟩
  | .hbm, ⟨87, _⟩ => ⟨S1x1x128, .f32⟩
  | .hbm, ⟨88, _⟩ => ⟨S8192x32x128, .f32⟩
  | .hbm, ⟨89, _⟩ => ⟨S8192x32x128, .f32⟩
  | .hbm, ⟨90, _⟩ => ⟨S8192x4096, .f32⟩
  | .hbm, ⟨91, _⟩ => ⟨S8192x4096, .f32⟩
  | .hbm, ⟨92, _⟩ => ⟨S8192x4096, .f32⟩
  | .hbm, ⟨93, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_c : Ref sig .tc := ⟨.hbm, 23, rfl⟩
abbrev main_v10_0 : Ref sig .tc := ⟨.hbm, 24, rfl⟩
abbrev main_v10_1 : Ref sig .tc := ⟨.hbm, 25, rfl⟩
abbrev main_v10_2 : Ref sig .tc := ⟨.hbm, 26, rfl⟩
abbrev main_v10_3 : Ref sig .tc := ⟨.hbm, 27, rfl⟩
abbrev main_v10_4 : Ref sig .tc := ⟨.hbm, 28, rfl⟩
abbrev main_v10_5 : Ref sig .tc := ⟨.hbm, 29, rfl⟩
abbrev main_v10_6 : Ref sig .tc := ⟨.hbm, 30, rfl⟩
abbrev main_v10_7 : Ref sig .tc := ⟨.hbm, 31, rfl⟩
abbrev main_while0c_c_11 : Ref sig .tc := ⟨.hbm, 32, rfl⟩
abbrev main_while0c_v28 : Ref sig .tc := ⟨.hbm, 33, rfl⟩
abbrev main_while0b_call0_c : Ref sig .tc := ⟨.hbm, 34, rfl⟩
abbrev main_while0b_call0_c_0 : Ref sig .tc := ⟨.hbm, 35, rfl⟩
abbrev main_while0b_call0_v0 : Ref sig .tc := ⟨.hbm, 36, rfl⟩
abbrev main_while0b_v28 : Ref sig .tc := ⟨.hbm, 37, rfl⟩
abbrev main_while0b_call1_c : Ref sig .tc := ⟨.hbm, 38, rfl⟩
abbrev main_while0b_call1_c_0 : Ref sig .tc := ⟨.hbm, 39, rfl⟩
abbrev main_while0b_call1_v0 : Ref sig .tc := ⟨.hbm, 40, rfl⟩
abbrev main_while0b_v29 : Ref sig .tc := ⟨.hbm, 41, rfl⟩
abbrev main_while0b_call2_c : Ref sig .tc := ⟨.hbm, 42, rfl⟩
abbrev main_while0b_call2_c_0 : Ref sig .tc := ⟨.hbm, 43, rfl⟩
abbrev main_while0b_call2_v0 : Ref sig .tc := ⟨.hbm, 44, rfl⟩
abbrev main_while0b_v30 : Ref sig .tc := ⟨.hbm, 45, rfl⟩
abbrev main_while0b_call3_c : Ref sig .tc := ⟨.hbm, 46, rfl⟩
abbrev main_while0b_call3_v0 : Ref sig .tc := ⟨.hbm, 47, rfl⟩
abbrev main_while0b_v31 : Ref sig .tc := ⟨.hbm, 48, rfl⟩
abbrev main_while0b_call4_c : Ref sig .tc := ⟨.hbm, 49, rfl⟩
abbrev main_while0b_call4_v0 : Ref sig .tc := ⟨.hbm, 50, rfl⟩
abbrev main_while0b_v32 : Ref sig .tc := ⟨.hbm, 51, rfl⟩
abbrev main_while0b_v33 : Ref sig .tc := ⟨.hbm, 52, rfl⟩
abbrev main_while0b_v34 : Ref sig .tc := ⟨.hbm, 53, rfl⟩
abbrev main_while0b_v35 : Ref sig .tc := ⟨.hbm, 54, rfl⟩
abbrev main_while0b_v36 : Ref sig .tc := ⟨.hbm, 55, rfl⟩
abbrev main_while0b_v37 : Ref sig .tc := ⟨.hbm, 56, rfl⟩
abbrev main_while0b_v38 : Ref sig .tc := ⟨.hbm, 57, rfl⟩
abbrev main_while0b_v39 : Ref sig .tc := ⟨.hbm, 58, rfl⟩
abbrev main_while0b_v40 : Ref sig .tc := ⟨.hbm, 59, rfl⟩
abbrev main_while0b_v41 : Ref sig .tc := ⟨.hbm, 60, rfl⟩
abbrev main_while0b_v42 : Ref sig .tc := ⟨.hbm, 61, rfl⟩
abbrev main_while0b_v43 : Ref sig .tc := ⟨.hbm, 62, rfl⟩
abbrev main_while0b_v44 : Ref sig .tc := ⟨.hbm, 63, rfl⟩
abbrev main_while0b_v45 : Ref sig .tc := ⟨.hbm, 64, rfl⟩
abbrev main_while0b_v46 : Ref sig .tc := ⟨.hbm, 65, rfl⟩
abbrev main_while0b_v47 : Ref sig .tc := ⟨.hbm, 66, rfl⟩
abbrev main_while0b_v48 : Ref sig .tc := ⟨.hbm, 67, rfl⟩
abbrev main_while0b_call5_v0 : Ref sig .tc := ⟨.hbm, 68, rfl⟩
abbrev main_while0b_call5_c : Ref sig .tc := ⟨.hbm, 69, rfl⟩
abbrev main_while0b_call5_c_0 : Ref sig .tc := ⟨.hbm, 70, rfl⟩
abbrev main_while0b_v49 : Ref sig .tc := ⟨.hbm, 71, rfl⟩
abbrev main_while0b_c_11 : Ref sig .tc := ⟨.hbm, 72, rfl⟩
abbrev main_while0b_v50 : Ref sig .tc := ⟨.hbm, 73, rfl⟩
abbrev main_v11 : Ref sig .tc := ⟨.hbm, 74, rfl⟩
abbrev main_cst_1 : Ref sig .tc := ⟨.hbm, 75, rfl⟩
abbrev main_v12 : Ref sig .tc := ⟨.hbm, 76, rfl⟩
abbrev main_v13 : Ref sig .tc := ⟨.hbm, 77, rfl⟩
abbrev main_cst_2 : Ref sig .tc := ⟨.hbm, 78, rfl⟩
abbrev main_v14 : Ref sig .tc := ⟨.hbm, 79, rfl⟩
abbrev main_v15 : Ref sig .tc := ⟨.hbm, 80, rfl⟩
abbrev main_cst_3 : Ref sig .tc := ⟨.hbm, 81, rfl⟩
abbrev main_v16 : Ref sig .tc := ⟨.hbm, 82, rfl⟩
abbrev main_v17 : Ref sig .tc := ⟨.hbm, 83, rfl⟩
abbrev main_v18 : Ref sig .tc := ⟨.hbm, 84, rfl⟩
abbrev main_v19 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩

abbrev nD : Nat := 1
abbrev τ : Topo := Topo.v7x

variable {F : FTy → Type} [FloatOps F]

abbrev main_while0_count : Scf.Loop 32 := ⟨0#32, 8192#32, 1#32⟩
-- ==== Merge.lean ====
abbrev S8192x4096 : Shape := ⟨2, ![8192, 4096]⟩
abbrev S4096x4096 : Shape := ⟨2, ![4096, 4096]⟩
abbrev S8192x8192 : Shape := ⟨2, ![8192, 8192]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S4096x4096, .bf16⟩
  | .hbm, ⟨3, _⟩ => ⟨S4096x4096, .bf16⟩
  | .hbm, ⟨4, _⟩ => ⟨S8192x8192, .bf16⟩
  | .hbm, ⟨5, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeReferenceIdeal.lean ====
abbrev S8192x4096 : Shape := ⟨2, ![8192, 4096]⟩
abbrev S4096x4096 : Shape := ⟨2, ![4096, 4096]⟩
abbrev S8192x8192 : Shape := ⟨2, ![8192, 8192]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S4096x4096, .bf16⟩
  | .hbm, ⟨3, _⟩ => ⟨S4096x4096, .bf16⟩
  | .hbm, ⟨4, _⟩ => ⟨S8192x8192, .bf16⟩
  | .hbm, ⟨5, _⟩ => ⟨S8192x4096, .f32⟩
  | .hbm, ⟨6, _⟩ => ⟨S8192x4096, .f32⟩
  | .hbm, ⟨7, _⟩ => ⟨S8192x8192, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Out.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S512x4096 : Shape := ⟨2, ![512, 4096]⟩
abbrev S4096x1024 : Shape := ⟨2, ![4096, 1024]⟩
abbrev S512x1024 : Shape := ⟨2, ![512, 1024]⟩
abbrev S512x1 : Shape := ⟨2, ![512, 1]⟩
abbrev S512 : Shape := ⟨1, ![512]⟩

abbrev nBuf : Space → Nat
  | .hbm => 6
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S4096, .f32⟩
  | .hbm, ⟨4, _⟩ => ⟨S1x4096, .f32⟩
  | .hbm, ⟨5, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S1x4096, .f32⟩
  | .local _ .vmem, ⟨7, _⟩ => ⟨S512x4096, .f32⟩
  | .local _ .vmem, ⟨8, _⟩ => ⟨S512x4096, .f32⟩
  | .local _ .vmem, ⟨9, _⟩ => ⟨S512x1, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c1024_i32 : BitVec 32 := 1024#32
  let v8 : BitVec 32 := Scalar.muli arg1 c1024_i32
  v8
def k0_off1 (i : grid0.Coords) : Fin 2 → Nat :=
  let c0_6 : Index := 0#32
  let arg1 : BitVec 32 := BitVec.ofNat 32 (i 1).val
  let c1024_i32 : BitVec 32 := 1024#32
  let v8 : BitVec 32 := Scalar.muli arg1 c1024_i32
  let v9 : BitVec 32 := v8
  let v10 : Index := Scalar.indexCast v9
  ![0, v10.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== OutReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S4096, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Gates.lean ====
abbrev S8192x4096 : Shape := ⟨2, ![8192, 4096]⟩
abbrev S8192x8192 : Shape := ⟨2, ![8192, 8192]⟩
abbrev S1024x4096 : Shape := ⟨2, ![1024, 4096]⟩
abbrev S1024x1024 : Shape := ⟨2, ![1024, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x8192, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c64_i32 : BitVec 32 := 64#32
  let v3 : BitVec 1 := Scalar.cmpi .slt arg0 c64_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c64_i32_2 : BitVec 32 := 64#32
  let v6 : BitVec 1 := Scalar.cmpi .eq arg0 c64_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.remsi v0 c8_i32
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.remsi v1 c8_i32
  let c1_i32_0 : BitVec 32 := 1#32
  let v3 : BitVec 32 := Scalar.subi arg0 c1_i32_0
  let c0_i32_1 : BitVec 32 := 0#32
  let v4 : BitVec 32 := Scalar.maxsi v3 c0_i32_1
  let c8_i32_2 : BitVec 32 := 8#32
  let v5 : BitVec 32 := Scalar.divsi v4 c8_i32_2
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c0_i32_5 : BitVec 32 := 0#32
  let v11 : BitVec 1 := Scalar.cmpi .sgt c8_i32_2 c0_i32_5
  let v12 : BitVec 32 := Scalar.extui v11
  let c0_i32_6 : BitVec 32 := 0#32
  let v13 : BitVec 1 := Scalar.cmpi .slt c8_i32_2 c0_i32_6
  let v14 : BitVec 32 := Scalar.extui v13
  let v15 : BitVec 32 := Scalar.subi v12 v14
  let v16 : BitVec 1 := Scalar.cmpi .ne v10 v15
  let v17 : BitVec 32 := Scalar.remsi v4 c8_i32_2
  let c0_i32_7 : BitVec 32 := 0#32
  let v18 : BitVec 1 := Scalar.cmpi .ne v17 c0_i32_7
  let v19 : BitVec 1 := Scalar.andi v16 v18
  let c1_i32_8 : BitVec 32 := 1#32
  let v20 : BitVec 32 := Scalar.subi v5 c1_i32_8
  let v21 : BitVec 32 := Scalar.select v19 v20 v5
  let c0_i32_9 : BitVec 32 := 0#32
  ![v2.toNat, v21.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GatesReferenceIdeal.lean ====
abbrev S8192x4096 : Shape := ⟨2, ![8192, 4096]⟩
abbrev S8192x8192 : Shape := ⟨2, ![8192, 8192]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== PoolU.lean ====
abbrev S8192x4096 : Shape := ⟨2, ![8192, 4096]⟩
abbrev S4096x4096 : Shape := ⟨2, ![4096, 4096]⟩
abbrev S32832x4096 : Shape := ⟨2, ![32832, 4096]⟩
abbrev S1024x4096 : Shape := ⟨2, ![1024, 4096]⟩
abbrev S128x4096 : Shape := ⟨2, ![128, 4096]⟩
abbrev S1024x1024 : Shape := ⟨2, ![1024, 1024]⟩
abbrev S256x1024 : Shape := ⟨2, ![256, 1024]⟩

abbrev nBuf : Space → Nat
  | .hbm => 7
  | .vmem => 15
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S32832x4096, .f32⟩
  | .hbm, ⟨3, _⟩ => ⟨S4096x4096, .f32⟩
  | .hbm, ⟨4, _⟩ => ⟨S8192x4096, .bf16⟩
  | .hbm, ⟨5, _⟩ => ⟨S4096x4096, .bf16⟩
  | .hbm, ⟨6, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S1024x1024, .bf16⟩
  | .local _ .vmem, ⟨9, _⟩ => ⟨S1024x1024, .bf16⟩
  | .local _ .vmem, ⟨10, _⟩ => ⟨S128x4096, .bf16⟩
  | .local _ .vmem, ⟨11, _⟩ => ⟨S128x4096, .bf16⟩
  | .local _ .vmem, ⟨12, _⟩ => ⟨S128x4096, .bf16⟩
  | .local _ .vmem, ⟨13, _⟩ => ⟨S128x4096, .bf16⟩
  | .local _ .vmem, ⟨14, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![33], ![false]⟩

def k0_mult1 (i : grid0.Coords) : BitVec 32 :=
  let c4096_i32 : BitVec 32 := 4096#32
  let arg0 : BitVec 32 := BitVec.ofNat 32 (i 0).val
  let c31_i32 : BitVec 32 := 31#32
  let v0 : BitVec 32 := Scalar.minsi arg0 c31_i32
  let c128_i32 : BitVec 32 := 128#32
  let v1 : BitVec 32 := Scalar.muli v0 c128_i32
  let v2 : BitVec 32 := Scalar.addi c4096_i32 v1
  v2
def k0_mult2 (i : grid0.Coords) : BitVec 32 :=
  let c0_i32 : BitVec 32 := 0#32
  let arg0 : BitVec 32 := BitVec.ofNat 32 (i 0).val
  let c31_i32 : BitVec 32 := 31#32
  let v0 : BitVec 32 := Scalar.minsi arg0 c31_i32
  let c128_i32 : BitVec 32 := 128#32
  let v1 : BitVec 32 := Scalar.muli v0 c128_i32
  let v2 : BitVec 32 := Scalar.addi c0_i32 v1
  v2
def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.remsi v0 c8_i32
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c128_i32 : BitVec 32 := 128#32
  let v1 : BitVec 32 := Scalar.muli v0 c128_i32
  let c4096_i32 : BitVec 32 := 4096#32
  let v2 : BitVec 32 := Scalar.addi c4096_i32 v1
  let v3 : BitVec 32 := v2
  let c0_i32 : BitVec 32 := 0#32
  let c0_i32_0 : BitVec 32 := 0#32
  ![v3.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c128_i32 : BitVec 32 := 128#32
  let v1 : BitVec 32 := Scalar.muli v0 c128_i32
  let c0_i32 : BitVec 32 := 0#32
  let v2 : BitVec 32 := Scalar.addi c0_i32 v1
  let v3 : BitVec 32 := v2
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.remsi v1 c8_i32
  let c1_i32_0 : BitVec 32 := 1#32
  let v3 : BitVec 32 := Scalar.subi arg0 c1_i32_0
  let c0_i32_1 : BitVec 32 := 0#32
  let v4 : BitVec 32 := Scalar.maxsi v3 c0_i32_1
  let c8_i32_2 : BitVec 32 := 8#32
  let v5 : BitVec 32 := Scalar.divsi v4 c8_i32_2
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c0_i32_5 : BitVec 32 := 0#32
  let v11 : BitVec 1 := Scalar.cmpi .sgt c8_i32_2 c0_i32_5
  let v12 : BitVec 32 := Scalar.extui v11
  let c0_i32_6 : BitVec 32 := 0#32
  let v13 : BitVec 1 := Scalar.cmpi .slt c8_i32_2 c0_i32_6
  let v14 : BitVec 32 := Scalar.extui v13
  let v15 : BitVec 32 := Scalar.subi v12 v14
  let v16 : BitVec 1 := Scalar.cmpi .ne v10 v15
  let v17 : BitVec 32 := Scalar.remsi v4 c8_i32_2
  let c0_i32_7 : BitVec 32 := 0#32
  let v18 : BitVec 1 := Scalar.cmpi .ne v17 c0_i32_7
  let v19 : BitVec 1 := Scalar.andi v16 v18
  let c1_i32_8 : BitVec 32 := 1#32
  let v20 : BitVec 32 := Scalar.subi v5 c1_i32_8
  let v21 : BitVec 32 := Scalar.select v19 v20 v5
  let c0_i32_9 : BitVec 32 := 0#32
  ![v2.toNat, v21.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PoolUReferenceIdeal.lean ====
abbrev S8192x4096 : Shape := ⟨2, ![8192, 4096]⟩
abbrev S4096x4096 : Shape := ⟨2, ![4096, 4096]⟩
abbrev S32832x4096 : Shape := ⟨2, ![32832, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S32832x4096, .f32⟩
  | .hbm, ⟨3, _⟩ => ⟨S4096x4096, .f32⟩
  | .hbm, ⟨4, _⟩ => ⟨S8192x4096, .f32⟩
  | .hbm, ⟨5, _⟩ => ⟨S8192x4096, .bf16⟩
  | .hbm, ⟨6, _⟩ => ⟨S4096x4096, .f32⟩
  | .hbm, ⟨7, _⟩ => ⟨S4096x4096, .bf16⟩
  | .hbm, ⟨8, _⟩ => ⟨S4096x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== PoolZ.lean ====
abbrev S8192x4096 : Shape := ⟨2, ![8192, 4096]⟩
abbrev S4096x4096 : Shape := ⟨2, ![4096, 4096]⟩
abbrev S32832x4096 : Shape := ⟨2, ![32832, 4096]⟩
abbrev S1024x4096 : Shape := ⟨2, ![1024, 4096]⟩
abbrev S128x4096 : Shape := ⟨2, ![128, 4096]⟩
abbrev S1024x1024 : Shape := ⟨2, ![1024, 1024]⟩
abbrev S256x1024 : Shape := ⟨2, ![256, 1024]⟩

abbrev nBuf : Space → Nat
  | .hbm => 7
  | .vmem => 15
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S32832x4096, .f32⟩
  | .hbm, ⟨3, _⟩ => ⟨S4096x4096, .f32⟩
  | .hbm, ⟨4, _⟩ => ⟨S8192x4096, .bf16⟩
  | .hbm, ⟨5, _⟩ => ⟨S4096x4096, .bf16⟩
  | .hbm, ⟨6, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S1024x1024, .bf16⟩
  | .local _ .vmem, ⟨9, _⟩ => ⟨S1024x1024, .bf16⟩
  | .local _ .vmem, ⟨10, _⟩ => ⟨S128x4096, .bf16⟩
  | .local _ .vmem, ⟨11, _⟩ => ⟨S128x4096, .bf16⟩
  | .local _ .vmem, ⟨12, _⟩ => ⟨S128x4096, .bf16⟩
  | .local _ .vmem, ⟨13, _⟩ => ⟨S128x4096, .bf16⟩
  | .local _ .vmem, ⟨14, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![33], ![false]⟩

def k0_mult1 (i : grid0.Coords) : BitVec 32 :=
  let c8192_i32 : BitVec 32 := 8192#32
  let arg0 : BitVec 32 := BitVec.ofNat 32 (i 0).val
  let c31_i32 : BitVec 32 := 31#32
  let v0 : BitVec 32 := Scalar.minsi arg0 c31_i32
  let c128_i32 : BitVec 32 := 128#32
  let v1 : BitVec 32 := Scalar.muli v0 c128_i32
  let v2 : BitVec 32 := Scalar.addi c8192_i32 v1
  v2
def k0_mult2 (i : grid0.Coords) : BitVec 32 :=
  let c0_i32 : BitVec 32 := 0#32
  let arg0 : BitVec 32 := BitVec.ofNat 32 (i 0).val
  let c31_i32 : BitVec 32 := 31#32
  let v0 : BitVec 32 := Scalar.minsi arg0 c31_i32
  let c128_i32 : BitVec 32 := 128#32
  let v1 : BitVec 32 := Scalar.muli v0 c128_i32
  let v2 : BitVec 32 := Scalar.addi c0_i32 v1
  v2
def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.remsi v0 c8_i32
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c128_i32 : BitVec 32 := 128#32
  let v1 : BitVec 32 := Scalar.muli v0 c128_i32
  let c8192_i32 : BitVec 32 := 8192#32
  let v2 : BitVec 32 := Scalar.addi c8192_i32 v1
  let v3 : BitVec 32 := v2
  let c0_i32 : BitVec 32 := 0#32
  let c0_i32_0 : BitVec 32 := 0#32
  ![v3.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c128_i32 : BitVec 32 := 128#32
  let v1 : BitVec 32 := Scalar.muli v0 c128_i32
  let c0_i32 : BitVec 32 := 0#32
  let v2 : BitVec 32 := Scalar.addi c0_i32 v1
  let v3 : BitVec 32 := v2
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.remsi v1 c8_i32
  let c1_i32_0 : BitVec 32 := 1#32
  let v3 : BitVec 32 := Scalar.subi arg0 c1_i32_0
  let c0_i32_1 : BitVec 32 := 0#32
  let v4 : BitVec 32 := Scalar.maxsi v3 c0_i32_1
  let c8_i32_2 : BitVec 32 := 8#32
  let v5 : BitVec 32 := Scalar.divsi v4 c8_i32_2
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c0_i32_5 : BitVec 32 := 0#32
  let v11 : BitVec 1 := Scalar.cmpi .sgt c8_i32_2 c0_i32_5
  let v12 : BitVec 32 := Scalar.extui v11
  let c0_i32_6 : BitVec 32 := 0#32
  let v13 : BitVec 1 := Scalar.cmpi .slt c8_i32_2 c0_i32_6
  let v14 : BitVec 32 := Scalar.extui v13
  let v15 : BitVec 32 := Scalar.subi v12 v14
  let v16 : BitVec 1 := Scalar.cmpi .ne v10 v15
  let v17 : BitVec 32 := Scalar.remsi v4 c8_i32_2
  let c0_i32_7 : BitVec 32 := 0#32
  let v18 : BitVec 1 := Scalar.cmpi .ne v17 c0_i32_7
  let v19 : BitVec 1 := Scalar.andi v16 v18
  let c1_i32_8 : BitVec 32 := 1#32
  let v20 : BitVec 32 := Scalar.subi v5 c1_i32_8
  let v21 : BitVec 32 := Scalar.select v19 v20 v5
  let c0_i32_9 : BitVec 32 := 0#32
  ![v2.toNat, v21.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PoolZReferenceIdeal.lean ====
abbrev S8192x4096 : Shape := ⟨2, ![8192, 4096]⟩
abbrev S4096x4096 : Shape := ⟨2, ![4096, 4096]⟩
abbrev S32832x4096 : Shape := ⟨2, ![32832, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S32832x4096, .f32⟩
  | .hbm, ⟨3, _⟩ => ⟨S4096x4096, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .bf16⟩
  | .hbm, ⟨15, _⟩ => ⟨S4096x4096, .f32⟩
  | .hbm, ⟨16, _⟩ => ⟨S4096x4096, .bf16⟩
  | .hbm, ⟨17, _⟩ => ⟨S4096x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== DnZ.lean ====
abbrev S8192x4096 : Shape := ⟨2, ![8192, 4096]⟩
abbrev S4096x4096 : Shape := ⟨2, ![4096, 4096]⟩
abbrev S32832x4096 : Shape := ⟨2, ![32832, 4096]⟩
abbrev S1024x4096 : Shape := ⟨2, ![1024, 4096]⟩
abbrev S256x4096 : Shape := ⟨2, ![256, 4096]⟩
abbrev S1024x1024 : Shape := ⟨2, ![1024, 1024]⟩
abbrev S256x1024 : Shape := ⟨2, ![256, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S32832x4096, .f32⟩
  | .hbm, ⟨3, _⟩ => ⟨S8192x4096, .bf16⟩
  | .hbm, ⟨4, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S256x4096, .f32⟩
  | .local _ .vmem, ⟨5, _⟩ => ⟨S256x4096, .f32⟩
  | .local _ .vmem, ⟨6, _⟩ => ⟨S1024x1024, .bf16⟩
  | .local _ .vmem, ⟨7, _⟩ => ⟨S1024x1024, .bf16⟩
  | .local _ .vmem, ⟨8, _⟩ => ⟨S256x4096, .bf16⟩
  | .local _ .vmem, ⟨9, _⟩ => ⟨S256x4096, .bf16⟩
  | .local _ .vmem, ⟨10, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![33], ![false]⟩

def k0_mult1 (i : grid0.Coords) : BitVec 32 :=
  let c24640_i32 : BitVec 32 := 24640#32
  let arg0 : BitVec 32 := BitVec.ofNat 32 (i 0).val
  let c31_i32 : BitVec 32 := 31#32
  let v0 : BitVec 32 := Scalar.minsi arg0 c31_i32
  let c256_i32 : BitVec 32 := 256#32
  let v1 : BitVec 32 := Scalar.muli v0 c256_i32
  let v2 : BitVec 32 := Scalar.addi c24640_i32 v1
  v2
def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.remsi v0 c8_i32
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c256_i32 : BitVec 32 := 256#32
  let v1 : BitVec 32 := Scalar.muli v0 c256_i32
  let c24640_i32 : BitVec 32 := 24640#32
  let v2 : BitVec 32 := Scalar.addi c24640_i32 v1
  let v3 : BitVec 32 := v2
  let c0_i32 : BitVec 32 := 0#32
  let c0_i32_0 : BitVec 32 := 0#32
  ![v3.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.remsi v1 c8_i32
  let c1_i32_0 : BitVec 32 := 1#32
  let v3 : BitVec 32 := Scalar.subi arg0 c1_i32_0
  let c0_i32_1 : BitVec 32 := 0#32
  let v4 : BitVec 32 := Scalar.maxsi v3 c0_i32_1
  let c8_i32_2 : BitVec 32 := 8#32
  let v5 : BitVec 32 := Scalar.divsi v4 c8_i32_2
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c0_i32_5 : BitVec 32 := 0#32
  let v11 : BitVec 1 := Scalar.cmpi .sgt c8_i32_2 c0_i32_5
  let v12 : BitVec 32 := Scalar.extui v11
  let c0_i32_6 : BitVec 32 := 0#32
  let v13 : BitVec 1 := Scalar.cmpi .slt c8_i32_2 c0_i32_6
  let v14 : BitVec 32 := Scalar.extui v13
  let v15 : BitVec 32 := Scalar.subi v12 v14
  let v16 : BitVec 1 := Scalar.cmpi .ne v10 v15
  let v17 : BitVec 32 := Scalar.remsi v4 c8_i32_2
  let c0_i32_7 : BitVec 32 := 0#32
  let v18 : BitVec 1 := Scalar.cmpi .ne v17 c0_i32_7
  let v19 : BitVec 1 := Scalar.andi v16 v18
  let c1_i32_8 : BitVec 32 := 1#32
  let v20 : BitVec 32 := Scalar.subi v5 c1_i32_8
  let v21 : BitVec 32 := Scalar.select v19 v20 v5
  let c0_i32_9 : BitVec 32 := 0#32
  ![v2.toNat, v21.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DnZReferenceIdeal.lean ====
abbrev S8192x4096 : Shape := ⟨2, ![8192, 4096]⟩
abbrev S4096x4096 : Shape := ⟨2, ![4096, 4096]⟩
abbrev S32832x4096 : Shape := ⟨2, ![32832, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S32832x4096, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .bf16⟩
  | .hbm, ⟨14, _⟩ => ⟨S8192x4096, .f32⟩
  | .hbm, ⟨15, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== V.lean ====
abbrev S8192x4096 : Shape := ⟨2, ![8192, 4096]⟩
abbrev S4096x4096 : Shape := ⟨2, ![4096, 4096]⟩
abbrev S4x12288 : Shape := ⟨2, ![4, 12288]⟩
abbrev S32832x4096 : Shape := ⟨2, ![32832, 4096]⟩
abbrev S1024x4096 : Shape := ⟨2, ![1024, 4096]⟩
abbrev S4x1024 : Shape := ⟨2, ![4, 1024]⟩
abbrev S128x4096 : Shape := ⟨2, ![128, 4096]⟩
abbrev S1024x1024 : Shape := ⟨2, ![1024, 1024]⟩
abbrev S8x1024 : Shape := ⟨2, ![8, 1024]⟩
abbrev S256x1024 : Shape := ⟨2, ![256, 1024]⟩
abbrev S264x1024 : Shape := ⟨2, ![264, 1024]⟩
abbrev S1x1024 : Shape := ⟨2, ![1, 1024]⟩
abbrev S256 : Shape := ⟨1, ![256]⟩
abbrev S256x1 : Shape := ⟨2, ![256, 1]⟩

abbrev nBuf : Space → Nat
  | .hbm => 6
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S4x12288, .f32⟩
  | .hbm, ⟨3, _⟩ => ⟨S32832x4096, .f32⟩
  | .hbm, ⟨4, _⟩ => ⟨S8192x4096, .bf16⟩
  | .hbm, ⟨5, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S4x1024, .f32⟩
  | .local _ .vmem, ⟨5, _⟩ => ⟨S4x1024, .f32⟩
  | .local _ .vmem, ⟨6, _⟩ => ⟨S128x4096, .f32⟩
  | .local _ .vmem, ⟨7, _⟩ => ⟨S128x4096, .f32⟩
  | .local _ .vmem, ⟨8, _⟩ => ⟨S1024x1024, .bf16⟩
  | .local _ .vmem, ⟨9, _⟩ => ⟨S1024x1024, .bf16⟩
  | .local _ .vmem, ⟨10, _⟩ => ⟨S128x4096, .bf16⟩
  | .local _ .vmem, ⟨11, _⟩ => ⟨S128x4096, .bf16⟩
  | .local _ .vmem, ⟨12, _⟩ => ⟨S1024x1024, .f32⟩
  | .local _ .vmem, ⟨13, _⟩ => ⟨S8x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![33], ![false]⟩

def k0_mult1 (i : grid0.Coords) : BitVec 32 :=
  let c20480_i32 : BitVec 32 := 20480#32
  let arg0 : BitVec 32 := BitVec.ofNat 32 (i 0).val
  let c31_i32 : BitVec 32 := 31#32
  let v0 : BitVec 32 := Scalar.minsi arg0 c31_i32
  let c128_i32 : BitVec 32 := 128#32
  let v1 : BitVec 32 := Scalar.muli v0 c128_i32
  let v2 : BitVec 32 := Scalar.addi c20480_i32 v1
  v2
def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.remsi v0 c8_i32
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let v19 : BitVec 32 := Scalar.addi c8_i32_6 v18
  let c0_i32_7 : BitVec 32 := 0#32
  let c0_i32_8 : BitVec 32 := 0#32
  ![c0_i32_7.toNat, v19.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c128_i32 : BitVec 32 := 128#32
  let v1 : BitVec 32 := Scalar.muli v0 c128_i32
  let c20480_i32 : BitVec 32 := 20480#32
  let v2 : BitVec 32 := Scalar.addi c20480_i32 v1
  let v3 : BitVec 32 := v2
  let c0_i32 : BitVec 32 := 0#32
  let c0_i32_0 : BitVec 32 := 0#32
  ![v3.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.remsi v1 c8_i32
  let c1_i32_0 : BitVec 32 := 1#32
  let v3 : BitVec 32 := Scalar.subi arg0 c1_i32_0
  let c0_i32_1 : BitVec 32 := 0#32
  let v4 : BitVec 32 := Scalar.maxsi v3 c0_i32_1
  let c8_i32_2 : BitVec 32 := 8#32
  let v5 : BitVec 32 := Scalar.divsi v4 c8_i32_2
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c0_i32_5 : BitVec 32 := 0#32
  let v11 : BitVec 1 := Scalar.cmpi .sgt c8_i32_2 c0_i32_5
  let v12 : BitVec 32 := Scalar.extui v11
  let c0_i32_6 : BitVec 32 := 0#32
  let v13 : BitVec 1 := Scalar.cmpi .slt c8_i32_2 c0_i32_6
  let v14 : BitVec 32 := Scalar.extui v13
  let v15 : BitVec 32 := Scalar.subi v12 v14
  let v16 : BitVec 1 := Scalar.cmpi .ne v10 v15
  let v17 : BitVec 32 := Scalar.remsi v4 c8_i32_2
  let c0_i32_7 : BitVec 32 := 0#32
  let v18 : BitVec 1 := Scalar.cmpi .ne v17 c0_i32_7
  let v19 : BitVec 1 := Scalar.andi v16 v18
  let c1_i32_8 : BitVec 32 := 1#32
  let v20 : BitVec 32 := Scalar.subi v5 c1_i32_8
  let v21 : BitVec 32 := Scalar.select v19 v20 v5
  let c0_i32_9 : BitVec 32 := 0#32
  ![v2.toNat, v21.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== VReferenceIdeal.lean ====
abbrev S8192x4096 : Shape := ⟨2, ![8192, 4096]⟩
abbrev S4096x4096 : Shape := ⟨2, ![4096, 4096]⟩
abbrev S4x12288 : Shape := ⟨2, ![4, 12288]⟩
abbrev S32832x4096 : Shape := ⟨2, ![32832, 4096]⟩
abbrev S4x4096 : Shape := ⟨2, ![4, 4096]⟩
abbrev S_ : Shape := ⟨0, ![]⟩
abbrev S8195x4096 : Shape := ⟨2, ![8195, 4096]⟩
abbrev S1x4096 : Shape := ⟨2, ![1, 4096]⟩
abbrev S4096 : Shape := ⟨1, ![4096]⟩

abbrev nBuf : Space → Nat
  | .hbm => 51
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S4x12288, .f32⟩
  | .hbm, ⟨3, _⟩ => ⟨S32832x4096, .f32⟩
  | .hbm, ⟨4, _⟩ => ⟨S8192x4096, .f32⟩
  | .hbm, ⟨5, _⟩ => ⟨S4x4096, .f32⟩
  | .hbm, ⟨6, _⟩ => ⟨S_, .i32⟩
  | .hbm, ⟨7, _⟩ => ⟨S_, .f32⟩
  | .hbm, ⟨8, _⟩ => ⟨S8195x4096, .f32⟩
  | .hbm, ⟨9, _⟩ => ⟨S1x4096, .f32⟩
  | .hbm, ⟨10, _⟩ => ⟨S4096, .f32⟩
  | .hbm, ⟨11, _⟩ => ⟨S8192x4096, .f32⟩
  | .hbm, ⟨12, _⟩ => ⟨S1x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S4096, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S1x4096, .f32⟩
  | .hbm, ⟨26, _⟩ => ⟨S4096, .f32⟩
  | .hbm, ⟨27, _⟩ => ⟨S8192x4096, .f32⟩
  | .hbm, ⟨28, _⟩ => ⟨S1x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S1x4096, .f32⟩
  | .hbm, ⟨33, _⟩ => ⟨S4096, .f32⟩
  | .hbm, ⟨34, _⟩ => ⟨S8192x4096, .f32⟩
  | .hbm, ⟨35, _⟩ => ⟨S1x4096, .f32⟩
  | .hbm, ⟨36, _⟩ => ⟨S8192x4096, .f32⟩
  | .hbm, ⟨37, _⟩ => ⟨S8192x4096, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S_, .f32⟩
  | .hbm, ⟨42, _⟩ => ⟨S8192x4096, .f32⟩
  | .hbm, ⟨43, _⟩ => ⟨S8192x4096, .f32⟩
  | .hbm, ⟨44, _⟩ => ⟨S_, .f32⟩
  | .hbm, ⟨45, _⟩ => ⟨S8192x4096, .f32⟩
  | .hbm, ⟨46, _⟩ => ⟨S8192x4096, .f32⟩
  | .hbm, ⟨47, _⟩ => ⟨S8192x4096, .f32⟩
  | .hbm, ⟨48, _⟩ => ⟨S8192x4096, .bf16⟩
  | .hbm, ⟨49, _⟩ => ⟨S4096x4096, .f32⟩
  | .hbm, ⟨50, _⟩ => ⟨S4096x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== Q.lean ====
abbrev S8192x4096 : Shape := ⟨2, ![8192, 4096]⟩
abbrev S4096x4096 : Shape := ⟨2, ![4096, 4096]⟩
abbrev S4x12288 : Shape := ⟨2, ![4, 12288]⟩
abbrev S32832x4096 : Shape := ⟨2, ![32832, 4096]⟩
abbrev S1024x4096 : Shape := ⟨2, ![1024, 4096]⟩
abbrev S4x1024 : Shape := ⟨2, ![4, 1024]⟩
abbrev S128x4096 : Shape := ⟨2, ![128, 4096]⟩
abbrev S1024x1024 : Shape := ⟨2, ![1024, 1024]⟩
abbrev S8x1024 : Shape := ⟨2, ![8, 1024]⟩
abbrev S256x1024 : Shape := ⟨2, ![256, 1024]⟩
abbrev S264x1024 : Shape := ⟨2, ![264, 1024]⟩
abbrev S1x1024 : Shape := ⟨2, ![1, 1024]⟩
abbrev S256x128 : Shape := ⟨2, ![256, 128]⟩
abbrev S256 : Shape := ⟨1, ![256]⟩
abbrev S256x1 : Shape := ⟨2, ![256, 1]⟩

abbrev nBuf : Space → Nat
  | .hbm => 8
  | .vmem => 18
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S4x12288, .f32⟩
  | .hbm, ⟨3, _⟩ => ⟨S32832x4096, .f32⟩
  | .hbm, ⟨4, _⟩ => ⟨S4096x4096, .f32⟩
  | .hbm, ⟨5, _⟩ => ⟨S8192x4096, .bf16⟩
  | .hbm, ⟨6, _⟩ => ⟨S4096x4096, .bf16⟩
  | .hbm, ⟨7, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S4x1024, .f32⟩
  | .local _ .vmem, ⟨5, _⟩ => ⟨S4x1024, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S1024x1024, .bf16⟩
  | .local _ .vmem, ⟨11, _⟩ => ⟨S1024x1024, .bf16⟩
  | .local _ .vmem, ⟨12, _⟩ => ⟨S128x4096, .bf16⟩
  | .local _ .vmem, ⟨13, _⟩ => ⟨S128x4096, .bf16⟩
  | .local _ .vmem, ⟨14, _⟩ => ⟨S128x4096, .bf16⟩
  | .local _ .vmem, ⟨15, _⟩ => ⟨S128x4096, .bf16⟩
  | .local _ .vmem, ⟨16, _⟩ => ⟨S1024x1024, .f32⟩
  | .local _ .vmem, ⟨17, _⟩ => ⟨S8x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![33], ![false]⟩

def k0_mult1 (i : grid0.Coords) : BitVec 32 :=
  let c12288_i32 : BitVec 32 := 12288#32
  let arg0 : BitVec 32 := BitVec.ofNat 32 (i 0).val
  let c31_i32 : BitVec 32 := 31#32
  let v0 : BitVec 32 := Scalar.minsi arg0 c31_i32
  let c128_i32 : BitVec 32 := 128#32
  let v1 : BitVec 32 := Scalar.muli v0 c128_i32
  let v2 : BitVec 32 := Scalar.addi c12288_i32 v1
  v2
def k0_mult2 (i : grid0.Coords) : BitVec 32 :=
  let c0_i32 : BitVec 32 := 0#32
  let arg0 : BitVec 32 := BitVec.ofNat 32 (i 0).val
  let c31_i32 : BitVec 32 := 31#32
  let v0 : BitVec 32 := Scalar.minsi arg0 c31_i32
  let c128_i32 : BitVec 32 := 128#32
  let v1 : BitVec 32 := Scalar.muli v0 c128_i32
  let v2 : BitVec 32 := Scalar.addi c0_i32 v1
  v2
def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.remsi v0 c8_i32
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let v19 : BitVec 32 := Scalar.addi c0_i32_6 v18
  let c0_i32_7 : BitVec 32 := 0#32
  let c0_i32_8 : BitVec 32 := 0#32
  ![c0_i32_7.toNat, v19.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c128_i32 : BitVec 32 := 128#32
  let v1 : BitVec 32 := Scalar.muli v0 c128_i32
  let c12288_i32 : BitVec 32 := 12288#32
  let v2 : BitVec 32 := Scalar.addi c12288_i32 v1
  let v3 : BitVec 32 := v2
  let c0_i32 : BitVec 32 := 0#32
  let c0_i32_0 : BitVec 32 := 0#32
  ![v3.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c128_i32 : BitVec 32 := 128#32
  let v1 : BitVec 32 := Scalar.muli v0 c128_i32
  let c0_i32 : BitVec 32 := 0#32
  let v2 : BitVec 32 := Scalar.addi c0_i32 v1
  let v3 : BitVec 32 := v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.remsi v1 c8_i32
  let c1_i32_0 : BitVec 32 := 1#32
  let v3 : BitVec 32 := Scalar.subi arg0 c1_i32_0
  let c0_i32_1 : BitVec 32 := 0#32
  let v4 : BitVec 32 := Scalar.maxsi v3 c0_i32_1
  let c8_i32_2 : BitVec 32 := 8#32
  let v5 : BitVec 32 := Scalar.divsi v4 c8_i32_2
  let c0_i32_3 : BitVec 32 := 0#32
  let v6 : BitVec 1 := Scalar.cmpi .sgt v4 c0_i32_3
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c0_i32_5 : BitVec 32 := 0#32
  let v11 : BitVec 1 := Scalar.cmpi .sgt c8_i32_2 c0_i32_5
  let v12 : BitVec 32 := Scalar.extui v11
  let c0_i32_6 : BitVec 32 := 0#32
  let v13 : BitVec 1 := Scalar.cmpi .slt c8_i32_2 c0_i32_6
  let v14 : BitVec 32 := Scalar.extui v13
  let v15 : BitVec 32 := Scalar.subi v12 v14
  let v16 : BitVec 1 := Scalar.cmpi .ne v10 v15
  let v17 : BitVec 32 := Scalar.remsi v4 c8_i32_2
  let c0_i32_7 : BitVec 32 := 0#32
  let v18 : BitVec 1 := Scalar.cmpi .ne v17 c0_i32_7
  let v19 : BitVec 1 := Scalar.andi v16 v18
  let c1_i32_8 : BitVec 32 := 1#32
  let v20 : BitVec 32 := Scalar.subi v5 c1_i32_8
  let v21 : BitVec 32 := Scalar.select v19 v20 v5
  let c0_i32_9 : BitVec 32 := 0#32
  ![v2.toNat, v21.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QReferenceIdeal.lean ====
abbrev S8192x4096 : Shape := ⟨2, ![8192, 4096]⟩
abbrev S4096x4096 : Shape := ⟨2, ![4096, 4096]⟩
abbrev S4x12288 : Shape := ⟨2, ![4, 12288]⟩
abbrev S32832x4096 : Shape := ⟨2, ![32832, 4096]⟩
abbrev S4x4096 : Shape := ⟨2, ![4, 4096]⟩
abbrev S_ : Shape := ⟨0, ![]⟩
abbrev S8195x4096 : Shape := ⟨2, ![8195, 4096]⟩
abbrev S1x4096 : Shape := ⟨2, ![1, 4096]⟩
abbrev S4096 : Shape := ⟨1, ![4096]⟩
abbrev S8192x32x128 : Shape := ⟨3, ![8192, 32, 128]⟩
abbrev S8192x32 : Shape := ⟨2, ![8192, 32]⟩
abbrev S8192x32x1 : Shape := ⟨3, ![8192, 32, 1]⟩

abbrev nBuf : Space → Nat
  | .hbm => 68
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S4x12288, .f32⟩
  | .hbm, ⟨3, _⟩ => ⟨S32832x4096, .f32⟩
  | .hbm, ⟨4, _⟩ => ⟨S4096x4096, .f32⟩
  | .hbm, ⟨5, _⟩ => ⟨S8192x4096, .f32⟩
  | .hbm, ⟨6, _⟩ => ⟨S4x4096, .f32⟩
  | .hbm, ⟨7, _⟩ => ⟨S_, .i32⟩
  | .hbm, ⟨8, _⟩ => ⟨S_, .f32⟩
  | .hbm, ⟨9, _⟩ => ⟨S8195x4096, .f32⟩
  | .hbm, ⟨10, _⟩ => ⟨S1x4096, .f32⟩
  | .hbm, ⟨11, _⟩ => ⟨S4096, .f32⟩
  | .hbm, ⟨12, _⟩ => ⟨S8192x4096, .f32⟩
  | .hbm, ⟨13, _⟩ => ⟨S1x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S4096, .f32⟩
  | .hbm, ⟨21, _⟩ => ⟨S8192x4096, .f32⟩
  | .hbm, ⟨22, _⟩ => ⟨S1x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S1x4096, .f32⟩
  | .hbm, ⟨27, _⟩ => ⟨S4096, .f32⟩
  | .hbm, ⟨28, _⟩ => ⟨S8192x4096, .f32⟩
  | .hbm, ⟨29, _⟩ => ⟨S1x4096, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S1x4096, .f32⟩
  | .hbm, ⟨34, _⟩ => ⟨S4096, .f32⟩
  | .hbm, ⟨35, _⟩ => ⟨S8192x4096, .f32⟩
  | .hbm, ⟨36, _⟩ => ⟨S1x4096, .f32⟩
  | .hbm, ⟨37, _⟩ => ⟨S8192x4096, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S_, .f32⟩
  | .hbm, ⟨43, _⟩ => ⟨S8192x4096, .f32⟩
  | .hbm, ⟨44, _⟩ => ⟨S8192x4096, .f32⟩
  | .hbm, ⟨45, _⟩ => ⟨S_, .f32⟩
  | .hbm, ⟨46, _⟩ => ⟨S8192x4096, .f32⟩
  | .hbm, ⟨47, _⟩ => ⟨S8192x4096, .f32⟩
  | .hbm, ⟨48, _⟩ => ⟨S8192x4096, .f32⟩
  | .hbm, ⟨49, _⟩ => ⟨S8192x32x128, .f32⟩
  | .hbm, ⟨50, _⟩ => ⟨S8192x32x128, .f32⟩
  | .hbm, ⟨51, _⟩ => ⟨S_, .f32⟩
  | .hbm, ⟨52, _⟩ => ⟨S8192x32, .f32⟩
  | .hbm, ⟨53, _⟩ => ⟨S8192x32x1, .f32⟩
  | .hbm, ⟨54, _⟩ => ⟨S_, .f32⟩
  | .hbm, ⟨55, _⟩ => ⟨S8192x32x1, .f32⟩
  | .hbm, ⟨56, _⟩ => ⟨S8192x32x1, .f32⟩
  | .hbm, ⟨57, _⟩ => ⟨S8192x32x1, .f32⟩
  | .hbm, ⟨58, _⟩ => ⟨S8192x32x128, .f32⟩
  | .hbm, ⟨59, _⟩ => ⟨S8192x32x128, .f32⟩
  | .hbm, ⟨60, _⟩ => ⟨S8192x4096, .f32⟩
  | .hbm, ⟨61, _⟩ => ⟨S_, .f32⟩
  | .hbm, ⟨62, _⟩ => ⟨S8192x4096, .f32⟩
  | .hbm, ⟨63, _⟩ => ⟨S8192x4096, .f32⟩
  | .hbm, ⟨64, _⟩ => ⟨S8192x4096, .bf16⟩
  | .hbm, ⟨65, _⟩ => ⟨S4096x4096, .f32⟩
  | .hbm, ⟨66, _⟩ => ⟨S4096x4096, .bf16⟩
  | .hbm, ⟨67, _⟩ => ⟨S4096x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_0 : Ref sig .tc := ⟨.hbm, 51, rfl⟩
abbrev main_v35 : Ref sig .tc := ⟨.hbm, 52, rfl⟩
abbrev main_v36 : Ref sig .tc := ⟨.hbm, 53, rfl⟩
abbrev main_cst_1 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_2 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== Proof.Words.lean ====
/- The body of the gated DeltaNet call as a few named functions of one chunk of one head, for any float values: what the
   128 rows of queries, keys and values, their gates and decays, and the state before them become. -/
module

public import proofs.«01_k».proof.Proof.Gen.KernelIdeal.Skeleton
public import Idealize.ShloMosaic.Lib.Pipeline.Value

@[expose] public section

set_option synthInstance.maxSize 4096

noncomputable section

namespace Cert.KernelIdeal.Words

open Idealize.ShloMosaic Idealize.SL.Sem Cert.KernelIdeal.Gen

variable {F : FTy → Type} [FloatOps F]

/-- The zero matrix of a chunk. -/
def zero : FVec F S128x128 .f32 := broadcast S128x128 (Scalar.ofBits .f32 0x00000000#32)
/-- The row's number, at every index. -/
def rowI : IVec S128x128 32 := iota .tc S128x128 32 [0] iota_S128x128_d0_w32
/-- The column's number, at every index. -/
def colI : IVec S128x128 32 := iota .tc S128x128 32 [1] iota_S128x128_d1_w32
/-- On and below the diagonal. -/
def low : IVec S128x128 1 := cmpi .sle colI rowI
/-- Below the diagonal. -/
def slow : IVec S128x128 1 := cmpi .slt colI rowI
/-- In one diagonal block of `2 ^ s` rows. -/
def same (s : BitVec 32) : IVec S128x128 1 :=
  cmpi .eq (shrsi rowI (broadcast S128x128 s)) (shrsi colI (broadcast S128x128 s))
/-- In one diagonal block of the larger size and in two of the smaller one. -/
def between (s s' : BitVec 32) : IVec S128x128 1 :=
  andi (same s') (cmpi .ne (shrsi rowI (broadcast S128x128 s)) (shrsi colI (broadcast S128x128 s)))
/-- The lanes turned so that the step's first head stands in lane 0. -/
def turn (i : grid0.Coords) (x : Vec F S256x128 .f32) : FVec F S256x128 .f32 :=
  dynamicRotate 1 (Scalar.remsi (Scalar.subi 128#32 (Scalar.muli (BitVec.ofNat 32 (i 0).val) 8#32)) 128#32) none x
    rotates_S256x128_d1
/-- A column of 128 rows of the turned lanes. -/
def lane (o : Fin 2 → ℕ) (ho : S256x128.Slices o S128x1) (i : grid0.Coords) (x : Vec F S256x128 .f32) : FVec F S128x1 .f32 :=
  extractStridedSlice S128x1 o (turn i x) ho
/-- A column at every index of its row. -/
def wideC (x : FVec F S128x1 .f32) : FVec F S128x128 .f32 := broadcastTo S128x128 x broadcasts_S128x1_S128x128
/-- A bf16 block as f32. -/
def up (x : Vec F S128x128 .bf16) : FVec F S128x128 .f32 := extf .f32 x bitsLt_bf16_f32
/-- An f32 block as bf16. -/
def dn (x : FVec F S128x128 .f32) : FVec F S128x128 .bf16 := truncf .bf16 x bitsLt_bf16_f32
/-- The products of two blocks, the operands rounded to bf16. -/
def mm (a b : FVec F S128x128 .f32) : FVec F S128x128 .f32 :=
  matmul dot_S128x128_S128x128_S128x128_1_0_0_1_n_n none (dn a) (dn b) (constant S128x128 .f32 0x00000000#32)
/-- The decays between two rows of the chunk. -/
def decay (g : FVec F S128x1 .f32) (row : FVec F S1x128 .f32) : FVec F S128x128 .f32 :=
  select low (exp (select low (subf (wideC g) (broadcastTo S128x128 row broadcasts_S1x128_S128x128)) zero)) zero
/-- The gated keys and the queries against the keys. -/
def kq (kb q k : FVec F S128x128 .f32) : FVec F S256x128 .f32 :=
  matmul dot_S256x128_S128x128_S256x128_1_1_0_0_n_n none
    (truncf .bf16 (concatenate S256x128 0 [⟨S128x128, kb⟩, ⟨S128x128, q⟩] concatenates_S128x128_S128x128_S256x128_d0) bitsLt_bf16_f32)
    (dn k) (constant S256x128 .f32 0x00000000#32)
/-- The strictly lower triangular matrix of the chunk. -/
def amat (kq : FVec F S256x128 .f32) (d : FVec F S128x128 .f32) : FVec F S128x128 .f32 :=
  select slow (mulf (extractStridedSlice S128x128 ![0, 0] kq slices_S256x128_o0_0_S128x128) d) zero
/-- The decayed products of queries and keys. -/
def qk (kq : FVec F S256x128 .f32) (d : FVec F S128x128 .f32) : FVec F S128x128 .f32 :=
  select low (mulf (extractStridedSlice S128x128 ![128, 0] kq slices_S256x128_o128_0_S128x128) d) zero
/-- Minus the part in the diagonal blocks of sixteen. -/
def negb (a : FVec F S128x128 .f32) : FVec F S128x128 .f32 := select (same 4#32) (subf zero a) zero
/-- The sum of the eight groups of sixteen rows. -/
def fold (b : FVec F S128x128 .f32) : FVec F S16x128 .f32 :=
  addf (addf (addf (addf (addf (addf (addf (extractStridedSlice S16x128 ![0, 0] b slices_S128x128_o0_0_S16x128)
    (extractStridedSlice S16x128 ![16, 0] b slices_S128x128_o16_0_S16x128))
    (extractStridedSlice S16x128 ![32, 0] b slices_S128x128_o32_0_S16x128))
    (extractStridedSlice S16x128 ![48, 0] b slices_S128x128_o48_0_S16x128))
    (extractStridedSlice S16x128 ![64, 0] b slices_S128x128_o64_0_S16x128))
    (extractStridedSlice S16x128 ![80, 0] b slices_S128x128_o80_0_S16x128))
    (extractStridedSlice S16x128 ![96, 0] b slices_S128x128_o96_0_S16x128))
    (extractStridedSlice S16x128 ![112, 0] b slices_S128x128_o112_0_S16x128)
/-- A folded matrix in its diagonal blocks. -/
def open16 (w : FVec F S16x128 .f32) : FVec F S128x128 .f32 :=
  select (same 4#32) (concatenate S128x128 0
    [⟨S16x128, w⟩, ⟨S16x128, w⟩, ⟨S16x128, w⟩, ⟨S16x128, w⟩, ⟨S16x128, w⟩, ⟨S16x128, w⟩, ⟨S16x128, w⟩, ⟨S16x128, w⟩]
    concatenates_S16x128_S16x128_S16x128_S16x128_S16x128_S16x128_S16x128_S16x128_S128x128_d0) zero
/-- The folded identity. -/
def eye : FVec F S16x128 .f32 :=
  select (cmpi .eq (andi (iota .tc S16x128 32 [1] iota_S16x128_d1_w32) (broadcast S16x128 15#32))
    (iota .tc S16x128 32 [0] iota_S16x128_d0_w32))
    (broadcast S16x128 (Scalar.ofBits .f32 0x3F800000#32)) (broadcast S16x128 (Scalar.ofBits .f32 0x00000000#32))
/-- A folded matrix times a matrix. -/
def mw (w : FVec F S16x128 .f32) (d : FVec F S128x128 .f32) : FVec F S16x128 .f32 :=
  matmul dot_S16x128_S128x128_S16x128_1_0_0_1_n_n none (truncf .bf16 w bitsLt_bf16_f32) (dn d)
    (constant S16x128 .f32 0x00000000#32)
/-- The square of the blocks, folded. -/
def w2 (b : FVec F S128x128 .f32) : FVec F S16x128 .f32 := mw (fold b) b
/-- The fourth power, folded. -/
def w4 (b : FVec F S128x128 .f32) : FVec F S16x128 .f32 := mw (w2 b) (open16 (w2 b))
/-- The eighth power, folded. -/
def w8 (b : FVec F S128x128 .f32) : FVec F S16x128 .f32 := mw (w4 b) (open16 (w4 b))
/-- The first four terms of the power series, folded. -/
def t4 (b : FVec F S128x128 .f32) : FVec F S16x128 .f32 := addf (addf (addf eye (fold b)) (w2 b)) (mw (w2 b) b)
/-- The first eight terms. -/
def t8 (b : FVec F S128x128 .f32) : FVec F S16x128 .f32 := addf (t4 b) (mw (t4 b) (open16 (w4 b)))
/-- All sixteen terms. -/
def t16 (b : FVec F S128x128 .f32) : FVec F S16x128 .f32 := addf (t8 b) (mw (t8 b) (open16 (w8 b)))
/-- One doubling of the block size. -/
def dbl (s s' : BitVec 32) (a t : FVec F S128x128 .f32) : FVec F S128x128 .f32 :=
  subf t (mm t (mm (select (between s s') a zero) t))
/-- The inverse of the unit lower triangular matrix. -/
def tmat (a : FVec F S128x128 .f32) : FVec F S128x128 .f32 :=
  dbl 6#32 7#32 a (dbl 5#32 6#32 a (dbl 4#32 5#32 a (open16 (t16 (negb a)))))
/-- The inverse against the gated values and the gated, decayed keys. -/
def sol (t v kb : FVec F S128x128 .f32) (b e : FVec F S128x1 .f32) : FVec F S128x256 .f32 :=
  matmul dot_S128x128_S128x256_S128x256_1_0_0_1_n_n none (dn t)
    (truncf .bf16 (concatenate S128x256 1 [⟨S128x128, mulf v (wideC b)⟩, ⟨S128x128, mulf kb (wideC e)⟩]
      concatenates_S128x128_S128x128_S128x256_d1) bitsLt_bf16_f32)
    (constant S128x256 .f32 0x00000000#32)
/-- The solved keys and the decayed queries against the state. -/
def ws (sol : FVec F S128x256 .f32) (qg s : FVec F S128x128 .f32) : FVec F S256x128 .f32 :=
  matmul dot_S256x128_S128x128_S256x128_1_0_0_1_n_n none
    (truncf .bf16 (concatenate S256x128 0 [⟨S128x128, extractStridedSlice S128x128 ![0, 128] sol slices_S128x256_o0_128_S128x128⟩,
      ⟨S128x128, qg⟩] concatenates_S128x128_S128x128_S256x128_d0) bitsLt_bf16_f32)
    (dn s) (constant S256x128 .f32 0x00000000#32)
/-- The corrected values. -/
def vnew (sol : FVec F S128x256 .f32) (ws : FVec F S256x128 .f32) : FVec F S128x128 .f32 :=
  subf (extractStridedSlice S128x128 ![0, 0] sol slices_S128x256_o0_0_S128x128)
    (extractStridedSlice S128x128 ![0, 0] ws slices_S256x128_o0_0_S128x128)
/-- The chunk's rows against the state and against the rows before them. -/
def oo (ws : FVec F S256x128 .f32) (qk vn : FVec F S128x128 .f32) : FVec F S128x128 .f32 :=
  addf (extractStridedSlice S128x128 ![128, 0] ws slices_S256x128_o128_0_S128x128) (mm qk vn)
/-- The state after the chunk. -/
def snew (s : FVec F S128x128 .f32) (e : FVec F S128x1 .f32) (kd vn : FVec F S128x128 .f32) : FVec F S128x128 .f32 :=
  addf (mulf s (broadcastTo S128x128 (extractStridedSlice S1x1 ![127, 0] e slices_S128x1_o127_0_S1x1) broadcasts_S1x1_S128x128))
    (matmul dot_S128x128_S128x128_S128x128_0_0_1_1_n_n none (dn kd) (dn vn) (constant S128x128 .f32 0x00000000#32))
/-- The normalized, scaled and gated rows. -/
def norm (o : FVec F S128x128 .f32) (hn : FVec F S1x128 .f32) (z : Vec F S128x128 .bf16) : FVec F S128x128 .bf16 :=
  truncf .bf16 (mulf (mulf (mulf o (wideC (rsqrt (addf (divf
    (shapeCast S128x1 (multiReduction .add [1] S128 (mulf o o) 0x00000000#32 reduces_S128x128_S128 (.inl rfl) rfl) shapeCasts_S128_S128x1)
    (broadcast S128x1 (Scalar.ofBits .f32 0x43000000#32))) (broadcast S128x1 (Scalar.ofBits .f32 0x358637BD#32))))))
    (broadcastTo S128x128 (shapeCast S1x128 hn shapeCasts_S1x128_S1x128) broadcasts_S1x128_S128x128)) (up z)) bitsLt_bf16_f32

/-- The solved values and keys of a chunk. -/
def solC (q k v : Vec F S128x128 .bf16) (b g e : FVec F S128x1 .f32) (row : FVec F S1x128 .f32) : FVec F S128x256 .f32 :=
  sol (tmat (amat (kq (mulf (up k) (wideC b)) (up q) (up k)) (decay g row))) (up v) (mulf (up k) (wideC b)) b e
/-- The state's part of a chunk. -/
def wsC (q k v : Vec F S128x128 .bf16) (b g e : FVec F S128x1 .f32) (row : FVec F S1x128 .f32) (s : FVec F S128x128 .f32) :
    FVec F S256x128 .f32 :=
  ws (solC q k v b g e row) (mulf (up q) (wideC e)) s
/-- The corrected values of a chunk. -/
def vnC (q k v : Vec F S128x128 .bf16) (b g e : FVec F S128x1 .f32) (row : FVec F S1x128 .f32) (s : FVec F S128x128 .f32) :
    FVec F S128x128 .f32 :=
  vnew (solC q k v b g e row) (wsC q k v b g e row s)
/-- The rows of a chunk before they are normalized. -/
def outC (q k v : Vec F S128x128 .bf16) (b g e : FVec F S128x1 .f32) (row : FVec F S1x128 .f32) (s : FVec F S128x128 .f32) :
    FVec F S128x128 .f32 :=
  oo (wsC q k v b g e row s) (qk (kq (mulf (up k) (wideC b)) (up q) (up k)) (decay g row)) (vnC q k v b g e row s)
/-- The state after a chunk. -/
def stC (q k v : Vec F S128x128 .bf16) (b g e kd : FVec F S128x1 .f32) (row : FVec F S1x128 .f32) (s : FVec F S128x128 .f32) :
    FVec F S128x128 .f32 :=
  snew s e (mulf (up k) (wideC kd)) (vnC q k v b g e row s)

theorem inQ (n : Fin 2) (h : Fin 8) : ∀ a, (![128 * n.val, 128 * h.val] : Fin 2 → ℕ) a + S128x128.size a ≤ S256x1024.size a := by
  intro a; fin_cases a
  · change 128 * n.val + 128 ≤ 256; omega
  · change 128 * h.val + 128 ≤ 1024; omega
theorem inS (h : Fin 8) : ∀ a, (![h.val, 0, 0] : Fin 3 → ℕ) a + S1x128x128.size a ≤ S8x128x128.size a := by
  intro a; fin_cases a
  · change h.val + 1 ≤ 8; omega
  · change 0 + 128 ≤ 128; omega
  · change 0 + 128 ≤ 128; omega
theorem lanes (n : Fin 2) (h : Fin 8) : S256x128.Slices ![128 * n.val, h.val] S128x1 := by
  revert n h; decide
theorem rows (n : Fin 2) (h : Fin 8) : S8x256.Slices ![h.val, 128 * n.val] S1x128 := by
  revert n h; decide
/-- Chunk `n` of head `h` in a block of rows. -/
def RQ (n : Fin 2) (h : Fin 8) : Rect S256x1024 := Rect.unit ![128 * n.val, 128 * h.val] S128x128.size (inQ n h)
/-- Head `h`'s state. -/
def RS (h : Fin 8) : Rect S8x128x128 := Rect.unit ![h.val, 0, 0] S1x128x128.size (inS h)
/-- The whole of a block of gates. -/
def RL : Rect S256x128 := Rect.unit ![0, 0] S256x128.size inb_S256x128_S256x128_0_0
/-- The whole of a block of transposed decays. -/
def RT : Rect S8x256 := Rect.unit ![0, 0] S8x256.size inb_S8x256_S8x256_0_0
/-- The whole scale. -/
def RN : Rect S1x128 := Rect.unit ![0, 0] S1x128.size inb_S1x128_S1x128_0_0

/-- Chunk `n` of head `h` of a block. -/
def blk (n : Fin 2) (h : Fin 8) (x : Vec F S256x1024 .bf16) : Vec F S128x128 .bf16 := View.ld x (RQ n h)
/-- The rows of chunk `n` of head `h`, from the state before it. -/
def outN (n : Fin 2) (h : Fin 8) (i : grid0.Coords) (x0 x1 x2 : Vec F S256x1024 .bf16) (x3 x4 x5 : Vec F S256x128 .f32)
    (x7 : Vec F S8x256 .f32) (s : FVec F S128x128 .f32) : FVec F S128x128 .f32 :=
  outC (blk n h x0) (blk n h x1) (blk n h x2) (lane _ (lanes n h) i (View.ld x3 RL)) (lane _ (lanes n h) i (View.ld x4 RL))
    (lane _ (lanes n h) i (View.ld x5 RL)) (extractStridedSlice S1x128 _ (View.ld x7 RT : Vec F S8x256 .f32) (rows n h)) s
/-- The state after it. -/
def stN (n : Fin 2) (h : Fin 8) (i : grid0.Coords) (x0 x1 x2 : Vec F S256x1024 .bf16) (x3 x4 x5 x6 : Vec F S256x128 .f32)
    (x7 : Vec F S8x256 .f32) (s : FVec F S128x128 .f32) : FVec F S128x128 .f32 :=
  stC (blk n h x0) (blk n h x1) (blk n h x2) (lane _ (lanes n h) i (View.ld x3 RL)) (lane _ (lanes n h) i (View.ld x4 RL))
    (lane _ (lanes n h) i (View.ld x5 RL)) (lane _ (lanes n h) i (View.ld x6 RL))
    (extractStridedSlice S1x128 _ (View.ld x7 RT : Vec F S8x256 .f32) (rows n h)) s
/-- Head `h`'s state before chunk `n`, from the one before the first. -/
def inN (n : Fin 2) (h : Fin 8) (i : grid0.Coords) (x0 x1 x2 : Vec F S256x1024 .bf16) (x3 x4 x5 x6 : Vec F S256x128 .f32)
    (x7 : Vec F S8x256 .f32) (s : FVec F S128x128 .f32) : FVec F S128x128 .f32 :=
  if n = 0 then s else stN 0 h i x0 x1 x2 x3 x4 x5 x6 x7 s
/-- What is written for chunk `n` of head `h`. -/
def pieceO (n : Fin 2) (h : Fin 8) (i : grid0.Coords) (x0 x1 x2 : Vec F S256x1024 .bf16) (x3 x4 x5 x6 : Vec F S256x128 .f32)
    (x7 : Vec F S8x256 .f32) (x8 : Vec F S256x1024 .bf16) (x9 : Vec F S1x128 .f32) (s : FVec F S128x128 .f32) :
    FVec F S128x128 .bf16 :=
  norm (outN n h i x0 x1 x2 x3 x4 x5 x7 (inN n h i x0 x1 x2 x3 x4 x5 x6 x7 s)) (View.ld x9 RN) (blk n h x8)
/-- What is written for head `h`'s state. -/
def pieceS (h : Fin 8) (i : grid0.Coords) (x0 x1 x2 : Vec F S256x1024 .bf16) (x3 x4 x5 x6 : Vec F S256x128 .f32)
    (x7 : Vec F S8x256 .f32) (s : FVec F S128x128 .f32) : FVec F S1x128x128 .f32 :=
  shapeCast S1x128x128 (stN 1 h i x0 x1 x2 x3 x4 x5 x6 x7 (stN 0 h i x0 x1 x2 x3 x4 x5 x6 x7 s)) shapeCasts_S128x128_S1x128x128
/-- The carried states read. -/
def heads (xs : Vec F S8x128x128 .f32) (h : Fin 8) : FVec F S128x128 .f32 :=
  shapeCast S128x128 (View.ld xs (RS h) : Vec F S1x128x128 .f32) shapeCasts_S1x128x128_S128x128
/-- The output's pieces, the last first. -/
def orderO : List (Fin 2 × Fin 8) :=
  [(1, 7), (1, 6), (1, 5), (1, 4), (1, 3), (1, 2), (1, 1), (1, 0), (0, 7), (0, 6), (0, 5), (0, 4), (0, 3), (0, 2), (0, 1), (0, 0)]
/-- The states' pieces, the last first. -/
def orderS : List (Fin 8) := [7, 6, 5, 4, 3, 2, 1, 0]

end Cert.KernelIdeal.Words

end
-- ==== Proof.Pieces.lean ====
module

public import proofs.«01_k».proof.Proof.Words
public import proofs.«01_k».proof.Proof.Gen.KernelIdeal.Frame
public import Idealize.ShloMosaic.Lib.Tactic.Stretches

@[expose] public section

set_option maxRecDepth 16384
set_option synthInstance.maxSize 4096

noncomputable section

namespace Cert.KernelIdeal.Words

open Idealize.ShloMosaic Idealize.ShloMosaic.TcCoe Idealize.ShloMosaic.Tactic Idealize.SL.Sem Cert.KernelIdeal.Gen

variable {F : FTy → Type} [FloatOps F]

set_option maxHeartbeats 4000000 in
theorem piecesO_A (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S8x256 .f32) (harg9 : arg9.IsWhole) (arg10 : Memref sig .tc .vmem S256x1024 .bf16) (harg10 : arg10.IsWhole) (arg11 : Memref sig .tc .vmem S1x128 .f32) (harg11 : arg11.IsWhole) (arg12 : Memref sig .tc .vmem S256x1024 .bf16) (harg12 : arg12.IsWhole) (arg13 : Memref sig .tc .vmem S8x128x128 .f32) (harg13 : arg13.IsWhole) (hc0 : cond0_0 i) (x0 : Vec F S256x1024 .bf16) (x1 : Vec F S256x1024 .bf16) (x2 : Vec F S256x1024 .bf16) (x3 : Vec F S256x128 .f32) (x4 : Vec F S256x128 .f32) (x5 : Vec F S256x128 .f32) (x6 : Vec F S256x128 .f32) (x7 : Vec F S8x256 .f32) (x8 : Vec F S256x1024 .bf16) (x9 : Vec F S1x128 .f32) :
  (kernelRun0_A (F := F) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).1 = orderO.map (fun p => ⟨RQ p.1 p.2, pieceO p.1 p.2 i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (heads (arg13.view.read (Elt F) (arg13.view.writes (Elt F) arg13.view.junk [⟨Rect.unit (s := S8x128x128) ![0, 0, 0] (Shape.size S8x128x128) inb_S8x128x128_S8x128x128_0_0_0, k0_pay6⟩])) p.2)⟩) := by
  unfold kernelRun0_A
  sl_open_run
  sl_open_pay
  sl_kernel_rfl

set_option maxHeartbeats 4000000 in
theorem piecesS_A (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S8x256 .f32) (harg9 : arg9.IsWhole) (arg10 : Memref sig .tc .vmem S256x1024 .bf16) (harg10 : arg10.IsWhole) (arg11 : Memref sig .tc .vmem S1x128 .f32) (harg11 : arg11.IsWhole) (arg12 : Memref sig .tc .vmem S256x1024 .bf16) (harg12 : arg12.IsWhole) (arg13 : Memref sig .tc .vmem S8x128x128 .f32) (harg13 : arg13.IsWhole) (hc0 : cond0_0 i) (x0 : Vec F S256x1024 .bf16) (x1 : Vec F S256x1024 .bf16) (x2 : Vec F S256x1024 .bf16) (x3 : Vec F S256x128 .f32) (x4 : Vec F S256x128 .f32) (x5 : Vec F S256x128 .f32) (x6 : Vec F S256x128 .f32) (x7 : Vec F S8x256 .f32) (x8 : Vec F S256x1024 .bf16) (x9 : Vec F S1x128 .f32) :
  (kernelRun0_A (F := F) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).2.1 = orderS.map (fun p => ⟨RS p, pieceS p i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (heads (arg13.view.read (Elt F) (arg13.view.writes (Elt F) arg13.view.junk [⟨Rect.unit (s := S8x128x128) ![0, 0, 0] (Shape.size S8x128x128) inb_S8x128x128_S8x128x128_0_0_0, k0_pay6⟩])) p)⟩) ++ [⟨Rect.unit (s := S8x128x128) ![0, 0, 0] (Shape.size S8x128x128) inb_S8x128x128_S8x128x128_0_0_0, k0_pay6⟩] := by
  unfold kernelRun0_A
  sl_open_run
  sl_open_pay
  sl_kernel_rfl

set_option maxHeartbeats 4000000 in
theorem piecesO_B (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S8x256 .f32) (harg9 : arg9.IsWhole) (arg10 : Memref sig .tc .vmem S256x1024 .bf16) (harg10 : arg10.IsWhole) (arg11 : Memref sig .tc .vmem S1x128 .f32) (harg11 : arg11.IsWhole) (arg12 : Memref sig .tc .vmem S256x1024 .bf16) (harg12 : arg12.IsWhole) (arg13 : Memref sig .tc .vmem S8x128x128 .f32) (harg13 : arg13.IsWhole) (hc0 : ¬cond0_0 i) (x0 : Vec F S256x1024 .bf16) (x1 : Vec F S256x1024 .bf16) (x2 : Vec F S256x1024 .bf16) (x3 : Vec F S256x128 .f32) (x4 : Vec F S256x128 .f32) (x5 : Vec F S256x128 .f32) (x6 : Vec F S256x128 .f32) (x7 : Vec F S8x256 .f32) (x8 : Vec F S256x1024 .bf16) (x9 : Vec F S1x128 .f32) (xs0 : Vec F S8x128x128 .f32) :
  (kernelRun0_B (F := F) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0).1 = orderO.map (fun p => ⟨RQ p.1 p.2, pieceO p.1 p.2 i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (heads (arg13.view.read (Elt F) (harg13.unread xs0)) p.2)⟩) := by
  unfold kernelRun0_B
  sl_open_run
  sl_open_pay
  sl_kernel_rfl

set_option maxHeartbeats 4000000 in
theorem piecesS_B (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S8x256 .f32) (harg9 : arg9.IsWhole) (arg10 : Memref sig .tc .vmem S256x1024 .bf16) (harg10 : arg10.IsWhole) (arg11 : Memref sig .tc .vmem S1x128 .f32) (harg11 : arg11.IsWhole) (arg12 : Memref sig .tc .vmem S256x1024 .bf16) (harg12 : arg12.IsWhole) (arg13 : Memref sig .tc .vmem S8x128x128 .f32) (harg13 : arg13.IsWhole) (hc0 : ¬cond0_0 i) (x0 : Vec F S256x1024 .bf16) (x1 : Vec F S256x1024 .bf16) (x2 : Vec F S256x1024 .bf16) (x3 : Vec F S256x128 .f32) (x4 : Vec F S256x128 .f32) (x5 : Vec F S256x128 .f32) (x6 : Vec F S256x128 .f32) (x7 : Vec F S8x256 .f32) (x8 : Vec F S256x1024 .bf16) (x9 : Vec F S1x128 .f32) (xs0 : Vec F S8x128x128 .f32) :
  (kernelRun0_B (F := F) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0).2.1 = orderS.map (fun p => ⟨RS p, pieceS p i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (heads (arg13.view.read (Elt F) (harg13.unread xs0)) p)⟩) := by
  unfold kernelRun0_B
  sl_open_run
  sl_open_pay
  sl_kernel_rfl

end Cert.KernelIdeal.Words

end
-- ==== Proof.Blocks.lean ====
/- What a grid point of the gated DeltaNet call leaves in its output block and in the carried states: the chunk words, chunk
   by chunk and head by head. -/
module

public import proofs.«01_k».proof.Proof.Pieces
public import proofs.«01_k».proof.Proof.Gen.KernelIdeal.Value

@[expose] public section

set_option maxRecDepth 16384
set_option backward.isDefEq.respectTransparency false

noncomputable section

namespace Cert.KernelIdeal.Words

open Idealize.ShloMosaic Idealize.ShloMosaic.TcCoe Idealize.SL.Sem Cert.KernelIdeal.Gen Cert.KernelIdeal.Value

variable {F : FTy → Type} [FloatOps F]
variable (m : (ℓ : Loc nD τ sig) → Buf (Elt F) ℓ)

/-- Of pieces in separate rectangles each is read back where it was written. -/
theorem canon_map_emb {ι : Type} {s : Shape} {e : EltTy} (R : ι → Rect s) (P : ∀ p, (R p).shape.Idx → Elt F e)
    (T : List (View.Piece (Elt F) s e))
    (hd : ∀ p q, p ≠ q → ∀ x, (R p).emb x ∉ (R q).set) (L : List ι) (p : ι) (hp : p ∈ L) (x : (R p).shape.Idx) :
    View.canon (L.map (fun p => (⟨R p, P p⟩ : View.Piece (Elt F) s e)) ++ T) ((R p).emb x) = P p x := by
  classical
  induction L with
  | nil => simp at hp
  | cons q L ih =>
    rw [List.map_cons, List.cons_append]
    by_cases h : p = q
    · subst h; exact View.canon_cons_emb _ _ _ _
    · rw [View.canon_cons_of_not_mem _ _ (hd p q h x)]
      exact ih (by simpa [h] using hp)

theorem RQ_apart (p q : Fin 2 × Fin 8) (h : p ≠ q) (x : (RQ p.1 p.2).shape.Idx) :
    (RQ p.1 p.2).emb x ∉ (RQ q.1 q.2).set := by
  unfold RQ
  rw [Rect.mem_set_unit]
  intro hx
  have h0 := hx 0
  have h1 := hx 1
  have x0 : (x 0).val < 128 := (x 0).isLt
  have x1 : (x 1).val < 128 := (x 1).isLt
  have e0 : (((Rect.unit (s := S256x1024) ![128 * p.1.val, 128 * p.2.val] S128x128.size (inQ p.1 p.2)).emb x) 0).val = 128 * p.1.val + 1 * (x 0).val := rfl
  have e1 : (((Rect.unit (s := S256x1024) ![128 * p.1.val, 128 * p.2.val] S128x128.size (inQ p.1 p.2)).emb x) 1).val = 128 * p.2.val + 1 * (x 1).val := rfl
  rw [e0] at h0
  rw [e1] at h1
  change 128 * q.1.val ≤ _ ∧ _ < 128 * q.1.val + 128 at h0
  change 128 * q.2.val ≤ _ ∧ _ < 128 * q.2.val + 128 at h1
  exact h (Prod.ext (Fin.ext (by omega)) (Fin.ext (by omega)))

theorem RS_apart (p q : Fin 8) (h : p ≠ q) (x : (RS p).shape.Idx) : (RS p).emb x ∉ (RS q).set := by
  unfold RS
  rw [Rect.mem_set_unit]
  intro hx
  have h0 := hx 0
  have x0 : (x 0).val < 1 := (x 0).isLt
  have e0 : (((Rect.unit (s := S8x128x128) ![p.val, 0, 0] S1x128x128.size (inS p)).emb x) 0).val = p.val + 1 * (x 0).val := rfl
  rw [e0] at h0
  change q.val ≤ _ ∧ _ < q.val + 1 at h0
  exact h (Fin.ext (by omega))

theorem orderO_all (p : Fin 2 × Fin 8) : p ∈ orderO := by revert p; decide
theorem orderS_all (p : Fin 8) : p ∈ orderS := by revert p; decide

theorem heads_canon (P : ∀ p, (RS p).shape.Idx → Elt F .f32) (T : List (View.Piece (Elt F) S8x128x128 .f32)) (h : Fin 8)
    (X : FVec F S128x128 .f32) (hX : P h = shapeCast S1x128x128 X shapeCasts_S128x128_S1x128x128) :
    heads (View.canon (orderS.map (fun p => (⟨RS p, P p⟩ : View.Piece (Elt F) S8x128x128 .f32)) ++ T)) h = X := by
  have e : (View.ld (View.canon (orderS.map (fun p => (⟨RS p, P p⟩ : View.Piece (Elt F) S8x128x128 .f32)) ++ T)) (RS h)) = P h :=
    funext fun x => canon_map_emb RS P T RS_apart orderS h (orderS_all h) x
  rw [heads, e, hX]
  exact shapeCast_shapeCast _ _ _

theorem zeros_read (v : View sig .tc .vmem S8x128x128 .f32) : v.read (Elt F) (v.writes (Elt F) v.junk
      [⟨Rect.unit (s := S8x128x128) ![0, 0, 0] (Shape.size S8x128x128) inb_S8x128x128_S8x128x128_0_0_0, k0_pay6⟩])
    = (k0_pay6 : FVec F S8x128x128 .f32) := by
  have hz : (![0, 0, 0] : Fin 3 → ℕ) = fun _ => 0 := funext fun a => by fin_cases a <;> rfl
  rw [View.read_writes_eq_canon]
  · exact View.canon_unit_zero hz inb_S8x128x128_S8x128x128_0_0_0 _
  · intro y
    refine ⟨_, List.mem_singleton.mpr rfl, ?_⟩
    rw [Rect.mem_set_unit]
    intro a
    fin_cases a
    · exact ⟨Nat.zero_le _, (y 0).isLt⟩
    · exact ⟨Nat.zero_le _, (y 1).isLt⟩
    · exact ⟨Nat.zero_le _, (y 2).isLt⟩

/-- The output block that a point of case A leaves, read in the rectangle of a chunk and a head. -/
theorem outv_A (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S8x256 .f32) (harg9 : arg9.IsWhole) (arg10 : Memref sig .tc .vmem S256x1024 .bf16) (harg10 : arg10.IsWhole) (arg11 : Memref sig .tc .vmem S1x128 .f32) (harg11 : arg11.IsWhole) (arg12 : Memref sig .tc .vmem S256x1024 .bf16) (harg12 : arg12.IsWhole) (arg13 : Memref sig .tc .vmem S8x128x128 .f32) (harg13 : arg13.IsWhole) (hc0 : cond0_0 i) (x0 : Vec F S256x1024 .bf16) (x1 : Vec F S256x1024 .bf16) (x2 : Vec F S256x1024 .bf16) (x3 : Vec F S256x128 .f32) (x4 : Vec F S256x128 .f32) (x5 : Vec F S256x128 .f32) (x6 : Vec F S256x128 .f32) (x7 : Vec F S8x256 .f32) (x8 : Vec F S256x1024 .bf16) (x9 : Vec F S1x128 .f32) (n : Fin 2) (h : Fin 8) (x : S128x128.Idx) :
    out0_A_10 (F := F) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 ((RQ n h).emb x) = pieceO n h i x0 x1 x2 x3 x4 x5 x6 x7 x8 x9 (heads k0_pay6 h) x := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9), piecesO_A, harg2.read_unread x0, harg3.read_unread x1, harg4.read_unread x2, harg5.read_unread x3, harg6.read_unread x4, harg7.read_unread x5, harg8.read_unread x6, harg9.read_unread x7, harg10.read_unread x8, harg11.read_unread x9, zeros_read arg13.view]
  have e := canon_map_emb (F := F) (e := .bf16) (fun p : Fin 2 × Fin 8 => RQ p.1 p.2) (fun p => pieceO p.1 p.2 i x0 x1 x2 x3 x4 x5 x6 x7 x8 x9 (heads k0_pay6 p.2)) [] RQ_apart orderO (n, h) (orderO_all _) x
  rw [List.append_nil] at e
  exact e

/-- The states that a point of case A leaves, head by head. -/
theorem stv_A (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S8x256 .f32) (harg9 : arg9.IsWhole) (arg10 : Memref sig .tc .vmem S256x1024 .bf16) (harg10 : arg10.IsWhole) (arg11 : Memref sig .tc .vmem S1x128 .f32) (harg11 : arg11.IsWhole) (arg12 : Memref sig .tc .vmem S256x1024 .bf16) (harg12 : arg12.IsWhole) (arg13 : Memref sig .tc .vmem S8x128x128 .f32) (harg13 : arg13.IsWhole) (hc0 : cond0_0 i) (x0 : Vec F S256x1024 .bf16) (x1 : Vec F S256x1024 .bf16) (x2 : Vec F S256x1024 .bf16) (x3 : Vec F S256x128 .f32) (x4 : Vec F S256x128 .f32) (x5 : Vec F S256x128 .f32) (x6 : Vec F S256x128 .f32) (x7 : Vec F S8x256 .f32) (x8 : Vec F S256x1024 .bf16) (x9 : Vec F S1x128 .f32) (h : Fin 8) :
    heads (sout0_A_0 (F := F) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9) h = stN 1 h i x0 x1 x2 x3 x4 x5 x6 x7 (stN 0 h i x0 x1 x2 x3 x4 x5 x6 x7 (heads k0_pay6 h)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9), piecesS_A, harg2.read_unread x0, harg3.read_unread x1, harg4.read_unread x2, harg5.read_unread x3, harg6.read_unread x4, harg7.read_unread x5, harg8.read_unread x6, harg9.read_unread x7, zeros_read arg13.view]
  exact heads_canon (fun p => pieceS p i x0 x1 x2 x3 x4 x5 x6 x7 (heads k0_pay6 p)) _ h _ rfl

/-- The output block that a point of case B leaves, read in the rectangle of a chunk and a head. -/
theorem outv_B (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S8x256 .f32) (harg9 : arg9.IsWhole) (arg10 : Memref sig .tc .vmem S256x1024 .bf16) (harg10 : arg10.IsWhole) (arg11 : Memref sig .tc .vmem S1x128 .f32) (harg11 : arg11.IsWhole) (arg12 : Memref sig .tc .vmem S256x1024 .bf16) (harg12 : arg12.IsWhole) (arg13 : Memref sig .tc .vmem S8x128x128 .f32) (harg13 : arg13.IsWhole) (hc0 : ¬cond0_0 i) (x0 : Vec F S256x1024 .bf16) (x1 : Vec F S256x1024 .bf16) (x2 : Vec F S256x1024 .bf16) (x3 : Vec F S256x128 .f32) (x4 : Vec F S256x128 .f32) (x5 : Vec F S256x128 .f32) (x6 : Vec F S256x128 .f32) (x7 : Vec F S8x256 .f32) (x8 : Vec F S256x1024 .bf16) (x9 : Vec F S1x128 .f32) (xs0 : Vec F S8x128x128 .f32) (n : Fin 2) (h : Fin 8) (x : S128x128.Idx) :
    out0_B_10 (F := F) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0 ((RQ n h).emb x) = pieceO n h i x0 x1 x2 x3 x4 x5 x6 x7 x8 x9 (heads xs0 h) x := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0), piecesO_B, harg2.read_unread x0, harg3.read_unread x1, harg4.read_unread x2, harg5.read_unread x3, harg6.read_unread x4, harg7.read_unread x5, harg8.read_unread x6, harg9.read_unread x7, harg10.read_unread x8, harg11.read_unread x9, harg13.read_unread xs0]
  have e := canon_map_emb (F := F) (e := .bf16) (fun p : Fin 2 × Fin 8 => RQ p.1 p.2) (fun p => pieceO p.1 p.2 i x0 x1 x2 x3 x4 x5 x6 x7 x8 x9 (heads xs0 p.2)) [] RQ_apart orderO (n, h) (orderO_all _) x
  rw [List.append_nil] at e
  exact e

/-- The states that a point of case B leaves, head by head. -/
theorem stv_B (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S8x256 .f32) (harg9 : arg9.IsWhole) (arg10 : Memref sig .tc .vmem S256x1024 .bf16) (harg10 : arg10.IsWhole) (arg11 : Memref sig .tc .vmem S1x128 .f32) (harg11 : arg11.IsWhole) (arg12 : Memref sig .tc .vmem S256x1024 .bf16) (harg12 : arg12.IsWhole) (arg13 : Memref sig .tc .vmem S8x128x128 .f32) (harg13 : arg13.IsWhole) (hc0 : ¬cond0_0 i) (x0 : Vec F S256x1024 .bf16) (x1 : Vec F S256x1024 .bf16) (x2 : Vec F S256x1024 .bf16) (x3 : Vec F S256x128 .f32) (x4 : Vec F S256x128 .f32) (x5 : Vec F S256x128 .f32) (x6 : Vec F S256x128 .f32) (x7 : Vec F S8x256 .f32) (x8 : Vec F S256x1024 .bf16) (x9 : Vec F S1x128 .f32) (xs0 : Vec F S8x128x128 .f32) (h : Fin 8) :
    heads (sout0_B_0 (F := F) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0) h = stN 1 h i x0 x1 x2 x3 x4 x5 x6 x7 (stN 0 h i x0 x1 x2 x3 x4 x5 x6 x7 (heads xs0 h)) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0), piecesS_B, harg2.read_unread x0, harg3.read_unread x1, harg4.read_unread x2, harg5.read_unread x3, harg6.read_unread x4, harg7.read_unread x5, harg8.read_unread x6, harg9.read_unread x7, harg13.read_unread xs0]
  rw [← List.append_nil (List.map _ orderS)]
  exact heads_canon (fun p => pieceS p i x0 x1 x2 x3 x4 x5 x6 x7 (heads xs0 p)) _ h _ rfl

/-- The output block of the call's point `t`, case A. -/
theorem out_A (c : Dev nD) (t : Fin cfg0.N) (acc : Vec F S256x1024 .bf16 × Vec F S8x128x128 .f32) (h0 : t.val % 32 = 0)
    (n : Fin 2) (h : Fin 8) (x : S128x128.Idx) : (stAt0 m c t.val t.isLt acc).1 ((RQ n h).emb x)
      = pieceO n h (grid0.coords t) (iblk m c 0 t) (iblk m c 1 t) (iblk m c 2 t) (iblk m c 3 t) (iblk m c 4 t) (iblk m c 5 t) (iblk m c 6 t) (iblk m c 7 t) (iblk m c 8 t) (iblk m c 9 t) (heads k0_pay6 h) x := by
  rw [stAt0_A m c t acc h0]
  exact outv_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) n h x

/-- The states after the call's point `t`, case A. -/
theorem st_A (c : Dev nD) (t : Fin cfg0.N) (acc : Vec F S256x1024 .bf16 × Vec F S8x128x128 .f32) (h0 : t.val % 32 = 0)
    (h : Fin 8) : heads (stAt0 m c t.val t.isLt acc).2 h
      = stN 1 h (grid0.coords t) (iblk m c 0 t) (iblk m c 1 t) (iblk m c 2 t) (iblk m c 3 t) (iblk m c 4 t) (iblk m c 5 t) (iblk m c 6 t) (iblk m c 7 t) (stN 0 h (grid0.coords t) (iblk m c 0 t) (iblk m c 1 t) (iblk m c 2 t) (iblk m c 3 t) (iblk m c 4 t) (iblk m c 5 t) (iblk m c 6 t) (iblk m c 7 t) (heads k0_pay6 h)) := by
  rw [stAt0_A m c t acc h0]
  dsimp only
  exact stv_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) h

/-- The output block of the call's point `t`, case B. -/
theorem out_B (c : Dev nD) (t : Fin cfg0.N) (acc : Vec F S256x1024 .bf16 × Vec F S8x128x128 .f32) (h0 : ¬t.val % 32 = 0)
    (n : Fin 2) (h : Fin 8) (x : S128x128.Idx) : (stAt0 m c t.val t.isLt acc).1 ((RQ n h).emb x)
      = pieceO n h (grid0.coords t) (iblk m c 0 t) (iblk m c 1 t) (iblk m c 2 t) (iblk m c 3 t) (iblk m c 4 t) (iblk m c 5 t) (iblk m c 6 t) (iblk m c 7 t) (iblk m c 8 t) (iblk m c 9 t) (heads acc.2 h) x := by
  rw [stAt0_B m c t acc h0]
  exact outv_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) acc.2 n h x

/-- The states after the call's point `t`, case B. -/
theorem st_B (c : Dev nD) (t : Fin cfg0.N) (acc : Vec F S256x1024 .bf16 × Vec F S8x128x128 .f32) (h0 : ¬t.val % 32 = 0)
    (h : Fin 8) : heads (stAt0 m c t.val t.isLt acc).2 h
      = stN 1 h (grid0.coords t) (iblk m c 0 t) (iblk m c 1 t) (iblk m c 2 t) (iblk m c 3 t) (iblk m c 4 t) (iblk m c 5 t) (iblk m c 6 t) (iblk m c 7 t) (stN 0 h (grid0.coords t) (iblk m c 0 t) (iblk m c 1 t) (iblk m c 2 t) (iblk m c 3 t) (iblk m c 4 t) (iblk m c 5 t) (iblk m c 6 t) (iblk m c 7 t) (heads acc.2 h)) := by
  rw [stAt0_B m c t acc h0]
  dsimp only
  exact stv_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) acc.2 h

end Cert.KernelIdeal.Words

end
-- ==== Proof.Inverse.lean ====
/- The blocked inverse of a unit lower triangular matrix, over the real numbers: the diagonal blocks of 16 by
   the truncated power series, written in a folded form that keeps the sixteen rows of each block only, and then three doublings
   of the block size. `inv_mul`: the matrix the steps end with is the inverse. -/
module

public import Mathlib.LinearAlgebra.Matrix.NonsingularInverse
public import Mathlib.Data.Real.Basic
public import Mathlib.Tactic.NoncommRing

@[expose] public section

noncomputable section

namespace Delta

open Matrix

/-- A square matrix of a chunk. -/
abbrev Mat := Matrix (Fin 128) (Fin 128) ℝ

/-- The part of a matrix inside the diagonal blocks of `2 ^ s` rows. -/
def blk (s : ℕ) (M : Mat) : Mat := fun i j => if i.val / 2 ^ s = j.val / 2 ^ s then M i j else 0

/-- The part inside the blocks of `2 ^ (s+1)` rows and outside those of `2 ^ s` rows. -/
def offBlk (s : ℕ) (M : Mat) : Mat :=
  fun i j => if i.val / 2 ^ (s + 1) = j.val / 2 ^ (s + 1) ∧ ¬ i.val / 2 ^ s = j.val / 2 ^ s then M i j else 0

/-- A matrix is zero outside its diagonal blocks of `2 ^ s` rows. -/
def Blocked (s : ℕ) (M : Mat) : Prop := ∀ i j, ¬ i.val / 2 ^ s = j.val / 2 ^ s → M i j = 0

/-- A matrix is strictly lower triangular. -/
def Strict (M : Mat) : Prop := ∀ i j, ¬ j < i → M i j = 0

theorem blk_blocked (s : ℕ) (M : Mat) : Blocked s (blk s M) := fun i j h => by simp [blk, h]

theorem one_blocked (s : ℕ) : Blocked s 1 := fun i j h => by
  rw [Matrix.one_apply_ne]; rintro rfl; exact h rfl

theorem Blocked.add {s : ℕ} {M N : Mat} (hM : Blocked s M) (hN : Blocked s N) : Blocked s (M + N) :=
  fun i j h => by simp [hM i j h, hN i j h]

theorem Blocked.sub {s : ℕ} {M N : Mat} (hM : Blocked s M) (hN : Blocked s N) : Blocked s (M - N) :=
  fun i j h => by simp [hM i j h, hN i j h]

theorem Blocked.mul {s : ℕ} {M N : Mat} (hM : Blocked s M) (hN : Blocked s N) : Blocked s (M * N) := fun i j h => by
  rw [Matrix.mul_apply]
  refine Finset.sum_eq_zero fun l _ => ?_
  by_cases h1 : i.val / 2 ^ s = l.val / 2 ^ s
  · rw [hN l j (fun h2 => h (h1.trans h2)), mul_zero]
  · rw [hM i l h1, zero_mul]

theorem Blocked.mono {s : ℕ} {M : Mat} (hM : Blocked s M) : Blocked (s + 1) M := fun i j h => by
  refine hM i j fun h' => h ?_
  rw [pow_succ, ← Nat.div_div_eq_div_mul, ← Nat.div_div_eq_div_mul, h']

theorem offBlk_blocked (s : ℕ) (M : Mat) : Blocked (s + 1) (offBlk s M) := fun i j h => by simp [offBlk, h]

/-- The blocks of twice the size are the smaller ones and what lies between. -/
theorem blk_succ (s : ℕ) (M : Mat) : blk (s + 1) M = blk s M + offBlk s M := by
  funext i j
  simp only [blk, offBlk, Matrix.add_apply]
  by_cases h : i.val / 2 ^ s = j.val / 2 ^ s
  · have h' : i.val / 2 ^ (s + 1) = j.val / 2 ^ (s + 1) := by
      rw [pow_succ, ← Nat.div_div_eq_div_mul, ← Nat.div_div_eq_div_mul, h]
    simp [h, h']
  · simp [h]

/-- All of the matrix lies in one block of 128 rows. -/
theorem blk_seven (M : Mat) : blk 7 M = M := by
  funext i j
  have hi := i.isLt; have hj := j.isLt
  simp only [blk]
  rw [if_pos]
  omega

/-- Two of the parts between the blocks with a blocked matrix between them make nothing: the part leads from a first
    half to a second half only. -/
theorem off_mul_off {s : ℕ} {A T : Mat} (hA : Strict A) (hT : Blocked s T) : offBlk s A * T * offBlk s A = 0 := by
  funext i j
  rw [Matrix.mul_apply, Matrix.zero_apply]
  refine Finset.sum_eq_zero fun l _ => ?_
  rw [Matrix.mul_apply, Finset.sum_mul]
  refine Finset.sum_eq_zero fun p _ => ?_
  by_cases h1 : p.val / 2 ^ s = l.val / 2 ^ s
  · by_cases h2 : p < i
    · by_cases h3 : j < l
      · simp only [offBlk]
        split_ifs with c1 c2
        · exfalso
          obtain ⟨a1, a2⟩ := c1; obtain ⟨b1, b2⟩ := c2
          rw [pow_succ, ← Nat.div_div_eq_div_mul, ← Nat.div_div_eq_div_mul] at a1 b1
          have q1 : p.val / 2 ^ s ≤ i.val / 2 ^ s := Nat.div_le_div_right (le_of_lt h2)
          have q2 : j.val / 2 ^ s ≤ l.val / 2 ^ s := Nat.div_le_div_right (le_of_lt h3)
          omega
        all_goals simp
      · have : offBlk s A l j = 0 := by simp [offBlk, hA l j h3]
        rw [this, mul_zero]
    · have : offBlk s A i p = 0 := by simp [offBlk, hA i p h2]
      rw [this, zero_mul, zero_mul]
  · rw [hT p l h1, mul_zero, zero_mul]

/-- One doubling of the block size. -/
def dbl (s : ℕ) (A T : Mat) : Mat := T - T * (offBlk s A * T)

theorem dbl_blocked {s : ℕ} {A T : Mat} (hT : Blocked s T) : Blocked (s + 1) (dbl s A T) :=
  hT.mono.sub (hT.mono.mul ((offBlk_blocked s A).mul hT.mono))

/-- A doubling takes the inverse of the smaller blocks to the inverse of the larger ones. -/
theorem dbl_inv {s : ℕ} {A T : Mat} (hA : Strict A) (hT : Blocked s T) (h : (1 + blk s A) * T = 1) :
    (1 + blk (s + 1) A) * dbl s A T = 1 := by
  have h0 : offBlk s A * T * (offBlk s A * T) = 0 := by
    rw [← Matrix.mul_assoc, off_mul_off hA hT, Matrix.zero_mul]
  rw [blk_succ, ← add_assoc, dbl, Matrix.add_mul, Matrix.mul_sub, ← Matrix.mul_assoc (1 + blk s A), h, Matrix.one_mul,
    Matrix.mul_sub, ← Matrix.mul_assoc (offBlk s A), h0]
  abel

/-! ## The diagonal blocks of sixteen -/

/-- Powers of a strictly lower triangular matrix move away from the diagonal. -/
theorem pow_far {B : Mat} (hB : Strict B) (k : ℕ) : ∀ i j : Fin 128, ¬ j.val + k ≤ i.val → (B ^ k) i j = 0 := by
  induction k with
  | zero =>
    intro i j h
    rw [pow_zero, Matrix.one_apply_ne]; rintro rfl; exact h (by simp)
  | succ k ih =>
    intro i j h
    rw [pow_succ, Matrix.mul_apply]
    refine Finset.sum_eq_zero fun l _ => ?_
    by_cases h1 : l.val + k ≤ i.val
    · rw [hB l j (fun h2 => h (by have : j.val < l.val := h2; omega)), mul_zero]
    · rw [ih i l h1, zero_mul]

theorem pow_blocked {s : ℕ} {B : Mat} (hB : Blocked s B) (k : ℕ) : Blocked s (B ^ k) := by
  induction k with
  | zero => rw [pow_zero]; exact one_blocked s
  | succ k ih => rw [pow_succ]; exact ih.mul hB

/-- Inside blocks of sixteen rows the sixteenth power is zero. -/
theorem pow_sixteen {B : Mat} (hB : Strict B) (hb : Blocked 4 B) : B ^ 16 = 0 := by
  funext i j
  rw [Matrix.zero_apply]
  by_cases h : i.val / 2 ^ 4 = j.val / 2 ^ 4
  · exact pow_far hB 16 i j (by omega)
  · exact pow_blocked hb 16 i j h

/-- The truncated power series of a matrix, as the products the blocks of sixteen are made of. -/
def series (B : Mat) : Mat :=
  let t4 := 1 + B + B * B + B * B * B
  let t8 := t4 + t4 * ((B * B) * (B * B))
  t8 + t8 * (((B * B) * (B * B)) * ((B * B) * (B * B)))

theorem series_inv {B : Mat} (h : B ^ 16 = 0) : (1 - B) * series B = 1 := by
  have : (1 - B) * series B = 1 - B ^ 16 := by
    simp only [series]; noncomm_ring
  rw [this, h, sub_zero]

theorem series_blocked {s : ℕ} {B : Mat} (hB : Blocked s B) : Blocked s (series B) := by
  have h2 := hB.mul hB
  have h4 := h2.mul h2
  have t4 := (((one_blocked s).add hB).add h2).add (h2.mul hB)
  have t8 := t4.add (t4.mul h4)
  exact t8.add (t8.mul (h4.mul h4))

/-- The inverse as the steps make it. -/
def inv (A : Mat) : Mat := dbl 6 A (dbl 5 A (dbl 4 A (series (-(blk 4 A)))))

/-- The steps end with the inverse. -/
theorem mul_inv {A : Mat} (hA : Strict A) : (1 + A) * inv A = 1 := by
  have hs : Strict (-(blk 4 A)) := fun i j h => by simp [blk, hA i j h]
  have hb : Blocked 4 (-(blk 4 A)) := fun i j h => by
    rw [Matrix.neg_apply, blk_blocked 4 A i j h, neg_zero]
  have h4 : (1 + blk 4 A) * series (-(blk 4 A)) = 1 := by
    have := series_inv (pow_sixteen hs hb); rwa [sub_neg_eq_add] at this
  have b4 := series_blocked hb
  have h5 := dbl_inv hA b4 h4
  have b5 := dbl_blocked (A := A) b4
  have h6 := dbl_inv hA b5 h5
  have b6 := dbl_blocked (A := A) b5
  have h7 := dbl_inv hA b6 h6
  rwa [blk_seven] at h7

theorem inv_mul {A : Mat} (hA : Strict A) : inv A * (1 + A) = 1 := mul_eq_one_comm.mp (mul_inv hA)

/-! ## The folded form of the blocks of sixteen -/

/-- The sixteen rows of each diagonal block, side by side. -/
def wide (M : Mat) : Matrix (Fin 16) (Fin 128) ℝ := fun r c => M ⟨16 * (c.val / 16) + r.val, by omega⟩ c

/-- A folded matrix back in its diagonal blocks. -/
def expand (w : Matrix (Fin 16) (Fin 128) ℝ) : Mat :=
  fun i j => if i.val / 2 ^ 4 = j.val / 2 ^ 4 then w ⟨i.val % 16, by omega⟩ j else 0

theorem expand_wide {M : Mat} (hM : Blocked 4 M) : expand (wide M) = M := by
  funext i j
  simp only [expand, wide]
  split_ifs with h
  · congr 1; apply Fin.ext; simp only; omega
  · exact (hM i j h).symm

theorem wide_mul {M D : Mat} (hD : Blocked 4 D) : wide M * D = wide (M * D) := by
  funext r c
  simp only [wide, Matrix.mul_apply]
  refine Finset.sum_congr rfl fun l _ => ?_
  by_cases h : l.val / 2 ^ 4 = c.val / 2 ^ 4
  · congr 2; apply Fin.ext; simp only; omega
  · rw [hD l c h, mul_zero, mul_zero]

theorem wide_add (M N : Mat) : wide (M + N) = wide M + wide N := rfl

end Delta

end
-- ==== Proof.Chunk.lean ====
/- One chunk of 128 tokens of the gated delta rule over the reals: the token recurrence of the state, and what the chunked
   formula with the inverse of the unit lower triangular matrix makes of it. -/
module

public import proofs.«01_k».proof.Proof.Inverse
public import Mathlib.Analysis.SpecialFunctions.Exp

@[expose] public section

noncomputable section

namespace Delta

open Finset

/-- The state after one token: decayed, and its value at the token's key moved towards the token's value. -/
def step (S : Mat) (k v : Fin 128 → ℝ) (b g : ℝ) : Mat :=
  fun a d => S a d * Real.exp g + k a * (b * (v d - ∑ x, k x * (S x d * Real.exp g)))

/-- Each row scaled. -/
def scale (M : Mat) (c : Fin 128 → ℝ) : Mat := fun i d => M i d * c i

/-- The decays from one row of the chunk to another. -/
def dec (G : Fin 128 → ℝ) : Mat := fun i j => if j ≤ i then Real.exp (G i - G j) else 0

/-- The strictly lower triangular matrix of the gated keys against the keys, decayed. -/
def amat (K : Mat) (b G : Fin 128 → ℝ) : Mat :=
  fun i j => if j < i then (scale K b * K.transpose) i j * dec G i j else 0

/-- The queries against the keys on and below the diagonal, decayed. -/
def qk (Q K : Mat) (G : Fin 128 → ℝ) : Mat := fun i j => if j ≤ i then (Q * K.transpose) i j * dec G i j else 0

/-- The corrected values of the chunk. -/
def vnew (K V : Mat) (b G : Fin 128 → ℝ) (S : Mat) : Mat :=
  inv (amat K b G) * scale V b - (inv (amat K b G) * scale (scale K b) (fun i => Real.exp (G i))) * S

/-- The chunk's rows. -/
def out (Q K V : Mat) (b G : Fin 128 → ℝ) (S : Mat) : Mat :=
  scale Q (fun i => Real.exp (G i)) * S + qk Q K G * vnew K V b G S

/-- The state after the chunk. -/
def next (K V : Mat) (b G : Fin 128 → ℝ) (S : Mat) : Mat := fun a d =>
  S a d * Real.exp (G 127) + ((scale K fun j => Real.exp (G 127 - G j)).transpose * vnew K V b G S) a d

theorem amat_strict (K : Mat) (b G : Fin 128 → ℝ) : Strict (amat K b G) := by
  intro i j h
  simp only [amat]
  rw [if_neg (by omega)]

/-- The state inside a chunk, from the state before it and the corrections so far. -/
theorem state_formula (k u : ℕ → Fin 128 → ℝ) (g G : ℕ → ℝ) (S : ℕ → Mat) (n : ℕ)
    (h0 : G 0 = 0) (hG : ∀ i < n, G (i + 1) = G i + g i)
    (hS : ∀ i < n, ∀ a d, S (i + 1) a d = S i a d * Real.exp (g i) + k i a * u i d) (a d : Fin 128) :
    S n a d = Real.exp (G n) * S 0 a d + ∑ j ∈ range n, Real.exp (G n - G (j + 1)) * (k j a * u j d) := by
  induction n with
  | zero => simp [h0]
  | succ n ih =>
    have ih := ih (fun i h => hG i (by omega)) (fun i h => hS i (by omega))
    rw [hS n (by omega), ih, sum_range_succ, hG n (by omega), sub_self, Real.exp_zero, add_mul, sum_mul, Real.exp_add]
    have : ∀ j ∈ range n, Real.exp (G n - G (j + 1)) * (k j a * u j d) * Real.exp (g n)
        = Real.exp (G n + g n - G (j + 1)) * (k j a * u j d) := by
      intro j _
      rw [show G n + g n - G (j + 1) = (G n - G (j + 1)) + g n by ring, Real.exp_add]; ring
    rw [sum_congr rfl this]; ring

/-- A sum over the first rows as a sum over all of them with the others left out. -/
theorem sum_range_fin (n : ℕ) (hn : n ≤ 128) (f : ℕ → ℝ) :
    ∑ j ∈ range n, f j = ∑ j : Fin 128, if (j : ℕ) < n then f j else 0 := by
  rw [Fin.sum_univ_eq_sum_range (fun j => if j < n then f j else 0) 128, ← sum_filter]
  congr 1
  ext j; simp; omega

section
variable (Q K V : Mat) (b g G : Fin 128 → ℝ) (S : ℕ → Mat)
  (hS : ∀ i : Fin 128, S (i + 1) = step (S i) (K i) (V i) (b i) (g i))
  (hG : ∀ i : Fin 128, G i = (if h : (i : ℕ) = 0 then 0 else G ⟨i - 1, by omega⟩) + g i)
include hS hG

/-- The token's correction. -/
def corr (K V : Mat) (b g : Fin 128 → ℝ) (S : ℕ → Mat) : Mat :=
  fun i d => b i * (V i d - ∑ x, K i x * (S i x d * Real.exp (g i)))

/-- The state after any number of the chunk's tokens. -/
theorem state_at (n : ℕ) (hn : n ≤ 128) (a d : Fin 128) :
    S n a d = Real.exp (if h : n = 0 then 0 else G ⟨n - 1, by omega⟩) * S 0 a d
      + ∑ j : Fin 128, if (j : ℕ) < n then
          Real.exp ((if h : n = 0 then 0 else G ⟨n - 1, by omega⟩) - G j) * (K j a * corr K V b g S j d) else 0 := by
  let ix : ℕ → Fin 128 := fun m => ⟨m % 128, Nat.mod_lt _ (by norm_num)⟩
  have hix : ∀ j : Fin 128, ix j = j := fun j => Fin.ext (Nat.mod_eq_of_lt j.2)
  have hix' : ∀ m (h : m < 128), ix m = ⟨m, h⟩ := fun m h => Fin.ext (Nat.mod_eq_of_lt h)
  let GN : ℕ → ℝ := fun m => if m = 0 then 0 else G (ix (m - 1))
  have hGN : ∀ m (h : m ≤ 128), GN m = if h : m = 0 then 0 else G ⟨m - 1, by omega⟩ := by
    intro m h
    by_cases hm : m = 0
    · simp [GN, hm]
    · simp only [GN, if_neg hm, dif_neg hm]; rw [hix' (m - 1) (by omega)]
  have key := state_formula (fun m => K (ix m)) (fun m => corr K V b g S (ix m)) (fun m => g (ix m)) GN S n
    (by simp [GN]) (by
      intro i hi
      have h1 : GN (i + 1) = G (ix i) := by simp [GN]
      have := hG (ix i)
      rw [hix' i (by omega)] at this
      rw [h1, hGN i (by omega), hix' i (by omega), this])
    (by
      intro i hi a d
      have := hS (ix i)
      rw [hix' i (by omega)] at this
      rw [this, hix' i (by omega)]
      rfl) a d
  rw [key, hGN n hn]
  congr 1
  rw [sum_range_fin n hn (fun j => Real.exp ((if h : n = 0 then 0 else G ⟨n - 1, by omega⟩) - GN (j + 1)) *
    (K (ix j) a * corr K V b g S (ix j) d))]
  refine sum_congr rfl fun j _ => ?_
  have h1 : GN ((j : ℕ) + 1) = G j := by simp [GN, hix]
  rw [h1, hix]

/-- The token's correction against the decayed state, unrolled. -/
theorem decayed (i a d : Fin 128) : S i a d * Real.exp (g i) = Real.exp (G i) * S 0 a d
    + ∑ j : Fin 128, if j < i then Real.exp (G i - G j) * (K j a * corr K V b g S j d) else 0 := by
  have h := state_at K V b g G S hS hG i (by omega) a d
  rw [h, add_mul, sum_mul]
  have hi := hG i
  rw [hi, Real.exp_add]
  congr 1
  · ring
  · refine sum_congr rfl fun j _ => ?_
    by_cases hj : j < i
    · rw [if_pos (show (j : ℕ) < i from hj), if_pos hj,
        show ∀ x y z : ℝ, x + y - z = (x - z) + y by intros; ring, Real.exp_add]; ring
    · rw [if_neg (show ¬ (j : ℕ) < i from hj), if_neg hj, zero_mul]

/-- The corrections solve the unit lower triangular system. -/
theorem solves : (1 + amat K b G) * corr K V b g S
    = scale V b - scale (scale K b) (fun i => Real.exp (G i)) * S 0 := by
  ext i d
  rw [add_mul, one_mul, Matrix.add_apply, Matrix.sub_apply, Matrix.mul_apply, Matrix.mul_apply]
  have hc : corr K V b g S i d = b i * (V i d - ∑ x, K i x * (S i x d * Real.exp (g i))) := rfl
  rw [hc]
  simp only [decayed K V b g G S hS hG, mul_add, sum_add_distrib, mul_sum]
  rw [sum_comm]
  have h1 : ∀ j : Fin 128, amat K b G i j * corr K V b g S j d
      = b i * ∑ x, K i x * (if j < i then Real.exp (G i - G j) * (K j x * corr K V b g S j d) else 0) := by
    intro j
    by_cases hj : j < i
    · simp only [amat, if_pos hj, dec, if_pos hj.le, Matrix.mul_apply, scale, Matrix.transpose_apply]
      rw [sum_mul, sum_mul, mul_sum]
      exact sum_congr rfl fun x _ => by ring
    · simp [amat, if_neg hj]
  simp only [h1, ← mul_sum]
  simp only [scale]
  have h2 : ∑ x, K i x * b i * Real.exp (G i) * S 0 x d = b i * ∑ x, K i x * (Real.exp (G i) * S 0 x d) := by
    rw [mul_sum]; exact sum_congr rfl fun x _ => by ring
  rw [h2]; ring

/-- The corrections are the corrected values of the chunk. -/
theorem corr_eq : corr K V b g S = vnew K V b G (S 0) := by
  have h := congrArg (fun X => inv (amat K b G) * X) (solves K V b g G S hS hG)
  simp only [← Matrix.mul_assoc, inv_mul (amat_strict K b G), Matrix.one_mul, Matrix.mul_sub] at h
  exact h

/-- The state after the chunk's tokens is the chunked formula's. -/
theorem next_eq : S 128 = next K V b G (S 0) := by
  ext a d
  rw [state_at K V b g G S hS hG 128 (by omega) a d]
  simp only [next, Matrix.mul_apply, Matrix.transpose_apply, scale]
  rw [← corr_eq K V b g G S hS hG]
  have h : (if h : (128 : ℕ) = 0 then (0 : ℝ) else G ⟨128 - 1, by omega⟩) = G 127 := rfl
  rw [h, mul_comm]
  congr 1
  refine sum_congr rfl fun j _ => ?_
  rw [if_pos j.2]; ring

/-- Each token's query against the state after it is the chunked formula's row. -/
theorem out_eq (i d : Fin 128) : ∑ a, Q i a * S (i + 1) a d = out Q K V b G (S 0) i d := by
  simp only [out, Matrix.add_apply, Matrix.mul_apply, scale]
  rw [← corr_eq K V b g G S hS hG]
  have hs : ∀ a, S (i + 1) a d = Real.exp (G i) * S 0 a d
      + ∑ j : Fin 128, if j ≤ i then Real.exp (G i - G j) * (K j a * corr K V b g S j d) else 0 := by
    intro a
    rw [state_at K V b g G S hS hG (i + 1) (by omega) a d]
    have h : (if h : (i : ℕ) + 1 = 0 then (0 : ℝ) else G ⟨(i : ℕ) + 1 - 1, by omega⟩) = G i := by simp
    rw [h]
    congr 1
    refine sum_congr rfl fun j _ => ?_
    by_cases hj : j ≤ i
    · rw [if_pos hj, if_pos (Nat.lt_succ_of_le hj)]
    · rw [if_neg hj, if_neg (fun h => hj (Nat.le_of_lt_succ h))]
  simp only [hs, mul_add, sum_add_distrib, mul_sum]
  congr 1
  · exact sum_congr rfl fun a _ => by ring
  · rw [sum_comm]
    refine sum_congr rfl fun j _ => ?_
    by_cases hj : j ≤ i
    · simp only [if_pos hj, qk, dec, Matrix.mul_apply, Matrix.transpose_apply]
      rw [sum_mul, sum_mul]
      exact sum_congr rfl fun a _ => by ring
    · simp [if_neg hj, qk]

end

end Delta

end
-- ==== Proof.Val.lean ====
/- The words of the gated DeltaNet call at the ideal values, on real matrices. -/
module

public import proofs.«01_k».proof.Proof.Words
public import proofs.«01_k».proof.Proof.Chunk
public import Idealize.ShloMosaic.Lib.Pointwise
public import Idealize.ShloMosaic.Lib.WordCmp

@[expose] public section

set_option maxRecDepth 16384
set_option backward.isDefEq.respectTransparency false

noncomputable section

namespace Cert.KernelIdeal.Words

open Idealize.ShloMosaic Idealize.SL.Sem Cert.KernelIdeal.Gen
open Delta (Mat)

/-- A real matrix as an array of ideal values. -/
def toE {r c : ℕ} (φ : FTy) (M : Matrix (Fin r) (Fin c) ℝ) : FVec Ideal ⟨2, ![r, c]⟩ φ := fun j => ((M (j 0) (j 1) : ℝ) : EReal)

theorem toE_ix {r c : ℕ} (φ : FTy) (M : Matrix (Fin r) (Fin c) ℝ) (i : Fin r) (j : Fin c) :
    toE φ M (ix2 i j) = ((M i j : ℝ) : EReal) := rfl

/-- Reals as a column. -/
def cl {r : ℕ} (f : Fin r → ℝ) : FVec Ideal ⟨2, ![r, 1]⟩ .f32 := toE .f32 fun i _ => f i
/-- Reals as a row. -/
def rw' {r : ℕ} (f : Fin r → ℝ) : FVec Ideal ⟨2, ![1, r]⟩ .f32 := toE .f32 fun _ i => f i

theorem coe_sum {n : ℕ} (f : Fin n → ℝ) : ∑ k, ((f k : ℝ) : EReal) = ((∑ k, f k : ℝ) : EReal) := by
  exact (map_sum (⟨⟨Real.toEReal, rfl⟩, EReal.coe_add⟩ : ℝ →+ EReal) f Finset.univ).symm

/-- Two arrays agree when they agree at every row and column. -/
theorem ext2 {r c : ℕ} {α : Type} {f g : (⟨2, ![r, c]⟩ : Shape).Idx → α} (h : ∀ i j, f (ix2 i j) = g (ix2 i j)) : f = g := by
  funext j
  rw [eq_ix2 j]
  exact h _ _

theorem up_toE (M : Mat) : up (F := Ideal) (toE .bf16 M) = toE .f32 M := rfl
theorem dn_toE (M : Mat) : dn (F := Ideal) (toE .f32 M) = toE .bf16 M := rfl

section Elementwise
variable {r c : ℕ} (a b : Matrix (Fin r) (Fin c) ℝ)
theorem mulf_toE : mulf (F := Ideal) (toE .f32 a) (toE .f32 b) = toE .f32 (fun i j => a i j * b i j) :=
  funext fun _ => (EReal.coe_mul _ _).symm
theorem addf_toE : addf (F := Ideal) (toE .f32 a) (toE .f32 b) = toE .f32 (a + b) :=
  funext fun _ => (EReal.coe_add _ _).symm
theorem subf_toE : subf (F := Ideal) (toE .f32 a) (toE .f32 b) = toE .f32 (a - b) :=
  funext fun _ => (EReal.coe_sub _ _).symm
theorem exp_toE : exp (F := Ideal) (toE .f32 a) = toE .f32 (fun i j => Real.exp (a i j)) := rfl
/-- A choice by a decided mask. -/
theorem select_toE (m : IVec ⟨2, ![r, c]⟩ 1) (p : Fin r → Fin c → Prop) [∀ i j, Decidable (p i j)]
    (hm : ∀ i j, m (ix2 i j) = BitVec.ofBool (decide (p i j))) :
    select m (toE .f32 a) (toE .f32 b) = toE .f32 (fun i j => if p i j then a i j else b i j) := by
  refine ext2 fun i j => ?_
  change Scalar.select (m (ix2 i j)) (toE .f32 a (ix2 i j)) (toE .f32 b (ix2 i j)) = _
  rw [hm, WordCmp.select_ofBool, toE_ix, toE_ix, toE_ix]
  by_cases h : p i j <;> simp [h]
end Elementwise

theorem mm_toE (a b : Mat) : mm (F := Ideal) (toE .f32 a) (toE .f32 b) = toE .f32 (a * b) := by
  refine ext2 fun i j => ?_
  rw [toE_ix]
  pointwise [mm, dn]
  simp only [toE_ix, ← EReal.coe_mul]
  rw [coe_sum, Matrix.mul_apply]

theorem mw_toE (a : Matrix (Fin 16) (Fin 128) ℝ) (b : Mat) : mw (F := Ideal) (toE .f32 a) (toE .f32 b) = toE .f32 (a * b) := by
  refine ext2 fun i j => ?_
  rw [toE_ix]
  pointwise [mw, dn]
  simp only [toE_ix, ← EReal.coe_mul]
  rw [coe_sum, Matrix.mul_apply]

theorem low_at (i j : Fin 128) : low (ix2 i j) = BitVec.ofBool (decide (j ≤ i)) := by
  pointwise [low, colI, rowI]
  rw [WordCmp.cmpi_sle_ofNat (by omega) (by omega)]
  rfl
theorem slow_at (i j : Fin 128) : slow (ix2 i j) = BitVec.ofBool (decide (j < i)) := by
  pointwise [slow, colI, rowI]
  rw [WordCmp.cmpi_slt_ofNat (by omega) (by omega)]
  rfl
theorem shr4 : ∀ i : Fin 128, IntOp.shrsi .vector (BitVec.ofNat 32 i.val) 4#32 = BitVec.ofNat 32 (i.val / 2 ^ 4) := by decide +kernel
theorem shr5 : ∀ i : Fin 128, IntOp.shrsi .vector (BitVec.ofNat 32 i.val) 5#32 = BitVec.ofNat 32 (i.val / 2 ^ 5) := by decide +kernel
theorem shr6 : ∀ i : Fin 128, IntOp.shrsi .vector (BitVec.ofNat 32 i.val) 6#32 = BitVec.ofNat 32 (i.val / 2 ^ 6) := by decide +kernel
theorem shr7 : ∀ i : Fin 128, IntOp.shrsi .vector (BitVec.ofNat 32 i.val) 7#32 = BitVec.ofNat 32 (i.val / 2 ^ 7) := by decide +kernel

theorem same_at (s : BitVec 32) (n : ℕ)
    (h : ∀ i : Fin 128, IntOp.shrsi .vector (BitVec.ofNat 32 i.val) s = BitVec.ofNat 32 (i.val / 2 ^ n)) (i j : Fin 128) :
    same s (ix2 i j) = BitVec.ofBool (decide (i.val / 2 ^ n = j.val / 2 ^ n)) := by
  pointwise [same, rowI, colI]
  rw [h, h, WordCmp.cmpi_eq_ofNat (lt_of_le_of_lt (Nat.div_le_self _ _) (by omega)) (lt_of_le_of_lt (Nat.div_le_self _ _) (by omega))]

theorem between_at (s s' : BitVec 32) (n : ℕ)
    (h : ∀ i : Fin 128, IntOp.shrsi .vector (BitVec.ofNat 32 i.val) s = BitVec.ofNat 32 (i.val / 2 ^ n))
    (h' : ∀ i : Fin 128, IntOp.shrsi .vector (BitVec.ofNat 32 i.val) s' = BitVec.ofNat 32 (i.val / 2 ^ (n + 1))) (i j : Fin 128) :
    between s s' (ix2 i j)
      = BitVec.ofBool (decide (i.val / 2 ^ (n + 1) = j.val / 2 ^ (n + 1) ∧ ¬ i.val / 2 ^ n = j.val / 2 ^ n)) := by
  have e := same_at s' (n + 1) h' i j
  pointwise [between, rowI, colI]
  rw [h, h, WordCmp.cmpi_ne_ofNat (lt_of_le_of_lt (Nat.div_le_self _ _) (by omega)) (lt_of_le_of_lt (Nat.div_le_self _ _) (by omega)), e,
    WordCmp.andi_ofBool, ← Bool.decide_and]

theorem zero_toE : zero (F := Ideal) = toE .f32 (0 : Mat) := by
  refine ext2 fun i j => ?_
  rw [toE_ix]
  pointwise [zero]
  rfl

theorem wideC_cl (f : Fin 128 → ℝ) : wideC (F := Ideal) (cl f) = toE .f32 (fun i _ => f i) := by
  refine ext2 fun i j => ?_
  rw [toE_ix]
  pointwise [wideC]
  rfl

theorem scale_toE (M : Mat) (f : Fin 128 → ℝ) :
    mulf (F := Ideal) (toE .f32 M) (wideC (cl f)) = toE .f32 (Delta.scale M f) := by
  rw [wideC_cl, mulf_toE]; rfl

theorem decay_toE (G : Fin 128 → ℝ) : decay (F := Ideal) (cl G) (rw' G) = toE .f32 (Delta.dec G) := by
  have hb : broadcastTo S128x128 (rw' G) broadcasts_S1x128_S128x128 = toE .f32 (fun _ j => G j : Mat) := by
    refine ext2 fun i j => ?_
    rw [toE_ix]
    pointwise []
    rfl
  rw [decay, hb, wideC_cl, subf_toE, zero_toE, select_toE _ _ low _ low_at, exp_toE, select_toE _ _ low _ low_at]
  congr 1
  funext i j
  simp only [Delta.dec]
  by_cases h : j ≤ i <;> simp [h]

theorem kq_top (a q k : Mat) : extractStridedSlice S128x128 ![0, 0] (kq (F := Ideal) (toE .f32 a) (toE .f32 q) (toE .f32 k))
    slices_S256x128_o0_0_S128x128 = toE .f32 (a * k.transpose) := by
  refine ext2 fun i j => ?_
  rw [toE_ix]
  pointwise [kq, dn]
  simp only [toE_ix, ← EReal.coe_mul]
  rw [coe_sum, Matrix.mul_apply]; rfl

theorem kq_bot (a q k : Mat) : extractStridedSlice S128x128 ![128, 0] (kq (F := Ideal) (toE .f32 a) (toE .f32 q) (toE .f32 k))
    slices_S256x128_o128_0_S128x128 = toE .f32 (q * k.transpose) := by
  refine ext2 fun i j => ?_
  rw [toE_ix]
  pointwise [kq, dn]
  simp only [toE_ix, ← EReal.coe_mul]
  rw [coe_sum, Matrix.mul_apply]; rfl

theorem amat_toE (K Q : Mat) (b G : Fin 128 → ℝ) :
    amat (kq (F := Ideal) (toE .f32 (Delta.scale K b)) (toE .f32 Q) (toE .f32 K)) (toE .f32 (Delta.dec G)) = toE .f32 (Delta.amat K b G) := by
  rw [amat, kq_top, mulf_toE, zero_toE, select_toE _ _ slow _ slow_at]; rfl

theorem qk_toE (K Q X : Mat) (G : Fin 128 → ℝ) :
    qk (kq (F := Ideal) (toE .f32 X) (toE .f32 Q) (toE .f32 K)) (toE .f32 (Delta.dec G)) = toE .f32 (Delta.qk Q K G) := by
  rw [qk, kq_bot, mulf_toE, zero_toE, select_toE _ _ low _ low_at]; rfl

theorem negb_toE (A : Mat) : negb (F := Ideal) (toE .f32 A) = toE .f32 (-(Delta.blk 4 A)) := by
  rw [negb, zero_toE, subf_toE, select_toE _ _ _ _ (same_at _ 4 shr4)]
  congr 1
  funext i j
  simp only [Delta.blk, Matrix.neg_apply, Matrix.sub_apply, Matrix.zero_apply, zero_sub]
  split_ifs <;> simp

theorem fold_toE (B : Mat) (hB : Delta.Blocked 4 B) : fold (F := Ideal) (toE .f32 B) = toE .f32 (Delta.wide B) := by
  refine ext2 fun i j => ?_
  rw [toE_ix]
  pointwise [fold]
  simp only [toE_ix, ← EReal.coe_add]
  congr 1
  have hz : ∀ n : Fin 8, ¬ j.val / 16 = n.val → B ⟨16 * n.val + i.val, by omega⟩ j = 0 := by
    intro n h
    refine hB _ _ fun h' => h ?_
    simp only at h'
    omega
  have hj : j.val / 16 < 8 := by omega
  obtain ⟨m, hm⟩ : ∃ m : Fin 8, m.val = j.val / 16 := ⟨⟨_, hj⟩, rfl⟩
  have hw : Delta.wide B i j = B ⟨16 * m.val + i.val, by omega⟩ j := by
    simp only [Delta.wide, hm]
  have hs : ∑ n : Fin 8, B ⟨16 * n.val + i.val, by omega⟩ j = B ⟨16 * m.val + i.val, by omega⟩ j :=
    Finset.sum_eq_single m (fun n _ hn => hz n (fun h => hn (Fin.ext (by omega)))) (by simp)
  rw [hw, ← hs]
  simp only [Fin.sum_univ_eight]
  simp

theorem open16_toE (w : Matrix (Fin 16) (Fin 128) ℝ) : open16 (F := Ideal) (toE .f32 w) = toE .f32 (Delta.expand w) := by
  have hc : concatenate S128x128 0
      [⟨S16x128, toE .f32 w⟩, ⟨S16x128, toE .f32 w⟩, ⟨S16x128, toE .f32 w⟩, ⟨S16x128, toE .f32 w⟩, ⟨S16x128, toE .f32 w⟩,
        ⟨S16x128, toE .f32 w⟩, ⟨S16x128, toE .f32 w⟩, ⟨S16x128, toE .f32 w⟩]
      concatenates_S16x128_S16x128_S16x128_S16x128_S16x128_S16x128_S16x128_S16x128_S128x128_d0
      = toE .f32 (fun i j => w ⟨i.val % 16, by omega⟩ j : Mat) := by
    refine ext2 fun i j => ?_
    rw [toE_ix]
    pointwise []
    simp only [toE_ix]
    split_ifs <;> (congr 2; apply Fin.ext; simp only; omega)
  rw [open16, hc, zero_toE, select_toE _ _ _ _ (same_at _ 4 shr4)]
  rfl

theorem eye_toE : eye (F := Ideal) = toE .f32 (Delta.wide 1) := by
  refine ext2 fun i j => ?_
  have ha : ∀ j : Fin 128, IntOp.andi (BitVec.ofNat 32 j.val) 15#32 = BitVec.ofNat 32 (j.val % 16) := by decide +kernel
  rw [toE_ix]
  pointwise [eye]
  rw [ha, WordCmp.cmpi_eq_ofNat (by omega) (by omega), WordCmp.select_ofBool]
  simp only [Delta.wide, Matrix.one_apply, Fin.ext_iff]
  by_cases h : j.val % 16 = i.val
  · rw [if_pos (by simpa using h), if_pos (by omega)]; rfl
  · rw [if_neg (by simpa using h), if_neg (by omega)]; rfl

theorem t16_toE (B : Mat) (hB : Delta.Blocked 4 B) : open16 (F := Ideal) (t16 (toE .f32 B)) = toE .f32 (Delta.series B) := by
  have h2 := hB.mul hB
  have h3 := h2.mul hB
  have h4 := h2.mul h2
  have h8 := h4.mul h4
  have e2 : w2 (F := Ideal) (toE .f32 B) = toE .f32 (Delta.wide (B * B)) := by
    rw [w2, fold_toE _ hB, mw_toE, Delta.wide_mul hB]
  have e4 : w4 (F := Ideal) (toE .f32 B) = toE .f32 (Delta.wide ((B * B) * (B * B))) := by
    rw [w4, e2, open16_toE, Delta.expand_wide h2, mw_toE, Delta.wide_mul h2]
  have e8 : w8 (F := Ideal) (toE .f32 B) = toE .f32 (Delta.wide (((B * B) * (B * B)) * ((B * B) * (B * B)))) := by
    rw [w8, e4, open16_toE, Delta.expand_wide h4, mw_toE, Delta.wide_mul h4]
  have f4 : t4 (F := Ideal) (toE .f32 B) = toE .f32 (Delta.wide (1 + B + B * B + B * B * B)) := by
    rw [t4, e2, fold_toE _ hB, eye_toE, mw_toE, Delta.wide_mul hB, addf_toE, addf_toE, addf_toE, ← Delta.wide_add, ← Delta.wide_add,
      ← Delta.wide_add]
  have f8 : t8 (F := Ideal) (toE .f32 B) = toE .f32 (Delta.wide ((1 + B + B * B + B * B * B)
      + (1 + B + B * B + B * B * B) * ((B * B) * (B * B)))) := by
    rw [t8, f4, e4, open16_toE, Delta.expand_wide h4, mw_toE, Delta.wide_mul h4, addf_toE, ← Delta.wide_add]
  rw [t16, f8, e8, open16_toE, Delta.expand_wide h8, mw_toE, Delta.wide_mul h8, addf_toE, ← Delta.wide_add, open16_toE]
  exact congrArg _ (Delta.expand_wide (Delta.series_blocked hB))

theorem dbl_toE (s s' : BitVec 32) (n : ℕ)
    (h : ∀ i : Fin 128, IntOp.shrsi .vector (BitVec.ofNat 32 i.val) s = BitVec.ofNat 32 (i.val / 2 ^ n))
    (h' : ∀ i : Fin 128, IntOp.shrsi .vector (BitVec.ofNat 32 i.val) s' = BitVec.ofNat 32 (i.val / 2 ^ (n + 1))) (A T : Mat) :
    dbl (F := Ideal) s s' (toE .f32 A) (toE .f32 T) = toE .f32 (Delta.dbl n A T) := by
  rw [dbl, zero_toE, select_toE _ _ _ _ (between_at s s' n h h'), mm_toE, mm_toE, subf_toE]
  rfl

theorem tmat_toE (A : Mat) : tmat (F := Ideal) (toE .f32 A) = toE .f32 (Delta.inv A) := by
  rw [tmat, negb_toE, t16_toE, dbl_toE _ _ 4 shr4 shr5, dbl_toE _ _ 5 shr5 shr6, dbl_toE _ _ 6 shr6 shr7]
  · rfl
  · intro i j h
    rw [Matrix.neg_apply, Delta.blk_blocked 4 A i j h, neg_zero]

theorem sol_left (T V X : Mat) (b e : Fin 128 → ℝ) :
    extractStridedSlice S128x128 ![0, 0] (sol (F := Ideal) (toE .f32 T) (toE .f32 V) (toE .f32 X) (cl b) (cl e))
      slices_S128x256_o0_0_S128x128 = toE .f32 (T * Delta.scale V b) := by
  refine ext2 fun i j => ?_
  rw [toE_ix, sol, scale_toE, scale_toE]
  pointwise [dn]
  simp only [toE_ix, ← EReal.coe_mul]
  rw [coe_sum, Matrix.mul_apply]

theorem sol_right (T V X : Mat) (b e : Fin 128 → ℝ) :
    extractStridedSlice S128x128 ![0, 128] (sol (F := Ideal) (toE .f32 T) (toE .f32 V) (toE .f32 X) (cl b) (cl e))
      slices_S128x256_o0_128_S128x128 = toE .f32 (T * Delta.scale X e) := by
  refine ext2 fun i j => ?_
  rw [toE_ix, sol, scale_toE, scale_toE]
  pointwise [dn]
  simp only [toE_ix, ← EReal.coe_mul]
  rw [coe_sum, Matrix.mul_apply]

/-- The state's products with the solved keys. -/
theorem ws_top (s : FVec Ideal S128x256 .f32) (W Q S : Mat)
    (h : extractStridedSlice S128x128 ![0, 128] s slices_S128x256_o0_128_S128x128 = toE .f32 W) :
    extractStridedSlice S128x128 ![0, 0] (ws (F := Ideal) s (toE .f32 Q) (toE .f32 S)) slices_S256x128_o0_0_S128x128
      = toE .f32 (W * S) := by
  refine ext2 fun i j => ?_
  rw [toE_ix, ws, h]
  pointwise [dn]
  simp only [toE_ix, ← EReal.coe_mul]
  rw [coe_sum, Matrix.mul_apply]

/-- The state's products with the decayed queries. -/
theorem ws_bot (s : FVec Ideal S128x256 .f32) (W Q S : Mat)
    (h : extractStridedSlice S128x128 ![0, 128] s slices_S128x256_o0_128_S128x128 = toE .f32 W) :
    extractStridedSlice S128x128 ![128, 0] (ws (F := Ideal) s (toE .f32 Q) (toE .f32 S)) slices_S256x128_o128_0_S128x128
      = toE .f32 (Q * S) := by
  refine ext2 fun i j => ?_
  rw [toE_ix, ws, h]
  pointwise [dn]
  simp only [toE_ix, ← EReal.coe_mul]
  rw [coe_sum, Matrix.mul_apply]

theorem snew_toE (S Kd U : Mat) (e : Fin 128 → ℝ) :
    snew (F := Ideal) (toE .f32 S) (cl e) (toE .f32 Kd) (toE .f32 U)
      = toE .f32 (fun a d => S a d * e 127 + (Kd.transpose * U) a d) := by
  refine ext2 fun i j => ?_
  rw [toE_ix]
  pointwise [snew, dn]
  simp only [toE_ix, cl, ← EReal.coe_mul]
  rw [coe_sum, Matrix.mul_apply, ← EReal.coe_add]; rfl

section Chunk
variable (Q K V S : Mat) (b G : Fin 128 → ℝ)

theorem vnC_toE : vnC (F := Ideal) (toE .bf16 Q) (toE .bf16 K) (toE .bf16 V) (cl b) (cl G) (cl fun i => Real.exp (G i)) (rw' G)
    (toE .f32 S) = toE .f32 (Delta.vnew K V b G S) := by
  rw [vnC, vnew, wsC, solC, up_toE, up_toE, up_toE, scale_toE, scale_toE, decay_toE, amat_toE, tmat_toE,
    ws_top _ _ _ _ (sol_right _ _ _ _ _), sol_left, subf_toE]
  rfl

/-- A chunk's rows are the chunked formula's. -/
theorem outC_toE : outC (F := Ideal) (toE .bf16 Q) (toE .bf16 K) (toE .bf16 V) (cl b) (cl G) (cl fun i => Real.exp (G i)) (rw' G)
    (toE .f32 S) = toE .f32 (Delta.out Q K V b G S) := by
  rw [outC, vnC_toE, oo, wsC, solC, up_toE, up_toE, up_toE, scale_toE, scale_toE, decay_toE, amat_toE, tmat_toE,
    ws_bot _ _ _ _ (sol_right _ _ _ _ _), qk_toE, mm_toE, addf_toE]
  rfl

/-- The state after a chunk is the chunked formula's. -/
theorem stC_toE : stC (F := Ideal) (toE .bf16 Q) (toE .bf16 K) (toE .bf16 V) (cl b) (cl G) (cl fun i => Real.exp (G i))
    (cl fun i => Real.exp (G 127 - G i)) (rw' G) (toE .f32 S) = toE .f32 (Delta.next K V b G S) := by
  rw [stC, vnC_toE, up_toE, scale_toE, snew_toE]
  rfl

end Chunk

end Cert.KernelIdeal.Words

end
-- ==== Proof.Tokens.lean ====
/- The gated delta rule token by token over real arrays, and the entry that a head gives for a token. -/
module

public import proofs.«01_k».proof.Proof.Chunk
public import Idealize.ShloMosaic.Lib.Pointwise

@[expose] public section

set_option backward.isDefEq.respectTransparency false

noncomputable section

namespace Delta

open Idealize.ShloMosaic

section Tok
variable (qr kr vr b g G : ℕ → ℕ → ℝ)

/-- Row `i` of head `h` of an array of rows. -/
def hrow (x : ℕ → ℕ → ℝ) (h i : ℕ) : Fin 128 → ℝ := fun d => x i (128 * h + d.val)

/-- The 128 rows from row `i`. -/
def part (x : ℕ → ℕ → ℝ) (h i : ℕ) : Mat := fun a d => hrow x h (i + a.val) d

/-- The state of head `h` before token `i`, token by token. -/
def tok (h : ℕ) : ℕ → Mat
  | 0 => 0
  | i + 1 => step (tok h i) (hrow kr h i) (hrow vr h i) (b i h) (g i h)

/-- What head `h` gives for token `i`. -/
def rowO (h i : ℕ) (d : Fin 128) : ℝ := ∑ a, hrow qr h i a * tok kr vr b g h (i + 1) a d

end Tok

/-- The normalized, scaled and gated entry of a row `o`, at column `d`. -/
def gated (o : Fin 128 → ℝ) (s z : EReal) (d : Fin 128) : EReal :=
  ((o d : ℝ) : EReal) * Ideal.rsqrt (Ideal.div (((∑ a, o a * o a : ℝ)) : EReal) (Ideal.ofBits .f32 0x43000000#32) + Ideal.ofBits .f32 0x358637BD#32) * s * z

end Delta

end
-- ==== Proof.State.lean ====
/- The gated DeltaNet call over real inputs: its blocks read as real matrices, and what it carries from block to block. -/
module

public import proofs.«01_k».proof.Proof.Blocks
public import proofs.«01_k».proof.Proof.Val
public import proofs.«01_k».proof.Proof.Tokens
public import Idealize.ShloMosaic.Lib.KernelVsHost

@[expose] public section

set_option maxRecDepth 16384
set_option backward.isDefEq.respectTransparency false

noncomputable section

namespace Cert.KernelIdeal.Words

open Idealize.ShloMosaic Idealize.ShloMosaic.TcCoe Idealize.SL.Sem Cert.KernelIdeal.Gen Cert.KernelIdeal.Value Delta

/-! ### The blocks of the windows -/

section Blocks
variable {F : FTy → Type} [FloatOps F]
variable (m : (ℓ : Loc nD τ sig) → Buf (Elt F) ℓ)

theorem ptLt (t : Fin cfg0.N) : t.val < 128 := lt_of_lt_of_eq t.isLt N_0

theorem at0 : ∀ t : Fin grid0.N, win0_0.index t 0 = t.val % 32 ∧ win0_0.index t 1 = t.val / 32 := by decide +kernel
theorem at1 : ∀ t : Fin grid0.N, win0_1.index t 0 = t.val % 32 ∧ win0_1.index t 1 = t.val / 32 := by decide +kernel
theorem at2 : ∀ t : Fin grid0.N, win0_2.index t 0 = t.val % 32 ∧ win0_2.index t 1 = t.val / 32 := by decide +kernel
theorem at3 : ∀ t : Fin grid0.N, win0_3.index t 0 = t.val % 32 ∧ win0_3.index t 1 = 0 := by decide +kernel
theorem at4 : ∀ t : Fin grid0.N, win0_4.index t 0 = t.val % 32 ∧ win0_4.index t 1 = 0 := by decide +kernel
theorem at5 : ∀ t : Fin grid0.N, win0_5.index t 0 = t.val % 32 ∧ win0_5.index t 1 = 0 := by decide +kernel
theorem at6 : ∀ t : Fin grid0.N, win0_6.index t 0 = t.val % 32 ∧ win0_6.index t 1 = 0 := by decide +kernel
theorem at7 : ∀ t : Fin grid0.N, win0_7.index t 0 = t.val / 32 ∧ win0_7.index t 1 = t.val % 32 := by decide +kernel
theorem at8 : ∀ t : Fin grid0.N, win0_8.index t 0 = t.val % 32 ∧ win0_8.index t 1 = t.val / 32 := by decide +kernel
theorem at9 : ∀ t : Fin grid0.N, win0_9.index t 0 = 0 ∧ win0_9.index t 1 = 0 := by decide +kernel

theorem iblk0_at (c : Dev nD) (t : Fin cfg0.N) (i : Fin 256) (j : Fin 1024) (a : Fin 8192) (b : Fin 4096)
    (ha : a.val = 256 * (t.val % 32) + i.val) (hb : b.val = 1024 * (t.val / 32) + j.val) :
    (iblk m c 0 t : Vec F S256x1024 .bf16) (ix2 i j) = m ((c : Thread nD τ).loc main_arg0) (ix2 a b) := by
  unfold iblk
  rw [View.read_apply]
  show V m c main_arg0 _ = _
  rw [V_main_arg0]
  congr 1
  funext x
  apply Fin.ext
  match x with
  | ⟨0, _⟩ => show win0_0.index t 0 * 256 + 1 * i.val = a.val; rw [(at0 t).1]; omega
  | ⟨1, _⟩ => show win0_0.index t 1 * 1024 + 1 * j.val = b.val; rw [(at0 t).2]; omega

theorem iblk1_at (c : Dev nD) (t : Fin cfg0.N) (i : Fin 256) (j : Fin 1024) (a : Fin 8192) (b : Fin 4096)
    (ha : a.val = 256 * (t.val % 32) + i.val) (hb : b.val = 1024 * (t.val / 32) + j.val) :
    (iblk m c 1 t : Vec F S256x1024 .bf16) (ix2 i j) = m ((c : Thread nD τ).loc main_arg1) (ix2 a b) := by
  unfold iblk
  rw [View.read_apply]
  show V m c main_arg1 _ = _
  rw [V_main_arg1]
  congr 1
  funext x
  apply Fin.ext
  match x with
  | ⟨0, _⟩ => show win0_1.index t 0 * 256 + 1 * i.val = a.val; rw [(at1 t).1]; omega
  | ⟨1, _⟩ => show win0_1.index t 1 * 1024 + 1 * j.val = b.val; rw [(at1 t).2]; omega

theorem iblk2_at (c : Dev nD) (t : Fin cfg0.N) (i : Fin 256) (j : Fin 1024) (a : Fin 8192) (b : Fin 4096)
    (ha : a.val = 256 * (t.val % 32) + i.val) (hb : b.val = 1024 * (t.val / 32) + j.val) :
    (iblk m c 2 t : Vec F S256x1024 .bf16) (ix2 i j) = m ((c : Thread nD τ).loc main_arg2) (ix2 a b) := by
  unfold iblk
  rw [View.read_apply]
  show V m c main_arg2 _ = _
  rw [V_main_arg2]
  congr 1
  funext x
  apply Fin.ext
  match x with
  | ⟨0, _⟩ => show win0_2.index t 0 * 256 + 1 * i.val = a.val; rw [(at2 t).1]; omega
  | ⟨1, _⟩ => show win0_2.index t 1 * 1024 + 1 * j.val = b.val; rw [(at2 t).2]; omega

theorem iblk8_at (c : Dev nD) (t : Fin cfg0.N) (i : Fin 256) (j : Fin 1024) (a : Fin 8192) (b : Fin 4096)
    (ha : a.val = 256 * (t.val % 32) + i.val) (hb : b.val = 1024 * (t.val / 32) + j.val) :
    (iblk m c 8 t : Vec F S256x1024 .bf16) (ix2 i j) = m ((c : Thread nD τ).loc main_arg3) (ix2 a b) := by
  unfold iblk
  rw [View.read_apply]
  show V m c main_arg3 _ = _
  rw [V_main_arg3]
  congr 1
  funext x
  apply Fin.ext
  match x with
  | ⟨0, _⟩ => show win0_8.index t 0 * 256 + 1 * i.val = a.val; rw [(at8 t).1]; omega
  | ⟨1, _⟩ => show win0_8.index t 1 * 1024 + 1 * j.val = b.val; rw [(at8 t).2]; omega

theorem iblk3_at (c : Dev nD) (t : Fin cfg0.N) (i : Fin 256) (j : Fin 128) (a : Fin 8192) (b : Fin 128)
    (ha : a.val = 256 * (t.val % 32) + i.val) (hb : b.val = j.val) :
    (iblk m c 3 t : Vec F S256x128 .f32) (ix2 i j) = m ((c : Thread nD τ).loc main_arg4) (ix2 a b) := by
  unfold iblk
  rw [View.read_apply]
  show V m c main_arg4 _ = _
  rw [V_main_arg4]
  congr 1
  funext x
  apply Fin.ext
  match x with
  | ⟨0, _⟩ => show win0_3.index t 0 * 256 + 1 * i.val = a.val; rw [(at3 t).1]; omega
  | ⟨1, _⟩ => show win0_3.index t 1 * 128 + 1 * j.val = b.val; rw [(at3 t).2]; omega

theorem iblk4_at (c : Dev nD) (t : Fin cfg0.N) (i : Fin 256) (j : Fin 128) (a : Fin 8192) (b : Fin 128)
    (ha : a.val = 256 * (t.val % 32) + i.val) (hb : b.val = j.val) :
    (iblk m c 4 t : Vec F S256x128 .f32) (ix2 i j) = m ((c : Thread nD τ).loc main_arg6) (ix2 a b) := by
  unfold iblk
  rw [View.read_apply]
  show V m c main_arg6 _ = _
  rw [V_main_arg6]
  congr 1
  funext x
  apply Fin.ext
  match x with
  | ⟨0, _⟩ => show win0_4.index t 0 * 256 + 1 * i.val = a.val; rw [(at4 t).1]; omega
  | ⟨1, _⟩ => show win0_4.index t 1 * 128 + 1 * j.val = b.val; rw [(at4 t).2]; omega

theorem iblk5_at (c : Dev nD) (t : Fin cfg0.N) (i : Fin 256) (j : Fin 128) (a : Fin 8192) (b : Fin 128)
    (ha : a.val = 256 * (t.val % 32) + i.val) (hb : b.val = j.val) :
    (iblk m c 5 t : Vec F S256x128 .f32) (ix2 i j) = m ((c : Thread nD τ).loc main_arg7) (ix2 a b) := by
  unfold iblk
  rw [View.read_apply]
  show V m c main_arg7 _ = _
  rw [V_main_arg7]
  congr 1
  funext x
  apply Fin.ext
  match x with
  | ⟨0, _⟩ => show win0_5.index t 0 * 256 + 1 * i.val = a.val; rw [(at5 t).1]; omega
  | ⟨1, _⟩ => show win0_5.index t 1 * 128 + 1 * j.val = b.val; rw [(at5 t).2]; omega

theorem iblk6_at (c : Dev nD) (t : Fin cfg0.N) (i : Fin 256) (j : Fin 128) (a : Fin 8192) (b : Fin 128)
    (ha : a.val = 256 * (t.val % 32) + i.val) (hb : b.val = j.val) :
    (iblk m c 6 t : Vec F S256x128 .f32) (ix2 i j) = m ((c : Thread nD τ).loc main_arg8) (ix2 a b) := by
  unfold iblk
  rw [View.read_apply]
  show V m c main_arg8 _ = _
  rw [V_main_arg8]
  congr 1
  funext x
  apply Fin.ext
  match x with
  | ⟨0, _⟩ => show win0_6.index t 0 * 256 + 1 * i.val = a.val; rw [(at6 t).1]; omega
  | ⟨1, _⟩ => show win0_6.index t 1 * 128 + 1 * j.val = b.val; rw [(at6 t).2]; omega

theorem iblk7_at (c : Dev nD) (t : Fin cfg0.N) (i : Fin 8) (j : Fin 256) (a : Fin 128) (b : Fin 8192)
    (ha : a.val = 8 * (t.val / 32) + i.val) (hb : b.val = 256 * (t.val % 32) + j.val) :
    (iblk m c 7 t : Vec F S8x256 .f32) (ix2 i j) = m ((c : Thread nD τ).loc main_arg9) (ix2 a b) := by
  unfold iblk
  rw [View.read_apply]
  show V m c main_arg9 _ = _
  rw [V_main_arg9]
  congr 1
  funext x
  apply Fin.ext
  match x with
  | ⟨0, _⟩ => show win0_7.index t 0 * 8 + 1 * i.val = a.val; rw [(at7 t).1]; omega
  | ⟨1, _⟩ => show win0_7.index t 1 * 256 + 1 * j.val = b.val; rw [(at7 t).2]; omega

/-- The scale's window holds the scale. -/
theorem iblk9_at (c : Dev nD) (t : Fin cfg0.N) (j : Fin 128) :
    (iblk m c 9 t : Vec F S1x128 .f32) (ix2 0 j) = (m ((c : Thread nD τ).loc main_arg10) : Vec F S128 .f32) (ix1 j) := by
  have hv : V m c main_v0 = shapeCast S1x128 (m ((c : Thread nD τ).loc main_arg10) : Vec F S128 .f32) shapeCasts_S128_S1x128 := by
    show StableHlo.after hostOps0 _ (Proc.devRef .tc main_v0) = _
    after_results
    rfl
  unfold iblk
  rw [View.read_apply]
  show V m c main_v0 _ = _
  rw [hv]
  have he : ((cfg0.win 9).blk t).view.emb (ix2 0 j) = (ix2 0 j : S1x128.Idx) := by
    funext x
    apply Fin.ext
    match x with
    | ⟨0, _⟩ => show win0_9.index t 0 * 1 + 1 * 0 = 0; rw [(at9 t).1]
    | ⟨1, _⟩ => show win0_9.index t 1 * 128 + 1 * j.val = j.val; rw [(at9 t).2]; omega
  refine (congrArg (shapeCast S1x128 (m ((c : Thread nD τ).loc main_arg10) : Vec F S128 .f32) shapeCasts_S128_S1x128) he).trans ?_
  pointwise []

end Blocks

/-! ### A block read at a chunk and a head -/

section Reads
variable {F : FTy → Type} [FloatOps F]

theorem blk_at (n : Fin 2) (h : Fin 8) (x : Vec F S256x1024 .bf16) (i j : Fin 128) :
    blk n h x (ix2 i j) = x (ix2 ⟨128 * n.val + i.val, by omega⟩ ⟨128 * h.val + j.val, by omega⟩) := by
  show x _ = x _
  congr 1
  funext a
  apply Fin.ext
  match a with
  | ⟨0, _⟩ => show 128 * n.val + 1 * i.val = 128 * n.val + i.val; omega
  | ⟨1, _⟩ => show 128 * h.val + 1 * j.val = 128 * h.val + j.val; omega

theorem turnBy : ∀ t : Fin grid0.N, (Scalar.remsi (Scalar.subi 128#32 (Scalar.muli (BitVec.ofNat 32 ((grid0.coords t) 0).val) 8#32)) 128#32).toNat % 128
    = (128 - 8 * (t.val / 32)) % 128 := by decide +kernel

/-- A turned column is the lane of the step's head. -/
theorem lane_at (t : Fin cfg0.N) (n : Fin 2) (h : Fin 8) (x : Vec F S256x128 .f32) (i : Fin 128) (j : Fin 1) :
    lane _ (lanes n h) (grid0.coords t) (View.ld x RL) (ix2 i j)
      = x (ix2 ⟨128 * n.val + i.val, by omega⟩ ⟨8 * (t.val / 32) + h.val, by have := ptLt t; omega⟩) := by
  have ht := ptLt t
  have hj : j = 0 := Subsingleton.elim _ _
  subst hj
  unfold lane turn extractStridedSlice
  rw [dynamicRotate_apply 1 _ _ _ _ (ix2 ⟨128 * n.val + i.val, by omega⟩ ⟨8 * (t.val / 32) + h.val, by omega⟩)]
  · show x _ = x _
    congr 1
    funext a
    apply Fin.ext
    match a with
    | ⟨0, _⟩ => show 0 + 1 * (128 * n.val + i.val) = 128 * n.val + i.val; omega
    | ⟨1, _⟩ => show 0 + 1 * (8 * (t.val / 32) + h.val) = 8 * (t.val / 32) + h.val; omega
  · intro b
    match b with
    | ⟨0, _⟩ => rfl
    | ⟨1, _⟩ =>
      show 8 * (t.val / 32) + h.val = ((h.val + 0) + 128 - _ % 128) % 128
      rw [turnBy t]; omega

theorem row_at (n : Fin 2) (h : Fin 8) (x : Vec F S8x256 .f32) (i : Fin 1) (j : Fin 128) :
    extractStridedSlice S1x128 _ (View.ld x RT : Vec F S8x256 .f32) (rows n h) (ix2 i j)
      = x (ix2 h ⟨128 * n.val + j.val, by omega⟩) := by
  have hi : i = 0 := Subsingleton.elim _ _
  subst hi
  show x _ = x _
  congr 1
  funext a
  apply Fin.ext
  match a with
  | ⟨0, _⟩ => show 0 + 1 * (h.val + 0) = h.val; omega
  | ⟨1, _⟩ => show 0 + 1 * (128 * n.val + j.val) = 128 * n.val + j.val; omega

end Reads

/-! ### The gated delta rule over the call's real inputs -/

/-- What the call's arrays hold: real queries, keys, values, gates and log decays, the decays' running sums within each chunk
    of 128 tokens, and the exponentials that the call reads. -/
structure Data (m : (ℓ : Loc nD τ sig) → Buf (Elt Ideal) ℓ) (c : Dev nD) (qr kr vr b g G : ℕ → ℕ → ℝ) : Prop where
  hq : ∀ (i : Fin 8192) (j : Fin 4096), (m ((c : Thread nD τ).loc main_arg0) : Vec Ideal S8192x4096 .bf16) (ix2 i j) = ((qr i j : ℝ) : EReal)
  hk : ∀ (i : Fin 8192) (j : Fin 4096), (m ((c : Thread nD τ).loc main_arg1) : Vec Ideal S8192x4096 .bf16) (ix2 i j) = ((kr i j : ℝ) : EReal)
  hv : ∀ (i : Fin 8192) (j : Fin 4096), (m ((c : Thread nD τ).loc main_arg2) : Vec Ideal S8192x4096 .bf16) (ix2 i j) = ((vr i j : ℝ) : EReal)
  hb : ∀ (i : Fin 8192) (j : Fin 128), j.val < 32 → (m ((c : Thread nD τ).loc main_arg4) : Vec Ideal S8192x128 .f32) (ix2 i j) = ((b i j : ℝ) : EReal)
  hG : ∀ (i : Fin 8192) (j : Fin 128), j.val < 32 → (m ((c : Thread nD τ).loc main_arg6) : Vec Ideal S8192x128 .f32) (ix2 i j) = ((G i j : ℝ) : EReal)
  he : ∀ (i : Fin 8192) (j : Fin 128), j.val < 32 → (m ((c : Thread nD τ).loc main_arg7) : Vec Ideal S8192x128 .f32) (ix2 i j) = ((Real.exp (G i j) : ℝ) : EReal)
  hd : ∀ (i : Fin 8192) (j : Fin 128), j.val < 32 → (m ((c : Thread nD τ).loc main_arg8) : Vec Ideal S8192x128 .f32) (ix2 i j)
    = ((Real.exp (G (128 * (i.val / 128) + 127) j - G i j) : ℝ) : EReal)
  ht : ∀ (j : Fin 128) (i : Fin 8192), j.val < 32 → (m ((c : Thread nD τ).loc main_arg9) : Vec Ideal S128x8192 .f32) (ix2 j i) = ((G i j : ℝ) : EReal)
  hsum : ∀ i j : ℕ, i < 8192 → j < 32 → G i j = (if i % 128 = 0 then 0 else G (i - 1) j) + g i j

/-- The zeros a sweep begins with. -/
theorem heads_zeros (h : Fin 8) : heads (k0_pay6 (F := Ideal)) h = toE .f32 (0 : Mat) := by
  have z : ∀ y, (k0_pay6 (F := Ideal)) y = ((0 : ℝ) : EReal) := fun y => Ideal.ofBits_zero_f32
  funext j
  unfold heads shapeCast View.ld
  exact z _

section Steps
variable {m : (ℓ : Loc nD τ sig) → Buf (Elt Ideal) ℓ} {c : Dev nD} {qr kr vr b g G : ℕ → ℕ → ℝ} (D : Data m c qr kr vr b g G)
include D

/-- The chunk's first token. -/
abbrev T0 (t : Fin cfg0.N) (n : Fin 2) : ℕ := 256 * (t.val % 32) + 128 * n.val
/-- The head. -/
abbrev H0 (t : Fin cfg0.N) (h : Fin 8) : ℕ := 8 * (t.val / 32) + h.val

theorem q_blk (t : Fin cfg0.N) (n : Fin 2) (h : Fin 8)
    (x : Vec Ideal S256x1024 .bf16) (hx : x = iblk m c 0 t) :
    blk n h x = toE .bf16 (part qr (H0 t h) (T0 t n)) := by
  subst hx
  have ht := ptLt t
  have hT : T0 t n = 256 * (t.val % 32) + 128 * n.val := rfl
  have hH : H0 t h = 8 * (t.val / 32) + h.val := rfl
  refine ext2 fun i j => ?_
  rw [blk_at, iblk0_at m c t _ _ ⟨T0 t n + i.val, by omega⟩ ⟨128 * H0 t h + j.val, by omega⟩ (by simp only []; omega) (by simp only []; omega), D.hq]
  rfl
theorem k_blk (t : Fin cfg0.N) (n : Fin 2) (h : Fin 8)
    (x : Vec Ideal S256x1024 .bf16) (hx : x = iblk m c 1 t) :
    blk n h x = toE .bf16 (part kr (H0 t h) (T0 t n)) := by
  subst hx
  have ht := ptLt t
  have hT : T0 t n = 256 * (t.val % 32) + 128 * n.val := rfl
  have hH : H0 t h = 8 * (t.val / 32) + h.val := rfl
  refine ext2 fun i j => ?_
  rw [blk_at, iblk1_at m c t _ _ ⟨T0 t n + i.val, by omega⟩ ⟨128 * H0 t h + j.val, by omega⟩ (by simp only []; omega) (by simp only []; omega), D.hk]
  rfl
theorem v_blk (t : Fin cfg0.N) (n : Fin 2) (h : Fin 8)
    (x : Vec Ideal S256x1024 .bf16) (hx : x = iblk m c 2 t) :
    blk n h x = toE .bf16 (part vr (H0 t h) (T0 t n)) := by
  subst hx
  have ht := ptLt t
  have hT : T0 t n = 256 * (t.val % 32) + 128 * n.val := rfl
  have hH : H0 t h = 8 * (t.val / 32) + h.val := rfl
  refine ext2 fun i j => ?_
  rw [blk_at, iblk2_at m c t _ _ ⟨T0 t n + i.val, by omega⟩ ⟨128 * H0 t h + j.val, by omega⟩ (by simp only []; omega) (by simp only []; omega), D.hv]
  rfl
theorem b_lane (t : Fin cfg0.N) (n : Fin 2) (h : Fin 8)
    (x : Vec Ideal S256x128 .f32) (hx : x = iblk m c 3 t) :
    lane _ (lanes n h) (grid0.coords t) (View.ld x RL) = cl (fun i => b (T0 t n + i.val) (H0 t h)) := by
  subst hx
  have ht := ptLt t
  have hT : T0 t n = 256 * (t.val % 32) + 128 * n.val := rfl
  have hH : H0 t h = 8 * (t.val / 32) + h.val := rfl
  refine ext2 fun i j => ?_
  rw [lane_at, iblk3_at m c t _ _ ⟨T0 t n + i.val, by omega⟩ ⟨H0 t h, by omega⟩ (by simp only []; omega) rfl, D.hb _ _ (by simp only []; omega)]
  rfl
theorem G_lane (t : Fin cfg0.N) (n : Fin 2) (h : Fin 8)
    (x : Vec Ideal S256x128 .f32) (hx : x = iblk m c 4 t) :
    lane _ (lanes n h) (grid0.coords t) (View.ld x RL) = cl (fun i => G (T0 t n + i.val) (H0 t h)) := by
  subst hx
  have ht := ptLt t
  have hT : T0 t n = 256 * (t.val % 32) + 128 * n.val := rfl
  have hH : H0 t h = 8 * (t.val / 32) + h.val := rfl
  refine ext2 fun i j => ?_
  rw [lane_at, iblk4_at m c t _ _ ⟨T0 t n + i.val, by omega⟩ ⟨H0 t h, by omega⟩ (by simp only []; omega) rfl, D.hG _ _ (by simp only []; omega)]
  rfl
theorem e_lane (t : Fin cfg0.N) (n : Fin 2) (h : Fin 8)
    (x : Vec Ideal S256x128 .f32) (hx : x = iblk m c 5 t) :
    lane _ (lanes n h) (grid0.coords t) (View.ld x RL) = cl (fun i => Real.exp (G (T0 t n + i.val) (H0 t h))) := by
  subst hx
  have ht := ptLt t
  have hT : T0 t n = 256 * (t.val % 32) + 128 * n.val := rfl
  have hH : H0 t h = 8 * (t.val / 32) + h.val := rfl
  refine ext2 fun i j => ?_
  rw [lane_at, iblk5_at m c t _ _ ⟨T0 t n + i.val, by omega⟩ ⟨H0 t h, by omega⟩ (by simp only []; omega) rfl, D.he _ _ (by simp only []; omega)]
  rfl
theorem d_lane (t : Fin cfg0.N) (n : Fin 2) (h : Fin 8)
    (x : Vec Ideal S256x128 .f32) (hx : x = iblk m c 6 t) :
    lane _ (lanes n h) (grid0.coords t) (View.ld x RL)
      = cl (fun i => Real.exp (G (T0 t n + (127 : Fin 128).val) (H0 t h) - G (T0 t n + i.val) (H0 t h))) := by
  subst hx
  have ht := ptLt t
  have hT : T0 t n = 256 * (t.val % 32) + 128 * n.val := rfl
  have hH : H0 t h = 8 * (t.val / 32) + h.val := rfl
  refine ext2 fun i j => ?_
  rw [lane_at, iblk6_at m c t _ _ ⟨T0 t n + i.val, by omega⟩ ⟨H0 t h, by omega⟩ (by simp only []; omega) rfl, D.hd _ _ (by simp only []; omega)]
  have e : 128 * ((T0 t n + i.val) / 128) + 127 = T0 t n + (127 : Fin 128).val := by
    show 128 * ((256 * (t.val % 32) + 128 * n.val + i.val) / 128) + 127 = 256 * (t.val % 32) + 128 * n.val + 127
    omega
  simp only [e]
  rfl
theorem G_row (t : Fin cfg0.N) (n : Fin 2) (h : Fin 8)
    (x : Vec Ideal S8x256 .f32) (hx : x = iblk m c 7 t) :
    extractStridedSlice S1x128 _ (View.ld x RT : Vec Ideal S8x256 .f32) (rows n h) = rw' (fun i => G (T0 t n + i.val) (H0 t h)) := by
  subst hx
  have ht := ptLt t
  have hT : T0 t n = 256 * (t.val % 32) + 128 * n.val := rfl
  have hH : H0 t h = 8 * (t.val / 32) + h.val := rfl
  refine ext2 fun i j => ?_
  rw [row_at, iblk7_at m c t _ _ ⟨H0 t h, by omega⟩ ⟨T0 t n + j.val, by omega⟩ (by simp only []) (by simp only []; omega), D.ht _ _ (by simp only []; omega)]
  rfl

/-- The running sums of the chunk. -/
theorem sums (t : Fin cfg0.N) (n : Fin 2) (h : Fin 8) (i : Fin 128) : G (T0 t n + i.val) (H0 t h)
    = (if e : (i : ℕ) = 0 then 0 else G (T0 t n + (⟨i - 1, by omega⟩ : Fin 128).val) (H0 t h)) + g (T0 t n + i.val) (H0 t h) := by
  have ht := ptLt t
  have hT : T0 t n = 256 * (t.val % 32) + 128 * n.val := rfl
  have hH : H0 t h = 8 * (t.val / 32) + h.val := rfl
  rw [D.hsum _ _ (by have := i.isLt; omega) (by omega)]
  congr 1
  by_cases e : (i : ℕ) = 0
  · rw [dif_pos e, if_pos (by omega)]
  · rw [dif_neg e, if_neg (by omega)]
    congr 1
    show T0 t n + i.val - 1 = T0 t n + (i.val - 1)
    omega

/-- A chunk's step of the state is its 128 tokens' steps. -/
theorem stN_tok (t : Fin cfg0.N) (n : Fin 2) (h : Fin 8) :
    stN n h (grid0.coords t) (iblk m c 0 t) (iblk m c 1 t) (iblk m c 2 t) (iblk m c 3 t) (iblk m c 4 t) (iblk m c 5 t) (iblk m c 6 t)
      (iblk m c 7 t) (toE .f32 (tok kr vr b g (H0 t h) (T0 t n))) = toE .f32 (tok kr vr b g (H0 t h) (T0 t n + 128)) := by
  rw [stN, q_blk D t n h (iblk m c 0 t) rfl, k_blk D t n h (iblk m c 1 t) rfl, v_blk D t n h (iblk m c 2 t) rfl, b_lane D t n h (iblk m c 3 t) rfl, G_lane D t n h (iblk m c 4 t) rfl, e_lane D t n h (iblk m c 5 t) rfl, d_lane D t n h (iblk m c 6 t) rfl, G_row D t n h (iblk m c 7 t) rfl, stC_toE]
  congr 1
  exact (next_eq (part kr (H0 t h) (T0 t n)) (part vr (H0 t h) (T0 t n)) _ (fun i => g (T0 t n + i.val) (H0 t h)) _
    (fun i => tok kr vr b g (H0 t h) (T0 t n + i)) (fun i => rfl) (sums D t n h)).symm

/-- A chunk's rows are its tokens' rows. -/
theorem outN_tok (t : Fin cfg0.N) (n : Fin 2) (h : Fin 8) :
    outN n h (grid0.coords t) (iblk m c 0 t) (iblk m c 1 t) (iblk m c 2 t) (iblk m c 3 t) (iblk m c 4 t) (iblk m c 5 t)
      (iblk m c 7 t) (toE .f32 (tok kr vr b g (H0 t h) (T0 t n))) = toE .f32 (fun i d => rowO qr kr vr b g (H0 t h) (T0 t n + i.val) d) := by
  rw [outN, q_blk D t n h (iblk m c 0 t) rfl, k_blk D t n h (iblk m c 1 t) rfl, v_blk D t n h (iblk m c 2 t) rfl, b_lane D t n h (iblk m c 3 t) rfl, G_lane D t n h (iblk m c 4 t) rfl, e_lane D t n h (iblk m c 5 t) rfl, G_row D t n h (iblk m c 7 t) rfl, outC_toE]
  congr 1
  funext i d
  exact (out_eq (part qr (H0 t h) (T0 t n)) (part kr (H0 t h) (T0 t n)) (part vr (H0 t h) (T0 t n)) _ (fun i => g (T0 t n + i.val) (H0 t h)) _
    (fun i => tok kr vr b g (H0 t h) (T0 t n + i)) (fun i => rfl) (sums D t n h) i d).symm

/-- After every point of the grid the states are the tokens' states. -/
theorem states (t : ℕ) (ht : t < cfg0.N) (h : Fin 8) :
    heads (outsAt0 m c t ht).2 h = toE .f32 (tok kr vr b g (8 * (t / 32) + h.val) (256 * (t % 32) + 256)) := by
  have two : ∀ (t : Fin cfg0.N) (X : FVec Ideal S128x128 .f32), X = toE .f32 (tok kr vr b g (H0 t h) (T0 t 0)) →
      stN 1 h (grid0.coords t) (iblk m c 0 t) (iblk m c 1 t) (iblk m c 2 t) (iblk m c 3 t) (iblk m c 4 t) (iblk m c 5 t) (iblk m c 6 t) (iblk m c 7 t)
        (stN 0 h (grid0.coords t) (iblk m c 0 t) (iblk m c 1 t) (iblk m c 2 t) (iblk m c 3 t) (iblk m c 4 t) (iblk m c 5 t) (iblk m c 6 t) (iblk m c 7 t) X)
        = toE .f32 (tok kr vr b g (H0 t h) (256 * (t.val % 32) + 256)) := by
    intro t X hX
    subst hX
    rw [stN_tok D, show T0 t 0 + 128 = T0 t 1 from rfl, stN_tok D]
    rfl
  induction t with
  | zero =>
    rw [outsAt0_zero]
    refine (st_A m c ⟨0, ht⟩ _ (Nat.zero_mod _) h).trans (two ⟨0, ht⟩ _ ?_)
    exact heads_zeros h
  | succ t ih =>
    rw [outsAt0_succ]
    by_cases h0 : (t + 1) % 32 = 0
    · refine (st_A m c ⟨t + 1, ht⟩ _ h0 h).trans (two ⟨t + 1, ht⟩ _ ?_)
      have e : T0 ⟨t + 1, ht⟩ 0 = 0 := by show 256 * ((t + 1) % 32) + 128 * 0 = 0; omega
      rw [e]
      exact heads_zeros h
    · refine (st_B m c ⟨t + 1, ht⟩ _ h0 h).trans (two ⟨t + 1, ht⟩ _ ?_)
      rw [ih]
      congr 2
      · show 8 * (t / 32) + h.val = 8 * ((t + 1) / 32) + h.val; omega
      · show 256 * (t % 32) + 256 = 256 * ((t + 1) % 32) + 128 * 0; omega

omit D in
theorem norm_at (M : Mat) (hn : Vec Ideal S1x128 .f32) (z : Vec Ideal S128x128 .bf16) (i j : Fin 128) :
    norm (toE .f32 M) hn z (ix2 i j) = gated (M i) (hn (ix2 0 j)) (z (ix2 i j)) j := by
  pointwise [norm, wideC, up]
  simp only [toE_ix, ← EReal.coe_mul, coe_sum]
  rfl

/-- The call's result at token `T` and head `H`. -/
theorem result_at (T : Fin 8192) (H : Fin 32) (d : Fin 128) :
    G10 m c (ix2 T ⟨128 * H.val + d.val, by omega⟩)
      = gated (rowO qr kr vr b g H.val T.val) ((m ((c : Thread nD τ).loc main_arg10) : Vec Ideal S128 .f32) (ix1 d))
          ((m ((c : Thread nD τ).loc main_arg3) : Vec Ideal S8192x4096 .bf16) (ix2 T ⟨128 * H.val + d.val, by omega⟩)) d := by
  have hp : pt10Of (ix2 T ⟨128 * H.val + d.val, by omega⟩) = T.val / 256 + 32 * (H.val / 8) := by
    show 1 * (T.val / 256 - 0) + 32 * ((128 * H.val + d.val) / 1024 - 0) = _
    omega
  have hlt : T.val / 256 + 32 * (H.val / 8) < cfg0.N := by rw [show cfg0.N = 128 from N_0]; omega
  obtain ⟨t, ht⟩ : ∃ t : Fin cfg0.N, t.val = T.val / 256 + 32 * (H.val / 8) := ⟨⟨_, hlt⟩, rfl⟩
  obtain ⟨n, hn⟩ : ∃ n : Fin 2, n.val = T.val % 256 / 128 := ⟨⟨_, by omega⟩, rfl⟩
  obtain ⟨h, hh⟩ : ∃ h : Fin 8, h.val = H.val % 8 := ⟨⟨_, by omega⟩, rfl⟩
  obtain ⟨i, hi⟩ : ∃ i : Fin 128, i.val = T.val % 128 := ⟨⟨_, by omega⟩, rfl⟩
  have hT : T0 t n + i.val = T.val := by
    show 256 * (t.val % 32) + 128 * n.val + i.val = T.val
    omega
  have hH : H0 t h = H.val := by
    show 8 * (t.val / 32) + h.val = H.val
    omega
  unfold G10
  rw [dif_pos (by rw [hp]; exact hlt)]
  have e1 : Pipeline.accAt (fun n h => stAt0 m c n h junk0) (stAt0 m c) 0 (pt10Of (ix2 T ⟨128 * H.val + d.val, by omega⟩)) (by rw [hp]; omega)
      = outsAt0 m c t.val t.isLt := by
    rw [outsAt0_sweep]
    exact fold0_congr m c _ _ _ _ (hp.trans ht.symm)
  rw [e1]
  have e2 : loc10Of (ix2 T ⟨128 * H.val + d.val, by omega⟩) = (RQ n h).emb (ix2 i d) := by
    funext a
    apply Fin.ext
    match a with
    | ⟨0, _⟩ => show T.val % 256 = 128 * n.val + 1 * i.val; omega
    | ⟨1, _⟩ => show (128 * H.val + d.val) % 1024 = 128 * h.val + 1 * d.val; omega
  rw [e2]
  have fin : ∀ X : FVec Ideal S128x128 .f32, X = toE .f32 (tok kr vr b g (H0 t h) (T0 t 0)) →
      pieceO n h (grid0.coords t) (iblk m c 0 t) (iblk m c 1 t) (iblk m c 2 t) (iblk m c 3 t) (iblk m c 4 t) (iblk m c 5 t) (iblk m c 6 t)
        (iblk m c 7 t) (iblk m c 8 t) (iblk m c 9 t) X (ix2 i d) = gated (rowO qr kr vr b g H.val T.val) ((m ((c : Thread nD τ).loc main_arg10) : Vec Ideal S128 .f32) (ix1 d))
          ((m ((c : Thread nD τ).loc main_arg3) : Vec Ideal S8192x4096 .bf16) (ix2 T ⟨128 * H.val + d.val, by omega⟩)) d := by
    intro X hX
    subst hX
    have hin : inN n h (grid0.coords t) (iblk m c 0 t) (iblk m c 1 t) (iblk m c 2 t) (iblk m c 3 t) (iblk m c 4 t) (iblk m c 5 t) (iblk m c 6 t)
        (iblk m c 7 t) (toE .f32 (tok kr vr b g (H0 t h) (T0 t 0))) = toE .f32 (tok kr vr b g (H0 t h) (T0 t n)) := by
      unfold inN
      by_cases hz : n = 0
      · rw [if_pos hz, hz]
      · have hz' : n = 1 := by omega
        subst hz'
        rw [if_neg (by decide), stN_tok D]
        rfl
    unfold pieceO
    rw [hin, outN_tok D, norm_at]
    have a1 : View.ld (iblk m c 9 t : Vec Ideal S1x128 .f32) RN (ix2 0 d) = (m ((c : Thread nD τ).loc main_arg10) : Vec Ideal S128 .f32) (ix1 d) := by
      rw [← iblk9_at m c t d]
      show (iblk m c 9 t : Vec Ideal S1x128 .f32) _ = _
      congr 1
      funext a
      apply Fin.ext
      match a with
      | ⟨0, _⟩ => rfl
      | ⟨1, _⟩ => show 0 + 1 * d.val = d.val; omega
    have a2 : blk n h (iblk m c 8 t) (ix2 i d) = (m ((c : Thread nD τ).loc main_arg3) : Vec Ideal S8192x4096 .bf16) (ix2 T ⟨128 * H.val + d.val, by omega⟩) := by
      rw [blk_at, iblk8_at m c t _ _ T ⟨128 * H.val + d.val, by omega⟩ (by simp only []; omega) (by simp only []; omega)]
    rw [a1, a2, hT, hH]
  by_cases h0 : t.val % 32 = 0
  · have z0 : heads (k0_pay6 (F := Ideal)) h = toE .f32 (tok kr vr b g (H0 t h) (T0 t 0)) := by
      rw [show T0 t 0 = 0 from by show 256 * (t.val % 32) + 128 * 0 = 0; omega]
      exact heads_zeros h
    obtain ⟨tv, tl⟩ := t
    cases tv with
    | zero => rw [outsAt0_zero]; exact (out_A m c ⟨0, tl⟩ _ h0 n h _).trans (fin _ z0)
    | succ k => rw [outsAt0_succ]; exact (out_A m c ⟨k + 1, tl⟩ _ h0 n h _).trans (fin _ z0)
  · obtain ⟨tv, tl⟩ := t
    cases tv with
    | zero => exact absurd (Nat.zero_mod 32) h0
    | succ k =>
      rw [outsAt0_succ]
      refine (out_B m c ⟨k + 1, tl⟩ _ h0 n h _).trans (fin _ ?_)
      rw [states D]
      change ¬(k + 1) % 32 = 0 at h0
      congr 2
      · show 8 * (k / 32) + h.val = 8 * ((k + 1) / 32) + h.val; omega
      · show 256 * (k % 32) + 256 = 256 * ((k + 1) % 32) + 128 * 0; omega

end Steps

end Cert.KernelIdeal.Words

end
-- ==== Proof.Ref.lean ====
/- The reference's loop over real inputs: its state after `n` trips is the gated delta rule's after `n` tokens. -/
module

public import proofs.«01_k».proof.Proof.Tokens
public import proofs.«01_k».proof.Proof.Gen.ReferenceIdeal.Run
public import Idealize.ShloMosaic.Lib.DynamicIndex

@[expose] public section

set_option maxRecDepth 16384
set_option backward.isDefEq.respectTransparency false

noncomputable section

namespace Cert.ReferenceIdeal.Tokens

open Idealize.ShloMosaic Idealize.ShloMosaic.TcCoe Idealize.SL.Sem Cert.ReferenceIdeal.Gen Cert.ReferenceIdeal.Value Delta StableHlo

theorem coe_sum' {n : ℕ} (f : Fin n → ℝ) : ∑ k, ((f k : ℝ) : EReal) = ((∑ k, f k : ℝ) : EReal) :=
  (map_sum (⟨⟨Real.toEReal, rfl⟩, EReal.coe_add⟩ : ℝ →+ EReal) f Finset.univ).symm

/-- A counter's slice of an array of heads is the counter's row. -/
theorem slice3 {α : Type} (X : S8192x32x128.Idx → α) (w : IVec S_ 32) (k : Fin 8192) (hw : w = fun _ => BitVec.ofNat 32 k.val)
    (h : Fin 32) (d : Fin 128) :
    shapeCast S32x128 (Host.dynamicSlice S1x32x128 X (fun a => (((![w, constantI S_ 32 0#32, constantI S_ 32 0#32] : Fin 3 → IVec S_ 32)) a
      (Shape.Idx.first h_S_)).toInt) sliceFits_S8192x32x128_S1x32x128) shapeCasts_S1x32x128_S32x128 (ix2 h d) = X (ix3 k h d) := by
  subst hw
  have hk := k.isLt
  rw [Host.dynamicSlice_eq_extractStridedSlice S1x32x128 X _ ![k.val, 0, 0] _ ⟨rfl, fun a => by
      fin_cases a
      · show k.val + 1 ≤ 8192; omega
      · show 0 + 32 ≤ 32; omega
      · show 0 + 128 ≤ 128; omega⟩ (fun a => by
      fin_cases a
      · exact toInt_ofNat_of_lt (by show k.val < _; omega)
      · rfl
      · rfl)]
  pointwise []

theorem slice2 {α : Type} (X : S8192x32.Idx → α) (w : IVec S_ 32) (k : Fin 8192) (hw : w = fun _ => BitVec.ofNat 32 k.val)
    (h : Fin 32) :
    shapeCast S32 (Host.dynamicSlice S1x32 X (fun a => (((![w, constantI S_ 32 0#32] : Fin 2 → IVec S_ 32)) a
      (Shape.Idx.first h_S_)).toInt) sliceFits_S8192x32_S1x32) shapeCasts_S1x32_S32 (ix1 h) = X (ix2 k h) := by
  subst hw
  have hk := k.isLt
  rw [Host.dynamicSlice_eq_extractStridedSlice S1x32 X _ ![k.val, 0] _ ⟨rfl, fun a => by
      fin_cases a
      · show k.val + 1 ≤ 8192; omega
      · show 0 + 32 ≤ 32; omega⟩ (fun a => by
      fin_cases a
      · exact toInt_ofNat_of_lt (by show k.val < _; omega)
      · rfl)]
  pointwise []

theorem slice3_fn {α : Type} (X : S8192x32x128.Idx → α) (w : IVec S_ 32) (k : Fin 8192) (hw : w = fun _ => BitVec.ofNat 32 k.val) :
    shapeCast S32x128 (Host.dynamicSlice S1x32x128 X (fun a => (((![w, constantI S_ 32 0#32, constantI S_ 32 0#32] : Fin 3 → IVec S_ 32)) a
      (Shape.Idx.first h_S_)).toInt) sliceFits_S8192x32x128_S1x32x128) shapeCasts_S1x32x128_S32x128 = fun j => X (ix3 k (j 0) (j 1)) := by
  funext j
  rw [eq_ix2 j]
  exact slice3 X w k hw _ _

theorem slice2_fn {α : Type} (X : S8192x32.Idx → α) (w : IVec S_ 32) (k : Fin 8192) (hw : w = fun _ => BitVec.ofNat 32 k.val) :
    shapeCast S32 (Host.dynamicSlice S1x32 X (fun a => (((![w, constantI S_ 32 0#32] : Fin 2 → IVec S_ 32)) a
      (Shape.Idx.first h_S_)).toInt) sliceFits_S8192x32_S1x32) shapeCasts_S1x32_S32 = fun j => X (ix2 k (j 0)) := by
  funext j
  rw [eq_ix1 j]
  exact slice2 X w k hw _

/-- A counter's update of an array of heads is at the counter's row. -/
theorem update3 {α : Type} (X : S8192x32x128.Idx → α) (U : S1x32x128.Idx → α) (w : IVec S_ 32) (k : Fin 8192)
    (hw : w = fun _ => BitVec.ofNat 32 k.val) (T : Fin 8192) (h : Fin 32) (d : Fin 128) :
    Host.dynamicUpdateSlice X U (fun a => (((![w, constantI S_ 32 0#32, constantI S_ 32 0#32] : Fin 3 → IVec S_ 32)) a
      (Shape.Idx.first h_S_)).toInt) updateFits_S8192x32x128_S1x32x128 (ix3 T h d)
    = if T = k then U (ix3 0 h d) else X (ix3 T h d) := by
  subst hw
  have hk := k.isLt
  have c0 : Host.clampedStart S8192x32x128 S1x32x128 updateFits_S8192x32x128_S1x32x128.1 (fun a => (((![fun _ => BitVec.ofNat 32 k.val,
      constantI S_ 32 0#32, constantI S_ 32 0#32] : Fin 3 → IVec S_ 32)) a (Shape.Idx.first h_S_)).toInt) = ![k.val, 0, 0] := by
    funext a
    refine Host.clampedStart_of_le _ _ a _ ?_ ?_
    · fin_cases a
      · exact toInt_ofNat_of_lt (by show k.val < _; omega)
      · rfl
      · rfl
    · fin_cases a
      · show k.val + 1 ≤ 8192; omega
      · show 0 + 32 ≤ 32; omega
      · show 0 + 128 ≤ 128; omega
  rw [Host.dynamicUpdateSlice_apply]
  simp only [c0]
  by_cases e : T = k
  · subst e
    rw [if_pos rfl, dif_pos]
    · congr 1
      funext b
      fin_cases b
      · exact Fin.ext (by show T.val - T.val = 0; omega)
      · exact Fin.ext (by show h.val - 0 = h.val; omega)
      · exact Fin.ext (by show d.val - 0 = d.val; omega)
    · intro a
      have := h.isLt
      have := d.isLt
      fin_cases a
      · show T.val ≤ T.val ∧ T.val < T.val + 1; omega
      · show 0 ≤ h.val ∧ h.val < 0 + 32; omega
      · show 0 ≤ d.val ∧ d.val < 0 + 128; omega
  · rw [if_neg e, dif_neg]
    intro q
    have : k.val ≤ T.val ∧ T.val < k.val + 1 := q 0
    exact e (Fin.ext (by omega))

/-- Rows against states, at a head and a column. -/
theorem dot_row (A : FVec Ideal S32x128 .f32) (B : FVec Ideal S32x128x128 .f32) (h : Fin 32) (d : Fin 128) :
    (Host.dotGeneral (F := Ideal) (φ₁ := .f32) (φ₂ := .f32) dot_S32x128_S32x128x128_S32x128_1_1_n_2_0_0 none A B : FVec Ideal S32x128 .f32) (ix2 h d)
      = ∑ a : Fin 128, A (ix2 h a) * B (ix3 h a d) := by
  pointwise []

/-- A row set under a unit axis. -/
theorem bcast_row (A : FVec Ideal S32x128 .f32) (h : Fin 32) (d : Fin 128) :
    broadcastInDim S1x32x128 ![1, 2] bcast_S32x128_S1x32x128_1_2 A (ix3 0 h d) = A (ix2 h d) := by
  pointwise []

section Trip
variable (V : Valuation τ sig (Elt Ideal)) (k : Fin 8192) (qr kr vr b g : ℕ → ℕ → ℝ) (S : ℕ → Mat)

/-- What the loop carries before trip `k`, with the states `S`. -/
structure Carried : Prop where
  n : (V (Proc.devRef .tc main_v10_5) : IVec S_ 32) = fun _ => BitVec.ofNat 32 k.val
  hq : ∀ (i : Fin 8192) (h : Fin 32) (d : Fin 128), (V (Proc.devRef .tc main_v10_0) : Vec Ideal S8192x32x128 .f32) (ix3 i h d) = ((hrow qr h i d : ℝ) : EReal)
  hk : ∀ (i : Fin 8192) (h : Fin 32) (d : Fin 128), (V (Proc.devRef .tc main_v10_1) : Vec Ideal S8192x32x128 .f32) (ix3 i h d) = ((hrow kr h i d : ℝ) : EReal)
  hv : ∀ (i : Fin 8192) (h : Fin 32) (d : Fin 128), (V (Proc.devRef .tc main_v10_2) : Vec Ideal S8192x32x128 .f32) (ix3 i h d) = ((hrow vr h i d : ℝ) : EReal)
  hg : ∀ (i : Fin 8192) (h : Fin 32), (V (Proc.devRef .tc main_v10_3) : Vec Ideal S8192x32 .f32) (ix2 i h) = ((g i h : ℝ) : EReal)
  hb : ∀ (i : Fin 8192) (h : Fin 32), (V (Proc.devRef .tc main_v10_4) : Vec Ideal S8192x32 .f32) (ix2 i h) = ((b i h : ℝ) : EReal)
  hs : ∀ (h : Fin 32) (a d : Fin 128), (V (Proc.devRef .tc main_v10_6) : Vec Ideal S32x128x128 .f32) (ix3 h a d) = ((S h a d : ℝ) : EReal)

variable {V k qr kr vr b g S} (C : Carried V k qr kr vr b g S)
include C

theorem decayed (h : Fin 32) (a d : Fin 128) : (res_main_while0b_v36 V : Vec Ideal S32x128x128 .f32) (ix3 h a d)
    = ((S h a d * Real.exp (g k h) : ℝ) : EReal) := by
  unfold res_main_while0b_v36
  erw [slice2_fn (V (Proc.devRef .tc main_v10_3) : Vec Ideal S8192x32 .f32) _ k C.n]
  pointwise []
  rw [C.hs, C.hg, EReal.coe_mul]
  rfl

theorem keyed (h : Fin 32) (d : Fin 128) : (res_main_while0b_v29 V : Vec Ideal S32x128 .f32) (ix2 h d)
    = ((hrow kr h k d : ℝ) : EReal) := by
  unfold res_main_while0b_v29
  erw [slice3_fn (V (Proc.devRef .tc main_v10_1) : Vec Ideal S8192x32x128 .f32) _ k C.n]
  exact C.hk k h d

/-- The state after the trip. -/
theorem stepped (h : Fin 32) (a d : Fin 128) : (res_main_while0b_v47 V : Vec Ideal S32x128x128 .f32) (ix3 h a d)
    = ((step (S h) (hrow kr h k) (hrow vr h k) (b k h) (g k h) a d : ℝ) : EReal) := by
  unfold res_main_while0b_v47
  erw [slice2_fn (V (Proc.devRef .tc main_v10_4) : Vec Ideal S8192x32 .f32) _ k C.n,
    slice3_fn (V (Proc.devRef .tc main_v10_2) : Vec Ideal S8192x32x128 .f32) _ k C.n]
  pointwise []
  simp only [decayed C, keyed C, C.hb, C.hv, ← EReal.coe_mul, coe_sum', ← EReal.coe_sub, ← EReal.coe_add]
  rfl

/-- The row that the trip adds. -/
theorem rowed (h : Fin 32) (d : Fin 128) (T : Fin 8192) : (step_main_v10_7 V : Vec Ideal S8192x32x128 .f32) (ix3 T h d)
    = if T = k then ((∑ a, hrow qr h k a * step (S h) (hrow kr h k) (hrow vr h k) (b k h) (g k h) a d : ℝ) : EReal)
      else (V (Proc.devRef .tc main_v10_7) : Vec Ideal S8192x32x128 .f32) (ix3 T h d) := by
  refine (update3 _ _ _ k C.n T h d).trans ?_
  by_cases e : T = k
  · rw [if_pos e, if_pos e]
    erw [slice3_fn (V (Proc.devRef .tc main_v10_0) : Vec Ideal S8192x32x128 .f32) _ k C.n]
    refine (bcast_row _ h d).trans ((dot_row _ _ h d).trans ?_)
    rw [← coe_sum']
    exact Finset.sum_congr rfl fun a _ => (congrArg₂ (fun x y : EReal => x * y) (C.hq k h a) (stepped C h a d)).trans (EReal.coe_mul _ _).symm
  · rw [if_neg e, if_neg e]

end Trip

/-- A row of heads is the argument's row. -/
theorem heads_cast {α : Type} (X : S8192x4096.Idx → α) (i : Fin 8192) (h : Fin 32) (d : Fin 128) :
    shapeCast S8192x32x128 X shapeCasts_S8192x4096_S8192x32x128 (ix3 i h d)
      = X (ix2 i ⟨128 * h.val + d.val, by have := h.isLt; have := d.isLt; omega⟩) := by
  pointwise []
  exact congrArg X (congrArg (ix2 i) (Fin.ext (by show h.val * 128 + d.val = 128 * h.val + d.val; omega)))

section Loop
variable (m : (ℓ : Loc nD τ sig) → Buf (Elt Ideal) ℓ) (c : Dev nD) (qr kr vr b g : ℕ → ℕ → ℝ)

/-- The reference's arguments are real arrays. -/
structure Data : Prop where
  hq : ∀ (i : Fin 8192) (j : Fin 4096), (m ((c.tc : Thread nD τ).loc main_arg0) : Vec Ideal S8192x4096 .bf16) (ix2 i j) = ((qr i j : ℝ) : EReal)
  hk : ∀ (i : Fin 8192) (j : Fin 4096), (m ((c.tc : Thread nD τ).loc main_arg1) : Vec Ideal S8192x4096 .bf16) (ix2 i j) = ((kr i j : ℝ) : EReal)
  hv : ∀ (i : Fin 8192) (j : Fin 4096), (m ((c.tc : Thread nD τ).loc main_arg2) : Vec Ideal S8192x4096 .bf16) (ix2 i j) = ((vr i j : ℝ) : EReal)
  hb : ∀ (i : Fin 8192) (j : Fin 128), j.val < 32 → (m ((c.tc : Thread nD τ).loc main_arg4) : Vec Ideal S8192x128 .f32) (ix2 i j) = ((b i j : ℝ) : EReal)
  hg : ∀ (i : Fin 8192) (j : Fin 128), j.val < 32 → (m ((c.tc : Thread nD τ).loc main_arg5) : Vec Ideal S8192x128 .f32) (ix2 i j) = ((g i j : ℝ) : EReal)

theorem entry0 : entryContents preI m c (Proc.devRef .tc main_v10_0) =
    shapeCast S8192x32x128 (m ((c.tc : Thread nD τ).loc main_arg0) : Vec Ideal S8192x4096 .bf16) shapeCasts_S8192x4096_S8192x32x128 := by
  simp only [entryContents, afterL_cons, afterL_nil]
  after_results
  rfl

theorem entry1 : entryContents preI m c (Proc.devRef .tc main_v10_1) =
    shapeCast S8192x32x128 (m ((c.tc : Thread nD τ).loc main_arg1) : Vec Ideal S8192x4096 .bf16) shapeCasts_S8192x4096_S8192x32x128 := by
  simp only [entryContents, afterL_cons, afterL_nil]
  after_results
  rfl

theorem entry2 : entryContents preI m c (Proc.devRef .tc main_v10_2) =
    shapeCast S8192x32x128 (m ((c.tc : Thread nD τ).loc main_arg2) : Vec Ideal S8192x4096 .bf16) shapeCasts_S8192x4096_S8192x32x128 := by
  simp only [entryContents, afterL_cons, afterL_nil]
  after_results
  rfl

theorem entry3 : entryContents preI m c (Proc.devRef .tc main_v10_3) =
    extractStridedSlice S8192x32 ![0, 0] (m ((c.tc : Thread nD τ).loc main_arg5) : Vec Ideal S8192x128 .f32) slices_S8192x128_S8192x32_0_0 := by
  simp only [entryContents, afterL_cons, afterL_nil]
  after_results
  rfl

theorem entry4 : entryContents preI m c (Proc.devRef .tc main_v10_4) =
    extractStridedSlice S8192x32 ![0, 0] (m ((c.tc : Thread nD τ).loc main_arg4) : Vec Ideal S8192x128 .f32) slices_S8192x128_S8192x32_0_0 := by
  simp only [entryContents, afterL_cons, afterL_nil]
  after_results
  rfl

theorem entry6 : entryContents preI m c (Proc.devRef .tc main_v10_6) = fun _ => (0 : EReal) := by
  simp only [entryContents, afterL_cons, afterL_nil]
  after_results
  funext j
  exact Ideal.ofBits_zero_f32

variable {m c qr kr vr b g} (D : Data m c qr kr vr b g)
include D

theorem entry (k : Fin 8192) (hk : k.val = 0) : Carried (entryContents preI m c) k qr kr vr b g (fun h => tok kr vr b g h 0) where
  n := by rw [ctr_entry, hk]
  hq i h d := by rw [entry0]; exact (heads_cast _ i h d).trans (D.hq _ _)
  hk i h d := by rw [entry1]; exact (heads_cast _ i h d).trans (D.hk _ _)
  hv i h d := by rw [entry2]; exact (heads_cast _ i h d).trans (D.hv _ _)
  hg i h := by
    rw [entry3]
    refine Eq.trans ?_ (D.hg i ⟨h.val, by have := h.isLt; omega⟩ h.isLt)
    pointwise []
  hb i h := by
    rw [entry4]
    refine Eq.trans ?_ (D.hb i ⟨h.val, by have := h.isLt; omega⟩ h.isLt)
    pointwise []
  hs h a d := by rw [entry6]; rfl

omit D in
theorem next {V : Valuation τ sig (Elt Ideal)} {k : Fin 8192} {n : ℕ} (hn : k.val = n)
    (C : Carried V k qr kr vr b g (fun h => tok kr vr b g h n)) (k' : Fin 8192) (hk' : k'.val = n + 1) :
    Carried (STEP V) k' qr kr vr b g (fun h => tok kr vr b g h (n + 1)) where
  n := by
    rw [STEP_main_v10_5]
    subst hn
    show (addi (V (Proc.devRef .tc main_v10_5) : IVec S_ 32) (constantI S_ 32 1#32)) = _
    rw [C.n, hk']
    funext j
    exact (BitVec.ofNat_add _ _).symm
  hq := by rw [STEP_main_v10_0]; exact C.hq
  hk := by rw [STEP_main_v10_1]; exact C.hk
  hv := by rw [STEP_main_v10_2]; exact C.hv
  hg := by rw [STEP_main_v10_3]; exact C.hg
  hb := by rw [STEP_main_v10_4]; exact C.hb
  hs h a d := by rw [STEP_main_v10_6]; subst hn; exact stepped C h a d

/-- What the loop carries before trip `n`. -/
theorem carried (n : ℕ) (hn : n < 8192) : Carried (STEP^[n] (entryContents preI m c)) ⟨n, hn⟩ qr kr vr b g (fun h => tok kr vr b g h n) := by
  induction n with
  | zero => exact entry D _ rfl
  | succ n ih =>
    rw [Function.iterate_succ_apply']
    exact next rfl (ih (by omega)) _ rfl

/-- The rows the loop has made after `n` trips. -/
theorem rows (n : ℕ) (hn : n ≤ 8192) (T : Fin 8192) (hT : T.val < n) (h : Fin 32) (d : Fin 128) :
    (STEP^[n] (entryContents preI m c) (Proc.devRef .tc main_v10_7) : Vec Ideal S8192x32x128 .f32) (ix3 T h d)
      = ((rowO qr kr vr b g h T d : ℝ) : EReal) := by
  induction n with
  | zero => omega
  | succ n ih =>
    rw [Function.iterate_succ_apply', STEP_main_v10_7]
    refine (rowed (carried D n (by omega)) h d T).trans ?_
    by_cases e : T = ⟨n, by omega⟩
    · rw [if_pos e]
      have e' : T.val = n := congrArg Fin.val e
      rw [e']
      rfl
    · rw [if_neg e]
      exact ih (by omega) (by have : T.val ≠ n := fun q => e (Fin.ext q); omega)

/-- The reference's result. -/
theorem result_at (T : Fin 8192) (H : Fin 32) (d : Fin 128) :
    (out_main_v27 (STEP^[8192] (entryContents preI m c)) : Vec Ideal S8192x4096 .bf16)
        (ix2 T ⟨128 * H.val + d.val, by have := H.isLt; have := d.isLt; omega⟩)
      = gated (rowO qr kr vr b g H T) ((m ((c.tc : Thread nD τ).loc main_arg10) : Vec Ideal S128 .f32) (ix1 d))
          ((m ((c.tc : Thread nD τ).loc main_arg3) : Vec Ideal S8192x4096 .bf16)
            (ix2 T ⟨128 * H.val + d.val, by have := H.isLt; have := d.isLt; omega⟩)) d := by
  have hr := fun d => rows D 8192 le_rfl T T.isLt H d
  unfold out_main_v27
  rw [iter_main_arg3, iter_main_arg10]
  generalize hY : (STEP^[8192] (entryContents preI m c) (Proc.devRef .tc main_v10_7) : Vec Ideal S8192x32x128 .f32) = Y at hr ⊢
  pointwise []
  simp only [hr, ← EReal.coe_mul, coe_sum']
  rfl

end Loop

end Cert.ReferenceIdeal.Tokens

end
-- ==== Proof.Pre.lean ====
/- What the precondition says of the arguments, entry by entry. -/
module

public import proofs.«01_k».proof.Pre_decays
public import Idealize.ShloMosaic.Lib.Pointwise

@[expose] public section

set_option maxRecDepth 16384
set_option backward.isDefEq.respectTransparency false

noncomputable section

namespace Cert.Pre_decays

open Idealize.ShloMosaic

/-- The side conditions of the precondition's operations. -/
theorem facts : Facts where
  slices_S8192x128_S8192x32_0_0 := by decide
  shapeCasts_S8192x32_S64x128x32 := by decide
  bcast_S_S64x1x32 := by decide
  slices_S64x128x32_S64x127x32_0_0_0 := by decide
  concatenates_S64x1x32_S64x127x32_S64x128x32_d1 := by decide
  bitsLt_bf16_f32 := by decide
  bcast_S_S8192x4096 := by decide
  bcast_S_S8192x32 := by decide
  slices_S64x128x32_S64x1x32_0_127_0 := by decide
  bcast_S64x1x32_S64x128x32_0_1_2 := by decide
  slices_S128x8192_S32x8192_0_0 := by decide
  transposes_S8192x32_S32x8192_1_0 := by decide

variable [Facts]
open Facts

/-- A condition's word is one exactly where the condition holds. -/
theorem of_word {p : Prop} [Decidable p] (h : BitVec.ofBool (decide p) = 1#1) : p := by
  by_contra hp
  rw [decide_eq_false hp] at h
  exact absurd h (by decide)

/-- A value of finite size is a real. -/
theorem real_of_abs (x : EReal) (h : BitVec.ofBool (decide ((FloatOps.absf (F := Ideal) (φ := .f32) x : EReal) < Ideal.ofBits .f32 0x7F800000#32)) = 1#1) :
    x = ((x.toReal : ℝ) : EReal) := by
  have e := of_word h
  have htop : Ideal.ofBits .f32 0x7F800000#32 = ⊤ := by simp [Ideal.ofBits, Ideal.ieee]
  rw [htop] at e
  refine (EReal.coe_toReal ?_ ?_).symm
  · rintro rfl
    exact absurd e (by decide)
  · rintro rfl
    exact absurd e (by decide)

variable {q k v z : FVec Ideal S8192x4096 .bf16} {be g gc egc ekd : FVec Ideal S8192x128 .f32} {gct : FVec Ideal S128x8192 .f32} {hn : FVec Ideal S128 .f32}

/-- Every entry of `q` is a real. -/
theorem fin_q (h : (fn (F := Ideal) q k v z be g gc egc ekd gct hn).1 = fun _ => 1#1) (i : Fin 8192) (j : Fin 4096) :
    (q (ix2 i j) : EReal) = (((q (ix2 i j) : EReal).toReal : ℝ) : EReal) := by
  have e := congrFun h (ix2 i j)
  simp only [fn, fn_part1, fn_part2] at e
  pointwise [] at e
  exact real_of_abs _ e

/-- Every entry of `k` is a real. -/
theorem fin_k (h : (fn (F := Ideal) q k v z be g gc egc ekd gct hn).2.1 = fun _ => 1#1) (i : Fin 8192) (j : Fin 4096) :
    (k (ix2 i j) : EReal) = (((k (ix2 i j) : EReal).toReal : ℝ) : EReal) := by
  have e := congrFun h (ix2 i j)
  simp only [fn, fn_part1, fn_part2] at e
  pointwise [] at e
  exact real_of_abs _ e

/-- Every entry of `v` is a real. -/
theorem fin_v (h : (fn (F := Ideal) q k v z be g gc egc ekd gct hn).2.2.1 = fun _ => 1#1) (i : Fin 8192) (j : Fin 4096) :
    (v (ix2 i j) : EReal) = (((v (ix2 i j) : EReal).toReal : ℝ) : EReal) := by
  have e := congrFun h (ix2 i j)
  simp only [fn, fn_part1, fn_part2] at e
  pointwise [] at e
  exact real_of_abs _ e

/-- Every entry of `be` in a head's lane is a real. -/
theorem fin_be (h : (fn (F := Ideal) q k v z be g gc egc ekd gct hn).2.2.2.1 = fun _ => 1#1) (i : Fin 8192) (j : Fin 128) (hj : j.val < 32) :
    (be (ix2 i j) : EReal) = (((be (ix2 i j) : EReal).toReal : ℝ) : EReal) := by
  have e := congrFun h (ix2 i ⟨j.val, hj⟩)
  simp only [fn, fn_part1, fn_part2] at e
  pointwise [] at e
  exact real_of_abs _ e

/-- Every entry of `g` in a head's lane is a real. -/
theorem fin_g (h : (fn (F := Ideal) q k v z be g gc egc ekd gct hn).2.2.2.2.1 = fun _ => 1#1) (i : Fin 8192) (j : Fin 128) (hj : j.val < 32) :
    (g (ix2 i j) : EReal) = (((g (ix2 i j) : EReal).toReal : ℝ) : EReal) := by
  have e := congrFun h (ix2 i ⟨j.val, hj⟩)
  simp only [fn, fn_part1, fn_part2] at e
  pointwise [] at e
  exact real_of_abs _ e

/-- `gc` is `g` summed along each chunk. -/
theorem sums (h : (fn (F := Ideal) q k v z be g gc egc ekd gct hn).2.2.2.2.2.1 = fun _ => 1#1) (i : Fin 8192) (j : Fin 128) (hj : j.val < 32) :
    (gc (ix2 i j) : EReal) = (if i.val % 128 = 0 then 0 else gc (ix2 ⟨i.val - 1, by have := i.isLt; omega⟩ j)) + g (ix2 i j) := by
  have hi := i.isLt
  have e := congrFun h (ix3 ⟨i.val / 128, by omega⟩ ⟨i.val % 128, by omega⟩ ⟨j.val, hj⟩)
  simp only [fn, fn_part1, fn_part2] at e
  pointwise [] at e
  have e := of_word e
  refine e.trans (congrArg (fun x : EReal => x + g (ix2 i j)) ?_)
  by_cases h0 : i.val % 128 = 0
  · rw [if_pos h0, dif_pos (by omega)]
  · rw [if_neg h0, dif_neg (by omega)]
    exact congrArg (fun x => gc (ix2 x j)) (Fin.ext (by show i.val / 128 * 128 + (i.val % 128 - 1) = i.val - 1; omega))

/-- `egc` is the exponential of `gc`. -/
theorem exps (h : (fn (F := Ideal) q k v z be g gc egc ekd gct hn).2.2.2.2.2.2.1 = fun _ => 1#1) (i : Fin 8192) (j : Fin 128) (hj : j.val < 32) :
    (egc (ix2 i j) : EReal) = Ideal.exp (gc (ix2 i j)) := by
  have hi := i.isLt
  have e := congrFun h (ix3 ⟨i.val / 128, by omega⟩ ⟨i.val % 128, by omega⟩ ⟨j.val, hj⟩)
  simp only [fn, fn_part1, fn_part2] at e
  pointwise [] at e
  have e := of_word e
  exact e

/-- `ekd` is the exponential of the chunk's last entry less `gc`. -/
theorem rests (h : (fn (F := Ideal) q k v z be g gc egc ekd gct hn).2.2.2.2.2.2.2.1 = fun _ => 1#1) (i : Fin 8192) (j : Fin 128) (hj : j.val < 32) :
    (ekd (ix2 i j) : EReal) = Ideal.exp (gc (ix2 ⟨128 * (i.val / 128) + 127, by have := i.isLt; omega⟩ j) - gc (ix2 i j)) := by
  have hi := i.isLt
  have e := congrFun h (ix3 ⟨i.val / 128, by omega⟩ ⟨i.val % 128, by omega⟩ ⟨j.val, hj⟩)
  simp only [fn, fn_part1, fn_part2] at e
  pointwise [] at e
  have e := of_word e
  refine e.trans (congrArg (fun x => Ideal.exp (gc (ix2 x j) - gc (ix2 i j))) (Fin.ext ?_))
  show i.val / 128 * 128 + 127 = 128 * (i.val / 128) + 127
  omega

/-- `gct` is the transpose of `gc`. -/
theorem turned (h : (fn (F := Ideal) q k v z be g gc egc ekd gct hn).2.2.2.2.2.2.2.2 = fun _ => 1#1) (i : Fin 8192) (j : Fin 128) (hj : j.val < 32) :
    (gct (ix2 j i) : EReal) = gc (ix2 i j) := by
  have e := congrFun h (ix2 ⟨j.val, hj⟩ i)
  simp only [fn, fn_part1, fn_part2] at e
  pointwise [] at e
  exact of_word e

/-- An array of values as reals, zero outside its bounds. -/
def arr {M N : ℕ} (X : Fin M → Fin N → EReal) (i j : ℕ) : ℝ := if h : i < M ∧ j < N then (X ⟨i, h.1⟩ ⟨j, h.2⟩).toReal else 0

theorem arr_at {M N : ℕ} (X : Fin M → Fin N → EReal) (i : Fin M) (j : Fin N) : arr X i j = (X i j).toReal :=
  dif_pos ⟨i.isLt, j.isLt⟩

/-- With real log decays the sums are real too. -/
theorem fin_sums (hg : (fn (F := Ideal) q k v z be g gc egc ekd gct hn).2.2.2.2.1 = fun _ => 1#1)
    (hs : (fn (F := Ideal) q k v z be g gc egc ekd gct hn).2.2.2.2.2.1 = fun _ => 1#1) (j : Fin 128) (hj : j.val < 32) :
    ∀ (i : ℕ) (hi : i < 8192), (gc (ix2 ⟨i, hi⟩ j) : EReal) = (((gc (ix2 ⟨i, hi⟩ j) : EReal).toReal : ℝ) : EReal) := by
  intro i
  induction i with
  | zero =>
    intro hi
    have e := sums hs ⟨0, hi⟩ j hj
    rw [if_pos (show (0 : ℕ) % 128 = 0 from rfl), zero_add, fin_g hg _ j hj] at e
    rw [e, EReal.toReal_coe]
  | succ i ih =>
    intro hi
    have e := sums hs ⟨i + 1, hi⟩ j hj
    rw [fin_g hg _ j hj] at e
    by_cases h0 : (i + 1) % 128 = 0
    · rw [if_pos h0, zero_add] at e
      rw [e, EReal.toReal_coe]
    · rw [if_neg h0] at e
      have e' : (gc (ix2 (⟨i + 1 - 1, by omega⟩ : Fin 8192) j) : EReal) = _ := ih (by omega)
      rw [e', ← EReal.coe_add] at e
      rw [e, EReal.toReal_coe]

end Cert.Pre_decays

end
-- ==== Proof.Agree.lean ====
/- The gated DeltaNet call and the token recurrence agree: both give, head by head and token by token, the normalized, scaled and
   gated row that the gated delta rule makes. -/
module

public import proofs.«01_k».proof.Defs
public import proofs.«01_k».proof.Proof.State
public import proofs.«01_k».proof.Proof.Ref
public import proofs.«01_k».proof.Proof.Pre

@[expose] public section

set_option maxRecDepth 16384
set_option backward.isDefEq.respectTransparency false

noncomputable section

namespace Cert.Agree

open Idealize.ShloMosaic Idealize.ShloMosaic.TcCoe Idealize.SL.Sem Cert.Pre_decays Delta

attribute [local instance] Cert.KernelIdeal.Gen.facts Cert.ReferenceIdeal.Gen.facts Cert.Pre_decays.facts

section Data
variable {m : (ℓ : Loc Cert.KernelIdeal.nD Cert.KernelIdeal.τ Cert.KernelIdeal.sig) → Buf (Elt Ideal) ℓ}
variable {m' : (ℓ : Loc Cert.ReferenceIdeal.nD Cert.ReferenceIdeal.τ Cert.ReferenceIdeal.sig) → Buf (Elt Ideal) ℓ}

/-- Under the precondition the call's arguments are real arrays, and its four decay arrays are what the log decays make. -/
theorem data (h : Cert.Pre_KernelIdeal_decays m) (c : Dev Cert.KernelIdeal.nD) :
    Cert.KernelIdeal.Words.Data m c (arr fun (i : Fin 8192) (j : Fin 4096) => (m ((c.tc : Thread Cert.KernelIdeal.nD Cert.KernelIdeal.τ).loc Cert.KernelIdeal.main_arg0) : FVec Ideal Cert.Pre_decays.S8192x4096 .bf16) (ix2 i j))
      (arr fun (i : Fin 8192) (j : Fin 4096) => (m ((c.tc : Thread Cert.KernelIdeal.nD Cert.KernelIdeal.τ).loc Cert.KernelIdeal.main_arg1) : FVec Ideal Cert.Pre_decays.S8192x4096 .bf16) (ix2 i j))
      (arr fun (i : Fin 8192) (j : Fin 4096) => (m ((c.tc : Thread Cert.KernelIdeal.nD Cert.KernelIdeal.τ).loc Cert.KernelIdeal.main_arg2) : FVec Ideal Cert.Pre_decays.S8192x4096 .bf16) (ix2 i j))
      (arr fun (i : Fin 8192) (j : Fin 128) => (m ((c.tc : Thread Cert.KernelIdeal.nD Cert.KernelIdeal.τ).loc Cert.KernelIdeal.main_arg4) : FVec Ideal Cert.Pre_decays.S8192x128 .f32) (ix2 i j))
      (arr fun (i : Fin 8192) (j : Fin 128) => (m ((c.tc : Thread Cert.KernelIdeal.nD Cert.KernelIdeal.τ).loc Cert.KernelIdeal.main_arg5) : FVec Ideal Cert.Pre_decays.S8192x128 .f32) (ix2 i j))
      (arr fun (i : Fin 8192) (j : Fin 128) => (m ((c.tc : Thread Cert.KernelIdeal.nD Cert.KernelIdeal.τ).loc Cert.KernelIdeal.main_arg6) : FVec Ideal Cert.Pre_decays.S8192x128 .f32) (ix2 i j)) := by
  obtain ⟨p0, p1, p2, p3, p4, p5, p6, p7, p8⟩ := h c
  have hG : ∀ (i : Fin 8192) (j : Fin 128), j.val < 32 → ((m ((c.tc : Thread Cert.KernelIdeal.nD Cert.KernelIdeal.τ).loc Cert.KernelIdeal.main_arg6) : FVec Ideal Cert.Pre_decays.S8192x128 .f32) (ix2 i j) : EReal) = (((arr fun (i : Fin 8192) (j : Fin 128) => (m ((c.tc : Thread Cert.KernelIdeal.nD Cert.KernelIdeal.τ).loc Cert.KernelIdeal.main_arg6) : FVec Ideal Cert.Pre_decays.S8192x128 .f32) (ix2 i j)) i j : ℝ) : EReal) :=
    fun i j hj => by rw [arr_at]; exact fin_sums p4 p5 j hj i.val i.isLt
  exact {
    hq := fun i j => by rw [arr_at]; exact fin_q p0 i j
    hk := fun i j => by rw [arr_at]; exact fin_k p1 i j
    hv := fun i j => by rw [arr_at]; exact fin_v p2 i j
    hb := fun i j hj => by rw [arr_at]; exact fin_be p3 i j hj
    hG := hG
    he := fun i j hj => (exps p6 i j hj).trans (by rw [hG i j hj]; rfl)
    hd := fun i j hj => (rests p7 i j hj).trans (by rw [hG i j hj, hG _ j hj, ← EReal.coe_sub]; rfl)
    ht := fun j i hj => (turned p8 i j hj).trans (hG i j hj)
    hsum := fun i j hi hj => by
      have hj' : j < 128 := by omega
      have e := sums p5 ⟨i, hi⟩ ⟨j, hj'⟩ hj
      rw [hG _ _ hj, fin_g p4 _ _ hj] at e
      have a := arr_at (fun (i : Fin 8192) (j : Fin 128) => ((m ((c.tc : Thread Cert.KernelIdeal.nD Cert.KernelIdeal.τ).loc Cert.KernelIdeal.main_arg5) : FVec Ideal Cert.Pre_decays.S8192x128 .f32) (ix2 i j) : EReal)) ⟨i, hi⟩ ⟨j, hj'⟩
      change arr _ i j = _ at a
      rw [a]
      by_cases h0 : i % 128 = 0
      · rw [if_pos h0] at e ⊢
        rw [zero_add] at e ⊢
        exact EReal.coe_injective e
      · rw [if_neg h0] at e ⊢
        rw [hG _ _ hj, ← EReal.coe_add] at e
        exact EReal.coe_injective e }

/-- The reference's arguments are the same real arrays. -/
theorem data' (h : Cert.Pre_KernelIdeal_decays m) (c : Dev Cert.KernelIdeal.nD)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Tokens.Data m' c (arr fun (i : Fin 8192) (j : Fin 4096) => (m ((c.tc : Thread Cert.KernelIdeal.nD Cert.KernelIdeal.τ).loc Cert.KernelIdeal.main_arg0) : FVec Ideal Cert.Pre_decays.S8192x4096 .bf16) (ix2 i j))
      (arr fun (i : Fin 8192) (j : Fin 4096) => (m ((c.tc : Thread Cert.KernelIdeal.nD Cert.KernelIdeal.τ).loc Cert.KernelIdeal.main_arg1) : FVec Ideal Cert.Pre_decays.S8192x4096 .bf16) (ix2 i j))
      (arr fun (i : Fin 8192) (j : Fin 4096) => (m ((c.tc : Thread Cert.KernelIdeal.nD Cert.KernelIdeal.τ).loc Cert.KernelIdeal.main_arg2) : FVec Ideal Cert.Pre_decays.S8192x4096 .bf16) (ix2 i j))
      (arr fun (i : Fin 8192) (j : Fin 128) => (m ((c.tc : Thread Cert.KernelIdeal.nD Cert.KernelIdeal.τ).loc Cert.KernelIdeal.main_arg4) : FVec Ideal Cert.Pre_decays.S8192x128 .f32) (ix2 i j))
      (arr fun (i : Fin 8192) (j : Fin 128) => (m ((c.tc : Thread Cert.KernelIdeal.nD Cert.KernelIdeal.τ).loc Cert.KernelIdeal.main_arg5) : FVec Ideal Cert.Pre_decays.S8192x128 .f32) (ix2 i j)) := by
  obtain ⟨e0, e1, e2, e3, e4, e5, -⟩ := e
  have D := data h c
  obtain ⟨-, -, -, -, p4, -⟩ := h c
  exact {
    hq := fun i j => by rw [e0]; exact D.hq i j
    hk := fun i j => by rw [e1]; exact D.hk i j
    hv := fun i j => by rw [e2]; exact D.hv i j
    hb := fun i j hj => by rw [e4]; exact D.hb i j hj
    hg := fun i j hj => by rw [e5, arr_at]; exact fin_g p4 i j hj }

/-- The two results are one array. -/
theorem results (h : Cert.Pre_KernelIdeal_decays m) (c : Dev Cert.KernelIdeal.nD)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (Cert.ReferenceIdeal.Value.out_main_v27 (Cert.ReferenceIdeal.Value.STEP^[8192]
        (StableHlo.entryContents Cert.ReferenceIdeal.Value.preI m' c)) : Vec Ideal Cert.KernelIdeal.S8192x4096 .bf16)
      = Cert.KernelIdeal.Value.G10 m c := by
  funext x
  have h1 : (x 1).val < 4096 := (x 1).isLt
  have hx : x = ix2 (x 0) ⟨128 * ((x 1).val / 128) + (x 1).val % 128, by omega⟩ := by
    refine (eq_ix2 x).trans (congrArg (ix2 (x 0)) (Fin.ext ?_))
    show (x 1).val = 128 * ((x 1).val / 128) + (x 1).val % 128
    omega
  rw [hx]
  refine (Cert.ReferenceIdeal.Tokens.result_at (data' h c e) (x 0) ⟨(x 1).val / 128, by omega⟩ ⟨(x 1).val % 128, by omega⟩).trans
    (Eq.trans ?_ (Cert.KernelIdeal.Words.result_at (data h c) (x 0) ⟨(x 1).val / 128, by omega⟩ ⟨(x 1).val % 128, by omega⟩).symm)
  obtain ⟨-, -, -, e3, -, -, -, -, -, -, e10⟩ := e
  rw [e3, e10]

end Data

/-- The call's idealization runs, leaves its arguments and ends with its semaphores at zero. -/
theorem frame_kernelIdeal : Cert.quiescent_KernelIdeal := fun m ρ _ => Cert.KernelIdeal.Gen.frame m ρ

/-- The reference runs, leaves its arguments and ends with its semaphores at zero: it has none. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Under the precondition the call and the reference end with one result. -/
theorem algebraic : Cert.algebraic_KernelIdeal_ReferenceIdeal_pre_decays := fun m ρ m' ρ' hp ha =>
  ⟨fun c => Cert.KernelIdeal.Value.G10 m c, Cert.KernelIdeal.Value.run (F := Ideal) m ρ,
    (θ_run Cert.ReferenceIdeal.defs _ _).mono (fun r h c => ⟨(h c).1.trans (results hp c (ha c)), (h c).2⟩)
      (Cert.ReferenceIdeal.Value.run (F := Ideal) m' ρ')⟩

end Cert.Agree

end
-- ==== Proof.Merged.lean ====
/- The merge of the two branches: each gate times its branch's projection, the two added. -/
module

public import proofs.«01_k».proof.Defs
public import proofs.«01_k».proof.Proof.Gen.MergeIdeal.Value
public import proofs.«01_k».proof.Proof.Gen.MergeReferenceIdeal.Run
public import Idealize.ShloMosaic.Lib.Pointwise
public import Idealize.ShloMosaic.Lib.KernelVsHost

@[expose] public section

set_option maxRecDepth 16384
set_option backward.isDefEq.respectTransparency false

noncomputable section

namespace Cert.MergeIdeal.Words

open Idealize.ShloMosaic Idealize.ShloMosaic.TcCoe Idealize.SL.Sem Cert.MergeIdeal.Gen Cert.MergeIdeal.Value

/-- The merge at one index: each gate times the product of its branch's row and the weight's column. -/
def mergeAt (ga gb : EReal) (p wp d wd : Fin 4096 → EReal) : EReal := ga * (∑ x, p x * wp x) + gb * (∑ x, d x * wd x)

/-- What one point computes, at an index: each gate times the product of its branch's rows and weight columns. -/
theorem pay_at (a : FVec Ideal S1024x4096 .bf16) (wa : FVec Ideal S4096x512 .bf16) (b : FVec Ideal S1024x4096 .bf16) (wb : FVec Ideal S4096x512 .bf16) (ga gb : FVec Ideal S1024x512 .bf16)
    (i : Fin 1024) (j : Fin 512) :
    (k0_pay1 (F := Ideal) a wa b wb ga gb (ix2 i j) : EReal)
      = ga (ix2 i j) * (∑ x : Fin 4096, a (ix2 i x) * wa (ix2 x j)) + gb (ix2 i j) * (∑ x : Fin 4096, b (ix2 i x) * wb (ix2 x j)) := by
  unfold k0_pay1
  pointwise []

/-- One point's block of the output, at an index. -/
theorem out_at (a : FVec Ideal S1024x4096 .bf16) (wa : FVec Ideal S4096x512 .bf16) (b : FVec Ideal S1024x4096 .bf16) (wb : FVec Ideal S4096x512 .bf16) (ga gb : FVec Ideal S1024x512 .bf16)
    (i : Fin 1024) (j : Fin 512) :
    (out0_6 (F := Ideal) a b wa wb ga gb (ix2 i j) : EReal)
      = ga (ix2 i j) * (∑ x : Fin 4096, a (ix2 i x) * wa (ix2 x j)) + gb (ix2 i j) * (∑ x : Fin 4096, b (ix2 i x) * wb (ix2 x j)) := by
  have hz : (![0, 0] : Fin 2 → ℕ) = fun _ => 0 := funext fun a => by fin_cases a <;> rfl
  rw [← pay_at]
  unfold out0_6
  rw [View.canon_unit_zero hz]
  rw [View.ld_unit_zero (S := S1024x4096) hz, View.ld_unit_zero (S := S4096x512) hz, View.ld_unit_zero (S := S1024x4096) hz,
    View.ld_unit_zero (S := S4096x512) hz, View.ld_unit_zero (S := S1024x512) hz, View.ld_unit_zero (S := S1024x512) hz]

theorem at0 : ∀ t : Fin grid0.N, win0_0.index t 0 = t.val / 8 ∧ win0_0.index t 1 = 0 := by decide +kernel
theorem at1 : ∀ t : Fin grid0.N, win0_1.index t 0 = t.val / 8 ∧ win0_1.index t 1 = 0 := by decide +kernel
theorem at2 : ∀ t : Fin grid0.N, win0_2.index t 0 = 0 ∧ win0_2.index t 1 = t.val % 8 := by decide +kernel
theorem at3 : ∀ t : Fin grid0.N, win0_3.index t 0 = 0 ∧ win0_3.index t 1 = t.val % 8 := by decide +kernel
theorem at4 : ∀ t : Fin grid0.N, win0_4.index t 0 = t.val / 8 ∧ win0_4.index t 1 = t.val % 8 := by decide +kernel
theorem at5 : ∀ t : Fin grid0.N, win0_5.index t 0 = t.val / 8 ∧ win0_5.index t 1 = 8 + t.val % 8 := by decide +kernel
theorem at6 : ∀ t : Fin grid0.N, win0_6.index t 0 = t.val / 8 ∧ win0_6.index t 1 = t.val % 8 := by decide +kernel
theorem flush6 : ∀ t : Fin grid0.N, (cfg0.win 6).flush t = true := by decide +kernel

section Blocks
variable {F : FTy → Type} [FloatOps F]
variable (m : (ℓ : Loc nD τ sig) → Buf (Elt F) ℓ)

theorem iblk0_at (c : Dev nD) (t : Fin cfg0.N) (i : Fin 1024) (j : Fin 4096) (a : Fin 8192) (b : Fin 4096)
    (ha : a.val = 1024 * (t.val / 8) + i.val) (hb : b.val = 4096 * (0) + j.val) :
    (iblk m c 0 t : Vec F S1024x4096 .bf16) (ix2 i j) = m ((c : Thread nD τ).loc main_arg0) (ix2 a b) := by
  unfold iblk
  rw [View.read_apply]
  show V m c main_arg0 _ = _
  rw [V_main_arg0]
  congr 1
  funext x
  apply Fin.ext
  match x with
  | ⟨0, _⟩ => show win0_0.index t 0 * 1024 + 1 * i.val = a.val; rw [(at0 t).1]; omega
  | ⟨1, _⟩ => show win0_0.index t 1 * 4096 + 1 * j.val = b.val; rw [(at0 t).2]; omega

theorem iblk1_at (c : Dev nD) (t : Fin cfg0.N) (i : Fin 1024) (j : Fin 4096) (a : Fin 8192) (b : Fin 4096)
    (ha : a.val = 1024 * (t.val / 8) + i.val) (hb : b.val = 4096 * (0) + j.val) :
    (iblk m c 1 t : Vec F S1024x4096 .bf16) (ix2 i j) = m ((c : Thread nD τ).loc main_arg1) (ix2 a b) := by
  unfold iblk
  rw [View.read_apply]
  show V m c main_arg1 _ = _
  rw [V_main_arg1]
  congr 1
  funext x
  apply Fin.ext
  match x with
  | ⟨0, _⟩ => show win0_1.index t 0 * 1024 + 1 * i.val = a.val; rw [(at1 t).1]; omega
  | ⟨1, _⟩ => show win0_1.index t 1 * 4096 + 1 * j.val = b.val; rw [(at1 t).2]; omega

theorem iblk2_at (c : Dev nD) (t : Fin cfg0.N) (i : Fin 4096) (j : Fin 512) (a : Fin 4096) (b : Fin 4096)
    (ha : a.val = 4096 * (0) + i.val) (hb : b.val = 512 * (t.val % 8) + j.val) :
    (iblk m c 2 t : Vec F S4096x512 .bf16) (ix2 i j) = m ((c : Thread nD τ).loc main_arg2) (ix2 a b) := by
  unfold iblk
  rw [View.read_apply]
  show V m c main_arg2 _ = _
  rw [V_main_arg2]
  congr 1
  funext x
  apply Fin.ext
  match x with
  | ⟨0, _⟩ => show win0_2.index t 0 * 4096 + 1 * i.val = a.val; rw [(at2 t).1]; omega
  | ⟨1, _⟩ => show win0_2.index t 1 * 512 + 1 * j.val = b.val; rw [(at2 t).2]; omega

theorem iblk3_at (c : Dev nD) (t : Fin cfg0.N) (i : Fin 4096) (j : Fin 512) (a : Fin 4096) (b : Fin 4096)
    (ha : a.val = 4096 * (0) + i.val) (hb : b.val = 512 * (t.val % 8) + j.val) :
    (iblk m c 3 t : Vec F S4096x512 .bf16) (ix2 i j) = m ((c : Thread nD τ).loc main_arg3) (ix2 a b) := by
  unfold iblk
  rw [View.read_apply]
  show V m c main_arg3 _ = _
  rw [V_main_arg3]
  congr 1
  funext x
  apply Fin.ext
  match x with
  | ⟨0, _⟩ => show win0_3.index t 0 * 4096 + 1 * i.val = a.val; rw [(at3 t).1]; omega
  | ⟨1, _⟩ => show win0_3.index t 1 * 512 + 1 * j.val = b.val; rw [(at3 t).2]; omega

theorem iblk4_at (c : Dev nD) (t : Fin cfg0.N) (i : Fin 1024) (j : Fin 512) (a : Fin 8192) (b : Fin 8192)
    (ha : a.val = 1024 * (t.val / 8) + i.val) (hb : b.val = 512 * (t.val % 8) + j.val) :
    (iblk m c 4 t : Vec F S1024x512 .bf16) (ix2 i j) = m ((c : Thread nD τ).loc main_arg4) (ix2 a b) := by
  unfold iblk
  rw [View.read_apply]
  show V m c main_arg4 _ = _
  rw [V_main_arg4]
  congr 1
  funext x
  apply Fin.ext
  match x with
  | ⟨0, _⟩ => show win0_4.index t 0 * 1024 + 1 * i.val = a.val; rw [(at4 t).1]; omega
  | ⟨1, _⟩ => show win0_4.index t 1 * 512 + 1 * j.val = b.val; rw [(at4 t).2]; omega

theorem iblk5_at (c : Dev nD) (t : Fin cfg0.N) (i : Fin 1024) (j : Fin 512) (a : Fin 8192) (b : Fin 8192)
    (ha : a.val = 1024 * (t.val / 8) + i.val) (hb : b.val = 512 * (8 + t.val % 8) + j.val) :
    (iblk m c 5 t : Vec F S1024x512 .bf16) (ix2 i j) = m ((c : Thread nD τ).loc main_arg4) (ix2 a b) := by
  unfold iblk
  rw [View.read_apply]
  show V m c main_arg4 _ = _
  rw [V_main_arg4]
  congr 1
  funext x
  apply Fin.ext
  match x with
  | ⟨0, _⟩ => show win0_5.index t 0 * 1024 + 1 * i.val = a.val; rw [(at5 t).1]; omega
  | ⟨1, _⟩ => show win0_5.index t 1 * 512 + 1 * j.val = b.val; rw [(at5 t).2]; omega

theorem emb6_at (t : Fin cfg0.N) (i : Fin 1024) (j : Fin 512) (a : Fin 8192) (b : Fin 4096)
    (ha : a.val = 1024 * (t.val / 8) + i.val) (hb : b.val = 512 * (t.val % 8) + j.val) :
    ((cfg0.win 6).blk t).view.emb (ix2 i j) = ix2 a b := by
  funext x
  apply Fin.ext
  match x with
  | ⟨0, _⟩ => show win0_6.index t 0 * 1024 + 1 * i.val = a.val; rw [(at6 t).1]; omega
  | ⟨1, _⟩ => show win0_6.index t 1 * 512 + 1 * j.val = b.val; rw [(at6 t).2]; omega

end Blocks

variable (m : (ℓ : Loc nD τ sig) → Buf (Elt Ideal) ℓ)

/-- The merged branches, at a row and a column. -/
theorem result_at (c : Dev nD) (a : Fin 8192) (b : Fin 4096) :
    ((dats m 0 c).arrAt 6 cfg0.N (ix2 a b) : EReal)
      = mergeAt ((m ((c : Thread nD τ).loc main_arg4) : Vec Ideal S8192x8192 .bf16) (ix2 a ⟨b.val, by omega⟩)) ((m ((c : Thread nD τ).loc main_arg4) : Vec Ideal S8192x8192 .bf16) (ix2 a ⟨4096 + b.val, by omega⟩))
          (fun x => (m ((c : Thread nD τ).loc main_arg0) : Vec Ideal S8192x4096 .bf16) (ix2 a x)) (fun x => (m ((c : Thread nD τ).loc main_arg2) : Vec Ideal S4096x4096 .bf16) (ix2 x b))
          (fun x => (m ((c : Thread nD τ).loc main_arg1) : Vec Ideal S8192x4096 .bf16) (ix2 a x)) (fun x => (m ((c : Thread nD τ).loc main_arg3) : Vec Ideal S4096x4096 .bf16) (ix2 x b)) := by
  obtain ⟨t, ht⟩ : ∃ t : Fin cfg0.N, t.val = 8 * (a.val / 1024) + b.val / 512 := ⟨⟨_, by rw [show cfg0.N = 64 from N_0]; omega⟩, rfl⟩
  obtain ⟨i, hi⟩ : ∃ i : Fin 1024, i.val = a.val % 1024 := ⟨⟨_, by omega⟩, rfl⟩
  obtain ⟨j, hj⟩ : ∃ j : Fin 512, j.val = b.val % 512 := ⟨⟨_, by omega⟩, rfl⟩
  have e := congrFun (blocks6 m c t (flush6 t)) (ix2 i j)
  rw [View.read_apply, emb6_at t i j a b (by omega) (by omega), flushed6] at e
  refine e.trans ?_
  show out0_6 (iblk m c 0 t) (iblk m c 1 t) (iblk m c 2 t) (iblk m c 3 t) (iblk m c 4 t) (iblk m c 5 t) (ix2 i j) = _
  refine (out_at _ _ _ _ _ _ i j).trans ?_
  have e0 : ∀ x : Fin 4096, _ := fun x => iblk0_at m c t i x a x (by omega) (by omega)
  have e1 : ∀ x : Fin 4096, _ := fun x => iblk1_at m c t i x a x (by omega) (by omega)
  have e2 : ∀ x : Fin 4096, _ := fun x => iblk2_at m c t x j x b (by omega) (by omega)
  have e3 : ∀ x : Fin 4096, _ := fun x => iblk3_at m c t x j x b (by omega) (by omega)
  have e4 := iblk4_at m c t i j a ⟨b.val, by omega⟩ (by omega) (by simp only []; omega)
  have e5 := iblk5_at m c t i j a ⟨4096 + b.val, by omega⟩ (by omega) (by simp only []; omega)
  rw [e4, e5]
  simp only [e0, e1, e2, e3]
  rfl

end Cert.MergeIdeal.Words

namespace Cert.Merged

open Idealize.ShloMosaic Idealize.ShloMosaic.TcCoe Idealize.SL.Sem

attribute [local instance] Cert.MergeIdeal.Gen.facts Cert.MergeReferenceIdeal.Gen.facts

open Cert.MergeReferenceIdeal Cert.MergeReferenceIdeal.Gen in
/-- The reference's term, at a row and a column. -/
theorem ref_at (p d : FVec Ideal S8192x4096 .bf16) (wp wd : FVec Ideal S4096x4096 .bf16) (g : FVec Ideal S8192x8192 .bf16) (a : Fin 8192) (b : Fin 4096) :
    ((truncf .bf16 (addf (mulf (extractStridedSlice S8192x4096 ![0, 0] (extf .f32 g bitsLt_bf16_f32) slices_S8192x8192_S8192x4096_0_0)
        (Host.dotGeneral dot_S8192x4096_S4096x4096_S8192x4096_1_0_0_1_n_n none p wp))
      (mulf (extractStridedSlice S8192x4096 ![0, 4096] (extf .f32 g bitsLt_bf16_f32) slices_S8192x8192_S8192x4096_0_4096)
        (Host.dotGeneral dot_S8192x4096_S4096x4096_S8192x4096_1_0_0_1_n_n none d wd))) bitsLt_bf16_f32 : FVec Ideal S8192x4096 .bf16) (ix2 a b) : EReal)
      = g (ix2 a ⟨b.val, by omega⟩) * (∑ x : Fin 4096, p (ix2 a x) * wp (ix2 x b))
        + g (ix2 a ⟨4096 + b.val, by omega⟩) * (∑ x : Fin 4096, d (ix2 a x) * wd (ix2 x b)) := by
  pointwise []

/-- The call runs, leaves its arguments and ends with its semaphores at zero. -/
theorem frame : Cert.quiescent_MergeIdeal := fun m ρ _ => Cert.MergeIdeal.Gen.frame m ρ

/-- The reference runs, leaves its arguments and ends with its semaphores at zero: it has none. -/
theorem frame_reference : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- The call and its reference end with one result. -/
theorem algebraic : Cert.algebraic_MergeIdeal_MergeReferenceIdeal := fun m ρ m' ρ' hp ha =>
  ⟨fun c => (Cert.MergeIdeal.Gen.dats m 0 c).arrAt 6 Cert.MergeIdeal.cfg0.N, Cert.MergeIdeal.Value.run_blocks (F := Ideal) m ρ,
    (θ_run Cert.MergeReferenceIdeal.defs _ _).mono (fun r h c => ⟨(h c).1.trans (by
        obtain ⟨e0, e1, e2, e3, e4⟩ := ha c
        rw [e0, e1, e2, e3, e4]
        funext x
        rw [eq_ix2 x]
        exact (ref_at _ _ _ _ _ _ _).trans (Cert.MergeIdeal.Words.result_at m c _ _).symm), (h c).2⟩)
      (Cert.MergeReferenceIdeal.Value.run (F := Ideal) m' ρ')⟩

end Cert.Merged

end
-- ==== Proof.Rows.lean ====
/- The runs of the output projection kernel at a grid point, over the reals. -/
module

public import proofs.«01_k».proof.Proof.Gen.OutIdeal.Frame
public import proofs.«01_k».proof.Proof.Gen.OutIdeal.Skeleton
public import Idealize.ShloMosaic.Lib.Tactic.Stretches
public import Idealize.ShloMosaic.Lib.VecWindow
public import Idealize.ShloMosaic.Lib.Pipeline.Value

@[expose] public section

set_option maxRecDepth 16384

noncomputable section

namespace Cert.Rows

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The test of the first column tile of a row block. -/
abbrev first (i : grid0.Coords) : Prop := (Scalar.cmpi .ne (Scalar.extui (Scalar.cmpi .eq (BitVec.ofNat 32 (i 1).val) 0#32)) 0#32) = 1#1

/-- The test of the last column tile of a row block. -/
abbrev last (i : grid0.Coords) : Prop := (Scalar.cmpi .ne (Scalar.extui (Scalar.cmpi .eq (BitVec.ofNat 32 (i 1).val) 3#32)) 0#32) = 1#1

/-- The first tile's test holds where the point is a multiple of four. -/
theorem first_iff : ∀ t : Fin cfg0.N, first (grid0.coords t) ↔ t.val % 4 = 0 :=
  (by decide +kernel : ∀ t : Fin grid0.N, first (grid0.coords t) ↔ t.val % 4 = 0)

/-- The last tile's test holds at the fourth of each four points. -/
theorem last_iff : ∀ t : Fin cfg0.N, last (grid0.coords t) ↔ t.val % 4 = 3 :=
  (by decide +kernel : ∀ t : Fin grid0.N, last (grid0.coords t) ↔ t.val % 4 = 3)

set_option maxHeartbeats 1000000 in
/-- The first tile of a row block: what the body stores into the output block and into the sum of squares, on whole buffers with the inputs and the output block at named contents, with the proof that it runs to the continuation holding them so. -/
noncomputable def runA (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S1x4096 .f32) (harg5 : arg5.IsWhole) (arg6 : Memref sig .tc .vmem S512x4096 .f32) (harg6 : arg6.IsWhole) (arg7 : Memref sig .tc .vmem S512x1 .f32) (harg7 : arg7.IsWhole) (hc0 : first i) (hc1 : ¬last i)
    (x0 : Vec F S512x4096 .bf16) (x1 : Vec F S4096x1024 .bf16) (x2 : Vec F S512x1024 .f32) (x3 : Vec F S1x4096 .f32) (y : Vec F S512x4096 .f32) :
    Σ' (L : List (View.Piece (Elt F) S512x4096 .f32)), { LS : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread y) L) ∗ (∃ f, arg7.view.loc (c : Thread nD τ) ↦[arg7.view.set]{fullShare} arg7.view.writes (Elt F) f LS)) -∗ K ⟨⟩))
          ⊢ wp frame (wpE (defs₀ (F := F)) Variants.none c none) E (cc0_out_proj_norm i arg2 harg2 arg3 harg3 arg4 harg4 arg5 harg5 arg6 harg6 arg7 harg7) K } := by
  refine ⟨?_, ?_, fun E K => ?run⟩
  case run =>
    simp only [cc0_out_proj_norm_eq_skeleton]; unfold cc0_out_proj_norm_skel
    unfold owns
    iintro ⟨⟨%f0, %hf0, H0⟩, ⟨%f1, %hf1, H1⟩, ⟨%f2, %hf2, H2⟩, ⟨%f3, %hf3, H3⟩, ⟨%f6, %hf6, H6⟩, ⟨%d7, %f7, -, H7⟩, Hk⟩
    obtain rfl := harg2.eq_unread hf0; obtain rfl := harg3.eq_unread hf1; obtain rfl := harg4.eq_unread hf2
    obtain rfl := harg5.eq_unread hf3; obtain rfl := harg6.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexact H6
    iexists _; iexact H7

set_option maxHeartbeats 1000000 in
/-- A middle tile of a row block: as the first, over the sum of squares so far. -/
noncomputable def runB (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S1x4096 .f32) (harg5 : arg5.IsWhole) (arg6 : Memref sig .tc .vmem S512x4096 .f32) (harg6 : arg6.IsWhole) (arg7 : Memref sig .tc .vmem S512x1 .f32) (harg7 : arg7.IsWhole) (hc0 : ¬first i) (hc1 : ¬last i)
    (x0 : Vec F S512x4096 .bf16) (x1 : Vec F S4096x1024 .bf16) (x2 : Vec F S512x1024 .f32) (x3 : Vec F S1x4096 .f32) (y : Vec F S512x4096 .f32) (s : Vec F S512x1 .f32) :
    Σ' (L : List (View.Piece (Elt F) S512x4096 .f32)), { LS : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y ∗ owns (c : Thread nD τ) arg7 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread y) L) ∗ (∃ f, arg7.view.loc (c : Thread nD τ) ↦[arg7.view.set]{fullShare} arg7.view.writes (Elt F) f LS)) -∗ K ⟨⟩))
          ⊢ wp frame (wpE (defs₀ (F := F)) Variants.none c none) E (cc0_out_proj_norm i arg2 harg2 arg3 harg3 arg4 harg4 arg5 harg5 arg6 harg6 arg7 harg7) K } := by
  refine ⟨?_, ?_, fun E K => ?run⟩
  case run =>
    simp only [cc0_out_proj_norm_eq_skeleton]; unfold cc0_out_proj_norm_skel
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf3; obtain rfl := harg6.eq_unread hf6; obtain rfl := harg7.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexact H6
    iexists _; iexact H7

set_option maxHeartbeats 1000000 in
/-- The last tile of a row block: as a middle one, then the whole block normed. -/
noncomputable def runC (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S1x4096 .f32) (harg5 : arg5.IsWhole) (arg6 : Memref sig .tc .vmem S512x4096 .f32) (harg6 : arg6.IsWhole) (arg7 : Memref sig .tc .vmem S512x1 .f32) (harg7 : arg7.IsWhole) (hc0 : ¬first i) (hc1 : last i)
    (x0 : Vec F S512x4096 .bf16) (x1 : Vec F S4096x1024 .bf16) (x2 : Vec F S512x1024 .f32) (x3 : Vec F S1x4096 .f32) (y : Vec F S512x4096 .f32) (s : Vec F S512x1 .f32) :
    Σ' (L : List (View.Piece (Elt F) S512x4096 .f32)), { LS : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y ∗ owns (c : Thread nD τ) arg7 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread y) L) ∗ (∃ f, arg7.view.loc (c : Thread nD τ) ↦[arg7.view.set]{fullShare} arg7.view.writes (Elt F) f LS)) -∗ K ⟨⟩))
          ⊢ wp frame (wpE (defs₀ (F := F)) Variants.none c none) E (cc0_out_proj_norm i arg2 harg2 arg3 harg3 arg4 harg4 arg5 harg5 arg6 harg6 arg7 harg7) K } := by
  refine ⟨?_, ?_, fun E K => ?run⟩
  case run =>
    simp only [cc0_out_proj_norm_eq_skeleton]; unfold cc0_out_proj_norm_skel
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf3; obtain rfl := harg6.eq_unread hf6; obtain rfl := harg7.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexact H6
    iexists _; iexact H7

theorem piecesS_A (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S1x4096 .f32) (harg5 : arg5.IsWhole) (arg6 : Memref sig .tc .vmem S512x4096 .f32) (harg6 : arg6.IsWhole) (arg7 : Memref sig .tc .vmem S512x1 .f32) (harg7 : arg7.IsWhole) (hc0 : first i) (hc1 : ¬last i)
    (x0 : Vec F S512x4096 .bf16) (x1 : Vec F S4096x1024 .bf16) (x2 : Vec F S512x1024 .f32) (x3 : Vec F S1x4096 .f32) (y : Vec F S512x4096 .f32) :
    (runA (F := F) c i arg2 harg2 arg3 harg3 arg4 harg4 arg5 harg5 arg6 harg6 arg7 harg7 hc0 hc1 x0 x1 x2 x3 y).2.1 = [⟨Rect.unit (s := S512x1) ![0, 0] S512x1.size inb_S512x1_S512x1_0_0, k0_pay3 (View.ld (arg4.view.read (Elt F) (harg4.unread x2)) (Rect.unit (s := S512x1024) ![0, 0] S512x1024.size inb_S512x1024_S512x1024_0_0)) (View.ld (arg2.view.read (Elt F) (harg2.unread x0)) (Rect.unit (s := S512x4096) ![0, 0] S512x4096.size inb_S512x4096_S512x4096_0_0)) (View.ld (arg3.view.read (Elt F) (harg3.unread x1)) (Rect.unit (s := S4096x1024) ![0, 0] S4096x1024.size inb_S4096x1024_S4096x1024_0_0)) (View.ld (arg7.view.read (Elt F) (arg7.view.writes (Elt F) arg7.view.junk [⟨Rect.unit (s := S512x1) ![0, 0] S512x1.size inb_S512x1_S512x1_0_0, k0_pay1⟩])) (Rect.unit (s := S512x1) ![0, 0] S512x1.size inb_S512x1_S512x1_0_0))⟩, ⟨Rect.unit (s := S512x1) ![0, 0] S512x1.size inb_S512x1_S512x1_0_0, k0_pay1⟩] := by
  unfold runA
  sl_open_run
  sl_open_pay
  sl_kernel_rfl

theorem piecesO_A (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S1x4096 .f32) (harg5 : arg5.IsWhole) (arg6 : Memref sig .tc .vmem S512x4096 .f32) (harg6 : arg6.IsWhole) (arg7 : Memref sig .tc .vmem S512x1 .f32) (harg7 : arg7.IsWhole) (hc0 : first i) (hc1 : ¬last i)
    (x0 : Vec F S512x4096 .bf16) (x1 : Vec F S4096x1024 .bf16) (x2 : Vec F S512x1024 .f32) (x3 : Vec F S1x4096 .f32) (y : Vec F S512x4096 .f32) :
    (runA (F := F) c i arg2 harg2 arg3 harg3 arg4 harg4 arg5 harg5 arg6 harg6 arg7 harg7 hc0 hc1 x0 x1 x2 x3 y).1 = [⟨Rect.unit (s := S512x4096) (k0_off1 i) S512x1024.size (k0_off1_inb i), k0_pay2 (View.ld (arg4.view.read (Elt F) (harg4.unread x2)) (Rect.unit (s := S512x1024) ![0, 0] S512x1024.size inb_S512x1024_S512x1024_0_0)) (View.ld (arg2.view.read (Elt F) (harg2.unread x0)) (Rect.unit (s := S512x4096) ![0, 0] S512x4096.size inb_S512x4096_S512x4096_0_0)) (View.ld (arg3.view.read (Elt F) (harg3.unread x1)) (Rect.unit (s := S4096x1024) ![0, 0] S4096x1024.size inb_S4096x1024_S4096x1024_0_0))⟩] := by
  unfold runA
  sl_open_run
  sl_open_pay
  sl_kernel_rfl

theorem piecesS_B (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S1x4096 .f32) (harg5 : arg5.IsWhole) (arg6 : Memref sig .tc .vmem S512x4096 .f32) (harg6 : arg6.IsWhole) (arg7 : Memref sig .tc .vmem S512x1 .f32) (harg7 : arg7.IsWhole) (hc0 : ¬first i) (hc1 : ¬last i)
    (x0 : Vec F S512x4096 .bf16) (x1 : Vec F S4096x1024 .bf16) (x2 : Vec F S512x1024 .f32) (x3 : Vec F S1x4096 .f32) (y : Vec F S512x4096 .f32) (s : Vec F S512x1 .f32) :
    (runB (F := F) c i arg2 harg2 arg3 harg3 arg4 harg4 arg5 harg5 arg6 harg6 arg7 harg7 hc0 hc1 x0 x1 x2 x3 y s).2.1 = [⟨Rect.unit (s := S512x1) ![0, 0] S512x1.size inb_S512x1_S512x1_0_0, k0_pay3 (View.ld (arg4.view.read (Elt F) (harg4.unread x2)) (Rect.unit (s := S512x1024) ![0, 0] S512x1024.size inb_S512x1024_S512x1024_0_0)) (View.ld (arg2.view.read (Elt F) (harg2.unread x0)) (Rect.unit (s := S512x4096) ![0, 0] S512x4096.size inb_S512x4096_S512x4096_0_0)) (View.ld (arg3.view.read (Elt F) (harg3.unread x1)) (Rect.unit (s := S4096x1024) ![0, 0] S4096x1024.size inb_S4096x1024_S4096x1024_0_0)) (View.ld (arg7.view.read (Elt F) (harg7.unread s)) (Rect.unit (s := S512x1) ![0, 0] S512x1.size inb_S512x1_S512x1_0_0))⟩] := by
  unfold runB
  sl_open_run
  sl_open_pay
  sl_kernel_rfl

theorem piecesO_B (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S1x4096 .f32) (harg5 : arg5.IsWhole) (arg6 : Memref sig .tc .vmem S512x4096 .f32) (harg6 : arg6.IsWhole) (arg7 : Memref sig .tc .vmem S512x1 .f32) (harg7 : arg7.IsWhole) (hc0 : ¬first i) (hc1 : ¬last i)
    (x0 : Vec F S512x4096 .bf16) (x1 : Vec F S4096x1024 .bf16) (x2 : Vec F S512x1024 .f32) (x3 : Vec F S1x4096 .f32) (y : Vec F S512x4096 .f32) (s : Vec F S512x1 .f32) :
    (runB (F := F) c i arg2 harg2 arg3 harg3 arg4 harg4 arg5 harg5 arg6 harg6 arg7 harg7 hc0 hc1 x0 x1 x2 x3 y s).1 = [⟨Rect.unit (s := S512x4096) (k0_off1 i) S512x1024.size (k0_off1_inb i), k0_pay2 (View.ld (arg4.view.read (Elt F) (harg4.unread x2)) (Rect.unit (s := S512x1024) ![0, 0] S512x1024.size inb_S512x1024_S512x1024_0_0)) (View.ld (arg2.view.read (Elt F) (harg2.unread x0)) (Rect.unit (s := S512x4096) ![0, 0] S512x4096.size inb_S512x4096_S512x4096_0_0)) (View.ld (arg3.view.read (Elt F) (harg3.unread x1)) (Rect.unit (s := S4096x1024) ![0, 0] S4096x1024.size inb_S4096x1024_S4096x1024_0_0))⟩] := by
  unfold runB
  sl_open_run
  sl_open_pay
  sl_kernel_rfl

/-- What the sum of squares holds afterwards. -/
theorem sum_A (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S1x4096 .f32) (harg5 : arg5.IsWhole) (arg6 : Memref sig .tc .vmem S512x4096 .f32) (harg6 : arg6.IsWhole) (arg7 : Memref sig .tc .vmem S512x1 .f32) (harg7 : arg7.IsWhole) (hc0 : first i) (hc1 : ¬last i)
    (x0 : Vec F S512x4096 .bf16) (x1 : Vec F S4096x1024 .bf16) (x2 : Vec F S512x1024 .f32) (x3 : Vec F S1x4096 .f32) (y : Vec F S512x4096 .f32) (f : arg7.view.ty.Contents (Elt F)) :
    arg7.view.read (Elt F) (arg7.view.writes (Elt F) f (runA (F := F) c i arg2 harg2 arg3 harg3 arg4 harg4 arg5 harg5 arg6 harg6 arg7 harg7 hc0 hc1 x0 x1 x2 x3 y).2.1) = (k0_pay3 x2 x0 x1 k0_pay1) := by
  have hz : (![0, 0] : Fin 2 → ℕ) = fun _ => 0 := funext fun a => by fin_cases a <;> rfl
  rw [piecesS_A c i arg2 harg2 arg3 harg3 arg4 harg4 arg5 harg5 arg6 harg6 arg7 harg7 hc0 hc1 x0 x1 x2 x3 y, View.read_writes_full]
  simp only [Memref.IsWhole.read_unread]
  rw [View.ld_unit_zero (S := S512x1024) hz, View.ld_unit_zero (S := S512x4096) hz, View.ld_unit_zero (S := S4096x1024) hz]
  rw [View.ld_unit_zero (S := S512x1) hz, View.read_writes_full]

/-- What the output block holds afterwards: what it held, with the tile's columns laid in. -/
theorem out_A (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S1x4096 .f32) (harg5 : arg5.IsWhole) (arg6 : Memref sig .tc .vmem S512x4096 .f32) (harg6 : arg6.IsWhole) (arg7 : Memref sig .tc .vmem S512x1 .f32) (harg7 : arg7.IsWhole) (hc0 : first i) (hc1 : ¬last i)
    (x0 : Vec F S512x4096 .bf16) (x1 : Vec F S4096x1024 .bf16) (x2 : Vec F S512x1024 .f32) (x3 : Vec F S1x4096 .f32) (y : Vec F S512x4096 .f32) :
    arg6.view.read (Elt F) (arg6.view.writes (Elt F) (harg6.unread y) (runA (F := F) c i arg2 harg2 arg3 harg3 arg4 harg4 arg5 harg5 arg6 harg6 arg7 harg7 hc0 hc1 x0 x1 x2 x3 y).1) = (VecWindow.put y (k0_off1 i) S512x1024.size (k0_pay2 x2 x0 x1)) := by
  have hz : (![0, 0] : Fin 2 → ℕ) = fun _ => 0 := funext fun a => by fin_cases a <;> rfl
  rw [piecesO_A c i arg2 harg2 arg3 harg3 arg4 harg4 arg5 harg5 arg6 harg6 arg7 harg7 hc0 hc1 x0 x1 x2 x3 y, View.read_writes_cons_put _ _ _ _ _ rfl, View.writes_nil]
  simp only [Memref.IsWhole.read_unread]
  rw [View.ld_unit_zero (S := S512x1024) hz, View.ld_unit_zero (S := S512x4096) hz, View.ld_unit_zero (S := S4096x1024) hz]

/-- What the sum of squares holds afterwards. -/
theorem sum_B (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S1x4096 .f32) (harg5 : arg5.IsWhole) (arg6 : Memref sig .tc .vmem S512x4096 .f32) (harg6 : arg6.IsWhole) (arg7 : Memref sig .tc .vmem S512x1 .f32) (harg7 : arg7.IsWhole) (hc0 : ¬first i) (hc1 : ¬last i)
    (x0 : Vec F S512x4096 .bf16) (x1 : Vec F S4096x1024 .bf16) (x2 : Vec F S512x1024 .f32) (x3 : Vec F S1x4096 .f32) (y : Vec F S512x4096 .f32) (s : Vec F S512x1 .f32) (f : arg7.view.ty.Contents (Elt F)) :
    arg7.view.read (Elt F) (arg7.view.writes (Elt F) f (runB (F := F) c i arg2 harg2 arg3 harg3 arg4 harg4 arg5 harg5 arg6 harg6 arg7 harg7 hc0 hc1 x0 x1 x2 x3 y s).2.1) = (k0_pay3 x2 x0 x1 s) := by
  have hz : (![0, 0] : Fin 2 → ℕ) = fun _ => 0 := funext fun a => by fin_cases a <;> rfl
  rw [piecesS_B c i arg2 harg2 arg3 harg3 arg4 harg4 arg5 harg5 arg6 harg6 arg7 harg7 hc0 hc1 x0 x1 x2 x3 y s, View.read_writes_full]
  simp only [Memref.IsWhole.read_unread]
  rw [View.ld_unit_zero (S := S512x1024) hz, View.ld_unit_zero (S := S512x4096) hz, View.ld_unit_zero (S := S4096x1024) hz]
  rw [View.ld_unit_zero (S := S512x1) hz]

/-- What the output block holds afterwards: what it held, with the tile's columns laid in. -/
theorem out_B (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S1x4096 .f32) (harg5 : arg5.IsWhole) (arg6 : Memref sig .tc .vmem S512x4096 .f32) (harg6 : arg6.IsWhole) (arg7 : Memref sig .tc .vmem S512x1 .f32) (harg7 : arg7.IsWhole) (hc0 : ¬first i) (hc1 : ¬last i)
    (x0 : Vec F S512x4096 .bf16) (x1 : Vec F S4096x1024 .bf16) (x2 : Vec F S512x1024 .f32) (x3 : Vec F S1x4096 .f32) (y : Vec F S512x4096 .f32) (s : Vec F S512x1 .f32) :
    arg6.view.read (Elt F) (arg6.view.writes (Elt F) (harg6.unread y) (runB (F := F) c i arg2 harg2 arg3 harg3 arg4 harg4 arg5 harg5 arg6 harg6 arg7 harg7 hc0 hc1 x0 x1 x2 x3 y s).1) = (VecWindow.put y (k0_off1 i) S512x1024.size (k0_pay2 x2 x0 x1)) := by
  have hz : (![0, 0] : Fin 2 → ℕ) = fun _ => 0 := funext fun a => by fin_cases a <;> rfl
  rw [piecesO_B c i arg2 harg2 arg3 harg3 arg4 harg4 arg5 harg5 arg6 harg6 arg7 harg7 hc0 hc1 x0 x1 x2 x3 y s, View.read_writes_cons_put _ _ _ _ _ rfl, View.writes_nil]
  simp only [Memref.IsWhole.read_unread]
  rw [View.ld_unit_zero (S := S512x1024) hz, View.ld_unit_zero (S := S512x4096) hz, View.ld_unit_zero (S := S4096x1024) hz]

theorem piecesS_C (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S1x4096 .f32) (harg5 : arg5.IsWhole) (arg6 : Memref sig .tc .vmem S512x4096 .f32) (harg6 : arg6.IsWhole) (arg7 : Memref sig .tc .vmem S512x1 .f32) (harg7 : arg7.IsWhole) (hc0 : ¬first i) (hc1 : last i)
    (x0 : Vec F S512x4096 .bf16) (x1 : Vec F S4096x1024 .bf16) (x2 : Vec F S512x1024 .f32) (x3 : Vec F S1x4096 .f32) (y : Vec F S512x4096 .f32) (s : Vec F S512x1 .f32) :
    (runC (F := F) c i arg2 harg2 arg3 harg3 arg4 harg4 arg5 harg5 arg6 harg6 arg7 harg7 hc0 hc1 x0 x1 x2 x3 y s).2.1 = [⟨Rect.unit (s := S512x1) ![0, 0] S512x1.size inb_S512x1_S512x1_0_0, k0_pay3 (View.ld (arg4.view.read (Elt F) (harg4.unread x2)) (Rect.unit (s := S512x1024) ![0, 0] S512x1024.size inb_S512x1024_S512x1024_0_0)) (View.ld (arg2.view.read (Elt F) (harg2.unread x0)) (Rect.unit (s := S512x4096) ![0, 0] S512x4096.size inb_S512x4096_S512x4096_0_0)) (View.ld (arg3.view.read (Elt F) (harg3.unread x1)) (Rect.unit (s := S4096x1024) ![0, 0] S4096x1024.size inb_S4096x1024_S4096x1024_0_0)) (View.ld (arg7.view.read (Elt F) (harg7.unread s)) (Rect.unit (s := S512x1) ![0, 0] S512x1.size inb_S512x1_S512x1_0_0))⟩] := by
  unfold runC
  sl_open_run
  sl_open_pay
  sl_kernel_rfl

theorem piecesO_C (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S1x4096 .f32) (harg5 : arg5.IsWhole) (arg6 : Memref sig .tc .vmem S512x4096 .f32) (harg6 : arg6.IsWhole) (arg7 : Memref sig .tc .vmem S512x1 .f32) (harg7 : arg7.IsWhole) (hc0 : ¬first i) (hc1 : last i)
    (x0 : Vec F S512x4096 .bf16) (x1 : Vec F S4096x1024 .bf16) (x2 : Vec F S512x1024 .f32) (x3 : Vec F S1x4096 .f32) (y : Vec F S512x4096 .f32) (s : Vec F S512x1 .f32) :
    (runC (F := F) c i arg2 harg2 arg3 harg3 arg4 harg4 arg5 harg5 arg6 harg6 arg7 harg7 hc0 hc1 x0 x1 x2 x3 y s).1 = [⟨Rect.unit (s := S512x4096) ![0, 0] S512x4096.size inb_S512x4096_S512x4096_0_0, k0_pay4 (View.ld (arg7.view.read (Elt F) (arg7.view.writes (Elt F) arg7.view.junk [⟨Rect.unit (s := S512x1) ![0, 0] S512x1.size inb_S512x1_S512x1_0_0, k0_pay3 (View.ld (arg4.view.read (Elt F) (harg4.unread x2)) (Rect.unit (s := S512x1024) ![0, 0] S512x1024.size inb_S512x1024_S512x1024_0_0)) (View.ld (arg2.view.read (Elt F) (harg2.unread x0)) (Rect.unit (s := S512x4096) ![0, 0] S512x4096.size inb_S512x4096_S512x4096_0_0)) (View.ld (arg3.view.read (Elt F) (harg3.unread x1)) (Rect.unit (s := S4096x1024) ![0, 0] S4096x1024.size inb_S4096x1024_S4096x1024_0_0)) (View.ld (arg7.view.read (Elt F) (harg7.unread s)) (Rect.unit (s := S512x1) ![0, 0] S512x1.size inb_S512x1_S512x1_0_0))⟩])) (Rect.unit (s := S512x1) ![0, 0] S512x1.size inb_S512x1_S512x1_0_0)) (View.ld (arg6.view.read (Elt F) (arg6.view.writes (Elt F) (harg6.unread y) [⟨Rect.unit (s := S512x4096) (k0_off1 i) S512x1024.size (k0_off1_inb i), k0_pay2 (View.ld (arg4.view.read (Elt F) (harg4.unread x2)) (Rect.unit (s := S512x1024) ![0, 0] S512x1024.size inb_S512x1024_S512x1024_0_0)) (View.ld (arg2.view.read (Elt F) (harg2.unread x0)) (Rect.unit (s := S512x4096) ![0, 0] S512x4096.size inb_S512x4096_S512x4096_0_0)) (View.ld (arg3.view.read (Elt F) (harg3.unread x1)) (Rect.unit (s := S4096x1024) ![0, 0] S4096x1024.size inb_S4096x1024_S4096x1024_0_0))⟩])) (Rect.unit (s := S512x4096) ![0, 0] S512x4096.size inb_S512x4096_S512x4096_0_0)) (View.ld (arg5.view.read (Elt F) (harg5.unread x3)) (Rect.unit (s := S1x4096) ![0, 0] S1x4096.size inb_S1x4096_S1x4096_0_0))⟩, ⟨Rect.unit (s := S512x4096) (k0_off1 i) S512x1024.size (k0_off1_inb i), k0_pay2 (View.ld (arg4.view.read (Elt F) (harg4.unread x2)) (Rect.unit (s := S512x1024) ![0, 0] S512x1024.size inb_S512x1024_S512x1024_0_0)) (View.ld (arg2.view.read (Elt F) (harg2.unread x0)) (Rect.unit (s := S512x4096) ![0, 0] S512x4096.size inb_S512x4096_S512x4096_0_0)) (View.ld (arg3.view.read (Elt F) (harg3.unread x1)) (Rect.unit (s := S4096x1024) ![0, 0] S4096x1024.size inb_S4096x1024_S4096x1024_0_0))⟩] := by
  unfold runC
  sl_open_run
  sl_open_pay
  sl_kernel_rfl

/-- What the sum of squares holds afterwards. -/
theorem sum_C (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S1x4096 .f32) (harg5 : arg5.IsWhole) (arg6 : Memref sig .tc .vmem S512x4096 .f32) (harg6 : arg6.IsWhole) (arg7 : Memref sig .tc .vmem S512x1 .f32) (harg7 : arg7.IsWhole) (hc0 : ¬first i) (hc1 : last i)
    (x0 : Vec F S512x4096 .bf16) (x1 : Vec F S4096x1024 .bf16) (x2 : Vec F S512x1024 .f32) (x3 : Vec F S1x4096 .f32) (y : Vec F S512x4096 .f32) (s : Vec F S512x1 .f32) (f : arg7.view.ty.Contents (Elt F)) :
    arg7.view.read (Elt F) (arg7.view.writes (Elt F) f (runC (F := F) c i arg2 harg2 arg3 harg3 arg4 harg4 arg5 harg5 arg6 harg6 arg7 harg7 hc0 hc1 x0 x1 x2 x3 y s).2.1) = (k0_pay3 x2 x0 x1 s) := by
  have hz : (![0, 0] : Fin 2 → ℕ) = fun _ => 0 := funext fun a => by fin_cases a <;> rfl
  rw [piecesS_C c i arg2 harg2 arg3 harg3 arg4 harg4 arg5 harg5 arg6 harg6 arg7 harg7 hc0 hc1 x0 x1 x2 x3 y s, View.read_writes_full]
  simp only [Memref.IsWhole.read_unread]
  rw [View.ld_unit_zero (S := S512x1024) hz, View.ld_unit_zero (S := S512x4096) hz, View.ld_unit_zero (S := S4096x1024) hz]
  rw [View.ld_unit_zero (S := S512x1) hz]

/-- What the output block holds afterwards: what it held, with the tile's columns laid in, normed. -/
theorem out_C (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S1x4096 .f32) (harg5 : arg5.IsWhole) (arg6 : Memref sig .tc .vmem S512x4096 .f32) (harg6 : arg6.IsWhole) (arg7 : Memref sig .tc .vmem S512x1 .f32) (harg7 : arg7.IsWhole) (hc0 : ¬first i) (hc1 : last i)
    (x0 : Vec F S512x4096 .bf16) (x1 : Vec F S4096x1024 .bf16) (x2 : Vec F S512x1024 .f32) (x3 : Vec F S1x4096 .f32) (y : Vec F S512x4096 .f32) (s : Vec F S512x1 .f32) :
    arg6.view.read (Elt F) (arg6.view.writes (Elt F) (harg6.unread y) (runC (F := F) c i arg2 harg2 arg3 harg3 arg4 harg4 arg5 harg5 arg6 harg6 arg7 harg7 hc0 hc1 x0 x1 x2 x3 y s).1) = k0_pay4 (k0_pay3 x2 x0 x1 s) (VecWindow.put y (k0_off1 i) S512x1024.size (k0_pay2 x2 x0 x1)) x3 := by
  have hz : (![0, 0] : Fin 2 → ℕ) = fun _ => 0 := funext fun a => by fin_cases a <;> rfl
  rw [piecesO_C c i arg2 harg2 arg3 harg3 arg4 harg4 arg5 harg5 arg6 harg6 arg7 harg7 hc0 hc1 x0 x1 x2 x3 y s, View.read_writes_full]
  rw [View.ld_unit_zero (S := S512x1) hz, View.read_writes_full, View.ld_unit_zero (S := S512x4096) hz, View.read_writes_cons_put _ _ _ _ _ rfl, View.writes_nil]
  simp only [Memref.IsWhole.read_unread]
  rw [View.ld_unit_zero (S := S512x1024) hz, View.ld_unit_zero (S := S512x4096) hz, View.ld_unit_zero (S := S4096x1024) hz]
  rw [View.ld_unit_zero (S := S512x1) hz, View.ld_unit_zero (S := S1x4096) hz]

end Cert.Rows

end
-- ==== Proof.RowsLaunch.lean ====
/- The launch of the output projection kernel over the reals: what each grid point leaves in the output block and in the
   running sum of squares, and what every final state holds. -/
module

public import proofs.«01_k».proof.Proof.Rows
public import Idealize.ShloMosaic.Lib.Pipeline.ArrRel

@[expose] public section

set_option maxRecDepth 16384

noncomputable section

namespace Cert.RowsLaunch

open Cert.OutIdeal Cert.OutIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x4096 .f32 := win0_4.stage (cfg0.slots t 4)
abbrev hs0_4 (t : Fin cfg0.N) : (ms0_4 t).IsWhole := hstage0_4 ((cfg0.slots t 4).cast nbuf0_4)
/-- The running sum of squares, whole. -/
abbrev scM0_0 : Memref sig .tc .vmem S512x1 .f32 := Memref.whole cc0_scratch0

/-- The invariant a launch starts from, at this kernel's one scratch array. -/
theorem start_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What each point leaves -/

/-- The running sum of squares after point `n`: begun afresh at the first tile of each row block. -/
def sums (c : Dev nD) : (n : ℕ) → n < cfg0.N → Vec F S512x1 .f32
  | 0, hn => k0_pay3 (iblk m c 2 ⟨0, hn⟩) (iblk m c 0 ⟨0, hn⟩) (iblk m c 1 ⟨0, hn⟩) k0_pay1
  | n + 1, hn => k0_pay3 (iblk m c 2 ⟨n + 1, hn⟩) (iblk m c 0 ⟨n + 1, hn⟩) (iblk m c 1 ⟨n + 1, hn⟩)
      (if (n + 1) % 4 = 0 then k0_pay1 else sums c n (Nat.lt_of_succ_lt hn))

/-- At the first tile of a row block the sum holds that tile's squares. -/
theorem sums_first (c : Dev nD) (t : Fin cfg0.N) (h : t.val % 4 = 0) :
    sums m c t.val t.isLt = k0_pay3 (iblk m c 2 t) (iblk m c 0 t) (iblk m c 1 t) k0_pay1 := by
  obtain ⟨n, hn⟩ := t
  cases n with
  | zero => rfl
  | succ n => unfold sums; rw [if_pos h]

/-- At a later tile the sum adds that tile's squares. -/
theorem sums_later (c : Dev nD) (t : Fin cfg0.N) (h : ¬t.val % 4 = 0) :
    sums m c t.val t.isLt = k0_pay3 (iblk m c 2 t) (iblk m c 0 t) (iblk m c 1 t)
      (sums m c (t.val - 1) (Nat.lt_of_le_of_lt (Nat.sub_le _ _) t.isLt)) := by
  obtain ⟨n, hn⟩ := t
  cases n with
  | zero => exact absurd (Nat.zero_mod _) h
  | succ n =>
    have e : sums m c (n + 1) hn = k0_pay3 (iblk m c 2 ⟨n + 1, hn⟩) (iblk m c 0 ⟨n + 1, hn⟩) (iblk m c 1 ⟨n + 1, hn⟩)
        (if (n + 1) % 4 = 0 then k0_pay1 else sums m c n (Nat.lt_of_succ_lt hn)) := rfl
    rw [if_neg h] at e
    exact e

/-- The output block with point `t`'s tile laid into it. -/
def laid (c : Dev nD) (t : Fin cfg0.N) (y : Vec F S512x4096 .f32) : Vec F S512x4096 .f32 :=
  VecWindow.put y (k0_off1 (grid0.coords t)) S512x1024.size (k0_pay2 (iblk m c 2 t) (iblk m c 0 t) (iblk m c 1 t))

/-- What point `t` leaves in the output block that held `y`: the tile laid in, and at the last tile of a row block the
    whole block normed. -/
def left (c : Dev nD) (t : Fin cfg0.N) (y : Vec F S512x4096 .f32) : Vec F S512x4096 .f32 :=
  if t.val % 4 = 3 then k0_pay4 (sums m c t.val t.isLt) (laid m c t y) (iblk m c 3 t) else laid m c t y

/-- The invariant before point `n`: the sum of squares at what the point before left. -/
def PhiS (c : Dev nD) : (n : ℕ) → n ≤ cfg0.N → sProp 𝕄
  | 0, _ => Pipeline.ΦA spec0 c
  | n + 1, hn => iprop(iprop(owns (c : Thread nD τ) scM0_0 fullShare (sums m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (sums m c n hn)) ∗ (∃ r, prngReg c r)) := rfl
theorem PhiS_pos (c : Dev nD) (n : ℕ) (h : n ≤ cfg0.N) (hz : n ≠ 0) :
    PhiS m c n h = iprop(iprop(owns (c : Thread nD τ) scM0_0 fullShare (sums m c (n - 1) (by omega))) ∗ (∃ r, prngReg c r)) := by
  cases n with
  | zero => exact absurd rfl hz
  | succ n => rfl

/-- From any invariant the sum of squares can be forgotten. -/
theorem PhiS_forget (c : Dev nD) (n : ℕ) (h : n ≤ cfg0.N) :
    PhiS m c n h ⊢ iprop(iprop((∃ d, owns (c : Thread nD τ) scM0_0 fullShare d)) ∗ (∃ r, prngReg c r)) := by
  by_cases hz : n = 0
  · rw [PhiS_zero m c n h hz, start_eq]
    try exact Idealize.SL.BI.Entails.refl _
  · rw [PhiS_pos m c n h hz]
    iintro ⟨HS0, Hg⟩
    isplitl [HS0]
    · iexists _; iexact HS0
    iexact Hg

/-- The launch's proof data: the inputs' buffers stay as they are, the output's goes from `y` to `left t y`. -/
def data (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = left m c t Y
  Φ t := PhiS m c t.val (Nat.le_of_lt_succ t.isLt)
  q _ := fullShare
  owed _ := 0

theorem A_eq (c : Dev nD) (w : Fin cfg0.W) : (data m c).A w = V m c (Pipeline.arrRef spec0 w) := by
  dsimp only [data]
theorem Phi_castSucc (c : Dev nD) (t : Fin cfg0.N) :
    (data m c).Φ t.castSucc = PhiS m c t.val (Nat.le_of_lt t.isLt) := by
  dsimp only [data]; exact Pipeline.Dat.Φ_castSucc (PhiS m c) t
theorem after_0 (c : Dev nD) (t : Fin cfg0.N) (Y X) : (data m c).after 0 t Y X ↔ X = Y := by dsimp only [data]; exact Iff.rfl
theorem after_1 (c : Dev nD) (t : Fin cfg0.N) (Y X) : (data m c).after 1 t Y X ↔ X = Y := by dsimp only [data]; exact Iff.rfl
theorem after_2 (c : Dev nD) (t : Fin cfg0.N) (Y X) : (data m c).after 2 t Y X ↔ X = Y := by dsimp only [data]; exact Iff.rfl
theorem after_3 (c : Dev nD) (t : Fin cfg0.N) (Y X) : (data m c).after 3 t Y X ↔ X = Y := by dsimp only [data]; exact Iff.rfl
theorem after_4 (c : Dev nD) (t : Fin cfg0.N) (Y X) : (data m c).after 4 t Y X ↔ X = left m c t Y := by dsimp only [data]; exact Iff.rfl

/-- Input 0's buffer holds its block at every point. -/
theorem finds_0 (c : Dev nD) (t : Fin cfg0.N) (Y) (h : (data m c).Finds 0 t Y) : Y = iblk m c 0 t := by
  obtain ⟨d, rfl⟩ := (data m c).finds_in_eq_fetched 0 rfl (fun _ _ _ => rfl) (fun t Y X h => (after_0 m c t Y X).mp h) t Y h
  unfold RDat.fetched RDat.blockOf iblk; rw [A_eq]; try rfl

/-- Input 1's buffer holds its block at every point. -/
theorem finds_1 (c : Dev nD) (t : Fin cfg0.N) (Y) (h : (data m c).Finds 1 t Y) : Y = iblk m c 1 t := by
  obtain ⟨d, rfl⟩ := (data m c).finds_in_eq_fetched 1 rfl (fun _ _ _ => rfl) (fun t Y X h => (after_1 m c t Y X).mp h) t Y h
  unfold RDat.fetched RDat.blockOf iblk; rw [A_eq]; try rfl

/-- Input 2's buffer holds its block at every point. -/
theorem finds_2 (c : Dev nD) (t : Fin cfg0.N) (Y) (h : (data m c).Finds 2 t Y) : Y = iblk m c 2 t := by
  obtain ⟨d, rfl⟩ := (data m c).finds_in_eq_fetched 2 rfl (fun _ _ _ => rfl) (fun t Y X h => (after_2 m c t Y X).mp h) t Y h
  unfold RDat.fetched RDat.blockOf iblk; rw [A_eq]; try rfl

/-- Input 3's buffer holds its block at every point. -/
theorem finds_3 (c : Dev nD) (t : Fin cfg0.N) (Y) (h : (data m c).Finds 3 t Y) : Y = iblk m c 3 t := by
  obtain ⟨d, rfl⟩ := (data m c).finds_in_eq_fetched 3 rfl (fun _ _ _ => rfl) (fun t Y X h => (after_3 m c t Y X).mp h) t Y h
  unfold RDat.fetched RDat.blockOf iblk; rw [A_eq]; try rfl

/-! ## The body at a point -/

/-- What the body is called with at a point, the output's buffer at `y`. -/
def bodyPre (c : Dev nD) (t : Fin cfg0.N) (y : Vec F S512x4096 .f32) : sProp 𝕄 :=
  iprop((data m c).Φ t.castSucc ∗ (data m c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare y)

/-- What it returns. -/
def bodyPost (c : Dev nD) (t : Fin cfg0.N) (y : Vec F S512x4096 .f32) : sProp 𝕄 :=
  iprop((data m c).Φ t.succ ∗ (data m c).owesAt () t.succ
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (left m c t y))

set_option maxHeartbeats 4800000 in
/-- The body at any point: the first tile starts the sum, a middle tile adds to it, the last adds and norms. -/
theorem sound_body (c : Dev nD) (t : Fin cfg0.N) (y : Vec F S512x4096 .f32) :
    bodyPre m c t y ⊢ wp frame (wpE (defs₀ (F := F)) Variants.none c none) Set.univ (bodyAt0 t) (fun _ => bodyPost m c t y) := by
  unfold bodyPre bodyPost bodyAt0
  rw [show (data m c).owesAt () t.succ = (data m c).owesAt () t.castSucc from rfl]
  rw [show (data m c).Φ t.succ = PhiS m c (t.val + 1) t.isLt from rfl, PhiS_succ, Phi_castSucc m c t]
  by_cases h0 : t.val % 4 = 0
  · have hn : ¬t.val % 4 = 3 := by omega
    rw [sums_first m c t h0]
    rw [show left m c t y = laid m c t y from if_neg hn]
    by_cases hz : t.val = 0
    · rw [PhiS_zero m c _ _ hz, start_eq]
      iintro ⟨⟨HS0, Hg⟩, Ho, H0, H1, H2, H3, H4⟩
      iapply ((runA (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((first_iff t).mpr h0) (fun h => hn ((last_iff t).mp h)) (iblk m c 0 t) (iblk m c 1 t) (iblk m c 2 t) (iblk m c 3 t) y).2.2 Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%e, HS0⟩⟩
      isplitl [HS0 Hg]
      · isplitl [HS0]
        · unfold owns; iexists _; isplitr
          swap; · iexact HS0
          ipureintro; exact (sum_A c _ _ _ _ _ _ _ _ _ _ _ _ _ _ _ _ _ _ _ _ e)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact (out_A c _ _ _ _ _ _ _ _ _ _ _ _ _ _ _ _ _ _ _ _)

    · rw [PhiS_pos m c _ _ hz]
      iintro ⟨⟨HS0, Hg⟩, Ho, H0, H1, H2, H3, H4⟩
      iapply ((runA (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((first_iff t).mpr h0) (fun h => hn ((last_iff t).mp h)) (iblk m c 0 t) (iblk m c 1 t) (iblk m c 2 t) (iblk m c 3 t) y).2.2 Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%e, HS0⟩⟩
      isplitl [HS0 Hg]
      · isplitl [HS0]
        · unfold owns; iexists _; isplitr
          swap; · iexact HS0
          ipureintro; exact (sum_A c _ _ _ _ _ _ _ _ _ _ _ _ _ _ _ _ _ _ _ _ e)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact (out_A c _ _ _ _ _ _ _ _ _ _ _ _ _ _ _ _ _ _ _ _)

  · have hz : t.val ≠ 0 := fun h => h0 (by rw [h])
    rw [PhiS_pos m c _ _ hz]
    by_cases h1 : t.val % 4 = 3
    · rw [show left m c t y = k0_pay4 (sums m c t.val t.isLt) (laid m c t y) (iblk m c 3 t) from if_pos h1]
      rw [sums_later m c t h0]
      iintro ⟨⟨HS0, Hg⟩, Ho, H0, H1, H2, H3, H4⟩
      iapply ((runC (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((first_iff t).mp h)) ((last_iff t).mpr h1) (iblk m c 0 t) (iblk m c 1 t) (iblk m c 2 t) (iblk m c 3 t) y (sums m c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%e, HS0⟩⟩
      isplitl [HS0 Hg]
      · isplitl [HS0]
        · unfold owns; iexists _; isplitr
          swap; · iexact HS0
          ipureintro; exact (sum_C c _ _ _ _ _ _ _ _ _ _ _ _ _ _ _ _ _ _ _ _ _ e)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact (out_C c _ _ _ _ _ _ _ _ _ _ _ _ _ _ _ _ _ _ _ _ _)

    · rw [show left m c t y = laid m c t y from if_neg h1]
      rw [sums_later m c t h0]
      iintro ⟨⟨HS0, Hg⟩, Ho, H0, H1, H2, H3, H4⟩
      iapply ((runB (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((first_iff t).mp h)) (fun h => h1 ((last_iff t).mp h)) (iblk m c 0 t) (iblk m c 1 t) (iblk m c 2 t) (iblk m c 3 t) y (sums m c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%e, HS0⟩⟩
      isplitl [HS0 Hg]
      · isplitl [HS0]
        · unfold owns; iexists _; isplitr
          swap; · iexact HS0
          ipureintro; exact (sum_B c _ _ _ _ _ _ _ _ _ _ _ _ _ _ _ _ _ _ _ _ _ e)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact (out_B c _ _ _ _ _ _ _ _ _ _ _ _ _ _ _ _ _ _ _ _ _)

/-- The body table's row at a point is the body as called there. -/
theorem defs₀_row (t : Fin cfg0.N) :
    defs₀ (F := F) .tc cfg0.body (cfg0.bodyArgs t (cfg0.slots t)) = bodyAt0 t := by
  unfold defs₀; rw [Defs.onTc_tc]

/-- What a point returns is what the proof data asks for. -/
theorem post_restated (c : Dev nD) (t : Fin cfg0.N) (y : Vec F S512x4096 .f32) :
    bodyPost m c t y ⊢ iprop((data m c).Φ t.succ ∗ (data m c).owesAt () t.succ
      ∗ (∃ X, ⌜(data m c).after 0 t (iblk m c 0 t) X⌝ ∗ owns (c : Thread nD τ) (ms0_0 t) fullShare X)
      ∗ (∃ X, ⌜(data m c).after 1 t (iblk m c 1 t) X⌝ ∗ owns (c : Thread nD τ) (ms0_1 t) fullShare X)
      ∗ (∃ X, ⌜(data m c).after 2 t (iblk m c 2 t) X⌝ ∗ owns (c : Thread nD τ) (ms0_2 t) fullShare X)
      ∗ (∃ X, ⌜(data m c).after 3 t (iblk m c 3 t) X⌝ ∗ owns (c : Thread nD τ) (ms0_3 t) fullShare X)
      ∗ (∃ X, ⌜(data m c).after 4 t y X⌝ ∗ owns (c : Thread nD τ) (ms0_4 t) fullShare X)) := by
  unfold bodyPost
  iintro ⟨Hp, Ho, H0, H1, H2, H3, H4⟩
  isplitl [Hp]; · iexact Hp
  isplitl [Ho]; · iexact Ho
  isplitl [H0]
  · iexists _; isplitr
    swap; · iexact H0
    ipureintro; exact (after_0 m c t _ _).mpr rfl
  isplitl [H1]
  · iexists _; isplitr
    swap; · iexact H1
    ipureintro; exact (after_1 m c t _ _).mpr rfl
  isplitl [H2]
  · iexists _; isplitr
    swap; · iexact H2
    ipureintro; exact (after_2 m c t _ _).mpr rfl
  isplitl [H3]
  · iexists _; isplitr
    swap; · iexact H3
    ipureintro; exact (after_3 m c t _ _).mpr rfl
  iexists _; isplitr
  swap; · iexact H4
  ipureintro; exact (after_4 m c t _ _).mpr rfl

/-- The body at every point, in the form the launch takes it. -/
theorem body_obligation (c : Dev nD) : (data (F := F) m c).BodyObligation (defs₀ (F := F)) Variants.none () Set.univ := fun t Y hY => by
  rw [bigSep_W0, bigSep_W0, defs₀_row]
  rw [finds_0 m c t (Y 0) (hY 0), finds_1 m c t (Y 1) (hY 1), finds_2 m c t (Y 2) (hY 2), finds_3 m c t (Y 3) (hY 3)]
  exact triple_restated (sound_body m c t (Y 4)) rfl .rfl fun _ => post_restated m c t (Y 4)

theorem hin (c : Dev nD) : Pipeline.ΦA spec0 c ⊢ (data m c).Φ 0 := by
  rw [show (data m c).Φ 0 = PhiS m c 0 (Nat.zero_le _) from rfl, PhiS_zero m c 0 _ rfl]
  try exact Idealize.SL.BI.Entails.refl _
theorem hout (c : Dev nD) : (data m c).Φ (Fin.last cfg0.N) ⊢ Pipeline.ΦA spec0 c := by
  rw [start_eq, show (data m c).Φ (Fin.last cfg0.N) = PhiS m c cfg0.N le_rfl from rfl]
  exact PhiS_forget m c _ _

/-! ## The run and the frame -/

set_option backward.isDefEq.respectTransparency.types false in
/-- Every execution ends with the arrays at what the proof data allows and every semaphore at zero. -/
theorem run_quiescent : θ_run defs (onTc (τ := τ) (main (F := F))) (s₀ m ρ)
    (fun r => RDat.FramePost cfg0 (data m) (V m) r ∧ r.2.sem = fun _ => 0) :=
  RDat.θ_run_frame_track (Q' := _) cfgs (0 : Fin 1) launch0 defs₀ Variants.none (data m) m ρ main
    (hbody := fun c => body_obligation m c) (hshare := fun c => (data m c).share_full fun _ => rfl)
    (howed := fun _ _ => rfl) (V := V m) (hmain := hmain m Variants.none) (hA := A_eq m) (hin := hin m) (hout := hout m)

/-- The argument arrays end unchanged. -/
theorem kept (r) (h : RDat.FramePost cfg0 (data m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(RDat.FramePost.arr_in h c 0 rfl).trans ((A_eq m c 0).trans (V_main_arg0 m c)),
   (RDat.FramePost.arr_in h c 1 rfl).trans ((A_eq m c 1).trans (V_main_arg1 m c)),
   (RDat.FramePost.arr_in h c 2 rfl).trans ((A_eq m c 2).trans (V_main_arg2 m c)),
   ((h c).2 main_arg3 (Pipeline.mem_restRefs_of main_arg3 (by decide) (by decide))).trans (V_main_arg3 m c)⟩

/-- The frame: the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => kept m r h.1 c, h.2⟩) (run_quiescent m ρ)

end Cert.RowsLaunch

end
-- ==== Proof.Normed.lean ====
/- The output projection, the residual add and the last norm: each row of the residual stream plus the projected
   branches, over its root mean square, times the gain. -/
module

public import proofs.«01_k».proof.Defs
public import proofs.«01_k».proof.Proof.RowsLaunch
public import proofs.«01_k».proof.Proof.Gen.Out
public import proofs.«01_k».proof.Proof.Gen.OutReferenceIdeal.Run
public import Idealize.ShloMosaic.Lib.Pointwise
public import Idealize.ShloMosaic.Lib.KernelVsHost

@[expose] public section

set_option maxRecDepth 65536
set_option backward.isDefEq.respectTransparency false

noncomputable section

namespace Cert.OutIdeal.Words

open Idealize.ShloMosaic Idealize.ShloMosaic.TcCoe Idealize.SL.Sem Cert.OutIdeal Cert.OutIdeal.Gen Cert.RowsLaunch
open Idealize.ShloMosaic.Pipeline (RDat)

/-! ## What one point computes, at an index -/

/-- The sum of squares starts at zero. -/
theorem pay1_at (i : Fin 512) (z : Fin 1) : (k0_pay1 (F := Ideal) (ix2 i z) : EReal) = 0 := by
  unfold k0_pay1
  pointwise []

/-- A tile of the hidden row: the residual stream plus the product of the merged row and the weight's column. -/
theorem pay2_at (x : FVec Ideal S512x1024 .f32) (p : FVec Ideal S512x4096 .bf16) (w : FVec Ideal S4096x1024 .bf16) (i : Fin 512) (j : Fin 1024) :
    (k0_pay2 (F := Ideal) x p w (ix2 i j) : EReal) = x (ix2 i j) + ∑ k : Fin 4096, p (ix2 i k) * w (ix2 k j) := by
  unfold k0_pay2
  pointwise []

/-- The sum of squares with a tile's squares added. -/
theorem pay3_at (x : FVec Ideal S512x1024 .f32) (p : FVec Ideal S512x4096 .bf16) (w : FVec Ideal S4096x1024 .bf16) (s : FVec Ideal S512x1 .f32) (i : Fin 512) (z : Fin 1) :
    (k0_pay3 (F := Ideal) x p w s (ix2 i z) : EReal) = s (ix2 i z) + ∑ j : Fin 1024, (k0_pay2 (F := Ideal) x p w (ix2 i j) : EReal) * (k0_pay2 (F := Ideal) x p w (ix2 i j) : EReal) := by
  unfold k0_pay3
  pointwise []

/-- The normed row block. -/
theorem pay4_at (s : FVec Ideal S512x1 .f32) (h : FVec Ideal S512x4096 .f32) (g : FVec Ideal S1x4096 .f32) (i : Fin 512) (j : Fin 4096) :
    (k0_pay4 (F := Ideal) s h g (ix2 i j) : EReal)
      = h (ix2 i j) * Ideal.rsqrt (s (ix2 i 0) * Ideal.ofBits .f32 0x39800000#32 + Ideal.ofBits .f32 0x358637BD#32) * g (ix2 0 j) := by
  unfold k0_pay4
  pointwise []

/-! ## Where the blocks lie -/

theorem off_at : ∀ t : Fin grid0.N, k0_off1 (grid0.coords t) 0 = 0 ∧ k0_off1 (grid0.coords t) 1 = 1024 * (t.val % 4) := by decide +kernel
theorem at0 : ∀ t : Fin grid0.N, win0_0.index t 0 = t.val / 4 ∧ win0_0.index t 1 = 0 := by decide +kernel
theorem at1 : ∀ t : Fin grid0.N, win0_1.index t 0 = 0 ∧ win0_1.index t 1 = t.val % 4 := by decide +kernel
theorem at2 : ∀ t : Fin grid0.N, win0_2.index t 0 = t.val / 4 ∧ win0_2.index t 1 = t.val % 4 := by decide +kernel
theorem at3 : ∀ t : Fin grid0.N, win0_3.index t 0 = 0 ∧ win0_3.index t 1 = 0 := by decide +kernel
theorem at4 : ∀ t : Fin grid0.N, win0_4.index t 0 = t.val / 4 ∧ win0_4.index t 1 = 0 := by decide +kernel
theorem fetch4 : ∀ t : Fin cfg0.N, (cfg0.win 4).fetch t = false := fun _ => rfl

/-- A column of the tile just laid in reads the tile. -/
theorem put_in {α : Type} (y : S512x4096.Idx → α) (off : Fin 2 → ℕ) (w : S512x1024.Idx → α) (i : Fin 512) (j : Fin 4096) (k : Fin 1024)
    (h0 : off 0 = 0) (h1 : j.val = off 1 + k.val) :
    VecWindow.put (s := S512x4096) y off S512x1024.size w (ix2 i j) = w (ix2 i k) := by
  have h : ∀ a : Fin 2, off a ≤ ((ix2 i j : S512x4096.Idx) a).val ∧ ((ix2 i j : S512x4096.Idx) a).val < off a + S512x1024.size a := by
    intro a
    have := i.isLt
    have := k.isLt
    match a with
    | ⟨0, _⟩ => show off 0 ≤ i.val ∧ i.val < off 0 + 512; omega
    | ⟨1, _⟩ => show off 1 ≤ j.val ∧ j.val < off 1 + 1024; omega
  refine (dif_pos h).trans (congrArg w ?_)
  funext a
  apply Fin.ext
  match a with
  | ⟨0, _⟩ => show i.val - off 0 = i.val; omega
  | ⟨1, _⟩ => show j.val - off 1 = k.val; omega

/-- A column left of the tile reads what the block held. -/
theorem put_out {α : Type} (y : S512x4096.Idx → α) (off : Fin 2 → ℕ) (w : S512x1024.Idx → α) (i : Fin 512) (j : Fin 4096)
    (h1 : j.val < off 1) :
    VecWindow.put (s := S512x4096) y off S512x1024.size w (ix2 i j) = y (ix2 i j) :=
  dif_neg fun h => by
    have e : off 1 ≤ j.val := (h 1).1
    omega

/-- The gain as one row, at a column. -/
theorem gain_at {F : FTy → Type} (g : Vec F S4096 .f32) (j : Fin 4096) :
    (shapeCast S1x4096 g shapeCasts_S4096_S1x4096 : Vec F S1x4096 .f32) (ix2 0 j) = g (ix1 j) := by
  pointwise []

section Blocks
variable {F : FTy → Type} [FloatOps F]
variable (m : (ℓ : Loc nD τ sig) → Buf (Elt F) ℓ)

/-- The launch reads the gain as one row. -/
theorem V_main_v0 (c : Dev nD) : V m c main_v0 = (shapeCast S1x4096 (m ((c : Thread nD τ).loc main_arg3) : Vec F S4096 .f32) shapeCasts_S4096_S1x4096 : Vec F S1x4096 .f32) := by
  show StableHlo.after hostOps0 (fun b => m (c, b)) (Proc.devRef .tc main_v0) = _
  unfold hostOps0
  after_results
  rfl

theorem iblk0_at (c : Dev nD) (t : Fin cfg0.N) (i : Fin 512) (j : Fin 4096) (a : Fin 8192) (b : Fin 4096)
    (ha : a.val = 512 * (t.val / 4) + i.val) (hb : b.val = 0 + j.val) :
    (iblk m c 0 t : Vec F S512x4096 .bf16) (ix2 i j) = m ((c : Thread nD τ).loc main_arg0) (ix2 a b) := by
  unfold iblk
  rw [View.read_apply]
  show V m c main_arg0 _ = _
  rw [V_main_arg0]
  congr 1
  funext x
  apply Fin.ext
  match x with
  | ⟨0, _⟩ => show win0_0.index t 0 * 512 + 1 * i.val = a.val; rw [(at0 t).1]; omega
  | ⟨1, _⟩ => show win0_0.index t 1 * 4096 + 1 * j.val = b.val; rw [(at0 t).2]; omega

theorem iblk1_at (c : Dev nD) (t : Fin cfg0.N) (i : Fin 4096) (j : Fin 1024) (a : Fin 4096) (b : Fin 4096)
    (ha : a.val = 0 + i.val) (hb : b.val = 1024 * (t.val % 4) + j.val) :
    (iblk m c 1 t : Vec F S4096x1024 .bf16) (ix2 i j) = m ((c : Thread nD τ).loc main_arg1) (ix2 a b) := by
  unfold iblk
  rw [View.read_apply]
  show V m c main_arg1 _ = _
  rw [V_main_arg1]
  congr 1
  funext x
  apply Fin.ext
  match x with
  | ⟨0, _⟩ => show win0_1.index t 0 * 4096 + 1 * i.val = a.val; rw [(at1 t).1]; omega
  | ⟨1, _⟩ => show win0_1.index t 1 * 1024 + 1 * j.val = b.val; rw [(at1 t).2]; omega

theorem iblk2_at (c : Dev nD) (t : Fin cfg0.N) (i : Fin 512) (j : Fin 1024) (a : Fin 8192) (b : Fin 4096)
    (ha : a.val = 512 * (t.val / 4) + i.val) (hb : b.val = 1024 * (t.val % 4) + j.val) :
    (iblk m c 2 t : Vec F S512x1024 .f32) (ix2 i j) = m ((c : Thread nD τ).loc main_arg2) (ix2 a b) := by
  unfold iblk
  rw [View.read_apply]
  show V m c main_arg2 _ = _
  rw [V_main_arg2]
  congr 1
  funext x
  apply Fin.ext
  match x with
  | ⟨0, _⟩ => show win0_2.index t 0 * 512 + 1 * i.val = a.val; rw [(at2 t).1]; omega
  | ⟨1, _⟩ => show win0_2.index t 1 * 1024 + 1 * j.val = b.val; rw [(at2 t).2]; omega

theorem iblk3_at (c : Dev nD) (t : Fin cfg0.N) (j : Fin 4096) :
    (iblk m c 3 t : Vec F S1x4096 .f32) (ix2 0 j) = (m ((c : Thread nD τ).loc main_arg3) : Vec F S4096 .f32) (ix1 j) := by
  unfold iblk
  rw [View.read_apply]
  show V m c main_v0 _ = _
  rw [V_main_v0]
  have e : ((cfg0.win 3).blk t).view.emb (ix2 (0 : Fin 1) j) = (ix2 (0 : Fin 1) j : S1x4096.Idx) := by
    funext x
    apply Fin.ext
    match x with
    | ⟨0, _⟩ => show win0_3.index t 0 * 1 + 1 * 0 = 0; rw [(at3 t).1]
    | ⟨1, _⟩ => show win0_3.index t 1 * 4096 + 1 * j.val = j.val; rw [(at3 t).2]; omega
  refine (congrArg (shapeCast S1x4096 (m ((c : Thread nD τ).loc main_arg3) : Vec F S4096 .f32) shapeCasts_S4096_S1x4096) e).trans ?_
  exact gain_at _ j

theorem emb4_at (t : Fin cfg0.N) (i : Fin 512) (j : Fin 4096) (a : Fin 8192)
    (ha : a.val = 512 * (t.val / 4) + i.val) :
    ((cfg0.win 4).blk t).view.emb (ix2 i j) = ix2 a j := by
  funext x
  apply Fin.ext
  match x with
  | ⟨0, _⟩ => show win0_4.index t 0 * 512 + 1 * i.val = a.val; rw [(at4 t).1]; omega
  | ⟨1, _⟩ => show win0_4.index t 1 * 4096 + 1 * j.val = j.val; rw [(at4 t).2]; omega

/-- Two points that write back write different rows. -/
theorem disjoint4 : ∀ t t' : Fin cfg0.N, (cfg0.win 4).flush t = true → (cfg0.win 4).flush t' = true → t ≠ t' →
    Disjoint ((cfg0.win 4).blk t).view.set ((cfg0.win 4).blk t').view.set :=
  fun t t' h h' hne => (cfg0.win 4).disjoint_blk fun e => hne (Fin.ext (by
    have a := (flush0_4 t).mp h
    have a' := (flush0_4 t').mp h'
    have b : win0_4.index t 0 = win0_4.index t' 0 := congrFun e 0
    rw [(at4 t).1, (at4 t').1] at b
    omega))

end Blocks

/-! ## The rows of the result -/

variable (m : (ℓ : Loc nD τ sig) → Buf (Elt Ideal) ℓ)

/-- One element of the hidden rows: the residual stream plus the product of the merged row and the weight's column. -/
def hiddenOf (x : EReal) (p w : Fin 4096 → EReal) : EReal := x + ∑ k, p k * w k

/-- The hidden rows before the norm. -/
def hidden (c : Dev nD) (a : Fin 8192) (b : Fin 4096) : EReal :=
  hiddenOf ((m ((c : Thread nD τ).loc main_arg2) : Vec Ideal S8192x4096 .f32) (ix2 a b))
    (fun k => (m ((c : Thread nD τ).loc main_arg0) : Vec Ideal S8192x4096 .bf16) (ix2 a k))
    (fun k => (m ((c : Thread nD τ).loc main_arg1) : Vec Ideal S4096x4096 .bf16) (ix2 k b))

/-- The square of a hidden element, at a column given by its number. -/
def squareAt (c : Dev nD) (a : Fin 8192) (b : ℕ) : EReal :=
  if h : b < 4096 then hidden m c a ⟨b, h⟩ * hidden m c a ⟨b, h⟩ else 0

/-- A point's tile, at an index. -/
theorem tile_at (c : Dev nD) (t : Fin cfg0.N) (i : Fin 512) (j : Fin 1024) (a : Fin 8192) (b : Fin 4096)
    (ha : a.val = 512 * (t.val / 4) + i.val) (hb : b.val = 1024 * (t.val % 4) + j.val) :
    (k0_pay2 (F := Ideal) (iblk m c 2 t) (iblk m c 0 t) (iblk m c 1 t) (ix2 i j) : EReal) = hidden m c a b := by
  refine (pay2_at _ _ _ i j).trans ?_
  have e0 : ∀ k : Fin 4096, _ := fun k => iblk0_at m c t i k a k ha (by omega)
  have e1 : ∀ k : Fin 4096, _ := fun k => iblk1_at m c t k j k b (by omega) hb
  have e2 := iblk2_at m c t i j a b ha hb
  rw [e2]
  simp only [e0, e1]
  rfl

/-- A tile's squares, added up. -/
theorem squares_at (c : Dev nD) (t : Fin cfg0.N) (i : Fin 512) (a : Fin 8192) (ha : a.val = 512 * (t.val / 4) + i.val) :
    (∑ j : Fin 1024, (k0_pay2 (F := Ideal) (iblk m c 2 t) (iblk m c 0 t) (iblk m c 1 t) (ix2 i j) : EReal)
        * (k0_pay2 (F := Ideal) (iblk m c 2 t) (iblk m c 0 t) (iblk m c 1 t) (ix2 i j) : EReal))
      = ∑ j ∈ Finset.range 1024, squareAt m c a (1024 * (t.val % 4) + j) := by
  rw [← Fin.sum_univ_eq_sum_range (fun j => squareAt m c a (1024 * (t.val % 4) + j)) 1024]
  refine Finset.sum_congr rfl fun j _ => ?_
  have hlt : 1024 * (t.val % 4) + j.val < 4096 := by have := j.isLt; omega
  have e := tile_at m c t i j a ⟨1024 * (t.val % 4) + j.val, hlt⟩ ha rfl
  unfold squareAt
  rw [dif_pos hlt, ← e]

/-- The running sum of squares after a point: over the columns up to that point's tile. -/
theorem sums_at (c : Dev nD) : ∀ (q : ℕ) (t : Fin cfg0.N) (i : Fin 512) (a : Fin 8192), t.val % 4 = q →
    a.val = 512 * (t.val / 4) + i.val →
    ((sums m c t.val t.isLt : FVec Ideal S512x1 .f32) (ix2 i 0) : EReal) = ∑ b ∈ Finset.range (1024 * (q + 1)), squareAt m c a b
  | 0, t, i, a, hq, ha => by
    rw [sums_first m c t hq]
    refine (pay3_at _ _ _ _ i 0).trans ?_
    rw [pay1_at, zero_add, squares_at m c t i a ha, hq]
    refine Finset.sum_congr rfl fun j _ => ?_
    rw [Nat.mul_zero, Nat.zero_add]
  | q + 1, t, i, a, hq, ha => by
    have hn : t.val - 1 < cfg0.N := Nat.lt_of_le_of_lt (Nat.sub_le _ _) t.isLt
    have ih := sums_at c q ⟨t.val - 1, hn⟩ i a (by simp only []; omega) (by simp only []; omega)
    rw [sums_later m c t (by omega)]
    refine (pay3_at _ _ _ _ i 0).trans ?_
    rw [squares_at m c t i a ha, hq, show 1024 * (q + 1 + 1) = 1024 * (q + 1) + 1024 from by ring, Finset.sum_range_add, ← ih]

/-- The block with a point's tile laid in, at a column up to that tile. -/
theorem laid_at (c : Dev nD) (t : Fin cfg0.N) (y : Vec Ideal S512x4096 .f32) (i : Fin 512) (j : Fin 4096) (a : Fin 8192)
    (ha : a.val = 512 * (t.val / 4) + i.val) (hj : j.val < 1024 * (t.val % 4 + 1))
    (hy : j.val < 1024 * (t.val % 4) → (y (ix2 i j) : EReal) = hidden m c a j) :
    (laid m c t y (ix2 i j) : EReal) = hidden m c a j := by
  unfold laid
  by_cases h : j.val < 1024 * (t.val % 4)
  · exact (put_out y _ _ i j (by rw [(off_at t).2]; exact h)).trans (hy h)
  · obtain ⟨k, hk⟩ : ∃ k : Fin 1024, j.val = 1024 * (t.val % 4) + k.val := ⟨⟨j.val - 1024 * (t.val % 4), by omega⟩, by simp only []; omega⟩
    exact (put_in y _ _ i j k (off_at t).1 (by rw [(off_at t).2]; exact hk)).trans (tile_at m c t i k a j ha hk)

/-- What a point finds in the output block: the tiles of its row block laid in before it. -/
theorem found_at (c : Dev nD) : ∀ (q : ℕ) (t : Fin cfg0.N) (Y : Vec Ideal S512x4096 .f32), t.val % 4 = q → (data m c).Finds 4 t Y →
    ∀ (i : Fin 512) (j : Fin 4096) (a : Fin 8192), a.val = 512 * (t.val / 4) + i.val → j.val < 1024 * q →
      (Y (ix2 i j) : EReal) = hidden m c a j
  | 0, t, Y, hq, hY, i, j, a, ha, hj => by omega
  | q + 1, t, Y, hq, hY, i, j, a, ha, hj => by
    have hn : t.val - 1 < cfg0.N := Nat.lt_of_le_of_lt (Nat.sub_le _ _) t.isLt
    have hz : t.val ≠ 0 := by omega
    rcases (RDat.finds_of_pos (data m c) (fetch4 t) hz Y).mp hY with hfl | ⟨Y', hY', hR⟩
    · have := (flush0_4 ⟨t.val - 1, hn⟩).mp hfl
      simp only [] at this
      omega
    · have e := (after_4 m c _ Y' Y).mp hR
      rw [show left m c ⟨t.val - 1, hn⟩ Y' = laid m c ⟨t.val - 1, hn⟩ Y' from if_neg (by simp only []; omega)] at e
      rw [e]
      refine laid_at m c ⟨t.val - 1, hn⟩ Y' i j a (by simp only []; omega) (by simp only []; omega) fun h => ?_
      exact found_at c q ⟨t.val - 1, hn⟩ Y' (by simp only []; omega) hY' i j a (by simp only []; omega) (by simp only [] at h; omega)

/-- One element of the result, from its hidden row's element, the sum of the row's squares and the gain. -/
def normedOf (h s g : EReal) : EReal := h * Ideal.rsqrt (s * Ideal.ofBits .f32 0x39800000#32 + Ideal.ofBits .f32 0x358637BD#32) * g

/-- The normed rows. -/
def normed (c : Dev nD) (a : Fin 8192) (b : Fin 4096) : EReal :=
  normedOf (hidden m c a b) (∑ k : Fin 4096, hidden m c a k * hidden m c a k) ((m ((c : Thread nD τ).loc main_arg3) : Vec Ideal S4096 .f32) (ix1 b))

/-- What the last point of a row block leaves: its rows normed. -/
theorem left_at (c : Dev nD) (t : Fin cfg0.N) (X : Vec Ideal S512x4096 .f32) (ht : t.val % 4 = 3) (hX : (data m c).Leaves 4 t X)
    (i : Fin 512) (j : Fin 4096) (a : Fin 8192) (ha : a.val = 512 * (t.val / 4) + i.val) :
    (X (ix2 i j) : EReal) = normed m c a j := by
  obtain ⟨Y, hY, hR⟩ := hX
  have e := (after_4 m c t Y X).mp hR
  rw [show left m c t Y = k0_pay4 (sums m c t.val t.isLt) (laid m c t Y) (iblk m c 3 t) from if_pos ht] at e
  rw [e]
  refine (pay4_at _ _ _ i j).trans ?_
  rw [sums_at m c 3 t i a ht ha, iblk3_at m c t j,
    laid_at m c t Y i j a ha (by have := j.isLt; omega) fun h => found_at m c 3 t Y ht hY i j a ha (by omega)]
  rw [show 1024 * (3 + 1) = 4096 from rfl, ← Fin.sum_univ_eq_sum_range (squareAt m c a) 4096]
  have es : ∀ k : Fin 4096, squareAt m c a k.val = hidden m c a k * hidden m c a k := fun k => dif_pos k.isLt
  simp only [es]
  rfl

/-- The result, an element each: the normed rows. -/
def result (c : Dev nD) : Vec Ideal S8192x4096 .f32 := fun x => normed m c (x 0) (x 1)

/-- Every final state holds the normed rows. -/
theorem ends (c : Dev nD) (r : PUnit × MemSt nD τ sig (Elt Ideal)) (h : RDat.FramePost cfg0 (data m) (V m) r) :
    r.2.mem ((c : Thread nD τ).loc main_v1) = result m c := by
  obtain ⟨after, hL, hA⟩ := RDat.FramePost.exists_exact h c
  refine (hA 4).trans ?_
  funext x
  rw [eq_ix2 x]
  obtain ⟨a, ha⟩ : ∃ a : Fin 8192, a = x 0 := ⟨_, rfl⟩
  obtain ⟨b, hb⟩ : ∃ b : Fin 4096, b = x 1 := ⟨_, rfl⟩
  rw [← ha, ← hb]
  obtain ⟨t, ht⟩ : ∃ t : Fin cfg0.N, t.val = 4 * (a.val / 512) + 3 := ⟨⟨_, by rw [show cfg0.N = 64 from N_0]; omega⟩, rfl⟩
  obtain ⟨i, hi⟩ : ∃ i : Fin 512, i.val = a.val % 512 := ⟨⟨_, by omega⟩, rfl⟩
  have hf : (cfg0.win 4).flush t = true := (flush0_4 t).mpr (by omega)
  have e := congrFun (((data m c).withAfter after).read_blk_arrAt_eq_flushed 4 disjoint4 cfg0.N t t.isLt hf) (ix2 i b)
  rw [View.read_apply, emb4_at t i b a (by omega)] at e
  refine e.trans ?_
  exact left_at m c t (after 4 t) (by omega) (hL 4 t hf) i b a (by omega)

end Cert.OutIdeal.Words

namespace Cert.Normed

open Idealize.ShloMosaic Idealize.ShloMosaic.TcCoe Idealize.SL.Sem

attribute [local instance] Cert.Out.Gen.facts Cert.OutIdeal.Gen.facts Cert.OutReferenceIdeal.Gen.facts

/-- Dividing by 4096 is multiplying by its reciprocal, whatever is divided. -/
theorem mean_eq (s : EReal) : Ideal.div s (Ideal.ofBits .f32 0x45800000#32) = s * Ideal.ofBits .f32 0x39800000#32 := by
  have e : Ideal.ofBits .f32 0x45800000#32 = ((4096 : ℝ) : EReal) := by
    simp [Ideal.ofBits, Ideal.ieee, -EReal.coe_mul]; norm_num
  have e' : Ideal.ofBits .f32 0x39800000#32 = (((4096 : ℝ)⁻¹ : ℝ) : EReal) := by
    simp [Ideal.ofBits, Ideal.ieee, -EReal.coe_mul]; norm_num
  rw [e, e']
  unfold Ideal.div
  rw [if_neg (by exact_mod_cast (by norm_num : (4096 : ℝ) ≠ 0)), EReal.coe_inv]

open Cert.OutReferenceIdeal Cert.OutReferenceIdeal.Gen in
/-- The reference's term, at a row and a column. -/
theorem ref_at (p : FVec Ideal S8192x4096 .bf16) (w : FVec Ideal S4096x4096 .bf16) (x : FVec Ideal S8192x4096 .f32) (g : FVec Ideal S4096 .f32) (a : Fin 8192) (b : Fin 4096) :
    ((mulf (mulf (addf x (Host.dotGeneral dot_S8192x4096_S4096x4096_S8192x4096_1_0_0_1_n_n none p w)) (broadcastInDim S8192x4096 ![0, 1] bcast_S8192x1_S8192x4096_0_1 (Host.rsqrt (addf (Host.divf (broadcastInDim S8192x1 ![0] bcast_S8192_S8192x1_0 (Host.reduceAdd (mulf (addf x (Host.dotGeneral dot_S8192x4096_S4096x4096_S8192x4096_1_0_0_1_n_n none p w)) (addf x (Host.dotGeneral dot_S8192x4096_S4096x4096_S8192x4096_1_0_0_1_n_n none p w))) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 g)) : FVec Ideal S8192x4096 .f32) (ix2 a b) : EReal)
      = Cert.OutIdeal.Words.normedOf (Cert.OutIdeal.Words.hiddenOf (x (ix2 a b)) (fun k => p (ix2 a k)) (fun k => w (ix2 k b)))
          (∑ j : Fin 4096, Cert.OutIdeal.Words.hiddenOf (x (ix2 a j)) (fun k => p (ix2 a k)) (fun k => w (ix2 k j))
            * Cert.OutIdeal.Words.hiddenOf (x (ix2 a j)) (fun k => p (ix2 a k)) (fun k => w (ix2 k j))) (g (ix1 b)) := by
  unfold Cert.OutIdeal.Words.normedOf Cert.OutIdeal.Words.hiddenOf
  rw [← mean_eq]
  pointwise []

/-! ## At machine floats the call is the same text -/

theorem bodies : @Cert.Out.defs₀ Bits _ _ = @Cert.OutIdeal.defs₀ Bits _ _ := by
  unfold Cert.Out.defs₀ Cert.OutIdeal.defs₀
  refine congrArg Defs.onTc ?_
  funext l a
  match l, a with
  | ⟨0, _⟩, (t, s) => rfl
  | ⟨_ + 1, h⟩, _ => exact absurd h (Nat.not_lt.2 (Nat.le_add_left _ _))

theorem tables : @Cert.Out.defs Bits _ _ = @Cert.OutIdeal.defs Bits _ _ := by
  unfold Cert.Out.defs Cert.OutIdeal.defs
  rw [bodies]
  rfl

/-- The call at machine floats runs, leaves its arguments and ends with its semaphores at zero. -/
theorem frame_floats : Cert.quiescent_Out := fun m ρ _ => by
  have h := Cert.RowsLaunch.frame (F := Bits) m ρ
  rw [← tables] at h
  exact h

/-- The call over the reals runs, leaves its arguments and ends with its semaphores at zero. -/
theorem frame : Cert.quiescent_OutIdeal := fun m ρ _ => Cert.RowsLaunch.frame m ρ

/-- The reference runs, leaves its arguments and ends with its semaphores at zero: it has none. -/
theorem frame_reference : Cert.quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run (F := Ideal) m ρ)

/-- The call and its reference end with one result. -/
theorem algebraic : Cert.algebraic_OutIdeal_OutReferenceIdeal := fun m ρ m' ρ' hp ha =>
  ⟨fun c => Cert.OutIdeal.Words.result m c,
    (θ_run Cert.OutIdeal.defs _ _).mono (fun r h c => ⟨Cert.OutIdeal.Words.ends m c r h.1, Cert.RowsLaunch.kept m r h.1 c⟩)
      (Cert.RowsLaunch.run_quiescent (F := Ideal) m ρ),
    (θ_run Cert.OutReferenceIdeal.defs _ _).mono (fun r h c => ⟨(h c).1.trans (by
        obtain ⟨e0, e1, e2, e3⟩ := ha c
        rw [e0, e1, e2, e3]
        funext x
        rw [eq_ix2 x]
        exact ref_at _ _ _ _ _ _), (h c).2⟩)
      (Cert.OutReferenceIdeal.Value.run (F := Ideal) m' ρ')⟩

end Cert.Normed

end
-- ==== Proof.Sigmoid.lean ====
/- What a grid point of the gates call leaves in its output block and in its accumulator: the sigmoid of the tile the point
   before accumulated, and this point's tile. -/
module

public import proofs.«01_k».proof.Defs
public import proofs.«01_k».proof.Proof.Gen.GatesIdeal.Value
public import proofs.«01_k».proof.Proof.Gen.GatesReferenceIdeal.Run
public import Idealize.ShloMosaic.Lib.Pointwise
public import Idealize.ShloMosaic.Lib.KernelVsHost
public import Idealize.ShloMosaic.Lib.Tactic.Stretches

@[expose] public section

set_option maxRecDepth 16384
set_option synthInstance.maxSize 4096
set_option backward.isDefEq.respectTransparency false

noncomputable section

namespace Cert.GatesIdeal.Words

open Idealize.ShloMosaic Idealize.ShloMosaic.TcCoe Idealize.ShloMosaic.Tactic Idealize.SL.Sem Cert.GatesIdeal.Gen Cert.GatesIdeal.Value

section Words
variable {F : FTy → Type} [FloatOps F]

theorem inQ (p : Fin 4) : ∀ a, (![256 * p.val, 0] : Fin 2 → ℕ) a + S256x1024.size a ≤ S1024x1024.size a := by
  revert p; decide

/-- The rows of the output's block that one piece fills. -/
abbrev RQ (p : Fin 4) : Rect S1024x1024 := Rect.unit (s := S1024x1024) ![256 * p.val, 0] S256x1024.size (inQ p)

/-- The pieces' order, the last first. -/
abbrev orderQ : List (Fin 4) := [3, 2, 1, 0]

theorem orderQ_all (p : Fin 4) : p ∈ orderQ := by revert p; decide

theorem RQ_apart (p q : Fin 4) (h : p ≠ q) (x : (RQ p).shape.Idx) : (RQ p).emb x ∉ (RQ q).set := by
  unfold RQ
  rw [Rect.mem_set_unit]
  intro hx
  have h0 := hx 0
  have x0 : (x 0).val < 256 := (x 0).isLt
  have e0 : (((Rect.unit (s := S1024x1024) ![256 * p.val, 0] S256x1024.size (inQ p)).emb x) 0).val = 256 * p.val + 1 * (x 0).val := rfl
  rw [e0] at h0
  change 256 * q.val ≤ _ ∧ _ < 256 * q.val + 256 at h0
  exact h (Fin.ext (by omega))

/-- Of pieces in separate rectangles each is read back where it was written. -/
theorem canon_map_emb {ι : Type} {s : Shape} {e : EltTy} (R : ι → Rect s) (P : ∀ p, (R p).shape.Idx → Elt F e)
    (hd : ∀ p q, p ≠ q → ∀ x, (R p).emb x ∉ (R q).set) (L : List ι) (p : ι) (hp : p ∈ L) (x : (R p).shape.Idx) :
    View.canon (L.map (fun p => (⟨R p, P p⟩ : View.Piece (Elt F) s e))) ((R p).emb x) = P p x := by
  classical
  induction L with
  | nil => simp at hp
  | cons q L ih =>
    rw [List.map_cons]
    by_cases h : p = q
    · subst h; exact View.canon_cons_emb _ _ _ _
    · rw [View.canon_cons_of_not_mem _ _ (hd p q h x)]
      exact ih (by simpa [h] using hp)

/-- What is written for a piece: the sigmoid of the accumulator's rows. -/
def pieceQ (p : Fin 4) (xs : Vec F S1024x1024 .f32) : FVec F S256x1024 .bf16 := k0_pay2 (View.ld xs (RQ p))

set_option maxHeartbeats 1000000 in
theorem piecesA_A (c : Dev nD) (i : grid0.Coords) (arg1 : Memref sig .tc .vmem S1024x4096 .bf16) (harg1 : arg1.IsWhole) (arg2 : Memref sig .tc .vmem S1024x4096 .bf16) (harg2 : arg2.IsWhole) (arg3 : Memref sig .tc .vmem S1024x1024 .bf16) (harg3 : arg3.IsWhole) (arg4 : Memref sig .tc .vmem S1024x1024 .f32) (harg4 : arg4.IsWhole) (hc0 : cond0_0 i) (hc1 : cond0_1 i) (hc2 : ¬cond0_2 i)
    (x0 : Vec F S1024x4096 .bf16) (x1 : Vec F S1024x4096 .bf16) :
    (kernelRun0_A (F := F) c i arg1 harg1 arg2 harg2 arg3 harg3 arg4 harg4 hc0 hc1 hc2 x0 x1).2.1 = [⟨Rect.unit (s := S1024x1024) ![0, 0] S1024x1024.size inb_S1024x1024_S1024x1024_0_0, k0_pay6
      (View.ld (arg1.view.read (Elt F) (harg1.unread x0)) (Rect.unit (s := S1024x4096) ![0, 0] S1024x4096.size inb_S1024x4096_S1024x4096_0_0))
      (View.ld (arg2.view.read (Elt F) (harg2.unread x1)) (Rect.unit (s := S1024x4096) ![0, 0] S1024x4096.size inb_S1024x4096_S1024x4096_0_0))⟩, ⟨Rect.unit (s := S1024x1024) ![0, 0] S1024x1024.size inb_S1024x1024_S1024x1024_0_0, k0_pay1⟩] := by
  unfold kernelRun0_A
  sl_open_run
  sl_open_pay
  sl_kernel_rfl

set_option maxHeartbeats 1000000 in
/-- A point's accumulator: the product of its rows and its weight rows. -/
theorem accv_A (c : Dev nD) (i : grid0.Coords) (arg1 : Memref sig .tc .vmem S1024x4096 .bf16) (harg1 : arg1.IsWhole) (arg2 : Memref sig .tc .vmem S1024x4096 .bf16) (harg2 : arg2.IsWhole) (arg3 : Memref sig .tc .vmem S1024x1024 .bf16) (harg3 : arg3.IsWhole) (arg4 : Memref sig .tc .vmem S1024x1024 .f32) (harg4 : arg4.IsWhole) (hc0 : cond0_0 i) (hc1 : cond0_1 i) (hc2 : ¬cond0_2 i)
    (x0 : Vec F S1024x4096 .bf16) (x1 : Vec F S1024x4096 .bf16) : sout0_A_0 (F := F) c i arg1 harg1 arg2 harg2 arg3 harg3 arg4 harg4 hc0 hc1 hc2 x0 x1 = k0_pay6 x0 x1 := by
  have hz : (![0, 0] : Fin 2 → ℕ) = fun _ => 0 := funext fun a => by fin_cases a <;> rfl
  unfold sout0_A_0
  rw [View.read_writes_eq_canon _ _ _ (scover0_A_0 c i arg1 harg1 arg2 harg2 arg3 harg3 arg4 harg4 hc0 hc1 hc2 x0 x1), piecesA_A]
  rw [View.canon_cons_unit_zero hz]
  simp only [Memref.IsWhole.read_unread]
  rw [View.ld_unit_zero (S := S1024x4096) hz, View.ld_unit_zero (S := S1024x4096) hz]

set_option maxHeartbeats 1000000 in
theorem piecesQ_B (c : Dev nD) (i : grid0.Coords) (arg1 : Memref sig .tc .vmem S1024x4096 .bf16) (harg1 : arg1.IsWhole) (arg2 : Memref sig .tc .vmem S1024x4096 .bf16) (harg2 : arg2.IsWhole) (arg3 : Memref sig .tc .vmem S1024x1024 .bf16) (harg3 : arg3.IsWhole) (arg4 : Memref sig .tc .vmem S1024x1024 .f32) (harg4 : arg4.IsWhole) (hc0 : ¬cond0_0 i) (hc1 : cond0_1 i) (hc2 : ¬cond0_2 i)
    (x0 : Vec F S1024x4096 .bf16) (x1 : Vec F S1024x4096 .bf16) (xs0 : Vec F S1024x1024 .f32) :
    (kernelRun0_B (F := F) c i arg1 harg1 arg2 harg2 arg3 harg3 arg4 harg4 hc0 hc1 hc2 x0 x1 xs0).1 = orderQ.map (fun p => ⟨RQ p, pieceQ p (arg4.view.read (Elt F) (harg4.unread xs0))⟩) := by
  unfold kernelRun0_B
  sl_open_run
  sl_open_pay
  sl_kernel_rfl

set_option maxHeartbeats 1000000 in
/-- A point's output block: the sigmoid of the accumulator it found. -/
theorem outv_B (c : Dev nD) (i : grid0.Coords) (arg1 : Memref sig .tc .vmem S1024x4096 .bf16) (harg1 : arg1.IsWhole) (arg2 : Memref sig .tc .vmem S1024x4096 .bf16) (harg2 : arg2.IsWhole) (arg3 : Memref sig .tc .vmem S1024x1024 .bf16) (harg3 : arg3.IsWhole) (arg4 : Memref sig .tc .vmem S1024x1024 .f32) (harg4 : arg4.IsWhole) (hc0 : ¬cond0_0 i) (hc1 : cond0_1 i) (hc2 : ¬cond0_2 i)
    (x0 : Vec F S1024x4096 .bf16) (x1 : Vec F S1024x4096 .bf16) (xs0 : Vec F S1024x1024 .f32) (p : Fin 4) (x : S256x1024.Idx) :
    out0_B_2 (F := F) c i arg1 harg1 arg2 harg2 arg3 harg3 arg4 harg4 hc0 hc1 hc2 x0 x1 xs0 ((RQ p).emb x) = pieceQ p xs0 x := by
  unfold out0_B_2
  rw [View.read_writes_eq_canon _ _ _ (cover0_B_2 c i arg1 harg1 arg2 harg2 arg3 harg3 arg4 harg4 hc0 hc1 hc2 x0 x1 xs0), piecesQ_B]
  simp only [Memref.IsWhole.read_unread]
  exact canon_map_emb RQ _ RQ_apart orderQ p (orderQ_all p) x

set_option maxHeartbeats 1000000 in
theorem piecesA_B (c : Dev nD) (i : grid0.Coords) (arg1 : Memref sig .tc .vmem S1024x4096 .bf16) (harg1 : arg1.IsWhole) (arg2 : Memref sig .tc .vmem S1024x4096 .bf16) (harg2 : arg2.IsWhole) (arg3 : Memref sig .tc .vmem S1024x1024 .bf16) (harg3 : arg3.IsWhole) (arg4 : Memref sig .tc .vmem S1024x1024 .f32) (harg4 : arg4.IsWhole) (hc0 : ¬cond0_0 i) (hc1 : cond0_1 i) (hc2 : ¬cond0_2 i)
    (x0 : Vec F S1024x4096 .bf16) (x1 : Vec F S1024x4096 .bf16) (xs0 : Vec F S1024x1024 .f32) :
    (kernelRun0_B (F := F) c i arg1 harg1 arg2 harg2 arg3 harg3 arg4 harg4 hc0 hc1 hc2 x0 x1 xs0).2.1 = [⟨Rect.unit (s := S1024x1024) ![0, 0] S1024x1024.size inb_S1024x1024_S1024x1024_0_0, k0_pay6
      (View.ld (arg1.view.read (Elt F) (harg1.unread x0)) (Rect.unit (s := S1024x4096) ![0, 0] S1024x4096.size inb_S1024x4096_S1024x4096_0_0))
      (View.ld (arg2.view.read (Elt F) (harg2.unread x1)) (Rect.unit (s := S1024x4096) ![0, 0] S1024x4096.size inb_S1024x4096_S1024x4096_0_0))⟩] := by
  unfold kernelRun0_B
  sl_open_run
  sl_open_pay
  sl_kernel_rfl

set_option maxHeartbeats 1000000 in
/-- A point's accumulator: the product of its rows and its weight rows. -/
theorem accv_B (c : Dev nD) (i : grid0.Coords) (arg1 : Memref sig .tc .vmem S1024x4096 .bf16) (harg1 : arg1.IsWhole) (arg2 : Memref sig .tc .vmem S1024x4096 .bf16) (harg2 : arg2.IsWhole) (arg3 : Memref sig .tc .vmem S1024x1024 .bf16) (harg3 : arg3.IsWhole) (arg4 : Memref sig .tc .vmem S1024x1024 .f32) (harg4 : arg4.IsWhole) (hc0 : ¬cond0_0 i) (hc1 : cond0_1 i) (hc2 : ¬cond0_2 i)
    (x0 : Vec F S1024x4096 .bf16) (x1 : Vec F S1024x4096 .bf16) (xs0 : Vec F S1024x1024 .f32) : sout0_B_0 (F := F) c i arg1 harg1 arg2 harg2 arg3 harg3 arg4 harg4 hc0 hc1 hc2 x0 x1 xs0 = k0_pay6 x0 x1 := by
  have hz : (![0, 0] : Fin 2 → ℕ) = fun _ => 0 := funext fun a => by fin_cases a <;> rfl
  unfold sout0_B_0
  rw [View.read_writes_eq_canon _ _ _ (scover0_B_0 c i arg1 harg1 arg2 harg2 arg3 harg3 arg4 harg4 hc0 hc1 hc2 x0 x1 xs0), piecesA_B]
  rw [View.canon_cons_unit_zero hz]
  simp only [Memref.IsWhole.read_unread]
  rw [View.ld_unit_zero (S := S1024x4096) hz, View.ld_unit_zero (S := S1024x4096) hz]

set_option maxHeartbeats 1000000 in
theorem piecesQ_C (c : Dev nD) (i : grid0.Coords) (arg1 : Memref sig .tc .vmem S1024x4096 .bf16) (harg1 : arg1.IsWhole) (arg2 : Memref sig .tc .vmem S1024x4096 .bf16) (harg2 : arg2.IsWhole) (arg3 : Memref sig .tc .vmem S1024x1024 .bf16) (harg3 : arg3.IsWhole) (arg4 : Memref sig .tc .vmem S1024x1024 .f32) (harg4 : arg4.IsWhole) (hc0 : ¬cond0_0 i) (hc1 : ¬cond0_1 i) (hc2 : cond0_2 i)
    (x0 : Vec F S1024x4096 .bf16) (x1 : Vec F S1024x4096 .bf16) (xs0 : Vec F S1024x1024 .f32) :
    (kernelRun0_C (F := F) c i arg1 harg1 arg2 harg2 arg3 harg3 arg4 harg4 hc0 hc1 hc2 x0 x1 xs0).1 = orderQ.map (fun p => ⟨RQ p, pieceQ p (arg4.view.read (Elt F) (harg4.unread xs0))⟩) := by
  unfold kernelRun0_C
  sl_open_run
  sl_open_pay
  sl_kernel_rfl

set_option maxHeartbeats 1000000 in
/-- A point's output block: the sigmoid of the accumulator it found. -/
theorem outv_C (c : Dev nD) (i : grid0.Coords) (arg1 : Memref sig .tc .vmem S1024x4096 .bf16) (harg1 : arg1.IsWhole) (arg2 : Memref sig .tc .vmem S1024x4096 .bf16) (harg2 : arg2.IsWhole) (arg3 : Memref sig .tc .vmem S1024x1024 .bf16) (harg3 : arg3.IsWhole) (arg4 : Memref sig .tc .vmem S1024x1024 .f32) (harg4 : arg4.IsWhole) (hc0 : ¬cond0_0 i) (hc1 : ¬cond0_1 i) (hc2 : cond0_2 i)
    (x0 : Vec F S1024x4096 .bf16) (x1 : Vec F S1024x4096 .bf16) (xs0 : Vec F S1024x1024 .f32) (p : Fin 4) (x : S256x1024.Idx) :
    out0_C_2 (F := F) c i arg1 harg1 arg2 harg2 arg3 harg3 arg4 harg4 hc0 hc1 hc2 x0 x1 xs0 ((RQ p).emb x) = pieceQ p xs0 x := by
  unfold out0_C_2
  rw [View.read_writes_eq_canon _ _ _ (cover0_C_2 c i arg1 harg1 arg2 harg2 arg3 harg3 arg4 harg4 hc0 hc1 hc2 x0 x1 xs0), piecesQ_C]
  simp only [Memref.IsWhole.read_unread]
  exact canon_map_emb RQ _ RQ_apart orderQ p (orderQ_all p) x

end Words

end Cert.GatesIdeal.Words

end
-- ==== Proof.Sigmoids.lean ====
/- The gates call as a whole, beside its reference: the sigmoid of every gate's product. -/
module

public import proofs.«01_k».proof.Defs
public import proofs.«01_k».proof.Proof.Sigmoid
public import proofs.«01_k».proof.Proof.Gen.GatesReferenceIdeal.Run
public import Idealize.ShloMosaic.Lib.Pointwise
public import Idealize.ShloMosaic.Lib.KernelVsHost
public import Idealize.ShloMosaic.Lib.Tactic.Stretches

@[expose] public section

set_option maxRecDepth 16384
set_option synthInstance.maxSize 4096
set_option backward.isDefEq.respectTransparency false

noncomputable section

namespace Cert.GatesIdeal.Words

open Idealize.ShloMosaic Idealize.ShloMosaic.TcCoe Idealize.ShloMosaic.Tactic Idealize.SL.Sem Cert.GatesIdeal.Gen Cert.GatesIdeal.Value

section Points
variable {F : FTy → Type} [FloatOps F]
variable (m : (ℓ : Loc nD τ sig) → Buf (Elt F) ℓ)

set_option maxHeartbeats 1000000 in
/-- The accumulator after a point before the last. -/
theorem acc_at (c : Dev nD) (t : Fin cfg0.N) (h1 : t.val < 64) : (outsAt0 m c t.val t.isLt).2 = k0_pay6 (iblk m c 0 t) (iblk m c 1 t) := by
  have h2 : ¬t.val % 65 = 64 := by omega
  by_cases h0 : t.val % 65 = 0
  · rw [outsAt0_A m c t h0 h1 h2]
    have e := accv_A (F := F) c (grid0.coords t) (ms0_0 t) (hs0_0 t) (ms0_1 t) (hs0_1 t) (ms0_2 t) (hs0_2 t) scM0_0 (Memref.isWhole_whole _) ((hcond0_0 t).mpr h0) ((hcond0_1 t).mpr h1) (fun h => h2 ((hcond0_2 t).mp h)) (iblk m c 0 t) (iblk m c 1 t)
    dsimp only
    exact e
  · rw [outsAt0_B m c t h0 h1 h2]
    have e := accv_B (F := F) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk m c 0 t) (iblk m c 1 t) (outsAt0 m c (t.val - 1) (Nat.lt_of_le_of_lt (Nat.sub_le _ _) t.isLt)).2
    dsimp only
    exact e

theorem before (c : Dev nD) (t t' : Fin cfg0.N) (ht : t.val = t'.val + 1) (h : t.val - 1 < cfg0.N) : (outsAt0 m c (t.val - 1) h) = outsAt0 m c t'.val t'.isLt := by
  congr 1
  omega

set_option maxHeartbeats 1000000 in
/-- The output block after a point behind the first: the sigmoid of the tile of the point before. -/
theorem out_at (c : Dev nD) (t t' : Fin cfg0.N) (ht : t.val = t'.val + 1) (p : Fin 4) (x : S256x1024.Idx) :
    (outsAt0 m c t.val t.isLt).1 ((RQ p).emb x) = pieceQ p (k0_pay6 (iblk m c 0 t') (iblk m c 1 t')) x := by
  have hN : t.val < 65 := lt_of_lt_of_eq t.isLt N_0
  have h0 : ¬t.val % 65 = 0 := by omega
  rw [← acc_at m c t' (by omega), ← before m c t t' ht (Nat.lt_of_le_of_lt (Nat.sub_le _ _) t.isLt)]
  by_cases h1 : t.val < 64
  · have h2 : ¬t.val % 65 = 64 := by omega
    have e := congrArg (fun o => o.1 ((RQ p).emb x)) (outsAt0_B m c t h0 h1 h2)
    have e' := outv_B (F := F) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk m c 0 t) (iblk m c 1 t) (outsAt0 m c (t.val - 1) (Nat.lt_of_le_of_lt (Nat.sub_le _ _) t.isLt)).2 p x
    dsimp only at e
    exact e.trans e'
  · have h2 : t.val % 65 = 64 := by omega
    have e := congrArg (fun o => o.1 ((RQ p).emb x)) (outsAt0_C m c t h0 h1 h2)
    have e' := outv_C (F := F) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) ((hcond0_2 t).mpr h2) (iblk m c 0 t) (iblk m c 1 t) (outsAt0 m c (t.val - 1) (Nat.lt_of_le_of_lt (Nat.sub_le _ _) t.isLt)).2 p x
    dsimp only at e
    exact e.trans e'

theorem at0 : ∀ t : Fin grid0.N, t.val < 64 → win0_0.index t 0 = t.val % 8 ∧ win0_0.index t 1 = 0 := by decide +kernel
theorem at1 : ∀ t : Fin grid0.N, t.val < 64 → win0_1.index t 0 = t.val / 8 ∧ win0_1.index t 1 = 0 := by decide +kernel
theorem at2 : ∀ t : Fin grid0.N, win0_2.index t 0 = (t.val - 1) % 8 ∧ win0_2.index t 1 = (t.val - 1) / 8 := by decide +kernel
theorem flush2 : ∀ t : Fin grid0.N, (cfg0.win 2).flush t = true ↔ 0 < t.val := by decide +kernel

theorem iblk0_at (c : Dev nD) (t : Fin cfg0.N) (h : t.val < 64) (i : Fin 1024) (j : Fin 4096) (a : Fin 8192)
    (ha : a.val = 1024 * (t.val % 8) + i.val) :
    (iblk m c 0 t : Vec F S1024x4096 .bf16) (ix2 i j) = m ((c : Thread nD τ).loc main_arg0) (ix2 a j) := by
  unfold iblk
  rw [View.read_apply]
  show V m c main_arg0 _ = _
  rw [V_main_arg0]
  congr 1
  funext x
  apply Fin.ext
  match x with
  | ⟨0, _⟩ => show win0_0.index t 0 * 1024 + 1 * i.val = a.val; rw [(at0 t h).1]; omega
  | ⟨1, _⟩ => show win0_0.index t 1 * 4096 + 1 * j.val = j.val; rw [(at0 t h).2]; omega

theorem iblk1_at (c : Dev nD) (t : Fin cfg0.N) (h : t.val < 64) (i : Fin 1024) (j : Fin 4096) (a : Fin 8192)
    (ha : a.val = 1024 * (t.val / 8) + i.val) :
    (iblk m c 1 t : Vec F S1024x4096 .bf16) (ix2 i j) = m ((c : Thread nD τ).loc main_arg1) (ix2 a j) := by
  unfold iblk
  rw [View.read_apply]
  show V m c main_arg1 _ = _
  rw [V_main_arg1]
  congr 1
  funext x
  apply Fin.ext
  match x with
  | ⟨0, _⟩ => show win0_1.index t 0 * 1024 + 1 * i.val = a.val; rw [(at1 t h).1]; omega
  | ⟨1, _⟩ => show win0_1.index t 1 * 4096 + 1 * j.val = j.val; rw [(at1 t h).2]; omega

theorem emb2_at (t : Fin cfg0.N) (i j : Fin 1024) (a : Fin 8192) (b : Fin 8192)
    (ha : a.val = 1024 * ((t.val - 1) % 8) + i.val) (hb : b.val = 1024 * ((t.val - 1) / 8) + j.val) :
    ((cfg0.win 2).blk t).view.emb (ix2 i j) = ix2 a b := by
  funext x
  apply Fin.ext
  match x with
  | ⟨0, _⟩ => show win0_2.index t 0 * 1024 + 1 * i.val = a.val; rw [(at2 t).1]; omega
  | ⟨1, _⟩ => show win0_2.index t 1 * 1024 + 1 * j.val = b.val; rw [(at2 t).2]; omega

/-- Two points that write back write separate blocks. -/
theorem disjoint2 : ∀ t t' : Fin cfg0.N, (cfg0.win 2).flush t = true → (cfg0.win 2).flush t' = true → t ≠ t' →
    Disjoint ((cfg0.win 2).blk t).view.set ((cfg0.win 2).blk t').view.set := by
  intro t t' hf hf' hne
  refine (cfg0.win 2).disjoint_blk fun h => hne (Fin.ext ?_)
  have p := (flush2 t).mp hf
  have p' := (flush2 t').mp hf'
  have e0 : win0_2.index t 0 = win0_2.index t' 0 := congrFun h 0
  have e1 : win0_2.index t 1 = win0_2.index t' 1 := congrFun h 1
  rw [(at2 t).1, (at2 t').1] at e0
  rw [(at2 t).2, (at2 t').2] at e1
  omega

end Points

/-- The sigmoid of a tile, at an index. -/
theorem pay2_at (X : FVec Ideal S256x1024 .f32) (i : Fin 256) (j : Fin 1024) :
    (k0_pay2 (F := Ideal) X (ix2 i j) : EReal) = Ideal.logistic (X (ix2 i j)) := by
  unfold k0_pay2
  pointwise []

/-- The product of a tile, at an index. -/
theorem pay6_at (x w : FVec Ideal S1024x4096 .bf16) (i j : Fin 1024) :
    (k0_pay6 (F := Ideal) x w (ix2 i j) : EReal) = ∑ a : Fin 4096, x (ix2 i a) * w (ix2 j a) := by
  unfold k0_pay6
  pointwise []

/-- One gate: the sigmoid of the product of a row and a weight row. -/
def gateAt (x w : Fin 4096 → EReal) : EReal := Ideal.logistic (∑ a, x a * w a)

variable (m : (ℓ : Loc nD τ sig) → Buf (Elt Ideal) ℓ)

/-- The gates, at a row and a column. -/
theorem result_at (c : Dev nD) (a b : Fin 8192) :
    ((dats m 0 c).arrAt 2 cfg0.N (ix2 a b) : EReal)
      = gateAt (fun x => (m ((c : Thread nD τ).loc main_arg0) : Vec Ideal S8192x4096 .bf16) (ix2 a x)) (fun x => (m ((c : Thread nD τ).loc main_arg1) : Vec Ideal S8192x4096 .bf16) (ix2 b x)) := by
  obtain ⟨t', ht'⟩ : ∃ t' : Fin cfg0.N, t'.val = 8 * (b.val / 1024) + a.val / 1024 := ⟨⟨_, by rw [show cfg0.N = 65 from N_0]; omega⟩, rfl⟩
  obtain ⟨t, ht⟩ : ∃ t : Fin cfg0.N, t.val = t'.val + 1 := ⟨⟨t'.val + 1, lt_of_lt_of_eq (by omega : t'.val + 1 < 65) N_0.symm⟩, rfl⟩
  obtain ⟨i, hi⟩ : ∃ i : Fin 1024, i.val = a.val % 1024 := ⟨⟨_, by omega⟩, rfl⟩
  obtain ⟨j, hj⟩ : ∃ j : Fin 1024, j.val = b.val % 1024 := ⟨⟨_, by omega⟩, rfl⟩
  obtain ⟨p, hp⟩ : ∃ p : Fin 4, p.val = i.val / 256 := ⟨⟨_, by omega⟩, rfl⟩
  obtain ⟨r, hr⟩ : ∃ r : Fin 256, r.val = i.val % 256 := ⟨⟨_, by omega⟩, rfl⟩
  have hf : (cfg0.win 2).flush t = true := (flush2 t).mpr (by omega)
  have e := congrFun ((dats m 0 c).read_blk_arrAt_eq_flushed 2 disjoint2 cfg0.N t t.isLt hf) (ix2 i j)
  rw [View.read_apply, emb2_at t i j a b (by omega) (by omega), flushed2] at e
  refine e.trans ?_
  show (outsAt0 m c t.val t.isLt).1 (ix2 i j) = _
  have hij : (ix2 i j : S1024x1024.Idx) = (RQ p).emb (ix2 r j) := by
    funext x
    apply Fin.ext
    match x with
    | ⟨0, _⟩ => show i.val = 256 * p.val + 1 * r.val; omega
    | ⟨1, _⟩ => show j.val = 0 + 1 * j.val; omega
  rw [hij, out_at m c t t' ht p (ix2 r j)]
  refine (pay2_at _ r j).trans ?_
  show Ideal.logistic (k0_pay6 (iblk m c 0 t') (iblk m c 1 t') ((RQ p).emb (ix2 r j))) = _
  rw [← hij, pay6_at]
  have e0 : ∀ x : Fin 4096, _ := fun x => iblk0_at m c t' (by omega) i x a (by omega)
  have e1 : ∀ x : Fin 4096, _ := fun x => iblk1_at m c t' (by omega) j x b (by omega)
  simp only [e0, e1]
  rfl

end Cert.GatesIdeal.Words

namespace Cert.Sigmoids

open Idealize.ShloMosaic Idealize.ShloMosaic.TcCoe Idealize.SL.Sem

attribute [local instance] Cert.GatesIdeal.Gen.facts Cert.GatesReferenceIdeal.Gen.facts

open Cert.GatesReferenceIdeal Cert.GatesReferenceIdeal.Gen in
/-- The reference's term, at a row and a column. -/
theorem ref_at (x w : FVec Ideal S8192x4096 .bf16) (a b : Fin 8192) :
    ((truncf .bf16 (Host.divf (broadcastInDim S8192x8192 ![] bcast_S_S8192x8192 (constant S_ .f32 0x3F800000#32)) (addf (broadcastInDim S8192x8192 ![] bcast_S_S8192x8192 (constant S_ .f32 0x3F800000#32)) (Host.exp (Host.negf (Host.dotGeneral dot_S8192x4096_S8192x4096_S8192x8192_1_1_0_0_n_n none x w))))) bitsLt_bf16_f32 : FVec Ideal S8192x8192 .bf16) (ix2 a b) : EReal)
      = Ideal.logistic (∑ k : Fin 4096, x (ix2 a k) * w (ix2 b k)) := by
  pointwise []
  rfl

/-- The call runs, leaves its arguments and ends with its semaphores at zero. -/
theorem frame : Cert.quiescent_GatesIdeal := fun m ρ _ => Cert.GatesIdeal.Gen.frame m ρ

/-- The reference runs, leaves its arguments and ends with its semaphores at zero: it has none. -/
theorem frame_reference : Cert.quiescent_GatesReferenceIdeal := fun m ρ _ =>
  (θ_run Cert.GatesReferenceIdeal.defs _ _).mono (fun r h => ⟨fun c => (h c).2, sem_eq_zero_of_no_sems (by decide) r.2⟩)
    (Cert.GatesReferenceIdeal.Value.run (F := Ideal) m ρ)

/-- The call and its reference end with one result. -/
theorem algebraic : Cert.algebraic_GatesIdeal_GatesReferenceIdeal := fun m ρ m' ρ' hp ha =>
  ⟨fun c => (Cert.GatesIdeal.Gen.dats m 0 c).arrAt 2 Cert.GatesIdeal.cfg0.N, Cert.GatesIdeal.Value.run_blocks (F := Ideal) m ρ,
    (θ_run Cert.GatesReferenceIdeal.defs _ _).mono (fun r h c => ⟨(h c).1.trans (by
        obtain ⟨e0, e1⟩ := ha c
        rw [e0, e1]
        funext x
        rw [eq_ix2 x]
        exact (ref_at _ _ _ _).trans (Cert.GatesIdeal.Words.result_at m c _ _).symm), (h c).2⟩)
      (Cert.GatesReferenceIdeal.Value.run (F := Ideal) m' ρ')⟩

end Cert.Sigmoids

end
-- ==== Proof.PoolULaunch.lean ====
/- The `proj_pool_u` call over the reals: what the body does at each grid point, what each point leaves in the output
   block, in the cast weights' blocks and in the accumulator, and what every final state holds. -/
module

public import proofs.«01_k».proof.Proof.Gen.PoolUIdeal.Frame
public import proofs.«01_k».proof.Proof.Gen.PoolUIdeal.Skeleton
public import Idealize.ShloMosaic.Lib.Tactic.Stretches
public import Idealize.ShloMosaic.Lib.VecWindow
public import Idealize.ShloMosaic.Lib.Pipeline.Value
public import Idealize.ShloMosaic.Lib.Pipeline.ArrRel

@[expose] public section

set_option maxRecDepth 16384

noncomputable section

namespace Cert.PoolULaunch

open Cert.PoolUIdeal Cert.PoolUIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## The tests of the body -/

/-- The test of the first point. -/
abbrev first (i : grid0.Coords) : Prop := (Scalar.cmpi .ne (Scalar.extui (Scalar.cmpi .eq (BitVec.ofNat 32 (i 0).val) 0#32)) 0#32) = 1#1

theorem first_iff : ∀ t : Fin cfg0.N, first (grid0.coords t) ↔ t.val = 0 :=
  (by decide +kernel : ∀ t : Fin grid0.N, first (grid0.coords t) ↔ t.val = 0)
theorem inner_iff : ∀ t : Fin cfg0.N, k0_cond2 (grid0.coords t) = 1#1 ↔ t.val < 32 :=
  (by decide +kernel : ∀ t : Fin grid0.N, k0_cond2 (grid0.coords t) = 1#1 ↔ t.val < 32)
theorem last_iff : ∀ t : Fin cfg0.N, k0_cond3 (grid0.coords t) = 1#1 ↔ t.val = 32 :=
  (by decide +kernel : ∀ t : Fin grid0.N, k0_cond3 (grid0.coords t) = 1#1 ↔ t.val = 32)

/-! ## Short names -/

/-- The test of the first point, of a later one, of the last one. -/
abbrev AtA (i : grid0.Coords) : Prop := first i ∧ k0_cond2 i = 1#1 ∧ ¬k0_cond3 i = 1#1
abbrev AtB (i : grid0.Coords) : Prop := ¬first i ∧ k0_cond2 i = 1#1 ∧ ¬k0_cond3 i = 1#1
abbrev AtC (i : grid0.Coords) : Prop := ¬first i ∧ ¬k0_cond2 i = 1#1 ∧ k0_cond3 i = 1#1

/-- A block holds `x`. -/
abbrev own {S : Shape} {e : EltTy} (c : Dev nD) (r : Memref sig .tc .vmem S e) (x : Vec F S e) : sProp 𝕄 := owns (c : Thread nD τ) r fullShare x

/-- A block holds something with the pieces `L` written over it. -/
abbrev wrote {S : Shape} {e : EltTy} (c : Dev nD) (r : Memref sig .tc .vmem S e) (L : List (View.Piece (Elt F) S e)) : sProp 𝕄 :=
  iprop(∃ f, r.view.loc (c : Thread nD τ) ↦[r.view.set]{fullShare} r.view.writes (Elt F) f L)

/-- A block that held `y` has the pieces `L` written over it. -/
abbrev over {S : Shape} {e : EltTy} (c : Dev nD) {r : Memref sig .tc .vmem S e} (h : r.IsWhole) (y : Vec F S e) (L : List (View.Piece (Elt F) S e)) : sProp 𝕄 :=
  iprop(r.view.loc (c : Thread nD τ) ↦[r.view.set]{fullShare} r.view.writes (Elt F) (h.unread y) L)

section body

variable (c : Dev nD) (i : grid0.Coords) {arg1 : Memref sig .tc .vmem S1024x4096 .bf16} (harg1 : arg1.IsWhole) {arg2 : Memref sig .tc .vmem S1024x4096 .bf16} (harg2 : arg2.IsWhole) {arg3 : Memref sig .tc .vmem S128x4096 .f32} (harg3 : arg3.IsWhole) {arg4 : Memref sig .tc .vmem S128x4096 .f32} (harg4 : arg4.IsWhole) {arg5 : Memref sig .tc .vmem S1024x1024 .bf16} (harg5 : arg5.IsWhole) {arg6 : Memref sig .tc .vmem S128x4096 .bf16} (harg6 : arg6.IsWhole) {arg7 : Memref sig .tc .vmem S128x4096 .bf16} (harg7 : arg7.IsWhole) {arg8 : Memref sig .tc .vmem S1024x1024 .f32} (harg8 : arg8.IsWhole)
    (x0 : Vec F S1024x4096 .bf16) (x1 : Vec F S1024x4096 .bf16) (x2 : Vec F S128x4096 .f32) (x3 : Vec F S128x4096 .f32) (y : Vec F S1024x1024 .bf16) (s : Vec F S1024x1024 .f32)

set_option maxHeartbeats 2000000 in
/-- The first point: the body starts the accumulator, writes a block that is never written back, and makes the first tile and the first rows of the cast weights. -/
noncomputable def runA (hc : AtA i) :
    Σ' (L0 : List (View.Piece (Elt F) S128x4096 .bf16)), Σ' (L1 : List (View.Piece (Elt F) S128x4096 .bf16)), { LS : List (View.Piece (Elt F) S1024x1024 .f32) //
      ∀ (E : Set ℕ) (K : PUnit → sProp 𝕄),
        iprop(own c arg1 x0 ∗ own c arg2 x1 ∗ own c arg3 x2 ∗ own c arg4 x3 ∗ (∃ d, own c arg5 d) ∗ (∃ d, own c arg6 d) ∗ (∃ d, own c arg7 d) ∗ (∃ d, own c arg8 d) ∗ (iprop(own c arg1 x0 ∗ own c arg2 x1 ∗ own c arg3 x2 ∗ own c arg4 x3 ∗ (∃ d, own c arg5 d) ∗ wrote c arg6 L0 ∗ wrote c arg7 L1 ∗ wrote c arg8 LS) -∗ K ⟨⟩))
          ⊢ wp frame (wpE (defs₀ (F := F)) Variants.none c none) E (cc0_proj_pool_u i arg1 harg1 arg2 harg2 arg3 harg3 arg4 harg4 arg5 harg5 arg6 harg6 arg7 harg7 arg8 harg8) K } := by
  refine ⟨?_, ?_, ?_, fun E K => ?run⟩
  case run =>
    simp only [cc0_proj_pool_u_eq_skeleton]; unfold cc0_proj_pool_u_skel
    simp only [k0_part1_eq_skeleton]; unfold k0_part1_skel
    unfold own owns
    iintro ⟨⟨%f0, %hf0, H0⟩, ⟨%f1, %hf1, H1⟩, ⟨%f2, %hf2, H2⟩, ⟨%f3, %hf3, H3⟩, ⟨%yo, %fo, -, HO⟩, ⟨%yd0, %fd0, -, HD0⟩, ⟨%yd1, %fd1, -, HD1⟩, ⟨%ys, %fs, -, HS⟩, Hk⟩
    obtain rfl := harg1.eq_unread hf0
    obtain rfl := harg2.eq_unread hf1
    obtain rfl := harg3.eq_unread hf2
    obtain rfl := harg4.eq_unread hf3
    sl_exec (disch := first | sl_exact hc.1 | sl_exact hc.2.1 | sl_exact hc.2.2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO]
    · iexists _; iexists _; isplitr
      swap; · iexact HO
      ipureintro; rfl
    isplitl [HD0]; · iexists _; iexact HD0
    isplitl [HD1]; · iexists _; iexact HD1
    iexists _; iexact HS

set_option maxHeartbeats 2000000 in
/-- A later point before the last: the body writes the tile of the point before, then makes its own. -/
noncomputable def runB (hc : AtB i) :
    Σ' (L : List (View.Piece (Elt F) S1024x1024 .bf16)), Σ' (L0 : List (View.Piece (Elt F) S128x4096 .bf16)), Σ' (L1 : List (View.Piece (Elt F) S128x4096 .bf16)), { LS : List (View.Piece (Elt F) S1024x1024 .f32) //
      ∀ (E : Set ℕ) (K : PUnit → sProp 𝕄),
        iprop(own c arg1 x0 ∗ own c arg2 x1 ∗ own c arg3 x2 ∗ own c arg4 x3 ∗ own c arg5 y ∗ (∃ d, own c arg6 d) ∗ (∃ d, own c arg7 d) ∗ own c arg8 s ∗ (iprop(own c arg1 x0 ∗ own c arg2 x1 ∗ own c arg3 x2 ∗ own c arg4 x3 ∗ over c harg5 y L ∗ wrote c arg6 L0 ∗ wrote c arg7 L1 ∗ wrote c arg8 LS) -∗ K ⟨⟩))
          ⊢ wp frame (wpE (defs₀ (F := F)) Variants.none c none) E (cc0_proj_pool_u i arg1 harg1 arg2 harg2 arg3 harg3 arg4 harg4 arg5 harg5 arg6 harg6 arg7 harg7 arg8 harg8) K } := by
  refine ⟨?_, ?_, ?_, ?_, fun E K => ?run⟩
  case run =>
    simp only [cc0_proj_pool_u_eq_skeleton]; unfold cc0_proj_pool_u_skel
    simp only [k0_part1_eq_skeleton]; unfold k0_part1_skel
    unfold own owns
    iintro ⟨⟨%f0, %hf0, H0⟩, ⟨%f1, %hf1, H1⟩, ⟨%f2, %hf2, H2⟩, ⟨%f3, %hf3, H3⟩, ⟨%fo, %hfo, HO⟩, ⟨%yd0, %fd0, -, HD0⟩, ⟨%yd1, %fd1, -, HD1⟩, ⟨%fs, %hfs, HS⟩, Hk⟩
    obtain rfl := harg1.eq_unread hf0
    obtain rfl := harg2.eq_unread hf1
    obtain rfl := harg3.eq_unread hf2
    obtain rfl := harg4.eq_unread hf3
    obtain rfl := harg5.eq_unread hfo
    obtain rfl := harg8.eq_unread hfs
    sl_exec (disch := first | sl_exact hc.1 | sl_exact hc.2.1 | sl_exact hc.2.2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO]; · iexact HO
    isplitl [HD0]; · iexists _; iexact HD0
    isplitl [HD1]; · iexists _; iexact HD1
    iexists _; iexact HS

set_option maxHeartbeats 2000000 in
/-- The last point: the body writes the last tile. -/
noncomputable def runC (hc : AtC i) :
    { L : List (View.Piece (Elt F) S1024x1024 .bf16) //
      ∀ (E : Set ℕ) (K : PUnit → sProp 𝕄),
        iprop(own c arg5 y ∗ own c arg8 s ∗ (iprop(over c harg5 y L ∗ own c arg8 s) -∗ K ⟨⟩))
          ⊢ wp frame (wpE (defs₀ (F := F)) Variants.none c none) E (cc0_proj_pool_u i arg1 harg1 arg2 harg2 arg3 harg3 arg4 harg4 arg5 harg5 arg6 harg6 arg7 harg7 arg8 harg8) K } := by
  refine ⟨?_, fun E K => ?run⟩
  case run =>
    simp only [cc0_proj_pool_u_eq_skeleton]; unfold cc0_proj_pool_u_skel
    simp only [k0_part1_eq_skeleton]; unfold k0_part1_skel
    unfold own owns
    iintro ⟨⟨%fo, %hfo, HO⟩, ⟨%fs, %hfs, HS⟩, Hk⟩
    obtain rfl := harg5.eq_unread hfo
    obtain rfl := harg8.eq_unread hfs
    sl_exec (disch := first | sl_exact hc.1 | sl_exact hc.2.1 | sl_exact hc.2.2)
    sl_step
    iapply Hk
    isplitl [HO]; · iexact HO
    iexists _; isplitr; · ipureintro; exact harg8.read_unread _
    iexact HS

/-! ## What a point leaves -/

/-- An output block, from the accumulator: four bands of rows, one after the other. -/
def tile (s : Vec F S1024x1024 .f32) (y : Vec F S1024x1024 .bf16) : Vec F S1024x1024 .bf16 :=
  (VecWindow.put (VecWindow.put (VecWindow.put (VecWindow.put y ![0, 0] S256x1024.size (k0_pay2 (View.ld s (Rect.unit (s := S1024x1024) ![0, 0] S256x1024.size inb_S1024x1024_S256x1024_0_0)))) ![256, 0] S256x1024.size (k0_pay3 (View.ld s (Rect.unit (s := S1024x1024) ![256, 0] S256x1024.size inb_S1024x1024_S256x1024_256_0)))) ![512, 0] S256x1024.size (k0_pay4 (View.ld s (Rect.unit (s := S1024x1024) ![512, 0] S256x1024.size inb_S1024x1024_S256x1024_512_0)))) ![768, 0] S256x1024.size (k0_pay5 (View.ld s (Rect.unit (s := S1024x1024) ![768, 0] S256x1024.size inb_S1024x1024_S256x1024_768_0))))

theorem pieces_acc_A (hc : AtA i) :
    (runA (F := F) c i harg1 harg2 harg3 harg4 harg5 harg6 harg7 harg8 x0 x1 x2 x3 hc).2.2.1 = [⟨(Rect.unit (s := S1024x1024) ![0, 0] S1024x1024.size inb_S1024x1024_S1024x1024_0_0), k0_pay10 (View.ld (arg1.view.read (Elt F) (harg1.unread x0)) (Rect.unit (s := S1024x4096) ![0, 0] S1024x4096.size inb_S1024x4096_S1024x4096_0_0)) (View.ld (arg2.view.read (Elt F) (harg2.unread x1)) (Rect.unit (s := S1024x4096) ![0, 0] S1024x4096.size inb_S1024x4096_S1024x4096_0_0))⟩, ⟨(Rect.unit (s := S1024x1024) ![0, 0] S1024x1024.size inb_S1024x1024_S1024x1024_0_0), k0_pay1⟩] := by
  unfold runA
  sl_open_run
  sl_open_pay
  sl_kernel_rfl

/-- The accumulator afterwards: the product of the point's rows and weight rows. -/
theorem acc_A (hc : AtA i) (f : arg8.view.ty.Contents (Elt F)) :
    arg8.view.read (Elt F) (arg8.view.writes (Elt F) f (runA (F := F) c i harg1 harg2 harg3 harg4 harg5 harg6 harg7 harg8 x0 x1 x2 x3 hc).2.2.1) = k0_pay10 x0 x1 := by
  have hz : (![0, 0] : Fin 2 → ℕ) = fun _ => 0 := funext fun a => by fin_cases a <;> rfl
  rw [pieces_acc_A, View.read_writes_full]
  simp only [Memref.IsWhole.read_unread]
  rw [View.ld_unit_zero (S := S1024x4096) hz, View.ld_unit_zero (S := S1024x4096) hz]

theorem pieces_cast0_A (hc : AtA i) :
    (runA (F := F) c i harg1 harg2 harg3 harg4 harg5 harg6 harg7 harg8 x0 x1 x2 x3 hc).1 = [⟨(Rect.unit (s := S128x4096) ![0, 0] S128x4096.size inb_S128x4096_S128x4096_0_0), k0_pay11 (View.ld (arg3.view.read (Elt F) (harg3.unread x2)) (Rect.unit (s := S128x4096) ![0, 0] S128x4096.size inb_S128x4096_S128x4096_0_0))⟩] := by
  unfold runA
  sl_open_run
  sl_open_pay
  sl_kernel_rfl

/-- The cast weight's block afterwards: the weight's rows, cast. -/
theorem cast0_A (hc : AtA i) (f : arg6.view.ty.Contents (Elt F)) :
    arg6.view.read (Elt F) (arg6.view.writes (Elt F) f (runA (F := F) c i harg1 harg2 harg3 harg4 harg5 harg6 harg7 harg8 x0 x1 x2 x3 hc).1) = k0_pay11 x2 := by
  have hz : (![0, 0] : Fin 2 → ℕ) = fun _ => 0 := funext fun a => by fin_cases a <;> rfl
  rw [pieces_cast0_A, View.read_writes_full]
  simp only [Memref.IsWhole.read_unread]
  rw [View.ld_unit_zero (S := S128x4096) hz]

theorem pieces_cast1_A (hc : AtA i) :
    (runA (F := F) c i harg1 harg2 harg3 harg4 harg5 harg6 harg7 harg8 x0 x1 x2 x3 hc).2.1 = [⟨(Rect.unit (s := S128x4096) ![0, 0] S128x4096.size inb_S128x4096_S128x4096_0_0), k0_pay12 (View.ld (arg4.view.read (Elt F) (harg4.unread x3)) (Rect.unit (s := S128x4096) ![0, 0] S128x4096.size inb_S128x4096_S128x4096_0_0))⟩] := by
  unfold runA
  sl_open_run
  sl_open_pay
  sl_kernel_rfl

/-- The cast weight's block afterwards: the weight's rows, cast. -/
theorem cast1_A (hc : AtA i) (f : arg7.view.ty.Contents (Elt F)) :
    arg7.view.read (Elt F) (arg7.view.writes (Elt F) f (runA (F := F) c i harg1 harg2 harg3 harg4 harg5 harg6 harg7 harg8 x0 x1 x2 x3 hc).2.1) = k0_pay12 x3 := by
  have hz : (![0, 0] : Fin 2 → ℕ) = fun _ => 0 := funext fun a => by fin_cases a <;> rfl
  rw [pieces_cast1_A, View.read_writes_full]
  simp only [Memref.IsWhole.read_unread]
  rw [View.ld_unit_zero (S := S128x4096) hz]

theorem pieces_acc_B (hc : AtB i) :
    (runB (F := F) c i harg1 harg2 harg3 harg4 harg5 harg6 harg7 harg8 x0 x1 x2 x3 y s hc).2.2.2.1 = [⟨(Rect.unit (s := S1024x1024) ![0, 0] S1024x1024.size inb_S1024x1024_S1024x1024_0_0), k0_pay10 (View.ld (arg1.view.read (Elt F) (harg1.unread x0)) (Rect.unit (s := S1024x4096) ![0, 0] S1024x4096.size inb_S1024x4096_S1024x4096_0_0)) (View.ld (arg2.view.read (Elt F) (harg2.unread x1)) (Rect.unit (s := S1024x4096) ![0, 0] S1024x4096.size inb_S1024x4096_S1024x4096_0_0))⟩] := by
  unfold runB
  sl_open_run
  sl_open_pay
  sl_kernel_rfl

/-- The accumulator afterwards: the product of the point's rows and weight rows. -/
theorem acc_B (hc : AtB i) (f : arg8.view.ty.Contents (Elt F)) :
    arg8.view.read (Elt F) (arg8.view.writes (Elt F) f (runB (F := F) c i harg1 harg2 harg3 harg4 harg5 harg6 harg7 harg8 x0 x1 x2 x3 y s hc).2.2.2.1) = k0_pay10 x0 x1 := by
  have hz : (![0, 0] : Fin 2 → ℕ) = fun _ => 0 := funext fun a => by fin_cases a <;> rfl
  rw [pieces_acc_B, View.read_writes_full]
  simp only [Memref.IsWhole.read_unread]
  rw [View.ld_unit_zero (S := S1024x4096) hz, View.ld_unit_zero (S := S1024x4096) hz]

theorem pieces_cast0_B (hc : AtB i) :
    (runB (F := F) c i harg1 harg2 harg3 harg4 harg5 harg6 harg7 harg8 x0 x1 x2 x3 y s hc).2.1 = [⟨(Rect.unit (s := S128x4096) ![0, 0] S128x4096.size inb_S128x4096_S128x4096_0_0), k0_pay11 (View.ld (arg3.view.read (Elt F) (harg3.unread x2)) (Rect.unit (s := S128x4096) ![0, 0] S128x4096.size inb_S128x4096_S128x4096_0_0))⟩] := by
  unfold runB
  sl_open_run
  sl_open_pay
  sl_kernel_rfl

/-- The cast weight's block afterwards: the weight's rows, cast. -/
theorem cast0_B (hc : AtB i) (f : arg6.view.ty.Contents (Elt F)) :
    arg6.view.read (Elt F) (arg6.view.writes (Elt F) f (runB (F := F) c i harg1 harg2 harg3 harg4 harg5 harg6 harg7 harg8 x0 x1 x2 x3 y s hc).2.1) = k0_pay11 x2 := by
  have hz : (![0, 0] : Fin 2 → ℕ) = fun _ => 0 := funext fun a => by fin_cases a <;> rfl
  rw [pieces_cast0_B, View.read_writes_full]
  simp only [Memref.IsWhole.read_unread]
  rw [View.ld_unit_zero (S := S128x4096) hz]

theorem pieces_cast1_B (hc : AtB i) :
    (runB (F := F) c i harg1 harg2 harg3 harg4 harg5 harg6 harg7 harg8 x0 x1 x2 x3 y s hc).2.2.1 = [⟨(Rect.unit (s := S128x4096) ![0, 0] S128x4096.size inb_S128x4096_S128x4096_0_0), k0_pay12 (View.ld (arg4.view.read (Elt F) (harg4.unread x3)) (Rect.unit (s := S128x4096) ![0, 0] S128x4096.size inb_S128x4096_S128x4096_0_0))⟩] := by
  unfold runB
  sl_open_run
  sl_open_pay
  sl_kernel_rfl

/-- The cast weight's block afterwards: the weight's rows, cast. -/
theorem cast1_B (hc : AtB i) (f : arg7.view.ty.Contents (Elt F)) :
    arg7.view.read (Elt F) (arg7.view.writes (Elt F) f (runB (F := F) c i harg1 harg2 harg3 harg4 harg5 harg6 harg7 harg8 x0 x1 x2 x3 y s hc).2.2.1) = k0_pay12 x3 := by
  have hz : (![0, 0] : Fin 2 → ℕ) = fun _ => 0 := funext fun a => by fin_cases a <;> rfl
  rw [pieces_cast1_B, View.read_writes_full]
  simp only [Memref.IsWhole.read_unread]
  rw [View.ld_unit_zero (S := S128x4096) hz]

theorem pieces_out_B (hc : AtB i) :
    (runB (F := F) c i harg1 harg2 harg3 harg4 harg5 harg6 harg7 harg8 x0 x1 x2 x3 y s hc).1 = [⟨(Rect.unit (s := S1024x1024) ![768, 0] S256x1024.size inb_S1024x1024_S256x1024_768_0), k0_pay9 (View.ld (arg8.view.read (Elt F) (harg8.unread s)) (Rect.unit (s := S1024x1024) ![768, 0] S256x1024.size inb_S1024x1024_S256x1024_768_0))⟩, ⟨(Rect.unit (s := S1024x1024) ![512, 0] S256x1024.size inb_S1024x1024_S256x1024_512_0), k0_pay8 (View.ld (arg8.view.read (Elt F) (harg8.unread s)) (Rect.unit (s := S1024x1024) ![512, 0] S256x1024.size inb_S1024x1024_S256x1024_512_0))⟩, ⟨(Rect.unit (s := S1024x1024) ![256, 0] S256x1024.size inb_S1024x1024_S256x1024_256_0), k0_pay7 (View.ld (arg8.view.read (Elt F) (harg8.unread s)) (Rect.unit (s := S1024x1024) ![256, 0] S256x1024.size inb_S1024x1024_S256x1024_256_0))⟩, ⟨(Rect.unit (s := S1024x1024) ![0, 0] S256x1024.size inb_S1024x1024_S256x1024_0_0), k0_pay6 (View.ld (arg8.view.read (Elt F) (harg8.unread s)) (Rect.unit (s := S1024x1024) ![0, 0] S256x1024.size inb_S1024x1024_S256x1024_0_0))⟩] := by
  unfold runB
  sl_open_run
  sl_open_pay
  sl_kernel_rfl

/-- The output block afterwards: the accumulator's tile. -/
theorem out_B (hc : AtB i) :
    arg5.view.read (Elt F) (arg5.view.writes (Elt F) (harg5.unread y) (runB (F := F) c i harg1 harg2 harg3 harg4 harg5 harg6 harg7 harg8 x0 x1 x2 x3 y s hc).1) = tile s y := by
  rw [pieces_out_B]
  rw [View.read_writes_cons_put _ _ _ _ _ rfl, View.read_writes_cons_put _ _ _ _ _ rfl, View.read_writes_cons_put _ _ _ _ _ rfl, View.read_writes_cons_put _ _ _ _ _ rfl, View.writes_nil]
  simp only [Memref.IsWhole.read_unread]
  rfl

theorem pieces_out_C (hc : AtC i) :
    (runC (F := F) c i harg1 harg2 harg3 harg4 harg5 harg6 harg7 harg8  y s hc).1 = [⟨(Rect.unit (s := S1024x1024) ![768, 0] S256x1024.size inb_S1024x1024_S256x1024_768_0), k0_pay5 (View.ld (arg8.view.read (Elt F) (harg8.unread s)) (Rect.unit (s := S1024x1024) ![768, 0] S256x1024.size inb_S1024x1024_S256x1024_768_0))⟩, ⟨(Rect.unit (s := S1024x1024) ![512, 0] S256x1024.size inb_S1024x1024_S256x1024_512_0), k0_pay4 (View.ld (arg8.view.read (Elt F) (harg8.unread s)) (Rect.unit (s := S1024x1024) ![512, 0] S256x1024.size inb_S1024x1024_S256x1024_512_0))⟩, ⟨(Rect.unit (s := S1024x1024) ![256, 0] S256x1024.size inb_S1024x1024_S256x1024_256_0), k0_pay3 (View.ld (arg8.view.read (Elt F) (harg8.unread s)) (Rect.unit (s := S1024x1024) ![256, 0] S256x1024.size inb_S1024x1024_S256x1024_256_0))⟩, ⟨(Rect.unit (s := S1024x1024) ![0, 0] S256x1024.size inb_S1024x1024_S256x1024_0_0), k0_pay2 (View.ld (arg8.view.read (Elt F) (harg8.unread s)) (Rect.unit (s := S1024x1024) ![0, 0] S256x1024.size inb_S1024x1024_S256x1024_0_0))⟩] := by
  unfold runC
  sl_open_run
  sl_open_pay
  sl_kernel_rfl

/-- The output block afterwards: the accumulator's tile. -/
theorem out_C (hc : AtC i) :
    arg5.view.read (Elt F) (arg5.view.writes (Elt F) (harg5.unread y) (runC (F := F) c i harg1 harg2 harg3 harg4 harg5 harg6 harg7 harg8  y s hc).1) = tile s y := by
  rw [pieces_out_C]
  rw [View.read_writes_cons_put _ _ _ _ _ rfl, View.read_writes_cons_put _ _ _ _ _ rfl, View.read_writes_cons_put _ _ _ _ _ rfl, View.read_writes_cons_put _ _ _ _ _ rfl, View.writes_nil]
  simp only [Memref.IsWhole.read_unread]
  rfl

end body

variable (m : (ℓ : Loc nD τ sig) → Buf (Elt F) ℓ) (ρ : Dev nD → PrngReg)

/-! ## The launch -/

abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x4096 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x4096 .bf16 := win0_6.stage (cfg0.slots t 6)
abbrev hs0_6 (t : Fin cfg0.N) : (ms0_6 t).IsWhole := hstage0_6 ((cfg0.slots t 6).cast nbuf0_6)
/-- The accumulator, whole. -/
abbrev scM0_0 : Memref sig .tc .vmem S1024x1024 .f32 := Memref.whole cc0_scratch0
abbrev wh0 : scM0_0.IsWhole := Memref.isWhole_whole _

/-- The invariant a launch starts from, at this kernel's one scratch array. -/
theorem start_eq (c : Dev nD) :
    (Pipeline.ΦA spec0 c : sProp 𝕄)
      = iprop(iprop((∃ d, own c scM0_0 d)) ∗ (∃ r, prngReg c r)) := by
  unfold Pipeline.ΦA; rw [scopedRest0_eq]; simp only [own, scM0_0, owns_whole]; try rfl

/-- The point below 32 that filled the accumulator after point `n`. -/
def filled (n : ℕ) : Fin cfg0.N := ⟨min n 31, lt_of_lt_of_eq (by omega : min n 31 < 33) N_0.symm⟩

/-- The accumulator after point `n`. -/
def prodAt (c : Dev nD) (n : ℕ) : Vec F S1024x1024 .f32 := k0_pay10 (iblk m c 0 (filled n)) (iblk m c 1 (filled n))

theorem prodAt_inner (c : Dev nD) (t : Fin cfg0.N) (h : t.val < 32) : prodAt m c t.val = k0_pay10 (iblk m c 0 t) (iblk m c 1 t) := by
  have e : filled t.val = t := Fin.ext (by show min t.val 31 = t.val; omega)
  unfold prodAt
  rw [e]

theorem prodAt_last (c : Dev nD) (t : Fin cfg0.N) (h : t.val = 32) : prodAt m c t.val = prodAt m c (t.val - 1) := by
  have e : filled t.val = filled (t.val - 1) := Fin.ext (by show min t.val 31 = min (t.val - 1) 31; omega)
  unfold prodAt
  rw [e]

/-- What point `t` leaves in the block of cast weight 0: the weight's rows, cast, and at the last point what it found. -/
def cast0At (c : Dev nD) (t : Fin cfg0.N) (y : Vec F S128x4096 .bf16) : Vec F S128x4096 .bf16 :=
  if t.val < 32 then k0_pay11 (iblk m c 2 t) else y

/-- What point `t` leaves in the block of cast weight 1: the weight's rows, cast, and at the last point what it found. -/
def cast1At (c : Dev nD) (t : Fin cfg0.N) (y : Vec F S128x4096 .bf16) : Vec F S128x4096 .bf16 :=
  if t.val < 32 then k0_pay12 (iblk m c 3 t) else y

/-- The invariant before point `n`: the accumulator at what the point before left. -/
def PhiS (c : Dev nD) : ℕ → sProp 𝕄
  | 0 => Pipeline.ΦA spec0 c
  | n + 1 => iprop(iprop(own c scM0_0 (prodAt m c n)) ∗ (∃ r, prngReg c r))

theorem PhiS_succ (c : Dev nD) (n : ℕ) :
    PhiS m c (n + 1) = iprop(iprop(own c scM0_0 (prodAt m c n)) ∗ (∃ r, prngReg c r)) := rfl
theorem PhiS_pos (c : Dev nD) (n : ℕ) (hz : n ≠ 0) :
    PhiS m c n = iprop(iprop(own c scM0_0 (prodAt m c (n - 1))) ∗ (∃ r, prngReg c r)) := by
  cases n with
  | zero => exact absurd rfl hz
  | succ n => rfl

/-- The launch's proof data: the inputs' buffers stay as they are; from the second point on the output's becomes the tile of
    the point before; the cast weights' become their rows, cast. -/
def data (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => t.val ≠ 0 → X = tile (prodAt m c (t.val - 1)) Y
    | ⟨5, _⟩ => fun Y X => X = cast0At m c t Y
    | ⟨6, _⟩ => fun Y X => X = cast1At m c t Y
  Φ t := PhiS m c t.val
  q _ := fullShare
  owed _ := 0

theorem A_eq (c : Dev nD) (w : Fin cfg0.W) : (data m c).A w = V m c (Pipeline.arrRef spec0 w) := by
  dsimp only [data]
theorem after_0 (c : Dev nD) (t : Fin cfg0.N) (Y X) : (data m c).after 0 t Y X ↔ X = Y := by dsimp only [data]; exact Iff.rfl
theorem after_1 (c : Dev nD) (t : Fin cfg0.N) (Y X) : (data m c).after 1 t Y X ↔ X = Y := by dsimp only [data]; exact Iff.rfl
theorem after_2 (c : Dev nD) (t : Fin cfg0.N) (Y X) : (data m c).after 2 t Y X ↔ X = Y := by dsimp only [data]; exact Iff.rfl
theorem after_3 (c : Dev nD) (t : Fin cfg0.N) (Y X) : (data m c).after 3 t Y X ↔ X = Y := by dsimp only [data]; exact Iff.rfl
theorem after_4 (c : Dev nD) (t : Fin cfg0.N) (Y X) : (data m c).after 4 t Y X ↔ (t.val ≠ 0 → X = tile (prodAt m c (t.val - 1)) Y) := by dsimp only [data]; exact Iff.rfl
theorem after_5 (c : Dev nD) (t : Fin cfg0.N) (Y X) : (data m c).after 5 t Y X ↔ X = cast0At m c t Y := by dsimp only [data]; exact Iff.rfl
theorem after_6 (c : Dev nD) (t : Fin cfg0.N) (Y X) : (data m c).after 6 t Y X ↔ X = cast1At m c t Y := by dsimp only [data]; exact Iff.rfl

/-- Input 0's buffer holds its block at every point. -/
theorem finds_0 (c : Dev nD) (t : Fin cfg0.N) (Y) (h : (data m c).Finds 0 t Y) : Y = iblk m c 0 t := by
  obtain ⟨d, rfl⟩ := (data m c).finds_in_eq_fetched 0 rfl (fun _ _ _ => rfl) (fun t Y X h => (after_0 m c t Y X).mp h) t Y h
  unfold RDat.fetched RDat.blockOf iblk; rw [A_eq]; try rfl

/-- Input 1's buffer holds its block at every point. -/
theorem finds_1 (c : Dev nD) (t : Fin cfg0.N) (Y) (h : (data m c).Finds 1 t Y) : Y = iblk m c 1 t := by
  obtain ⟨d, rfl⟩ := (data m c).finds_in_eq_fetched 1 rfl (fun _ _ _ => rfl) (fun t Y X h => (after_1 m c t Y X).mp h) t Y h
  unfold RDat.fetched RDat.blockOf iblk; rw [A_eq]; try rfl

/-- Input 2's buffer holds its block at every point. -/
theorem finds_2 (c : Dev nD) (t : Fin cfg0.N) (Y) (h : (data m c).Finds 2 t Y) : Y = iblk m c 2 t := by
  obtain ⟨d, rfl⟩ := (data m c).finds_in_eq_fetched 2 rfl (fun _ _ _ => rfl) (fun t Y X h => (after_2 m c t Y X).mp h) t Y h
  unfold RDat.fetched RDat.blockOf iblk; rw [A_eq]; try rfl

/-- Input 3's buffer holds its block at every point. -/
theorem finds_3 (c : Dev nD) (t : Fin cfg0.N) (Y) (h : (data m c).Finds 3 t Y) : Y = iblk m c 3 t := by
  obtain ⟨d, rfl⟩ := (data m c).finds_in_eq_fetched 3 rfl (fun _ _ _ => rfl) (fun t Y X h => (after_3 m c t Y X).mp h) t Y h
  unfold RDat.fetched RDat.blockOf iblk; rw [A_eq]; try rfl

/-! ## The body at a point -/

/-- What the body is called with at a point, the outputs' buffers at `y` and `z`. -/
def bodyPre (c : Dev nD) (t : Fin cfg0.N) (y : Vec F S1024x1024 .bf16) (z0 : Vec F S128x4096 .bf16) (z1 : Vec F S128x4096 .bf16) : sProp 𝕄 :=
  iprop((data m c).Φ t.castSucc ∗ (data m c).owesAt () t.castSucc
    ∗ own c (ms0_0 t) (iblk m c 0 t) ∗ own c (ms0_1 t) (iblk m c 1 t) ∗ own c (ms0_2 t) (iblk m c 2 t) ∗ own c (ms0_3 t) (iblk m c 3 t)
    ∗ own c (ms0_4 t) y
    ∗ own c (ms0_5 t) z0 ∗ own c (ms0_6 t) z1)

/-- What it returns. -/
def bodyPost (c : Dev nD) (t : Fin cfg0.N) (y : Vec F S1024x1024 .bf16) (z0 : Vec F S128x4096 .bf16) (z1 : Vec F S128x4096 .bf16) : sProp 𝕄 :=
  iprop((data m c).Φ t.succ ∗ (data m c).owesAt () t.succ
    ∗ own c (ms0_0 t) (iblk m c 0 t) ∗ own c (ms0_1 t) (iblk m c 1 t) ∗ own c (ms0_2 t) (iblk m c 2 t) ∗ own c (ms0_3 t) (iblk m c 3 t)
    ∗ (∃ X, ⌜t.val ≠ 0 → X = tile (prodAt m c (t.val - 1)) y⌝ ∗ own c (ms0_4 t) X)
    ∗ own c (ms0_5 t) (cast0At m c t z0) ∗ own c (ms0_6 t) (cast1At m c t z1))

set_option maxHeartbeats 4800000 in
/-- The body at any point. -/
theorem sound_body (c : Dev nD) (t : Fin cfg0.N) (y : Vec F S1024x1024 .bf16) (z0 : Vec F S128x4096 .bf16) (z1 : Vec F S128x4096 .bf16) :
    bodyPre m c t y z0 z1 ⊢ wp frame (wpE (defs₀ (F := F)) Variants.none c none) Set.univ (bodyAt0 t) (fun _ => bodyPost m c t y z0 z1) := by
  have hN : t.val < 33 := lt_of_lt_of_eq t.isLt N_0
  unfold bodyPre bodyPost bodyAt0
  rw [show (data m c).owesAt () t.succ = (data m c).owesAt () t.castSucc from rfl]
  rw [show (data m c).Φ t.succ = PhiS m c (t.val + 1) from rfl, PhiS_succ, show (data m c).Φ t.castSucc = PhiS m c t.val from rfl]
  by_cases h1 : t.val < 32
  · have h2 : ¬t.val = 32 := by omega
    rw [show cast0At m c t z0 = k0_pay11 (iblk m c 2 t) from if_pos h1, show cast1At m c t z1 = k0_pay12 (iblk m c 3 t) from if_pos h1, prodAt_inner m c t h1]
    by_cases h0 : t.val = 0
    · rw [show PhiS m c t.val = Pipeline.ΦA spec0 c from by rw [h0]; rfl, start_eq]
      iintro ⟨⟨HS, Hg⟩, Ho, H0, H1, H2, H3, HO, HD0, HD1⟩
      iapply ((runA (F := F) c (grid0.coords t) (hs0_0 t) (hs0_1 t) (hs0_2 t) (hs0_3 t) (hs0_4 t) (hs0_5 t) (hs0_6 t) wh0 (iblk m c 0 t) (iblk m c 1 t) (iblk m c 2 t) (iblk m c 3 t)  ⟨((first_iff t).mpr h0), ((inner_iff t).mpr h1), (fun h => h2 ((last_iff t).mp h))⟩).2.2.2 Set.univ _)
      isplitl [H0]; · iexact H0
      isplitl [H1]; · iexact H1
      isplitl [H2]; · iexact H2
      isplitl [H3]; · iexact H3
      isplitl [HO]; · iexists _; iexact HO
      isplitl [HD0]; · iexists _; iexact HD0
      isplitl [HD1]; · iexists _; iexact HD1
      isplitl [HS]; · iexact HS
      iintro ⟨H0, H1, H2, H3, ⟨%yo, HO⟩, ⟨%e0, HD0⟩, ⟨%e1, HD1⟩, ⟨%es, HS⟩⟩
      isplitl [HS Hg]
      · isplitl [HS]
        · unfold own owns; iexists _; isplitr
          swap; · iexact HS
          ipureintro; exact acc_A ..
        iexact Hg
      isplitl [Ho]; · iexact Ho
      isplitl [H0]; · iexact H0
      isplitl [H1]; · iexact H1
      isplitl [H2]; · iexact H2
      isplitl [H3]; · iexact H3
      isplitl [HO]
      · iexists _; isplitr
        swap; · iexact HO
        ipureintro; exact fun h => absurd h0 h
      isplitl [HD0]
      · unfold own owns; iexists _; isplitr
        swap; · iexact HD0
        ipureintro; exact cast0_A ..
      unfold own owns; iexists _; isplitr
      swap; · iexact HD1
      ipureintro; exact cast1_A ..
    · rw [PhiS_pos m c _ h0]
      iintro ⟨⟨HS, Hg⟩, Ho, H0, H1, H2, H3, HO, HD0, HD1⟩
      iapply ((runB (F := F) c (grid0.coords t) (hs0_0 t) (hs0_1 t) (hs0_2 t) (hs0_3 t) (hs0_4 t) (hs0_5 t) (hs0_6 t) wh0 (iblk m c 0 t) (iblk m c 1 t) (iblk m c 2 t) (iblk m c 3 t) y (prodAt m c (t.val - 1)) ⟨(fun h => h0 ((first_iff t).mp h)), ((inner_iff t).mpr h1), (fun h => h2 ((last_iff t).mp h))⟩).2.2.2.2 Set.univ _)
      isplitl [H0]; · iexact H0
      isplitl [H1]; · iexact H1
      isplitl [H2]; · iexact H2
      isplitl [H3]; · iexact H3
      isplitl [HO]; · iexact HO
      isplitl [HD0]; · iexists _; iexact HD0
      isplitl [HD1]; · iexists _; iexact HD1
      isplitl [HS]; · iexact HS
      iintro ⟨H0, H1, H2, H3, HO, ⟨%e0, HD0⟩, ⟨%e1, HD1⟩, ⟨%es, HS⟩⟩
      isplitl [HS Hg]
      · isplitl [HS]
        · unfold own owns; iexists _; isplitr
          swap; · iexact HS
          ipureintro; exact acc_B ..
        iexact Hg
      isplitl [Ho]; · iexact Ho
      isplitl [H0]; · iexact H0
      isplitl [H1]; · iexact H1
      isplitl [H2]; · iexact H2
      isplitl [H3]; · iexact H3
      isplitl [HO]
      · iexists _; isplitr
        swap
        · unfold own owns; iexists _; isplitr
          swap; · iexact HO
          ipureintro; exact out_B ..
        ipureintro; exact fun _ => rfl
      isplitl [HD0]
      · unfold own owns; iexists _; isplitr
        swap; · iexact HD0
        ipureintro; exact cast0_B ..
      unfold own owns; iexists _; isplitr
      swap; · iexact HD1
      ipureintro; exact cast1_B ..
  · have h2 : t.val = 32 := by omega
    have h0 : ¬t.val = 0 := by omega
    rw [show cast0At m c t z0 = z0 from if_neg h1, show cast1At m c t z1 = z1 from if_neg h1, prodAt_last m c t h2, PhiS_pos m c _ h0]
    iintro ⟨⟨HS, Hg⟩, Ho, H0, H1, H2, H3, HO, HD0, HD1⟩
    iapply ((runC (F := F) c (grid0.coords t) (hs0_0 t) (hs0_1 t) (hs0_2 t) (hs0_3 t) (hs0_4 t) (hs0_5 t) (hs0_6 t) wh0 y (prodAt m c (t.val - 1)) ⟨(fun h => h0 ((first_iff t).mp h)), (fun h => h1 ((inner_iff t).mp h)), ((last_iff t).mpr h2)⟩).2 Set.univ _)
    isplitl [HO]; · iexact HO
    isplitl [HS]; · iexact HS
    iintro ⟨HO, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [HO]
    · iexists _; isplitr
      swap
      · unfold own owns; iexists _; isplitr
        swap; · iexact HO
        ipureintro; exact out_C ..
      ipureintro; exact fun _ => rfl
    isplitl [HD0]; · iexact HD0
    iexact HD1

/-- The body table's row at a point is the body as called there. -/
theorem defs₀_row (t : Fin cfg0.N) :
    defs₀ (F := F) .tc cfg0.body (cfg0.bodyArgs t (cfg0.slots t)) = bodyAt0 t := by
  unfold defs₀; rw [Defs.onTc_tc]

/-- What a point returns is what the proof data asks for. -/
theorem post_restated (c : Dev nD) (t : Fin cfg0.N) (y : Vec F S1024x1024 .bf16) (z0 : Vec F S128x4096 .bf16) (z1 : Vec F S128x4096 .bf16) :
    bodyPost m c t y z0 z1 ⊢ iprop((data m c).Φ t.succ ∗ (data m c).owesAt () t.succ
      ∗ (∃ X, ⌜(data m c).after 0 t (iblk m c 0 t) X⌝ ∗ own c (ms0_0 t) X)
      ∗ (∃ X, ⌜(data m c).after 1 t (iblk m c 1 t) X⌝ ∗ own c (ms0_1 t) X)
      ∗ (∃ X, ⌜(data m c).after 2 t (iblk m c 2 t) X⌝ ∗ own c (ms0_2 t) X)
      ∗ (∃ X, ⌜(data m c).after 3 t (iblk m c 3 t) X⌝ ∗ own c (ms0_3 t) X)
      ∗ (∃ X, ⌜(data m c).after 4 t y X⌝ ∗ own c (ms0_4 t) X)
      ∗ (∃ X, ⌜(data m c).after 5 t z0 X⌝ ∗ own c (ms0_5 t) X)
      ∗ (∃ X, ⌜(data m c).after 6 t z1 X⌝ ∗ own c (ms0_6 t) X)) := by
  unfold bodyPost
  iintro ⟨Hp, Ho, H0, H1, H2, H3, ⟨%X, %hX, HO⟩, HD0, HD1⟩
  isplitl [Hp]; · iexact Hp
  isplitl [Ho]; · iexact Ho
  isplitl [H0]
  · iexists _; isplitr
    swap; · iexact H0
    ipureintro; exact (after_0 m c t _ _).mpr rfl
  isplitl [H1]
  · iexists _; isplitr
    swap; · iexact H1
    ipureintro; exact (after_1 m c t _ _).mpr rfl
  isplitl [H2]
  · iexists _; isplitr
    swap; · iexact H2
    ipureintro; exact (after_2 m c t _ _).mpr rfl
  isplitl [H3]
  · iexists _; isplitr
    swap; · iexact H3
    ipureintro; exact (after_3 m c t _ _).mpr rfl
  isplitl [HO]
  · iexists _; isplitr
    swap; · iexact HO
    ipureintro; exact (after_4 m c t _ _).mpr hX
  isplitl [HD0]
  · iexists _; isplitr
    swap; · iexact HD0
    ipureintro; exact (after_5 m c t _ _).mpr rfl
  iexists _; isplitr
  swap; · iexact HD1
  ipureintro; exact (after_6 m c t _ _).mpr rfl

/-- The body at every point, in the form the launch takes it. -/
theorem body_obligation (c : Dev nD) : (data (F := F) m c).BodyObligation (defs₀ (F := F)) Variants.none () Set.univ := fun t Y hY => by
  rw [bigSep_W0, bigSep_W0, defs₀_row]
  rw [finds_0 m c t (Y 0) (hY 0), finds_1 m c t (Y 1) (hY 1), finds_2 m c t (Y 2) (hY 2), finds_3 m c t (Y 3) (hY 3)]
  exact triple_restated (sound_body m c t (Y 4) (Y 5) (Y 6)) rfl .rfl fun _ => post_restated m c t (Y 4) (Y 5) (Y 6)

theorem hin (c : Dev nD) : Pipeline.ΦA spec0 c ⊢ (data m c).Φ 0 := by
  rw [show (data m c).Φ 0 = Pipeline.ΦA spec0 c from rfl]
  try exact Idealize.SL.BI.Entails.refl _
theorem hout (c : Dev nD) : (data m c).Φ (Fin.last cfg0.N) ⊢ Pipeline.ΦA spec0 c := by
  rw [start_eq, show (data m c).Φ (Fin.last cfg0.N) = PhiS m c cfg0.N from rfl, PhiS_pos m c _ (by rw [show cfg0.N = 33 from N_0]; omega)]
  iintro ⟨HS0, Hg⟩
  isplitl [HS0]
  · iexists _; iexact HS0
  iexact Hg

set_option backward.isDefEq.respectTransparency.types false in
/-- Every execution ends with the arrays at what the proof data allows and every semaphore at zero. -/
theorem run_quiescent : θ_run defs (onTc (τ := τ) (main (F := F))) (s₀ m ρ)
    (fun r => RDat.FramePost cfg0 (data m) (V m) r ∧ r.2.sem = fun _ => 0) :=
  RDat.θ_run_frame_track (Q' := _) cfgs (0 : Fin 1) launch0 defs₀ Variants.none (data m) m ρ main
    (hbody := fun c => body_obligation m c) (hshare := fun c => (data m c).share_full fun _ => rfl)
    (howed := fun _ _ => rfl) (V := V m) (hmain := hmain m Variants.none) (hA := A_eq m) (hin := hin m) (hout := hout m)

/-- The argument arrays end unchanged. -/
theorem kept (r) (h : RDat.FramePost cfg0 (data m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(RDat.FramePost.arr_in h c 0 rfl).trans ((A_eq m c 0).trans (V_main_arg0 m c)), (RDat.FramePost.arr_in h c 1 rfl).trans ((A_eq m c 1).trans (V_main_arg1 m c)), (RDat.FramePost.arr_in h c 2 rfl).trans ((A_eq m c 2).trans (V_main_arg2 m c)), (RDat.FramePost.arr_in h c 3 rfl).trans ((A_eq m c 3).trans (V_main_arg3 m c))⟩

/-- The frame: the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => kept m r h.1 c, h.2⟩) (run_quiescent m ρ)

end Cert.PoolULaunch

end
-- ==== Proof.PoolUValue.lean ====
/- The `proj_pool_u` call beside its reference: the product, and the weights it casts on the way. -/
module

public import proofs.«01_k».proof.Defs
public import proofs.«01_k».proof.Proof.PoolULaunch
public import proofs.«01_k».proof.Proof.Gen.PoolU
public import proofs.«01_k».proof.Proof.Gen.PoolUReferenceIdeal.Run
public import Idealize.ShloMosaic.Lib.Pointwise
public import Idealize.ShloMosaic.Lib.KernelVsHost

@[expose] public section

set_option maxRecDepth 65536
set_option synthInstance.maxSize 4096
set_option backward.isDefEq.respectTransparency false

noncomputable section

namespace Cert.PoolUIdeal.Words

open Idealize.ShloMosaic Idealize.ShloMosaic.TcCoe Idealize.ShloMosaic.Tactic Idealize.SL.Sem Idealize.ShloMosaic.Pipeline Cert.PoolUIdeal Cert.PoolUIdeal.Gen Cert.PoolULaunch

/-! ## The tile -/

/-- Rows put into a tile, at a row of theirs. -/
theorem put_in {α : Type} (y : S1024x1024.Idx → α) (o : ℕ) (w : S256x1024.Idx → α) (i j : Fin 1024) (r : Fin 256) (h : i.val = o + r.val) :
    VecWindow.put (s := S1024x1024) y ![o, 0] S256x1024.size w (ix2 i j) = w (ix2 r j) := by
  have hr := r.isLt
  have hj := j.isLt
  have h' : ∀ a : Fin 2, (![o, 0] : Fin 2 → ℕ) a ≤ ((ix2 i j : S1024x1024.Idx) a).val ∧ ((ix2 i j : S1024x1024.Idx) a).val < (![o, 0] : Fin 2 → ℕ) a + S256x1024.size a := by
    intro a
    match a with
    | ⟨0, _⟩ => show o ≤ i.val ∧ i.val < o + 256; omega
    | ⟨1, _⟩ => show 0 ≤ j.val ∧ j.val < 0 + 1024; omega
  refine (dif_pos h').trans (congrArg w ?_)
  funext a
  apply Fin.ext
  match a with
  | ⟨0, _⟩ => show i.val - o = r.val; omega
  | ⟨1, _⟩ => show j.val - 0 = j.val; omega

/-- Rows put into a tile, at a row before or behind them. -/
theorem put_out {α : Type} (y : S1024x1024.Idx → α) (o : ℕ) (w : S256x1024.Idx → α) (i j : Fin 1024) (h : i.val < o ∨ o + 256 ≤ i.val) :
    VecWindow.put (s := S1024x1024) y ![o, 0] S256x1024.size w (ix2 i j) = y (ix2 i j) :=
  dif_neg fun h' => by
    have e : o ≤ i.val ∧ i.val < o + 256 := h' 0
    omega

/-- Rows read of a tile. -/
theorem ld_at (s : Vec Ideal S1024x1024 .f32) (o : ℕ) (hb : ∀ a, (![o, 0] : Fin 2 → ℕ) a + S256x1024.size a ≤ S1024x1024.size a) (i j : Fin 1024) (r : Fin 256) (h : i.val = o + r.val) :
    (View.ld s (Rect.unit (s := S1024x1024) ![o, 0] S256x1024.size hb) : Vec Ideal S256x1024 .f32) (ix2 r j) = s (ix2 i j) := by
  show s _ = s _
  congr 1
  funext x
  apply Fin.ext
  match x with
  | ⟨0, _⟩ => show o + 1 * r.val = i.val; omega
  | ⟨1, _⟩ => show 0 + 1 * j.val = j.val; omega

/-- What becomes of one element of the product. -/
def act (z : EReal) : EReal := z

theorem pay2_at (X : FVec Ideal S256x1024 .f32) (i : Fin 256) (j : Fin 1024) : (k0_pay2 (F := Ideal) X (ix2 i j) : EReal) = act (X (ix2 i j)) := by
  unfold k0_pay2 act
  pointwise []

theorem pay3_at (X : FVec Ideal S256x1024 .f32) (i : Fin 256) (j : Fin 1024) : (k0_pay3 (F := Ideal) X (ix2 i j) : EReal) = act (X (ix2 i j)) := by
  unfold k0_pay3 act
  pointwise []

theorem pay4_at (X : FVec Ideal S256x1024 .f32) (i : Fin 256) (j : Fin 1024) : (k0_pay4 (F := Ideal) X (ix2 i j) : EReal) = act (X (ix2 i j)) := by
  unfold k0_pay4 act
  pointwise []

theorem pay5_at (X : FVec Ideal S256x1024 .f32) (i : Fin 256) (j : Fin 1024) : (k0_pay5 (F := Ideal) X (ix2 i j) : EReal) = act (X (ix2 i j)) := by
  unfold k0_pay5 act
  pointwise []

/-- The output tile a point leaves, at an index. -/
theorem tile_at (s : Vec Ideal S1024x1024 .f32) (y : Vec Ideal S1024x1024 .bf16) (i j : Fin 1024) : (tile s y (ix2 i j) : EReal) = act (s (ix2 i j)) := by
  have hi := i.isLt
  unfold tile
  by_cases h3 : 768 ≤ i.val
  · obtain ⟨r, hr⟩ : ∃ r : Fin 256, i.val = 768 + r.val := ⟨⟨i.val - 768, by omega⟩, by simp only []; omega⟩
    refine (put_in _ 768 _ i j r hr).trans ((pay5_at _ r j).trans ?_)
    rw [ld_at s 768 _ i j r hr]
  refine (put_out _ 768 _ i j (Or.inl (by omega))).trans ?_
  by_cases h2 : 512 ≤ i.val
  · obtain ⟨r, hr⟩ : ∃ r : Fin 256, i.val = 512 + r.val := ⟨⟨i.val - 512, by omega⟩, by simp only []; omega⟩
    refine (put_in _ 512 _ i j r hr).trans ((pay4_at _ r j).trans ?_)
    rw [ld_at s 512 _ i j r hr]
  refine (put_out _ 512 _ i j (Or.inl (by omega))).trans ?_
  by_cases h1 : 256 ≤ i.val
  · obtain ⟨r, hr⟩ : ∃ r : Fin 256, i.val = 256 + r.val := ⟨⟨i.val - 256, by omega⟩, by simp only []; omega⟩
    refine (put_in _ 256 _ i j r hr).trans ((pay3_at _ r j).trans ?_)
    rw [ld_at s 256 _ i j r hr]
  refine (put_out _ 256 _ i j (Or.inl (by omega))).trans ?_
  obtain ⟨r, hr⟩ : ∃ r : Fin 256, i.val = 0 + r.val := ⟨⟨i.val, by omega⟩, by simp only []; omega⟩
  refine (put_in _ 0 _ i j r hr).trans ((pay2_at _ r j).trans ?_)
  rw [ld_at s 0 _ i j r hr]

/-- The product of a tile, at an index. -/
theorem pay10_at (x w : FVec Ideal S1024x4096 .bf16) (i j : Fin 1024) :
    (k0_pay10 (F := Ideal) x w (ix2 i j) : EReal) = ∑ a : Fin 4096, x (ix2 i a) * w (ix2 j a) := by
  unfold k0_pay10
  pointwise []

/-- A cast keeps every value. -/
theorem pay11_at (X : FVec Ideal S128x4096 .f32) (i : Fin 128) (j : Fin 4096) : (k0_pay11 (F := Ideal) X (ix2 i j) : EReal) = X (ix2 i j) := by
  unfold k0_pay11
  pointwise []

/-- A cast keeps every value. -/
theorem pay12_at (X : FVec Ideal S128x4096 .f32) (i : Fin 128) (j : Fin 4096) : (k0_pay12 (F := Ideal) X (ix2 i j) : EReal) = X (ix2 i j) := by
  unfold k0_pay12
  pointwise []

/-! ## The windows -/

theorem at0 : ∀ t : Fin grid0.N, t.val < 32 → win0_0.index t 0 = t.val % 8 ∧ win0_0.index t 1 = 0 := by decide +kernel
theorem at1 : ∀ t : Fin grid0.N, t.val < 32 → win0_1.index t 0 = t.val / 8 ∧ win0_1.index t 1 = 0 := by decide +kernel
theorem at4 : ∀ t : Fin grid0.N, win0_4.index t 0 = (t.val - 1) % 8 ∧ win0_4.index t 1 = (t.val - 1) / 8 := by decide +kernel
theorem flush4 : ∀ t : Fin grid0.N, (cfg0.win 4).flush t = true ↔ 0 < t.val := by decide +kernel
theorem at2 : ∀ t : Fin grid0.N, t.val < 32 → win0_2.index t 0 = 4096 + 128 * t.val ∧ win0_2.index t 1 = 0 := by decide +kernel
theorem at5 : ∀ t : Fin grid0.N, win0_5.index t 0 = min t.val 31 ∧ win0_5.index t 1 = 0 := by decide +kernel
theorem flush5 : ∀ t : Fin grid0.N, (cfg0.win 5).flush t = true ↔ t.val ≠ 31 := by decide +kernel
theorem at3 : ∀ t : Fin grid0.N, t.val < 32 → win0_3.index t 0 = 0 + 128 * t.val ∧ win0_3.index t 1 = 0 := by decide +kernel
theorem at6 : ∀ t : Fin grid0.N, win0_6.index t 0 = min t.val 31 ∧ win0_6.index t 1 = 0 := by decide +kernel
theorem flush6 : ∀ t : Fin grid0.N, (cfg0.win 6).flush t = true ↔ t.val ≠ 31 := by decide +kernel

section Points
variable {F : FTy → Type} [FloatOps F]
variable (m : (ℓ : Loc nD τ sig) → Buf (Elt F) ℓ)

theorem iblk0_at (c : Dev nD) (t : Fin cfg0.N) (h : t.val < 32) (i : Fin 1024) (j : Fin 4096) (a : Fin 8192) (ha : a.val = 1024 * (t.val % 8) + i.val) :
    (iblk m c 0 t : Vec F S1024x4096 .bf16) (ix2 i j) = m ((c : Thread nD τ).loc main_arg0) (ix2 a j) := by
  unfold iblk
  rw [View.read_apply]
  show V m c main_arg0 _ = _
  rw [V_main_arg0]
  congr 1
  funext x
  apply Fin.ext
  match x with
  | ⟨0, _⟩ => show win0_0.index t 0 * 1024 + 1 * i.val = a.val; rw [(at0 t h).1]; omega
  | ⟨1, _⟩ => show win0_0.index t 1 * 4096 + 1 * j.val = j.val; rw [(at0 t h).2]; omega

theorem iblk1_at (c : Dev nD) (t : Fin cfg0.N) (h : t.val < 32) (i : Fin 1024) (j : Fin 4096) (a : Fin 4096) (ha : a.val = 1024 * (t.val / 8) + i.val) :
    (iblk m c 1 t : Vec F S1024x4096 .bf16) (ix2 i j) = m ((c : Thread nD τ).loc main_arg1) (ix2 a j) := by
  unfold iblk
  rw [View.read_apply]
  show V m c main_arg1 _ = _
  rw [V_main_arg1]
  congr 1
  funext x
  apply Fin.ext
  match x with
  | ⟨0, _⟩ => show win0_1.index t 0 * 1024 + 1 * i.val = a.val; rw [(at1 t h).1]; omega
  | ⟨1, _⟩ => show win0_1.index t 1 * 4096 + 1 * j.val = j.val; rw [(at1 t h).2]; omega

theorem iblk2_at (c : Dev nD) (t : Fin cfg0.N) (h : t.val < 32) (i : Fin 128) (j : Fin 4096) (a : Fin 32832) (ha : a.val = 4096 + 128 * t.val + i.val) :
    (iblk m c 2 t : Vec F S128x4096 .f32) (ix2 i j) = m ((c : Thread nD τ).loc main_arg2) (ix2 a j) := by
  unfold iblk
  rw [View.read_apply]
  show V m c main_arg2 _ = _
  rw [V_main_arg2]
  congr 1
  funext x
  apply Fin.ext
  match x with
  | ⟨0, _⟩ => show win0_2.index t 0 + 1 * i.val = a.val; rw [(at2 t h).1]; omega
  | ⟨1, _⟩ => show win0_2.index t 1 + 1 * j.val = j.val; rw [(at2 t h).2]; omega

theorem iblk3_at (c : Dev nD) (t : Fin cfg0.N) (h : t.val < 32) (i : Fin 128) (j : Fin 4096) (a : Fin 4096) (ha : a.val = 0 + 128 * t.val + i.val) :
    (iblk m c 3 t : Vec F S128x4096 .f32) (ix2 i j) = m ((c : Thread nD τ).loc main_arg3) (ix2 a j) := by
  unfold iblk
  rw [View.read_apply]
  show V m c main_arg3 _ = _
  rw [V_main_arg3]
  congr 1
  funext x
  apply Fin.ext
  match x with
  | ⟨0, _⟩ => show win0_3.index t 0 + 1 * i.val = a.val; rw [(at3 t h).1]; omega
  | ⟨1, _⟩ => show win0_3.index t 1 + 1 * j.val = j.val; rw [(at3 t h).2]; omega

theorem emb4_at (t : Fin cfg0.N) (i j : Fin 1024) (a : Fin 8192) (b : Fin 4096)
    (ha : a.val = 1024 * ((t.val - 1) % 8) + i.val) (hb : b.val = 1024 * ((t.val - 1) / 8) + j.val) :
    ((cfg0.win 4).blk t).view.emb (ix2 i j) = ix2 a b := by
  funext x
  apply Fin.ext
  match x with
  | ⟨0, _⟩ => show win0_4.index t 0 * 1024 + 1 * i.val = a.val; rw [(at4 t).1]; omega
  | ⟨1, _⟩ => show win0_4.index t 1 * 1024 + 1 * j.val = b.val; rw [(at4 t).2]; omega

/-- Two points that write the output back write separate blocks. -/
theorem disjoint4 : ∀ t t' : Fin cfg0.N, (cfg0.win 4).flush t = true → (cfg0.win 4).flush t' = true → t ≠ t' →
    Disjoint ((cfg0.win 4).blk t).view.set ((cfg0.win 4).blk t').view.set := by
  intro t t' hf hf' hne
  refine (cfg0.win 4).disjoint_blk fun h => hne (Fin.ext ?_)
  have p := (flush4 t).mp hf
  have p' := (flush4 t').mp hf'
  have e0 : win0_4.index t 0 = win0_4.index t' 0 := congrFun h 0
  have e1 : win0_4.index t 1 = win0_4.index t' 1 := congrFun h 1
  rw [(at4 t).1, (at4 t').1] at e0
  rw [(at4 t).2, (at4 t').2] at e1
  omega

theorem emb5_at (t : Fin cfg0.N) (i : Fin 128) (j : Fin 4096) (a : Fin 4096) (ha : a.val = 128 * min t.val 31 + i.val) :
    ((cfg0.win 5).blk t).view.emb (ix2 i j) = ix2 a j := by
  funext x
  apply Fin.ext
  match x with
  | ⟨0, _⟩ => show win0_5.index t 0 * 128 + 1 * i.val = a.val; rw [(at5 t).1]; omega
  | ⟨1, _⟩ => show win0_5.index t 1 * 4096 + 1 * j.val = j.val; rw [(at5 t).2]; omega

/-- Two points that write the cast weight back write separate blocks. -/
theorem disjoint5 : ∀ t t' : Fin cfg0.N, (cfg0.win 5).flush t = true → (cfg0.win 5).flush t' = true → t ≠ t' →
    Disjoint ((cfg0.win 5).blk t).view.set ((cfg0.win 5).blk t').view.set := by
  intro t t' hf hf' hne
  refine (cfg0.win 5).disjoint_blk fun h => hne (Fin.ext ?_)
  have p := (flush5 t).mp hf
  have p' := (flush5 t').mp hf'
  have n : t.val < 33 := lt_of_lt_of_eq t.isLt N_0
  have n' : t'.val < 33 := lt_of_lt_of_eq t'.isLt N_0
  have e0 : win0_5.index t 0 = win0_5.index t' 0 := congrFun h 0
  rw [(at5 t).1, (at5 t').1] at e0
  omega

/-- What a point leaves in the cast weight's block: its rows cast; the last point leaves the block of the point before it. -/
theorem left5 (c : Dev nD) (t : Fin cfg0.N) (X) (h : (data m c).Leaves 5 t X) : X = k0_pay11 (iblk m c 2 (filled t.val)) := by
  have inner : ∀ (t : Fin cfg0.N) (Y X), t.val < 32 → (data m c).after 5 t Y X → X = k0_pay11 (iblk m c 2 (filled t.val)) := by
    intro t Y X hl hR
    rw [(after_5 m c t Y X).mp hR, show filled t.val = t from Fin.ext (by show min t.val 31 = t.val; omega)]
    exact if_pos hl
  have hn : t.val < 33 := lt_of_lt_of_eq t.isLt N_0
  obtain ⟨Y, hY, hR⟩ := h
  by_cases hl : t.val < 32
  · exact inner t Y X hl hR
  · have e : X = Y := ((after_5 m c t Y X).mp hR).trans (if_neg hl)
    have hb : t.val - 1 < cfg0.N := Nat.lt_of_le_of_lt (Nat.sub_le _ _) t.isLt
    rcases (RDat.finds_of_pos (data m c) (show (cfg0.win 5).fetch t = false from rfl) (by omega) Y).mp hY with hfl | ⟨Y', hY', hR'⟩
    · exact absurd (show t.val - 1 = 31 by omega) ((flush5 ⟨t.val - 1, hb⟩).mp hfl)
    · have e' := inner ⟨t.val - 1, hb⟩ Y' Y (by simp only []; omega) hR'
      rw [e, e', show filled (⟨t.val - 1, hb⟩ : Fin cfg0.N).val = filled t.val from Fin.ext (by show min (t.val - 1) 31 = min t.val 31; omega)]

theorem emb6_at (t : Fin cfg0.N) (i : Fin 128) (j : Fin 4096) (a : Fin 4096) (ha : a.val = 128 * min t.val 31 + i.val) :
    ((cfg0.win 6).blk t).view.emb (ix2 i j) = ix2 a j := by
  funext x
  apply Fin.ext
  match x with
  | ⟨0, _⟩ => show win0_6.index t 0 * 128 + 1 * i.val = a.val; rw [(at6 t).1]; omega
  | ⟨1, _⟩ => show win0_6.index t 1 * 4096 + 1 * j.val = j.val; rw [(at6 t).2]; omega

/-- Two points that write the cast weight back write separate blocks. -/
theorem disjoint6 : ∀ t t' : Fin cfg0.N, (cfg0.win 6).flush t = true → (cfg0.win 6).flush t' = true → t ≠ t' →
    Disjoint ((cfg0.win 6).blk t).view.set ((cfg0.win 6).blk t').view.set := by
  intro t t' hf hf' hne
  refine (cfg0.win 6).disjoint_blk fun h => hne (Fin.ext ?_)
  have p := (flush6 t).mp hf
  have p' := (flush6 t').mp hf'
  have n : t.val < 33 := lt_of_lt_of_eq t.isLt N_0
  have n' : t'.val < 33 := lt_of_lt_of_eq t'.isLt N_0
  have e0 : win0_6.index t 0 = win0_6.index t' 0 := congrFun h 0
  rw [(at6 t).1, (at6 t').1] at e0
  omega

/-- What a point leaves in the cast weight's block: its rows cast; the last point leaves the block of the point before it. -/
theorem left6 (c : Dev nD) (t : Fin cfg0.N) (X) (h : (data m c).Leaves 6 t X) : X = k0_pay12 (iblk m c 3 (filled t.val)) := by
  have inner : ∀ (t : Fin cfg0.N) (Y X), t.val < 32 → (data m c).after 6 t Y X → X = k0_pay12 (iblk m c 3 (filled t.val)) := by
    intro t Y X hl hR
    rw [(after_6 m c t Y X).mp hR, show filled t.val = t from Fin.ext (by show min t.val 31 = t.val; omega)]
    exact if_pos hl
  have hn : t.val < 33 := lt_of_lt_of_eq t.isLt N_0
  obtain ⟨Y, hY, hR⟩ := h
  by_cases hl : t.val < 32
  · exact inner t Y X hl hR
  · have e : X = Y := ((after_6 m c t Y X).mp hR).trans (if_neg hl)
    have hb : t.val - 1 < cfg0.N := Nat.lt_of_le_of_lt (Nat.sub_le _ _) t.isLt
    rcases (RDat.finds_of_pos (data m c) (show (cfg0.win 6).fetch t = false from rfl) (by omega) Y).mp hY with hfl | ⟨Y', hY', hR'⟩
    · exact absurd (show t.val - 1 = 31 by omega) ((flush6 ⟨t.val - 1, hb⟩).mp hfl)
    · have e' := inner ⟨t.val - 1, hb⟩ Y' Y (by simp only []; omega) hR'
      rw [e, e', show filled (⟨t.val - 1, hb⟩ : Fin cfg0.N).val = filled t.val from Fin.ext (by show min (t.val - 1) 31 = min t.val 31; omega)]

end Points

/-! ## What every final state holds -/

variable (m : (ℓ : Loc nD τ sig) → Buf (Elt Ideal) ℓ)

/-- The product of a row of the input and a row of the weight. -/
def productAt (x : FVec Ideal S8192x4096 .bf16) (w : FVec Ideal S4096x4096 .bf16) (a : Fin 8192) (b : Fin 4096) : EReal :=
  ∑ k : Fin 4096, x (ix2 a k) * w (ix2 b k)

/-- The output, an element each: the product of a row and a weight row. -/
def result (c : Dev nD) : Vec Ideal S8192x4096 .bf16 := fun x =>
  act (productAt (m ((c : Thread nD τ).loc main_arg0)) (m ((c : Thread nD τ).loc main_arg1)) (x 0) (x 1))

/-- Cast weight 0: the weight's rows from 4096 on. -/
def weight0 (c : Dev nD) : Vec Ideal S4096x4096 .bf16 := fun x =>
  (m ((c : Thread nD τ).loc main_arg2) : Vec Ideal S32832x4096 .f32) (ix2 ⟨4096 + (x 0).val, by have : (x 0).val < 4096 := (x 0).isLt; omega⟩ (x 1))

/-- Cast weight 1: the weight's rows. -/
def weight1 (c : Dev nD) : Vec Ideal S4096x4096 .bf16 := fun x =>
  (m ((c : Thread nD τ).loc main_arg3) : Vec Ideal S4096x4096 .f32) (ix2 (x 0) (x 1))

/-- The output, at the end. -/
theorem ends (c : Dev nD) (r : PUnit × MemSt nD τ sig (Elt Ideal)) (h : RDat.FramePost cfg0 (data m) (V m) r) :
    r.2.mem ((c : Thread nD τ).loc main_v0_0) = result m c := by
  obtain ⟨after, hL, hA⟩ := RDat.FramePost.exists_exact h c
  refine (hA 4).trans ?_
  funext x
  rw [eq_ix2 x]
  obtain ⟨a, ha⟩ : ∃ a : Fin 8192, a = x 0 := ⟨_, rfl⟩
  obtain ⟨b, hb⟩ : ∃ b : Fin 4096, b = x 1 := ⟨_, rfl⟩
  rw [← ha, ← hb]
  obtain ⟨t, ht⟩ : ∃ t : Fin cfg0.N, t.val = 8 * (b.val / 1024) + a.val / 1024 + 1 := ⟨⟨_, by rw [show cfg0.N = 33 from N_0]; omega⟩, rfl⟩
  obtain ⟨i, hi⟩ : ∃ i : Fin 1024, i.val = a.val % 1024 := ⟨⟨_, by omega⟩, rfl⟩
  obtain ⟨j, hj⟩ : ∃ j : Fin 1024, j.val = b.val % 1024 := ⟨⟨_, by omega⟩, rfl⟩
  have hf : (cfg0.win 4).flush t = true := (flush4 t).mpr (by omega)
  have e := congrFun (((data m c).withAfter after).read_blk_arrAt_eq_flushed 4 disjoint4 cfg0.N t t.isLt hf) (ix2 i j)
  rw [View.read_apply, emb4_at t i j a b (by omega) (by omega)] at e
  refine e.trans ?_
  obtain ⟨Y, hY, hR⟩ := hL 4 t hf
  have e' := (after_4 m c t Y _).mp hR (by omega)
  show (after 4 t : Vec Ideal S1024x1024 .bf16) (ix2 i j) = _
  rw [e']
  refine (tile_at _ _ i j).trans ?_
  have hp : (prodAt m c (t.val - 1) (ix2 i j) : EReal) = productAt (m ((c : Thread nD τ).loc main_arg0)) (m ((c : Thread nD τ).loc main_arg1)) a b := by
    have hv : (filled (t.val - 1)).val = t.val - 1 := by show min (t.val - 1) 31 = t.val - 1; omega
    refine (pay10_at _ _ i j).trans (Finset.sum_congr rfl fun k _ => ?_)
    rw [iblk0_at m c (filled (t.val - 1)) (by omega) i k a (by rw [hv]; omega), iblk1_at m c (filled (t.val - 1)) (by omega) j k b (by rw [hv]; omega)]
  rw [hp]
  rfl

/-- Cast weight 0, at the end. -/
theorem weight0_ends (c : Dev nD) (r : PUnit × MemSt nD τ sig (Elt Ideal)) (h : RDat.FramePost cfg0 (data m) (V m) r) :
    r.2.mem ((c : Thread nD τ).loc main_v0_1) = weight0 m c := by
  obtain ⟨after, hL, hA⟩ := RDat.FramePost.exists_exact h c
  refine (hA 5).trans ?_
  funext x
  rw [eq_ix2 x]
  obtain ⟨a, ha⟩ : ∃ a : Fin 4096, a = x 0 := ⟨_, rfl⟩
  obtain ⟨b, hb⟩ : ∃ b : Fin 4096, b = x 1 := ⟨_, rfl⟩
  rw [← ha, ← hb]
  obtain ⟨t, ht⟩ : ∃ t : Fin cfg0.N, t.val ≠ 31 ∧ min t.val 31 = a.val / 128 := by
    by_cases hl : a.val / 128 < 31
    · exact ⟨⟨a.val / 128, by rw [show cfg0.N = 33 from N_0]; omega⟩, by simp only []; omega, by simp only []; omega⟩
    · exact ⟨⟨32, by rw [show cfg0.N = 33 from N_0]; omega⟩, by simp only []; omega, by simp only []; omega⟩
  obtain ⟨i, hi⟩ : ∃ i : Fin 128, i.val = a.val % 128 := ⟨⟨_, by omega⟩, rfl⟩
  have hf : (cfg0.win 5).flush t = true := (flush5 t).mpr ht.1
  have e := congrFun (((data m c).withAfter after).read_blk_arrAt_eq_flushed 5 disjoint5 cfg0.N t t.isLt hf) (ix2 i b)
  rw [View.read_apply, emb5_at t i b a (by omega)] at e
  refine e.trans ?_
  show (after 5 t : Vec Ideal S128x4096 .bf16) (ix2 i b) = _
  rw [left5 m c t (after 5 t) (hL 5 t hf)]
  refine (pay11_at _ i b).trans ?_
  have hv : (filled t.val).val = min t.val 31 := rfl
  exact iblk2_at m c (filled t.val) (by omega) i b _ (by rw [hv]; show 4096 + a.val = _; omega)

/-- Cast weight 1, at the end. -/
theorem weight1_ends (c : Dev nD) (r : PUnit × MemSt nD τ sig (Elt Ideal)) (h : RDat.FramePost cfg0 (data m) (V m) r) :
    r.2.mem ((c : Thread nD τ).loc main_v0_2) = weight1 m c := by
  obtain ⟨after, hL, hA⟩ := RDat.FramePost.exists_exact h c
  refine (hA 6).trans ?_
  funext x
  rw [eq_ix2 x]
  obtain ⟨a, ha⟩ : ∃ a : Fin 4096, a = x 0 := ⟨_, rfl⟩
  obtain ⟨b, hb⟩ : ∃ b : Fin 4096, b = x 1 := ⟨_, rfl⟩
  rw [← ha, ← hb]
  obtain ⟨t, ht⟩ : ∃ t : Fin cfg0.N, t.val ≠ 31 ∧ min t.val 31 = a.val / 128 := by
    by_cases hl : a.val / 128 < 31
    · exact ⟨⟨a.val / 128, by rw [show cfg0.N = 33 from N_0]; omega⟩, by simp only []; omega, by simp only []; omega⟩
    · exact ⟨⟨32, by rw [show cfg0.N = 33 from N_0]; omega⟩, by simp only []; omega, by simp only []; omega⟩
  obtain ⟨i, hi⟩ : ∃ i : Fin 128, i.val = a.val % 128 := ⟨⟨_, by omega⟩, rfl⟩
  have hf : (cfg0.win 6).flush t = true := (flush6 t).mpr ht.1
  have e := congrFun (((data m c).withAfter after).read_blk_arrAt_eq_flushed 6 disjoint6 cfg0.N t t.isLt hf) (ix2 i b)
  rw [View.read_apply, emb6_at t i b a (by omega)] at e
  refine e.trans ?_
  show (after 6 t : Vec Ideal S128x4096 .bf16) (ix2 i b) = _
  rw [left6 m c t (after 6 t) (hL 6 t hf)]
  refine (pay12_at _ i b).trans ?_
  have hv : (filled t.val).val = min t.val 31 := rfl
  exact iblk3_at m c (filled t.val) (by omega) i b _ (by rw [hv]; show a.val = _; omega)

end Cert.PoolUIdeal.Words

namespace Cert.PoolUValue

open Idealize.ShloMosaic Idealize.ShloMosaic.TcCoe Idealize.SL.Sem

attribute [local instance] Cert.PoolU.Gen.facts Cert.PoolUIdeal.Gen.facts Cert.PoolUReferenceIdeal.Gen.facts

open Cert.PoolUReferenceIdeal Cert.PoolUReferenceIdeal.Gen in
/-- The reference's term, at a row and a column. -/
theorem ref_at (x : FVec Ideal S8192x4096 .bf16) (w : FVec Ideal S4096x4096 .bf16) (a : Fin 8192) (b : Fin 4096) :
    ((truncf .bf16 (Host.dotGeneral dot_S8192x4096_S4096x4096_S8192x4096_1_1_0_0_n_n none x w) bitsLt_bf16_f32 : FVec Ideal S8192x4096 .bf16) (ix2 a b) : EReal)
      = Cert.PoolUIdeal.Words.act (∑ k : Fin 4096, x (ix2 a k) * w (ix2 b k)) := by
  unfold Cert.PoolUIdeal.Words.act
  pointwise []

/-! ## At machine floats the call is the same text -/

theorem bodies : @Cert.PoolU.defs₀ Bits _ _ = @Cert.PoolUIdeal.defs₀ Bits _ _ := by
  unfold Cert.PoolU.defs₀ Cert.PoolUIdeal.defs₀
  refine congrArg Defs.onTc ?_
  funext l a
  match l, a with
  | ⟨0, _⟩, (t, s) => rfl
  | ⟨_ + 1, h⟩, _ => exact absurd h (Nat.not_lt.2 (Nat.le_add_left _ _))

theorem tables : @Cert.PoolU.defs Bits _ _ = @Cert.PoolUIdeal.defs Bits _ _ := by
  unfold Cert.PoolU.defs Cert.PoolUIdeal.defs
  rw [bodies]
  rfl

/-- The call at machine floats runs, leaves its arguments and ends with its semaphores at zero. -/
theorem frame_floats : Cert.quiescent_PoolU := fun m ρ _ => by
  have h := Cert.PoolULaunch.frame (F := Bits) m ρ
  rw [← tables] at h
  exact h

/-- The call over the reals runs, leaves its arguments and ends with its semaphores at zero. -/
theorem frame : Cert.quiescent_PoolUIdeal := fun m ρ _ => Cert.PoolULaunch.frame m ρ

/-- The reference runs, leaves its arguments and ends with its semaphores at zero: it has none. -/
theorem frame_reference : Cert.quiescent_PoolUReferenceIdeal := fun m ρ _ =>
  (θ_run Cert.PoolUReferenceIdeal.defs _ _).mono (fun r h => ⟨fun c => (h c).2.2.2, sem_eq_zero_of_no_sems (by decide) r.2⟩)
    (Cert.PoolUReferenceIdeal.Value.run (F := Ideal) m ρ)

/-- The call and its reference end with the same results. -/
theorem algebraic : Cert.algebraic_PoolUIdeal_PoolUReferenceIdeal := fun m ρ m' ρ' hp ha =>
  ⟨fun c => Cert.PoolUIdeal.Words.result m c, fun c => Cert.PoolUIdeal.Words.weight0 m c, fun c => Cert.PoolUIdeal.Words.weight1 m c,
    (θ_run Cert.PoolUIdeal.defs _ _).mono (fun r h c => ⟨Cert.PoolUIdeal.Words.ends m c r h.1, Cert.PoolUIdeal.Words.weight0_ends m c r h.1, Cert.PoolUIdeal.Words.weight1_ends m c r h.1, Cert.PoolULaunch.kept m r h.1 c⟩)
      (Cert.PoolULaunch.run_quiescent (F := Ideal) m ρ),
    (θ_run Cert.PoolUReferenceIdeal.defs _ _).mono (fun r h c => ⟨(h c).1.trans (by
        obtain ⟨e0, e1, e2, e3⟩ := ha c
        rw [e0, e1]
        funext x
        rw [eq_ix2 x]
        exact ref_at _ _ _ _), (h c).2.1.trans (by
        obtain ⟨e0, e1, e2, e3⟩ := ha c
        rw [e2]
        funext x
        refine congrArg (m ((c.tc : Thread Cert.PoolUIdeal.nD Cert.PoolUIdeal.τ).loc Cert.PoolUIdeal.main_arg2)) ?_
        funext y
        apply Fin.ext
        match y with
        | ⟨0, _⟩ => rfl
        | ⟨1, _⟩ => exact Nat.zero_add _), (h c).2.2.1.trans (by
        obtain ⟨e0, e1, e2, e3⟩ := ha c
        rw [e3]
        funext x
        exact congrArg (m ((c.tc : Thread Cert.PoolUIdeal.nD Cert.PoolUIdeal.τ).loc Cert.PoolUIdeal.main_arg3)) (eq_ix2 x)), (h c).2.2.2⟩)
      (Cert.PoolUReferenceIdeal.Value.run (F := Ideal) m' ρ')⟩

end Cert.PoolUValue

end
-- ==== Proof.PoolZLaunch.lean ====
/- The `proj_pool_z` call over the reals: what the body does at each grid point, what each point leaves in the output
   block, in the cast weights' blocks and in the accumulator, and what every final state holds. -/
module

public import proofs.«01_k».proof.Proof.Gen.PoolZIdeal.Frame
public import proofs.«01_k».proof.Proof.Gen.PoolZIdeal.Skeleton
public import Idealize.ShloMosaic.Lib.Tactic.Stretches
public import Idealize.ShloMosaic.Lib.VecWindow
public import Idealize.ShloMosaic.Lib.Pipeline.Value
public import Idealize.ShloMosaic.Lib.Pipeline.ArrRel

@[expose] public section

set_option maxRecDepth 16384

noncomputable section

namespace Cert.PoolZLaunch

open Cert.PoolZIdeal Cert.PoolZIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## The tests of the body -/

/-- The test of the first point. -/
abbrev first (i : grid0.Coords) : Prop := (Scalar.cmpi .ne (Scalar.extui (Scalar.cmpi .eq (BitVec.ofNat 32 (i 0).val) 0#32)) 0#32) = 1#1

theorem first_iff : ∀ t : Fin cfg0.N, first (grid0.coords t) ↔ t.val = 0 :=
  (by decide +kernel : ∀ t : Fin grid0.N, first (grid0.coords t) ↔ t.val = 0)
theorem inner_iff : ∀ t : Fin cfg0.N, k0_cond2 (grid0.coords t) = 1#1 ↔ t.val < 32 :=
  (by decide +kernel : ∀ t : Fin grid0.N, k0_cond2 (grid0.coords t) = 1#1 ↔ t.val < 32)
theorem last_iff : ∀ t : Fin cfg0.N, k0_cond3 (grid0.coords t) = 1#1 ↔ t.val = 32 :=
  (by decide +kernel : ∀ t : Fin grid0.N, k0_cond3 (grid0.coords t) = 1#1 ↔ t.val = 32)

/-! ## Short names -/

/-- The test of the first point, of a later one, of the last one. -/
abbrev AtA (i : grid0.Coords) : Prop := first i ∧ k0_cond2 i = 1#1 ∧ ¬k0_cond3 i = 1#1
abbrev AtB (i : grid0.Coords) : Prop := ¬first i ∧ k0_cond2 i = 1#1 ∧ ¬k0_cond3 i = 1#1
abbrev AtC (i : grid0.Coords) : Prop := ¬first i ∧ ¬k0_cond2 i = 1#1 ∧ k0_cond3 i = 1#1

/-- A block holds `x`. -/
abbrev own {S : Shape} {e : EltTy} (c : Dev nD) (r : Memref sig .tc .vmem S e) (x : Vec F S e) : sProp 𝕄 := owns (c : Thread nD τ) r fullShare x

/-- A block holds something with the pieces `L` written over it. -/
abbrev wrote {S : Shape} {e : EltTy} (c : Dev nD) (r : Memref sig .tc .vmem S e) (L : List (View.Piece (Elt F) S e)) : sProp 𝕄 :=
  iprop(∃ f, r.view.loc (c : Thread nD τ) ↦[r.view.set]{fullShare} r.view.writes (Elt F) f L)

/-- A block that held `y` has the pieces `L` written over it. -/
abbrev over {S : Shape} {e : EltTy} (c : Dev nD) {r : Memref sig .tc .vmem S e} (h : r.IsWhole) (y : Vec F S e) (L : List (View.Piece (Elt F) S e)) : sProp 𝕄 :=
  iprop(r.view.loc (c : Thread nD τ) ↦[r.view.set]{fullShare} r.view.writes (Elt F) (h.unread y) L)

section body

variable (c : Dev nD) (i : grid0.Coords) {arg1 : Memref sig .tc .vmem S1024x4096 .bf16} (harg1 : arg1.IsWhole) {arg2 : Memref sig .tc .vmem S1024x4096 .bf16} (harg2 : arg2.IsWhole) {arg3 : Memref sig .tc .vmem S128x4096 .f32} (harg3 : arg3.IsWhole) {arg4 : Memref sig .tc .vmem S128x4096 .f32} (harg4 : arg4.IsWhole) {arg5 : Memref sig .tc .vmem S1024x1024 .bf16} (harg5 : arg5.IsWhole) {arg6 : Memref sig .tc .vmem S128x4096 .bf16} (harg6 : arg6.IsWhole) {arg7 : Memref sig .tc .vmem S128x4096 .bf16} (harg7 : arg7.IsWhole) {arg8 : Memref sig .tc .vmem S1024x1024 .f32} (harg8 : arg8.IsWhole)
    (x0 : Vec F S1024x4096 .bf16) (x1 : Vec F S1024x4096 .bf16) (x2 : Vec F S128x4096 .f32) (x3 : Vec F S128x4096 .f32) (y : Vec F S1024x1024 .bf16) (s : Vec F S1024x1024 .f32)

set_option maxHeartbeats 2000000 in
/-- The first point: the body starts the accumulator, writes a block that is never written back, and makes the first tile and the first rows of the cast weights. -/
noncomputable def runA (hc : AtA i) :
    Σ' (L0 : List (View.Piece (Elt F) S128x4096 .bf16)), Σ' (L1 : List (View.Piece (Elt F) S128x4096 .bf16)), { LS : List (View.Piece (Elt F) S1024x1024 .f32) //
      ∀ (E : Set ℕ) (K : PUnit → sProp 𝕄),
        iprop(own c arg1 x0 ∗ own c arg2 x1 ∗ own c arg3 x2 ∗ own c arg4 x3 ∗ (∃ d, own c arg5 d) ∗ (∃ d, own c arg6 d) ∗ (∃ d, own c arg7 d) ∗ (∃ d, own c arg8 d) ∗ (iprop(own c arg1 x0 ∗ own c arg2 x1 ∗ own c arg3 x2 ∗ own c arg4 x3 ∗ (∃ d, own c arg5 d) ∗ wrote c arg6 L0 ∗ wrote c arg7 L1 ∗ wrote c arg8 LS) -∗ K ⟨⟩))
          ⊢ wp frame (wpE (defs₀ (F := F)) Variants.none c none) E (cc0_proj_pool_z i arg1 harg1 arg2 harg2 arg3 harg3 arg4 harg4 arg5 harg5 arg6 harg6 arg7 harg7 arg8 harg8) K } := by
  refine ⟨?_, ?_, ?_, fun E K => ?run⟩
  case run =>
    simp only [cc0_proj_pool_z_eq_skeleton]; unfold cc0_proj_pool_z_skel
    simp only [k0_part1_eq_skeleton]; unfold k0_part1_skel
    unfold own owns
    iintro ⟨⟨%f0, %hf0, H0⟩, ⟨%f1, %hf1, H1⟩, ⟨%f2, %hf2, H2⟩, ⟨%f3, %hf3, H3⟩, ⟨%yo, %fo, -, HO⟩, ⟨%yd0, %fd0, -, HD0⟩, ⟨%yd1, %fd1, -, HD1⟩, ⟨%ys, %fs, -, HS⟩, Hk⟩
    obtain rfl := harg1.eq_unread hf0
    obtain rfl := harg2.eq_unread hf1
    obtain rfl := harg3.eq_unread hf2
    obtain rfl := harg4.eq_unread hf3
    sl_exec (disch := first | sl_exact hc.1 | sl_exact hc.2.1 | sl_exact hc.2.2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO]
    · iexists _; iexists _; isplitr
      swap; · iexact HO
      ipureintro; rfl
    isplitl [HD0]; · iexists _; iexact HD0
    isplitl [HD1]; · iexists _; iexact HD1
    iexists _; iexact HS

set_option maxHeartbeats 2000000 in
/-- A later point before the last: the body writes the tile of the point before, then makes its own. -/
noncomputable def runB (hc : AtB i) :
    Σ' (L : List (View.Piece (Elt F) S1024x1024 .bf16)), Σ' (L0 : List (View.Piece (Elt F) S128x4096 .bf16)), Σ' (L1 : List (View.Piece (Elt F) S128x4096 .bf16)), { LS : List (View.Piece (Elt F) S1024x1024 .f32) //
      ∀ (E : Set ℕ) (K : PUnit → sProp 𝕄),
        iprop(own c arg1 x0 ∗ own c arg2 x1 ∗ own c arg3 x2 ∗ own c arg4 x3 ∗ own c arg5 y ∗ (∃ d, own c arg6 d) ∗ (∃ d, own c arg7 d) ∗ own c arg8 s ∗ (iprop(own c arg1 x0 ∗ own c arg2 x1 ∗ own c arg3 x2 ∗ own c arg4 x3 ∗ over c harg5 y L ∗ wrote c arg6 L0 ∗ wrote c arg7 L1 ∗ wrote c arg8 LS) -∗ K ⟨⟩))
          ⊢ wp frame (wpE (defs₀ (F := F)) Variants.none c none) E (cc0_proj_pool_z i arg1 harg1 arg2 harg2 arg3 harg3 arg4 harg4 arg5 harg5 arg6 harg6 arg7 harg7 arg8 harg8) K } := by
  refine ⟨?_, ?_, ?_, ?_, fun E K => ?run⟩
  case run =>
    simp only [cc0_proj_pool_z_eq_skeleton]; unfold cc0_proj_pool_z_skel
    simp only [k0_part1_eq_skeleton]; unfold k0_part1_skel
    unfold own owns
    iintro ⟨⟨%f0, %hf0, H0⟩, ⟨%f1, %hf1, H1⟩, ⟨%f2, %hf2, H2⟩, ⟨%f3, %hf3, H3⟩, ⟨%fo, %hfo, HO⟩, ⟨%yd0, %fd0, -, HD0⟩, ⟨%yd1, %fd1, -, HD1⟩, ⟨%fs, %hfs, HS⟩, Hk⟩
    obtain rfl := harg1.eq_unread hf0
    obtain rfl := harg2.eq_unread hf1
    obtain rfl := harg3.eq_unread hf2
    obtain rfl := harg4.eq_unread hf3
    obtain rfl := harg5.eq_unread hfo
    obtain rfl := harg8.eq_unread hfs
    sl_exec (disch := first | sl_exact hc.1 | sl_exact hc.2.1 | sl_exact hc.2.2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO]; · iexact HO
    isplitl [HD0]; · iexists _; iexact HD0
    isplitl [HD1]; · iexists _; iexact HD1
    iexists _; iexact HS

set_option maxHeartbeats 2000000 in
/-- The last point: the body writes the last tile. -/
noncomputable def runC (hc : AtC i) :
    { L : List (View.Piece (Elt F) S1024x1024 .bf16) //
      ∀ (E : Set ℕ) (K : PUnit → sProp 𝕄),
        iprop(own c arg5 y ∗ own c arg8 s ∗ (iprop(over c harg5 y L ∗ own c arg8 s) -∗ K ⟨⟩))
          ⊢ wp frame (wpE (defs₀ (F := F)) Variants.none c none) E (cc0_proj_pool_z i arg1 harg1 arg2 harg2 arg3 harg3 arg4 harg4 arg5 harg5 arg6 harg6 arg7 harg7 arg8 harg8) K } := by
  refine ⟨?_, fun E K => ?run⟩
  case run =>
    simp only [cc0_proj_pool_z_eq_skeleton]; unfold cc0_proj_pool_z_skel
    simp only [k0_part1_eq_skeleton]; unfold k0_part1_skel
    unfold own owns
    iintro ⟨⟨%fo, %hfo, HO⟩, ⟨%fs, %hfs, HS⟩, Hk⟩
    obtain rfl := harg5.eq_unread hfo
    obtain rfl := harg8.eq_unread hfs
    sl_exec (disch := first | sl_exact hc.1 | sl_exact hc.2.1 | sl_exact hc.2.2)
    sl_step
    iapply Hk
    isplitl [HO]; · iexact HO
    iexists _; isplitr; · ipureintro; exact harg8.read_unread _
    iexact HS

/-! ## What a point leaves -/

/-- An output block, from the accumulator: four bands of rows, one after the other. -/
def tile (s : Vec F S1024x1024 .f32) (y : Vec F S1024x1024 .bf16) : Vec F S1024x1024 .bf16 :=
  (VecWindow.put (VecWindow.put (VecWindow.put (VecWindow.put y ![0, 0] S256x1024.size (k0_pay3 (View.ld s (Rect.unit (s := S1024x1024) ![0, 0] S256x1024.size inb_S1024x1024_S256x1024_0_0)))) ![256, 0] S256x1024.size (k0_pay4 (View.ld s (Rect.unit (s := S1024x1024) ![256, 0] S256x1024.size inb_S1024x1024_S256x1024_256_0)))) ![512, 0] S256x1024.size (k0_pay5 (View.ld s (Rect.unit (s := S1024x1024) ![512, 0] S256x1024.size inb_S1024x1024_S256x1024_512_0)))) ![768, 0] S256x1024.size (k0_pay6 (View.ld s (Rect.unit (s := S1024x1024) ![768, 0] S256x1024.size inb_S1024x1024_S256x1024_768_0))))

theorem pieces_acc_A (hc : AtA i) :
    (runA (F := F) c i harg1 harg2 harg3 harg4 harg5 harg6 harg7 harg8 x0 x1 x2 x3 hc).2.2.1 = [⟨(Rect.unit (s := S1024x1024) ![0, 0] S1024x1024.size inb_S1024x1024_S1024x1024_0_0), k0_pay11 (View.ld (arg1.view.read (Elt F) (harg1.unread x0)) (Rect.unit (s := S1024x4096) ![0, 0] S1024x4096.size inb_S1024x4096_S1024x4096_0_0)) (View.ld (arg2.view.read (Elt F) (harg2.unread x1)) (Rect.unit (s := S1024x4096) ![0, 0] S1024x4096.size inb_S1024x4096_S1024x4096_0_0))⟩, ⟨(Rect.unit (s := S1024x1024) ![0, 0] S1024x1024.size inb_S1024x1024_S1024x1024_0_0), k0_pay1⟩] := by
  unfold runA
  sl_open_run
  sl_open_pay
  sl_kernel_rfl

/-- The accumulator afterwards: the product of the point's rows and weight rows. -/
theorem acc_A (hc : AtA i) (f : arg8.view.ty.Contents (Elt F)) :
    arg8.view.read (Elt F) (arg8.view.writes (Elt F) f (runA (F := F) c i harg1 harg2 harg3 harg4 harg5 harg6 harg7 harg8 x0 x1 x2 x3 hc).2.2.1) = k0_pay11 x0 x1 := by
  have hz : (![0, 0] : Fin 2 → ℕ) = fun _ => 0 := funext fun a => by fin_cases a <;> rfl
  rw [pieces_acc_A, View.read_writes_full]
  simp only [Memref.IsWhole.read_unread]
  rw [View.ld_unit_zero (S := S1024x4096) hz, View.ld_unit_zero (S := S1024x4096) hz]

theorem pieces_cast0_A (hc : AtA i) :
    (runA (F := F) c i harg1 harg2 harg3 harg4 harg5 harg6 harg7 harg8 x0 x1 x2 x3 hc).1 = [⟨(Rect.unit (s := S128x4096) ![0, 0] S128x4096.size inb_S128x4096_S128x4096_0_0), k0_pay12 (View.ld (arg3.view.read (Elt F) (harg3.unread x2)) (Rect.unit (s := S128x4096) ![0, 0] S128x4096.size inb_S128x4096_S128x4096_0_0))⟩] := by
  unfold runA
  sl_open_run
  sl_open_pay
  sl_kernel_rfl

/-- The cast weight's block afterwards: the weight's rows, cast. -/
theorem cast0_A (hc : AtA i) (f : arg6.view.ty.Contents (Elt F)) :
    arg6.view.read (Elt F) (arg6.view.writes (Elt F) f (runA (F := F) c i harg1 harg2 harg3 harg4 harg5 harg6 harg7 harg8 x0 x1 x2 x3 hc).1) = k0_pay12 x2 := by
  have hz : (![0, 0] : Fin 2 → ℕ) = fun _ => 0 := funext fun a => by fin_cases a <;> rfl
  rw [pieces_cast0_A, View.read_writes_full]
  simp only [Memref.IsWhole.read_unread]
  rw [View.ld_unit_zero (S := S128x4096) hz]

theorem pieces_cast1_A (hc : AtA i) :
    (runA (F := F) c i harg1 harg2 harg3 harg4 harg5 harg6 harg7 harg8 x0 x1 x2 x3 hc).2.1 = [⟨(Rect.unit (s := S128x4096) ![0, 0] S128x4096.size inb_S128x4096_S128x4096_0_0), k0_pay2 (View.ld (arg4.view.read (Elt F) (harg4.unread x3)) (Rect.unit (s := S128x4096) ![0, 0] S128x4096.size inb_S128x4096_S128x4096_0_0))⟩] := by
  unfold runA
  sl_open_run
  sl_open_pay
  sl_kernel_rfl

/-- The cast weight's block afterwards: the weight's rows, cast. -/
theorem cast1_A (hc : AtA i) (f : arg7.view.ty.Contents (Elt F)) :
    arg7.view.read (Elt F) (arg7.view.writes (Elt F) f (runA (F := F) c i harg1 harg2 harg3 harg4 harg5 harg6 harg7 harg8 x0 x1 x2 x3 hc).2.1) = k0_pay2 x3 := by
  have hz : (![0, 0] : Fin 2 → ℕ) = fun _ => 0 := funext fun a => by fin_cases a <;> rfl
  rw [pieces_cast1_A, View.read_writes_full]
  simp only [Memref.IsWhole.read_unread]
  rw [View.ld_unit_zero (S := S128x4096) hz]

theorem pieces_acc_B (hc : AtB i) :
    (runB (F := F) c i harg1 harg2 harg3 harg4 harg5 harg6 harg7 harg8 x0 x1 x2 x3 y s hc).2.2.2.1 = [⟨(Rect.unit (s := S1024x1024) ![0, 0] S1024x1024.size inb_S1024x1024_S1024x1024_0_0), k0_pay11 (View.ld (arg1.view.read (Elt F) (harg1.unread x0)) (Rect.unit (s := S1024x4096) ![0, 0] S1024x4096.size inb_S1024x4096_S1024x4096_0_0)) (View.ld (arg2.view.read (Elt F) (harg2.unread x1)) (Rect.unit (s := S1024x4096) ![0, 0] S1024x4096.size inb_S1024x4096_S1024x4096_0_0))⟩] := by
  unfold runB
  sl_open_run
  sl_open_pay
  sl_kernel_rfl

/-- The accumulator afterwards: the product of the point's rows and weight rows. -/
theorem acc_B (hc : AtB i) (f : arg8.view.ty.Contents (Elt F)) :
    arg8.view.read (Elt F) (arg8.view.writes (Elt F) f (runB (F := F) c i harg1 harg2 harg3 harg4 harg5 harg6 harg7 harg8 x0 x1 x2 x3 y s hc).2.2.2.1) = k0_pay11 x0 x1 := by
  have hz : (![0, 0] : Fin 2 → ℕ) = fun _ => 0 := funext fun a => by fin_cases a <;> rfl
  rw [pieces_acc_B, View.read_writes_full]
  simp only [Memref.IsWhole.read_unread]
  rw [View.ld_unit_zero (S := S1024x4096) hz, View.ld_unit_zero (S := S1024x4096) hz]

theorem pieces_cast0_B (hc : AtB i) :
    (runB (F := F) c i harg1 harg2 harg3 harg4 harg5 harg6 harg7 harg8 x0 x1 x2 x3 y s hc).2.1 = [⟨(Rect.unit (s := S128x4096) ![0, 0] S128x4096.size inb_S128x4096_S128x4096_0_0), k0_pay12 (View.ld (arg3.view.read (Elt F) (harg3.unread x2)) (Rect.unit (s := S128x4096) ![0, 0] S128x4096.size inb_S128x4096_S128x4096_0_0))⟩] := by
  unfold runB
  sl_open_run
  sl_open_pay
  sl_kernel_rfl

/-- The cast weight's block afterwards: the weight's rows, cast. -/
theorem cast0_B (hc : AtB i) (f : arg6.view.ty.Contents (Elt F)) :
    arg6.view.read (Elt F) (arg6.view.writes (Elt F) f (runB (F := F) c i harg1 harg2 harg3 harg4 harg5 harg6 harg7 harg8 x0 x1 x2 x3 y s hc).2.1) = k0_pay12 x2 := by
  have hz : (![0, 0] : Fin 2 → ℕ) = fun _ => 0 := funext fun a => by fin_cases a <;> rfl
  rw [pieces_cast0_B, View.read_writes_full]
  simp only [Memref.IsWhole.read_unread]
  rw [View.ld_unit_zero (S := S128x4096) hz]

theorem pieces_cast1_B (hc : AtB i) :
    (runB (F := F) c i harg1 harg2 harg3 harg4 harg5 harg6 harg7 harg8 x0 x1 x2 x3 y s hc).2.2.1 = [⟨(Rect.unit (s := S128x4096) ![0, 0] S128x4096.size inb_S128x4096_S128x4096_0_0), k0_pay2 (View.ld (arg4.view.read (Elt F) (harg4.unread x3)) (Rect.unit (s := S128x4096) ![0, 0] S128x4096.size inb_S128x4096_S128x4096_0_0))⟩] := by
  unfold runB
  sl_open_run
  sl_open_pay
  sl_kernel_rfl

/-- The cast weight's block afterwards: the weight's rows, cast. -/
theorem cast1_B (hc : AtB i) (f : arg7.view.ty.Contents (Elt F)) :
    arg7.view.read (Elt F) (arg7.view.writes (Elt F) f (runB (F := F) c i harg1 harg2 harg3 harg4 harg5 harg6 harg7 harg8 x0 x1 x2 x3 y s hc).2.2.1) = k0_pay2 x3 := by
  have hz : (![0, 0] : Fin 2 → ℕ) = fun _ => 0 := funext fun a => by fin_cases a <;> rfl
  rw [pieces_cast1_B, View.read_writes_full]
  simp only [Memref.IsWhole.read_unread]
  rw [View.ld_unit_zero (S := S128x4096) hz]

theorem pieces_out_B (hc : AtB i) :
    (runB (F := F) c i harg1 harg2 harg3 harg4 harg5 harg6 harg7 harg8 x0 x1 x2 x3 y s hc).1 = [⟨(Rect.unit (s := S1024x1024) ![768, 0] S256x1024.size inb_S1024x1024_S256x1024_768_0), k0_pay10 (View.ld (arg8.view.read (Elt F) (harg8.unread s)) (Rect.unit (s := S1024x1024) ![768, 0] S256x1024.size inb_S1024x1024_S256x1024_768_0))⟩, ⟨(Rect.unit (s := S1024x1024) ![512, 0] S256x1024.size inb_S1024x1024_S256x1024_512_0), k0_pay9 (View.ld (arg8.view.read (Elt F) (harg8.unread s)) (Rect.unit (s := S1024x1024) ![512, 0] S256x1024.size inb_S1024x1024_S256x1024_512_0))⟩, ⟨(Rect.unit (s := S1024x1024) ![256, 0] S256x1024.size inb_S1024x1024_S256x1024_256_0), k0_pay8 (View.ld (arg8.view.read (Elt F) (harg8.unread s)) (Rect.unit (s := S1024x1024) ![256, 0] S256x1024.size inb_S1024x1024_S256x1024_256_0))⟩, ⟨(Rect.unit (s := S1024x1024) ![0, 0] S256x1024.size inb_S1024x1024_S256x1024_0_0), k0_pay7 (View.ld (arg8.view.read (Elt F) (harg8.unread s)) (Rect.unit (s := S1024x1024) ![0, 0] S256x1024.size inb_S1024x1024_S256x1024_0_0))⟩] := by
  unfold runB
  sl_open_run
  sl_open_pay
  sl_kernel_rfl

/-- The output block afterwards: the accumulator's tile. -/
theorem out_B (hc : AtB i) :
    arg5.view.read (Elt F) (arg5.view.writes (Elt F) (harg5.unread y) (runB (F := F) c i harg1 harg2 harg3 harg4 harg5 harg6 harg7 harg8 x0 x1 x2 x3 y s hc).1) = tile s y := by
  rw [pieces_out_B]
  rw [View.read_writes_cons_put _ _ _ _ _ rfl, View.read_writes_cons_put _ _ _ _ _ rfl, View.read_writes_cons_put _ _ _ _ _ rfl, View.read_writes_cons_put _ _ _ _ _ rfl, View.writes_nil]
  simp only [Memref.IsWhole.read_unread]
  rfl

theorem pieces_out_C (hc : AtC i) :
    (runC (F := F) c i harg1 harg2 harg3 harg4 harg5 harg6 harg7 harg8  y s hc).1 = [⟨(Rect.unit (s := S1024x1024) ![768, 0] S256x1024.size inb_S1024x1024_S256x1024_768_0), k0_pay6 (View.ld (arg8.view.read (Elt F) (harg8.unread s)) (Rect.unit (s := S1024x1024) ![768, 0] S256x1024.size inb_S1024x1024_S256x1024_768_0))⟩, ⟨(Rect.unit (s := S1024x1024) ![512, 0] S256x1024.size inb_S1024x1024_S256x1024_512_0), k0_pay5 (View.ld (arg8.view.read (Elt F) (harg8.unread s)) (Rect.unit (s := S1024x1024) ![512, 0] S256x1024.size inb_S1024x1024_S256x1024_512_0))⟩, ⟨(Rect.unit (s := S1024x1024) ![256, 0] S256x1024.size inb_S1024x1024_S256x1024_256_0), k0_pay4 (View.ld (arg8.view.read (Elt F) (harg8.unread s)) (Rect.unit (s := S1024x1024) ![256, 0] S256x1024.size inb_S1024x1024_S256x1024_256_0))⟩, ⟨(Rect.unit (s := S1024x1024) ![0, 0] S256x1024.size inb_S1024x1024_S256x1024_0_0), k0_pay3 (View.ld (arg8.view.read (Elt F) (harg8.unread s)) (Rect.unit (s := S1024x1024) ![0, 0] S256x1024.size inb_S1024x1024_S256x1024_0_0))⟩] := by
  unfold runC
  sl_open_run
  sl_open_pay
  sl_kernel_rfl

/-- The output block afterwards: the accumulator's tile. -/
theorem out_C (hc : AtC i) :
    arg5.view.read (Elt F) (arg5.view.writes (Elt F) (harg5.unread y) (runC (F := F) c i harg1 harg2 harg3 harg4 harg5 harg6 harg7 harg8  y s hc).1) = tile s y := by
  rw [pieces_out_C]
  rw [View.read_writes_cons_put _ _ _ _ _ rfl, View.read_writes_cons_put _ _ _ _ _ rfl, View.read_writes_cons_put _ _ _ _ _ rfl, View.read_writes_cons_put _ _ _ _ _ rfl, View.writes_nil]
  simp only [Memref.IsWhole.read_unread]
  rfl

end body

variable (m : (ℓ : Loc nD τ sig) → Buf (Elt F) ℓ) (ρ : Dev nD → PrngReg)

/-! ## The launch -/

abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x4096 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x4096 .bf16 := win0_6.stage (cfg0.slots t 6)
abbrev hs0_6 (t : Fin cfg0.N) : (ms0_6 t).IsWhole := hstage0_6 ((cfg0.slots t 6).cast nbuf0_6)
/-- The accumulator, whole. -/
abbrev scM0_0 : Memref sig .tc .vmem S1024x1024 .f32 := Memref.whole cc0_scratch0
abbrev wh0 : scM0_0.IsWhole := Memref.isWhole_whole _

/-- The invariant a launch starts from, at this kernel's one scratch array. -/
theorem start_eq (c : Dev nD) :
    (Pipeline.ΦA spec0 c : sProp 𝕄)
      = iprop(iprop((∃ d, own c scM0_0 d)) ∗ (∃ r, prngReg c r)) := by
  unfold Pipeline.ΦA; rw [scopedRest0_eq]; simp only [own, scM0_0, owns_whole]; try rfl

/-- The point below 32 that filled the accumulator after point `n`. -/
def filled (n : ℕ) : Fin cfg0.N := ⟨min n 31, lt_of_lt_of_eq (by omega : min n 31 < 33) N_0.symm⟩

/-- The accumulator after point `n`. -/
def prodAt (c : Dev nD) (n : ℕ) : Vec F S1024x1024 .f32 := k0_pay11 (iblk m c 0 (filled n)) (iblk m c 1 (filled n))

theorem prodAt_inner (c : Dev nD) (t : Fin cfg0.N) (h : t.val < 32) : prodAt m c t.val = k0_pay11 (iblk m c 0 t) (iblk m c 1 t) := by
  have e : filled t.val = t := Fin.ext (by show min t.val 31 = t.val; omega)
  unfold prodAt
  rw [e]

theorem prodAt_last (c : Dev nD) (t : Fin cfg0.N) (h : t.val = 32) : prodAt m c t.val = prodAt m c (t.val - 1) := by
  have e : filled t.val = filled (t.val - 1) := Fin.ext (by show min t.val 31 = min (t.val - 1) 31; omega)
  unfold prodAt
  rw [e]

/-- What point `t` leaves in the block of cast weight 0: the weight's rows, cast, and at the last point what it found. -/
def cast0At (c : Dev nD) (t : Fin cfg0.N) (y : Vec F S128x4096 .bf16) : Vec F S128x4096 .bf16 :=
  if t.val < 32 then k0_pay12 (iblk m c 2 t) else y

/-- What point `t` leaves in the block of cast weight 1: the weight's rows, cast, and at the last point what it found. -/
def cast1At (c : Dev nD) (t : Fin cfg0.N) (y : Vec F S128x4096 .bf16) : Vec F S128x4096 .bf16 :=
  if t.val < 32 then k0_pay2 (iblk m c 3 t) else y

/-- The invariant before point `n`: the accumulator at what the point before left. -/
def PhiS (c : Dev nD) : ℕ → sProp 𝕄
  | 0 => Pipeline.ΦA spec0 c
  | n + 1 => iprop(iprop(own c scM0_0 (prodAt m c n)) ∗ (∃ r, prngReg c r))

theorem PhiS_succ (c : Dev nD) (n : ℕ) :
    PhiS m c (n + 1) = iprop(iprop(own c scM0_0 (prodAt m c n)) ∗ (∃ r, prngReg c r)) := rfl
theorem PhiS_pos (c : Dev nD) (n : ℕ) (hz : n ≠ 0) :
    PhiS m c n = iprop(iprop(own c scM0_0 (prodAt m c (n - 1))) ∗ (∃ r, prngReg c r)) := by
  cases n with
  | zero => exact absurd rfl hz
  | succ n => rfl

/-- The launch's proof data: the inputs' buffers stay as they are; from the second point on the output's becomes the tile of
    the point before; the cast weights' become their rows, cast. -/
def data (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => t.val ≠ 0 → X = tile (prodAt m c (t.val - 1)) Y
    | ⟨5, _⟩ => fun Y X => X = cast0At m c t Y
    | ⟨6, _⟩ => fun Y X => X = cast1At m c t Y
  Φ t := PhiS m c t.val
  q _ := fullShare
  owed _ := 0

theorem A_eq (c : Dev nD) (w : Fin cfg0.W) : (data m c).A w = V m c (Pipeline.arrRef spec0 w) := by
  dsimp only [data]
theorem after_0 (c : Dev nD) (t : Fin cfg0.N) (Y X) : (data m c).after 0 t Y X ↔ X = Y := by dsimp only [data]; exact Iff.rfl
theorem after_1 (c : Dev nD) (t : Fin cfg0.N) (Y X) : (data m c).after 1 t Y X ↔ X = Y := by dsimp only [data]; exact Iff.rfl
theorem after_2 (c : Dev nD) (t : Fin cfg0.N) (Y X) : (data m c).after 2 t Y X ↔ X = Y := by dsimp only [data]; exact Iff.rfl
theorem after_3 (c : Dev nD) (t : Fin cfg0.N) (Y X) : (data m c).after 3 t Y X ↔ X = Y := by dsimp only [data]; exact Iff.rfl
theorem after_4 (c : Dev nD) (t : Fin cfg0.N) (Y X) : (data m c).after 4 t Y X ↔ (t.val ≠ 0 → X = tile (prodAt m c (t.val - 1)) Y) := by dsimp only [data]; exact Iff.rfl
theorem after_5 (c : Dev nD) (t : Fin cfg0.N) (Y X) : (data m c).after 5 t Y X ↔ X = cast0At m c t Y := by dsimp only [data]; exact Iff.rfl
theorem after_6 (c : Dev nD) (t : Fin cfg0.N) (Y X) : (data m c).after 6 t Y X ↔ X = cast1At m c t Y := by dsimp only [data]; exact Iff.rfl

/-- Input 0's buffer holds its block at every point. -/
theorem finds_0 (c : Dev nD) (t : Fin cfg0.N) (Y) (h : (data m c).Finds 0 t Y) : Y = iblk m c 0 t := by
  obtain ⟨d, rfl⟩ := (data m c).finds_in_eq_fetched 0 rfl (fun _ _ _ => rfl) (fun t Y X h => (after_0 m c t Y X).mp h) t Y h
  unfold RDat.fetched RDat.blockOf iblk; rw [A_eq]; try rfl

/-- Input 1's buffer holds its block at every point. -/
theorem finds_1 (c : Dev nD) (t : Fin cfg0.N) (Y) (h : (data m c).Finds 1 t Y) : Y = iblk m c 1 t := by
  obtain ⟨d, rfl⟩ := (data m c).finds_in_eq_fetched 1 rfl (fun _ _ _ => rfl) (fun t Y X h => (after_1 m c t Y X).mp h) t Y h
  unfold RDat.fetched RDat.blockOf iblk; rw [A_eq]; try rfl

/-- Input 2's buffer holds its block at every point. -/
theorem finds_2 (c : Dev nD) (t : Fin cfg0.N) (Y) (h : (data m c).Finds 2 t Y) : Y = iblk m c 2 t := by
  obtain ⟨d, rfl⟩ := (data m c).finds_in_eq_fetched 2 rfl (fun _ _ _ => rfl) (fun t Y X h => (after_2 m c t Y X).mp h) t Y h
  unfold RDat.fetched RDat.blockOf iblk; rw [A_eq]; try rfl

/-- Input 3's buffer holds its block at every point. -/
theorem finds_3 (c : Dev nD) (t : Fin cfg0.N) (Y) (h : (data m c).Finds 3 t Y) : Y = iblk m c 3 t := by
  obtain ⟨d, rfl⟩ := (data m c).finds_in_eq_fetched 3 rfl (fun _ _ _ => rfl) (fun t Y X h => (after_3 m c t Y X).mp h) t Y h
  unfold RDat.fetched RDat.blockOf iblk; rw [A_eq]; try rfl

/-! ## The body at a point -/

/-- What the body is called with at a point, the outputs' buffers at `y` and `z`. -/
def bodyPre (c : Dev nD) (t : Fin cfg0.N) (y : Vec F S1024x1024 .bf16) (z0 : Vec F S128x4096 .bf16) (z1 : Vec F S128x4096 .bf16) : sProp 𝕄 :=
  iprop((data m c).Φ t.castSucc ∗ (data m c).owesAt () t.castSucc
    ∗ own c (ms0_0 t) (iblk m c 0 t) ∗ own c (ms0_1 t) (iblk m c 1 t) ∗ own c (ms0_2 t) (iblk m c 2 t) ∗ own c (ms0_3 t) (iblk m c 3 t)
    ∗ own c (ms0_4 t) y
    ∗ own c (ms0_5 t) z0 ∗ own c (ms0_6 t) z1)

/-- What it returns. -/
def bodyPost (c : Dev nD) (t : Fin cfg0.N) (y : Vec F S1024x1024 .bf16) (z0 : Vec F S128x4096 .bf16) (z1 : Vec F S128x4096 .bf16) : sProp 𝕄 :=
  iprop((data m c).Φ t.succ ∗ (data m c).owesAt () t.succ
    ∗ own c (ms0_0 t) (iblk m c 0 t) ∗ own c (ms0_1 t) (iblk m c 1 t) ∗ own c (ms0_2 t) (iblk m c 2 t) ∗ own c (ms0_3 t) (iblk m c 3 t)
    ∗ (∃ X, ⌜t.val ≠ 0 → X = tile (prodAt m c (t.val - 1)) y⌝ ∗ own c (ms0_4 t) X)
    ∗ own c (ms0_5 t) (cast0At m c t z0) ∗ own c (ms0_6 t) (cast1At m c t z1))

set_option maxHeartbeats 4800000 in
/-- The body at any point. -/
theorem sound_body (c : Dev nD) (t : Fin cfg0.N) (y : Vec F S1024x1024 .bf16) (z0 : Vec F S128x4096 .bf16) (z1 : Vec F S128x4096 .bf16) :
    bodyPre m c t y z0 z1 ⊢ wp frame (wpE (defs₀ (F := F)) Variants.none c none) Set.univ (bodyAt0 t) (fun _ => bodyPost m c t y z0 z1) := by
  have hN : t.val < 33 := lt_of_lt_of_eq t.isLt N_0
  unfold bodyPre bodyPost bodyAt0
  rw [show (data m c).owesAt () t.succ = (data m c).owesAt () t.castSucc from rfl]
  rw [show (data m c).Φ t.succ = PhiS m c (t.val + 1) from rfl, PhiS_succ, show (data m c).Φ t.castSucc = PhiS m c t.val from rfl]
  by_cases h1 : t.val < 32
  · have h2 : ¬t.val = 32 := by omega
    rw [show cast0At m c t z0 = k0_pay12 (iblk m c 2 t) from if_pos h1, show cast1At m c t z1 = k0_pay2 (iblk m c 3 t) from if_pos h1, prodAt_inner m c t h1]
    by_cases h0 : t.val = 0
    · rw [show PhiS m c t.val = Pipeline.ΦA spec0 c from by rw [h0]; rfl, start_eq]
      iintro ⟨⟨HS, Hg⟩, Ho, H0, H1, H2, H3, HO, HD0, HD1⟩
      iapply ((runA (F := F) c (grid0.coords t) (hs0_0 t) (hs0_1 t) (hs0_2 t) (hs0_3 t) (hs0_4 t) (hs0_5 t) (hs0_6 t) wh0 (iblk m c 0 t) (iblk m c 1 t) (iblk m c 2 t) (iblk m c 3 t)  ⟨((first_iff t).mpr h0), ((inner_iff t).mpr h1), (fun h => h2 ((last_iff t).mp h))⟩).2.2.2 Set.univ _)
      isplitl [H0]; · iexact H0
      isplitl [H1]; · iexact H1
      isplitl [H2]; · iexact H2
      isplitl [H3]; · iexact H3
      isplitl [HO]; · iexists _; iexact HO
      isplitl [HD0]; · iexists _; iexact HD0
      isplitl [HD1]; · iexists _; iexact HD1
      isplitl [HS]; · iexact HS
      iintro ⟨H0, H1, H2, H3, ⟨%yo, HO⟩, ⟨%e0, HD0⟩, ⟨%e1, HD1⟩, ⟨%es, HS⟩⟩
      isplitl [HS Hg]
      · isplitl [HS]
        · unfold own owns; iexists _; isplitr
          swap; · iexact HS
          ipureintro; exact acc_A ..
        iexact Hg
      isplitl [Ho]; · iexact Ho
      isplitl [H0]; · iexact H0
      isplitl [H1]; · iexact H1
      isplitl [H2]; · iexact H2
      isplitl [H3]; · iexact H3
      isplitl [HO]
      · iexists _; isplitr
        swap; · iexact HO
        ipureintro; exact fun h => absurd h0 h
      isplitl [HD0]
      · unfold own owns; iexists _; isplitr
        swap; · iexact HD0
        ipureintro; exact cast0_A ..
      unfold own owns; iexists _; isplitr
      swap; · iexact HD1
      ipureintro; exact cast1_A ..
    · rw [PhiS_pos m c _ h0]
      iintro ⟨⟨HS, Hg⟩, Ho, H0, H1, H2, H3, HO, HD0, HD1⟩
      iapply ((runB (F := F) c (grid0.coords t) (hs0_0 t) (hs0_1 t) (hs0_2 t) (hs0_3 t) (hs0_4 t) (hs0_5 t) (hs0_6 t) wh0 (iblk m c 0 t) (iblk m c 1 t) (iblk m c 2 t) (iblk m c 3 t) y (prodAt m c (t.val - 1)) ⟨(fun h => h0 ((first_iff t).mp h)), ((inner_iff t).mpr h1), (fun h => h2 ((last_iff t).mp h))⟩).2.2.2.2 Set.univ _)
      isplitl [H0]; · iexact H0
      isplitl [H1]; · iexact H1
      isplitl [H2]; · iexact H2
      isplitl [H3]; · iexact H3
      isplitl [HO]; · iexact HO
      isplitl [HD0]; · iexists _; iexact HD0
      isplitl [HD1]; · iexists _; iexact HD1
      isplitl [HS]; · iexact HS
      iintro ⟨H0, H1, H2, H3, HO, ⟨%e0, HD0⟩, ⟨%e1, HD1⟩, ⟨%es, HS⟩⟩
      isplitl [HS Hg]
      · isplitl [HS]
        · unfold own owns; iexists _; isplitr
          swap; · iexact HS
          ipureintro; exact acc_B ..
        iexact Hg
      isplitl [Ho]; · iexact Ho
      isplitl [H0]; · iexact H0
      isplitl [H1]; · iexact H1
      isplitl [H2]; · iexact H2
      isplitl [H3]; · iexact H3
      isplitl [HO]
      · iexists _; isplitr
        swap
        · unfold own owns; iexists _; isplitr
          swap; · iexact HO
          ipureintro; exact out_B ..
        ipureintro; exact fun _ => rfl
      isplitl [HD0]
      · unfold own owns; iexists _; isplitr
        swap; · iexact HD0
        ipureintro; exact cast0_B ..
      unfold own owns; iexists _; isplitr
      swap; · iexact HD1
      ipureintro; exact cast1_B ..
  · have h2 : t.val = 32 := by omega
    have h0 : ¬t.val = 0 := by omega
    rw [show cast0At m c t z0 = z0 from if_neg h1, show cast1At m c t z1 = z1 from if_neg h1, prodAt_last m c t h2, PhiS_pos m c _ h0]
    iintro ⟨⟨HS, Hg⟩, Ho, H0, H1, H2, H3, HO, HD0, HD1⟩
    iapply ((runC (F := F) c (grid0.coords t) (hs0_0 t) (hs0_1 t) (hs0_2 t) (hs0_3 t) (hs0_4 t) (hs0_5 t) (hs0_6 t) wh0 y (prodAt m c (t.val - 1)) ⟨(fun h => h0 ((first_iff t).mp h)), (fun h => h1 ((inner_iff t).mp h)), ((last_iff t).mpr h2)⟩).2 Set.univ _)
    isplitl [HO]; · iexact HO
    isplitl [HS]; · iexact HS
    iintro ⟨HO, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [HO]
    · iexists _; isplitr
      swap
      · unfold own owns; iexists _; isplitr
        swap; · iexact HO
        ipureintro; exact out_C ..
      ipureintro; exact fun _ => rfl
    isplitl [HD0]; · iexact HD0
    iexact HD1

/-- The body table's row at a point is the body as called there. -/
theorem defs₀_row (t : Fin cfg0.N) :
    defs₀ (F := F) .tc cfg0.body (cfg0.bodyArgs t (cfg0.slots t)) = bodyAt0 t := by
  unfold defs₀; rw [Defs.onTc_tc]

/-- What a point returns is what the proof data asks for. -/
theorem post_restated (c : Dev nD) (t : Fin cfg0.N) (y : Vec F S1024x1024 .bf16) (z0 : Vec F S128x4096 .bf16) (z1 : Vec F S128x4096 .bf16) :
    bodyPost m c t y z0 z1 ⊢ iprop((data m c).Φ t.succ ∗ (data m c).owesAt () t.succ
      ∗ (∃ X, ⌜(data m c).after 0 t (iblk m c 0 t) X⌝ ∗ own c (ms0_0 t) X)
      ∗ (∃ X, ⌜(data m c).after 1 t (iblk m c 1 t) X⌝ ∗ own c (ms0_1 t) X)
      ∗ (∃ X, ⌜(data m c).after 2 t (iblk m c 2 t) X⌝ ∗ own c (ms0_2 t) X)
      ∗ (∃ X, ⌜(data m c).after 3 t (iblk m c 3 t) X⌝ ∗ own c (ms0_3 t) X)
      ∗ (∃ X, ⌜(data m c).after 4 t y X⌝ ∗ own c (ms0_4 t) X)
      ∗ (∃ X, ⌜(data m c).after 5 t z0 X⌝ ∗ own c (ms0_5 t) X)
      ∗ (∃ X, ⌜(data m c).after 6 t z1 X⌝ ∗ own c (ms0_6 t) X)) := by
  unfold bodyPost
  iintro ⟨Hp, Ho, H0, H1, H2, H3, ⟨%X, %hX, HO⟩, HD0, HD1⟩
  isplitl [Hp]; · iexact Hp
  isplitl [Ho]; · iexact Ho
  isplitl [H0]
  · iexists _; isplitr
    swap; · iexact H0
    ipureintro; exact (after_0 m c t _ _).mpr rfl
  isplitl [H1]
  · iexists _; isplitr
    swap; · iexact H1
    ipureintro; exact (after_1 m c t _ _).mpr rfl
  isplitl [H2]
  · iexists _; isplitr
    swap; · iexact H2
    ipureintro; exact (after_2 m c t _ _).mpr rfl
  isplitl [H3]
  · iexists _; isplitr
    swap; · iexact H3
    ipureintro; exact (after_3 m c t _ _).mpr rfl
  isplitl [HO]
  · iexists _; isplitr
    swap; · iexact HO
    ipureintro; exact (after_4 m c t _ _).mpr hX
  isplitl [HD0]
  · iexists _; isplitr
    swap; · iexact HD0
    ipureintro; exact (after_5 m c t _ _).mpr rfl
  iexists _; isplitr
  swap; · iexact HD1
  ipureintro; exact (after_6 m c t _ _).mpr rfl

/-- The body at every point, in the form the launch takes it. -/
theorem body_obligation (c : Dev nD) : (data (F := F) m c).BodyObligation (defs₀ (F := F)) Variants.none () Set.univ := fun t Y hY => by
  rw [bigSep_W0, bigSep_W0, defs₀_row]
  rw [finds_0 m c t (Y 0) (hY 0), finds_1 m c t (Y 1) (hY 1), finds_2 m c t (Y 2) (hY 2), finds_3 m c t (Y 3) (hY 3)]
  exact triple_restated (sound_body m c t (Y 4) (Y 5) (Y 6)) rfl .rfl fun _ => post_restated m c t (Y 4) (Y 5) (Y 6)

theorem hin (c : Dev nD) : Pipeline.ΦA spec0 c ⊢ (data m c).Φ 0 := by
  rw [show (data m c).Φ 0 = Pipeline.ΦA spec0 c from rfl]
  try exact Idealize.SL.BI.Entails.refl _
theorem hout (c : Dev nD) : (data m c).Φ (Fin.last cfg0.N) ⊢ Pipeline.ΦA spec0 c := by
  rw [start_eq, show (data m c).Φ (Fin.last cfg0.N) = PhiS m c cfg0.N from rfl, PhiS_pos m c _ (by rw [show cfg0.N = 33 from N_0]; omega)]
  iintro ⟨HS0, Hg⟩
  isplitl [HS0]
  · iexists _; iexact HS0
  iexact Hg

set_option backward.isDefEq.respectTransparency.types false in
/-- Every execution ends with the arrays at what the proof data allows and every semaphore at zero. -/
theorem run_quiescent : θ_run defs (onTc (τ := τ) (main (F := F))) (s₀ m ρ)
    (fun r => RDat.FramePost cfg0 (data m) (V m) r ∧ r.2.sem = fun _ => 0) :=
  RDat.θ_run_frame_track (Q' := _) cfgs (0 : Fin 1) launch0 defs₀ Variants.none (data m) m ρ main
    (hbody := fun c => body_obligation m c) (hshare := fun c => (data m c).share_full fun _ => rfl)
    (howed := fun _ _ => rfl) (V := V m) (hmain := hmain m Variants.none) (hA := A_eq m) (hin := hin m) (hout := hout m)

/-- The argument arrays end unchanged. -/
theorem kept (r) (h : RDat.FramePost cfg0 (data m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(RDat.FramePost.arr_in h c 0 rfl).trans ((A_eq m c 0).trans (V_main_arg0 m c)), (RDat.FramePost.arr_in h c 1 rfl).trans ((A_eq m c 1).trans (V_main_arg1 m c)), (RDat.FramePost.arr_in h c 2 rfl).trans ((A_eq m c 2).trans (V_main_arg2 m c)), (RDat.FramePost.arr_in h c 3 rfl).trans ((A_eq m c 3).trans (V_main_arg3 m c))⟩

/-- The frame: the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => kept m r h.1 c, h.2⟩) (run_quiescent m ρ)

end Cert.PoolZLaunch

end
-- ==== Proof.PoolZValue.lean ====
/- The `proj_pool_z` call beside its reference: the SiLU of the product, and the weights it casts on the way. -/
module

public import proofs.«01_k».proof.Defs
public import proofs.«01_k».proof.Proof.PoolZLaunch
public import proofs.«01_k».proof.Proof.Gen.PoolZ
public import proofs.«01_k».proof.Proof.Gen.PoolZReferenceIdeal.Run
public import Idealize.ShloMosaic.Lib.Pointwise
public import Idealize.ShloMosaic.Lib.KernelVsHost

@[expose] public section

set_option maxRecDepth 65536
set_option synthInstance.maxSize 4096
set_option backward.isDefEq.respectTransparency false

noncomputable section

namespace Cert.PoolZIdeal.Words

open Idealize.ShloMosaic Idealize.ShloMosaic.TcCoe Idealize.ShloMosaic.Tactic Idealize.SL.Sem Idealize.ShloMosaic.Pipeline Cert.PoolZIdeal Cert.PoolZIdeal.Gen Cert.PoolZLaunch

/-! ## The tile -/

/-- Rows put into a tile, at a row of theirs. -/
theorem put_in {α : Type} (y : S1024x1024.Idx → α) (o : ℕ) (w : S256x1024.Idx → α) (i j : Fin 1024) (r : Fin 256) (h : i.val = o + r.val) :
    VecWindow.put (s := S1024x1024) y ![o, 0] S256x1024.size w (ix2 i j) = w (ix2 r j) := by
  have hr := r.isLt
  have hj := j.isLt
  have h' : ∀ a : Fin 2, (![o, 0] : Fin 2 → ℕ) a ≤ ((ix2 i j : S1024x1024.Idx) a).val ∧ ((ix2 i j : S1024x1024.Idx) a).val < (![o, 0] : Fin 2 → ℕ) a + S256x1024.size a := by
    intro a
    match a with
    | ⟨0, _⟩ => show o ≤ i.val ∧ i.val < o + 256; omega
    | ⟨1, _⟩ => show 0 ≤ j.val ∧ j.val < 0 + 1024; omega
  refine (dif_pos h').trans (congrArg w ?_)
  funext a
  apply Fin.ext
  match a with
  | ⟨0, _⟩ => show i.val - o = r.val; omega
  | ⟨1, _⟩ => show j.val - 0 = j.val; omega

/-- Rows put into a tile, at a row before or behind them. -/
theorem put_out {α : Type} (y : S1024x1024.Idx → α) (o : ℕ) (w : S256x1024.Idx → α) (i j : Fin 1024) (h : i.val < o ∨ o + 256 ≤ i.val) :
    VecWindow.put (s := S1024x1024) y ![o, 0] S256x1024.size w (ix2 i j) = y (ix2 i j) :=
  dif_neg fun h' => by
    have e : o ≤ i.val ∧ i.val < o + 256 := h' 0
    omega

/-- Rows read of a tile. -/
theorem ld_at (s : Vec Ideal S1024x1024 .f32) (o : ℕ) (hb : ∀ a, (![o, 0] : Fin 2 → ℕ) a + S256x1024.size a ≤ S1024x1024.size a) (i j : Fin 1024) (r : Fin 256) (h : i.val = o + r.val) :
    (View.ld s (Rect.unit (s := S1024x1024) ![o, 0] S256x1024.size hb) : Vec Ideal S256x1024 .f32) (ix2 r j) = s (ix2 i j) := by
  show s _ = s _
  congr 1
  funext x
  apply Fin.ext
  match x with
  | ⟨0, _⟩ => show o + 1 * r.val = i.val; omega
  | ⟨1, _⟩ => show 0 + 1 * j.val = j.val; omega

/-- What becomes of one element of the product. -/
def act (z : EReal) : EReal := z * Ideal.logistic z

theorem pay3_at (X : FVec Ideal S256x1024 .f32) (i : Fin 256) (j : Fin 1024) : (k0_pay3 (F := Ideal) X (ix2 i j) : EReal) = act (X (ix2 i j)) := by
  unfold k0_pay3 act
  pointwise []

theorem pay4_at (X : FVec Ideal S256x1024 .f32) (i : Fin 256) (j : Fin 1024) : (k0_pay4 (F := Ideal) X (ix2 i j) : EReal) = act (X (ix2 i j)) := by
  unfold k0_pay4 act
  pointwise []

theorem pay5_at (X : FVec Ideal S256x1024 .f32) (i : Fin 256) (j : Fin 1024) : (k0_pay5 (F := Ideal) X (ix2 i j) : EReal) = act (X (ix2 i j)) := by
  unfold k0_pay5 act
  pointwise []

theorem pay6_at (X : FVec Ideal S256x1024 .f32) (i : Fin 256) (j : Fin 1024) : (k0_pay6 (F := Ideal) X (ix2 i j) : EReal) = act (X (ix2 i j)) := by
  unfold k0_pay6 act
  pointwise []

/-- The output tile a point leaves, at an index. -/
theorem tile_at (s : Vec Ideal S1024x1024 .f32) (y : Vec Ideal S1024x1024 .bf16) (i j : Fin 1024) : (tile s y (ix2 i j) : EReal) = act (s (ix2 i j)) := by
  have hi := i.isLt
  unfold tile
  by_cases h3 : 768 ≤ i.val
  · obtain ⟨r, hr⟩ : ∃ r : Fin 256, i.val = 768 + r.val := ⟨⟨i.val - 768, by omega⟩, by simp only []; omega⟩
    refine (put_in _ 768 _ i j r hr).trans ((pay6_at _ r j).trans ?_)
    rw [ld_at s 768 _ i j r hr]
  refine (put_out _ 768 _ i j (Or.inl (by omega))).trans ?_
  by_cases h2 : 512 ≤ i.val
  · obtain ⟨r, hr⟩ : ∃ r : Fin 256, i.val = 512 + r.val := ⟨⟨i.val - 512, by omega⟩, by simp only []; omega⟩
    refine (put_in _ 512 _ i j r hr).trans ((pay5_at _ r j).trans ?_)
    rw [ld_at s 512 _ i j r hr]
  refine (put_out _ 512 _ i j (Or.inl (by omega))).trans ?_
  by_cases h1 : 256 ≤ i.val
  · obtain ⟨r, hr⟩ : ∃ r : Fin 256, i.val = 256 + r.val := ⟨⟨i.val - 256, by omega⟩, by simp only []; omega⟩
    refine (put_in _ 256 _ i j r hr).trans ((pay4_at _ r j).trans ?_)
    rw [ld_at s 256 _ i j r hr]
  refine (put_out _ 256 _ i j (Or.inl (by omega))).trans ?_
  obtain ⟨r, hr⟩ : ∃ r : Fin 256, i.val = 0 + r.val := ⟨⟨i.val, by omega⟩, by simp only []; omega⟩
  refine (put_in _ 0 _ i j r hr).trans ((pay3_at _ r j).trans ?_)
  rw [ld_at s 0 _ i j r hr]

/-- The product of a tile, at an index. -/
theorem pay11_at (x w : FVec Ideal S1024x4096 .bf16) (i j : Fin 1024) :
    (k0_pay11 (F := Ideal) x w (ix2 i j) : EReal) = ∑ a : Fin 4096, x (ix2 i a) * w (ix2 j a) := by
  unfold k0_pay11
  pointwise []

/-- A cast keeps every value. -/
theorem pay12_at (X : FVec Ideal S128x4096 .f32) (i : Fin 128) (j : Fin 4096) : (k0_pay12 (F := Ideal) X (ix2 i j) : EReal) = X (ix2 i j) := by
  unfold k0_pay12
  pointwise []

/-- A cast keeps every value. -/
theorem pay2_at (X : FVec Ideal S128x4096 .f32) (i : Fin 128) (j : Fin 4096) : (k0_pay2 (F := Ideal) X (ix2 i j) : EReal) = X (ix2 i j) := by
  unfold k0_pay2
  pointwise []

/-! ## The windows -/

theorem at0 : ∀ t : Fin grid0.N, t.val < 32 → win0_0.index t 0 = t.val % 8 ∧ win0_0.index t 1 = 0 := by decide +kernel
theorem at1 : ∀ t : Fin grid0.N, t.val < 32 → win0_1.index t 0 = t.val / 8 ∧ win0_1.index t 1 = 0 := by decide +kernel
theorem at4 : ∀ t : Fin grid0.N, win0_4.index t 0 = (t.val - 1) % 8 ∧ win0_4.index t 1 = (t.val - 1) / 8 := by decide +kernel
theorem flush4 : ∀ t : Fin grid0.N, (cfg0.win 4).flush t = true ↔ 0 < t.val := by decide +kernel
theorem at2 : ∀ t : Fin grid0.N, t.val < 32 → win0_2.index t 0 = 8192 + 128 * t.val ∧ win0_2.index t 1 = 0 := by decide +kernel
theorem at5 : ∀ t : Fin grid0.N, win0_5.index t 0 = min t.val 31 ∧ win0_5.index t 1 = 0 := by decide +kernel
theorem flush5 : ∀ t : Fin grid0.N, (cfg0.win 5).flush t = true ↔ t.val ≠ 31 := by decide +kernel
theorem at3 : ∀ t : Fin grid0.N, t.val < 32 → win0_3.index t 0 = 0 + 128 * t.val ∧ win0_3.index t 1 = 0 := by decide +kernel
theorem at6 : ∀ t : Fin grid0.N, win0_6.index t 0 = min t.val 31 ∧ win0_6.index t 1 = 0 := by decide +kernel
theorem flush6 : ∀ t : Fin grid0.N, (cfg0.win 6).flush t = true ↔ t.val ≠ 31 := by decide +kernel

section Points
variable {F : FTy → Type} [FloatOps F]
variable (m : (ℓ : Loc nD τ sig) → Buf (Elt F) ℓ)

theorem iblk0_at (c : Dev nD) (t : Fin cfg0.N) (h : t.val < 32) (i : Fin 1024) (j : Fin 4096) (a : Fin 8192) (ha : a.val = 1024 * (t.val % 8) + i.val) :
    (iblk m c 0 t : Vec F S1024x4096 .bf16) (ix2 i j) = m ((c : Thread nD τ).loc main_arg0) (ix2 a j) := by
  unfold iblk
  rw [View.read_apply]
  show V m c main_arg0 _ = _
  rw [V_main_arg0]
  congr 1
  funext x
  apply Fin.ext
  match x with
  | ⟨0, _⟩ => show win0_0.index t 0 * 1024 + 1 * i.val = a.val; rw [(at0 t h).1]; omega
  | ⟨1, _⟩ => show win0_0.index t 1 * 4096 + 1 * j.val = j.val; rw [(at0 t h).2]; omega

theorem iblk1_at (c : Dev nD) (t : Fin cfg0.N) (h : t.val < 32) (i : Fin 1024) (j : Fin 4096) (a : Fin 4096) (ha : a.val = 1024 * (t.val / 8) + i.val) :
    (iblk m c 1 t : Vec F S1024x4096 .bf16) (ix2 i j) = m ((c : Thread nD τ).loc main_arg1) (ix2 a j) := by
  unfold iblk
  rw [View.read_apply]
  show V m c main_arg1 _ = _
  rw [V_main_arg1]
  congr 1
  funext x
  apply Fin.ext
  match x with
  | ⟨0, _⟩ => show win0_1.index t 0 * 1024 + 1 * i.val = a.val; rw [(at1 t h).1]; omega
  | ⟨1, _⟩ => show win0_1.index t 1 * 4096 + 1 * j.val = j.val; rw [(at1 t h).2]; omega

theorem iblk2_at (c : Dev nD) (t : Fin cfg0.N) (h : t.val < 32) (i : Fin 128) (j : Fin 4096) (a : Fin 32832) (ha : a.val = 8192 + 128 * t.val + i.val) :
    (iblk m c 2 t : Vec F S128x4096 .f32) (ix2 i j) = m ((c : Thread nD τ).loc main_arg2) (ix2 a j) := by
  unfold iblk
  rw [View.read_apply]
  show V m c main_arg2 _ = _
  rw [V_main_arg2]
  congr 1
  funext x
  apply Fin.ext
  match x with
  | ⟨0, _⟩ => show win0_2.index t 0 + 1 * i.val = a.val; rw [(at2 t h).1]; omega
  | ⟨1, _⟩ => show win0_2.index t 1 + 1 * j.val = j.val; rw [(at2 t h).2]; omega

theorem iblk3_at (c : Dev nD) (t : Fin cfg0.N) (h : t.val < 32) (i : Fin 128) (j : Fin 4096) (a : Fin 4096) (ha : a.val = 0 + 128 * t.val + i.val) :
    (iblk m c 3 t : Vec F S128x4096 .f32) (ix2 i j) = m ((c : Thread nD τ).loc main_arg3) (ix2 a j) := by
  unfold iblk
  rw [View.read_apply]
  show V m c main_arg3 _ = _
  rw [V_main_arg3]
  congr 1
  funext x
  apply Fin.ext
  match x with
  | ⟨0, _⟩ => show win0_3.index t 0 + 1 * i.val = a.val; rw [(at3 t h).1]; omega
  | ⟨1, _⟩ => show win0_3.index t 1 + 1 * j.val = j.val; rw [(at3 t h).2]; omega

theorem emb4_at (t : Fin cfg0.N) (i j : Fin 1024) (a : Fin 8192) (b : Fin 4096)
    (ha : a.val = 1024 * ((t.val - 1) % 8) + i.val) (hb : b.val = 1024 * ((t.val - 1) / 8) + j.val) :
    ((cfg0.win 4).blk t).view.emb (ix2 i j) = ix2 a b := by
  funext x
  apply Fin.ext
  match x with
  | ⟨0, _⟩ => show win0_4.index t 0 * 1024 + 1 * i.val = a.val; rw [(at4 t).1]; omega
  | ⟨1, _⟩ => show win0_4.index t 1 * 1024 + 1 * j.val = b.val; rw [(at4 t).2]; omega

/-- Two points that write the output back write separate blocks. -/
theorem disjoint4 : ∀ t t' : Fin cfg0.N, (cfg0.win 4).flush t = true → (cfg0.win 4).flush t' = true → t ≠ t' →
    Disjoint ((cfg0.win 4).blk t).view.set ((cfg0.win 4).blk t').view.set := by
  intro t t' hf hf' hne
  refine (cfg0.win 4).disjoint_blk fun h => hne (Fin.ext ?_)
  have p := (flush4 t).mp hf
  have p' := (flush4 t').mp hf'
  have e0 : win0_4.index t 0 = win0_4.index t' 0 := congrFun h 0
  have e1 : win0_4.index t 1 = win0_4.index t' 1 := congrFun h 1
  rw [(at4 t).1, (at4 t').1] at e0
  rw [(at4 t).2, (at4 t').2] at e1
  omega

theorem emb5_at (t : Fin cfg0.N) (i : Fin 128) (j : Fin 4096) (a : Fin 4096) (ha : a.val = 128 * min t.val 31 + i.val) :
    ((cfg0.win 5).blk t).view.emb (ix2 i j) = ix2 a j := by
  funext x
  apply Fin.ext
  match x with
  | ⟨0, _⟩ => show win0_5.index t 0 * 128 + 1 * i.val = a.val; rw [(at5 t).1]; omega
  | ⟨1, _⟩ => show win0_5.index t 1 * 4096 + 1 * j.val = j.val; rw [(at5 t).2]; omega

/-- Two points that write the cast weight back write separate blocks. -/
theorem disjoint5 : ∀ t t' : Fin cfg0.N, (cfg0.win 5).flush t = true → (cfg0.win 5).flush t' = true → t ≠ t' →
    Disjoint ((cfg0.win 5).blk t).view.set ((cfg0.win 5).blk t').view.set := by
  intro t t' hf hf' hne
  refine (cfg0.win 5).disjoint_blk fun h => hne (Fin.ext ?_)
  have p := (flush5 t).mp hf
  have p' := (flush5 t').mp hf'
  have n : t.val < 33 := lt_of_lt_of_eq t.isLt N_0
  have n' : t'.val < 33 := lt_of_lt_of_eq t'.isLt N_0
  have e0 : win0_5.index t 0 = win0_5.index t' 0 := congrFun h 0
  rw [(at5 t).1, (at5 t').1] at e0
  omega

/-- What a point leaves in the cast weight's block: its rows cast; the last point leaves the block of the point before it. -/
theorem left5 (c : Dev nD) (t : Fin cfg0.N) (X) (h : (data m c).Leaves 5 t X) : X = k0_pay12 (iblk m c 2 (filled t.val)) := by
  have inner : ∀ (t : Fin cfg0.N) (Y X), t.val < 32 → (data m c).after 5 t Y X → X = k0_pay12 (iblk m c 2 (filled t.val)) := by
    intro t Y X hl hR
    rw [(after_5 m c t Y X).mp hR, show filled t.val = t from Fin.ext (by show min t.val 31 = t.val; omega)]
    exact if_pos hl
  have hn : t.val < 33 := lt_of_lt_of_eq t.isLt N_0
  obtain ⟨Y, hY, hR⟩ := h
  by_cases hl : t.val < 32
  · exact inner t Y X hl hR
  · have e : X = Y := ((after_5 m c t Y X).mp hR).trans (if_neg hl)
    have hb : t.val - 1 < cfg0.N := Nat.lt_of_le_of_lt (Nat.sub_le _ _) t.isLt
    rcases (RDat.finds_of_pos (data m c) (show (cfg0.win 5).fetch t = false from rfl) (by omega) Y).mp hY with hfl | ⟨Y', hY', hR'⟩
    · exact absurd (show t.val - 1 = 31 by omega) ((flush5 ⟨t.val - 1, hb⟩).mp hfl)
    · have e' := inner ⟨t.val - 1, hb⟩ Y' Y (by simp only []; omega) hR'
      rw [e, e', show filled (⟨t.val - 1, hb⟩ : Fin cfg0.N).val = filled t.val from Fin.ext (by show min (t.val - 1) 31 = min t.val 31; omega)]

theorem emb6_at (t : Fin cfg0.N) (i : Fin 128) (j : Fin 4096) (a : Fin 4096) (ha : a.val = 128 * min t.val 31 + i.val) :
    ((cfg0.win 6).blk t).view.emb (ix2 i j) = ix2 a j := by
  funext x
  apply Fin.ext
  match x with
  | ⟨0, _⟩ => show win0_6.index t 0 * 128 + 1 * i.val = a.val; rw [(at6 t).1]; omega
  | ⟨1, _⟩ => show win0_6.index t 1 * 4096 + 1 * j.val = j.val; rw [(at6 t).2]; omega

/-- Two points that write the cast weight back write separate blocks. -/
theorem disjoint6 : ∀ t t' : Fin cfg0.N, (cfg0.win 6).flush t = true → (cfg0.win 6).flush t' = true → t ≠ t' →
    Disjoint ((cfg0.win 6).blk t).view.set ((cfg0.win 6).blk t').view.set := by
  intro t t' hf hf' hne
  refine (cfg0.win 6).disjoint_blk fun h => hne (Fin.ext ?_)
  have p := (flush6 t).mp hf
  have p' := (flush6 t').mp hf'
  have n : t.val < 33 := lt_of_lt_of_eq t.isLt N_0
  have n' : t'.val < 33 := lt_of_lt_of_eq t'.isLt N_0
  have e0 : win0_6.index t 0 = win0_6.index t' 0 := congrFun h 0
  rw [(at6 t).1, (at6 t').1] at e0
  omega

/-- What a point leaves in the cast weight's block: its rows cast; the last point leaves the block of the point before it. -/
theorem left6 (c : Dev nD) (t : Fin cfg0.N) (X) (h : (data m c).Leaves 6 t X) : X = k0_pay2 (iblk m c 3 (filled t.val)) := by
  have inner : ∀ (t : Fin cfg0.N) (Y X), t.val < 32 → (data m c).after 6 t Y X → X = k0_pay2 (iblk m c 3 (filled t.val)) := by
    intro t Y X hl hR
    rw [(after_6 m c t Y X).mp hR, show filled t.val = t from Fin.ext (by show min t.val 31 = t.val; omega)]
    exact if_pos hl
  have hn : t.val < 33 := lt_of_lt_of_eq t.isLt N_0
  obtain ⟨Y, hY, hR⟩ := h
  by_cases hl : t.val < 32
  · exact inner t Y X hl hR
  · have e : X = Y := ((after_6 m c t Y X).mp hR).trans (if_neg hl)
    have hb : t.val - 1 < cfg0.N := Nat.lt_of_le_of_lt (Nat.sub_le _ _) t.isLt
    rcases (RDat.finds_of_pos (data m c) (show (cfg0.win 6).fetch t = false from rfl) (by omega) Y).mp hY with hfl | ⟨Y', hY', hR'⟩
    · exact absurd (show t.val - 1 = 31 by omega) ((flush6 ⟨t.val - 1, hb⟩).mp hfl)
    · have e' := inner ⟨t.val - 1, hb⟩ Y' Y (by simp only []; omega) hR'
      rw [e, e', show filled (⟨t.val - 1, hb⟩ : Fin cfg0.N).val = filled t.val from Fin.ext (by show min (t.val - 1) 31 = min t.val 31; omega)]

end Points

/-! ## What every final state holds -/

variable (m : (ℓ : Loc nD τ sig) → Buf (Elt Ideal) ℓ)

/-- The product of a row of the input and a row of the weight. -/
def productAt (x : FVec Ideal S8192x4096 .bf16) (w : FVec Ideal S4096x4096 .bf16) (a : Fin 8192) (b : Fin 4096) : EReal :=
  ∑ k : Fin 4096, x (ix2 a k) * w (ix2 b k)

/-- The output, an element each: the product of a row and a weight row, and its SiLU. -/
def result (c : Dev nD) : Vec Ideal S8192x4096 .bf16 := fun x =>
  act (productAt (m ((c : Thread nD τ).loc main_arg0)) (m ((c : Thread nD τ).loc main_arg1)) (x 0) (x 1))

/-- Cast weight 0: the weight's rows from 8192 on. -/
def weight0 (c : Dev nD) : Vec Ideal S4096x4096 .bf16 := fun x =>
  (m ((c : Thread nD τ).loc main_arg2) : Vec Ideal S32832x4096 .f32) (ix2 ⟨8192 + (x 0).val, by have : (x 0).val < 4096 := (x 0).isLt; omega⟩ (x 1))

/-- Cast weight 1: the weight's rows. -/
def weight1 (c : Dev nD) : Vec Ideal S4096x4096 .bf16 := fun x =>
  (m ((c : Thread nD τ).loc main_arg3) : Vec Ideal S4096x4096 .f32) (ix2 (x 0) (x 1))

/-- The output, at the end. -/
theorem ends (c : Dev nD) (r : PUnit × MemSt nD τ sig (Elt Ideal)) (h : RDat.FramePost cfg0 (data m) (V m) r) :
    r.2.mem ((c : Thread nD τ).loc main_v0_0) = result m c := by
  obtain ⟨after, hL, hA⟩ := RDat.FramePost.exists_exact h c
  refine (hA 4).trans ?_
  funext x
  rw [eq_ix2 x]
  obtain ⟨a, ha⟩ : ∃ a : Fin 8192, a = x 0 := ⟨_, rfl⟩
  obtain ⟨b, hb⟩ : ∃ b : Fin 4096, b = x 1 := ⟨_, rfl⟩
  rw [← ha, ← hb]
  obtain ⟨t, ht⟩ : ∃ t : Fin cfg0.N, t.val = 8 * (b.val / 1024) + a.val / 1024 + 1 := ⟨⟨_, by rw [show cfg0.N = 33 from N_0]; omega⟩, rfl⟩
  obtain ⟨i, hi⟩ : ∃ i : Fin 1024, i.val = a.val % 1024 := ⟨⟨_, by omega⟩, rfl⟩
  obtain ⟨j, hj⟩ : ∃ j : Fin 1024, j.val = b.val % 1024 := ⟨⟨_, by omega⟩, rfl⟩
  have hf : (cfg0.win 4).flush t = true := (flush4 t).mpr (by omega)
  have e := congrFun (((data m c).withAfter after).read_blk_arrAt_eq_flushed 4 disjoint4 cfg0.N t t.isLt hf) (ix2 i j)
  rw [View.read_apply, emb4_at t i j a b (by omega) (by omega)] at e
  refine e.trans ?_
  obtain ⟨Y, hY, hR⟩ := hL 4 t hf
  have e' := (after_4 m c t Y _).mp hR (by omega)
  show (after 4 t : Vec Ideal S1024x1024 .bf16) (ix2 i j) = _
  rw [e']
  refine (tile_at _ _ i j).trans ?_
  have hp : (prodAt m c (t.val - 1) (ix2 i j) : EReal) = productAt (m ((c : Thread nD τ).loc main_arg0)) (m ((c : Thread nD τ).loc main_arg1)) a b := by
    have hv : (filled (t.val - 1)).val = t.val - 1 := by show min (t.val - 1) 31 = t.val - 1; omega
    refine (pay11_at _ _ i j).trans (Finset.sum_congr rfl fun k _ => ?_)
    rw [iblk0_at m c (filled (t.val - 1)) (by omega) i k a (by rw [hv]; omega), iblk1_at m c (filled (t.val - 1)) (by omega) j k b (by rw [hv]; omega)]
  rw [hp]
  rfl

/-- Cast weight 0, at the end. -/
theorem weight0_ends (c : Dev nD) (r : PUnit × MemSt nD τ sig (Elt Ideal)) (h : RDat.FramePost cfg0 (data m) (V m) r) :
    r.2.mem ((c : Thread nD τ).loc main_v0_1) = weight0 m c := by
  obtain ⟨after, hL, hA⟩ := RDat.FramePost.exists_exact h c
  refine (hA 5).trans ?_
  funext x
  rw [eq_ix2 x]
  obtain ⟨a, ha⟩ : ∃ a : Fin 4096, a = x 0 := ⟨_, rfl⟩
  obtain ⟨b, hb⟩ : ∃ b : Fin 4096, b = x 1 := ⟨_, rfl⟩
  rw [← ha, ← hb]
  obtain ⟨t, ht⟩ : ∃ t : Fin cfg0.N, t.val ≠ 31 ∧ min t.val 31 = a.val / 128 := by
    by_cases hl : a.val / 128 < 31
    · exact ⟨⟨a.val / 128, by rw [show cfg0.N = 33 from N_0]; omega⟩, by simp only []; omega, by simp only []; omega⟩
    · exact ⟨⟨32, by rw [show cfg0.N = 33 from N_0]; omega⟩, by simp only []; omega, by simp only []; omega⟩
  obtain ⟨i, hi⟩ : ∃ i : Fin 128, i.val = a.val % 128 := ⟨⟨_, by omega⟩, rfl⟩
  have hf : (cfg0.win 5).flush t = true := (flush5 t).mpr ht.1
  have e := congrFun (((data m c).withAfter after).read_blk_arrAt_eq_flushed 5 disjoint5 cfg0.N t t.isLt hf) (ix2 i b)
  rw [View.read_apply, emb5_at t i b a (by omega)] at e
  refine e.trans ?_
  show (after 5 t : Vec Ideal S128x4096 .bf16) (ix2 i b) = _
  rw [left5 m c t (after 5 t) (hL 5 t hf)]
  refine (pay12_at _ i b).trans ?_
  have hv : (filled t.val).val = min t.val 31 := rfl
  exact iblk2_at m c (filled t.val) (by omega) i b _ (by rw [hv]; show 8192 + a.val = _; omega)

/-- Cast weight 1, at the end. -/
theorem weight1_ends (c : Dev nD) (r : PUnit × MemSt nD τ sig (Elt Ideal)) (h : RDat.FramePost cfg0 (data m) (V m) r) :
    r.2.mem ((c : Thread nD τ).loc main_v0_2) = weight1 m c := by
  obtain ⟨after, hL, hA⟩ := RDat.FramePost.exists_exact h c
  refine (hA 6).trans ?_
  funext x
  rw [eq_ix2 x]
  obtain ⟨a, ha⟩ : ∃ a : Fin 4096, a = x 0 := ⟨_, rfl⟩
  obtain ⟨b, hb⟩ : ∃ b : Fin 4096, b = x 1 := ⟨_, rfl⟩
  rw [← ha, ← hb]
  obtain ⟨t, ht⟩ : ∃ t : Fin cfg0.N, t.val ≠ 31 ∧ min t.val 31 = a.val / 128 := by
    by_cases hl : a.val / 128 < 31
    · exact ⟨⟨a.val / 128, by rw [show cfg0.N = 33 from N_0]; omega⟩, by simp only []; omega, by simp only []; omega⟩
    · exact ⟨⟨32, by rw [show cfg0.N = 33 from N_0]; omega⟩, by simp only []; omega, by simp only []; omega⟩
  obtain ⟨i, hi⟩ : ∃ i : Fin 128, i.val = a.val % 128 := ⟨⟨_, by omega⟩, rfl⟩
  have hf : (cfg0.win 6).flush t = true := (flush6 t).mpr ht.1
  have e := congrFun (((data m c).withAfter after).read_blk_arrAt_eq_flushed 6 disjoint6 cfg0.N t t.isLt hf) (ix2 i b)
  rw [View.read_apply, emb6_at t i b a (by omega)] at e
  refine e.trans ?_
  show (after 6 t : Vec Ideal S128x4096 .bf16) (ix2 i b) = _
  rw [left6 m c t (after 6 t) (hL 6 t hf)]
  refine (pay2_at _ i b).trans ?_
  have hv : (filled t.val).val = min t.val 31 := rfl
  exact iblk3_at m c (filled t.val) (by omega) i b _ (by rw [hv]; show a.val = _; omega)

end Cert.PoolZIdeal.Words

namespace Cert.PoolZValue

open Idealize.ShloMosaic Idealize.ShloMosaic.TcCoe Idealize.SL.Sem

attribute [local instance] Cert.PoolZ.Gen.facts Cert.PoolZIdeal.Gen.facts Cert.PoolZReferenceIdeal.Gen.facts

open Cert.PoolZReferenceIdeal Cert.PoolZReferenceIdeal.Gen in
/-- The reference's term, at a row and a column. -/
theorem ref_at (x : FVec Ideal S8192x4096 .bf16) (w : FVec Ideal S4096x4096 .bf16) (a : Fin 8192) (b : Fin 4096) :
    ((truncf .bf16 (mulf (Host.dotGeneral dot_S8192x4096_S4096x4096_S8192x4096_1_1_0_0_n_n none x w) (Host.divf (broadcastInDim S8192x4096 ![] bcast_S_S8192x4096 (constant S_ .f32 0x3F800000#32)) (addf (broadcastInDim S8192x4096 ![] bcast_S_S8192x4096 (constant S_ .f32 0x3F800000#32)) (Host.exp (Host.negf (Host.dotGeneral dot_S8192x4096_S4096x4096_S8192x4096_1_1_0_0_n_n none x w)))))) bitsLt_bf16_f32 : FVec Ideal S8192x4096 .bf16) (ix2 a b) : EReal)
      = Cert.PoolZIdeal.Words.act (∑ k : Fin 4096, x (ix2 a k) * w (ix2 b k)) := by
  unfold Cert.PoolZIdeal.Words.act
  pointwise []
  rfl

/-! ## At machine floats the call is the same text -/

theorem bodies : @Cert.PoolZ.defs₀ Bits _ _ = @Cert.PoolZIdeal.defs₀ Bits _ _ := by
  unfold Cert.PoolZ.defs₀ Cert.PoolZIdeal.defs₀
  refine congrArg Defs.onTc ?_
  funext l a
  match l, a with
  | ⟨0, _⟩, (t, s) => rfl
  | ⟨_ + 1, h⟩, _ => exact absurd h (Nat.not_lt.2 (Nat.le_add_left _ _))

theorem tables : @Cert.PoolZ.defs Bits _ _ = @Cert.PoolZIdeal.defs Bits _ _ := by
  unfold Cert.PoolZ.defs Cert.PoolZIdeal.defs
  rw [bodies]
  rfl

/-- The call at machine floats runs, leaves its arguments and ends with its semaphores at zero. -/
theorem frame_floats : Cert.quiescent_PoolZ := fun m ρ _ => by
  have h := Cert.PoolZLaunch.frame (F := Bits) m ρ
  rw [← tables] at h
  exact h

/-- The call over the reals runs, leaves its arguments and ends with its semaphores at zero. -/
theorem frame : Cert.quiescent_PoolZIdeal := fun m ρ _ => Cert.PoolZLaunch.frame m ρ

/-- The reference runs, leaves its arguments and ends with its semaphores at zero: it has none. -/
theorem frame_reference : Cert.quiescent_PoolZReferenceIdeal := fun m ρ _ =>
  (θ_run Cert.PoolZReferenceIdeal.defs _ _).mono (fun r h => ⟨fun c => (h c).2.2.2, sem_eq_zero_of_no_sems (by decide) r.2⟩)
    (Cert.PoolZReferenceIdeal.Value.run (F := Ideal) m ρ)

/-- The call and its reference end with the same results. -/
theorem algebraic : Cert.algebraic_PoolZIdeal_PoolZReferenceIdeal := fun m ρ m' ρ' hp ha =>
  ⟨fun c => Cert.PoolZIdeal.Words.result m c, fun c => Cert.PoolZIdeal.Words.weight0 m c, fun c => Cert.PoolZIdeal.Words.weight1 m c,
    (θ_run Cert.PoolZIdeal.defs _ _).mono (fun r h c => ⟨Cert.PoolZIdeal.Words.ends m c r h.1, Cert.PoolZIdeal.Words.weight0_ends m c r h.1, Cert.PoolZIdeal.Words.weight1_ends m c r h.1, Cert.PoolZLaunch.kept m r h.1 c⟩)
      (Cert.PoolZLaunch.run_quiescent (F := Ideal) m ρ),
    (θ_run Cert.PoolZReferenceIdeal.defs _ _).mono (fun r h c => ⟨(h c).1.trans (by
        obtain ⟨e0, e1, e2, e3⟩ := ha c
        rw [e0, e1]
        funext x
        rw [eq_ix2 x]
        exact ref_at _ _ _ _), (h c).2.1.trans (by
        obtain ⟨e0, e1, e2, e3⟩ := ha c
        rw [e2]
        funext x
        refine congrArg (m ((c.tc : Thread Cert.PoolZIdeal.nD Cert.PoolZIdeal.τ).loc Cert.PoolZIdeal.main_arg2)) ?_
        funext y
        apply Fin.ext
        match y with
        | ⟨0, _⟩ => rfl
        | ⟨1, _⟩ => exact Nat.zero_add _), (h c).2.2.1.trans (by
        obtain ⟨e0, e1, e2, e3⟩ := ha c
        rw [e3]
        funext x
        exact congrArg (m ((c.tc : Thread Cert.PoolZIdeal.nD Cert.PoolZIdeal.τ).loc Cert.PoolZIdeal.main_arg3)) (eq_ix2 x)), (h c).2.2.2⟩)
      (Cert.PoolZReferenceIdeal.Value.run (F := Ideal) m' ρ')⟩

end Cert.PoolZValue

end
-- ==== Proof.DnZLaunch.lean ====
/- The `proj_dn_z` call over the reals: what the body does at each grid point, what each point leaves in the output
   block, in the cast weights' blocks and in the accumulator, and what every final state holds. -/
module

public import proofs.«01_k».proof.Proof.Gen.DnZIdeal.Frame
public import proofs.«01_k».proof.Proof.Gen.DnZIdeal.Skeleton
public import Idealize.ShloMosaic.Lib.Tactic.Stretches
public import Idealize.ShloMosaic.Lib.VecWindow
public import Idealize.ShloMosaic.Lib.Pipeline.Value
public import Idealize.ShloMosaic.Lib.Pipeline.ArrRel

@[expose] public section

set_option maxRecDepth 16384

noncomputable section

namespace Cert.DnZLaunch

open Cert.DnZIdeal Cert.DnZIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## The tests of the body -/

/-- The test of the first point. -/
abbrev first (i : grid0.Coords) : Prop := (Scalar.cmpi .ne (Scalar.extui (Scalar.cmpi .eq (BitVec.ofNat 32 (i 0).val) 0#32)) 0#32) = 1#1

theorem first_iff : ∀ t : Fin cfg0.N, first (grid0.coords t) ↔ t.val = 0 :=
  (by decide +kernel : ∀ t : Fin grid0.N, first (grid0.coords t) ↔ t.val = 0)
theorem inner_iff : ∀ t : Fin cfg0.N, k0_cond2 (grid0.coords t) = 1#1 ↔ t.val < 32 :=
  (by decide +kernel : ∀ t : Fin grid0.N, k0_cond2 (grid0.coords t) = 1#1 ↔ t.val < 32)
theorem last_iff : ∀ t : Fin cfg0.N, k0_cond3 (grid0.coords t) = 1#1 ↔ t.val = 32 :=
  (by decide +kernel : ∀ t : Fin grid0.N, k0_cond3 (grid0.coords t) = 1#1 ↔ t.val = 32)

/-! ## Short names -/

/-- The test of the first point, of a later one, of the last one. -/
abbrev AtA (i : grid0.Coords) : Prop := first i ∧ k0_cond2 i = 1#1 ∧ ¬k0_cond3 i = 1#1
abbrev AtB (i : grid0.Coords) : Prop := ¬first i ∧ k0_cond2 i = 1#1 ∧ ¬k0_cond3 i = 1#1
abbrev AtC (i : grid0.Coords) : Prop := ¬first i ∧ ¬k0_cond2 i = 1#1 ∧ k0_cond3 i = 1#1

/-- A block holds `x`. -/
abbrev own {S : Shape} {e : EltTy} (c : Dev nD) (r : Memref sig .tc .vmem S e) (x : Vec F S e) : sProp 𝕄 := owns (c : Thread nD τ) r fullShare x

/-- A block holds something with the pieces `L` written over it. -/
abbrev wrote {S : Shape} {e : EltTy} (c : Dev nD) (r : Memref sig .tc .vmem S e) (L : List (View.Piece (Elt F) S e)) : sProp 𝕄 :=
  iprop(∃ f, r.view.loc (c : Thread nD τ) ↦[r.view.set]{fullShare} r.view.writes (Elt F) f L)

/-- A block that held `y` has the pieces `L` written over it. -/
abbrev over {S : Shape} {e : EltTy} (c : Dev nD) {r : Memref sig .tc .vmem S e} (h : r.IsWhole) (y : Vec F S e) (L : List (View.Piece (Elt F) S e)) : sProp 𝕄 :=
  iprop(r.view.loc (c : Thread nD τ) ↦[r.view.set]{fullShare} r.view.writes (Elt F) (h.unread y) L)

section body

variable (c : Dev nD) (i : grid0.Coords) {arg1 : Memref sig .tc .vmem S1024x4096 .bf16} (harg1 : arg1.IsWhole) {arg2 : Memref sig .tc .vmem S1024x4096 .bf16} (harg2 : arg2.IsWhole) {arg3 : Memref sig .tc .vmem S256x4096 .f32} (harg3 : arg3.IsWhole) {arg4 : Memref sig .tc .vmem S1024x1024 .bf16} (harg4 : arg4.IsWhole) {arg5 : Memref sig .tc .vmem S256x4096 .bf16} (harg5 : arg5.IsWhole) {arg6 : Memref sig .tc .vmem S1024x1024 .f32} (harg6 : arg6.IsWhole)
    (x0 : Vec F S1024x4096 .bf16) (x1 : Vec F S1024x4096 .bf16) (x2 : Vec F S256x4096 .f32) (y : Vec F S1024x1024 .bf16) (s : Vec F S1024x1024 .f32)

set_option maxHeartbeats 2000000 in
/-- The first point: the body starts the accumulator, writes a block that is never written back, and makes the first tile and the first rows of the cast weights. -/
noncomputable def runA (hc : AtA i) :
    Σ' (L0 : List (View.Piece (Elt F) S256x4096 .bf16)), { LS : List (View.Piece (Elt F) S1024x1024 .f32) //
      ∀ (E : Set ℕ) (K : PUnit → sProp 𝕄),
        iprop(own c arg1 x0 ∗ own c arg2 x1 ∗ own c arg3 x2 ∗ (∃ d, own c arg4 d) ∗ (∃ d, own c arg5 d) ∗ (∃ d, own c arg6 d) ∗ (iprop(own c arg1 x0 ∗ own c arg2 x1 ∗ own c arg3 x2 ∗ (∃ d, own c arg4 d) ∗ wrote c arg5 L0 ∗ wrote c arg6 LS) -∗ K ⟨⟩))
          ⊢ wp frame (wpE (defs₀ (F := F)) Variants.none c none) E (cc0_proj_dn_z i arg1 harg1 arg2 harg2 arg3 harg3 arg4 harg4 arg5 harg5 arg6 harg6) K } := by
  refine ⟨?_, ?_, fun E K => ?run⟩
  case run =>
    simp only [cc0_proj_dn_z_eq_skeleton]; unfold cc0_proj_dn_z_skel
    simp only [k0_part1_eq_skeleton]; unfold k0_part1_skel
    unfold own owns
    iintro ⟨⟨%f0, %hf0, H0⟩, ⟨%f1, %hf1, H1⟩, ⟨%f2, %hf2, H2⟩, ⟨%yo, %fo, -, HO⟩, ⟨%yd0, %fd0, -, HD0⟩, ⟨%ys, %fs, -, HS⟩, Hk⟩
    obtain rfl := harg1.eq_unread hf0
    obtain rfl := harg2.eq_unread hf1
    obtain rfl := harg3.eq_unread hf2
    sl_exec (disch := first | sl_exact hc.1 | sl_exact hc.2.1 | sl_exact hc.2.2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HO]
    · iexists _; iexists _; isplitr
      swap; · iexact HO
      ipureintro; rfl
    isplitl [HD0]; · iexists _; iexact HD0
    iexists _; iexact HS

set_option maxHeartbeats 2000000 in
/-- A later point before the last: the body writes the tile of the point before, then makes its own. -/
noncomputable def runB (hc : AtB i) :
    Σ' (L : List (View.Piece (Elt F) S1024x1024 .bf16)), Σ' (L0 : List (View.Piece (Elt F) S256x4096 .bf16)), { LS : List (View.Piece (Elt F) S1024x1024 .f32) //
      ∀ (E : Set ℕ) (K : PUnit → sProp 𝕄),
        iprop(own c arg1 x0 ∗ own c arg2 x1 ∗ own c arg3 x2 ∗ own c arg4 y ∗ (∃ d, own c arg5 d) ∗ own c arg6 s ∗ (iprop(own c arg1 x0 ∗ own c arg2 x1 ∗ own c arg3 x2 ∗ over c harg4 y L ∗ wrote c arg5 L0 ∗ wrote c arg6 LS) -∗ K ⟨⟩))
          ⊢ wp frame (wpE (defs₀ (F := F)) Variants.none c none) E (cc0_proj_dn_z i arg1 harg1 arg2 harg2 arg3 harg3 arg4 harg4 arg5 harg5 arg6 harg6) K } := by
  refine ⟨?_, ?_, ?_, fun E K => ?run⟩
  case run =>
    simp only [cc0_proj_dn_z_eq_skeleton]; unfold cc0_proj_dn_z_skel
    simp only [k0_part1_eq_skeleton]; unfold k0_part1_skel
    unfold own owns
    iintro ⟨⟨%f0, %hf0, H0⟩, ⟨%f1, %hf1, H1⟩, ⟨%f2, %hf2, H2⟩, ⟨%fo, %hfo, HO⟩, ⟨%yd0, %fd0, -, HD0⟩, ⟨%fs, %hfs, HS⟩, Hk⟩
    obtain rfl := harg1.eq_unread hf0
    obtain rfl := harg2.eq_unread hf1
    obtain rfl := harg3.eq_unread hf2
    obtain rfl := harg4.eq_unread hfo
    obtain rfl := harg6.eq_unread hfs
    sl_exec (disch := first | sl_exact hc.1 | sl_exact hc.2.1 | sl_exact hc.2.2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HO]; · iexact HO
    isplitl [HD0]; · iexists _; iexact HD0
    iexists _; iexact HS

set_option maxHeartbeats 2000000 in
/-- The last point: the body writes the last tile. -/
noncomputable def runC (hc : AtC i) :
    { L : List (View.Piece (Elt F) S1024x1024 .bf16) //
      ∀ (E : Set ℕ) (K : PUnit → sProp 𝕄),
        iprop(own c arg4 y ∗ own c arg6 s ∗ (iprop(over c harg4 y L ∗ own c arg6 s) -∗ K ⟨⟩))
          ⊢ wp frame (wpE (defs₀ (F := F)) Variants.none c none) E (cc0_proj_dn_z i arg1 harg1 arg2 harg2 arg3 harg3 arg4 harg4 arg5 harg5 arg6 harg6) K } := by
  refine ⟨?_, fun E K => ?run⟩
  case run =>
    simp only [cc0_proj_dn_z_eq_skeleton]; unfold cc0_proj_dn_z_skel
    simp only [k0_part1_eq_skeleton]; unfold k0_part1_skel
    unfold own owns
    iintro ⟨⟨%fo, %hfo, HO⟩, ⟨%fs, %hfs, HS⟩, Hk⟩
    obtain rfl := harg4.eq_unread hfo
    obtain rfl := harg6.eq_unread hfs
    sl_exec (disch := first | sl_exact hc.1 | sl_exact hc.2.1 | sl_exact hc.2.2)
    sl_step
    iapply Hk
    isplitl [HO]; · iexact HO
    iexists _; isplitr; · ipureintro; exact harg6.read_unread _
    iexact HS

/-! ## What a point leaves -/

/-- An output block, from the accumulator: four bands of rows, one after the other. -/
def tile (s : Vec F S1024x1024 .f32) (y : Vec F S1024x1024 .bf16) : Vec F S1024x1024 .bf16 :=
  (VecWindow.put (VecWindow.put (VecWindow.put (VecWindow.put y ![0, 0] S256x1024.size (k0_pay2 (View.ld s (Rect.unit (s := S1024x1024) ![0, 0] S256x1024.size inb_S1024x1024_S256x1024_0_0)))) ![256, 0] S256x1024.size (k0_pay3 (View.ld s (Rect.unit (s := S1024x1024) ![256, 0] S256x1024.size inb_S1024x1024_S256x1024_256_0)))) ![512, 0] S256x1024.size (k0_pay4 (View.ld s (Rect.unit (s := S1024x1024) ![512, 0] S256x1024.size inb_S1024x1024_S256x1024_512_0)))) ![768, 0] S256x1024.size (k0_pay5 (View.ld s (Rect.unit (s := S1024x1024) ![768, 0] S256x1024.size inb_S1024x1024_S256x1024_768_0))))

theorem pieces_acc_A (hc : AtA i) :
    (runA (F := F) c i harg1 harg2 harg3 harg4 harg5 harg6 x0 x1 x2 hc).2.1 = [⟨(Rect.unit (s := S1024x1024) ![0, 0] S1024x1024.size inb_S1024x1024_S1024x1024_0_0), k0_pay10 (View.ld (arg1.view.read (Elt F) (harg1.unread x0)) (Rect.unit (s := S1024x4096) ![0, 0] S1024x4096.size inb_S1024x4096_S1024x4096_0_0)) (View.ld (arg2.view.read (Elt F) (harg2.unread x1)) (Rect.unit (s := S1024x4096) ![0, 0] S1024x4096.size inb_S1024x4096_S1024x4096_0_0))⟩, ⟨(Rect.unit (s := S1024x1024) ![0, 0] S1024x1024.size inb_S1024x1024_S1024x1024_0_0), k0_pay1⟩] := by
  unfold runA
  sl_open_run
  sl_open_pay
  sl_kernel_rfl

/-- The accumulator afterwards: the product of the point's rows and weight rows. -/
theorem acc_A (hc : AtA i) (f : arg6.view.ty.Contents (Elt F)) :
    arg6.view.read (Elt F) (arg6.view.writes (Elt F) f (runA (F := F) c i harg1 harg2 harg3 harg4 harg5 harg6 x0 x1 x2 hc).2.1) = k0_pay10 x0 x1 := by
  have hz : (![0, 0] : Fin 2 → ℕ) = fun _ => 0 := funext fun a => by fin_cases a <;> rfl
  rw [pieces_acc_A, View.read_writes_full]
  simp only [Memref.IsWhole.read_unread]
  rw [View.ld_unit_zero (S := S1024x4096) hz, View.ld_unit_zero (S := S1024x4096) hz]

theorem pieces_cast0_A (hc : AtA i) :
    (runA (F := F) c i harg1 harg2 harg3 harg4 harg5 harg6 x0 x1 x2 hc).1 = [⟨(Rect.unit (s := S256x4096) ![0, 0] S256x4096.size inb_S256x4096_S256x4096_0_0), k0_pay11 (View.ld (arg3.view.read (Elt F) (harg3.unread x2)) (Rect.unit (s := S256x4096) ![0, 0] S256x4096.size inb_S256x4096_S256x4096_0_0))⟩] := by
  unfold runA
  sl_open_run
  sl_open_pay
  sl_kernel_rfl

/-- The cast weight's block afterwards: the weight's rows, cast. -/
theorem cast0_A (hc : AtA i) (f : arg5.view.ty.Contents (Elt F)) :
    arg5.view.read (Elt F) (arg5.view.writes (Elt F) f (runA (F := F) c i harg1 harg2 harg3 harg4 harg5 harg6 x0 x1 x2 hc).1) = k0_pay11 x2 := by
  have hz : (![0, 0] : Fin 2 → ℕ) = fun _ => 0 := funext fun a => by fin_cases a <;> rfl
  rw [pieces_cast0_A, View.read_writes_full]
  simp only [Memref.IsWhole.read_unread]
  rw [View.ld_unit_zero (S := S256x4096) hz]

theorem pieces_acc_B (hc : AtB i) :
    (runB (F := F) c i harg1 harg2 harg3 harg4 harg5 harg6 x0 x1 x2 y s hc).2.2.1 = [⟨(Rect.unit (s := S1024x1024) ![0, 0] S1024x1024.size inb_S1024x1024_S1024x1024_0_0), k0_pay10 (View.ld (arg1.view.read (Elt F) (harg1.unread x0)) (Rect.unit (s := S1024x4096) ![0, 0] S1024x4096.size inb_S1024x4096_S1024x4096_0_0)) (View.ld (arg2.view.read (Elt F) (harg2.unread x1)) (Rect.unit (s := S1024x4096) ![0, 0] S1024x4096.size inb_S1024x4096_S1024x4096_0_0))⟩] := by
  unfold runB
  sl_open_run
  sl_open_pay
  sl_kernel_rfl

/-- The accumulator afterwards: the product of the point's rows and weight rows. -/
theorem acc_B (hc : AtB i) (f : arg6.view.ty.Contents (Elt F)) :
    arg6.view.read (Elt F) (arg6.view.writes (Elt F) f (runB (F := F) c i harg1 harg2 harg3 harg4 harg5 harg6 x0 x1 x2 y s hc).2.2.1) = k0_pay10 x0 x1 := by
  have hz : (![0, 0] : Fin 2 → ℕ) = fun _ => 0 := funext fun a => by fin_cases a <;> rfl
  rw [pieces_acc_B, View.read_writes_full]
  simp only [Memref.IsWhole.read_unread]
  rw [View.ld_unit_zero (S := S1024x4096) hz, View.ld_unit_zero (S := S1024x4096) hz]

theorem pieces_cast0_B (hc : AtB i) :
    (runB (F := F) c i harg1 harg2 harg3 harg4 harg5 harg6 x0 x1 x2 y s hc).2.1 = [⟨(Rect.unit (s := S256x4096) ![0, 0] S256x4096.size inb_S256x4096_S256x4096_0_0), k0_pay11 (View.ld (arg3.view.read (Elt F) (harg3.unread x2)) (Rect.unit (s := S256x4096) ![0, 0] S256x4096.size inb_S256x4096_S256x4096_0_0))⟩] := by
  unfold runB
  sl_open_run
  sl_open_pay
  sl_kernel_rfl

/-- The cast weight's block afterwards: the weight's rows, cast. -/
theorem cast0_B (hc : AtB i) (f : arg5.view.ty.Contents (Elt F)) :
    arg5.view.read (Elt F) (arg5.view.writes (Elt F) f (runB (F := F) c i harg1 harg2 harg3 harg4 harg5 harg6 x0 x1 x2 y s hc).2.1) = k0_pay11 x2 := by
  have hz : (![0, 0] : Fin 2 → ℕ) = fun _ => 0 := funext fun a => by fin_cases a <;> rfl
  rw [pieces_cast0_B, View.read_writes_full]
  simp only [Memref.IsWhole.read_unread]
  rw [View.ld_unit_zero (S := S256x4096) hz]

theorem pieces_out_B (hc : AtB i) :
    (runB (F := F) c i harg1 harg2 harg3 harg4 harg5 harg6 x0 x1 x2 y s hc).1 = [⟨(Rect.unit (s := S1024x1024) ![768, 0] S256x1024.size inb_S1024x1024_S256x1024_768_0), k0_pay9 (View.ld (arg6.view.read (Elt F) (harg6.unread s)) (Rect.unit (s := S1024x1024) ![768, 0] S256x1024.size inb_S1024x1024_S256x1024_768_0))⟩, ⟨(Rect.unit (s := S1024x1024) ![512, 0] S256x1024.size inb_S1024x1024_S256x1024_512_0), k0_pay8 (View.ld (arg6.view.read (Elt F) (harg6.unread s)) (Rect.unit (s := S1024x1024) ![512, 0] S256x1024.size inb_S1024x1024_S256x1024_512_0))⟩, ⟨(Rect.unit (s := S1024x1024) ![256, 0] S256x1024.size inb_S1024x1024_S256x1024_256_0), k0_pay7 (View.ld (arg6.view.read (Elt F) (harg6.unread s)) (Rect.unit (s := S1024x1024) ![256, 0] S256x1024.size inb_S1024x1024_S256x1024_256_0))⟩, ⟨(Rect.unit (s := S1024x1024) ![0, 0] S256x1024.size inb_S1024x1024_S256x1024_0_0), k0_pay6 (View.ld (arg6.view.read (Elt F) (harg6.unread s)) (Rect.unit (s := S1024x1024) ![0, 0] S256x1024.size inb_S1024x1024_S256x1024_0_0))⟩] := by
  unfold runB
  sl_open_run
  sl_open_pay
  sl_kernel_rfl

/-- The output block afterwards: the accumulator's tile. -/
theorem out_B (hc : AtB i) :
    arg4.view.read (Elt F) (arg4.view.writes (Elt F) (harg4.unread y) (runB (F := F) c i harg1 harg2 harg3 harg4 harg5 harg6 x0 x1 x2 y s hc).1) = tile s y := by
  rw [pieces_out_B]
  rw [View.read_writes_cons_put _ _ _ _ _ rfl, View.read_writes_cons_put _ _ _ _ _ rfl, View.read_writes_cons_put _ _ _ _ _ rfl, View.read_writes_cons_put _ _ _ _ _ rfl, View.writes_nil]
  simp only [Memref.IsWhole.read_unread]
  rfl

theorem pieces_out_C (hc : AtC i) :
    (runC (F := F) c i harg1 harg2 harg3 harg4 harg5 harg6  y s hc).1 = [⟨(Rect.unit (s := S1024x1024) ![768, 0] S256x1024.size inb_S1024x1024_S256x1024_768_0), k0_pay5 (View.ld (arg6.view.read (Elt F) (harg6.unread s)) (Rect.unit (s := S1024x1024) ![768, 0] S256x1024.size inb_S1024x1024_S256x1024_768_0))⟩, ⟨(Rect.unit (s := S1024x1024) ![512, 0] S256x1024.size inb_S1024x1024_S256x1024_512_0), k0_pay4 (View.ld (arg6.view.read (Elt F) (harg6.unread s)) (Rect.unit (s := S1024x1024) ![512, 0] S256x1024.size inb_S1024x1024_S256x1024_512_0))⟩, ⟨(Rect.unit (s := S1024x1024) ![256, 0] S256x1024.size inb_S1024x1024_S256x1024_256_0), k0_pay3 (View.ld (arg6.view.read (Elt F) (harg6.unread s)) (Rect.unit (s := S1024x1024) ![256, 0] S256x1024.size inb_S1024x1024_S256x1024_256_0))⟩, ⟨(Rect.unit (s := S1024x1024) ![0, 0] S256x1024.size inb_S1024x1024_S256x1024_0_0), k0_pay2 (View.ld (arg6.view.read (Elt F) (harg6.unread s)) (Rect.unit (s := S1024x1024) ![0, 0] S256x1024.size inb_S1024x1024_S256x1024_0_0))⟩] := by
  unfold runC
  sl_open_run
  sl_open_pay
  sl_kernel_rfl

/-- The output block afterwards: the accumulator's tile. -/
theorem out_C (hc : AtC i) :
    arg4.view.read (Elt F) (arg4.view.writes (Elt F) (harg4.unread y) (runC (F := F) c i harg1 harg2 harg3 harg4 harg5 harg6  y s hc).1) = tile s y := by
  rw [pieces_out_C]
  rw [View.read_writes_cons_put _ _ _ _ _ rfl, View.read_writes_cons_put _ _ _ _ _ rfl, View.read_writes_cons_put _ _ _ _ _ rfl, View.read_writes_cons_put _ _ _ _ _ rfl, View.writes_nil]
  simp only [Memref.IsWhole.read_unread]
  rfl

end body

variable (m : (ℓ : Loc nD τ sig) → Buf (Elt F) ℓ) (ρ : Dev nD → PrngReg)

/-! ## The launch -/

abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x4096 .bf16 := win0_4.stage (cfg0.slots t 4)
abbrev hs0_4 (t : Fin cfg0.N) : (ms0_4 t).IsWhole := hstage0_4 ((cfg0.slots t 4).cast nbuf0_4)
/-- The accumulator, whole. -/
abbrev scM0_0 : Memref sig .tc .vmem S1024x1024 .f32 := Memref.whole cc0_scratch0
abbrev wh0 : scM0_0.IsWhole := Memref.isWhole_whole _

/-- The invariant a launch starts from, at this kernel's one scratch array. -/
theorem start_eq (c : Dev nD) :
    (Pipeline.ΦA spec0 c : sProp 𝕄)
      = iprop(iprop((∃ d, own c scM0_0 d)) ∗ (∃ r, prngReg c r)) := by
  unfold Pipeline.ΦA; rw [scopedRest0_eq]; simp only [own, scM0_0, owns_whole]; try rfl

/-- The point below 32 that filled the accumulator after point `n`. -/
def filled (n : ℕ) : Fin cfg0.N := ⟨min n 31, lt_of_lt_of_eq (by omega : min n 31 < 33) N_0.symm⟩

/-- The accumulator after point `n`. -/
def prodAt (c : Dev nD) (n : ℕ) : Vec F S1024x1024 .f32 := k0_pay10 (iblk m c 0 (filled n)) (iblk m c 1 (filled n))

theorem prodAt_inner (c : Dev nD) (t : Fin cfg0.N) (h : t.val < 32) : prodAt m c t.val = k0_pay10 (iblk m c 0 t) (iblk m c 1 t) := by
  have e : filled t.val = t := Fin.ext (by show min t.val 31 = t.val; omega)
  unfold prodAt
  rw [e]

theorem prodAt_last (c : Dev nD) (t : Fin cfg0.N) (h : t.val = 32) : prodAt m c t.val = prodAt m c (t.val - 1) := by
  have e : filled t.val = filled (t.val - 1) := Fin.ext (by show min t.val 31 = min (t.val - 1) 31; omega)
  unfold prodAt
  rw [e]

/-- What point `t` leaves in the block of cast weight 0: the weight's rows, cast, and at the last point what it found. -/
def cast0At (c : Dev nD) (t : Fin cfg0.N) (y : Vec F S256x4096 .bf16) : Vec F S256x4096 .bf16 :=
  if t.val < 32 then k0_pay11 (iblk m c 2 t) else y

/-- The invariant before point `n`: the accumulator at what the point before left. -/
def PhiS (c : Dev nD) : ℕ → sProp 𝕄
  | 0 => Pipeline.ΦA spec0 c
  | n + 1 => iprop(iprop(own c scM0_0 (prodAt m c n)) ∗ (∃ r, prngReg c r))

theorem PhiS_succ (c : Dev nD) (n : ℕ) :
    PhiS m c (n + 1) = iprop(iprop(own c scM0_0 (prodAt m c n)) ∗ (∃ r, prngReg c r)) := rfl
theorem PhiS_pos (c : Dev nD) (n : ℕ) (hz : n ≠ 0) :
    PhiS m c n = iprop(iprop(own c scM0_0 (prodAt m c (n - 1))) ∗ (∃ r, prngReg c r)) := by
  cases n with
  | zero => exact absurd rfl hz
  | succ n => rfl

/-- The launch's proof data: the inputs' buffers stay as they are; from the second point on the output's becomes the tile of
    the point before; the cast weights' become their rows, cast. -/
def data (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => t.val ≠ 0 → X = tile (prodAt m c (t.val - 1)) Y
    | ⟨4, _⟩ => fun Y X => X = cast0At m c t Y
  Φ t := PhiS m c t.val
  q _ := fullShare
  owed _ := 0

theorem A_eq (c : Dev nD) (w : Fin cfg0.W) : (data m c).A w = V m c (Pipeline.arrRef spec0 w) := by
  dsimp only [data]
theorem after_0 (c : Dev nD) (t : Fin cfg0.N) (Y X) : (data m c).after 0 t Y X ↔ X = Y := by dsimp only [data]; exact Iff.rfl
theorem after_1 (c : Dev nD) (t : Fin cfg0.N) (Y X) : (data m c).after 1 t Y X ↔ X = Y := by dsimp only [data]; exact Iff.rfl
theorem after_2 (c : Dev nD) (t : Fin cfg0.N) (Y X) : (data m c).after 2 t Y X ↔ X = Y := by dsimp only [data]; exact Iff.rfl
theorem after_3 (c : Dev nD) (t : Fin cfg0.N) (Y X) : (data m c).after 3 t Y X ↔ (t.val ≠ 0 → X = tile (prodAt m c (t.val - 1)) Y) := by dsimp only [data]; exact Iff.rfl
theorem after_4 (c : Dev nD) (t : Fin cfg0.N) (Y X) : (data m c).after 4 t Y X ↔ X = cast0At m c t Y := by dsimp only [data]; exact Iff.rfl

/-- Input 0's buffer holds its block at every point. -/
theorem finds_0 (c : Dev nD) (t : Fin cfg0.N) (Y) (h : (data m c).Finds 0 t Y) : Y = iblk m c 0 t := by
  obtain ⟨d, rfl⟩ := (data m c).finds_in_eq_fetched 0 rfl (fun _ _ _ => rfl) (fun t Y X h => (after_0 m c t Y X).mp h) t Y h
  unfold RDat.fetched RDat.blockOf iblk; rw [A_eq]; try rfl

/-- Input 1's buffer holds its block at every point. -/
theorem finds_1 (c : Dev nD) (t : Fin cfg0.N) (Y) (h : (data m c).Finds 1 t Y) : Y = iblk m c 1 t := by
  obtain ⟨d, rfl⟩ := (data m c).finds_in_eq_fetched 1 rfl (fun _ _ _ => rfl) (fun t Y X h => (after_1 m c t Y X).mp h) t Y h
  unfold RDat.fetched RDat.blockOf iblk; rw [A_eq]; try rfl

/-- Input 2's buffer holds its block at every point. -/
theorem finds_2 (c : Dev nD) (t : Fin cfg0.N) (Y) (h : (data m c).Finds 2 t Y) : Y = iblk m c 2 t := by
  obtain ⟨d, rfl⟩ := (data m c).finds_in_eq_fetched 2 rfl (fun _ _ _ => rfl) (fun t Y X h => (after_2 m c t Y X).mp h) t Y h
  unfold RDat.fetched RDat.blockOf iblk; rw [A_eq]; try rfl

/-! ## The body at a point -/

/-- What the body is called with at a point, the outputs' buffers at `y` and `z`. -/
def bodyPre (c : Dev nD) (t : Fin cfg0.N) (y : Vec F S1024x1024 .bf16) (z0 : Vec F S256x4096 .bf16) : sProp 𝕄 :=
  iprop((data m c).Φ t.castSucc ∗ (data m c).owesAt () t.castSucc
    ∗ own c (ms0_0 t) (iblk m c 0 t) ∗ own c (ms0_1 t) (iblk m c 1 t) ∗ own c (ms0_2 t) (iblk m c 2 t)
    ∗ own c (ms0_3 t) y
    ∗ own c (ms0_4 t) z0)

/-- What it returns. -/
def bodyPost (c : Dev nD) (t : Fin cfg0.N) (y : Vec F S1024x1024 .bf16) (z0 : Vec F S256x4096 .bf16) : sProp 𝕄 :=
  iprop((data m c).Φ t.succ ∗ (data m c).owesAt () t.succ
    ∗ own c (ms0_0 t) (iblk m c 0 t) ∗ own c (ms0_1 t) (iblk m c 1 t) ∗ own c (ms0_2 t) (iblk m c 2 t)
    ∗ (∃ X, ⌜t.val ≠ 0 → X = tile (prodAt m c (t.val - 1)) y⌝ ∗ own c (ms0_3 t) X)
    ∗ own c (ms0_4 t) (cast0At m c t z0))

set_option maxHeartbeats 4800000 in
/-- The body at any point. -/
theorem sound_body (c : Dev nD) (t : Fin cfg0.N) (y : Vec F S1024x1024 .bf16) (z0 : Vec F S256x4096 .bf16) :
    bodyPre m c t y z0 ⊢ wp frame (wpE (defs₀ (F := F)) Variants.none c none) Set.univ (bodyAt0 t) (fun _ => bodyPost m c t y z0) := by
  have hN : t.val < 33 := lt_of_lt_of_eq t.isLt N_0
  unfold bodyPre bodyPost bodyAt0
  rw [show (data m c).owesAt () t.succ = (data m c).owesAt () t.castSucc from rfl]
  rw [show (data m c).Φ t.succ = PhiS m c (t.val + 1) from rfl, PhiS_succ, show (data m c).Φ t.castSucc = PhiS m c t.val from rfl]
  by_cases h1 : t.val < 32
  · have h2 : ¬t.val = 32 := by omega
    rw [show cast0At m c t z0 = k0_pay11 (iblk m c 2 t) from if_pos h1, prodAt_inner m c t h1]
    by_cases h0 : t.val = 0
    · rw [show PhiS m c t.val = Pipeline.ΦA spec0 c from by rw [h0]; rfl, start_eq]
      iintro ⟨⟨HS, Hg⟩, Ho, H0, H1, H2, HO, HD0⟩
      iapply ((runA (F := F) c (grid0.coords t) (hs0_0 t) (hs0_1 t) (hs0_2 t) (hs0_3 t) (hs0_4 t) wh0 (iblk m c 0 t) (iblk m c 1 t) (iblk m c 2 t)  ⟨((first_iff t).mpr h0), ((inner_iff t).mpr h1), (fun h => h2 ((last_iff t).mp h))⟩).2.2 Set.univ _)
      isplitl [H0]; · iexact H0
      isplitl [H1]; · iexact H1
      isplitl [H2]; · iexact H2
      isplitl [HO]; · iexists _; iexact HO
      isplitl [HD0]; · iexists _; iexact HD0
      isplitl [HS]; · iexact HS
      iintro ⟨H0, H1, H2, ⟨%yo, HO⟩, ⟨%e0, HD0⟩, ⟨%es, HS⟩⟩
      isplitl [HS Hg]
      · isplitl [HS]
        · unfold own owns; iexists _; isplitr
          swap; · iexact HS
          ipureintro; exact acc_A ..
        iexact Hg
      isplitl [Ho]; · iexact Ho
      isplitl [H0]; · iexact H0
      isplitl [H1]; · iexact H1
      isplitl [H2]; · iexact H2
      isplitl [HO]
      · iexists _; isplitr
        swap; · iexact HO
        ipureintro; exact fun h => absurd h0 h
      unfold own owns; iexists _; isplitr
      swap; · iexact HD0
      ipureintro; exact cast0_A ..
    · rw [PhiS_pos m c _ h0]
      iintro ⟨⟨HS, Hg⟩, Ho, H0, H1, H2, HO, HD0⟩
      iapply ((runB (F := F) c (grid0.coords t) (hs0_0 t) (hs0_1 t) (hs0_2 t) (hs0_3 t) (hs0_4 t) wh0 (iblk m c 0 t) (iblk m c 1 t) (iblk m c 2 t) y (prodAt m c (t.val - 1)) ⟨(fun h => h0 ((first_iff t).mp h)), ((inner_iff t).mpr h1), (fun h => h2 ((last_iff t).mp h))⟩).2.2.2 Set.univ _)
      isplitl [H0]; · iexact H0
      isplitl [H1]; · iexact H1
      isplitl [H2]; · iexact H2
      isplitl [HO]; · iexact HO
      isplitl [HD0]; · iexists _; iexact HD0
      isplitl [HS]; · iexact HS
      iintro ⟨H0, H1, H2, HO, ⟨%e0, HD0⟩, ⟨%es, HS⟩⟩
      isplitl [HS Hg]
      · isplitl [HS]
        · unfold own owns; iexists _; isplitr
          swap; · iexact HS
          ipureintro; exact acc_B ..
        iexact Hg
      isplitl [Ho]; · iexact Ho
      isplitl [H0]; · iexact H0
      isplitl [H1]; · iexact H1
      isplitl [H2]; · iexact H2
      isplitl [HO]
      · iexists _; isplitr
        swap
        · unfold own owns; iexists _; isplitr
          swap; · iexact HO
          ipureintro; exact out_B ..
        ipureintro; exact fun _ => rfl
      unfold own owns; iexists _; isplitr
      swap; · iexact HD0
      ipureintro; exact cast0_B ..
  · have h2 : t.val = 32 := by omega
    have h0 : ¬t.val = 0 := by omega
    rw [show cast0At m c t z0 = z0 from if_neg h1, prodAt_last m c t h2, PhiS_pos m c _ h0]
    iintro ⟨⟨HS, Hg⟩, Ho, H0, H1, H2, HO, HD0⟩
    iapply ((runC (F := F) c (grid0.coords t) (hs0_0 t) (hs0_1 t) (hs0_2 t) (hs0_3 t) (hs0_4 t) wh0 y (prodAt m c (t.val - 1)) ⟨(fun h => h0 ((first_iff t).mp h)), (fun h => h1 ((inner_iff t).mp h)), ((last_iff t).mpr h2)⟩).2 Set.univ _)
    isplitl [HO]; · iexact HO
    isplitl [HS]; · iexact HS
    iintro ⟨HO, HS⟩
    isplitl [HS Hg]
    · isplitl [HS]; · iexact HS
      iexact Hg
    isplitl [Ho]; · iexact Ho
    isplitl [H0]; · iexact H0
    isplitl [H1]; · iexact H1
    isplitl [H2]; · iexact H2
    isplitl [HO]
    · iexists _; isplitr
      swap
      · unfold own owns; iexists _; isplitr
        swap; · iexact HO
        ipureintro; exact out_C ..
      ipureintro; exact fun _ => rfl
    iexact HD0

/-- The body table's row at a point is the body as called there. -/
theorem defs₀_row (t : Fin cfg0.N) :
    defs₀ (F := F) .tc cfg0.body (cfg0.bodyArgs t (cfg0.slots t)) = bodyAt0 t := by
  unfold defs₀; rw [Defs.onTc_tc]

/-- What a point returns is what the proof data asks for. -/
theorem post_restated (c : Dev nD) (t : Fin cfg0.N) (y : Vec F S1024x1024 .bf16) (z0 : Vec F S256x4096 .bf16) :
    bodyPost m c t y z0 ⊢ iprop((data m c).Φ t.succ ∗ (data m c).owesAt () t.succ
      ∗ (∃ X, ⌜(data m c).after 0 t (iblk m c 0 t) X⌝ ∗ own c (ms0_0 t) X)
      ∗ (∃ X, ⌜(data m c).after 1 t (iblk m c 1 t) X⌝ ∗ own c (ms0_1 t) X)
      ∗ (∃ X, ⌜(data m c).after 2 t (iblk m c 2 t) X⌝ ∗ own c (ms0_2 t) X)
      ∗ (∃ X, ⌜(data m c).after 3 t y X⌝ ∗ own c (ms0_3 t) X)
      ∗ (∃ X, ⌜(data m c).after 4 t z0 X⌝ ∗ own c (ms0_4 t) X)) := by
  unfold bodyPost
  iintro ⟨Hp, Ho, H0, H1, H2, ⟨%X, %hX, HO⟩, HD0⟩
  isplitl [Hp]; · iexact Hp
  isplitl [Ho]; · iexact Ho
  isplitl [H0]
  · iexists _; isplitr
    swap; · iexact H0
    ipureintro; exact (after_0 m c t _ _).mpr rfl
  isplitl [H1]
  · iexists _; isplitr
    swap; · iexact H1
    ipureintro; exact (after_1 m c t _ _).mpr rfl
  isplitl [H2]
  · iexists _; isplitr
    swap; · iexact H2
    ipureintro; exact (after_2 m c t _ _).mpr rfl
  isplitl [HO]
  · iexists _; isplitr
    swap; · iexact HO
    ipureintro; exact (after_3 m c t _ _).mpr hX
  iexists _; isplitr
  swap; · iexact HD0
  ipureintro; exact (after_4 m c t _ _).mpr rfl

/-- The body at every point, in the form the launch takes it. -/
theorem body_obligation (c : Dev nD) : (data (F := F) m c).BodyObligation (defs₀ (F := F)) Variants.none () Set.univ := fun t Y hY => by
  rw [bigSep_W0, bigSep_W0, defs₀_row]
  rw [finds_0 m c t (Y 0) (hY 0), finds_1 m c t (Y 1) (hY 1), finds_2 m c t (Y 2) (hY 2)]
  exact triple_restated (sound_body m c t (Y 3) (Y 4)) rfl .rfl fun _ => post_restated m c t (Y 3) (Y 4)

theorem hin (c : Dev nD) : Pipeline.ΦA spec0 c ⊢ (data m c).Φ 0 := by
  rw [show (data m c).Φ 0 = Pipeline.ΦA spec0 c from rfl]
  try exact Idealize.SL.BI.Entails.refl _
theorem hout (c : Dev nD) : (data m c).Φ (Fin.last cfg0.N) ⊢ Pipeline.ΦA spec0 c := by
  rw [start_eq, show (data m c).Φ (Fin.last cfg0.N) = PhiS m c cfg0.N from rfl, PhiS_pos m c _ (by rw [show cfg0.N = 33 from N_0]; omega)]
  iintro ⟨HS0, Hg⟩
  isplitl [HS0]
  · iexists _; iexact HS0
  iexact Hg

set_option backward.isDefEq.respectTransparency.types false in
/-- Every execution ends with the arrays at what the proof data allows and every semaphore at zero. -/
theorem run_quiescent : θ_run defs (onTc (τ := τ) (main (F := F))) (s₀ m ρ)
    (fun r => RDat.FramePost cfg0 (data m) (V m) r ∧ r.2.sem = fun _ => 0) :=
  RDat.θ_run_frame_track (Q' := _) cfgs (0 : Fin 1) launch0 defs₀ Variants.none (data m) m ρ main
    (hbody := fun c => body_obligation m c) (hshare := fun c => (data m c).share_full fun _ => rfl)
    (howed := fun _ _ => rfl) (V := V m) (hmain := hmain m Variants.none) (hA := A_eq m) (hin := hin m) (hout := hout m)

/-- The argument arrays end unchanged. -/
theorem kept (r) (h : RDat.FramePost cfg0 (data m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(RDat.FramePost.arr_in h c 0 rfl).trans ((A_eq m c 0).trans (V_main_arg0 m c)), (RDat.FramePost.arr_in h c 1 rfl).trans ((A_eq m c 1).trans (V_main_arg1 m c)), (RDat.FramePost.arr_in h c 2 rfl).trans ((A_eq m c 2).trans (V_main_arg2 m c))⟩

/-- The frame: the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => kept m r h.1 c, h.2⟩) (run_quiescent m ρ)

end Cert.DnZLaunch

end
-- ==== Proof.DnZValue.lean ====
/- The `proj_dn_z` call beside its reference: the SiLU of the product, and the weight it casts on the way. -/
module

public import proofs.«01_k».proof.Defs
public import proofs.«01_k».proof.Proof.DnZLaunch
public import proofs.«01_k».proof.Proof.Gen.DnZ
public import proofs.«01_k».proof.Proof.Gen.DnZReferenceIdeal.Run
public import Idealize.ShloMosaic.Lib.Pointwise
public import Idealize.ShloMosaic.Lib.KernelVsHost

@[expose] public section

set_option maxRecDepth 65536
set_option synthInstance.maxSize 4096
set_option backward.isDefEq.respectTransparency false

noncomputable section

namespace Cert.DnZIdeal.Words

open Idealize.ShloMosaic Idealize.ShloMosaic.TcCoe Idealize.ShloMosaic.Tactic Idealize.SL.Sem Idealize.ShloMosaic.Pipeline Cert.DnZIdeal Cert.DnZIdeal.Gen Cert.DnZLaunch

/-! ## The tile -/

/-- Rows put into a tile, at a row of theirs. -/
theorem put_in {α : Type} (y : S1024x1024.Idx → α) (o : ℕ) (w : S256x1024.Idx → α) (i j : Fin 1024) (r : Fin 256) (h : i.val = o + r.val) :
    VecWindow.put (s := S1024x1024) y ![o, 0] S256x1024.size w (ix2 i j) = w (ix2 r j) := by
  have hr := r.isLt
  have hj := j.isLt
  have h' : ∀ a : Fin 2, (![o, 0] : Fin 2 → ℕ) a ≤ ((ix2 i j : S1024x1024.Idx) a).val ∧ ((ix2 i j : S1024x1024.Idx) a).val < (![o, 0] : Fin 2 → ℕ) a + S256x1024.size a := by
    intro a
    match a with
    | ⟨0, _⟩ => show o ≤ i.val ∧ i.val < o + 256; omega
    | ⟨1, _⟩ => show 0 ≤ j.val ∧ j.val < 0 + 1024; omega
  refine (dif_pos h').trans (congrArg w ?_)
  funext a
  apply Fin.ext
  match a with
  | ⟨0, _⟩ => show i.val - o = r.val; omega
  | ⟨1, _⟩ => show j.val - 0 = j.val; omega

/-- Rows put into a tile, at a row before or behind them. -/
theorem put_out {α : Type} (y : S1024x1024.Idx → α) (o : ℕ) (w : S256x1024.Idx → α) (i j : Fin 1024) (h : i.val < o ∨ o + 256 ≤ i.val) :
    VecWindow.put (s := S1024x1024) y ![o, 0] S256x1024.size w (ix2 i j) = y (ix2 i j) :=
  dif_neg fun h' => by
    have e : o ≤ i.val ∧ i.val < o + 256 := h' 0
    omega

/-- Rows read of a tile. -/
theorem ld_at (s : Vec Ideal S1024x1024 .f32) (o : ℕ) (hb : ∀ a, (![o, 0] : Fin 2 → ℕ) a + S256x1024.size a ≤ S1024x1024.size a) (i j : Fin 1024) (r : Fin 256) (h : i.val = o + r.val) :
    (View.ld s (Rect.unit (s := S1024x1024) ![o, 0] S256x1024.size hb) : Vec Ideal S256x1024 .f32) (ix2 r j) = s (ix2 i j) := by
  show s _ = s _
  congr 1
  funext x
  apply Fin.ext
  match x with
  | ⟨0, _⟩ => show o + 1 * r.val = i.val; omega
  | ⟨1, _⟩ => show 0 + 1 * j.val = j.val; omega

/-- What becomes of one element of the product. -/
def act (z : EReal) : EReal := z * Ideal.logistic z

theorem pay2_at (X : FVec Ideal S256x1024 .f32) (i : Fin 256) (j : Fin 1024) : (k0_pay2 (F := Ideal) X (ix2 i j) : EReal) = act (X (ix2 i j)) := by
  unfold k0_pay2 act
  pointwise []

theorem pay3_at (X : FVec Ideal S256x1024 .f32) (i : Fin 256) (j : Fin 1024) : (k0_pay3 (F := Ideal) X (ix2 i j) : EReal) = act (X (ix2 i j)) := by
  unfold k0_pay3 act
  pointwise []

theorem pay4_at (X : FVec Ideal S256x1024 .f32) (i : Fin 256) (j : Fin 1024) : (k0_pay4 (F := Ideal) X (ix2 i j) : EReal) = act (X (ix2 i j)) := by
  unfold k0_pay4 act
  pointwise []

theorem pay5_at (X : FVec Ideal S256x1024 .f32) (i : Fin 256) (j : Fin 1024) : (k0_pay5 (F := Ideal) X (ix2 i j) : EReal) = act (X (ix2 i j)) := by
  unfold k0_pay5 act
  pointwise []

/-- The output tile a point leaves, at an index. -/
theorem tile_at (s : Vec Ideal S1024x1024 .f32) (y : Vec Ideal S1024x1024 .bf16) (i j : Fin 1024) : (tile s y (ix2 i j) : EReal) = act (s (ix2 i j)) := by
  have hi := i.isLt
  unfold tile
  by_cases h3 : 768 ≤ i.val
  · obtain ⟨r, hr⟩ : ∃ r : Fin 256, i.val = 768 + r.val := ⟨⟨i.val - 768, by omega⟩, by simp only []; omega⟩
    refine (put_in _ 768 _ i j r hr).trans ((pay5_at _ r j).trans ?_)
    rw [ld_at s 768 _ i j r hr]
  refine (put_out _ 768 _ i j (Or.inl (by omega))).trans ?_
  by_cases h2 : 512 ≤ i.val
  · obtain ⟨r, hr⟩ : ∃ r : Fin 256, i.val = 512 + r.val := ⟨⟨i.val - 512, by omega⟩, by simp only []; omega⟩
    refine (put_in _ 512 _ i j r hr).trans ((pay4_at _ r j).trans ?_)
    rw [ld_at s 512 _ i j r hr]
  refine (put_out _ 512 _ i j (Or.inl (by omega))).trans ?_
  by_cases h1 : 256 ≤ i.val
  · obtain ⟨r, hr⟩ : ∃ r : Fin 256, i.val = 256 + r.val := ⟨⟨i.val - 256, by omega⟩, by simp only []; omega⟩
    refine (put_in _ 256 _ i j r hr).trans ((pay3_at _ r j).trans ?_)
    rw [ld_at s 256 _ i j r hr]
  refine (put_out _ 256 _ i j (Or.inl (by omega))).trans ?_
  obtain ⟨r, hr⟩ : ∃ r : Fin 256, i.val = 0 + r.val := ⟨⟨i.val, by omega⟩, by simp only []; omega⟩
  refine (put_in _ 0 _ i j r hr).trans ((pay2_at _ r j).trans ?_)
  rw [ld_at s 0 _ i j r hr]

/-- The product of a tile, at an index. -/
theorem pay10_at (x w : FVec Ideal S1024x4096 .bf16) (i j : Fin 1024) :
    (k0_pay10 (F := Ideal) x w (ix2 i j) : EReal) = ∑ a : Fin 4096, x (ix2 i a) * w (ix2 j a) := by
  unfold k0_pay10
  pointwise []

/-- A cast keeps every value. -/
theorem pay11_at (X : FVec Ideal S256x4096 .f32) (i : Fin 256) (j : Fin 4096) : (k0_pay11 (F := Ideal) X (ix2 i j) : EReal) = X (ix2 i j) := by
  unfold k0_pay11
  pointwise []

/-! ## The windows -/

theorem at0 : ∀ t : Fin grid0.N, t.val < 32 → win0_0.index t 0 = t.val % 8 ∧ win0_0.index t 1 = 0 := by decide +kernel
theorem at1 : ∀ t : Fin grid0.N, t.val < 32 → win0_1.index t 0 = t.val / 8 ∧ win0_1.index t 1 = 0 := by decide +kernel
theorem at3 : ∀ t : Fin grid0.N, win0_3.index t 0 = (t.val - 1) % 8 ∧ win0_3.index t 1 = (t.val - 1) / 8 := by decide +kernel
theorem flush3 : ∀ t : Fin grid0.N, (cfg0.win 3).flush t = true ↔ 0 < t.val := by decide +kernel
theorem at2 : ∀ t : Fin grid0.N, t.val < 32 → win0_2.index t 0 = 24640 + 256 * t.val ∧ win0_2.index t 1 = 0 := by decide +kernel
theorem at4 : ∀ t : Fin grid0.N, win0_4.index t 0 = min t.val 31 ∧ win0_4.index t 1 = 0 := by decide +kernel
theorem flush4 : ∀ t : Fin grid0.N, (cfg0.win 4).flush t = true ↔ t.val ≠ 31 := by decide +kernel

section Points
variable {F : FTy → Type} [FloatOps F]
variable (m : (ℓ : Loc nD τ sig) → Buf (Elt F) ℓ)

theorem iblk0_at (c : Dev nD) (t : Fin cfg0.N) (h : t.val < 32) (i : Fin 1024) (j : Fin 4096) (a : Fin 8192) (ha : a.val = 1024 * (t.val % 8) + i.val) :
    (iblk m c 0 t : Vec F S1024x4096 .bf16) (ix2 i j) = m ((c : Thread nD τ).loc main_arg0) (ix2 a j) := by
  unfold iblk
  rw [View.read_apply]
  show V m c main_arg0 _ = _
  rw [V_main_arg0]
  congr 1
  funext x
  apply Fin.ext
  match x with
  | ⟨0, _⟩ => show win0_0.index t 0 * 1024 + 1 * i.val = a.val; rw [(at0 t h).1]; omega
  | ⟨1, _⟩ => show win0_0.index t 1 * 4096 + 1 * j.val = j.val; rw [(at0 t h).2]; omega

theorem iblk1_at (c : Dev nD) (t : Fin cfg0.N) (h : t.val < 32) (i : Fin 1024) (j : Fin 4096) (a : Fin 4096) (ha : a.val = 1024 * (t.val / 8) + i.val) :
    (iblk m c 1 t : Vec F S1024x4096 .bf16) (ix2 i j) = m ((c : Thread nD τ).loc main_arg1) (ix2 a j) := by
  unfold iblk
  rw [View.read_apply]
  show V m c main_arg1 _ = _
  rw [V_main_arg1]
  congr 1
  funext x
  apply Fin.ext
  match x with
  | ⟨0, _⟩ => show win0_1.index t 0 * 1024 + 1 * i.val = a.val; rw [(at1 t h).1]; omega
  | ⟨1, _⟩ => show win0_1.index t 1 * 4096 + 1 * j.val = j.val; rw [(at1 t h).2]; omega

theorem iblk2_at (c : Dev nD) (t : Fin cfg0.N) (h : t.val < 32) (i : Fin 256) (j : Fin 4096) (a : Fin 32832) (ha : a.val = 24640 + 256 * t.val + i.val) :
    (iblk m c 2 t : Vec F S256x4096 .f32) (ix2 i j) = m ((c : Thread nD τ).loc main_arg2) (ix2 a j) := by
  unfold iblk
  rw [View.read_apply]
  show V m c main_arg2 _ = _
  rw [V_main_arg2]
  congr 1
  funext x
  apply Fin.ext
  match x with
  | ⟨0, _⟩ => show win0_2.index t 0 + 1 * i.val = a.val; rw [(at2 t h).1]; omega
  | ⟨1, _⟩ => show win0_2.index t 1 + 1 * j.val = j.val; rw [(at2 t h).2]; omega

theorem emb3_at (t : Fin cfg0.N) (i j : Fin 1024) (a : Fin 8192) (b : Fin 4096)
    (ha : a.val = 1024 * ((t.val - 1) % 8) + i.val) (hb : b.val = 1024 * ((t.val - 1) / 8) + j.val) :
    ((cfg0.win 3).blk t).view.emb (ix2 i j) = ix2 a b := by
  funext x
  apply Fin.ext
  match x with
  | ⟨0, _⟩ => show win0_3.index t 0 * 1024 + 1 * i.val = a.val; rw [(at3 t).1]; omega
  | ⟨1, _⟩ => show win0_3.index t 1 * 1024 + 1 * j.val = b.val; rw [(at3 t).2]; omega

/-- Two points that write the output back write separate blocks. -/
theorem disjoint3 : ∀ t t' : Fin cfg0.N, (cfg0.win 3).flush t = true → (cfg0.win 3).flush t' = true → t ≠ t' →
    Disjoint ((cfg0.win 3).blk t).view.set ((cfg0.win 3).blk t').view.set := by
  intro t t' hf hf' hne
  refine (cfg0.win 3).disjoint_blk fun h => hne (Fin.ext ?_)
  have p := (flush3 t).mp hf
  have p' := (flush3 t').mp hf'
  have e0 : win0_3.index t 0 = win0_3.index t' 0 := congrFun h 0
  have e1 : win0_3.index t 1 = win0_3.index t' 1 := congrFun h 1
  rw [(at3 t).1, (at3 t').1] at e0
  rw [(at3 t).2, (at3 t').2] at e1
  omega

theorem emb4_at (t : Fin cfg0.N) (i : Fin 256) (j : Fin 4096) (a : Fin 8192) (ha : a.val = 256 * min t.val 31 + i.val) :
    ((cfg0.win 4).blk t).view.emb (ix2 i j) = ix2 a j := by
  funext x
  apply Fin.ext
  match x with
  | ⟨0, _⟩ => show win0_4.index t 0 * 256 + 1 * i.val = a.val; rw [(at4 t).1]; omega
  | ⟨1, _⟩ => show win0_4.index t 1 * 4096 + 1 * j.val = j.val; rw [(at4 t).2]; omega

/-- Two points that write the cast weight back write separate blocks. -/
theorem disjoint4 : ∀ t t' : Fin cfg0.N, (cfg0.win 4).flush t = true → (cfg0.win 4).flush t' = true → t ≠ t' →
    Disjoint ((cfg0.win 4).blk t).view.set ((cfg0.win 4).blk t').view.set := by
  intro t t' hf hf' hne
  refine (cfg0.win 4).disjoint_blk fun h => hne (Fin.ext ?_)
  have p := (flush4 t).mp hf
  have p' := (flush4 t').mp hf'
  have n : t.val < 33 := lt_of_lt_of_eq t.isLt N_0
  have n' : t'.val < 33 := lt_of_lt_of_eq t'.isLt N_0
  have e0 : win0_4.index t 0 = win0_4.index t' 0 := congrFun h 0
  rw [(at4 t).1, (at4 t').1] at e0
  omega

/-- What a point leaves in the cast weight's block: its rows cast; the last point leaves the block of the point before it. -/
theorem left4 (c : Dev nD) (t : Fin cfg0.N) (X) (h : (data m c).Leaves 4 t X) : X = k0_pay11 (iblk m c 2 (filled t.val)) := by
  have inner : ∀ (t : Fin cfg0.N) (Y X), t.val < 32 → (data m c).after 4 t Y X → X = k0_pay11 (iblk m c 2 (filled t.val)) := by
    intro t Y X hl hR
    rw [(after_4 m c t Y X).mp hR, show filled t.val = t from Fin.ext (by show min t.val 31 = t.val; omega)]
    exact if_pos hl
  have hn : t.val < 33 := lt_of_lt_of_eq t.isLt N_0
  obtain ⟨Y, hY, hR⟩ := h
  by_cases hl : t.val < 32
  · exact inner t Y X hl hR
  · have e : X = Y := ((after_4 m c t Y X).mp hR).trans (if_neg hl)
    have hb : t.val - 1 < cfg0.N := Nat.lt_of_le_of_lt (Nat.sub_le _ _) t.isLt
    rcases (RDat.finds_of_pos (data m c) (show (cfg0.win 4).fetch t = false from rfl) (by omega) Y).mp hY with hfl | ⟨Y', hY', hR'⟩
    · exact absurd (show t.val - 1 = 31 by omega) ((flush4 ⟨t.val - 1, hb⟩).mp hfl)
    · have e' := inner ⟨t.val - 1, hb⟩ Y' Y (by simp only []; omega) hR'
      rw [e, e', show filled (⟨t.val - 1, hb⟩ : Fin cfg0.N).val = filled t.val from Fin.ext (by show min (t.val - 1) 31 = min t.val 31; omega)]

end Points

/-! ## What every final state holds -/

variable (m : (ℓ : Loc nD τ sig) → Buf (Elt Ideal) ℓ)

/-- The product of a row of the input and a row of the weight. -/
def productAt (x : FVec Ideal S8192x4096 .bf16) (w : FVec Ideal S4096x4096 .bf16) (a : Fin 8192) (b : Fin 4096) : EReal :=
  ∑ k : Fin 4096, x (ix2 a k) * w (ix2 b k)

/-- The output, an element each: the product of a row and a weight row, and its SiLU. -/
def result (c : Dev nD) : Vec Ideal S8192x4096 .bf16 := fun x =>
  act (productAt (m ((c : Thread nD τ).loc main_arg0)) (m ((c : Thread nD τ).loc main_arg1)) (x 0) (x 1))

/-- Cast weight 0: the weight's rows from 24640 on. -/
def weight0 (c : Dev nD) : Vec Ideal S8192x4096 .bf16 := fun x =>
  (m ((c : Thread nD τ).loc main_arg2) : Vec Ideal S32832x4096 .f32) (ix2 ⟨24640 + (x 0).val, by have : (x 0).val < 8192 := (x 0).isLt; omega⟩ (x 1))

/-- The output, at the end. -/
theorem ends (c : Dev nD) (r : PUnit × MemSt nD τ sig (Elt Ideal)) (h : RDat.FramePost cfg0 (data m) (V m) r) :
    r.2.mem ((c : Thread nD τ).loc main_v0_0) = result m c := by
  obtain ⟨after, hL, hA⟩ := RDat.FramePost.exists_exact h c
  refine (hA 3).trans ?_
  funext x
  rw [eq_ix2 x]
  obtain ⟨a, ha⟩ : ∃ a : Fin 8192, a = x 0 := ⟨_, rfl⟩
  obtain ⟨b, hb⟩ : ∃ b : Fin 4096, b = x 1 := ⟨_, rfl⟩
  rw [← ha, ← hb]
  obtain ⟨t, ht⟩ : ∃ t : Fin cfg0.N, t.val = 8 * (b.val / 1024) + a.val / 1024 + 1 := ⟨⟨_, by rw [show cfg0.N = 33 from N_0]; omega⟩, rfl⟩
  obtain ⟨i, hi⟩ : ∃ i : Fin 1024, i.val = a.val % 1024 := ⟨⟨_, by omega⟩, rfl⟩
  obtain ⟨j, hj⟩ : ∃ j : Fin 1024, j.val = b.val % 1024 := ⟨⟨_, by omega⟩, rfl⟩
  have hf : (cfg0.win 3).flush t = true := (flush3 t).mpr (by omega)
  have e := congrFun (((data m c).withAfter after).read_blk_arrAt_eq_flushed 3 disjoint3 cfg0.N t t.isLt hf) (ix2 i j)
  rw [View.read_apply, emb3_at t i j a b (by omega) (by omega)] at e
  refine e.trans ?_
  obtain ⟨Y, hY, hR⟩ := hL 3 t hf
  have e' := (after_3 m c t Y _).mp hR (by omega)
  show (after 3 t : Vec Ideal S1024x1024 .bf16) (ix2 i j) = _
  rw [e']
  refine (tile_at _ _ i j).trans ?_
  have hp : (prodAt m c (t.val - 1) (ix2 i j) : EReal) = productAt (m ((c : Thread nD τ).loc main_arg0)) (m ((c : Thread nD τ).loc main_arg1)) a b := by
    have hv : (filled (t.val - 1)).val = t.val - 1 := by show min (t.val - 1) 31 = t.val - 1; omega
    refine (pay10_at _ _ i j).trans (Finset.sum_congr rfl fun k _ => ?_)
    rw [iblk0_at m c (filled (t.val - 1)) (by omega) i k a (by rw [hv]; omega), iblk1_at m c (filled (t.val - 1)) (by omega) j k b (by rw [hv]; omega)]
  rw [hp]
  rfl

/-- Cast weight 0, at the end. -/
theorem weight0_ends (c : Dev nD) (r : PUnit × MemSt nD τ sig (Elt Ideal)) (h : RDat.FramePost cfg0 (data m) (V m) r) :
    r.2.mem ((c : Thread nD τ).loc main_v0_1) = weight0 m c := by
  obtain ⟨after, hL, hA⟩ := RDat.FramePost.exists_exact h c
  refine (hA 4).trans ?_
  funext x
  rw [eq_ix2 x]
  obtain ⟨a, ha⟩ : ∃ a : Fin 8192, a = x 0 := ⟨_, rfl⟩
  obtain ⟨b, hb⟩ : ∃ b : Fin 4096, b = x 1 := ⟨_, rfl⟩
  rw [← ha, ← hb]
  obtain ⟨t, ht⟩ : ∃ t : Fin cfg0.N, t.val ≠ 31 ∧ min t.val 31 = a.val / 256 := by
    by_cases hl : a.val / 256 < 31
    · exact ⟨⟨a.val / 256, by rw [show cfg0.N = 33 from N_0]; omega⟩, by simp only []; omega, by simp only []; omega⟩
    · exact ⟨⟨32, by rw [show cfg0.N = 33 from N_0]; omega⟩, by simp only []; omega, by simp only []; omega⟩
  obtain ⟨i, hi⟩ : ∃ i : Fin 256, i.val = a.val % 256 := ⟨⟨_, by omega⟩, rfl⟩
  have hf : (cfg0.win 4).flush t = true := (flush4 t).mpr ht.1
  have e := congrFun (((data m c).withAfter after).read_blk_arrAt_eq_flushed 4 disjoint4 cfg0.N t t.isLt hf) (ix2 i b)
  rw [View.read_apply, emb4_at t i b a (by omega)] at e
  refine e.trans ?_
  show (after 4 t : Vec Ideal S256x4096 .bf16) (ix2 i b) = _
  rw [left4 m c t (after 4 t) (hL 4 t hf)]
  refine (pay11_at _ i b).trans ?_
  have hv : (filled t.val).val = min t.val 31 := rfl
  exact iblk2_at m c (filled t.val) (by omega) i b _ (by rw [hv]; show 24640 + a.val = _; omega)

end Cert.DnZIdeal.Words

namespace Cert.DnZValue

open Idealize.ShloMosaic Idealize.ShloMosaic.TcCoe Idealize.SL.Sem

attribute [local instance] Cert.DnZ.Gen.facts Cert.DnZIdeal.Gen.facts Cert.DnZReferenceIdeal.Gen.facts

open Cert.DnZReferenceIdeal Cert.DnZReferenceIdeal.Gen in
/-- The reference's term, at a row and a column. -/
theorem ref_at (x : FVec Ideal S8192x4096 .bf16) (w : FVec Ideal S4096x4096 .bf16) (a : Fin 8192) (b : Fin 4096) :
    ((truncf .bf16 (mulf (Host.dotGeneral dot_S8192x4096_S4096x4096_S8192x4096_1_1_0_0_n_n none x w) (Host.divf (broadcastInDim S8192x4096 ![] bcast_S_S8192x4096 (constant S_ .f32 0x3F800000#32)) (addf (broadcastInDim S8192x4096 ![] bcast_S_S8192x4096 (constant S_ .f32 0x3F800000#32)) (Host.exp (Host.negf (Host.dotGeneral dot_S8192x4096_S4096x4096_S8192x4096_1_1_0_0_n_n none x w)))))) bitsLt_bf16_f32 : FVec Ideal S8192x4096 .bf16) (ix2 a b) : EReal)
      = Cert.DnZIdeal.Words.act (∑ k : Fin 4096, x (ix2 a k) * w (ix2 b k)) := by
  unfold Cert.DnZIdeal.Words.act
  pointwise []
  rfl

/-! ## At machine floats the call is the same text -/

theorem bodies : @Cert.DnZ.defs₀ Bits _ _ = @Cert.DnZIdeal.defs₀ Bits _ _ := by
  unfold Cert.DnZ.defs₀ Cert.DnZIdeal.defs₀
  refine congrArg Defs.onTc ?_
  funext l a
  match l, a with
  | ⟨0, _⟩, (t, s) => rfl
  | ⟨_ + 1, h⟩, _ => exact absurd h (Nat.not_lt.2 (Nat.le_add_left _ _))

theorem tables : @Cert.DnZ.defs Bits _ _ = @Cert.DnZIdeal.defs Bits _ _ := by
  unfold Cert.DnZ.defs Cert.DnZIdeal.defs
  rw [bodies]
  rfl

/-- The call at machine floats runs, leaves its arguments and ends with its semaphores at zero. -/
theorem frame_floats : Cert.quiescent_DnZ := fun m ρ _ => by
  have h := Cert.DnZLaunch.frame (F := Bits) m ρ
  rw [← tables] at h
  exact h

/-- The call over the reals runs, leaves its arguments and ends with its semaphores at zero. -/
theorem frame : Cert.quiescent_DnZIdeal := fun m ρ _ => Cert.DnZLaunch.frame m ρ

/-- The reference runs, leaves its arguments and ends with its semaphores at zero: it has none. -/
theorem frame_reference : Cert.quiescent_DnZReferenceIdeal := fun m ρ _ =>
  (θ_run Cert.DnZReferenceIdeal.defs _ _).mono (fun r h => ⟨fun c => (h c).2.2, sem_eq_zero_of_no_sems (by decide) r.2⟩)
    (Cert.DnZReferenceIdeal.Value.run (F := Ideal) m ρ)

/-- The call and its reference end with the same results. -/
theorem algebraic : Cert.algebraic_DnZIdeal_DnZReferenceIdeal := fun m ρ m' ρ' hp ha =>
  ⟨fun c => Cert.DnZIdeal.Words.result m c, fun c => Cert.DnZIdeal.Words.weight0 m c,
    (θ_run Cert.DnZIdeal.defs _ _).mono (fun r h c => ⟨Cert.DnZIdeal.Words.ends m c r h.1, Cert.DnZIdeal.Words.weight0_ends m c r h.1, Cert.DnZLaunch.kept m r h.1 c⟩)
      (Cert.DnZLaunch.run_quiescent (F := Ideal) m ρ),
    (θ_run Cert.DnZReferenceIdeal.defs _ _).mono (fun r h c => ⟨(h c).1.trans (by
        obtain ⟨e0, e1, e2⟩ := ha c
        rw [e0, e1]
        funext x
        rw [eq_ix2 x]
        exact ref_at _ _ _ _), (h c).2.1.trans (by
        obtain ⟨e0, e1, e2⟩ := ha c
        rw [e2]
        funext x
        refine congrArg (m ((c.tc : Thread Cert.DnZIdeal.nD Cert.DnZIdeal.τ).loc Cert.DnZIdeal.main_arg2)) ?_
        funext y
        apply Fin.ext
        match y with
        | ⟨0, _⟩ => rfl
        | ⟨1, _⟩ => exact Nat.zero_add _), (h c).2.2⟩)
      (Cert.DnZReferenceIdeal.Value.run (F := Ideal) m' ρ')⟩

end Cert.DnZValue

end
-- ==== Proof.VLaunch.lean ====
/- The `proj_v` call over the reals: what the body does at each grid point, what each point leaves in the output
   block, in the cast weights' blocks and in the accumulator, and what every final state holds. A tile is the product of the point before, convolved along the rows with four taps, through
   the layer's activation; the rows above a tile are kept in a second scratch array. -/
module

public import proofs.«01_k».proof.Proof.Gen.VIdeal.Frame
public import proofs.«01_k».proof.Proof.Gen.VIdeal.Skeleton
public import Idealize.ShloMosaic.Lib.Tactic.Stretches
public import Idealize.ShloMosaic.Lib.VecWindow
public import Idealize.ShloMosaic.Lib.Pipeline.Value
public import Idealize.ShloMosaic.Lib.Pipeline.ArrRel

@[expose] public section

set_option maxRecDepth 16384

noncomputable section

namespace Cert.VLaunch

open Cert.VIdeal Cert.VIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## The tests of the body -/

/-- The test of the first point. -/
abbrev first (i : grid0.Coords) : Prop := (Scalar.cmpi .ne (Scalar.extui (Scalar.cmpi .eq (BitVec.ofNat 32 (i 0).val) 0#32)) 0#32) = 1#1

theorem first_iff : ∀ t : Fin cfg0.N, first (grid0.coords t) ↔ t.val = 0 :=
  (by decide +kernel : ∀ t : Fin grid0.N, first (grid0.coords t) ↔ t.val = 0)
theorem inner_iff : ∀ t : Fin cfg0.N, k0_cond2 (grid0.coords t) = 1#1 ↔ t.val < 32 :=
  (by decide +kernel : ∀ t : Fin grid0.N, k0_cond2 (grid0.coords t) = 1#1 ↔ t.val < 32)
theorem last_iff : ∀ t : Fin cfg0.N, k0_cond3 (grid0.coords t) = 1#1 ↔ t.val = 32 :=
  (by decide +kernel : ∀ t : Fin grid0.N, k0_cond3 (grid0.coords t) = 1#1 ↔ t.val = 32)

/-! ## Short names -/

/-- The test of the first point, of a later one, of the last one. -/
abbrev AtA (i : grid0.Coords) : Prop := first i ∧ k0_cond2 i = 1#1 ∧ ¬k0_cond3 i = 1#1
abbrev AtB (i : grid0.Coords) : Prop := ¬first i ∧ k0_cond2 i = 1#1 ∧ ¬k0_cond3 i = 1#1
abbrev AtC (i : grid0.Coords) : Prop := ¬first i ∧ ¬k0_cond2 i = 1#1 ∧ k0_cond3 i = 1#1

/-- A block holds `x`. -/
abbrev own {S : Shape} {e : EltTy} (c : Dev nD) (r : Memref sig .tc .vmem S e) (x : Vec F S e) : sProp 𝕄 := owns (c : Thread nD τ) r fullShare x

/-- A block holds something with the pieces `L` written over it. -/
abbrev wrote {S : Shape} {e : EltTy} (c : Dev nD) (r : Memref sig .tc .vmem S e) (L : List (View.Piece (Elt F) S e)) : sProp 𝕄 :=
  iprop(∃ f, r.view.loc (c : Thread nD τ) ↦[r.view.set]{fullShare} r.view.writes (Elt F) f L)

/-- A block that held `y` has the pieces `L` written over it. -/
abbrev over {S : Shape} {e : EltTy} (c : Dev nD) {r : Memref sig .tc .vmem S e} (h : r.IsWhole) (y : Vec F S e) (L : List (View.Piece (Elt F) S e)) : sProp 𝕄 :=
  iprop(r.view.loc (c : Thread nD τ) ↦[r.view.set]{fullShare} r.view.writes (Elt F) (h.unread y) L)

/-! ## What the body computes -/

/-- A band of 256 rows with the 8 rows above it on top. -/
def above (prev : Vec F S8x1024 .f32) (blk : Vec F S256x1024 .f32) : FVec F S264x1024 .f32 :=
  concatenate S264x1024 0 [⟨S8x1024, prev⟩, ⟨S256x1024, blk⟩] concatenates_S8x1024_S256x1024_S264x1024_d0

/-- The convolution of a band along its rows: each row and the three above it, times the four taps. -/
def conv (w : Vec F S4x1024 .f32) (blk : Vec F S256x1024 .f32) (prev : Vec F S8x1024 .f32) : FVec F S256x1024 .f32 :=
  addf (addf (addf (mulf blk (broadcastTo S256x1024 (extractStridedSlice S1x1024 ![3, 0] w slices_S4x1024_o3_0_S1x1024) broadcasts_S1x1024_S256x1024)) (mulf (extractStridedSlice S256x1024 ![8, 0] (dynamicRotate 0 1#32 none (above prev blk) rotates_S264x1024_d0) slices_S264x1024_o8_0_S256x1024) (broadcastTo S256x1024 (extractStridedSlice S1x1024 ![2, 0] w slices_S4x1024_o2_0_S1x1024) broadcasts_S1x1024_S256x1024))) (mulf (extractStridedSlice S256x1024 ![8, 0] (dynamicRotate 0 2#32 none (above prev blk) rotates_S264x1024_d0) slices_S264x1024_o8_0_S256x1024) (broadcastTo S256x1024 (extractStridedSlice S1x1024 ![1, 0] w slices_S4x1024_o1_0_S1x1024) broadcasts_S1x1024_S256x1024))) (mulf (extractStridedSlice S256x1024 ![8, 0] (dynamicRotate 0 3#32 none (above prev blk) rotates_S264x1024_d0) slices_S264x1024_o8_0_S256x1024) (broadcastTo S256x1024 (extractStridedSlice S1x1024 ![0, 0] w slices_S4x1024_o0_0_S1x1024) broadcasts_S1x1024_S256x1024))

/-- The convolved band times its logistic function. -/
def silu (w : Vec F S4x1024 .f32) (blk : Vec F S256x1024 .f32) (prev : Vec F S8x1024 .f32) : FVec F S256x1024 .f32 :=
  mulf (conv w blk prev) (logistic (conv w blk prev))

/-- A band of the output: at most the largest element of its row, rounded. -/
def band (w : Vec F S4x1024 .f32) (blk : Vec F S256x1024 .f32) (prev : Vec F S8x1024 .f32) : FVec F S256x1024 .bf16 :=
  truncf .bf16 (minimumf (silu w blk prev) (broadcastTo S256x1024 (shapeCast S256x1 (multiReduction .maximumf [1] S256 (silu w blk prev) 0xFF800000#32 reduces_S256x1024_S256 (.inl rfl) rfl) shapeCasts_S256_S256x1) broadcasts_S256x1_S256x1024)) bitsLt_bf16_f32

/-- The 8 rows above a tile: zero at the top of a column of tiles, else the rows kept. -/
def start (n : BitVec 32) (h : Vec F S8x1024 .f32) : Vec F S8x1024 .f32 :=
  Scalar.select (Scalar.cmpi .eq (Scalar.remsi (Scalar.maxsi (Scalar.subi n 1#32) 0#32) 8#32) 0#32) (broadcast S8x1024 (Scalar.ofBits .f32 0x00000000#32)) h

/-- The product of a point's rows and weight rows. -/
def prod (x : Vec F S1024x4096 .bf16) (w : Vec F S1024x4096 .bf16) : Vec F S1024x1024 .f32 :=
  shapeCast S1024x1024 (matmul dot_S1024x4096_S1024x4096_S1024x1024_1_1_0_0_n_n none x w (constant S1024x1024 .f32 0x00000000#32)) shapeCasts_S1024x1024_S1024x1024

/-- The last 8 rows of a tile. -/
def tailOf (s : Vec F S1024x1024 .f32) : Vec F S8x1024 .f32 :=
  shapeCast S8x1024 (View.ld s (Rect.unit (s := S1024x1024) ![1016, 0] S8x1024.size inb_S1024x1024_S8x1024_1016_0)) shapeCasts_S8x1024_S8x1024

/-- The rows above band `p` of a tile. -/
def prevOf (n : BitVec 32) (s : Vec F S1024x1024 .f32) (h : Vec F S8x1024 .f32) : Fin 4 → Vec F S8x1024 .f32
  | 0 => start n h
  | 1 => View.ld s (Rect.unit (s := S1024x1024) ![248, 0] S8x1024.size inb_S1024x1024_S8x1024_248_0)
  | 2 => View.ld s (Rect.unit (s := S1024x1024) ![504, 0] S8x1024.size inb_S1024x1024_S8x1024_504_0)
  | 3 => View.ld s (Rect.unit (s := S1024x1024) ![760, 0] S8x1024.size inb_S1024x1024_S8x1024_760_0)

/-- An output block: four bands of rows, one after the other. -/
def tile (n : BitVec 32) (w : Vec F S4x1024 .f32) (s : Vec F S1024x1024 .f32) (h : Vec F S8x1024 .f32) (y : Vec F S1024x1024 .bf16) : Vec F S1024x1024 .bf16 :=
  (VecWindow.put (VecWindow.put (VecWindow.put (VecWindow.put y ![0, 0] S256x1024.size (band w (View.ld s (Rect.unit (s := S1024x1024) ![0, 0] S256x1024.size inb_S1024x1024_S256x1024_0_0)) (prevOf n s h 0))) ![256, 0] S256x1024.size (band w (View.ld s (Rect.unit (s := S1024x1024) ![256, 0] S256x1024.size inb_S1024x1024_S256x1024_256_0)) (prevOf n s h 1))) ![512, 0] S256x1024.size (band w (View.ld s (Rect.unit (s := S1024x1024) ![512, 0] S256x1024.size inb_S1024x1024_S256x1024_512_0)) (prevOf n s h 2))) ![768, 0] S256x1024.size (band w (View.ld s (Rect.unit (s := S1024x1024) ![768, 0] S256x1024.size inb_S1024x1024_S256x1024_768_0)) (prevOf n s h 3)))

/-! ## The body's runs -/

section body

variable (c : Dev nD) (i : grid0.Coords) {arg1 : Memref sig .tc .vmem S1024x4096 .bf16} (harg1 : arg1.IsWhole) {arg2 : Memref sig .tc .vmem S1024x4096 .bf16} (harg2 : arg2.IsWhole) {arg3 : Memref sig .tc .vmem S4x1024 .f32} (harg3 : arg3.IsWhole) {arg4 : Memref sig .tc .vmem S128x4096 .f32} (harg4 : arg4.IsWhole) {arg5 : Memref sig .tc .vmem S1024x1024 .bf16} (harg5 : arg5.IsWhole) {arg6 : Memref sig .tc .vmem S128x4096 .bf16} (harg6 : arg6.IsWhole) {arg7 : Memref sig .tc .vmem S1024x1024 .f32} (harg7 : arg7.IsWhole) {arg8 : Memref sig .tc .vmem S8x1024 .f32} (harg8 : arg8.IsWhole)
    (x0 : Vec F S1024x4096 .bf16) (x1 : Vec F S1024x4096 .bf16) (x2 : Vec F S4x1024 .f32) (x3 : Vec F S128x4096 .f32) (y : Vec F S1024x1024 .bf16) (s : Vec F S1024x1024 .f32) (h : Vec F S8x1024 .f32)

set_option maxHeartbeats 8000000 in
/-- The first point: the body starts the scratch arrays, writes a block that is never written back, and makes the first product and the first rows of the cast weights. -/
noncomputable def runA (hc : AtA i) :
    Σ' (L0 : List (View.Piece (Elt F) S128x4096 .bf16)), { LS : List (View.Piece (Elt F) S1024x1024 .f32) //
      ∀ (E : Set ℕ) (K : PUnit → sProp 𝕄),
        iprop(own c arg1 x0 ∗ own c arg2 x1 ∗ own c arg3 x2 ∗ own c arg4 x3 ∗ (∃ d, own c arg5 d) ∗ (∃ d, own c arg6 d) ∗ (∃ d, own c arg7 d) ∗ (∃ d, own c arg8 d) ∗ (iprop(own c arg1 x0 ∗ own c arg2 x1 ∗ own c arg3 x2 ∗ own c arg4 x3 ∗ (∃ d, own c arg5 d) ∗ wrote c arg6 L0 ∗ wrote c arg7 LS ∗ (∃ d, own c arg8 d)) -∗ K ⟨⟩))
          ⊢ wp frame (wpE (defs₀ (F := F)) Variants.none c none) E (cc0_proj_v i arg1 harg1 arg2 harg2 arg3 harg3 arg4 harg4 arg5 harg5 arg6 harg6 arg7 harg7 arg8 harg8) K } := by
  refine ⟨?_, ?_, fun E K => ?run⟩
  case run =>
    simp only [cc0_proj_v_eq_skeleton]; unfold cc0_proj_v_skel
    simp only [k0_part1_eq_skeleton, k0_part2_eq_skeleton, k0_part3_eq_skeleton, k0_part4_eq_skeleton, k0_part5_eq_skeleton, k0_part6_eq_skeleton]
    unfold k0_part1_skel k0_part2_skel k0_part3_skel k0_part4_skel k0_part5_skel k0_part6_skel
    unfold own owns
    iintro ⟨⟨%f0, %hf0, H0⟩, ⟨%f1, %hf1, H1⟩, ⟨%f2, %hf2, H2⟩, ⟨%f3, %hf3, H3⟩, ⟨%yo, %fo, -, HO⟩, ⟨%yd0, %fd0, -, HD0⟩, ⟨%ys, %fs, -, HS⟩, ⟨%yh, %fh, -, HH⟩, Hk⟩
    obtain rfl := harg1.eq_unread hf0
    obtain rfl := harg2.eq_unread hf1
    obtain rfl := harg3.eq_unread hf2
    obtain rfl := harg4.eq_unread hf3
    sl_exec (disch := first | sl_exact hc.1 | sl_exact hc.2.1 | sl_exact hc.2.2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO]
    · iexists _; iexists _; isplitr
      swap; · iexact HO
      ipureintro; rfl
    isplitl [HD0]; · iexists _; iexact HD0
    isplitl [HS]; · iexists _; iexact HS
    iexists _; iexists _; isplitr
    swap; · iexact HH
    ipureintro; rfl

set_option maxHeartbeats 8000000 in
/-- A later point before the last: the body writes the tile of the point before, keeps its last rows, then makes its own product. -/
noncomputable def runB (hc : AtB i) :
    Σ' (L : List (View.Piece (Elt F) S1024x1024 .bf16)), Σ' (L0 : List (View.Piece (Elt F) S128x4096 .bf16)), Σ' (LS : List (View.Piece (Elt F) S1024x1024 .f32)), { LH : List (View.Piece (Elt F) S8x1024 .f32) //
      ∀ (E : Set ℕ) (K : PUnit → sProp 𝕄),
        iprop(own c arg1 x0 ∗ own c arg2 x1 ∗ own c arg3 x2 ∗ own c arg4 x3 ∗ own c arg5 y ∗ (∃ d, own c arg6 d) ∗ own c arg7 s ∗ own c arg8 h ∗ (iprop(own c arg1 x0 ∗ own c arg2 x1 ∗ own c arg3 x2 ∗ own c arg4 x3 ∗ over c harg5 y L ∗ wrote c arg6 L0 ∗ wrote c arg7 LS ∗ wrote c arg8 LH) -∗ K ⟨⟩))
          ⊢ wp frame (wpE (defs₀ (F := F)) Variants.none c none) E (cc0_proj_v i arg1 harg1 arg2 harg2 arg3 harg3 arg4 harg4 arg5 harg5 arg6 harg6 arg7 harg7 arg8 harg8) K } := by
  refine ⟨?_, ?_, ?_, ?_, fun E K => ?run⟩
  case run =>
    simp only [cc0_proj_v_eq_skeleton]; unfold cc0_proj_v_skel
    simp only [k0_part1_eq_skeleton, k0_part2_eq_skeleton, k0_part3_eq_skeleton, k0_part4_eq_skeleton, k0_part5_eq_skeleton, k0_part6_eq_skeleton]
    unfold k0_part1_skel k0_part2_skel k0_part3_skel k0_part4_skel k0_part5_skel k0_part6_skel
    unfold own owns
    iintro ⟨⟨%f0, %hf0, H0⟩, ⟨%f1, %hf1, H1⟩, ⟨%f2, %hf2, H2⟩, ⟨%f3, %hf3, H3⟩, ⟨%fo, %hfo, HO⟩, ⟨%yd0, %fd0, -, HD0⟩, ⟨%fs, %hfs, HS⟩, ⟨%fh, %hfh, HH⟩, Hk⟩
    obtain rfl := harg1.eq_unread hf0
    obtain rfl := harg2.eq_unread hf1
    obtain rfl := harg3.eq_unread hf2
    obtain rfl := harg4.eq_unread hf3
    obtain rfl := harg5.eq_unread hfo
    obtain rfl := harg7.eq_unread hfs
    obtain rfl := harg8.eq_unread hfh
    sl_exec (disch := first | sl_exact hc.1 | sl_exact hc.2.1 | sl_exact hc.2.2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO]; · iexact HO
    isplitl [HD0]; · iexists _; iexact HD0
    isplitl [HS]; · iexists _; iexact HS
    iexists _; iexact HH

set_option maxHeartbeats 8000000 in
/-- The last point: the body writes the last tile. -/
noncomputable def runC (hc : AtC i) :
    { L : List (View.Piece (Elt F) S1024x1024 .bf16) //
      ∀ (E : Set ℕ) (K : PUnit → sProp 𝕄),
        iprop(own c arg3 x2 ∗ own c arg5 y ∗ own c arg7 s ∗ own c arg8 h ∗ (iprop(own c arg3 x2 ∗ over c harg5 y L ∗ own c arg7 s ∗ (∃ d, own c arg8 d)) -∗ K ⟨⟩))
          ⊢ wp frame (wpE (defs₀ (F := F)) Variants.none c none) E (cc0_proj_v i arg1 harg1 arg2 harg2 arg3 harg3 arg4 harg4 arg5 harg5 arg6 harg6 arg7 harg7 arg8 harg8) K } := by
  refine ⟨?_, fun E K => ?run⟩
  case run =>
    simp only [cc0_proj_v_eq_skeleton]; unfold cc0_proj_v_skel
    simp only [k0_part1_eq_skeleton, k0_part2_eq_skeleton, k0_part3_eq_skeleton, k0_part4_eq_skeleton, k0_part5_eq_skeleton, k0_part6_eq_skeleton]
    unfold k0_part1_skel k0_part2_skel k0_part3_skel k0_part4_skel k0_part5_skel k0_part6_skel
    unfold own owns
    iintro ⟨⟨%f2, %hf2, H2⟩, ⟨%fo, %hfo, HO⟩, ⟨%fs, %hfs, HS⟩, ⟨%fh, %hfh, HH⟩, Hk⟩
    obtain rfl := harg3.eq_unread hf2
    obtain rfl := harg5.eq_unread hfo
    obtain rfl := harg7.eq_unread hfs
    obtain rfl := harg8.eq_unread hfh
    sl_exec (disch := first | sl_exact hc.1 | sl_exact hc.2.1 | sl_exact hc.2.2)
    sl_step
    iapply Hk
    isplitl [H2]
    · iexists _; isplitr; · ipureintro; exact harg3.read_unread _
      iexact H2
    isplitl [HO]; · iexact HO
    isplitl [HS]
    · iexists _; isplitr; · ipureintro; exact harg7.read_unread _
      iexact HS
    iexists _; iexists _; isplitr
    swap; · iexact HH
    ipureintro; rfl

theorem pieces_acc_A (hc : AtA i) :
    (runA (F := F) c i harg1 harg2 harg3 harg4 harg5 harg6 harg7 harg8 x0 x1 x2 x3 hc).2.1 = [⟨(Rect.unit (s := S1024x1024) ![0, 0] S1024x1024.size inb_S1024x1024_S1024x1024_0_0), prod (View.ld (arg1.view.read (Elt F) (harg1.unread x0)) (Rect.unit (s := S1024x4096) ![0, 0] S1024x4096.size inb_S1024x4096_S1024x4096_0_0)) (View.ld (arg2.view.read (Elt F) (harg2.unread x1)) (Rect.unit (s := S1024x4096) ![0, 0] S1024x4096.size inb_S1024x4096_S1024x4096_0_0))⟩, ⟨(Rect.unit (s := S1024x1024) ![0, 0] S1024x1024.size inb_S1024x1024_S1024x1024_0_0), shapeCast S1024x1024 (broadcast S1024x1024 (Scalar.ofBits .f32 0x00000000#32)) shapeCasts_S1024x1024_S1024x1024⟩] := by
  unfold runA
  sl_open_run
  sl_open_pay
  sl_kernel_rfl

/-- The accumulator afterwards: the product of the point's rows and weight rows. -/
theorem acc_A (hc : AtA i) (f : arg7.view.ty.Contents (Elt F)) :
    arg7.view.read (Elt F) (arg7.view.writes (Elt F) f (runA (F := F) c i harg1 harg2 harg3 harg4 harg5 harg6 harg7 harg8 x0 x1 x2 x3 hc).2.1) = prod x0 x1 := by
  have hz : (![0, 0] : Fin 2 → ℕ) = fun _ => 0 := funext fun a => by fin_cases a <;> rfl
  rw [pieces_acc_A, View.read_writes_full]
  simp only [Memref.IsWhole.read_unread]
  rw [View.ld_unit_zero (S := S1024x4096) hz, View.ld_unit_zero (S := S1024x4096) hz]

theorem pieces_cast0_A (hc : AtA i) :
    (runA (F := F) c i harg1 harg2 harg3 harg4 harg5 harg6 harg7 harg8 x0 x1 x2 x3 hc).1 = [⟨(Rect.unit (s := S128x4096) ![0, 0] S128x4096.size inb_S128x4096_S128x4096_0_0), truncf .bf16 (View.ld (arg4.view.read (Elt F) (harg4.unread x3)) (Rect.unit (s := S128x4096) ![0, 0] S128x4096.size inb_S128x4096_S128x4096_0_0)) bitsLt_bf16_f32⟩] := by
  unfold runA
  sl_open_run
  sl_open_pay
  sl_kernel_rfl

/-- The cast weight's block afterwards: the weight's rows, cast. -/
theorem cast0_A (hc : AtA i) (f : arg6.view.ty.Contents (Elt F)) :
    arg6.view.read (Elt F) (arg6.view.writes (Elt F) f (runA (F := F) c i harg1 harg2 harg3 harg4 harg5 harg6 harg7 harg8 x0 x1 x2 x3 hc).1) = truncf .bf16 x3 bitsLt_bf16_f32 := by
  have hz : (![0, 0] : Fin 2 → ℕ) = fun _ => 0 := funext fun a => by fin_cases a <;> rfl
  rw [pieces_cast0_A, View.read_writes_full]
  simp only [Memref.IsWhole.read_unread]
  rw [View.ld_unit_zero (S := S128x4096) hz]

theorem pieces_acc_B (hc : AtB i) :
    (runB (F := F) c i harg1 harg2 harg3 harg4 harg5 harg6 harg7 harg8 x0 x1 x2 x3 y s h hc).2.2.1 = [⟨(Rect.unit (s := S1024x1024) ![0, 0] S1024x1024.size inb_S1024x1024_S1024x1024_0_0), prod (View.ld (arg1.view.read (Elt F) (harg1.unread x0)) (Rect.unit (s := S1024x4096) ![0, 0] S1024x4096.size inb_S1024x4096_S1024x4096_0_0)) (View.ld (arg2.view.read (Elt F) (harg2.unread x1)) (Rect.unit (s := S1024x4096) ![0, 0] S1024x4096.size inb_S1024x4096_S1024x4096_0_0))⟩] := by
  unfold runB
  sl_open_run
  sl_open_pay
  sl_kernel_rfl

/-- The accumulator afterwards: the product of the point's rows and weight rows. -/
theorem acc_B (hc : AtB i) (f : arg7.view.ty.Contents (Elt F)) :
    arg7.view.read (Elt F) (arg7.view.writes (Elt F) f (runB (F := F) c i harg1 harg2 harg3 harg4 harg5 harg6 harg7 harg8 x0 x1 x2 x3 y s h hc).2.2.1) = prod x0 x1 := by
  have hz : (![0, 0] : Fin 2 → ℕ) = fun _ => 0 := funext fun a => by fin_cases a <;> rfl
  rw [pieces_acc_B, View.read_writes_full]
  simp only [Memref.IsWhole.read_unread]
  rw [View.ld_unit_zero (S := S1024x4096) hz, View.ld_unit_zero (S := S1024x4096) hz]

theorem pieces_cast0_B (hc : AtB i) :
    (runB (F := F) c i harg1 harg2 harg3 harg4 harg5 harg6 harg7 harg8 x0 x1 x2 x3 y s h hc).2.1 = [⟨(Rect.unit (s := S128x4096) ![0, 0] S128x4096.size inb_S128x4096_S128x4096_0_0), truncf .bf16 (View.ld (arg4.view.read (Elt F) (harg4.unread x3)) (Rect.unit (s := S128x4096) ![0, 0] S128x4096.size inb_S128x4096_S128x4096_0_0)) bitsLt_bf16_f32⟩] := by
  unfold runB
  sl_open_run
  sl_open_pay
  sl_kernel_rfl

/-- The cast weight's block afterwards: the weight's rows, cast. -/
theorem cast0_B (hc : AtB i) (f : arg6.view.ty.Contents (Elt F)) :
    arg6.view.read (Elt F) (arg6.view.writes (Elt F) f (runB (F := F) c i harg1 harg2 harg3 harg4 harg5 harg6 harg7 harg8 x0 x1 x2 x3 y s h hc).2.1) = truncf .bf16 x3 bitsLt_bf16_f32 := by
  have hz : (![0, 0] : Fin 2 → ℕ) = fun _ => 0 := funext fun a => by fin_cases a <;> rfl
  rw [pieces_cast0_B, View.read_writes_full]
  simp only [Memref.IsWhole.read_unread]
  rw [View.ld_unit_zero (S := S128x4096) hz]

theorem pieces_out_B (hc : AtB i) :
    (runB (F := F) c i harg1 harg2 harg3 harg4 harg5 harg6 harg7 harg8 x0 x1 x2 x3 y s h hc).1 = [⟨(Rect.unit (s := S1024x1024) ![768, 0] S256x1024.size inb_S1024x1024_S256x1024_768_0), band (View.ld (arg3.view.read (Elt F) (harg3.unread x2)) (Rect.unit (s := S4x1024) ![0, 0] S4x1024.size inb_S4x1024_S4x1024_0_0)) (View.ld (arg7.view.read (Elt F) (harg7.unread s)) (Rect.unit (s := S1024x1024) ![768, 0] S256x1024.size inb_S1024x1024_S256x1024_768_0)) (View.ld (arg7.view.read (Elt F) (harg7.unread s)) (Rect.unit (s := S1024x1024) ![760, 0] S8x1024.size inb_S1024x1024_S8x1024_760_0))⟩, ⟨(Rect.unit (s := S1024x1024) ![512, 0] S256x1024.size inb_S1024x1024_S256x1024_512_0), band (View.ld (arg3.view.read (Elt F) (harg3.unread x2)) (Rect.unit (s := S4x1024) ![0, 0] S4x1024.size inb_S4x1024_S4x1024_0_0)) (View.ld (arg7.view.read (Elt F) (harg7.unread s)) (Rect.unit (s := S1024x1024) ![512, 0] S256x1024.size inb_S1024x1024_S256x1024_512_0)) (View.ld (arg7.view.read (Elt F) (harg7.unread s)) (Rect.unit (s := S1024x1024) ![504, 0] S8x1024.size inb_S1024x1024_S8x1024_504_0))⟩, ⟨(Rect.unit (s := S1024x1024) ![256, 0] S256x1024.size inb_S1024x1024_S256x1024_256_0), band (View.ld (arg3.view.read (Elt F) (harg3.unread x2)) (Rect.unit (s := S4x1024) ![0, 0] S4x1024.size inb_S4x1024_S4x1024_0_0)) (View.ld (arg7.view.read (Elt F) (harg7.unread s)) (Rect.unit (s := S1024x1024) ![256, 0] S256x1024.size inb_S1024x1024_S256x1024_256_0)) (View.ld (arg7.view.read (Elt F) (harg7.unread s)) (Rect.unit (s := S1024x1024) ![248, 0] S8x1024.size inb_S1024x1024_S8x1024_248_0))⟩, ⟨(Rect.unit (s := S1024x1024) ![0, 0] S256x1024.size inb_S1024x1024_S256x1024_0_0), band (View.ld (arg3.view.read (Elt F) (harg3.unread x2)) (Rect.unit (s := S4x1024) ![0, 0] S4x1024.size inb_S4x1024_S4x1024_0_0)) (View.ld (arg7.view.read (Elt F) (harg7.unread s)) (Rect.unit (s := S1024x1024) ![0, 0] S256x1024.size inb_S1024x1024_S256x1024_0_0)) (start (BitVec.ofNat 32 (i 0).val) (View.ld (arg8.view.read (Elt F) (harg8.unread h)) (Rect.unit (s := S8x1024) ![0, 0] S8x1024.size inb_S8x1024_S8x1024_0_0)))⟩] := by
  unfold runB
  sl_open_run
  sl_open_pay
  sl_kernel_rfl

/-- The output block afterwards: the accumulator's tile. -/
theorem out_B (hc : AtB i) :
    arg5.view.read (Elt F) (arg5.view.writes (Elt F) (harg5.unread y) (runB (F := F) c i harg1 harg2 harg3 harg4 harg5 harg6 harg7 harg8 x0 x1 x2 x3 y s h hc).1) = tile (BitVec.ofNat 32 (i 0).val) x2 s h y := by
  have hz : (![0, 0] : Fin 2 → ℕ) = fun _ => 0 := funext fun a => by fin_cases a <;> rfl
  rw [pieces_out_B]
  rw [View.read_writes_cons_put _ _ _ _ _ rfl, View.read_writes_cons_put _ _ _ _ _ rfl, View.read_writes_cons_put _ _ _ _ _ rfl, View.read_writes_cons_put _ _ _ _ _ rfl, View.writes_nil]
  simp only [Memref.IsWhole.read_unread]
  rw [View.ld_unit_zero (S := S4x1024) hz, View.ld_unit_zero (S := S8x1024) hz]
  rfl

theorem pieces_out_C (hc : AtC i) :
    (runC (F := F) c i harg1 harg2 harg3 harg4 harg5 harg6 harg7 harg8 x2 y s h hc).1 = [⟨(Rect.unit (s := S1024x1024) ![768, 0] S256x1024.size inb_S1024x1024_S256x1024_768_0), band (View.ld (arg3.view.read (Elt F) (harg3.unread x2)) (Rect.unit (s := S4x1024) ![0, 0] S4x1024.size inb_S4x1024_S4x1024_0_0)) (View.ld (arg7.view.read (Elt F) (harg7.unread s)) (Rect.unit (s := S1024x1024) ![768, 0] S256x1024.size inb_S1024x1024_S256x1024_768_0)) (View.ld (arg7.view.read (Elt F) (harg7.unread s)) (Rect.unit (s := S1024x1024) ![760, 0] S8x1024.size inb_S1024x1024_S8x1024_760_0))⟩, ⟨(Rect.unit (s := S1024x1024) ![512, 0] S256x1024.size inb_S1024x1024_S256x1024_512_0), band (View.ld (arg3.view.read (Elt F) (harg3.unread x2)) (Rect.unit (s := S4x1024) ![0, 0] S4x1024.size inb_S4x1024_S4x1024_0_0)) (View.ld (arg7.view.read (Elt F) (harg7.unread s)) (Rect.unit (s := S1024x1024) ![512, 0] S256x1024.size inb_S1024x1024_S256x1024_512_0)) (View.ld (arg7.view.read (Elt F) (harg7.unread s)) (Rect.unit (s := S1024x1024) ![504, 0] S8x1024.size inb_S1024x1024_S8x1024_504_0))⟩, ⟨(Rect.unit (s := S1024x1024) ![256, 0] S256x1024.size inb_S1024x1024_S256x1024_256_0), band (View.ld (arg3.view.read (Elt F) (harg3.unread x2)) (Rect.unit (s := S4x1024) ![0, 0] S4x1024.size inb_S4x1024_S4x1024_0_0)) (View.ld (arg7.view.read (Elt F) (harg7.unread s)) (Rect.unit (s := S1024x1024) ![256, 0] S256x1024.size inb_S1024x1024_S256x1024_256_0)) (View.ld (arg7.view.read (Elt F) (harg7.unread s)) (Rect.unit (s := S1024x1024) ![248, 0] S8x1024.size inb_S1024x1024_S8x1024_248_0))⟩, ⟨(Rect.unit (s := S1024x1024) ![0, 0] S256x1024.size inb_S1024x1024_S256x1024_0_0), band (View.ld (arg3.view.read (Elt F) (harg3.unread x2)) (Rect.unit (s := S4x1024) ![0, 0] S4x1024.size inb_S4x1024_S4x1024_0_0)) (View.ld (arg7.view.read (Elt F) (harg7.unread s)) (Rect.unit (s := S1024x1024) ![0, 0] S256x1024.size inb_S1024x1024_S256x1024_0_0)) (start (BitVec.ofNat 32 (i 0).val) (View.ld (arg8.view.read (Elt F) (harg8.unread h)) (Rect.unit (s := S8x1024) ![0, 0] S8x1024.size inb_S8x1024_S8x1024_0_0)))⟩] := by
  unfold runC
  sl_open_run
  sl_open_pay
  sl_kernel_rfl

/-- The output block afterwards: the accumulator's tile. -/
theorem out_C (hc : AtC i) :
    arg5.view.read (Elt F) (arg5.view.writes (Elt F) (harg5.unread y) (runC (F := F) c i harg1 harg2 harg3 harg4 harg5 harg6 harg7 harg8 x2 y s h hc).1) = tile (BitVec.ofNat 32 (i 0).val) x2 s h y := by
  have hz : (![0, 0] : Fin 2 → ℕ) = fun _ => 0 := funext fun a => by fin_cases a <;> rfl
  rw [pieces_out_C]
  rw [View.read_writes_cons_put _ _ _ _ _ rfl, View.read_writes_cons_put _ _ _ _ _ rfl, View.read_writes_cons_put _ _ _ _ _ rfl, View.read_writes_cons_put _ _ _ _ _ rfl, View.writes_nil]
  simp only [Memref.IsWhole.read_unread]
  rw [View.ld_unit_zero (S := S4x1024) hz, View.ld_unit_zero (S := S8x1024) hz]
  rfl

theorem pieces_kept (hc : AtB i) :
    (runB (F := F) c i harg1 harg2 harg3 harg4 harg5 harg6 harg7 harg8 x0 x1 x2 x3 y s h hc).2.2.2.1 = [⟨(Rect.unit (s := S8x1024) ![0, 0] S8x1024.size inb_S8x1024_S8x1024_0_0), shapeCast S8x1024 (View.ld (arg7.view.read (Elt F) (harg7.unread s)) (Rect.unit (s := S1024x1024) ![1016, 0] S8x1024.size inb_S1024x1024_S8x1024_1016_0)) shapeCasts_S8x1024_S8x1024⟩] := by
  unfold runB
  sl_open_run
  sl_open_pay
  sl_kernel_rfl

/-- The rows kept afterwards: the last rows of the product found. -/
theorem kept_rows (hc : AtB i) (f : arg8.view.ty.Contents (Elt F)) :
    arg8.view.read (Elt F) (arg8.view.writes (Elt F) f (runB (F := F) c i harg1 harg2 harg3 harg4 harg5 harg6 harg7 harg8 x0 x1 x2 x3 y s h hc).2.2.2.1) = tailOf s := by
  have hz : (![0, 0] : Fin 2 → ℕ) = fun _ => 0 := funext fun a => by fin_cases a <;> rfl
  rw [pieces_kept, View.read_writes_full]
  simp only [Memref.IsWhole.read_unread]
  rfl

end body

variable (m : (ℓ : Loc nD τ sig) → Buf (Elt F) ℓ) (ρ : Dev nD → PrngReg)

/-! ## The launch -/

abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x4096 .bf16 := win0_5.stage (cfg0.slots t 5)
abbrev hs0_5 (t : Fin cfg0.N) : (ms0_5 t).IsWhole := hstage0_5 ((cfg0.slots t 5).cast nbuf0_5)
/-- The accumulator, whole. -/
abbrev scM0_0 : Memref sig .tc .vmem S1024x1024 .f32 := Memref.whole cc0_scratch0
abbrev wh0 : scM0_0.IsWhole := Memref.isWhole_whole _
/-- The rows kept, whole. -/
abbrev scM0_1 : Memref sig .tc .vmem S8x1024 .f32 := Memref.whole cc0_scratch1
abbrev wh1 : scM0_1.IsWhole := Memref.isWhole_whole _

/-- The invariant a launch starts from, at this kernel's two scratch arrays. -/
theorem start_eq (c : Dev nD) :
    (Pipeline.ΦA spec0 c : sProp 𝕄)
      = iprop(iprop((∃ d, own c scM0_0 d) ∗ (∃ d, own c scM0_1 d)) ∗ (∃ r, prngReg c r)) := by
  unfold Pipeline.ΦA; rw [scopedRest0_eq]; simp only [own, scM0_0, scM0_1, owns_whole]; try rfl

/-- The point below 32 that filled the accumulator after point `n`. -/
def filled (n : ℕ) : Fin cfg0.N := ⟨min n 31, lt_of_lt_of_eq (by omega : min n 31 < 33) N_0.symm⟩

/-- The accumulator after point `n`. -/
def prodAt (c : Dev nD) (n : ℕ) : Vec F S1024x1024 .f32 := prod (iblk m c 0 (filled n)) (iblk m c 1 (filled n))

theorem prodAt_inner (c : Dev nD) (t : Fin cfg0.N) (h : t.val < 32) : prodAt m c t.val = prod (iblk m c 0 t) (iblk m c 1 t) := by
  have e : filled t.val = t := Fin.ext (by show min t.val 31 = t.val; omega)
  unfold prodAt
  rw [e]

theorem prodAt_last (c : Dev nD) (t : Fin cfg0.N) (h : t.val = 32) : prodAt m c t.val = prodAt m c (t.val - 1) := by
  have e : filled t.val = filled (t.val - 1) := Fin.ext (by show min t.val 31 = min (t.val - 1) 31; omega)
  unfold prodAt
  rw [e]

/-- What point `t` leaves in the block of cast weight 0: the weight's rows, cast, and at the last point what it found. -/
def cast0At (c : Dev nD) (t : Fin cfg0.N) (y : Vec F S128x4096 .bf16) : Vec F S128x4096 .bf16 :=
  if t.val < 32 then truncf .bf16 (iblk m c 3 t) bitsLt_bf16_f32 else y

/-- What the rows kept may be before point `n`: from the second point on the last rows of the product two points before. -/
def Keeps (c : Dev nD) (n : ℕ) (h : Vec F S8x1024 .f32) : Prop := n ≠ 0 → n < 32 → h = tailOf (prodAt m c (n - 1))

/-- What a point may leave in the output block, when it found `y` there. -/
def Tiles (c : Dev nD) (t : Fin cfg0.N) (y X : Vec F S1024x1024 .bf16) : Prop :=
  t.val ≠ 0 → ∃ h, Keeps m c (t.val - 1) h ∧ X = tile (BitVec.ofNat 32 (grid0.coords t 0).val) (iblk m c 2 t) (prodAt m c (t.val - 1)) h y

/-- The invariant before point `n`: the accumulator at what the point before left, and the rows kept. -/
def PhiS (c : Dev nD) : ℕ → sProp 𝕄
  | 0 => Pipeline.ΦA spec0 c
  | n + 1 => iprop(iprop(own c scM0_0 (prodAt m c n) ∗ (∃ h, ⌜Keeps m c n h⌝ ∗ own c scM0_1 h)) ∗ (∃ r, prngReg c r))

theorem PhiS_succ (c : Dev nD) (n : ℕ) :
    PhiS m c (n + 1) = iprop(iprop(own c scM0_0 (prodAt m c n) ∗ (∃ h, ⌜Keeps m c n h⌝ ∗ own c scM0_1 h)) ∗ (∃ r, prngReg c r)) := rfl
theorem PhiS_pos (c : Dev nD) (n : ℕ) (hz : n ≠ 0) :
    PhiS m c n = iprop(iprop(own c scM0_0 (prodAt m c (n - 1)) ∗ (∃ h, ⌜Keeps m c (n - 1) h⌝ ∗ own c scM0_1 h)) ∗ (∃ r, prngReg c r)) := by
  cases n with
  | zero => exact absurd rfl hz
  | succ n => rfl

/-- The launch's proof data: the inputs' buffers stay as they are; from the second point on the output's becomes the tile of
    the point before; the cast weights' become their rows, cast. -/
def data (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => Tiles m c t Y X
    | ⟨5, _⟩ => fun Y X => X = cast0At m c t Y
  Φ t := PhiS m c t.val
  q _ := fullShare
  owed _ := 0

theorem A_eq (c : Dev nD) (w : Fin cfg0.W) : (data m c).A w = V m c (Pipeline.arrRef spec0 w) := by
  dsimp only [data]
theorem after_0 (c : Dev nD) (t : Fin cfg0.N) (Y X) : (data m c).after 0 t Y X ↔ X = Y := by dsimp only [data]; exact Iff.rfl
theorem after_1 (c : Dev nD) (t : Fin cfg0.N) (Y X) : (data m c).after 1 t Y X ↔ X = Y := by dsimp only [data]; exact Iff.rfl
theorem after_2 (c : Dev nD) (t : Fin cfg0.N) (Y X) : (data m c).after 2 t Y X ↔ X = Y := by dsimp only [data]; exact Iff.rfl
theorem after_3 (c : Dev nD) (t : Fin cfg0.N) (Y X) : (data m c).after 3 t Y X ↔ X = Y := by dsimp only [data]; exact Iff.rfl
theorem after_4 (c : Dev nD) (t : Fin cfg0.N) (Y X) : (data m c).after 4 t Y X ↔ Tiles m c t Y X := by dsimp only [data]; exact Iff.rfl
theorem after_5 (c : Dev nD) (t : Fin cfg0.N) (Y X) : (data m c).after 5 t Y X ↔ X = cast0At m c t Y := by dsimp only [data]; exact Iff.rfl

/-- Input 0's buffer holds its block at every point. -/
theorem finds_0 (c : Dev nD) (t : Fin cfg0.N) (Y) (h : (data m c).Finds 0 t Y) : Y = iblk m c 0 t := by
  obtain ⟨d, rfl⟩ := (data m c).finds_in_eq_fetched 0 rfl (fun _ _ _ => rfl) (fun t Y X h => (after_0 m c t Y X).mp h) t Y h
  unfold RDat.fetched RDat.blockOf iblk; rw [A_eq]; try rfl

/-- Input 1's buffer holds its block at every point. -/
theorem finds_1 (c : Dev nD) (t : Fin cfg0.N) (Y) (h : (data m c).Finds 1 t Y) : Y = iblk m c 1 t := by
  obtain ⟨d, rfl⟩ := (data m c).finds_in_eq_fetched 1 rfl (fun _ _ _ => rfl) (fun t Y X h => (after_1 m c t Y X).mp h) t Y h
  unfold RDat.fetched RDat.blockOf iblk; rw [A_eq]; try rfl

/-- Input 2's buffer holds its block at every point. -/
theorem finds_2 (c : Dev nD) (t : Fin cfg0.N) (Y) (h : (data m c).Finds 2 t Y) : Y = iblk m c 2 t := by
  obtain ⟨d, rfl⟩ := (data m c).finds_in_eq_fetched 2 rfl (fun _ _ _ => rfl) (fun t Y X h => (after_2 m c t Y X).mp h) t Y h
  unfold RDat.fetched RDat.blockOf iblk; rw [A_eq]; try rfl

/-- Input 3's buffer holds its block at every point. -/
theorem finds_3 (c : Dev nD) (t : Fin cfg0.N) (Y) (h : (data m c).Finds 3 t Y) : Y = iblk m c 3 t := by
  obtain ⟨d, rfl⟩ := (data m c).finds_in_eq_fetched 3 rfl (fun _ _ _ => rfl) (fun t Y X h => (after_3 m c t Y X).mp h) t Y h
  unfold RDat.fetched RDat.blockOf iblk; rw [A_eq]; try rfl

/-! ## The body at a point -/

/-- What the body is called with at a point, the outputs' buffers at `y` and `z`. -/
def bodyPre (c : Dev nD) (t : Fin cfg0.N) (y : Vec F S1024x1024 .bf16) (z0 : Vec F S128x4096 .bf16) : sProp 𝕄 :=
  iprop((data m c).Φ t.castSucc ∗ (data m c).owesAt () t.castSucc
    ∗ own c (ms0_0 t) (iblk m c 0 t) ∗ own c (ms0_1 t) (iblk m c 1 t) ∗ own c (ms0_2 t) (iblk m c 2 t) ∗ own c (ms0_3 t) (iblk m c 3 t)
    ∗ own c (ms0_4 t) y
    ∗ own c (ms0_5 t) z0)

/-- What it returns. -/
def bodyPost (c : Dev nD) (t : Fin cfg0.N) (y : Vec F S1024x1024 .bf16) (z0 : Vec F S128x4096 .bf16) : sProp 𝕄 :=
  iprop((data m c).Φ t.succ ∗ (data m c).owesAt () t.succ
    ∗ own c (ms0_0 t) (iblk m c 0 t) ∗ own c (ms0_1 t) (iblk m c 1 t) ∗ own c (ms0_2 t) (iblk m c 2 t) ∗ own c (ms0_3 t) (iblk m c 3 t)
    ∗ (∃ X, ⌜Tiles m c t y X⌝ ∗ own c (ms0_4 t) X)
    ∗ own c (ms0_5 t) (cast0At m c t z0))

set_option maxHeartbeats 4800000 in
/-- The body at any point. -/
theorem sound_body (c : Dev nD) (t : Fin cfg0.N) (y : Vec F S1024x1024 .bf16) (z0 : Vec F S128x4096 .bf16) :
    bodyPre m c t y z0 ⊢ wp frame (wpE (defs₀ (F := F)) Variants.none c none) Set.univ (bodyAt0 t) (fun _ => bodyPost m c t y z0) := by
  have hN : t.val < 33 := lt_of_lt_of_eq t.isLt N_0
  unfold bodyPre bodyPost bodyAt0
  rw [show (data m c).owesAt () t.succ = (data m c).owesAt () t.castSucc from rfl]
  rw [show (data m c).Φ t.succ = PhiS m c (t.val + 1) from rfl, PhiS_succ, show (data m c).Φ t.castSucc = PhiS m c t.val from rfl]
  by_cases h1 : t.val < 32
  · have h2 : ¬t.val = 32 := by omega
    rw [show cast0At m c t z0 = truncf .bf16 (iblk m c 3 t) bitsLt_bf16_f32 from if_pos h1, prodAt_inner m c t h1]
    by_cases h0 : t.val = 0
    · rw [show PhiS m c t.val = Pipeline.ΦA spec0 c from by rw [h0]; rfl, start_eq]
      iintro ⟨⟨⟨HS, HH⟩, Hg⟩, Ho, H0, H1, H2, H3, HO, HD0⟩
      iapply ((runA (F := F) c (grid0.coords t) (hs0_0 t) (hs0_1 t) (hs0_2 t) (hs0_3 t) (hs0_4 t) (hs0_5 t) wh0 wh1 (iblk m c 0 t) (iblk m c 1 t) (iblk m c 2 t) (iblk m c 3 t) ⟨((first_iff t).mpr h0), ((inner_iff t).mpr h1), (fun h => h2 ((last_iff t).mp h))⟩).2.2 Set.univ _)
      isplitl [H0]; · iexact H0
      isplitl [H1]; · iexact H1
      isplitl [H2]; · iexact H2
      isplitl [H3]; · iexact H3
      isplitl [HO]; · iexists _; iexact HO
      isplitl [HD0]; · iexists _; iexact HD0
      isplitl [HS]; · iexact HS
      isplitl [HH]; · iexact HH
      iintro ⟨H0, H1, H2, H3, ⟨%yo, HO⟩, ⟨%e0, HD0⟩, ⟨%es, HS⟩, ⟨%hh, HH⟩⟩
      isplitl [HS HH Hg]
      · isplitl [HS HH]
        · isplitl [HS]
          · unfold own owns; iexists _; isplitr
            swap; · iexact HS
            ipureintro; exact acc_A ..
          iexists _; isplitr
          swap
          · iexact HH
          ipureintro; exact fun hn => absurd h0 hn
        iexact Hg
      isplitl [Ho]; · iexact Ho
      isplitl [H0]; · iexact H0
      isplitl [H1]; · iexact H1
      isplitl [H2]; · iexact H2
      isplitl [H3]; · iexact H3
      isplitl [HO]
      · iexists _; isplitr
        swap; · iexact HO
        ipureintro; exact fun hn => absurd h0 hn
      unfold own owns; iexists _; isplitr
      swap; · iexact HD0
      ipureintro; exact cast0_A ..
    · rw [PhiS_pos m c _ h0]
      iintro ⟨⟨⟨HS, ⟨%h, %hh, HH⟩⟩, Hg⟩, Ho, H0, H1, H2, H3, HO, HD0⟩
      iapply ((runB (F := F) c (grid0.coords t) (hs0_0 t) (hs0_1 t) (hs0_2 t) (hs0_3 t) (hs0_4 t) (hs0_5 t) wh0 wh1 (iblk m c 0 t) (iblk m c 1 t) (iblk m c 2 t) (iblk m c 3 t) y (prodAt m c (t.val - 1)) h ⟨(fun h => h0 ((first_iff t).mp h)), ((inner_iff t).mpr h1), (fun h => h2 ((last_iff t).mp h))⟩).2.2.2.2 Set.univ _)
      isplitl [H0]; · iexact H0
      isplitl [H1]; · iexact H1
      isplitl [H2]; · iexact H2
      isplitl [H3]; · iexact H3
      isplitl [HO]; · iexact HO
      isplitl [HD0]; · iexists _; iexact HD0
      isplitl [HS]; · iexact HS
      isplitl [HH]; · iexact HH
      iintro ⟨H0, H1, H2, H3, HO, ⟨%e0, HD0⟩, ⟨%es, HS⟩, ⟨%eh, HH⟩⟩
      isplitl [HS HH Hg]
      · isplitl [HS HH]
        · isplitl [HS]
          · unfold own owns; iexists _; isplitr
            swap; · iexact HS
            ipureintro; exact acc_B ..
          iexists _; isplitr
          swap
          · unfold own owns; iexists _; isplitr
            swap; · iexact HH
            ipureintro; exact kept_rows ..
          ipureintro; exact fun _ _ => rfl
        iexact Hg
      isplitl [Ho]; · iexact Ho
      isplitl [H0]; · iexact H0
      isplitl [H1]; · iexact H1
      isplitl [H2]; · iexact H2
      isplitl [H3]; · iexact H3
      isplitl [HO]
      · iexists _; isplitr
        swap
        · unfold own owns; iexists _; isplitr
          swap; · iexact HO
          ipureintro; exact out_B ..
        ipureintro; exact fun _ => ⟨h, hh, rfl⟩
      unfold own owns; iexists _; isplitr
      swap; · iexact HD0
      ipureintro; exact cast0_B ..
  · have h2 : t.val = 32 := by omega
    have h0 : ¬t.val = 0 := by omega
    rw [show cast0At m c t z0 = z0 from if_neg h1, prodAt_last m c t h2, PhiS_pos m c _ h0]
    iintro ⟨⟨⟨HS, ⟨%h, %hh, HH⟩⟩, Hg⟩, Ho, H0, H1, H2, H3, HO, HD0⟩
    iapply ((runC (F := F) c (grid0.coords t) (hs0_0 t) (hs0_1 t) (hs0_2 t) (hs0_3 t) (hs0_4 t) (hs0_5 t) wh0 wh1 (iblk m c 2 t) y (prodAt m c (t.val - 1)) h ⟨(fun h => h0 ((first_iff t).mp h)), (fun h => h1 ((inner_iff t).mp h)), ((last_iff t).mpr h2)⟩).2 Set.univ _)
    isplitl [H2]; · iexact H2
    isplitl [HO]; · iexact HO
    isplitl [HS]; · iexact HS
    isplitl [HH]; · iexact HH
    iintro ⟨H2, HO, HS, ⟨%h2, HH⟩⟩
    isplitl [HS HH Hg]
    · isplitl [HS HH]
      · isplitl [HS]; · iexact HS
        iexists _; isplitr
        swap
        · iexact HH
        ipureintro; exact fun _ hn => absurd hn (by omega)
      iexact Hg
    isplitl [Ho]; · iexact Ho
    isplitl [H0]; · iexact H0
    isplitl [H1]; · iexact H1
    isplitl [H2]; · iexact H2
    isplitl [H3]; · iexact H3
    isplitl [HO]
    · iexists _; isplitr
      swap
      · unfold own owns; iexists _; isplitr
        swap; · iexact HO
        ipureintro; exact out_C ..
      ipureintro; exact fun _ => ⟨h, hh, rfl⟩
    iexact HD0

/-- The body table's row at a point is the body as called there. -/
theorem defs₀_row (t : Fin cfg0.N) :
    defs₀ (F := F) .tc cfg0.body (cfg0.bodyArgs t (cfg0.slots t)) = bodyAt0 t := by
  unfold defs₀; rw [Defs.onTc_tc]

/-- What a point returns is what the proof data asks for. -/
theorem post_restated (c : Dev nD) (t : Fin cfg0.N) (y : Vec F S1024x1024 .bf16) (z0 : Vec F S128x4096 .bf16) :
    bodyPost m c t y z0 ⊢ iprop((data m c).Φ t.succ ∗ (data m c).owesAt () t.succ
      ∗ (∃ X, ⌜(data m c).after 0 t (iblk m c 0 t) X⌝ ∗ own c (ms0_0 t) X)
      ∗ (∃ X, ⌜(data m c).after 1 t (iblk m c 1 t) X⌝ ∗ own c (ms0_1 t) X)
      ∗ (∃ X, ⌜(data m c).after 2 t (iblk m c 2 t) X⌝ ∗ own c (ms0_2 t) X)
      ∗ (∃ X, ⌜(data m c).after 3 t (iblk m c 3 t) X⌝ ∗ own c (ms0_3 t) X)
      ∗ (∃ X, ⌜(data m c).after 4 t y X⌝ ∗ own c (ms0_4 t) X)
      ∗ (∃ X, ⌜(data m c).after 5 t z0 X⌝ ∗ own c (ms0_5 t) X)) := by
  unfold bodyPost
  iintro ⟨Hp, Ho, H0, H1, H2, H3, ⟨%X, %hX, HO⟩, HD0⟩
  isplitl [Hp]; · iexact Hp
  isplitl [Ho]; · iexact Ho
  isplitl [H0]
  · iexists _; isplitr
    swap; · iexact H0
    ipureintro; exact (after_0 m c t _ _).mpr rfl
  isplitl [H1]
  · iexists _; isplitr
    swap; · iexact H1
    ipureintro; exact (after_1 m c t _ _).mpr rfl
  isplitl [H2]
  · iexists _; isplitr
    swap; · iexact H2
    ipureintro; exact (after_2 m c t _ _).mpr rfl
  isplitl [H3]
  · iexists _; isplitr
    swap; · iexact H3
    ipureintro; exact (after_3 m c t _ _).mpr rfl
  isplitl [HO]
  · iexists _; isplitr
    swap; · iexact HO
    ipureintro; exact (after_4 m c t _ _).mpr hX
  iexists _; isplitr
  swap; · iexact HD0
  ipureintro; exact (after_5 m c t _ _).mpr rfl

/-- The body at every point, in the form the launch takes it. -/
theorem body_obligation (c : Dev nD) : (data (F := F) m c).BodyObligation (defs₀ (F := F)) Variants.none () Set.univ := fun t Y hY => by
  rw [bigSep_W0, bigSep_W0, defs₀_row]
  rw [finds_0 m c t (Y 0) (hY 0), finds_1 m c t (Y 1) (hY 1), finds_2 m c t (Y 2) (hY 2), finds_3 m c t (Y 3) (hY 3)]
  exact triple_restated (sound_body m c t (Y 4) (Y 5)) rfl .rfl fun _ => post_restated m c t (Y 4) (Y 5)

theorem hin (c : Dev nD) : Pipeline.ΦA spec0 c ⊢ (data m c).Φ 0 := by
  rw [show (data m c).Φ 0 = Pipeline.ΦA spec0 c from rfl]
  try exact Idealize.SL.BI.Entails.refl _
theorem hout (c : Dev nD) : (data m c).Φ (Fin.last cfg0.N) ⊢ Pipeline.ΦA spec0 c := by
  rw [start_eq, show (data m c).Φ (Fin.last cfg0.N) = PhiS m c cfg0.N from rfl, PhiS_pos m c _ (by rw [show cfg0.N = 33 from N_0]; omega)]
  iintro ⟨⟨HS0, ⟨%h, %hh, HH⟩⟩, Hg⟩
  isplitl [HS0 HH]
  · isplitl [HS0]; · iexists _; iexact HS0
    iexists _; iexact HH
  iexact Hg

set_option backward.isDefEq.respectTransparency.types false in
/-- Every execution ends with the arrays at what the proof data allows and every semaphore at zero. -/
theorem run_quiescent : θ_run defs (onTc (τ := τ) (main (F := F))) (s₀ m ρ)
    (fun r => RDat.FramePost cfg0 (data m) (V m) r ∧ r.2.sem = fun _ => 0) :=
  RDat.θ_run_frame_track (Q' := _) cfgs (0 : Fin 1) launch0 defs₀ Variants.none (data m) m ρ main
    (hbody := fun c => body_obligation m c) (hshare := fun c => (data m c).share_full fun _ => rfl)
    (howed := fun _ _ => rfl) (V := V m) (hmain := hmain m Variants.none) (hA := A_eq m) (hin := hin m) (hout := hout m)

/-- The argument arrays end unchanged. -/
theorem kept (r) (h : RDat.FramePost cfg0 (data m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(RDat.FramePost.arr_in h c 0 rfl).trans ((A_eq m c 0).trans (V_main_arg0 m c)), (RDat.FramePost.arr_in h c 1 rfl).trans ((A_eq m c 1).trans (V_main_arg1 m c)), (RDat.FramePost.arr_in h c 2 rfl).trans ((A_eq m c 2).trans (V_main_arg2 m c)), (RDat.FramePost.arr_in h c 3 rfl).trans ((A_eq m c 3).trans (V_main_arg3 m c))⟩

/-- The frame: the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => kept m r h.1 c, h.2⟩) (run_quiescent m ρ)

end Cert.VLaunch

end
-- ==== Proof.VValue.lean ====
/- The `proj_v` call beside its reference: the activated convolution of the product, and the weight it casts on the way. -/
module

public import proofs.«01_k».proof.Defs
public import proofs.«01_k».proof.Proof.VLaunch
public import proofs.«01_k».proof.Proof.Gen.V
public import proofs.«01_k».proof.Proof.Gen.VReferenceIdeal.Run
public import Idealize.ShloMosaic.Lib.Pointwise
public import Idealize.ShloMosaic.Lib.KernelVsHost

@[expose] public section

set_option maxRecDepth 65536
set_option synthInstance.maxSize 4096
set_option backward.isDefEq.respectTransparency false

noncomputable section

namespace Cert.VIdeal.Words

open Idealize.ShloMosaic Idealize.ShloMosaic.TcCoe Idealize.ShloMosaic.Tactic Idealize.SL.Sem Idealize.ShloMosaic.Pipeline Cert.VIdeal Cert.VIdeal.Gen Cert.VLaunch

/-! ## The tile -/

/-- Rows put into a tile, at a row of theirs. -/
theorem put_in {α : Type} (y : S1024x1024.Idx → α) (o : ℕ) (w : S256x1024.Idx → α) (i j : Fin 1024) (r : Fin 256) (h : i.val = o + r.val) :
    VecWindow.put (s := S1024x1024) y ![o, 0] S256x1024.size w (ix2 i j) = w (ix2 r j) := by
  have hr := r.isLt
  have hj := j.isLt
  have h' : ∀ a : Fin 2, (![o, 0] : Fin 2 → ℕ) a ≤ ((ix2 i j : S1024x1024.Idx) a).val ∧ ((ix2 i j : S1024x1024.Idx) a).val < (![o, 0] : Fin 2 → ℕ) a + S256x1024.size a := by
    intro a
    match a with
    | ⟨0, _⟩ => show o ≤ i.val ∧ i.val < o + 256; omega
    | ⟨1, _⟩ => show 0 ≤ j.val ∧ j.val < 0 + 1024; omega
  refine (dif_pos h').trans (congrArg w ?_)
  funext a
  apply Fin.ext
  match a with
  | ⟨0, _⟩ => show i.val - o = r.val; omega
  | ⟨1, _⟩ => show j.val - 0 = j.val; omega

/-- Rows put into a tile, at a row before or behind them. -/
theorem put_out {α : Type} (y : S1024x1024.Idx → α) (o : ℕ) (w : S256x1024.Idx → α) (i j : Fin 1024) (h : i.val < o ∨ o + 256 ≤ i.val) :
    VecWindow.put (s := S1024x1024) y ![o, 0] S256x1024.size w (ix2 i j) = y (ix2 i j) :=
  dif_neg fun h' => by
    have e : o ≤ i.val ∧ i.val < o + 256 := h' 0
    omega

/-- The element `n` rows before row `x` of a column, zero above its top. -/
def earlier (p : Fin 8192 → EReal) (x n : ℕ) : EReal := if h : n ≤ x ∧ x - n < 8192 then p ⟨x - n, h.2⟩ else 0

theorem earlier_eq (p : Fin 8192 → EReal) (x n : ℕ) (a : Fin 8192) (h : x = a.val + n) : earlier p x n = p a := by
  have ha := a.isLt
  unfold earlier
  rw [dif_pos ⟨by omega, by omega⟩]
  exact congrArg p (Fin.ext (by simp only []; omega))

theorem earlier_zero (p : Fin 8192 → EReal) (x n : ℕ) (h : x < n) : earlier p x n = 0 := dif_neg fun h' => absurd h'.1 (by omega)

theorem earlier_shift (p : Fin 8192 → EReal) (x y n k : ℕ) (h : y + n = x + k) : earlier p x n = earlier p y k := by
  unfold earlier
  by_cases h' : n ≤ x ∧ x - n < 8192
  · rw [dif_pos h', dif_pos (by omega)]
    exact congrArg p (Fin.ext (by simp only []; omega))
  · rw [dif_neg h', dif_neg (by omega)]

/-- A column convolved with four taps, at a row. -/
def mix (w : Fin 4 → EReal) (p : Fin 8192 → EReal) (x : ℕ) : EReal :=
  earlier p x 0 * w 3 + earlier p x 1 * w 2 + earlier p x 2 * w 1 + earlier p x 3 * w 0

/-- The activation of the convolution. -/
def act (z : EReal) : EReal := z * Ideal.logistic z

/-- A band with the 8 rows above it on top, when both hold rows of a column. -/
theorem above_at (prev : Vec Ideal S8x1024 .f32) (blk : Vec Ideal S256x1024 .f32) (p : Fin 8192 → EReal) (base : ℕ) (hb : base + 256 ≤ 8192) (j : Fin 1024)
    (hblk : ∀ (r : Fin 256), blk (ix2 r j) = earlier p (base + r.val) 0) (hprev : ∀ k : Fin 8, prev (ix2 k j) = earlier p (base + k.val) 8) (k : Fin 264) :
    above prev blk (ix2 k j) = earlier p (base + k.val) 8 := by
  have hk := k.isLt
  unfold above
  by_cases h : k.val < 8
  · refine (concatenate_pair_apply_left (t := S264x1024) 0 prev blk _ (ix2 k j) rfl (ix2 (⟨k.val, h⟩ : Fin 8) j) fun b => ?_).trans (hprev _)
    match b with
    | ⟨0, _⟩ => rfl
    | ⟨1, _⟩ => rfl
  · refine (concatenate_pair_apply_right (t := S264x1024) 0 prev blk _ (ix2 k j) rfl rfl (ix2 (⟨k.val - 8, by omega⟩ : Fin 256) j) (fun b hne => ?_) ?_).trans ((hblk _).trans ?_)
    · match b with
      | ⟨0, _⟩ => exact absurd rfl hne
      | ⟨1, _⟩ => rfl
    · show k.val - 8 + 8 = k.val; omega
    · exact earlier_shift p _ _ _ _ (by simp only []; omega)

/-- The convolution of a band, when the band and the rows above it hold rows of a column. -/
theorem conv_at (w : Vec Ideal S4x1024 .f32) (blk : Vec Ideal S256x1024 .f32) (prev : Vec Ideal S8x1024 .f32) (p : Fin 8192 → EReal) (base : ℕ) (hb : base + 256 ≤ 8192) (j : Fin 1024)
    (hblk : ∀ (r : Fin 256), blk (ix2 r j) = earlier p (base + r.val) 0) (hprev : ∀ k : Fin 8, prev (ix2 k j) = earlier p (base + k.val) 8) (r : Fin 256) :
    (conv w blk prev (ix2 r j) : EReal) = mix (fun k => w (ix2 k j)) p (base + r.val) := by
  have hr := r.isLt
  unfold conv mix
  pointwise []
  rw [above_at prev blk p base hb j hblk hprev, above_at prev blk p base hb j hblk hprev, above_at prev blk p base hb j hblk hprev, hblk]
  rw [earlier_shift p _ (base + r.val) 8 1 (by simp only []; omega), earlier_shift p _ (base + r.val) 8 2 (by simp only []; omega), earlier_shift p _ (base + r.val) 8 3 (by simp only []; omega)]

/-- The activated convolution of a band. -/
theorem silu_at (w : Vec Ideal S4x1024 .f32) (blk : Vec Ideal S256x1024 .f32) (prev : Vec Ideal S8x1024 .f32) (p : Fin 8192 → EReal) (base : ℕ) (hb : base + 256 ≤ 8192) (j : Fin 1024)
    (hblk : ∀ (r : Fin 256), blk (ix2 r j) = earlier p (base + r.val) 0) (hprev : ∀ k : Fin 8, prev (ix2 k j) = earlier p (base + k.val) 8) (r : Fin 256) :
    (silu w blk prev (ix2 r j) : EReal) = act (mix (fun k => w (ix2 k j)) p (base + r.val)) := by
  unfold silu act
  pointwise []
  rw [conv_at w blk prev p base hb j hblk hprev r]

/-- Rows read of a tile. -/
theorem ld_at {n : ℕ} (s : Vec Ideal S1024x1024 .f32) (o : ℕ) (sz : Fin 2 → ℕ) (hb : ∀ a, (![o, 0] : Fin 2 → ℕ) a + sz a ≤ S1024x1024.size a)
    (x : (Rect.unit (s := S1024x1024) ![o, 0] sz hb).shape.Idx) (i j : Fin 1024) (h : i.val = o + (x 0).val) (h' : j.val = (x 1).val) :
    View.ld s (Rect.unit (s := S1024x1024) ![o, 0] sz hb) x = s (ix2 i j) := by
  show s _ = s _
  congr 1
  funext y
  apply Fin.ext
  match y with
  | ⟨0, _⟩ => show o + 1 * (x 0).val = i.val; omega
  | ⟨1, _⟩ => show 0 + 1 * (x 1).val = j.val; omega

/-- What becomes of a row of activated values. -/
def rowOut {n : ℕ} (z : Fin n → EReal) (j : Fin n) : EReal := z j

/-- A band of the output: no element is above the largest of its row. -/
theorem band_at (w : Vec Ideal S4x1024 .f32) (blk : Vec Ideal S256x1024 .f32) (prev : Vec Ideal S8x1024 .f32) (i : Fin 256) (j : Fin 1024) :
    (band w blk prev (ix2 i j) : EReal) = rowOut (fun j => silu w blk prev (ix2 i j)) j := by
  unfold band rowOut
  pointwise []
  exact min_eq_left ((Finset.le_fold_max _).mpr (Or.inr ⟨j, Finset.mem_univ _, le_rfl⟩))

/-- The output tile a point leaves, when its product and the rows above hold rows of the columns `p`. -/
theorem tile_at (n : BitVec 32) (w : Vec Ideal S4x1024 .f32) (s : Vec Ideal S1024x1024 .f32) (h : Vec Ideal S8x1024 .f32) (y : Vec Ideal S1024x1024 .bf16)
    (p : Fin 1024 → Fin 8192 → EReal) (top : ℕ) (ht : top + 1024 ≤ 8192) (hs : ∀ i j : Fin 1024, s (ix2 i j) = earlier (p j) (top + i.val) 0)
    (hh : ∀ (k : Fin 8) (j : Fin 1024), start n h (ix2 k j) = earlier (p j) (top + k.val) 8) (i j : Fin 1024) :
    (tile n w s h y (ix2 i j) : EReal) = rowOut (fun j => act (mix (fun k => w (ix2 k j)) (p j) (top + i.val))) j := by
  have hi := i.isLt
  unfold tile
  by_cases h3 : 768 ≤ i.val
  · obtain ⟨r, hr⟩ : ∃ r : Fin 256, i.val = 768 + r.val := ⟨⟨i.val - 768, by omega⟩, by simp only []; omega⟩
    refine (put_in _ 768 _ i j r hr).trans ((band_at _ _ _ r j).trans (congrArg (rowOut · j) (funext fun j' => ?_)))
    refine (silu_at w _ _ (p j') (top + 768) (by omega) j' (fun q => (ld_at (n := 0) s 768 _ _ (ix2 q j') ⟨768 + q.val, by omega⟩ j' rfl rfl).trans ((hs _ j').trans (congrArg (earlier (p j') · 0) (by simp only []; omega)))) (fun q => (ld_at (n := 0) s 760 _ _ (ix2 q j') ⟨760 + q.val, by omega⟩ j' rfl rfl).trans ((hs _ j').trans (earlier_shift (p j') _ _ _ _ (by simp only []; omega)))) r).trans ?_
    rw [hr, Nat.add_assoc]
  refine (put_out _ 768 _ i j (Or.inl (by omega))).trans ?_
  by_cases h2 : 512 ≤ i.val
  · obtain ⟨r, hr⟩ : ∃ r : Fin 256, i.val = 512 + r.val := ⟨⟨i.val - 512, by omega⟩, by simp only []; omega⟩
    refine (put_in _ 512 _ i j r hr).trans ((band_at _ _ _ r j).trans (congrArg (rowOut · j) (funext fun j' => ?_)))
    refine (silu_at w _ _ (p j') (top + 512) (by omega) j' (fun q => (ld_at (n := 0) s 512 _ _ (ix2 q j') ⟨512 + q.val, by omega⟩ j' rfl rfl).trans ((hs _ j').trans (congrArg (earlier (p j') · 0) (by simp only []; omega)))) (fun q => (ld_at (n := 0) s 504 _ _ (ix2 q j') ⟨504 + q.val, by omega⟩ j' rfl rfl).trans ((hs _ j').trans (earlier_shift (p j') _ _ _ _ (by simp only []; omega)))) r).trans ?_
    rw [hr, Nat.add_assoc]
  refine (put_out _ 512 _ i j (Or.inl (by omega))).trans ?_
  by_cases h1 : 256 ≤ i.val
  · obtain ⟨r, hr⟩ : ∃ r : Fin 256, i.val = 256 + r.val := ⟨⟨i.val - 256, by omega⟩, by simp only []; omega⟩
    refine (put_in _ 256 _ i j r hr).trans ((band_at _ _ _ r j).trans (congrArg (rowOut · j) (funext fun j' => ?_)))
    refine (silu_at w _ _ (p j') (top + 256) (by omega) j' (fun q => (ld_at (n := 0) s 256 _ _ (ix2 q j') ⟨256 + q.val, by omega⟩ j' rfl rfl).trans ((hs _ j').trans (congrArg (earlier (p j') · 0) (by simp only []; omega)))) (fun q => (ld_at (n := 0) s 248 _ _ (ix2 q j') ⟨248 + q.val, by omega⟩ j' rfl rfl).trans ((hs _ j').trans (earlier_shift (p j') _ _ _ _ (by simp only []; omega)))) r).trans ?_
    rw [hr, Nat.add_assoc]
  refine (put_out _ 256 _ i j (Or.inl (by omega))).trans ?_
  obtain ⟨r, hr⟩ : ∃ r : Fin 256, i.val = 0 + r.val := ⟨⟨i.val, by omega⟩, by simp only []; omega⟩
  refine (put_in _ 0 _ i j r hr).trans ((band_at _ _ _ r j).trans (congrArg (rowOut · j) (funext fun j' => ?_)))
  refine (silu_at w _ _ (p j') (top + 0) (by omega) j' (fun q => (ld_at (n := 0) s 0 _ _ (ix2 q j') ⟨0 + q.val, by omega⟩ j' rfl rfl).trans ((hs _ j').trans (congrArg (earlier (p j') · 0) (by simp only []; omega)))) (fun q => hh q j') r).trans ?_
  rw [hr, Nat.add_assoc]

/-- The product of a tile, at an index. -/
theorem prod_at (x w : FVec Ideal S1024x4096 .bf16) (i j : Fin 1024) :
    (prod (F := Ideal) x w (ix2 i j) : EReal) = ∑ a : Fin 4096, x (ix2 i a) * w (ix2 j a) := by
  unfold prod
  pointwise []

/-! ## The windows -/

theorem at0 : ∀ t : Fin grid0.N, t.val < 32 → win0_0.index t 0 = t.val % 8 ∧ win0_0.index t 1 = 0 := by decide +kernel
theorem at1 : ∀ t : Fin grid0.N, t.val < 32 → win0_1.index t 0 = t.val / 8 ∧ win0_1.index t 1 = 0 := by decide +kernel
theorem at2 : ∀ t : Fin grid0.N, win0_2.index t 0 = 0 ∧ win0_2.index t 1 = 8 + (t.val - 1) / 8 := by decide +kernel
theorem at4 : ∀ t : Fin grid0.N, win0_4.index t 0 = (t.val - 1) % 8 ∧ win0_4.index t 1 = (t.val - 1) / 8 := by decide +kernel
theorem flush4 : ∀ t : Fin grid0.N, (cfg0.win 4).flush t = true ↔ 0 < t.val := by decide +kernel
theorem top_iff : ∀ t : Fin grid0.N, Scalar.cmpi .eq (Scalar.remsi (Scalar.maxsi (Scalar.subi (BitVec.ofNat 32 (grid0.coords t 0).val) 1#32) 0#32) 8#32) 0#32 = 1#1 ↔ (t.val - 1) % 8 = 0 := by decide +kernel
theorem at3 : ∀ t : Fin grid0.N, t.val < 32 → win0_3.index t 0 = 20480 + 128 * t.val ∧ win0_3.index t 1 = 0 := by decide +kernel
theorem at5 : ∀ t : Fin grid0.N, win0_5.index t 0 = min t.val 31 ∧ win0_5.index t 1 = 0 := by decide +kernel
theorem flush5 : ∀ t : Fin grid0.N, (cfg0.win 5).flush t = true ↔ t.val ≠ 31 := by decide +kernel

section Points
variable {F : FTy → Type} [FloatOps F]
variable (m : (ℓ : Loc nD τ sig) → Buf (Elt F) ℓ)

theorem iblk0_at (c : Dev nD) (t : Fin cfg0.N) (h : t.val < 32) (i : Fin 1024) (j : Fin 4096) (a : Fin 8192) (ha : a.val = 1024 * (t.val % 8) + i.val) :
    (iblk m c 0 t : Vec F S1024x4096 .bf16) (ix2 i j) = m ((c : Thread nD τ).loc main_arg0) (ix2 a j) := by
  unfold iblk
  rw [View.read_apply]
  show V m c main_arg0 _ = _
  rw [V_main_arg0]
  congr 1
  funext x
  apply Fin.ext
  match x with
  | ⟨0, _⟩ => show win0_0.index t 0 * 1024 + 1 * i.val = a.val; rw [(at0 t h).1]; omega
  | ⟨1, _⟩ => show win0_0.index t 1 * 4096 + 1 * j.val = j.val; rw [(at0 t h).2]; omega

theorem iblk1_at (c : Dev nD) (t : Fin cfg0.N) (h : t.val < 32) (i : Fin 1024) (j : Fin 4096) (a : Fin 4096) (ha : a.val = 1024 * (t.val / 8) + i.val) :
    (iblk m c 1 t : Vec F S1024x4096 .bf16) (ix2 i j) = m ((c : Thread nD τ).loc main_arg1) (ix2 a j) := by
  unfold iblk
  rw [View.read_apply]
  show V m c main_arg1 _ = _
  rw [V_main_arg1]
  congr 1
  funext x
  apply Fin.ext
  match x with
  | ⟨0, _⟩ => show win0_1.index t 0 * 1024 + 1 * i.val = a.val; rw [(at1 t h).1]; omega
  | ⟨1, _⟩ => show win0_1.index t 1 * 4096 + 1 * j.val = j.val; rw [(at1 t h).2]; omega

theorem iblk3_at (c : Dev nD) (t : Fin cfg0.N) (h : t.val < 32) (i : Fin 128) (j : Fin 4096) (a : Fin 32832) (ha : a.val = 20480 + 128 * t.val + i.val) :
    (iblk m c 3 t : Vec F S128x4096 .f32) (ix2 i j) = m ((c : Thread nD τ).loc main_arg3) (ix2 a j) := by
  unfold iblk
  rw [View.read_apply]
  show V m c main_arg3 _ = _
  rw [V_main_arg3]
  congr 1
  funext x
  apply Fin.ext
  match x with
  | ⟨0, _⟩ => show win0_3.index t 0 + 1 * i.val = a.val; rw [(at3 t h).1]; omega
  | ⟨1, _⟩ => show win0_3.index t 1 + 1 * j.val = j.val; rw [(at3 t h).2]; omega

theorem iblk2_at (c : Dev nD) (t : Fin cfg0.N) (k : Fin 4) (j : Fin 1024) (b : Fin 12288) (hb : b.val = 8192 + 1024 * ((t.val - 1) / 8) + j.val) :
    (iblk m c 2 t : Vec F S4x1024 .f32) (ix2 k j) = m ((c : Thread nD τ).loc main_arg2) (ix2 k b) := by
  unfold iblk
  rw [View.read_apply]
  show V m c main_arg2 _ = _
  rw [V_main_arg2]
  congr 1
  funext x
  apply Fin.ext
  match x with
  | ⟨0, _⟩ => show win0_2.index t 0 * 4 + 1 * k.val = k.val; rw [(at2 t).1]; omega
  | ⟨1, _⟩ => show win0_2.index t 1 * 1024 + 1 * j.val = b.val; rw [(at2 t).2]; omega

theorem emb4_at (t : Fin cfg0.N) (i j : Fin 1024) (a : Fin 8192) (b : Fin 4096)
    (ha : a.val = 1024 * ((t.val - 1) % 8) + i.val) (hb : b.val = 1024 * ((t.val - 1) / 8) + j.val) :
    ((cfg0.win 4).blk t).view.emb (ix2 i j) = ix2 a b := by
  funext x
  apply Fin.ext
  match x with
  | ⟨0, _⟩ => show win0_4.index t 0 * 1024 + 1 * i.val = a.val; rw [(at4 t).1]; omega
  | ⟨1, _⟩ => show win0_4.index t 1 * 1024 + 1 * j.val = b.val; rw [(at4 t).2]; omega

/-- Two points that write the output back write separate blocks. -/
theorem disjoint4 : ∀ t t' : Fin cfg0.N, (cfg0.win 4).flush t = true → (cfg0.win 4).flush t' = true → t ≠ t' →
    Disjoint ((cfg0.win 4).blk t).view.set ((cfg0.win 4).blk t').view.set := by
  intro t t' hf hf' hne
  refine (cfg0.win 4).disjoint_blk fun h => hne (Fin.ext ?_)
  have p := (flush4 t).mp hf
  have p' := (flush4 t').mp hf'
  have e0 : win0_4.index t 0 = win0_4.index t' 0 := congrFun h 0
  have e1 : win0_4.index t 1 = win0_4.index t' 1 := congrFun h 1
  rw [(at4 t).1, (at4 t').1] at e0
  rw [(at4 t).2, (at4 t').2] at e1
  omega

theorem emb5_at (t : Fin cfg0.N) (i : Fin 128) (j : Fin 4096) (a : Fin 4096) (ha : a.val = 128 * min t.val 31 + i.val) :
    ((cfg0.win 5).blk t).view.emb (ix2 i j) = ix2 a j := by
  funext x
  apply Fin.ext
  match x with
  | ⟨0, _⟩ => show win0_5.index t 0 * 128 + 1 * i.val = a.val; rw [(at5 t).1]; omega
  | ⟨1, _⟩ => show win0_5.index t 1 * 4096 + 1 * j.val = j.val; rw [(at5 t).2]; omega

/-- Two points that write the cast weight back write separate blocks. -/
theorem disjoint5 : ∀ t t' : Fin cfg0.N, (cfg0.win 5).flush t = true → (cfg0.win 5).flush t' = true → t ≠ t' →
    Disjoint ((cfg0.win 5).blk t).view.set ((cfg0.win 5).blk t').view.set := by
  intro t t' hf hf' hne
  refine (cfg0.win 5).disjoint_blk fun h => hne (Fin.ext ?_)
  have p := (flush5 t).mp hf
  have p' := (flush5 t').mp hf'
  have n : t.val < 33 := lt_of_lt_of_eq t.isLt N_0
  have n' : t'.val < 33 := lt_of_lt_of_eq t'.isLt N_0
  have e0 : win0_5.index t 0 = win0_5.index t' 0 := congrFun h 0
  rw [(at5 t).1, (at5 t').1] at e0
  omega

/-- What a point leaves in the cast weight's block: its rows cast; the last point leaves the block of the point before it. -/
theorem left5 (c : Dev nD) (t : Fin cfg0.N) (X) (h : (data m c).Leaves 5 t X) : X = truncf .bf16 (iblk m c 3 (filled t.val)) bitsLt_bf16_f32 := by
  have inner : ∀ (t : Fin cfg0.N) (Y X), t.val < 32 → (data m c).after 5 t Y X → X = truncf .bf16 (iblk m c 3 (filled t.val)) bitsLt_bf16_f32 := by
    intro t Y X hl hR
    rw [(after_5 m c t Y X).mp hR, show filled t.val = t from Fin.ext (by show min t.val 31 = t.val; omega)]
    exact if_pos hl
  have hn : t.val < 33 := lt_of_lt_of_eq t.isLt N_0
  obtain ⟨Y, hY, hR⟩ := h
  by_cases hl : t.val < 32
  · exact inner t Y X hl hR
  · have e : X = Y := ((after_5 m c t Y X).mp hR).trans (if_neg hl)
    have hb : t.val - 1 < cfg0.N := Nat.lt_of_le_of_lt (Nat.sub_le _ _) t.isLt
    rcases (RDat.finds_of_pos (data m c) (show (cfg0.win 5).fetch t = false from rfl) (by omega) Y).mp hY with hfl | ⟨Y', hY', hR'⟩
    · exact absurd (show t.val - 1 = 31 by omega) ((flush5 ⟨t.val - 1, hb⟩).mp hfl)
    · have e' := inner ⟨t.val - 1, hb⟩ Y' Y (by simp only []; omega) hR'
      rw [e, e', show filled (⟨t.val - 1, hb⟩ : Fin cfg0.N).val = filled t.val from Fin.ext (by show min (t.val - 1) 31 = min t.val 31; omega)]

end Points

/-- A row of a tile is the same part of the whole row. -/
theorem block_row (z : Fin 4096 → EReal) (q : ℕ) (hq : q < 4) (y : Fin 1024 → EReal) (h : ∀ j : Fin 1024, y j = z ⟨1024 * q + j.val, by omega⟩) (j : Fin 1024) (b : Fin 4096)
    (hb : b.val = 1024 * q + j.val) : rowOut y j = rowOut z b := by
  unfold rowOut
  rw [h]
  exact congrArg z (Fin.ext hb.symm)

/-! ## What every final state holds -/

variable (m : (ℓ : Loc nD τ sig) → Buf (Elt Ideal) ℓ)

/-- The product of a row of the input and a row of the weight. -/
def productAt (x : FVec Ideal S8192x4096 .bf16) (w : FVec Ideal S4096x4096 .bf16) (b : Fin 4096) (a : Fin 8192) : EReal :=
  ∑ k : Fin 4096, x (ix2 a k) * w (ix2 b k)

/-- The taps of a column. -/
def tapsAt (w : FVec Ideal S4x12288 .f32) (b : Fin 4096) (k : Fin 4) : EReal := w (ix2 k ⟨8192 + b.val, by have := b.isLt; omega⟩)

/-- The activated convolution, an element each. -/
def activated (x : FVec Ideal S8192x4096 .bf16) (w : FVec Ideal S4096x4096 .bf16) (u : FVec Ideal S4x12288 .f32) (a : Fin 8192) (b : Fin 4096) : EReal :=
  act (mix (tapsAt u b) (productAt x w b) a.val)

/-- The output. -/
def result (c : Dev nD) : Vec Ideal S8192x4096 .bf16 := fun x =>
  rowOut (activated (m ((c : Thread nD τ).loc main_arg0)) (m ((c : Thread nD τ).loc main_arg1)) (m ((c : Thread nD τ).loc main_arg2)) (x 0)) (x 1)

/-- The product after a point, as rows of columns. -/
theorem prodAt_at (c : Dev nD) (n : ℕ) (hn : n < 32) (i j : Fin 1024) (b : Fin 4096) (hb : b.val = 1024 * (n / 8) + j.val) :
    (prodAt m c n (ix2 i j) : EReal) = earlier (productAt (m ((c : Thread nD τ).loc main_arg0)) (m ((c : Thread nD τ).loc main_arg1)) b) (1024 * (n % 8) + i.val) 0 := by
  have hi := i.isLt
  have hv : (filled n).val = n := by show min n 31 = n; omega
  refine Eq.trans ?_ (earlier_eq _ _ 0 ⟨1024 * (n % 8) + i.val, by omega⟩ rfl).symm
  refine (prod_at _ _ i j).trans (Finset.sum_congr rfl fun k _ => ?_)
  rw [iblk0_at m c (filled n) (by omega) i k ⟨1024 * (n % 8) + i.val, by omega⟩ (by rw [hv]), iblk1_at m c (filled n) (by omega) j k b (by rw [hv]; omega)]

/-- The rows above the tile of a point, as rows of columns. -/
theorem start_at (c : Dev nD) (t : Fin cfg0.N) (ht : t.val ≠ 0) (h : Vec Ideal S8x1024 .f32) (hk : Keeps m c (t.val - 1) h) (k : Fin 8) (j : Fin 1024)
    (b : Fin 4096) (hb : b.val = 1024 * ((t.val - 1) / 8) + j.val) :
    (start (BitVec.ofNat 32 (grid0.coords t 0).val) h (ix2 k j) : EReal)
      = earlier (productAt (m ((c : Thread nD τ).loc main_arg0)) (m ((c : Thread nD τ).loc main_arg1)) b) (1024 * ((t.val - 1) % 8) + k.val) 8 := by
  have hN : t.val < 33 := lt_of_lt_of_eq t.isLt N_0
  have hk8 := k.isLt
  unfold start
  by_cases h0 : (t.val - 1) % 8 = 0
  · rw [(top_iff t).mpr h0, earlier_zero _ _ _ (by omega)]
    show (broadcast S8x1024 (Scalar.ofBits .f32 0x00000000#32) : FVec Ideal S8x1024 .f32) (ix2 k j) = 0
    pointwise []
  · have e : ∀ (c : BitVec 1) (x y : Vec Ideal S8x1024 .f32), c ≠ 1#1 → Scalar.select c x y = y := fun c x y hc => if_neg hc
    rw [e _ _ _ (fun hc => h0 ((top_iff t).mp hc)), hk (by omega) (by omega)]
    unfold tailOf
    refine (congrFun (shapeCast_self _ _) _).trans ?_
    refine (ld_at (n := 0) _ 1016 _ _ (ix2 k j) ⟨1016 + k.val, by omega⟩ j rfl rfl).trans ?_
    refine (prodAt_at m c _ (by omega) _ j b (by omega)).trans (earlier_shift _ _ _ _ _ (by simp only []; omega))

/-- Cast weight 0: the weight's rows from 20480 on. -/
def weight0 (c : Dev nD) : Vec Ideal S4096x4096 .bf16 := fun x =>
  (m ((c : Thread nD τ).loc main_arg3) : Vec Ideal S32832x4096 .f32) (ix2 ⟨20480 + (x 0).val, by have : (x 0).val < 4096 := (x 0).isLt; omega⟩ (x 1))

/-- The output, at the end. -/
theorem ends (c : Dev nD) (r : PUnit × MemSt nD τ sig (Elt Ideal)) (h : RDat.FramePost cfg0 (data m) (V m) r) :
    r.2.mem ((c : Thread nD τ).loc main_v0_0) = result m c := by
  obtain ⟨after, hL, hA⟩ := RDat.FramePost.exists_exact h c
  refine (hA 4).trans ?_
  funext x
  rw [eq_ix2 x]
  obtain ⟨a, ha⟩ : ∃ a : Fin 8192, a = x 0 := ⟨_, rfl⟩
  obtain ⟨b, hb⟩ : ∃ b : Fin 4096, b = x 1 := ⟨_, rfl⟩
  rw [← ha, ← hb]
  obtain ⟨t, ht⟩ : ∃ t : Fin cfg0.N, t.val = 8 * (b.val / 1024) + a.val / 1024 + 1 := ⟨⟨_, by rw [show cfg0.N = 33 from N_0]; omega⟩, rfl⟩
  obtain ⟨i, hi⟩ : ∃ i : Fin 1024, i.val = a.val % 1024 := ⟨⟨_, by omega⟩, rfl⟩
  obtain ⟨j, hj⟩ : ∃ j : Fin 1024, j.val = b.val % 1024 := ⟨⟨_, by omega⟩, rfl⟩
  have hf : (cfg0.win 4).flush t = true := (flush4 t).mpr (by omega)
  have e := congrFun (((data m c).withAfter after).read_blk_arrAt_eq_flushed 4 disjoint4 cfg0.N t t.isLt hf) (ix2 i j)
  rw [View.read_apply, emb4_at t i j a b (by omega) (by omega)] at e
  refine e.trans ?_
  obtain ⟨Y, hY, hR⟩ := hL 4 t hf
  have e' := (after_4 m c t Y _).mp hR (by omega)
  obtain ⟨h, hh, e'⟩ := e'
  show (after 4 t : Vec Ideal S1024x1024 .bf16) (ix2 i j) = _
  rw [e']
  refine (tile_at _ _ _ h _ (fun j => productAt (m ((c : Thread nD τ).loc main_arg0)) (m ((c : Thread nD τ).loc main_arg1)) ⟨1024 * ((t.val - 1) / 8) + j.val, by omega⟩) (1024 * ((t.val - 1) % 8)) (by omega)
    (fun i j => prodAt_at m c _ (by omega) i j _ rfl) (fun k j => start_at m c t (by omega) h hh k j _ rfl) i j).trans ?_
  refine (block_row (fun b => activated (m ((c : Thread nD τ).loc main_arg0)) (m ((c : Thread nD τ).loc main_arg1)) (m ((c : Thread nD τ).loc main_arg2)) a b) ((t.val - 1) / 8) (by omega) _ (fun j => ?_) j b (by omega))
  unfold activated
  have hk : (fun k => (iblk m c 2 t : Vec Ideal S4x1024 .f32) (ix2 k j)) = tapsAt (m ((c : Thread nD τ).loc main_arg2)) ⟨1024 * ((t.val - 1) / 8) + j.val, by omega⟩ :=
    funext fun k => iblk2_at m c t k j _ (by show 8192 + (1024 * ((t.val - 1) / 8) + j.val) = _; omega)
  rw [hk, show 1024 * ((t.val - 1) % 8) + i.val = a.val by omega]

/-- Cast weight 0, at the end. -/
theorem weight0_ends (c : Dev nD) (r : PUnit × MemSt nD τ sig (Elt Ideal)) (h : RDat.FramePost cfg0 (data m) (V m) r) :
    r.2.mem ((c : Thread nD τ).loc main_v0_1) = weight0 m c := by
  obtain ⟨after, hL, hA⟩ := RDat.FramePost.exists_exact h c
  refine (hA 5).trans ?_
  funext x
  rw [eq_ix2 x]
  obtain ⟨a, ha⟩ : ∃ a : Fin 4096, a = x 0 := ⟨_, rfl⟩
  obtain ⟨b, hb⟩ : ∃ b : Fin 4096, b = x 1 := ⟨_, rfl⟩
  rw [← ha, ← hb]
  obtain ⟨t, ht⟩ : ∃ t : Fin cfg0.N, t.val ≠ 31 ∧ min t.val 31 = a.val / 128 := by
    by_cases hl : a.val / 128 < 31
    · exact ⟨⟨a.val / 128, by rw [show cfg0.N = 33 from N_0]; omega⟩, by simp only []; omega, by simp only []; omega⟩
    · exact ⟨⟨32, by rw [show cfg0.N = 33 from N_0]; omega⟩, by simp only []; omega, by simp only []; omega⟩
  obtain ⟨i, hi⟩ : ∃ i : Fin 128, i.val = a.val % 128 := ⟨⟨_, by omega⟩, rfl⟩
  have hf : (cfg0.win 5).flush t = true := (flush5 t).mpr ht.1
  have e := congrFun (((data m c).withAfter after).read_blk_arrAt_eq_flushed 5 disjoint5 cfg0.N t t.isLt hf) (ix2 i b)
  rw [View.read_apply, emb5_at t i b a (by omega)] at e
  refine e.trans ?_
  show (after 5 t : Vec Ideal S128x4096 .bf16) (ix2 i b) = _
  rw [left5 m c t (after 5 t) (hL 5 t hf)]
  show (iblk m c 3 (filled t.val) : Vec Ideal S128x4096 .f32) (ix2 i b) = _
  have hv : (filled t.val).val = min t.val 31 := rfl
  exact iblk3_at m c (filled t.val) (by omega) i b _ (by rw [hv]; show 20480 + a.val = _; omega)

end Cert.VIdeal.Words

namespace Cert.VValue

open Idealize.ShloMosaic Idealize.ShloMosaic.TcCoe Idealize.SL.Sem

attribute [local instance] Cert.V.Gen.facts Cert.VIdeal.Gen.facts Cert.VReferenceIdeal.Gen.facts

section Reference
open Cert.VReferenceIdeal Cert.VReferenceIdeal.Gen

/-- The reference's product with three rows of zeros above it. -/
def padded (D : FVec Ideal S8192x4096 .f32) : FVec Ideal S8195x4096 .f32 :=
  pad S8195x4096 ![3, 0] ![0, 0] ![0, 0] D (sitofp .f32 (constantI S_ 32 0#32)) pads_S8192x4096_S8195x4096_300_000 h_S_

theorem padded_at (D : FVec Ideal S8192x4096 .f32) (x : Fin 8195) (b : Fin 4096) :
    (padded D (ix2 x b) : EReal) = Cert.VIdeal.Words.earlier (fun a => D (ix2 a b)) x.val 3 := by
  have hx := x.isLt
  unfold padded
  by_cases h : 3 ≤ x.val
  · refine (pad_apply_of_inside _ _ _ _ _ _ _ _ (ix2 (⟨x.val - 3, by omega⟩ : Fin 8192) b) fun d => ?_).trans (Cert.VIdeal.Words.earlier_eq (fun a => D (ix2 a b)) x.val 3 ⟨x.val - 3, by omega⟩ (by simp only []; omega)).symm
    match d with
    | ⟨0, _⟩ => show x.val = 3 + (x.val - 3) * (0 + 1); omega
    | ⟨1, _⟩ => show b.val = 0 + b.val * (0 + 1); omega
  · refine (pad_apply_of_not_inside _ _ _ _ _ _ _ _ 0 fun hn => h hn.1).trans ?_
    rw [Cert.VIdeal.Words.earlier_zero _ _ _ (by omega)]
    show ((((0#32 : BitVec 32).toInt : ℤ) : ℝ) : EReal) = 0
    simp

/-- The reference's convolution: the four taps times the padded product. -/
def refConv (D : FVec Ideal S8192x4096 .f32) (u : FVec Ideal S4x12288 .f32) : FVec Ideal S8192x4096 .f32 :=
  (addf (addf (addf (addf (broadcastInDim S8192x4096 ![] bcast_S_S8192x4096 (constant S_ .f32 0x00000000#32)) (mulf (broadcastInDim S8192x4096 ![0, 1] bcast_S1x4096_S8192x4096_0_1 (broadcastInDim S1x4096 ![1] bcast_S4096_S1x4096_1 (shapeCast _ (extractStridedSlice S1x4096 ![0, 0] (extractStridedSlice S4x4096 ![0, 8192] u slices_S4x12288_S4x4096_0_8192) slices_S4x4096_S1x4096_0_0) shapeCasts_S1x4096_S4096))) (extractStridedSlice S8192x4096 ![0, 0] (padded D) slices_S8195x4096_S8192x4096_0_0))) (mulf (broadcastInDim S8192x4096 ![0, 1] bcast_S1x4096_S8192x4096_0_1 (broadcastInDim S1x4096 ![1] bcast_S4096_S1x4096_1 (shapeCast _ (extractStridedSlice S1x4096 ![1, 0] (extractStridedSlice S4x4096 ![0, 8192] u slices_S4x12288_S4x4096_0_8192) slices_S4x4096_S1x4096_1_0) shapeCasts_S1x4096_S4096))) (extractStridedSlice S8192x4096 ![1, 0] (padded D) slices_S8195x4096_S8192x4096_1_0))) (mulf (broadcastInDim S8192x4096 ![0, 1] bcast_S1x4096_S8192x4096_0_1 (broadcastInDim S1x4096 ![1] bcast_S4096_S1x4096_1 (shapeCast _ (extractStridedSlice S1x4096 ![2, 0] (extractStridedSlice S4x4096 ![0, 8192] u slices_S4x12288_S4x4096_0_8192) slices_S4x4096_S1x4096_2_0) shapeCasts_S1x4096_S4096))) (extractStridedSlice S8192x4096 ![2, 0] (padded D) slices_S8195x4096_S8192x4096_2_0))) (mulf (broadcastInDim S8192x4096 ![0, 1] bcast_S1x4096_S8192x4096_0_1 (broadcastInDim S1x4096 ![1] bcast_S4096_S1x4096_1 (shapeCast _ (extractStridedSlice S1x4096 ![3, 0] (extractStridedSlice S4x4096 ![0, 8192] u slices_S4x12288_S4x4096_0_8192) slices_S4x4096_S1x4096_3_0) shapeCasts_S1x4096_S4096))) (extractStridedSlice S8192x4096 ![3, 0] (padded D) slices_S8195x4096_S8192x4096_3_0)))

theorem refConv_at (D : FVec Ideal S8192x4096 .f32) (u : FVec Ideal S4x12288 .f32) (a : Fin 8192) (b : Fin 4096) :
    (refConv D u (ix2 a b) : EReal) = Cert.VIdeal.Words.mix (Cert.VIdeal.Words.tapsAt u b) (fun a => D (ix2 a b)) a.val := by
  unfold refConv Cert.VIdeal.Words.mix Cert.VIdeal.Words.tapsAt
  pointwise []
  have e : ∀ (y : Fin 8195) (n : ℕ), y.val + n = a.val + 3 → padded D (ix2 y b) = Cert.VIdeal.Words.earlier (fun a => D (ix2 a b)) a.val n := fun y n h =>
    (padded_at D y b).trans (Cert.VIdeal.Words.earlier_shift _ _ _ _ _ (by omega))
  have r : ∀ x0 x1 x2 x3 y0 y1 y2 y3 : EReal, x0 * y0 + x1 * y1 + x2 * y2 + x3 * y3 = y3 * x3 + y2 * x2 + y1 * x1 + y0 * x0 := by
    intro x0 x1 x2 x3 y0 y1 y2 y3
    rw [mul_comm x0, mul_comm x1, mul_comm x2, mul_comm x3]
    abel
  rw [e _ 3, e _ 2, e _ 1, e _ 0]
  · exact r _ _ _ _ _ _ _ _
  all_goals first | omega | rfl | (simp only []; done) | (simp only []; omega)

/-- The reference's activated convolution. -/
def refSilu (D : FVec Ideal S8192x4096 .f32) (u : FVec Ideal S4x12288 .f32) : FVec Ideal S8192x4096 .f32 :=
  mulf (refConv D u) (Host.divf (broadcastInDim S8192x4096 ![] bcast_S_S8192x4096 (constant S_ .f32 0x3F800000#32)) (addf (broadcastInDim S8192x4096 ![] bcast_S_S8192x4096 (constant S_ .f32 0x3F800000#32)) (Host.exp (Host.negf (refConv D u)))))

theorem refSilu_apply (D : FVec Ideal S8192x4096 .f32) (u : FVec Ideal S4x12288 .f32) (a : Fin 8192) (b : Fin 4096) :
    (refSilu D u (ix2 a b) : EReal) = Cert.VIdeal.Words.act (Cert.VIdeal.Words.mix (Cert.VIdeal.Words.tapsAt u b) (fun a => D (ix2 a b)) a.val) := by
  unfold refSilu Cert.VIdeal.Words.act
  pointwise []
  rw [refConv_at]
  rfl

theorem refSilu_at (x : FVec Ideal S8192x4096 .bf16) (w : FVec Ideal S4096x4096 .bf16) (u : FVec Ideal S4x12288 .f32) (a : Fin 8192) (b : Fin 4096) :
    (refSilu (Host.dotGeneral dot_S8192x4096_S4096x4096_S8192x4096_1_1_0_0_n_n none x w) u (ix2 a b) : EReal) = Cert.VIdeal.Words.activated x w u a b := by
  have hp : (fun a => (Host.dotGeneral dot_S8192x4096_S4096x4096_S8192x4096_1_1_0_0_n_n none x w : FVec Ideal S8192x4096 .f32) (ix2 a b)) = Cert.VIdeal.Words.productAt x w b := by
    funext a
    unfold Cert.VIdeal.Words.productAt
    pointwise []
  exact (refSilu_apply _ u a b).trans (congrArg (fun p => Cert.VIdeal.Words.act (Cert.VIdeal.Words.mix (Cert.VIdeal.Words.tapsAt u b) p a.val)) hp)

/-- The reference's term. -/
def refTerm (x : FVec Ideal S8192x4096 .bf16) (w : FVec Ideal S4096x4096 .bf16) (u : FVec Ideal S4x12288 .f32) : FVec Ideal S8192x4096 .bf16 :=
  truncf .bf16 (refSilu (Host.dotGeneral dot_S8192x4096_S4096x4096_S8192x4096_1_1_0_0_n_n none x w) u) bitsLt_bf16_f32

theorem ref_at (x : FVec Ideal S8192x4096 .bf16) (w : FVec Ideal S4096x4096 .bf16) (u : FVec Ideal S4x12288 .f32) (a : Fin 8192) (b : Fin 4096) :
    (refTerm x w u (ix2 a b) : EReal) = Cert.VIdeal.Words.rowOut (Cert.VIdeal.Words.activated x w u a) b := by
  unfold refTerm Cert.VIdeal.Words.rowOut
  pointwise []
  exact refSilu_at x w u a b

theorem res_eq (m : (ℓ : Loc nD τ sig) → Buf (Elt Ideal) ℓ) (c : Dev nD) :
    Cert.VReferenceIdeal.Value.res_out0 (F := Ideal) m c = refTerm (m ((c.tc : Thread nD τ).loc main_arg0)) (m ((c.tc : Thread nD τ).loc main_arg1)) (m ((c.tc : Thread nD τ).loc main_arg2)) := rfl

end Reference

/-! ## At machine floats the call is the same text -/

theorem bodies : @Cert.V.defs₀ Bits _ _ = @Cert.VIdeal.defs₀ Bits _ _ := by
  unfold Cert.V.defs₀ Cert.VIdeal.defs₀
  refine congrArg Defs.onTc ?_
  funext l a
  match l, a with
  | ⟨0, _⟩, (t, s) => rfl
  | ⟨_ + 1, h⟩, _ => exact absurd h (Nat.not_lt.2 (Nat.le_add_left _ _))

theorem tables : @Cert.V.defs Bits _ _ = @Cert.VIdeal.defs Bits _ _ := by
  unfold Cert.V.defs Cert.VIdeal.defs
  rw [bodies]
  rfl

/-- The call at machine floats runs, leaves its arguments and ends with its semaphores at zero. -/
theorem frame_floats : Cert.quiescent_V := fun m ρ _ => by
  have h := Cert.VLaunch.frame (F := Bits) m ρ
  rw [← tables] at h
  exact h

/-- The call over the reals runs, leaves its arguments and ends with its semaphores at zero. -/
theorem frame : Cert.quiescent_VIdeal := fun m ρ _ => Cert.VLaunch.frame m ρ

/-- The reference runs, leaves its arguments and ends with its semaphores at zero: it has none. -/
theorem frame_reference : Cert.quiescent_VReferenceIdeal := fun m ρ _ =>
  (θ_run Cert.VReferenceIdeal.defs _ _).mono (fun r h => ⟨fun c => (h c).2.2, sem_eq_zero_of_no_sems (by decide) r.2⟩)
    (Cert.VReferenceIdeal.Value.run (F := Ideal) m ρ)

/-- The call and its reference end with the same results. -/
theorem algebraic : Cert.algebraic_VIdeal_VReferenceIdeal := fun m ρ m' ρ' hp ha =>
  ⟨fun c => Cert.VIdeal.Words.result m c, fun c => Cert.VIdeal.Words.weight0 m c,
    (θ_run Cert.VIdeal.defs _ _).mono (fun r h c => ⟨Cert.VIdeal.Words.ends m c r h.1, Cert.VIdeal.Words.weight0_ends m c r h.1, Cert.VLaunch.kept m r h.1 c⟩)
      (Cert.VLaunch.run_quiescent (F := Ideal) m ρ),
    (θ_run Cert.VReferenceIdeal.defs _ _).mono (fun r h c => ⟨(h c).1.trans ((res_eq m' c).trans (by
        obtain ⟨e0, e1, e2, e3⟩ := ha c
        rw [e0, e1, e2]
        funext x
        rw [eq_ix2 x]
        exact ref_at _ _ _ _ _)), (h c).2.1.trans (by
        obtain ⟨e0, e1, e2, e3⟩ := ha c
        rw [e3]
        funext x
        refine congrArg (m ((c.tc : Thread Cert.VIdeal.nD Cert.VIdeal.τ).loc Cert.VIdeal.main_arg3)) ?_
        funext y
        apply Fin.ext
        match y with
        | ⟨0, _⟩ => rfl
        | ⟨1, _⟩ => exact Nat.zero_add _), (h c).2.2⟩)
      (Cert.VReferenceIdeal.Value.run (F := Ideal) m' ρ')⟩

end Cert.VValue

end
-- ==== Proof.QLaunch.lean ====
/- The `proj_q` call over the reals: what the body does at each grid point, what each point leaves in the output
   block, in the cast weights' blocks and in the accumulator, and what every final state holds. A tile is the product of the point before, convolved along the rows with four taps, through
   the layer's activation; the rows above a tile are kept in a second scratch array. -/
module

public import proofs.«01_k».proof.Proof.Gen.QIdeal.Frame
public import proofs.«01_k».proof.Proof.Gen.QIdeal.Skeleton
public import Idealize.ShloMosaic.Lib.Tactic.Stretches
public import Idealize.ShloMosaic.Lib.VecWindow
public import Idealize.ShloMosaic.Lib.Pipeline.Value
public import Idealize.ShloMosaic.Lib.Pipeline.ArrRel

@[expose] public section

set_option maxRecDepth 16384

noncomputable section

namespace Cert.QLaunch

open Cert.QIdeal Cert.QIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## The tests of the body -/

/-- The test of the first point. -/
abbrev first (i : grid0.Coords) : Prop := (Scalar.cmpi .ne (Scalar.extui (Scalar.cmpi .eq (BitVec.ofNat 32 (i 0).val) 0#32)) 0#32) = 1#1

theorem first_iff : ∀ t : Fin cfg0.N, first (grid0.coords t) ↔ t.val = 0 :=
  (by decide +kernel : ∀ t : Fin grid0.N, first (grid0.coords t) ↔ t.val = 0)
theorem inner_iff : ∀ t : Fin cfg0.N, k0_cond2 (grid0.coords t) = 1#1 ↔ t.val < 32 :=
  (by decide +kernel : ∀ t : Fin grid0.N, k0_cond2 (grid0.coords t) = 1#1 ↔ t.val < 32)
theorem last_iff : ∀ t : Fin cfg0.N, k0_cond3 (grid0.coords t) = 1#1 ↔ t.val = 32 :=
  (by decide +kernel : ∀ t : Fin grid0.N, k0_cond3 (grid0.coords t) = 1#1 ↔ t.val = 32)

/-! ## Short names -/

/-- The test of the first point, of a later one, of the last one. -/
abbrev AtA (i : grid0.Coords) : Prop := first i ∧ k0_cond2 i = 1#1 ∧ ¬k0_cond3 i = 1#1
abbrev AtB (i : grid0.Coords) : Prop := ¬first i ∧ k0_cond2 i = 1#1 ∧ ¬k0_cond3 i = 1#1
abbrev AtC (i : grid0.Coords) : Prop := ¬first i ∧ ¬k0_cond2 i = 1#1 ∧ k0_cond3 i = 1#1

/-- A block holds `x`. -/
abbrev own {S : Shape} {e : EltTy} (c : Dev nD) (r : Memref sig .tc .vmem S e) (x : Vec F S e) : sProp 𝕄 := owns (c : Thread nD τ) r fullShare x

/-- A block holds something with the pieces `L` written over it. -/
abbrev wrote {S : Shape} {e : EltTy} (c : Dev nD) (r : Memref sig .tc .vmem S e) (L : List (View.Piece (Elt F) S e)) : sProp 𝕄 :=
  iprop(∃ f, r.view.loc (c : Thread nD τ) ↦[r.view.set]{fullShare} r.view.writes (Elt F) f L)

/-- A block that held `y` has the pieces `L` written over it. -/
abbrev over {S : Shape} {e : EltTy} (c : Dev nD) {r : Memref sig .tc .vmem S e} (h : r.IsWhole) (y : Vec F S e) (L : List (View.Piece (Elt F) S e)) : sProp 𝕄 :=
  iprop(r.view.loc (c : Thread nD τ) ↦[r.view.set]{fullShare} r.view.writes (Elt F) (h.unread y) L)

/-! ## What the body computes -/

/-- A band of 256 rows with the 8 rows above it on top. -/
def above (prev : Vec F S8x1024 .f32) (blk : Vec F S256x1024 .f32) : FVec F S264x1024 .f32 :=
  concatenate S264x1024 0 [⟨S8x1024, prev⟩, ⟨S256x1024, blk⟩] concatenates_S8x1024_S256x1024_S264x1024_d0

/-- The convolution of a band along its rows: each row and the three above it, times the four taps. -/
def conv (w : Vec F S4x1024 .f32) (blk : Vec F S256x1024 .f32) (prev : Vec F S8x1024 .f32) : FVec F S256x1024 .f32 :=
  addf (addf (addf (mulf blk (broadcastTo S256x1024 (extractStridedSlice S1x1024 ![3, 0] w slices_S4x1024_o3_0_S1x1024) broadcasts_S1x1024_S256x1024)) (mulf (extractStridedSlice S256x1024 ![8, 0] (dynamicRotate 0 1#32 none (above prev blk) rotates_S264x1024_d0) slices_S264x1024_o8_0_S256x1024) (broadcastTo S256x1024 (extractStridedSlice S1x1024 ![2, 0] w slices_S4x1024_o2_0_S1x1024) broadcasts_S1x1024_S256x1024))) (mulf (extractStridedSlice S256x1024 ![8, 0] (dynamicRotate 0 2#32 none (above prev blk) rotates_S264x1024_d0) slices_S264x1024_o8_0_S256x1024) (broadcastTo S256x1024 (extractStridedSlice S1x1024 ![1, 0] w slices_S4x1024_o1_0_S1x1024) broadcasts_S1x1024_S256x1024))) (mulf (extractStridedSlice S256x1024 ![8, 0] (dynamicRotate 0 3#32 none (above prev blk) rotates_S264x1024_d0) slices_S264x1024_o8_0_S256x1024) (broadcastTo S256x1024 (extractStridedSlice S1x1024 ![0, 0] w slices_S4x1024_o0_0_S1x1024) broadcasts_S1x1024_S256x1024))

/-- The convolved band times its logistic function. -/
def silu (w : Vec F S4x1024 .f32) (blk : Vec F S256x1024 .f32) (prev : Vec F S8x1024 .f32) : FVec F S256x1024 .f32 :=
  mulf (conv w blk prev) (logistic (conv w blk prev))

/-- One head of a band over the length of its rows, scaled. -/
def head (a : FVec F S256x128 .f32) : FVec F S256x128 .f32 :=
  mulf a (broadcastTo S256x128 (mulf (rsqrt (addf (shapeCast S256x1 (multiReduction .add [1] S256 (mulf a a) 0x00000000#32 reduces_S256x128_S256 (.inl rfl) rfl) shapeCasts_S256_S256x1) (broadcast S256x1 (Scalar.ofBits .f32 0x358637BD#32)))) (broadcast S256x1 (Scalar.ofBits .f32 0x3DB504F3#32))) broadcasts_S256x1_S256x128)

/-- The eight heads of a band, each over its rows' lengths. -/
def heads (z : FVec F S256x1024 .f32) : FVec F S256x1024 .f32 :=
  concatenate S256x1024 1 [⟨S256x128, head (extractStridedSlice S256x128 ![0, 0] z slices_S256x1024_o0_0_S256x128)⟩, ⟨S256x128, head (extractStridedSlice S256x128 ![0, 128] z slices_S256x1024_o0_128_S256x128)⟩, ⟨S256x128, head (extractStridedSlice S256x128 ![0, 256] z slices_S256x1024_o0_256_S256x128)⟩, ⟨S256x128, head (extractStridedSlice S256x128 ![0, 384] z slices_S256x1024_o0_384_S256x128)⟩, ⟨S256x128, head (extractStridedSlice S256x128 ![0, 512] z slices_S256x1024_o0_512_S256x128)⟩, ⟨S256x128, head (extractStridedSlice S256x128 ![0, 640] z slices_S256x1024_o0_640_S256x128)⟩, ⟨S256x128, head (extractStridedSlice S256x128 ![0, 768] z slices_S256x1024_o0_768_S256x128)⟩, ⟨S256x128, head (extractStridedSlice S256x128 ![0, 896] z slices_S256x1024_o0_896_S256x128)⟩] concatenates_S256x128_S256x128_S256x128_S256x128_S256x128_S256x128_S256x128_S256x128_S256x1024_d1

/-- A band of the output: the heads of the activated band, rounded. -/
def band (w : Vec F S4x1024 .f32) (blk : Vec F S256x1024 .f32) (prev : Vec F S8x1024 .f32) : FVec F S256x1024 .bf16 :=
  truncf .bf16 (heads (silu w blk prev)) bitsLt_bf16_f32

/-- The 8 rows above a tile: zero at the top of a column of tiles, else the rows kept. -/
def start (n : BitVec 32) (h : Vec F S8x1024 .f32) : Vec F S8x1024 .f32 :=
  Scalar.select (Scalar.cmpi .eq (Scalar.remsi (Scalar.maxsi (Scalar.subi n 1#32) 0#32) 8#32) 0#32) (broadcast S8x1024 (Scalar.ofBits .f32 0x00000000#32)) h

/-- The product of a point's rows and weight rows. -/
def prod (x : Vec F S1024x4096 .bf16) (w : Vec F S1024x4096 .bf16) : Vec F S1024x1024 .f32 :=
  shapeCast S1024x1024 (matmul dot_S1024x4096_S1024x4096_S1024x1024_1_1_0_0_n_n none x w (constant S1024x1024 .f32 0x00000000#32)) shapeCasts_S1024x1024_S1024x1024

/-- The last 8 rows of a tile. -/
def tailOf (s : Vec F S1024x1024 .f32) : Vec F S8x1024 .f32 :=
  shapeCast S8x1024 (View.ld s (Rect.unit (s := S1024x1024) ![1016, 0] S8x1024.size inb_S1024x1024_S8x1024_1016_0)) shapeCasts_S8x1024_S8x1024

/-- The rows above band `p` of a tile. -/
def prevOf (n : BitVec 32) (s : Vec F S1024x1024 .f32) (h : Vec F S8x1024 .f32) : Fin 4 → Vec F S8x1024 .f32
  | 0 => start n h
  | 1 => View.ld s (Rect.unit (s := S1024x1024) ![248, 0] S8x1024.size inb_S1024x1024_S8x1024_248_0)
  | 2 => View.ld s (Rect.unit (s := S1024x1024) ![504, 0] S8x1024.size inb_S1024x1024_S8x1024_504_0)
  | 3 => View.ld s (Rect.unit (s := S1024x1024) ![760, 0] S8x1024.size inb_S1024x1024_S8x1024_760_0)

/-- An output block: four bands of rows, one after the other. -/
def tile (n : BitVec 32) (w : Vec F S4x1024 .f32) (s : Vec F S1024x1024 .f32) (h : Vec F S8x1024 .f32) (y : Vec F S1024x1024 .bf16) : Vec F S1024x1024 .bf16 :=
  (VecWindow.put (VecWindow.put (VecWindow.put (VecWindow.put y ![0, 0] S256x1024.size (band w (View.ld s (Rect.unit (s := S1024x1024) ![0, 0] S256x1024.size inb_S1024x1024_S256x1024_0_0)) (prevOf n s h 0))) ![256, 0] S256x1024.size (band w (View.ld s (Rect.unit (s := S1024x1024) ![256, 0] S256x1024.size inb_S1024x1024_S256x1024_256_0)) (prevOf n s h 1))) ![512, 0] S256x1024.size (band w (View.ld s (Rect.unit (s := S1024x1024) ![512, 0] S256x1024.size inb_S1024x1024_S256x1024_512_0)) (prevOf n s h 2))) ![768, 0] S256x1024.size (band w (View.ld s (Rect.unit (s := S1024x1024) ![768, 0] S256x1024.size inb_S1024x1024_S256x1024_768_0)) (prevOf n s h 3)))

/-! ## The body's runs -/

section body

variable (c : Dev nD) (i : grid0.Coords) {arg1 : Memref sig .tc .vmem S1024x4096 .bf16} (harg1 : arg1.IsWhole) {arg2 : Memref sig .tc .vmem S1024x4096 .bf16} (harg2 : arg2.IsWhole) {arg3 : Memref sig .tc .vmem S4x1024 .f32} (harg3 : arg3.IsWhole) {arg4 : Memref sig .tc .vmem S128x4096 .f32} (harg4 : arg4.IsWhole) {arg5 : Memref sig .tc .vmem S128x4096 .f32} (harg5 : arg5.IsWhole) {arg6 : Memref sig .tc .vmem S1024x1024 .bf16} (harg6 : arg6.IsWhole) {arg7 : Memref sig .tc .vmem S128x4096 .bf16} (harg7 : arg7.IsWhole) {arg8 : Memref sig .tc .vmem S128x4096 .bf16} (harg8 : arg8.IsWhole) {arg9 : Memref sig .tc .vmem S1024x1024 .f32} (harg9 : arg9.IsWhole) {arg10 : Memref sig .tc .vmem S8x1024 .f32} (harg10 : arg10.IsWhole)
    (x0 : Vec F S1024x4096 .bf16) (x1 : Vec F S1024x4096 .bf16) (x2 : Vec F S4x1024 .f32) (x3 : Vec F S128x4096 .f32) (x4 : Vec F S128x4096 .f32) (y : Vec F S1024x1024 .bf16) (s : Vec F S1024x1024 .f32) (h : Vec F S8x1024 .f32)

set_option maxHeartbeats 8000000 in
/-- The first point: the body starts the scratch arrays, writes a block that is never written back, and makes the first product and the first rows of the cast weights. -/
noncomputable def runA (hc : AtA i) :
    Σ' (L0 : List (View.Piece (Elt F) S128x4096 .bf16)), Σ' (L1 : List (View.Piece (Elt F) S128x4096 .bf16)), { LS : List (View.Piece (Elt F) S1024x1024 .f32) //
      ∀ (E : Set ℕ) (K : PUnit → sProp 𝕄),
        iprop(own c arg1 x0 ∗ own c arg2 x1 ∗ own c arg3 x2 ∗ own c arg4 x3 ∗ own c arg5 x4 ∗ (∃ d, own c arg6 d) ∗ (∃ d, own c arg7 d) ∗ (∃ d, own c arg8 d) ∗ (∃ d, own c arg9 d) ∗ (∃ d, own c arg10 d) ∗ (iprop(own c arg1 x0 ∗ own c arg2 x1 ∗ own c arg3 x2 ∗ own c arg4 x3 ∗ own c arg5 x4 ∗ (∃ d, own c arg6 d) ∗ wrote c arg7 L0 ∗ wrote c arg8 L1 ∗ wrote c arg9 LS ∗ (∃ d, own c arg10 d)) -∗ K ⟨⟩))
          ⊢ wp frame (wpE (defs₀ (F := F)) Variants.none c none) E (cc0_proj_q i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0_proj_q_eq_skeleton]; unfold cc0_proj_q_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold k0_part11_skel k0_part12_skel k0_part13_skel k0_part14_skel k0_part15_skel k0_part16_skel k0_part17_skel k0_part18_skel k0_part19_skel k0_part20_skel k0_part21_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold k0_part1_skel k0_part2_skel k0_part3_skel k0_part4_skel k0_part5_skel k0_part6_skel k0_part7_skel k0_part8_skel k0_part9_skel k0_part10_skel
    unfold own owns
    iintro ⟨⟨%f0, %hf0, H0⟩, ⟨%f1, %hf1, H1⟩, ⟨%f2, %hf2, H2⟩, ⟨%f3, %hf3, H3⟩, ⟨%f4, %hf4, H4⟩, ⟨%yo, %fo, -, HO⟩, ⟨%yd0, %fd0, -, HD0⟩, ⟨%yd1, %fd1, -, HD1⟩, ⟨%ys, %fs, -, HS⟩, ⟨%yh, %fh, -, HH⟩, Hk⟩
    obtain rfl := harg1.eq_unread hf0
    obtain rfl := harg2.eq_unread hf1
    obtain rfl := harg3.eq_unread hf2
    obtain rfl := harg4.eq_unread hf3
    obtain rfl := harg5.eq_unread hf4
    sl_exec (disch := first | sl_exact hc.1 | sl_exact hc.2.1 | sl_exact hc.2.2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HO]
    · iexists _; iexists _; isplitr
      swap; · iexact HO
      ipureintro; rfl
    isplitl [HD0]; · iexists _; iexact HD0
    isplitl [HD1]; · iexists _; iexact HD1
    isplitl [HS]; · iexists _; iexact HS
    iexists _; iexists _; isplitr
    swap; · iexact HH
    ipureintro; rfl

set_option maxHeartbeats 8000000 in
/-- A later point before the last: the body writes the tile of the point before, keeps its last rows, then makes its own product. -/
noncomputable def runB (hc : AtB i) :
    Σ' (L : List (View.Piece (Elt F) S1024x1024 .bf16)), Σ' (L0 : List (View.Piece (Elt F) S128x4096 .bf16)), Σ' (L1 : List (View.Piece (Elt F) S128x4096 .bf16)), Σ' (LS : List (View.Piece (Elt F) S1024x1024 .f32)), { LH : List (View.Piece (Elt F) S8x1024 .f32) //
      ∀ (E : Set ℕ) (K : PUnit → sProp 𝕄),
        iprop(own c arg1 x0 ∗ own c arg2 x1 ∗ own c arg3 x2 ∗ own c arg4 x3 ∗ own c arg5 x4 ∗ own c arg6 y ∗ (∃ d, own c arg7 d) ∗ (∃ d, own c arg8 d) ∗ own c arg9 s ∗ own c arg10 h ∗ (iprop(own c arg1 x0 ∗ own c arg2 x1 ∗ own c arg3 x2 ∗ own c arg4 x3 ∗ own c arg5 x4 ∗ over c harg6 y L ∗ wrote c arg7 L0 ∗ wrote c arg8 L1 ∗ wrote c arg9 LS ∗ wrote c arg10 LH) -∗ K ⟨⟩))
          ⊢ wp frame (wpE (defs₀ (F := F)) Variants.none c none) E (cc0_proj_q i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0_proj_q_eq_skeleton]; unfold cc0_proj_q_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold k0_part11_skel k0_part12_skel k0_part13_skel k0_part14_skel k0_part15_skel k0_part16_skel k0_part17_skel k0_part18_skel k0_part19_skel k0_part20_skel k0_part21_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold k0_part1_skel k0_part2_skel k0_part3_skel k0_part4_skel k0_part5_skel k0_part6_skel k0_part7_skel k0_part8_skel k0_part9_skel k0_part10_skel
    unfold own owns
    iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%yd0, %fd0, -, HD0⟩, ⟨%yd1, %fd1, -, HD1⟩, ⟨%fs, %hfs, HS⟩, ⟨%fh, %hfh, HH⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hfo
    obtain rfl := harg9.eq_unread hfs
    obtain rfl := harg10.eq_unread hfh
    sl_exec (disch := first | sl_exact hc.1 | sl_exact hc.2.1 | sl_exact hc.2.2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HO]; · iexact HO
    isplitl [HD0]; · iexists _; iexact HD0
    isplitl [HD1]; · iexists _; iexact HD1
    isplitl [HS]; · iexists _; iexact HS
    iexists _; iexact HH

set_option maxHeartbeats 8000000 in
/-- The last point: the body writes the last tile. -/
noncomputable def runC (hc : AtC i) :
    { L : List (View.Piece (Elt F) S1024x1024 .bf16) //
      ∀ (E : Set ℕ) (K : PUnit → sProp 𝕄),
        iprop(own c arg3 x2 ∗ own c arg6 y ∗ own c arg9 s ∗ own c arg10 h ∗ (iprop(own c arg3 x2 ∗ over c harg6 y L ∗ own c arg9 s ∗ (∃ d, own c arg10 d)) -∗ K ⟨⟩))
          ⊢ wp frame (wpE (defs₀ (F := F)) Variants.none c none) E (cc0_proj_q i arg1 harg1 arg2 harg2 arg3 harg3 arg4 harg4 arg5 harg5 arg6 harg6 arg7 harg7 arg8 harg8 arg9 harg9 arg10 harg10) K } := by
  refine ⟨?_, fun E K => ?run⟩
  case run =>
    simp only [cc0_proj_q_eq_skeleton]; unfold cc0_proj_q_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold k0_part11_skel k0_part12_skel k0_part13_skel k0_part14_skel k0_part15_skel k0_part16_skel k0_part17_skel k0_part18_skel k0_part19_skel k0_part20_skel k0_part21_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold k0_part1_skel k0_part2_skel k0_part3_skel k0_part4_skel k0_part5_skel k0_part6_skel k0_part7_skel k0_part8_skel k0_part9_skel k0_part10_skel
    unfold own owns
    iintro ⟨⟨%f2, %hf2, H2⟩, ⟨%fo, %hfo, HO⟩, ⟨%fs, %hfs, HS⟩, ⟨%fh, %hfh, HH⟩, Hk⟩
    obtain rfl := harg3.eq_unread hf2
    obtain rfl := harg6.eq_unread hfo
    obtain rfl := harg9.eq_unread hfs
    obtain rfl := harg10.eq_unread hfh
    sl_exec (disch := first | sl_exact hc.1 | sl_exact hc.2.1 | sl_exact hc.2.2)
    sl_step
    iapply Hk
    isplitl [H2]
    · iexists _; isplitr; · ipureintro; exact harg3.read_unread _
      iexact H2
    isplitl [HO]; · iexact HO
    isplitl [HS]
    · iexists _; isplitr; · ipureintro; exact harg9.read_unread _
      iexact HS
    iexists _; iexists _; isplitr
    swap; · iexact HH
    ipureintro; rfl

theorem pieces_acc_A (hc : AtA i) :
    (runA (F := F) c i harg1 harg2 harg3 harg4 harg5 harg6 harg7 harg8 harg9 harg10 x0 x1 x2 x3 x4 hc).2.2.1 = [⟨(Rect.unit (s := S1024x1024) ![0, 0] S1024x1024.size inb_S1024x1024_S1024x1024_0_0), prod (View.ld (arg1.view.read (Elt F) (harg1.unread x0)) (Rect.unit (s := S1024x4096) ![0, 0] S1024x4096.size inb_S1024x4096_S1024x4096_0_0)) (View.ld (arg2.view.read (Elt F) (harg2.unread x1)) (Rect.unit (s := S1024x4096) ![0, 0] S1024x4096.size inb_S1024x4096_S1024x4096_0_0))⟩, ⟨(Rect.unit (s := S1024x1024) ![0, 0] S1024x1024.size inb_S1024x1024_S1024x1024_0_0), shapeCast S1024x1024 (broadcast S1024x1024 (Scalar.ofBits .f32 0x00000000#32)) shapeCasts_S1024x1024_S1024x1024⟩] := by
  unfold runA
  sl_open_run
  sl_open_pay
  sl_kernel_rfl

/-- The accumulator afterwards: the product of the point's rows and weight rows. -/
theorem acc_A (hc : AtA i) (f : arg9.view.ty.Contents (Elt F)) :
    arg9.view.read (Elt F) (arg9.view.writes (Elt F) f (runA (F := F) c i harg1 harg2 harg3 harg4 harg5 harg6 harg7 harg8 harg9 harg10 x0 x1 x2 x3 x4 hc).2.2.1) = prod x0 x1 := by
  have hz : (![0, 0] : Fin 2 → ℕ) = fun _ => 0 := funext fun a => by fin_cases a <;> rfl
  rw [pieces_acc_A, View.read_writes_full]
  simp only [Memref.IsWhole.read_unread]
  rw [View.ld_unit_zero (S := S1024x4096) hz, View.ld_unit_zero (S := S1024x4096) hz]

theorem pieces_cast0_A (hc : AtA i) :
    (runA (F := F) c i harg1 harg2 harg3 harg4 harg5 harg6 harg7 harg8 harg9 harg10 x0 x1 x2 x3 x4 hc).1 = [⟨(Rect.unit (s := S128x4096) ![0, 0] S128x4096.size inb_S128x4096_S128x4096_0_0), truncf .bf16 (View.ld (arg4.view.read (Elt F) (harg4.unread x3)) (Rect.unit (s := S128x4096) ![0, 0] S128x4096.size inb_S128x4096_S128x4096_0_0)) bitsLt_bf16_f32⟩] := by
  unfold runA
  sl_open_run
  sl_open_pay
  sl_kernel_rfl

/-- The cast weight's block afterwards: the weight's rows, cast. -/
theorem cast0_A (hc : AtA i) (f : arg7.view.ty.Contents (Elt F)) :
    arg7.view.read (Elt F) (arg7.view.writes (Elt F) f (runA (F := F) c i harg1 harg2 harg3 harg4 harg5 harg6 harg7 harg8 harg9 harg10 x0 x1 x2 x3 x4 hc).1) = truncf .bf16 x3 bitsLt_bf16_f32 := by
  have hz : (![0, 0] : Fin 2 → ℕ) = fun _ => 0 := funext fun a => by fin_cases a <;> rfl
  rw [pieces_cast0_A, View.read_writes_full]
  simp only [Memref.IsWhole.read_unread]
  rw [View.ld_unit_zero (S := S128x4096) hz]

theorem pieces_cast1_A (hc : AtA i) :
    (runA (F := F) c i harg1 harg2 harg3 harg4 harg5 harg6 harg7 harg8 harg9 harg10 x0 x1 x2 x3 x4 hc).2.1 = [⟨(Rect.unit (s := S128x4096) ![0, 0] S128x4096.size inb_S128x4096_S128x4096_0_0), truncf .bf16 (View.ld (arg5.view.read (Elt F) (harg5.unread x4)) (Rect.unit (s := S128x4096) ![0, 0] S128x4096.size inb_S128x4096_S128x4096_0_0)) bitsLt_bf16_f32⟩] := by
  unfold runA
  sl_open_run
  sl_open_pay
  sl_kernel_rfl

/-- The cast weight's block afterwards: the weight's rows, cast. -/
theorem cast1_A (hc : AtA i) (f : arg8.view.ty.Contents (Elt F)) :
    arg8.view.read (Elt F) (arg8.view.writes (Elt F) f (runA (F := F) c i harg1 harg2 harg3 harg4 harg5 harg6 harg7 harg8 harg9 harg10 x0 x1 x2 x3 x4 hc).2.1) = truncf .bf16 x4 bitsLt_bf16_f32 := by
  have hz : (![0, 0] : Fin 2 → ℕ) = fun _ => 0 := funext fun a => by fin_cases a <;> rfl
  rw [pieces_cast1_A, View.read_writes_full]
  simp only [Memref.IsWhole.read_unread]
  rw [View.ld_unit_zero (S := S128x4096) hz]

theorem pieces_acc_B (hc : AtB i) :
    (runB (F := F) c i harg1 harg2 harg3 harg4 harg5 harg6 harg7 harg8 harg9 harg10 x0 x1 x2 x3 x4 y s h hc).2.2.2.1 = [⟨(Rect.unit (s := S1024x1024) ![0, 0] S1024x1024.size inb_S1024x1024_S1024x1024_0_0), prod (View.ld (arg1.view.read (Elt F) (harg1.unread x0)) (Rect.unit (s := S1024x4096) ![0, 0] S1024x4096.size inb_S1024x4096_S1024x4096_0_0)) (View.ld (arg2.view.read (Elt F) (harg2.unread x1)) (Rect.unit (s := S1024x4096) ![0, 0] S1024x4096.size inb_S1024x4096_S1024x4096_0_0))⟩] := by
  unfold runB
  sl_open_run
  sl_open_pay
  sl_kernel_rfl

/-- The accumulator afterwards: the product of the point's rows and weight rows. -/
theorem acc_B (hc : AtB i) (f : arg9.view.ty.Contents (Elt F)) :
    arg9.view.read (Elt F) (arg9.view.writes (Elt F) f (runB (F := F) c i harg1 harg2 harg3 harg4 harg5 harg6 harg7 harg8 harg9 harg10 x0 x1 x2 x3 x4 y s h hc).2.2.2.1) = prod x0 x1 := by
  have hz : (![0, 0] : Fin 2 → ℕ) = fun _ => 0 := funext fun a => by fin_cases a <;> rfl
  rw [pieces_acc_B, View.read_writes_full]
  simp only [Memref.IsWhole.read_unread]
  rw [View.ld_unit_zero (S := S1024x4096) hz, View.ld_unit_zero (S := S1024x4096) hz]

theorem pieces_cast0_B (hc : AtB i) :
    (runB (F := F) c i harg1 harg2 harg3 harg4 harg5 harg6 harg7 harg8 harg9 harg10 x0 x1 x2 x3 x4 y s h hc).2.1 = [⟨(Rect.unit (s := S128x4096) ![0, 0] S128x4096.size inb_S128x4096_S128x4096_0_0), truncf .bf16 (View.ld (arg4.view.read (Elt F) (harg4.unread x3)) (Rect.unit (s := S128x4096) ![0, 0] S128x4096.size inb_S128x4096_S128x4096_0_0)) bitsLt_bf16_f32⟩] := by
  unfold runB
  sl_open_run
  sl_open_pay
  sl_kernel_rfl

/-- The cast weight's block afterwards: the weight's rows, cast. -/
theorem cast0_B (hc : AtB i) (f : arg7.view.ty.Contents (Elt F)) :
    arg7.view.read (Elt F) (arg7.view.writes (Elt F) f (runB (F := F) c i harg1 harg2 harg3 harg4 harg5 harg6 harg7 harg8 harg9 harg10 x0 x1 x2 x3 x4 y s h hc).2.1) = truncf .bf16 x3 bitsLt_bf16_f32 := by
  have hz : (![0, 0] : Fin 2 → ℕ) = fun _ => 0 := funext fun a => by fin_cases a <;> rfl
  rw [pieces_cast0_B, View.read_writes_full]
  simp only [Memref.IsWhole.read_unread]
  rw [View.ld_unit_zero (S := S128x4096) hz]

theorem pieces_cast1_B (hc : AtB i) :
    (runB (F := F) c i harg1 harg2 harg3 harg4 harg5 harg6 harg7 harg8 harg9 harg10 x0 x1 x2 x3 x4 y s h hc).2.2.1 = [⟨(Rect.unit (s := S128x4096) ![0, 0] S128x4096.size inb_S128x4096_S128x4096_0_0), truncf .bf16 (View.ld (arg5.view.read (Elt F) (harg5.unread x4)) (Rect.unit (s := S128x4096) ![0, 0] S128x4096.size inb_S128x4096_S128x4096_0_0)) bitsLt_bf16_f32⟩] := by
  unfold runB
  sl_open_run
  sl_open_pay
  sl_kernel_rfl

/-- The cast weight's block afterwards: the weight's rows, cast. -/
theorem cast1_B (hc : AtB i) (f : arg8.view.ty.Contents (Elt F)) :
    arg8.view.read (Elt F) (arg8.view.writes (Elt F) f (runB (F := F) c i harg1 harg2 harg3 harg4 harg5 harg6 harg7 harg8 harg9 harg10 x0 x1 x2 x3 x4 y s h hc).2.2.1) = truncf .bf16 x4 bitsLt_bf16_f32 := by
  have hz : (![0, 0] : Fin 2 → ℕ) = fun _ => 0 := funext fun a => by fin_cases a <;> rfl
  rw [pieces_cast1_B, View.read_writes_full]
  simp only [Memref.IsWhole.read_unread]
  rw [View.ld_unit_zero (S := S128x4096) hz]

theorem pieces_out_B (hc : AtB i) :
    (runB (F := F) c i harg1 harg2 harg3 harg4 harg5 harg6 harg7 harg8 harg9 harg10 x0 x1 x2 x3 x4 y s h hc).1 = [⟨(Rect.unit (s := S1024x1024) ![768, 0] S256x1024.size inb_S1024x1024_S256x1024_768_0), band (View.ld (arg3.view.read (Elt F) (harg3.unread x2)) (Rect.unit (s := S4x1024) ![0, 0] S4x1024.size inb_S4x1024_S4x1024_0_0)) (View.ld (arg9.view.read (Elt F) (harg9.unread s)) (Rect.unit (s := S1024x1024) ![768, 0] S256x1024.size inb_S1024x1024_S256x1024_768_0)) (View.ld (arg9.view.read (Elt F) (harg9.unread s)) (Rect.unit (s := S1024x1024) ![760, 0] S8x1024.size inb_S1024x1024_S8x1024_760_0))⟩, ⟨(Rect.unit (s := S1024x1024) ![512, 0] S256x1024.size inb_S1024x1024_S256x1024_512_0), band (View.ld (arg3.view.read (Elt F) (harg3.unread x2)) (Rect.unit (s := S4x1024) ![0, 0] S4x1024.size inb_S4x1024_S4x1024_0_0)) (View.ld (arg9.view.read (Elt F) (harg9.unread s)) (Rect.unit (s := S1024x1024) ![512, 0] S256x1024.size inb_S1024x1024_S256x1024_512_0)) (View.ld (arg9.view.read (Elt F) (harg9.unread s)) (Rect.unit (s := S1024x1024) ![504, 0] S8x1024.size inb_S1024x1024_S8x1024_504_0))⟩, ⟨(Rect.unit (s := S1024x1024) ![256, 0] S256x1024.size inb_S1024x1024_S256x1024_256_0), band (View.ld (arg3.view.read (Elt F) (harg3.unread x2)) (Rect.unit (s := S4x1024) ![0, 0] S4x1024.size inb_S4x1024_S4x1024_0_0)) (View.ld (arg9.view.read (Elt F) (harg9.unread s)) (Rect.unit (s := S1024x1024) ![256, 0] S256x1024.size inb_S1024x1024_S256x1024_256_0)) (View.ld (arg9.view.read (Elt F) (harg9.unread s)) (Rect.unit (s := S1024x1024) ![248, 0] S8x1024.size inb_S1024x1024_S8x1024_248_0))⟩, ⟨(Rect.unit (s := S1024x1024) ![0, 0] S256x1024.size inb_S1024x1024_S256x1024_0_0), band (View.ld (arg3.view.read (Elt F) (harg3.unread x2)) (Rect.unit (s := S4x1024) ![0, 0] S4x1024.size inb_S4x1024_S4x1024_0_0)) (View.ld (arg9.view.read (Elt F) (harg9.unread s)) (Rect.unit (s := S1024x1024) ![0, 0] S256x1024.size inb_S1024x1024_S256x1024_0_0)) (start (BitVec.ofNat 32 (i 0).val) (View.ld (arg10.view.read (Elt F) (harg10.unread h)) (Rect.unit (s := S8x1024) ![0, 0] S8x1024.size inb_S8x1024_S8x1024_0_0)))⟩] := by
  unfold runB
  sl_open_run
  sl_open_pay
  sl_kernel_rfl

/-- The output block afterwards: the accumulator's tile. -/
theorem out_B (hc : AtB i) :
    arg6.view.read (Elt F) (arg6.view.writes (Elt F) (harg6.unread y) (runB (F := F) c i harg1 harg2 harg3 harg4 harg5 harg6 harg7 harg8 harg9 harg10 x0 x1 x2 x3 x4 y s h hc).1) = tile (BitVec.ofNat 32 (i 0).val) x2 s h y := by
  have hz : (![0, 0] : Fin 2 → ℕ) = fun _ => 0 := funext fun a => by fin_cases a <;> rfl
  rw [pieces_out_B]
  rw [View.read_writes_cons_put _ _ _ _ _ rfl, View.read_writes_cons_put _ _ _ _ _ rfl, View.read_writes_cons_put _ _ _ _ _ rfl, View.read_writes_cons_put _ _ _ _ _ rfl, View.writes_nil]
  simp only [Memref.IsWhole.read_unread]
  rw [View.ld_unit_zero (S := S4x1024) hz, View.ld_unit_zero (S := S8x1024) hz]
  rfl

theorem pieces_out_C (hc : AtC i) :
    (runC (F := F) c i harg1 harg2 harg3 harg4 harg5 harg6 harg7 harg8 harg9 harg10 x2 y s h hc).1 = [⟨(Rect.unit (s := S1024x1024) ![768, 0] S256x1024.size inb_S1024x1024_S256x1024_768_0), band (View.ld (arg3.view.read (Elt F) (harg3.unread x2)) (Rect.unit (s := S4x1024) ![0, 0] S4x1024.size inb_S4x1024_S4x1024_0_0)) (View.ld (arg9.view.read (Elt F) (harg9.unread s)) (Rect.unit (s := S1024x1024) ![768, 0] S256x1024.size inb_S1024x1024_S256x1024_768_0)) (View.ld (arg9.view.read (Elt F) (harg9.unread s)) (Rect.unit (s := S1024x1024) ![760, 0] S8x1024.size inb_S1024x1024_S8x1024_760_0))⟩, ⟨(Rect.unit (s := S1024x1024) ![512, 0] S256x1024.size inb_S1024x1024_S256x1024_512_0), band (View.ld (arg3.view.read (Elt F) (harg3.unread x2)) (Rect.unit (s := S4x1024) ![0, 0] S4x1024.size inb_S4x1024_S4x1024_0_0)) (View.ld (arg9.view.read (Elt F) (harg9.unread s)) (Rect.unit (s := S1024x1024) ![512, 0] S256x1024.size inb_S1024x1024_S256x1024_512_0)) (View.ld (arg9.view.read (Elt F) (harg9.unread s)) (Rect.unit (s := S1024x1024) ![504, 0] S8x1024.size inb_S1024x1024_S8x1024_504_0))⟩, ⟨(Rect.unit (s := S1024x1024) ![256, 0] S256x1024.size inb_S1024x1024_S256x1024_256_0), band (View.ld (arg3.view.read (Elt F) (harg3.unread x2)) (Rect.unit (s := S4x1024) ![0, 0] S4x1024.size inb_S4x1024_S4x1024_0_0)) (View.ld (arg9.view.read (Elt F) (harg9.unread s)) (Rect.unit (s := S1024x1024) ![256, 0] S256x1024.size inb_S1024x1024_S256x1024_256_0)) (View.ld (arg9.view.read (Elt F) (harg9.unread s)) (Rect.unit (s := S1024x1024) ![248, 0] S8x1024.size inb_S1024x1024_S8x1024_248_0))⟩, ⟨(Rect.unit (s := S1024x1024) ![0, 0] S256x1024.size inb_S1024x1024_S256x1024_0_0), band (View.ld (arg3.view.read (Elt F) (harg3.unread x2)) (Rect.unit (s := S4x1024) ![0, 0] S4x1024.size inb_S4x1024_S4x1024_0_0)) (View.ld (arg9.view.read (Elt F) (harg9.unread s)) (Rect.unit (s := S1024x1024) ![0, 0] S256x1024.size inb_S1024x1024_S256x1024_0_0)) (start (BitVec.ofNat 32 (i 0).val) (View.ld (arg10.view.read (Elt F) (harg10.unread h)) (Rect.unit (s := S8x1024) ![0, 0] S8x1024.size inb_S8x1024_S8x1024_0_0)))⟩] := by
  unfold runC
  sl_open_run
  sl_open_pay
  sl_kernel_rfl

/-- The output block afterwards: the accumulator's tile. -/
theorem out_C (hc : AtC i) :
    arg6.view.read (Elt F) (arg6.view.writes (Elt F) (harg6.unread y) (runC (F := F) c i harg1 harg2 harg3 harg4 harg5 harg6 harg7 harg8 harg9 harg10 x2 y s h hc).1) = tile (BitVec.ofNat 32 (i 0).val) x2 s h y := by
  have hz : (![0, 0] : Fin 2 → ℕ) = fun _ => 0 := funext fun a => by fin_cases a <;> rfl
  rw [pieces_out_C]
  rw [View.read_writes_cons_put _ _ _ _ _ rfl, View.read_writes_cons_put _ _ _ _ _ rfl, View.read_writes_cons_put _ _ _ _ _ rfl, View.read_writes_cons_put _ _ _ _ _ rfl, View.writes_nil]
  simp only [Memref.IsWhole.read_unread]
  rw [View.ld_unit_zero (S := S4x1024) hz, View.ld_unit_zero (S := S8x1024) hz]
  rfl

theorem pieces_kept (hc : AtB i) :
    (runB (F := F) c i harg1 harg2 harg3 harg4 harg5 harg6 harg7 harg8 harg9 harg10 x0 x1 x2 x3 x4 y s h hc).2.2.2.2.1 = [⟨(Rect.unit (s := S8x1024) ![0, 0] S8x1024.size inb_S8x1024_S8x1024_0_0), shapeCast S8x1024 (View.ld (arg9.view.read (Elt F) (harg9.unread s)) (Rect.unit (s := S1024x1024) ![1016, 0] S8x1024.size inb_S1024x1024_S8x1024_1016_0)) shapeCasts_S8x1024_S8x1024⟩] := by
  unfold runB
  sl_open_run
  sl_open_pay
  sl_kernel_rfl

/-- The rows kept afterwards: the last rows of the product found. -/
theorem kept_rows (hc : AtB i) (f : arg10.view.ty.Contents (Elt F)) :
    arg10.view.read (Elt F) (arg10.view.writes (Elt F) f (runB (F := F) c i harg1 harg2 harg3 harg4 harg5 harg6 harg7 harg8 harg9 harg10 x0 x1 x2 x3 x4 y s h hc).2.2.2.2.1) = tailOf s := by
  have hz : (![0, 0] : Fin 2 → ℕ) = fun _ => 0 := funext fun a => by fin_cases a <;> rfl
  rw [pieces_kept, View.read_writes_full]
  simp only [Memref.IsWhole.read_unread]
  rfl

end body

variable (m : (ℓ : Loc nD τ sig) → Buf (Elt F) ℓ) (ρ : Dev nD → PrngReg)

/-! ## The launch -/

abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x4096 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x4096 .bf16 := win0_7.stage (cfg0.slots t 7)
abbrev hs0_7 (t : Fin cfg0.N) : (ms0_7 t).IsWhole := hstage0_7 ((cfg0.slots t 7).cast nbuf0_7)
/-- The accumulator, whole. -/
abbrev scM0_0 : Memref sig .tc .vmem S1024x1024 .f32 := Memref.whole cc0_scratch0
abbrev wh0 : scM0_0.IsWhole := Memref.isWhole_whole _
/-- The rows kept, whole. -/
abbrev scM0_1 : Memref sig .tc .vmem S8x1024 .f32 := Memref.whole cc0_scratch1
abbrev wh1 : scM0_1.IsWhole := Memref.isWhole_whole _

/-- The invariant a launch starts from, at this kernel's two scratch arrays. -/
theorem start_eq (c : Dev nD) :
    (Pipeline.ΦA spec0 c : sProp 𝕄)
      = iprop(iprop((∃ d, own c scM0_0 d) ∗ (∃ d, own c scM0_1 d)) ∗ (∃ r, prngReg c r)) := by
  unfold Pipeline.ΦA; rw [scopedRest0_eq]; simp only [own, scM0_0, scM0_1, owns_whole]; try rfl

/-- The point below 32 that filled the accumulator after point `n`. -/
def filled (n : ℕ) : Fin cfg0.N := ⟨min n 31, lt_of_lt_of_eq (by omega : min n 31 < 33) N_0.symm⟩

/-- The accumulator after point `n`. -/
def prodAt (c : Dev nD) (n : ℕ) : Vec F S1024x1024 .f32 := prod (iblk m c 0 (filled n)) (iblk m c 1 (filled n))

theorem prodAt_inner (c : Dev nD) (t : Fin cfg0.N) (h : t.val < 32) : prodAt m c t.val = prod (iblk m c 0 t) (iblk m c 1 t) := by
  have e : filled t.val = t := Fin.ext (by show min t.val 31 = t.val; omega)
  unfold prodAt
  rw [e]

theorem prodAt_last (c : Dev nD) (t : Fin cfg0.N) (h : t.val = 32) : prodAt m c t.val = prodAt m c (t.val - 1) := by
  have e : filled t.val = filled (t.val - 1) := Fin.ext (by show min t.val 31 = min (t.val - 1) 31; omega)
  unfold prodAt
  rw [e]

/-- What point `t` leaves in the block of cast weight 0: the weight's rows, cast, and at the last point what it found. -/
def cast0At (c : Dev nD) (t : Fin cfg0.N) (y : Vec F S128x4096 .bf16) : Vec F S128x4096 .bf16 :=
  if t.val < 32 then truncf .bf16 (iblk m c 3 t) bitsLt_bf16_f32 else y

/-- What point `t` leaves in the block of cast weight 1: the weight's rows, cast, and at the last point what it found. -/
def cast1At (c : Dev nD) (t : Fin cfg0.N) (y : Vec F S128x4096 .bf16) : Vec F S128x4096 .bf16 :=
  if t.val < 32 then truncf .bf16 (iblk m c 4 t) bitsLt_bf16_f32 else y

/-- What the rows kept may be before point `n`: from the second point on the last rows of the product two points before. -/
def Keeps (c : Dev nD) (n : ℕ) (h : Vec F S8x1024 .f32) : Prop := n ≠ 0 → n < 32 → h = tailOf (prodAt m c (n - 1))

/-- What a point may leave in the output block, when it found `y` there. -/
def Tiles (c : Dev nD) (t : Fin cfg0.N) (y X : Vec F S1024x1024 .bf16) : Prop :=
  t.val ≠ 0 → ∃ h, Keeps m c (t.val - 1) h ∧ X = tile (BitVec.ofNat 32 (grid0.coords t 0).val) (iblk m c 2 t) (prodAt m c (t.val - 1)) h y

/-- The invariant before point `n`: the accumulator at what the point before left, and the rows kept. -/
def PhiS (c : Dev nD) : ℕ → sProp 𝕄
  | 0 => Pipeline.ΦA spec0 c
  | n + 1 => iprop(iprop(own c scM0_0 (prodAt m c n) ∗ (∃ h, ⌜Keeps m c n h⌝ ∗ own c scM0_1 h)) ∗ (∃ r, prngReg c r))

theorem PhiS_succ (c : Dev nD) (n : ℕ) :
    PhiS m c (n + 1) = iprop(iprop(own c scM0_0 (prodAt m c n) ∗ (∃ h, ⌜Keeps m c n h⌝ ∗ own c scM0_1 h)) ∗ (∃ r, prngReg c r)) := rfl
theorem PhiS_pos (c : Dev nD) (n : ℕ) (hz : n ≠ 0) :
    PhiS m c n = iprop(iprop(own c scM0_0 (prodAt m c (n - 1)) ∗ (∃ h, ⌜Keeps m c (n - 1) h⌝ ∗ own c scM0_1 h)) ∗ (∃ r, prngReg c r)) := by
  cases n with
  | zero => exact absurd rfl hz
  | succ n => rfl

/-- The launch's proof data: the inputs' buffers stay as they are; from the second point on the output's becomes the tile of
    the point before; the cast weights' become their rows, cast. -/
def data (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => Tiles m c t Y X
    | ⟨6, _⟩ => fun Y X => X = cast0At m c t Y
    | ⟨7, _⟩ => fun Y X => X = cast1At m c t Y
  Φ t := PhiS m c t.val
  q _ := fullShare
  owed _ := 0

theorem A_eq (c : Dev nD) (w : Fin cfg0.W) : (data m c).A w = V m c (Pipeline.arrRef spec0 w) := by
  dsimp only [data]
theorem after_0 (c : Dev nD) (t : Fin cfg0.N) (Y X) : (data m c).after 0 t Y X ↔ X = Y := by dsimp only [data]; exact Iff.rfl
theorem after_1 (c : Dev nD) (t : Fin cfg0.N) (Y X) : (data m c).after 1 t Y X ↔ X = Y := by dsimp only [data]; exact Iff.rfl
theorem after_2 (c : Dev nD) (t : Fin cfg0.N) (Y X) : (data m c).after 2 t Y X ↔ X = Y := by dsimp only [data]; exact Iff.rfl
theorem after_3 (c : Dev nD) (t : Fin cfg0.N) (Y X) : (data m c).after 3 t Y X ↔ X = Y := by dsimp only [data]; exact Iff.rfl
theorem after_4 (c : Dev nD) (t : Fin cfg0.N) (Y X) : (data m c).after 4 t Y X ↔ X = Y := by dsimp only [data]; exact Iff.rfl
theorem after_5 (c : Dev nD) (t : Fin cfg0.N) (Y X) : (data m c).after 5 t Y X ↔ Tiles m c t Y X := by dsimp only [data]; exact Iff.rfl
theorem after_6 (c : Dev nD) (t : Fin cfg0.N) (Y X) : (data m c).after 6 t Y X ↔ X = cast0At m c t Y := by dsimp only [data]; exact Iff.rfl
theorem after_7 (c : Dev nD) (t : Fin cfg0.N) (Y X) : (data m c).after 7 t Y X ↔ X = cast1At m c t Y := by dsimp only [data]; exact Iff.rfl

/-- Input 0's buffer holds its block at every point. -/
theorem finds_0 (c : Dev nD) (t : Fin cfg0.N) (Y) (h : (data m c).Finds 0 t Y) : Y = iblk m c 0 t := by
  obtain ⟨d, rfl⟩ := (data m c).finds_in_eq_fetched 0 rfl (fun _ _ _ => rfl) (fun t Y X h => (after_0 m c t Y X).mp h) t Y h
  unfold RDat.fetched RDat.blockOf iblk; rw [A_eq]; try rfl

/-- Input 1's buffer holds its block at every point. -/
theorem finds_1 (c : Dev nD) (t : Fin cfg0.N) (Y) (h : (data m c).Finds 1 t Y) : Y = iblk m c 1 t := by
  obtain ⟨d, rfl⟩ := (data m c).finds_in_eq_fetched 1 rfl (fun _ _ _ => rfl) (fun t Y X h => (after_1 m c t Y X).mp h) t Y h
  unfold RDat.fetched RDat.blockOf iblk; rw [A_eq]; try rfl

/-- Input 2's buffer holds its block at every point. -/
theorem finds_2 (c : Dev nD) (t : Fin cfg0.N) (Y) (h : (data m c).Finds 2 t Y) : Y = iblk m c 2 t := by
  obtain ⟨d, rfl⟩ := (data m c).finds_in_eq_fetched 2 rfl (fun _ _ _ => rfl) (fun t Y X h => (after_2 m c t Y X).mp h) t Y h
  unfold RDat.fetched RDat.blockOf iblk; rw [A_eq]; try rfl

/-- Input 3's buffer holds its block at every point. -/
theorem finds_3 (c : Dev nD) (t : Fin cfg0.N) (Y) (h : (data m c).Finds 3 t Y) : Y = iblk m c 3 t := by
  obtain ⟨d, rfl⟩ := (data m c).finds_in_eq_fetched 3 rfl (fun _ _ _ => rfl) (fun t Y X h => (after_3 m c t Y X).mp h) t Y h
  unfold RDat.fetched RDat.blockOf iblk; rw [A_eq]; try rfl

/-- Input 4's buffer holds its block at every point. -/
theorem finds_4 (c : Dev nD) (t : Fin cfg0.N) (Y) (h : (data m c).Finds 4 t Y) : Y = iblk m c 4 t := by
  obtain ⟨d, rfl⟩ := (data m c).finds_in_eq_fetched 4 rfl (fun _ _ _ => rfl) (fun t Y X h => (after_4 m c t Y X).mp h) t Y h
  unfold RDat.fetched RDat.blockOf iblk; rw [A_eq]; try rfl

/-! ## The body at a point -/

/-- What the body is called with at a point, the outputs' buffers at `y` and `z`. -/
def bodyPre (c : Dev nD) (t : Fin cfg0.N) (y : Vec F S1024x1024 .bf16) (z0 : Vec F S128x4096 .bf16) (z1 : Vec F S128x4096 .bf16) : sProp 𝕄 :=
  iprop((data m c).Φ t.castSucc ∗ (data m c).owesAt () t.castSucc
    ∗ own c (ms0_0 t) (iblk m c 0 t) ∗ own c (ms0_1 t) (iblk m c 1 t) ∗ own c (ms0_2 t) (iblk m c 2 t) ∗ own c (ms0_3 t) (iblk m c 3 t) ∗ own c (ms0_4 t) (iblk m c 4 t)
    ∗ own c (ms0_5 t) y
    ∗ own c (ms0_6 t) z0 ∗ own c (ms0_7 t) z1)

/-- What it returns. -/
def bodyPost (c : Dev nD) (t : Fin cfg0.N) (y : Vec F S1024x1024 .bf16) (z0 : Vec F S128x4096 .bf16) (z1 : Vec F S128x4096 .bf16) : sProp 𝕄 :=
  iprop((data m c).Φ t.succ ∗ (data m c).owesAt () t.succ
    ∗ own c (ms0_0 t) (iblk m c 0 t) ∗ own c (ms0_1 t) (iblk m c 1 t) ∗ own c (ms0_2 t) (iblk m c 2 t) ∗ own c (ms0_3 t) (iblk m c 3 t) ∗ own c (ms0_4 t) (iblk m c 4 t)
    ∗ (∃ X, ⌜Tiles m c t y X⌝ ∗ own c (ms0_5 t) X)
    ∗ own c (ms0_6 t) (cast0At m c t z0) ∗ own c (ms0_7 t) (cast1At m c t z1))

set_option maxHeartbeats 4800000 in
/-- The body at any point. -/
theorem sound_body (c : Dev nD) (t : Fin cfg0.N) (y : Vec F S1024x1024 .bf16) (z0 : Vec F S128x4096 .bf16) (z1 : Vec F S128x4096 .bf16) :
    bodyPre m c t y z0 z1 ⊢ wp frame (wpE (defs₀ (F := F)) Variants.none c none) Set.univ (bodyAt0 t) (fun _ => bodyPost m c t y z0 z1) := by
  have hN : t.val < 33 := lt_of_lt_of_eq t.isLt N_0
  unfold bodyPre bodyPost bodyAt0
  rw [show (data m c).owesAt () t.succ = (data m c).owesAt () t.castSucc from rfl]
  rw [show (data m c).Φ t.succ = PhiS m c (t.val + 1) from rfl, PhiS_succ, show (data m c).Φ t.castSucc = PhiS m c t.val from rfl]
  by_cases h1 : t.val < 32
  · have h2 : ¬t.val = 32 := by omega
    rw [show cast0At m c t z0 = truncf .bf16 (iblk m c 3 t) bitsLt_bf16_f32 from if_pos h1, show cast1At m c t z1 = truncf .bf16 (iblk m c 4 t) bitsLt_bf16_f32 from if_pos h1, prodAt_inner m c t h1]
    by_cases h0 : t.val = 0
    · rw [show PhiS m c t.val = Pipeline.ΦA spec0 c from by rw [h0]; rfl, start_eq]
      iintro ⟨⟨⟨HS, HH⟩, Hg⟩, Ho, H0, H1, H2, H3, H4, HO, HD0, HD1⟩
      iapply ((runA (F := F) c (grid0.coords t) (hs0_0 t) (hs0_1 t) (hs0_2 t) (hs0_3 t) (hs0_4 t) (hs0_5 t) (hs0_6 t) (hs0_7 t) wh0 wh1 (iblk m c 0 t) (iblk m c 1 t) (iblk m c 2 t) (iblk m c 3 t) (iblk m c 4 t) ⟨((first_iff t).mpr h0), ((inner_iff t).mpr h1), (fun h => h2 ((last_iff t).mp h))⟩).2.2.2 Set.univ _)
      isplitl [H0]; · iexact H0
      isplitl [H1]; · iexact H1
      isplitl [H2]; · iexact H2
      isplitl [H3]; · iexact H3
      isplitl [H4]; · iexact H4
      isplitl [HO]; · iexists _; iexact HO
      isplitl [HD0]; · iexists _; iexact HD0
      isplitl [HD1]; · iexists _; iexact HD1
      isplitl [HS]; · iexact HS
      isplitl [HH]; · iexact HH
      iintro ⟨H0, H1, H2, H3, H4, ⟨%yo, HO⟩, ⟨%e0, HD0⟩, ⟨%e1, HD1⟩, ⟨%es, HS⟩, ⟨%hh, HH⟩⟩
      isplitl [HS HH Hg]
      · isplitl [HS HH]
        · isplitl [HS]
          · unfold own owns; iexists _; isplitr
            swap; · iexact HS
            ipureintro; exact acc_A ..
          iexists _; isplitr
          swap
          · iexact HH
          ipureintro; exact fun hn => absurd h0 hn
        iexact Hg
      isplitl [Ho]; · iexact Ho
      isplitl [H0]; · iexact H0
      isplitl [H1]; · iexact H1
      isplitl [H2]; · iexact H2
      isplitl [H3]; · iexact H3
      isplitl [H4]; · iexact H4
      isplitl [HO]
      · iexists _; isplitr
        swap; · iexact HO
        ipureintro; exact fun hn => absurd h0 hn
      isplitl [HD0]
      · unfold own owns; iexists _; isplitr
        swap; · iexact HD0
        ipureintro; exact cast0_A ..
      unfold own owns; iexists _; isplitr
      swap; · iexact HD1
      ipureintro; exact cast1_A ..
    · rw [PhiS_pos m c _ h0]
      iintro ⟨⟨⟨HS, ⟨%h, %hh, HH⟩⟩, Hg⟩, Ho, H0, H1, H2, H3, H4, HO, HD0, HD1⟩
      iapply ((runB (F := F) c (grid0.coords t) (hs0_0 t) (hs0_1 t) (hs0_2 t) (hs0_3 t) (hs0_4 t) (hs0_5 t) (hs0_6 t) (hs0_7 t) wh0 wh1 (iblk m c 0 t) (iblk m c 1 t) (iblk m c 2 t) (iblk m c 3 t) (iblk m c 4 t) y (prodAt m c (t.val - 1)) h ⟨(fun h => h0 ((first_iff t).mp h)), ((inner_iff t).mpr h1), (fun h => h2 ((last_iff t).mp h))⟩).2.2.2.2.2 Set.univ _)
      isplitl [H0]; · iexact H0
      isplitl [H1]; · iexact H1
      isplitl [H2]; · iexact H2
      isplitl [H3]; · iexact H3
      isplitl [H4]; · iexact H4
      isplitl [HO]; · iexact HO
      isplitl [HD0]; · iexists _; iexact HD0
      isplitl [HD1]; · iexists _; iexact HD1
      isplitl [HS]; · iexact HS
      isplitl [HH]; · iexact HH
      iintro ⟨H0, H1, H2, H3, H4, HO, ⟨%e0, HD0⟩, ⟨%e1, HD1⟩, ⟨%es, HS⟩, ⟨%eh, HH⟩⟩
      isplitl [HS HH Hg]
      · isplitl [HS HH]
        · isplitl [HS]
          · unfold own owns; iexists _; isplitr
            swap; · iexact HS
            ipureintro; exact acc_B ..
          iexists _; isplitr
          swap
          · unfold own owns; iexists _; isplitr
            swap; · iexact HH
            ipureintro; exact kept_rows ..
          ipureintro; exact fun _ _ => rfl
        iexact Hg
      isplitl [Ho]; · iexact Ho
      isplitl [H0]; · iexact H0
      isplitl [H1]; · iexact H1
      isplitl [H2]; · iexact H2
      isplitl [H3]; · iexact H3
      isplitl [H4]; · iexact H4
      isplitl [HO]
      · iexists _; isplitr
        swap
        · unfold own owns; iexists _; isplitr
          swap; · iexact HO
          ipureintro; exact out_B ..
        ipureintro; exact fun _ => ⟨h, hh, rfl⟩
      isplitl [HD0]
      · unfold own owns; iexists _; isplitr
        swap; · iexact HD0
        ipureintro; exact cast0_B ..
      unfold own owns; iexists _; isplitr
      swap; · iexact HD1
      ipureintro; exact cast1_B ..
  · have h2 : t.val = 32 := by omega
    have h0 : ¬t.val = 0 := by omega
    rw [show cast0At m c t z0 = z0 from if_neg h1, show cast1At m c t z1 = z1 from if_neg h1, prodAt_last m c t h2, PhiS_pos m c _ h0]
    iintro ⟨⟨⟨HS, ⟨%h, %hh, HH⟩⟩, Hg⟩, Ho, H0, H1, H2, H3, H4, HO, HD0, HD1⟩
    iapply ((runC (F := F) c (grid0.coords t) (hs0_0 t) (hs0_1 t) (hs0_2 t) (hs0_3 t) (hs0_4 t) (hs0_5 t) (hs0_6 t) (hs0_7 t) wh0 wh1 (iblk m c 2 t) y (prodAt m c (t.val - 1)) h ⟨(fun h => h0 ((first_iff t).mp h)), (fun h => h1 ((inner_iff t).mp h)), ((last_iff t).mpr h2)⟩).2 Set.univ _)
    isplitl [H2]; · iexact H2
    isplitl [HO]; · iexact HO
    isplitl [HS]; · iexact HS
    isplitl [HH]; · iexact HH
    iintro ⟨H2, HO, HS, ⟨%h2, HH⟩⟩
    isplitl [HS HH Hg]
    · isplitl [HS HH]
      · isplitl [HS]; · iexact HS
        iexists _; isplitr
        swap
        · iexact HH
        ipureintro; exact fun _ hn => absurd hn (by omega)
      iexact Hg
    isplitl [Ho]; · iexact Ho
    isplitl [H0]; · iexact H0
    isplitl [H1]; · iexact H1
    isplitl [H2]; · iexact H2
    isplitl [H3]; · iexact H3
    isplitl [H4]; · iexact H4
    isplitl [HO]
    · iexists _; isplitr
      swap
      · unfold own owns; iexists _; isplitr
        swap; · iexact HO
        ipureintro; exact out_C ..
      ipureintro; exact fun _ => ⟨h, hh, rfl⟩
    isplitl [HD0]; · iexact HD0
    iexact HD1

/-- The body table's row at a point is the body as called there. -/
theorem defs₀_row (t : Fin cfg0.N) :
    defs₀ (F := F) .tc cfg0.body (cfg0.bodyArgs t (cfg0.slots t)) = bodyAt0 t := by
  unfold defs₀; rw [Defs.onTc_tc]

/-- What a point returns is what the proof data asks for. -/
theorem post_restated (c : Dev nD) (t : Fin cfg0.N) (y : Vec F S1024x1024 .bf16) (z0 : Vec F S128x4096 .bf16) (z1 : Vec F S128x4096 .bf16) :
    bodyPost m c t y z0 z1 ⊢ iprop((data m c).Φ t.succ ∗ (data m c).owesAt () t.succ
      ∗ (∃ X, ⌜(data m c).after 0 t (iblk m c 0 t) X⌝ ∗ own c (ms0_0 t) X)
      ∗ (∃ X, ⌜(data m c).after 1 t (iblk m c 1 t) X⌝ ∗ own c (ms0_1 t) X)
      ∗ (∃ X, ⌜(data m c).after 2 t (iblk m c 2 t) X⌝ ∗ own c (ms0_2 t) X)
      ∗ (∃ X, ⌜(data m c).after 3 t (iblk m c 3 t) X⌝ ∗ own c (ms0_3 t) X)
      ∗ (∃ X, ⌜(data m c).after 4 t (iblk m c 4 t) X⌝ ∗ own c (ms0_4 t) X)
      ∗ (∃ X, ⌜(data m c).after 5 t y X⌝ ∗ own c (ms0_5 t) X)
      ∗ (∃ X, ⌜(data m c).after 6 t z0 X⌝ ∗ own c (ms0_6 t) X)
      ∗ (∃ X, ⌜(data m c).after 7 t z1 X⌝ ∗ own c (ms0_7 t) X)) := by
  unfold bodyPost
  iintro ⟨Hp, Ho, H0, H1, H2, H3, H4, ⟨%X, %hX, HO⟩, HD0, HD1⟩
  isplitl [Hp]; · iexact Hp
  isplitl [Ho]; · iexact Ho
  isplitl [H0]
  · iexists _; isplitr
    swap; · iexact H0
    ipureintro; exact (after_0 m c t _ _).mpr rfl
  isplitl [H1]
  · iexists _; isplitr
    swap; · iexact H1
    ipureintro; exact (after_1 m c t _ _).mpr rfl
  isplitl [H2]
  · iexists _; isplitr
    swap; · iexact H2
    ipureintro; exact (after_2 m c t _ _).mpr rfl
  isplitl [H3]
  · iexists _; isplitr
    swap; · iexact H3
    ipureintro; exact (after_3 m c t _ _).mpr rfl
  isplitl [H4]
  · iexists _; isplitr
    swap; · iexact H4
    ipureintro; exact (after_4 m c t _ _).mpr rfl
  isplitl [HO]
  · iexists _; isplitr
    swap; · iexact HO
    ipureintro; exact (after_5 m c t _ _).mpr hX
  isplitl [HD0]
  · iexists _; isplitr
    swap; · iexact HD0
    ipureintro; exact (after_6 m c t _ _).mpr rfl
  iexists _; isplitr
  swap; · iexact HD1
  ipureintro; exact (after_7 m c t _ _).mpr rfl

/-- The body at every point, in the form the launch takes it. -/
theorem body_obligation (c : Dev nD) : (data (F := F) m c).BodyObligation (defs₀ (F := F)) Variants.none () Set.univ := fun t Y hY => by
  rw [bigSep_W0, bigSep_W0, defs₀_row]
  rw [finds_0 m c t (Y 0) (hY 0), finds_1 m c t (Y 1) (hY 1), finds_2 m c t (Y 2) (hY 2), finds_3 m c t (Y 3) (hY 3), finds_4 m c t (Y 4) (hY 4)]
  exact triple_restated (sound_body m c t (Y 5) (Y 6) (Y 7)) rfl .rfl fun _ => post_restated m c t (Y 5) (Y 6) (Y 7)

theorem hin (c : Dev nD) : Pipeline.ΦA spec0 c ⊢ (data m c).Φ 0 := by
  rw [show (data m c).Φ 0 = Pipeline.ΦA spec0 c from rfl]
  try exact Idealize.SL.BI.Entails.refl _
theorem hout (c : Dev nD) : (data m c).Φ (Fin.last cfg0.N) ⊢ Pipeline.ΦA spec0 c := by
  rw [start_eq, show (data m c).Φ (Fin.last cfg0.N) = PhiS m c cfg0.N from rfl, PhiS_pos m c _ (by rw [show cfg0.N = 33 from N_0]; omega)]
  iintro ⟨⟨HS0, ⟨%h, %hh, HH⟩⟩, Hg⟩
  isplitl [HS0 HH]
  · isplitl [HS0]; · iexists _; iexact HS0
    iexists _; iexact HH
  iexact Hg

set_option backward.isDefEq.respectTransparency.types false in
/-- Every execution ends with the arrays at what the proof data allows and every semaphore at zero. -/
theorem run_quiescent : θ_run defs (onTc (τ := τ) (main (F := F))) (s₀ m ρ)
    (fun r => RDat.FramePost cfg0 (data m) (V m) r ∧ r.2.sem = fun _ => 0) :=
  RDat.θ_run_frame_track (Q' := _) cfgs (0 : Fin 1) launch0 defs₀ Variants.none (data m) m ρ main
    (hbody := fun c => body_obligation m c) (hshare := fun c => (data m c).share_full fun _ => rfl)
    (howed := fun _ _ => rfl) (V := V m) (hmain := hmain m Variants.none) (hA := A_eq m) (hin := hin m) (hout := hout m)

/-- The argument arrays end unchanged. -/
theorem kept (r) (h : RDat.FramePost cfg0 (data m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(RDat.FramePost.arr_in h c 0 rfl).trans ((A_eq m c 0).trans (V_main_arg0 m c)), (RDat.FramePost.arr_in h c 1 rfl).trans ((A_eq m c 1).trans (V_main_arg1 m c)), (RDat.FramePost.arr_in h c 2 rfl).trans ((A_eq m c 2).trans (V_main_arg2 m c)), (RDat.FramePost.arr_in h c 3 rfl).trans ((A_eq m c 3).trans (V_main_arg3 m c)), (RDat.FramePost.arr_in h c 4 rfl).trans ((A_eq m c 4).trans (V_main_arg4 m c))⟩

/-- The frame: the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => kept m r h.1 c, h.2⟩) (run_quiescent m ρ)

end Cert.QLaunch

end
-- ==== Proof.QValue.lean ====
/- The `proj_q` call beside its reference: the heads of the activated convolution of the product, each over its length and scaled, and the weights it casts on the way. -/
module

public import proofs.«01_k».proof.Defs
public import proofs.«01_k».proof.Proof.QLaunch
public import proofs.«01_k».proof.Proof.Gen.Q
public import proofs.«01_k».proof.Proof.Gen.QReferenceIdeal.Run
public import Idealize.ShloMosaic.Lib.Pointwise
public import Idealize.ShloMosaic.Lib.KernelVsHost
public import proofs.«01_k».proof.Proof.VValue

@[expose] public section

set_option maxRecDepth 65536
set_option synthInstance.maxSize 4096
set_option backward.isDefEq.respectTransparency false

noncomputable section

namespace Cert.QIdeal.Words

open Idealize.ShloMosaic Idealize.ShloMosaic.TcCoe Idealize.ShloMosaic.Tactic Idealize.SL.Sem Idealize.ShloMosaic.Pipeline Cert.QIdeal Cert.QIdeal.Gen Cert.QLaunch
open Cert.VIdeal.Words (put_in put_out ld_at earlier earlier_shift mix act)

/-! ## The tile -/

/-- Element `k` of a row. -/
def entry {n : ℕ} (z : Fin n → EReal) (k : ℕ) : EReal := if h : k < n then z ⟨k, h⟩ else 0

/-- A row with each head of 128 over its length, scaled. -/
def rowOut {n : ℕ} (z : Fin n → EReal) (j : Fin n) : EReal :=
  z j * (Ideal.rsqrt ((∑ l : Fin 128, entry z (128 * (j.val / 128) + l.val) * entry z (128 * (j.val / 128) + l.val)) + Ideal.ofBits .f32 0x358637BD#32) * Ideal.ofBits .f32 0x3DB504F3#32)

theorem head_at (a : FVec Ideal S256x128 .f32) (i : Fin 256) (l : Fin 128) :
    (head a (ix2 i l) : EReal) = a (ix2 i l) * (Ideal.rsqrt ((∑ l : Fin 128, a (ix2 i l) * a (ix2 i l)) + Ideal.ofBits .f32 0x358637BD#32) * Ideal.ofBits .f32 0x3DB504F3#32) := by
  unfold head
  pointwise []

theorem slices8 : ∀ n : Fin 8, S256x1024.Slices ![0, 128 * n.val] S256x128 := by decide

/-- One head of a band. -/
def part (z : FVec Ideal S256x1024 .f32) (n : Fin 8) : FVec Ideal S256x128 .f32 := extractStridedSlice S256x128 ![0, 128 * n.val] z (slices8 n)

theorem part_at (z : FVec Ideal S256x1024 .f32) (n : Fin 8) (i : Fin 256) (l : Fin 128) :
    (part z n (ix2 i l) : EReal) = entry (fun j => z (ix2 i j)) (128 * n.val + l.val) := by
  have hn := n.isLt
  have hl := l.isLt
  unfold part entry
  rw [dif_pos (by omega)]
  show z _ = z _
  congr 1
  funext x
  apply Fin.ext
  match x with
  | ⟨0, _⟩ => exact Nat.zero_add _
  | ⟨1, _⟩ => rfl

theorem heads_eq (z : FVec Ideal S256x1024 .f32) :
    heads z = concatenate S256x1024 1 (List.ofFn fun n : Fin 8 => ⟨S256x128, head (part z n)⟩) concatenates_S256x128_S256x128_S256x128_S256x128_S256x128_S256x128_S256x128_S256x128_S256x1024_d1 := rfl

/-- The heads of a band, at an index. -/
theorem heads_at (z : FVec Ideal S256x1024 .f32) (i : Fin 256) (j : Fin 1024) :
    (heads z (ix2 i j) : EReal) = rowOut (fun j => z (ix2 i j)) j := by
  have hj := j.isLt
  rw [heads_eq]
  refine (concatenate_ofFn_apply (t := S256x1024) (s₁ := S256x128) 1 (fun n : Fin 8 => head (part z n)) _ rfl 128 rfl (ix2 i j) ⟨j.val / 128, by omega⟩ rfl
    (ix2 i (⟨j.val % 128, by omega⟩ : Fin 128)) rfl (fun b hb => ?_)).trans ((head_at _ i _).trans ?_)
  · match b with
    | ⟨0, _⟩ => rfl
    | ⟨1, _⟩ => exact absurd rfl hb
  unfold rowOut
  simp only [part_at]
  have e : entry (fun j => z (ix2 i j)) (128 * (j.val / 128) + j.val % 128) = z (ix2 i j) := by
    have h : 128 * (j.val / 128) + j.val % 128 = j.val := by omega
    rw [h]
    exact dif_pos j.isLt
  rw [e]

/-- A band of the output. -/
theorem band_at (w : Vec Ideal S4x1024 .f32) (blk : Vec Ideal S256x1024 .f32) (prev : Vec Ideal S8x1024 .f32) (i : Fin 256) (j : Fin 1024) :
    (band w blk prev (ix2 i j) : EReal) = rowOut (fun j => silu w blk prev (ix2 i j)) j := by
  refine Eq.trans ?_ (heads_at (silu w blk prev) i j)
  unfold band
  pointwise []

/-- A row of a tile is the same part of the whole row. -/
theorem block_row (z : Fin 4096 → EReal) (q : ℕ) (hq : q < 4) (y : Fin 1024 → EReal) (h : ∀ j : Fin 1024, y j = z ⟨1024 * q + j.val, by omega⟩) (j : Fin 1024) (b : Fin 4096)
    (hb : b.val = 1024 * q + j.val) : rowOut y j = rowOut z b := by
  have hj := j.isLt
  have e : ∀ l : Fin 128, entry y (128 * (j.val / 128) + l.val) = entry z (128 * (b.val / 128) + l.val) := fun l => by
    have hl := l.isLt
    unfold entry
    rw [dif_pos (by omega), dif_pos (by omega), h]
    exact congrArg z (Fin.ext (by simp only []; omega))
  unfold rowOut
  simp only [e]
  rw [h, show b = ⟨1024 * q + j.val, by omega⟩ from Fin.ext hb]

/-- The output tile a point leaves, when its product and the rows above hold rows of the columns `p`. -/
theorem tile_at (n : BitVec 32) (w : Vec Ideal S4x1024 .f32) (s : Vec Ideal S1024x1024 .f32) (h : Vec Ideal S8x1024 .f32) (y : Vec Ideal S1024x1024 .bf16)
    (p : Fin 1024 → Fin 8192 → EReal) (top : ℕ) (ht : top + 1024 ≤ 8192) (hs : ∀ i j : Fin 1024, s (ix2 i j) = earlier (p j) (top + i.val) 0)
    (hh : ∀ (k : Fin 8) (j : Fin 1024), start n h (ix2 k j) = earlier (p j) (top + k.val) 8) (i j : Fin 1024) :
    (tile n w s h y (ix2 i j) : EReal) = rowOut (fun j => act (mix (fun k => w (ix2 k j)) (p j) (top + i.val))) j := by
  have hi := i.isLt
  unfold tile
  by_cases h3 : 768 ≤ i.val
  · obtain ⟨r, hr⟩ : ∃ r : Fin 256, i.val = 768 + r.val := ⟨⟨i.val - 768, by omega⟩, by simp only []; omega⟩
    refine (put_in _ 768 _ i j r hr).trans ((band_at _ _ _ r j).trans (congrArg (rowOut · j) (funext fun j' => ?_)))
    refine (Cert.VIdeal.Words.silu_at w _ _ (p j') (top + 768) (by omega) j' (fun q => (ld_at (n := 0) s 768 _ _ (ix2 q j') ⟨768 + q.val, by omega⟩ j' rfl rfl).trans ((hs _ j').trans (congrArg (earlier (p j') · 0) (by simp only []; omega)))) (fun q => (ld_at (n := 0) s 760 _ _ (ix2 q j') ⟨760 + q.val, by omega⟩ j' rfl rfl).trans ((hs _ j').trans (earlier_shift (p j') _ _ _ _ (by simp only []; omega)))) r).trans ?_
    rw [hr, Nat.add_assoc]
  refine (put_out _ 768 _ i j (Or.inl (by omega))).trans ?_
  by_cases h2 : 512 ≤ i.val
  · obtain ⟨r, hr⟩ : ∃ r : Fin 256, i.val = 512 + r.val := ⟨⟨i.val - 512, by omega⟩, by simp only []; omega⟩
    refine (put_in _ 512 _ i j r hr).trans ((band_at _ _ _ r j).trans (congrArg (rowOut · j) (funext fun j' => ?_)))
    refine (Cert.VIdeal.Words.silu_at w _ _ (p j') (top + 512) (by omega) j' (fun q => (ld_at (n := 0) s 512 _ _ (ix2 q j') ⟨512 + q.val, by omega⟩ j' rfl rfl).trans ((hs _ j').trans (congrArg (earlier (p j') · 0) (by simp only []; omega)))) (fun q => (ld_at (n := 0) s 504 _ _ (ix2 q j') ⟨504 + q.val, by omega⟩ j' rfl rfl).trans ((hs _ j').trans (earlier_shift (p j') _ _ _ _ (by simp only []; omega)))) r).trans ?_
    rw [hr, Nat.add_assoc]
  refine (put_out _ 512 _ i j (Or.inl (by omega))).trans ?_
  by_cases h1 : 256 ≤ i.val
  · obtain ⟨r, hr⟩ : ∃ r : Fin 256, i.val = 256 + r.val := ⟨⟨i.val - 256, by omega⟩, by simp only []; omega⟩
    refine (put_in _ 256 _ i j r hr).trans ((band_at _ _ _ r j).trans (congrArg (rowOut · j) (funext fun j' => ?_)))
    refine (Cert.VIdeal.Words.silu_at w _ _ (p j') (top + 256) (by omega) j' (fun q => (ld_at (n := 0) s 256 _ _ (ix2 q j') ⟨256 + q.val, by omega⟩ j' rfl rfl).trans ((hs _ j').trans (congrArg (earlier (p j') · 0) (by simp only []; omega)))) (fun q => (ld_at (n := 0) s 248 _ _ (ix2 q j') ⟨248 + q.val, by omega⟩ j' rfl rfl).trans ((hs _ j').trans (earlier_shift (p j') _ _ _ _ (by simp only []; omega)))) r).trans ?_
    rw [hr, Nat.add_assoc]
  refine (put_out _ 256 _ i j (Or.inl (by omega))).trans ?_
  obtain ⟨r, hr⟩ : ∃ r : Fin 256, i.val = 0 + r.val := ⟨⟨i.val, by omega⟩, by simp only []; omega⟩
  refine (put_in _ 0 _ i j r hr).trans ((band_at _ _ _ r j).trans (congrArg (rowOut · j) (funext fun j' => ?_)))
  refine (Cert.VIdeal.Words.silu_at w _ _ (p j') (top + 0) (by omega) j' (fun q => (ld_at (n := 0) s 0 _ _ (ix2 q j') ⟨0 + q.val, by omega⟩ j' rfl rfl).trans ((hs _ j').trans (congrArg (earlier (p j') · 0) (by simp only []; omega)))) (fun q => hh q j') r).trans ?_
  rw [hr, Nat.add_assoc]

/-- The product of a tile, at an index. -/
theorem prod_at (x w : FVec Ideal S1024x4096 .bf16) (i j : Fin 1024) :
    (prod (F := Ideal) x w (ix2 i j) : EReal) = ∑ a : Fin 4096, x (ix2 i a) * w (ix2 j a) := by
  unfold prod
  pointwise []

/-! ## The windows -/

theorem at0 : ∀ t : Fin grid0.N, t.val < 32 → win0_0.index t 0 = t.val % 8 ∧ win0_0.index t 1 = 0 := by decide +kernel
theorem at1 : ∀ t : Fin grid0.N, t.val < 32 → win0_1.index t 0 = t.val / 8 ∧ win0_1.index t 1 = 0 := by decide +kernel
theorem at2 : ∀ t : Fin grid0.N, win0_2.index t 0 = 0 ∧ win0_2.index t 1 = 0 + (t.val - 1) / 8 := by decide +kernel
theorem at5 : ∀ t : Fin grid0.N, win0_5.index t 0 = (t.val - 1) % 8 ∧ win0_5.index t 1 = (t.val - 1) / 8 := by decide +kernel
theorem flush5 : ∀ t : Fin grid0.N, (cfg0.win 5).flush t = true ↔ 0 < t.val := by decide +kernel
theorem top_iff : ∀ t : Fin grid0.N, Scalar.cmpi .eq (Scalar.remsi (Scalar.maxsi (Scalar.subi (BitVec.ofNat 32 (grid0.coords t 0).val) 1#32) 0#32) 8#32) 0#32 = 1#1 ↔ (t.val - 1) % 8 = 0 := by decide +kernel
theorem at3 : ∀ t : Fin grid0.N, t.val < 32 → win0_3.index t 0 = 12288 + 128 * t.val ∧ win0_3.index t 1 = 0 := by decide +kernel
theorem at6 : ∀ t : Fin grid0.N, win0_6.index t 0 = min t.val 31 ∧ win0_6.index t 1 = 0 := by decide +kernel
theorem flush6 : ∀ t : Fin grid0.N, (cfg0.win 6).flush t = true ↔ t.val ≠ 31 := by decide +kernel
theorem at4 : ∀ t : Fin grid0.N, t.val < 32 → win0_4.index t 0 = 0 + 128 * t.val ∧ win0_4.index t 1 = 0 := by decide +kernel
theorem at7 : ∀ t : Fin grid0.N, win0_7.index t 0 = min t.val 31 ∧ win0_7.index t 1 = 0 := by decide +kernel
theorem flush7 : ∀ t : Fin grid0.N, (cfg0.win 7).flush t = true ↔ t.val ≠ 31 := by decide +kernel

section Points
variable {F : FTy → Type} [FloatOps F]
variable (m : (ℓ : Loc nD τ sig) → Buf (Elt F) ℓ)

theorem iblk0_at (c : Dev nD) (t : Fin cfg0.N) (h : t.val < 32) (i : Fin 1024) (j : Fin 4096) (a : Fin 8192) (ha : a.val = 1024 * (t.val % 8) + i.val) :
    (iblk m c 0 t : Vec F S1024x4096 .bf16) (ix2 i j) = m ((c : Thread nD τ).loc main_arg0) (ix2 a j) := by
  unfold iblk
  rw [View.read_apply]
  show V m c main_arg0 _ = _
  rw [V_main_arg0]
  congr 1
  funext x
  apply Fin.ext
  match x with
  | ⟨0, _⟩ => show win0_0.index t 0 * 1024 + 1 * i.val = a.val; rw [(at0 t h).1]; omega
  | ⟨1, _⟩ => show win0_0.index t 1 * 4096 + 1 * j.val = j.val; rw [(at0 t h).2]; omega

theorem iblk1_at (c : Dev nD) (t : Fin cfg0.N) (h : t.val < 32) (i : Fin 1024) (j : Fin 4096) (a : Fin 4096) (ha : a.val = 1024 * (t.val / 8) + i.val) :
    (iblk m c 1 t : Vec F S1024x4096 .bf16) (ix2 i j) = m ((c : Thread nD τ).loc main_arg1) (ix2 a j) := by
  unfold iblk
  rw [View.read_apply]
  show V m c main_arg1 _ = _
  rw [V_main_arg1]
  congr 1
  funext x
  apply Fin.ext
  match x with
  | ⟨0, _⟩ => show win0_1.index t 0 * 1024 + 1 * i.val = a.val; rw [(at1 t h).1]; omega
  | ⟨1, _⟩ => show win0_1.index t 1 * 4096 + 1 * j.val = j.val; rw [(at1 t h).2]; omega

theorem iblk3_at (c : Dev nD) (t : Fin cfg0.N) (h : t.val < 32) (i : Fin 128) (j : Fin 4096) (a : Fin 32832) (ha : a.val = 12288 + 128 * t.val + i.val) :
    (iblk m c 3 t : Vec F S128x4096 .f32) (ix2 i j) = m ((c : Thread nD τ).loc main_arg3) (ix2 a j) := by
  unfold iblk
  rw [View.read_apply]
  show V m c main_arg3 _ = _
  rw [V_main_arg3]
  congr 1
  funext x
  apply Fin.ext
  match x with
  | ⟨0, _⟩ => show win0_3.index t 0 + 1 * i.val = a.val; rw [(at3 t h).1]; omega
  | ⟨1, _⟩ => show win0_3.index t 1 + 1 * j.val = j.val; rw [(at3 t h).2]; omega

theorem iblk4_at (c : Dev nD) (t : Fin cfg0.N) (h : t.val < 32) (i : Fin 128) (j : Fin 4096) (a : Fin 4096) (ha : a.val = 0 + 128 * t.val + i.val) :
    (iblk m c 4 t : Vec F S128x4096 .f32) (ix2 i j) = m ((c : Thread nD τ).loc main_arg4) (ix2 a j) := by
  unfold iblk
  rw [View.read_apply]
  show V m c main_arg4 _ = _
  rw [V_main_arg4]
  congr 1
  funext x
  apply Fin.ext
  match x with
  | ⟨0, _⟩ => show win0_4.index t 0 + 1 * i.val = a.val; rw [(at4 t h).1]; omega
  | ⟨1, _⟩ => show win0_4.index t 1 + 1 * j.val = j.val; rw [(at4 t h).2]; omega

theorem iblk2_at (c : Dev nD) (t : Fin cfg0.N) (k : Fin 4) (j : Fin 1024) (b : Fin 12288) (hb : b.val = 0 + 1024 * ((t.val - 1) / 8) + j.val) :
    (iblk m c 2 t : Vec F S4x1024 .f32) (ix2 k j) = m ((c : Thread nD τ).loc main_arg2) (ix2 k b) := by
  unfold iblk
  rw [View.read_apply]
  show V m c main_arg2 _ = _
  rw [V_main_arg2]
  congr 1
  funext x
  apply Fin.ext
  match x with
  | ⟨0, _⟩ => show win0_2.index t 0 * 4 + 1 * k.val = k.val; rw [(at2 t).1]; omega
  | ⟨1, _⟩ => show win0_2.index t 1 * 1024 + 1 * j.val = b.val; rw [(at2 t).2]; omega

theorem emb5_at (t : Fin cfg0.N) (i j : Fin 1024) (a : Fin 8192) (b : Fin 4096)
    (ha : a.val = 1024 * ((t.val - 1) % 8) + i.val) (hb : b.val = 1024 * ((t.val - 1) / 8) + j.val) :
    ((cfg0.win 5).blk t).view.emb (ix2 i j) = ix2 a b := by
  funext x
  apply Fin.ext
  match x with
  | ⟨0, _⟩ => show win0_5.index t 0 * 1024 + 1 * i.val = a.val; rw [(at5 t).1]; omega
  | ⟨1, _⟩ => show win0_5.index t 1 * 1024 + 1 * j.val = b.val; rw [(at5 t).2]; omega

/-- Two points that write the output back write separate blocks. -/
theorem disjoint5 : ∀ t t' : Fin cfg0.N, (cfg0.win 5).flush t = true → (cfg0.win 5).flush t' = true → t ≠ t' →
    Disjoint ((cfg0.win 5).blk t).view.set ((cfg0.win 5).blk t').view.set := by
  intro t t' hf hf' hne
  refine (cfg0.win 5).disjoint_blk fun h => hne (Fin.ext ?_)
  have p := (flush5 t).mp hf
  have p' := (flush5 t').mp hf'
  have e0 : win0_5.index t 0 = win0_5.index t' 0 := congrFun h 0
  have e1 : win0_5.index t 1 = win0_5.index t' 1 := congrFun h 1
  rw [(at5 t).1, (at5 t').1] at e0
  rw [(at5 t).2, (at5 t').2] at e1
  omega

theorem emb6_at (t : Fin cfg0.N) (i : Fin 128) (j : Fin 4096) (a : Fin 4096) (ha : a.val = 128 * min t.val 31 + i.val) :
    ((cfg0.win 6).blk t).view.emb (ix2 i j) = ix2 a j := by
  funext x
  apply Fin.ext
  match x with
  | ⟨0, _⟩ => show win0_6.index t 0 * 128 + 1 * i.val = a.val; rw [(at6 t).1]; omega
  | ⟨1, _⟩ => show win0_6.index t 1 * 4096 + 1 * j.val = j.val; rw [(at6 t).2]; omega

/-- Two points that write the cast weight back write separate blocks. -/
theorem disjoint6 : ∀ t t' : Fin cfg0.N, (cfg0.win 6).flush t = true → (cfg0.win 6).flush t' = true → t ≠ t' →
    Disjoint ((cfg0.win 6).blk t).view.set ((cfg0.win 6).blk t').view.set := by
  intro t t' hf hf' hne
  refine (cfg0.win 6).disjoint_blk fun h => hne (Fin.ext ?_)
  have p := (flush6 t).mp hf
  have p' := (flush6 t').mp hf'
  have n : t.val < 33 := lt_of_lt_of_eq t.isLt N_0
  have n' : t'.val < 33 := lt_of_lt_of_eq t'.isLt N_0
  have e0 : win0_6.index t 0 = win0_6.index t' 0 := congrFun h 0
  rw [(at6 t).1, (at6 t').1] at e0
  omega

/-- What a point leaves in the cast weight's block: its rows cast; the last point leaves the block of the point before it. -/
theorem left6 (c : Dev nD) (t : Fin cfg0.N) (X) (h : (data m c).Leaves 6 t X) : X = truncf .bf16 (iblk m c 3 (filled t.val)) bitsLt_bf16_f32 := by
  have inner : ∀ (t : Fin cfg0.N) (Y X), t.val < 32 → (data m c).after 6 t Y X → X = truncf .bf16 (iblk m c 3 (filled t.val)) bitsLt_bf16_f32 := by
    intro t Y X hl hR
    rw [(after_6 m c t Y X).mp hR, show filled t.val = t from Fin.ext (by show min t.val 31 = t.val; omega)]
    exact if_pos hl
  have hn : t.val < 33 := lt_of_lt_of_eq t.isLt N_0
  obtain ⟨Y, hY, hR⟩ := h
  by_cases hl : t.val < 32
  · exact inner t Y X hl hR
  · have e : X = Y := ((after_6 m c t Y X).mp hR).trans (if_neg hl)
    have hb : t.val - 1 < cfg0.N := Nat.lt_of_le_of_lt (Nat.sub_le _ _) t.isLt
    rcases (RDat.finds_of_pos (data m c) (show (cfg0.win 6).fetch t = false from rfl) (by omega) Y).mp hY with hfl | ⟨Y', hY', hR'⟩
    · exact absurd (show t.val - 1 = 31 by omega) ((flush6 ⟨t.val - 1, hb⟩).mp hfl)
    · have e' := inner ⟨t.val - 1, hb⟩ Y' Y (by simp only []; omega) hR'
      rw [e, e', show filled (⟨t.val - 1, hb⟩ : Fin cfg0.N).val = filled t.val from Fin.ext (by show min (t.val - 1) 31 = min t.val 31; omega)]

theorem emb7_at (t : Fin cfg0.N) (i : Fin 128) (j : Fin 4096) (a : Fin 4096) (ha : a.val = 128 * min t.val 31 + i.val) :
    ((cfg0.win 7).blk t).view.emb (ix2 i j) = ix2 a j := by
  funext x
  apply Fin.ext
  match x with
  | ⟨0, _⟩ => show win0_7.index t 0 * 128 + 1 * i.val = a.val; rw [(at7 t).1]; omega
  | ⟨1, _⟩ => show win0_7.index t 1 * 4096 + 1 * j.val = j.val; rw [(at7 t).2]; omega

/-- Two points that write the cast weight back write separate blocks. -/
theorem disjoint7 : ∀ t t' : Fin cfg0.N, (cfg0.win 7).flush t = true → (cfg0.win 7).flush t' = true → t ≠ t' →
    Disjoint ((cfg0.win 7).blk t).view.set ((cfg0.win 7).blk t').view.set := by
  intro t t' hf hf' hne
  refine (cfg0.win 7).disjoint_blk fun h => hne (Fin.ext ?_)
  have p := (flush7 t).mp hf
  have p' := (flush7 t').mp hf'
  have n : t.val < 33 := lt_of_lt_of_eq t.isLt N_0
  have n' : t'.val < 33 := lt_of_lt_of_eq t'.isLt N_0
  have e0 : win0_7.index t 0 = win0_7.index t' 0 := congrFun h 0
  rw [(at7 t).1, (at7 t').1] at e0
  omega

/-- What a point leaves in the cast weight's block: its rows cast; the last point leaves the block of the point before it. -/
theorem left7 (c : Dev nD) (t : Fin cfg0.N) (X) (h : (data m c).Leaves 7 t X) : X = truncf .bf16 (iblk m c 4 (filled t.val)) bitsLt_bf16_f32 := by
  have inner : ∀ (t : Fin cfg0.N) (Y X), t.val < 32 → (data m c).after 7 t Y X → X = truncf .bf16 (iblk m c 4 (filled t.val)) bitsLt_bf16_f32 := by
    intro t Y X hl hR
    rw [(after_7 m c t Y X).mp hR, show filled t.val = t from Fin.ext (by show min t.val 31 = t.val; omega)]
    exact if_pos hl
  have hn : t.val < 33 := lt_of_lt_of_eq t.isLt N_0
  obtain ⟨Y, hY, hR⟩ := h
  by_cases hl : t.val < 32
  · exact inner t Y X hl hR
  · have e : X = Y := ((after_7 m c t Y X).mp hR).trans (if_neg hl)
    have hb : t.val - 1 < cfg0.N := Nat.lt_of_le_of_lt (Nat.sub_le _ _) t.isLt
    rcases (RDat.finds_of_pos (data m c) (show (cfg0.win 7).fetch t = false from rfl) (by omega) Y).mp hY with hfl | ⟨Y', hY', hR'⟩
    · exact absurd (show t.val - 1 = 31 by omega) ((flush7 ⟨t.val - 1, hb⟩).mp hfl)
    · have e' := inner ⟨t.val - 1, hb⟩ Y' Y (by simp only []; omega) hR'
      rw [e, e', show filled (⟨t.val - 1, hb⟩ : Fin cfg0.N).val = filled t.val from Fin.ext (by show min (t.val - 1) 31 = min t.val 31; omega)]

end Points

/-! ## What every final state holds -/

variable (m : (ℓ : Loc nD τ sig) → Buf (Elt Ideal) ℓ)

/-- The product of a row of the input and a row of the weight. -/
def productAt (x : FVec Ideal S8192x4096 .bf16) (w : FVec Ideal S4096x4096 .bf16) (b : Fin 4096) (a : Fin 8192) : EReal :=
  ∑ k : Fin 4096, x (ix2 a k) * w (ix2 b k)

/-- The taps of a column. -/
def tapsAt (w : FVec Ideal S4x12288 .f32) (b : Fin 4096) (k : Fin 4) : EReal := w (ix2 k ⟨0 + b.val, by have := b.isLt; omega⟩)

/-- The activated convolution, an element each. -/
def activated (x : FVec Ideal S8192x4096 .bf16) (w : FVec Ideal S4096x4096 .bf16) (u : FVec Ideal S4x12288 .f32) (a : Fin 8192) (b : Fin 4096) : EReal :=
  act (mix (tapsAt u b) (productAt x w b) a.val)

/-- The output. -/
def result (c : Dev nD) : Vec Ideal S8192x4096 .bf16 := fun x =>
  rowOut (activated (m ((c : Thread nD τ).loc main_arg0)) (m ((c : Thread nD τ).loc main_arg1)) (m ((c : Thread nD τ).loc main_arg2)) (x 0)) (x 1)

/-- The product after a point, as rows of columns. -/
theorem prodAt_at (c : Dev nD) (n : ℕ) (hn : n < 32) (i j : Fin 1024) (b : Fin 4096) (hb : b.val = 1024 * (n / 8) + j.val) :
    (prodAt m c n (ix2 i j) : EReal) = earlier (productAt (m ((c : Thread nD τ).loc main_arg0)) (m ((c : Thread nD τ).loc main_arg1)) b) (1024 * (n % 8) + i.val) 0 := by
  have hi := i.isLt
  have hv : (filled n).val = n := by show min n 31 = n; omega
  refine Eq.trans ?_ (Cert.VIdeal.Words.earlier_eq _ _ 0 ⟨1024 * (n % 8) + i.val, by omega⟩ rfl).symm
  refine (prod_at _ _ i j).trans (Finset.sum_congr rfl fun k _ => ?_)
  rw [iblk0_at m c (filled n) (by omega) i k ⟨1024 * (n % 8) + i.val, by omega⟩ (by rw [hv]), iblk1_at m c (filled n) (by omega) j k b (by rw [hv]; omega)]

/-- The rows above the tile of a point, as rows of columns. -/
theorem start_at (c : Dev nD) (t : Fin cfg0.N) (ht : t.val ≠ 0) (h : Vec Ideal S8x1024 .f32) (hk : Keeps m c (t.val - 1) h) (k : Fin 8) (j : Fin 1024)
    (b : Fin 4096) (hb : b.val = 1024 * ((t.val - 1) / 8) + j.val) :
    (start (BitVec.ofNat 32 (grid0.coords t 0).val) h (ix2 k j) : EReal)
      = earlier (productAt (m ((c : Thread nD τ).loc main_arg0)) (m ((c : Thread nD τ).loc main_arg1)) b) (1024 * ((t.val - 1) % 8) + k.val) 8 := by
  have hN : t.val < 33 := lt_of_lt_of_eq t.isLt N_0
  have hk8 := k.isLt
  unfold start
  by_cases h0 : (t.val - 1) % 8 = 0
  · rw [(top_iff t).mpr h0, Cert.VIdeal.Words.earlier_zero _ _ _ (by omega)]
    show (broadcast S8x1024 (Scalar.ofBits .f32 0x00000000#32) : FVec Ideal S8x1024 .f32) (ix2 k j) = 0
    pointwise []
  · have e : ∀ (c : BitVec 1) (x y : Vec Ideal S8x1024 .f32), c ≠ 1#1 → Scalar.select c x y = y := fun c x y hc => if_neg hc
    rw [e _ _ _ (fun hc => h0 ((top_iff t).mp hc)), hk (by omega) (by omega)]
    unfold tailOf
    refine (congrFun (shapeCast_self _ _) _).trans ?_
    refine (Cert.VIdeal.Words.ld_at (n := 0) _ 1016 _ _ (ix2 k j) ⟨1016 + k.val, by omega⟩ j rfl rfl).trans ?_
    refine (prodAt_at m c _ (by omega) _ j b (by omega)).trans (Cert.VIdeal.Words.earlier_shift _ _ _ _ _ (by simp only []; omega))

/-- Cast weight 0: the weight's rows from 12288 on. -/
def weight0 (c : Dev nD) : Vec Ideal S4096x4096 .bf16 := fun x =>
  (m ((c : Thread nD τ).loc main_arg3) : Vec Ideal S32832x4096 .f32) (ix2 ⟨12288 + (x 0).val, by have : (x 0).val < 4096 := (x 0).isLt; omega⟩ (x 1))

/-- Cast weight 1: the weight's rows. -/
def weight1 (c : Dev nD) : Vec Ideal S4096x4096 .bf16 := fun x =>
  (m ((c : Thread nD τ).loc main_arg4) : Vec Ideal S4096x4096 .f32) (ix2 (x 0) (x 1))

/-- The output, at the end. -/
theorem ends (c : Dev nD) (r : PUnit × MemSt nD τ sig (Elt Ideal)) (h : RDat.FramePost cfg0 (data m) (V m) r) :
    r.2.mem ((c : Thread nD τ).loc main_v0_0) = result m c := by
  obtain ⟨after, hL, hA⟩ := RDat.FramePost.exists_exact h c
  refine (hA 5).trans ?_
  funext x
  rw [eq_ix2 x]
  obtain ⟨a, ha⟩ : ∃ a : Fin 8192, a = x 0 := ⟨_, rfl⟩
  obtain ⟨b, hb⟩ : ∃ b : Fin 4096, b = x 1 := ⟨_, rfl⟩
  rw [← ha, ← hb]
  obtain ⟨t, ht⟩ : ∃ t : Fin cfg0.N, t.val = 8 * (b.val / 1024) + a.val / 1024 + 1 := ⟨⟨_, by rw [show cfg0.N = 33 from N_0]; omega⟩, rfl⟩
  obtain ⟨i, hi⟩ : ∃ i : Fin 1024, i.val = a.val % 1024 := ⟨⟨_, by omega⟩, rfl⟩
  obtain ⟨j, hj⟩ : ∃ j : Fin 1024, j.val = b.val % 1024 := ⟨⟨_, by omega⟩, rfl⟩
  have hf : (cfg0.win 5).flush t = true := (flush5 t).mpr (by omega)
  have e := congrFun (((data m c).withAfter after).read_blk_arrAt_eq_flushed 5 disjoint5 cfg0.N t t.isLt hf) (ix2 i j)
  rw [View.read_apply, emb5_at t i j a b (by omega) (by omega)] at e
  refine e.trans ?_
  obtain ⟨Y, hY, hR⟩ := hL 5 t hf
  have e' := (after_5 m c t Y _).mp hR (by omega)
  obtain ⟨h, hh, e'⟩ := e'
  show (after 5 t : Vec Ideal S1024x1024 .bf16) (ix2 i j) = _
  rw [e']
  refine (tile_at _ _ _ h _ (fun j => productAt (m ((c : Thread nD τ).loc main_arg0)) (m ((c : Thread nD τ).loc main_arg1)) ⟨1024 * ((t.val - 1) / 8) + j.val, by omega⟩) (1024 * ((t.val - 1) % 8)) (by omega)
    (fun i j => prodAt_at m c _ (by omega) i j _ rfl) (fun k j => start_at m c t (by omega) h hh k j _ rfl) i j).trans ?_
  refine (block_row (fun b => activated (m ((c : Thread nD τ).loc main_arg0)) (m ((c : Thread nD τ).loc main_arg1)) (m ((c : Thread nD τ).loc main_arg2)) a b) ((t.val - 1) / 8) (by omega) _ (fun j => ?_) j b (by omega))
  unfold activated
  have hk : (fun k => (iblk m c 2 t : Vec Ideal S4x1024 .f32) (ix2 k j)) = tapsAt (m ((c : Thread nD τ).loc main_arg2)) ⟨1024 * ((t.val - 1) / 8) + j.val, by omega⟩ :=
    funext fun k => iblk2_at m c t k j _ (by show 0 + (1024 * ((t.val - 1) / 8) + j.val) = _; omega)
  rw [hk, show 1024 * ((t.val - 1) % 8) + i.val = a.val by omega]

/-- Cast weight 0, at the end. -/
theorem weight0_ends (c : Dev nD) (r : PUnit × MemSt nD τ sig (Elt Ideal)) (h : RDat.FramePost cfg0 (data m) (V m) r) :
    r.2.mem ((c : Thread nD τ).loc main_v0_1) = weight0 m c := by
  obtain ⟨after, hL, hA⟩ := RDat.FramePost.exists_exact h c
  refine (hA 6).trans ?_
  funext x
  rw [eq_ix2 x]
  obtain ⟨a, ha⟩ : ∃ a : Fin 4096, a = x 0 := ⟨_, rfl⟩
  obtain ⟨b, hb⟩ : ∃ b : Fin 4096, b = x 1 := ⟨_, rfl⟩
  rw [← ha, ← hb]
  obtain ⟨t, ht⟩ : ∃ t : Fin cfg0.N, t.val ≠ 31 ∧ min t.val 31 = a.val / 128 := by
    by_cases hl : a.val / 128 < 31
    · exact ⟨⟨a.val / 128, by rw [show cfg0.N = 33 from N_0]; omega⟩, by simp only []; omega, by simp only []; omega⟩
    · exact ⟨⟨32, by rw [show cfg0.N = 33 from N_0]; omega⟩, by simp only []; omega, by simp only []; omega⟩
  obtain ⟨i, hi⟩ : ∃ i : Fin 128, i.val = a.val % 128 := ⟨⟨_, by omega⟩, rfl⟩
  have hf : (cfg0.win 6).flush t = true := (flush6 t).mpr ht.1
  have e := congrFun (((data m c).withAfter after).read_blk_arrAt_eq_flushed 6 disjoint6 cfg0.N t t.isLt hf) (ix2 i b)
  rw [View.read_apply, emb6_at t i b a (by omega)] at e
  refine e.trans ?_
  show (after 6 t : Vec Ideal S128x4096 .bf16) (ix2 i b) = _
  rw [left6 m c t (after 6 t) (hL 6 t hf)]
  show (iblk m c 3 (filled t.val) : Vec Ideal S128x4096 .f32) (ix2 i b) = _
  have hv : (filled t.val).val = min t.val 31 := rfl
  exact iblk3_at m c (filled t.val) (by omega) i b _ (by rw [hv]; show 12288 + a.val = _; omega)

/-- Cast weight 1, at the end. -/
theorem weight1_ends (c : Dev nD) (r : PUnit × MemSt nD τ sig (Elt Ideal)) (h : RDat.FramePost cfg0 (data m) (V m) r) :
    r.2.mem ((c : Thread nD τ).loc main_v0_2) = weight1 m c := by
  obtain ⟨after, hL, hA⟩ := RDat.FramePost.exists_exact h c
  refine (hA 7).trans ?_
  funext x
  rw [eq_ix2 x]
  obtain ⟨a, ha⟩ : ∃ a : Fin 4096, a = x 0 := ⟨_, rfl⟩
  obtain ⟨b, hb⟩ : ∃ b : Fin 4096, b = x 1 := ⟨_, rfl⟩
  rw [← ha, ← hb]
  obtain ⟨t, ht⟩ : ∃ t : Fin cfg0.N, t.val ≠ 31 ∧ min t.val 31 = a.val / 128 := by
    by_cases hl : a.val / 128 < 31
    · exact ⟨⟨a.val / 128, by rw [show cfg0.N = 33 from N_0]; omega⟩, by simp only []; omega, by simp only []; omega⟩
    · exact ⟨⟨32, by rw [show cfg0.N = 33 from N_0]; omega⟩, by simp only []; omega, by simp only []; omega⟩
  obtain ⟨i, hi⟩ : ∃ i : Fin 128, i.val = a.val % 128 := ⟨⟨_, by omega⟩, rfl⟩
  have hf : (cfg0.win 7).flush t = true := (flush7 t).mpr ht.1
  have e := congrFun (((data m c).withAfter after).read_blk_arrAt_eq_flushed 7 disjoint7 cfg0.N t t.isLt hf) (ix2 i b)
  rw [View.read_apply, emb7_at t i b a (by omega)] at e
  refine e.trans ?_
  show (after 7 t : Vec Ideal S128x4096 .bf16) (ix2 i b) = _
  rw [left7 m c t (after 7 t) (hL 7 t hf)]
  show (iblk m c 4 (filled t.val) : Vec Ideal S128x4096 .f32) (ix2 i b) = _
  have hv : (filled t.val).val = min t.val 31 := rfl
  exact iblk4_at m c (filled t.val) (by omega) i b _ (by rw [hv]; show a.val = _; omega)

end Cert.QIdeal.Words

namespace Cert.QValue

open Idealize.ShloMosaic Idealize.ShloMosaic.TcCoe Idealize.SL.Sem

attribute [local instance] Cert.Q.Gen.facts Cert.QIdeal.Gen.facts Cert.QReferenceIdeal.Gen.facts

section Reference
open Cert.QReferenceIdeal Cert.QReferenceIdeal.Gen

/-- The reference's product with three rows of zeros above it. -/
def padded (D : FVec Ideal S8192x4096 .f32) : FVec Ideal S8195x4096 .f32 :=
  pad S8195x4096 ![3, 0] ![0, 0] ![0, 0] D (sitofp .f32 (constantI S_ 32 0#32)) pads_S8192x4096_S8195x4096_300_000 h_S_

theorem padded_at (D : FVec Ideal S8192x4096 .f32) (x : Fin 8195) (b : Fin 4096) :
    (padded D (ix2 x b) : EReal) = Cert.VIdeal.Words.earlier (fun a => D (ix2 a b)) x.val 3 := by
  have hx := x.isLt
  unfold padded
  by_cases h : 3 ≤ x.val
  · refine (pad_apply_of_inside _ _ _ _ _ _ _ _ (ix2 (⟨x.val - 3, by omega⟩ : Fin 8192) b) fun d => ?_).trans (Cert.VIdeal.Words.earlier_eq (fun a => D (ix2 a b)) x.val 3 ⟨x.val - 3, by omega⟩ (by simp only []; omega)).symm
    match d with
    | ⟨0, _⟩ => show x.val = 3 + (x.val - 3) * (0 + 1); omega
    | ⟨1, _⟩ => show b.val = 0 + b.val * (0 + 1); omega
  · refine (pad_apply_of_not_inside _ _ _ _ _ _ _ _ 0 fun hn => h hn.1).trans ?_
    rw [Cert.VIdeal.Words.earlier_zero _ _ _ (by omega)]
    show ((((0#32 : BitVec 32).toInt : ℤ) : ℝ) : EReal) = 0
    simp

/-- The reference's convolution: the four taps times the padded product. -/
def refConv (D : FVec Ideal S8192x4096 .f32) (u : FVec Ideal S4x12288 .f32) : FVec Ideal S8192x4096 .f32 :=
  (addf (addf (addf (addf (broadcastInDim S8192x4096 ![] bcast_S_S8192x4096 (constant S_ .f32 0x00000000#32)) (mulf (broadcastInDim S8192x4096 ![0, 1] bcast_S1x4096_S8192x4096_0_1 (broadcastInDim S1x4096 ![1] bcast_S4096_S1x4096_1 (shapeCast _ (extractStridedSlice S1x4096 ![0, 0] (extractStridedSlice S4x4096 ![0, 0] u slices_S4x12288_S4x4096_0_0) slices_S4x4096_S1x4096_0_0) shapeCasts_S1x4096_S4096))) (extractStridedSlice S8192x4096 ![0, 0] (padded D) slices_S8195x4096_S8192x4096_0_0))) (mulf (broadcastInDim S8192x4096 ![0, 1] bcast_S1x4096_S8192x4096_0_1 (broadcastInDim S1x4096 ![1] bcast_S4096_S1x4096_1 (shapeCast _ (extractStridedSlice S1x4096 ![1, 0] (extractStridedSlice S4x4096 ![0, 0] u slices_S4x12288_S4x4096_0_0) slices_S4x4096_S1x4096_1_0) shapeCasts_S1x4096_S4096))) (extractStridedSlice S8192x4096 ![1, 0] (padded D) slices_S8195x4096_S8192x4096_1_0))) (mulf (broadcastInDim S8192x4096 ![0, 1] bcast_S1x4096_S8192x4096_0_1 (broadcastInDim S1x4096 ![1] bcast_S4096_S1x4096_1 (shapeCast _ (extractStridedSlice S1x4096 ![2, 0] (extractStridedSlice S4x4096 ![0, 0] u slices_S4x12288_S4x4096_0_0) slices_S4x4096_S1x4096_2_0) shapeCasts_S1x4096_S4096))) (extractStridedSlice S8192x4096 ![2, 0] (padded D) slices_S8195x4096_S8192x4096_2_0))) (mulf (broadcastInDim S8192x4096 ![0, 1] bcast_S1x4096_S8192x4096_0_1 (broadcastInDim S1x4096 ![1] bcast_S4096_S1x4096_1 (shapeCast _ (extractStridedSlice S1x4096 ![3, 0] (extractStridedSlice S4x4096 ![0, 0] u slices_S4x12288_S4x4096_0_0) slices_S4x4096_S1x4096_3_0) shapeCasts_S1x4096_S4096))) (extractStridedSlice S8192x4096 ![3, 0] (padded D) slices_S8195x4096_S8192x4096_3_0)))

theorem refConv_at (D : FVec Ideal S8192x4096 .f32) (u : FVec Ideal S4x12288 .f32) (a : Fin 8192) (b : Fin 4096) :
    (refConv D u (ix2 a b) : EReal) = Cert.VIdeal.Words.mix (Cert.QIdeal.Words.tapsAt u b) (fun a => D (ix2 a b)) a.val := by
  unfold refConv Cert.VIdeal.Words.mix Cert.QIdeal.Words.tapsAt
  pointwise []
  have e : ∀ (y : Fin 8195) (n : ℕ), y.val + n = a.val + 3 → padded D (ix2 y b) = Cert.VIdeal.Words.earlier (fun a => D (ix2 a b)) a.val n := fun y n h =>
    (padded_at D y b).trans (Cert.VIdeal.Words.earlier_shift _ _ _ _ _ (by omega))
  have r : ∀ x0 x1 x2 x3 y0 y1 y2 y3 : EReal, x0 * y0 + x1 * y1 + x2 * y2 + x3 * y3 = y3 * x3 + y2 * x2 + y1 * x1 + y0 * x0 := by
    intro x0 x1 x2 x3 y0 y1 y2 y3
    rw [mul_comm x0, mul_comm x1, mul_comm x2, mul_comm x3]
    abel
  rw [e _ 3, e _ 2, e _ 1, e _ 0]
  · exact r _ _ _ _ _ _ _ _
  all_goals first | omega | rfl | (simp only []; done) | (simp only []; omega)

/-- The reference's activated convolution. -/
def refSilu (D : FVec Ideal S8192x4096 .f32) (u : FVec Ideal S4x12288 .f32) : FVec Ideal S8192x4096 .f32 :=
  mulf (refConv D u) (Host.divf (broadcastInDim S8192x4096 ![] bcast_S_S8192x4096 (constant S_ .f32 0x3F800000#32)) (addf (broadcastInDim S8192x4096 ![] bcast_S_S8192x4096 (constant S_ .f32 0x3F800000#32)) (Host.exp (Host.negf (refConv D u)))))

theorem refSilu_apply (D : FVec Ideal S8192x4096 .f32) (u : FVec Ideal S4x12288 .f32) (a : Fin 8192) (b : Fin 4096) :
    (refSilu D u (ix2 a b) : EReal) = Cert.VIdeal.Words.act (Cert.VIdeal.Words.mix (Cert.QIdeal.Words.tapsAt u b) (fun a => D (ix2 a b)) a.val) := by
  unfold refSilu Cert.VIdeal.Words.act
  pointwise []
  rw [refConv_at]
  rfl

theorem refSilu_at (x : FVec Ideal S8192x4096 .bf16) (w : FVec Ideal S4096x4096 .bf16) (u : FVec Ideal S4x12288 .f32) (a : Fin 8192) (b : Fin 4096) :
    (refSilu (Host.dotGeneral dot_S8192x4096_S4096x4096_S8192x4096_1_1_0_0_n_n none x w) u (ix2 a b) : EReal) = Cert.QIdeal.Words.activated x w u a b := by
  have hp : (fun a => (Host.dotGeneral dot_S8192x4096_S4096x4096_S8192x4096_1_1_0_0_n_n none x w : FVec Ideal S8192x4096 .f32) (ix2 a b)) = Cert.QIdeal.Words.productAt x w b := by
    funext a
    unfold Cert.QIdeal.Words.productAt
    pointwise []
  exact (refSilu_apply _ u a b).trans (congrArg (fun p => Cert.VIdeal.Words.act (Cert.VIdeal.Words.mix (Cert.QIdeal.Words.tapsAt u b) p a.val)) hp)

/-- The reference's heads, each over the length of its rows, scaled. -/
def refHeads (Z : FVec Ideal S8192x4096 .f32) : FVec Ideal S8192x4096 .f32 :=
  (mulf (shapeCast _ (mulf (shapeCast _ Z shapeCasts_S8192x4096_S8192x32x128) (broadcastInDim S8192x32x128 ![0, 1, 2] bcast_S8192x32x1_S8192x32x128_0_1_2 (Host.rsqrt (addf (broadcastInDim S8192x32x1 ![0, 1] bcast_S8192x32_S8192x32x1_0_1 (Host.reduceAdd (mulf (shapeCast _ Z shapeCasts_S8192x4096_S8192x32x128) (shapeCast _ Z shapeCasts_S8192x4096_S8192x32x128)) (constant S_ .f32 0x00000000#32) reducesTo_S8192x32x128_S8192x32_d2 h_S_)) (broadcastInDim S8192x32x1 ![] bcast_S_S8192x32x1 (constant S_ .f32 0x358637BD#32)))))) shapeCasts_S8192x32x128_S8192x4096) (broadcastInDim S8192x4096 ![] bcast_S_S8192x4096 (constant S_ .f32 0x3DB504F3#32)))

theorem refHeads_at (Z : FVec Ideal S8192x4096 .f32) (a : Fin 8192) (b : Fin 4096) :
    (refHeads Z (ix2 a b) : EReal) = Cert.QIdeal.Words.rowOut (fun b => Z (ix2 a b)) b := by
  unfold refHeads Cert.QIdeal.Words.rowOut
  pointwise []
  have hb := b.isLt
  have e : ∀ l : Fin 128, Cert.QIdeal.Words.entry (fun b => Z (ix2 a b)) (128 * (b.val / 128) + l.val) = Z (ix2 a ⟨b.val / 128 * 128 + l.val, by have := l.isLt; omega⟩) := fun l => by
    have hl := l.isLt
    unfold Cert.QIdeal.Words.entry
    rw [dif_pos (by omega)]
    exact congrArg (fun k => Z (ix2 a k)) (Fin.ext (by simp only []; omega))
  simp only [e]
  exact mul_assoc _ _ _

/-- The reference's term. -/
def refTerm (x : FVec Ideal S8192x4096 .bf16) (w : FVec Ideal S4096x4096 .bf16) (u : FVec Ideal S4x12288 .f32) : FVec Ideal S8192x4096 .bf16 :=
  truncf .bf16 (refHeads (refSilu (Host.dotGeneral dot_S8192x4096_S4096x4096_S8192x4096_1_1_0_0_n_n none x w) u)) bitsLt_bf16_f32

theorem ref_at (x : FVec Ideal S8192x4096 .bf16) (w : FVec Ideal S4096x4096 .bf16) (u : FVec Ideal S4x12288 .f32) (a : Fin 8192) (b : Fin 4096) :
    (refTerm x w u (ix2 a b) : EReal) = Cert.QIdeal.Words.rowOut (Cert.QIdeal.Words.activated x w u a) b := by
  unfold refTerm
  refine (refHeads_at _ a b).trans (congrArg (Cert.QIdeal.Words.rowOut · b) (funext fun b => ?_))
  exact refSilu_at x w u a b

theorem res_eq (m : (ℓ : Loc nD τ sig) → Buf (Elt Ideal) ℓ) (c : Dev nD) :
    Cert.QReferenceIdeal.Value.res_out0 (F := Ideal) m c = refTerm (m ((c.tc : Thread nD τ).loc main_arg0)) (m ((c.tc : Thread nD τ).loc main_arg1)) (m ((c.tc : Thread nD τ).loc main_arg2)) := rfl

end Reference

/-! ## At machine floats the call is the same text -/

theorem bodies : @Cert.Q.defs₀ Bits _ _ = @Cert.QIdeal.defs₀ Bits _ _ := by
  unfold Cert.Q.defs₀ Cert.QIdeal.defs₀
  refine congrArg Defs.onTc ?_
  funext l a
  match l, a with
  | ⟨0, _⟩, (t, s) => rfl
  | ⟨_ + 1, h⟩, _ => exact absurd h (Nat.not_lt.2 (Nat.le_add_left _ _))

theorem tables : @Cert.Q.defs Bits _ _ = @Cert.QIdeal.defs Bits _ _ := by
  unfold Cert.Q.defs Cert.QIdeal.defs
  rw [bodies]
  rfl

/-- The call at machine floats runs, leaves its arguments and ends with its semaphores at zero. -/
theorem frame_floats : Cert.quiescent_Q := fun m ρ _ => by
  have h := Cert.QLaunch.frame (F := Bits) m ρ
  rw [← tables] at h
  exact h

/-- The call over the reals runs, leaves its arguments and ends with its semaphores at zero. -/
theorem frame : Cert.quiescent_QIdeal := fun m ρ _ => Cert.QLaunch.frame m ρ

/-- The reference runs, leaves its arguments and ends with its semaphores at zero: it has none. -/
theorem frame_reference : Cert.quiescent_QReferenceIdeal := fun m ρ _ =>
  (θ_run Cert.QReferenceIdeal.defs _ _).mono (fun r h => ⟨fun c => (h c).2.2.2, sem_eq_zero_of_no_sems (by decide) r.2⟩)
    (Cert.QReferenceIdeal.Value.run (F := Ideal) m ρ)

/-- The call and its reference end with the same results. -/
theorem algebraic : Cert.algebraic_QIdeal_QReferenceIdeal := fun m ρ m' ρ' hp ha =>
  ⟨fun c => Cert.QIdeal.Words.result m c, fun c => Cert.QIdeal.Words.weight0 m c, fun c => Cert.QIdeal.Words.weight1 m c,
    (θ_run Cert.QIdeal.defs _ _).mono (fun r h c => ⟨Cert.QIdeal.Words.ends m c r h.1, Cert.QIdeal.Words.weight0_ends m c r h.1, Cert.QIdeal.Words.weight1_ends m c r h.1, Cert.QLaunch.kept m r h.1 c⟩)
      (Cert.QLaunch.run_quiescent (F := Ideal) m ρ),
    (θ_run Cert.QReferenceIdeal.defs _ _).mono (fun r h c => ⟨(h c).1.trans ((res_eq m' c).trans (by
        obtain ⟨e0, e1, e2, e3, e4⟩ := ha c
        rw [e0, e1, e2]
        funext x
        rw [eq_ix2 x]
        exact ref_at _ _ _ _ _)), (h c).2.1.trans (by
        obtain ⟨e0, e1, e2, e3, e4⟩ := ha c
        rw [e3]
        funext x
        refine congrArg (m ((c.tc : Thread Cert.QIdeal.nD Cert.QIdeal.τ).loc Cert.QIdeal.main_arg3)) ?_
        funext y
        apply Fin.ext
        match y with
        | ⟨0, _⟩ => rfl
        | ⟨1, _⟩ => exact Nat.zero_add _), (h c).2.2.1.trans (by
        obtain ⟨e0, e1, e2, e3, e4⟩ := ha c
        rw [e4]
        funext x
        exact congrArg (m ((c.tc : Thread Cert.QIdeal.nD Cert.QIdeal.τ).loc Cert.QIdeal.main_arg4)) (eq_ix2 x)), (h c).2.2.2⟩)
      (Cert.QReferenceIdeal.Value.run (F := Ideal) m' ρ')⟩

end Cert.QValue

end
-- ==== Proof.lean ====
module

public import proofs.«01_k».proof.Proof.Gen.Pre_decays
public import proofs.«01_k».proof.Proof.Gen.Merge
public import proofs.«01_k».proof.Proof.Gen.Merge.Frame
public import proofs.«01_k».proof.Proof.Gen.Out
public import proofs.«01_k».proof.Proof.Gen.Out.Skeleton
public import proofs.«01_k».proof.Proof.Gen.Out.Frame
public import proofs.«01_k».proof.Proof.Gen.OutIdeal
public import proofs.«01_k».proof.Proof.Gen.OutIdeal.Skeleton
public import proofs.«01_k».proof.Proof.Gen.OutIdeal.Frame
public import proofs.«01_k».proof.Proof.Gen.Gates
public import proofs.«01_k».proof.Proof.Gen.Gates.Frame
public import proofs.«01_k».proof.Proof.Gen.MergeIdeal.Value
public import proofs.«01_k».proof.Proof.Gen.MergeReferenceIdeal.Run
public import proofs.«01_k».proof.Proof.Gen.OutReferenceIdeal.Run
public import proofs.«01_k».proof.Proof.Gen.GatesIdeal.Value
public import proofs.«01_k».proof.Proof.Gen.GatesReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.PoolU
public import proofs.«01_k».proof.Proof.Gen.PoolUIdeal.Skeleton
public import proofs.«01_k».proof.Proof.Gen.PoolUIdeal.Frame
public import proofs.«01_k».proof.Proof.Gen.PoolUReferenceIdeal.Run
public import proofs.«01_k».proof.Proof.Gen.PoolZ
public import proofs.«01_k».proof.Proof.Gen.PoolZIdeal.Skeleton
public import proofs.«01_k».proof.Proof.Gen.PoolZIdeal.Frame
public import proofs.«01_k».proof.Proof.Gen.PoolZReferenceIdeal.Run
public import proofs.«01_k».proof.Proof.Gen.DnZ
public import proofs.«01_k».proof.Proof.Gen.DnZIdeal.Skeleton
public import proofs.«01_k».proof.Proof.Gen.DnZIdeal.Frame
public import proofs.«01_k».proof.Proof.Gen.DnZReferenceIdeal.Run
public import proofs.«01_k».proof.Proof.Gen.V
public import proofs.«01_k».proof.Proof.Gen.VIdeal.Skeleton
public import proofs.«01_k».proof.Proof.Gen.VIdeal.Frame
public import proofs.«01_k».proof.Proof.Gen.VReferenceIdeal.Run
public import proofs.«01_k».proof.Proof.Gen.Q
public import proofs.«01_k».proof.Proof.Gen.QIdeal.Skeleton
public import proofs.«01_k».proof.Proof.Gen.QIdeal.Frame
public import proofs.«01_k».proof.Proof.Gen.QReferenceIdeal.Run
public import proofs.«01_k».proof.Proof.Agree
public import proofs.«01_k».proof.Proof.Merged
public import proofs.«01_k».proof.Proof.Normed
public import proofs.«01_k».proof.Proof.Sigmoids
public import proofs.«01_k».proof.Proof.PoolUValue
public import proofs.«01_k».proof.Proof.PoolZValue
public import proofs.«01_k».proof.Proof.DnZValue
public import proofs.«01_k».proof.Proof.VValue
public import proofs.«01_k».proof.Proof.QValue
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.Merge.Gen.facts,
    Cert.MergeIdeal.Gen.facts, Cert.MergeReferenceIdeal.Gen.facts, Cert.Out.Gen.facts, Cert.OutIdeal.Gen.facts,
    Cert.OutReferenceIdeal.Gen.facts, Cert.Gates.Gen.facts, Cert.GatesIdeal.Gen.facts, Cert.GatesReferenceIdeal.Gen.facts,
    Cert.PoolU.Gen.facts, Cert.PoolUIdeal.Gen.facts, Cert.PoolUReferenceIdeal.Gen.facts, Cert.PoolZ.Gen.facts,
    Cert.PoolZIdeal.Gen.facts, Cert.PoolZReferenceIdeal.Gen.facts, Cert.DnZ.Gen.facts, Cert.DnZIdeal.Gen.facts,
    Cert.DnZReferenceIdeal.Gen.facts, Cert.V.Gen.facts, Cert.VIdeal.Gen.facts, Cert.VReferenceIdeal.Gen.facts,
    Cert.Q.Gen.facts, Cert.QIdeal.Gen.facts, Cert.QReferenceIdeal.Gen.facts, Cert.Pre_decays.facts,
    fun m ρ _ => Cert.Kernel.Gen.frame m ρ,
    Cert.Agree.frame_kernelIdeal,
    fun m ρ _ => Cert.Agree.frame_kernelIdeal m ρ trivial,
    Cert.Agree.frame_reference,
    fun m ρ _ => Cert.Agree.frame_reference m ρ trivial,
    fun m ρ _ => Cert.Merge.Gen.frame m ρ,
    Cert.Merged.frame,
    Cert.Merged.frame_reference,
    Cert.Normed.frame_floats,
    Cert.Normed.frame,
    Cert.Normed.frame_reference,
    fun m ρ _ => Cert.Gates.Gen.frame m ρ,
    Cert.Sigmoids.frame,
    Cert.Sigmoids.frame_reference,
    Cert.PoolUValue.frame_floats,
    Cert.PoolUValue.frame,
    Cert.PoolUValue.frame_reference,
    Cert.PoolZValue.frame_floats,
    Cert.PoolZValue.frame,
    Cert.PoolZValue.frame_reference,
    Cert.DnZValue.frame_floats,
    Cert.DnZValue.frame,
    Cert.DnZValue.frame_reference,
    Cert.VValue.frame_floats,
    Cert.VValue.frame,
    Cert.VValue.frame_reference,
    Cert.QValue.frame_floats,
    Cert.QValue.frame,
    Cert.QValue.frame_reference,
    trivial,
    Cert.Agree.algebraic,
    trivial,
    Cert.Merged.algebraic,
    trivial,
    Cert.Normed.algebraic,
    trivial,
    Cert.Sigmoids.algebraic,
    trivial,
    Cert.PoolUValue.algebraic,
    trivial,
    Cert.PoolZValue.algebraic,
    trivial,
    Cert.DnZValue.algebraic,
    trivial,
    Cert.VValue.algebraic,
    trivial,
    Cert.QValue.algebraic⟩

end Cert.Proof

end
